-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_PleFirst (m : (ℓ : Loc Cert.PleFirst.nD Cert.PleFirst.τ Cert.PleFirst.sig) → Buf (Elt Bits) ℓ) : Prop :=
  True

def Pre_PleFirstIdeal (m : (ℓ : Loc Cert.PleFirstIdeal.nD Cert.PleFirstIdeal.τ Cert.PleFirstIdeal.sig) → Buf (Elt Ideal) ℓ) : Prop :=
  True

def Pre_PleFirstReferenceIdeal (m : (ℓ : Loc Cert.PleFirstReferenceIdeal.nD Cert.PleFirstReferenceIdeal.τ Cert.PleFirstReferenceIdeal.sig) → Buf (Elt Ideal) ℓ) : Prop :=
  True

def Pre_Sg (m : (ℓ : Loc Cert.Sg.nD Cert.Sg.τ Cert.Sg.sig) → Buf (Elt Bits) ℓ) : Prop :=
  True

def Pre_SgIdeal (m : (ℓ : Loc Cert.SgIdeal.nD Cert.SgIdeal.τ Cert.SgIdeal.sig) → Buf (Elt Ideal) ℓ) : Prop :=
  True

def Pre_SgReferenceIdeal (m : (ℓ : Loc Cert.SgReferenceIdeal.nD Cert.SgReferenceIdeal.τ Cert.SgReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4)
      ∧ r.2.mem ((c.tc : Thread Cert.PleReferenceIdeal.nD Cert.PleReferenceIdeal.τ).loc Cert.PleReferenceIdeal.main_arg5) = m ((c.tc : Thread Cert.PleReferenceIdeal.nD Cert.PleReferenceIdeal.τ).loc Cert.PleReferenceIdeal.main_arg5)
      ∧ r.2.mem ((c.tc : Thread Cert.PleReferenceIdeal.nD Cert.PleReferenceIdeal.τ).loc Cert.PleReferenceIdeal.main_arg6) = m ((c.tc : Thread Cert.PleReferenceIdeal.nD Cert.PleReferenceIdeal.τ).loc Cert.PleReferenceIdeal.main_arg6))
      ∧ r.2.sem = fun _ => 0)

def quiescent_PleFirst [hPleFirst : Cert.PleFirst.Facts] : Prop :=
  ∀ (m : (ℓ : Loc Cert.PleFirst.nD Cert.PleFirst.τ Cert.PleFirst.sig) → Buf (Elt Bits) ℓ) (g : Dev Cert.PleFirst.nD → PrngReg), Pre_PleFirst m →
    θ_run (Cert.PleFirst.defs (F := Bits)) (onTc (τ := Cert.PleFirst.τ) (Cert.PleFirst.main (F := Bits))) ⟨m, fun _ => 0, g⟩ (fun r => (∀ c : Dev Cert.PleFirst.nD,
      r.2.mem ((c.tc : Thread Cert.PleFirst.nD Cert.PleFirst.τ).loc Cert.PleFirst.main_arg0) = m ((c.tc : Thread Cert.PleFirst.nD Cert.PleFirst.τ).loc Cert.PleFirst.main_arg0)
      ∧ r.2.mem ((c.tc : Thread Cert.PleFirst.nD Cert.PleFirst.τ).loc Cert.PleFirst.main_arg1) = m ((c.tc : Thread Cert.PleFirst.nD Cert.PleFirst.τ).loc Cert.PleFirst.main_arg1)
      ∧ r.2.mem ((c.tc : Thread Cert.PleFirst.nD Cert.PleFirst.τ).loc Cert.PleFirst.main_arg2) = m ((c.tc : Thread Cert.PleFirst.nD Cert.PleFirst.τ).loc Cert.PleFirst.main_arg2)
      ∧ r.2.mem ((c.tc : Thread Cert.PleFirst.nD Cert.PleFirst.τ).loc Cert.PleFirst.main_arg3) = m ((c.tc : Thread Cert.PleFirst.nD Cert.PleFirst.τ).loc Cert.PleFirst.main_arg3)
      ∧ r.2.mem ((c.tc : Thread Cert.PleFirst.nD Cert.PleFirst.τ).loc Cert.PleFirst.main_arg4) = m ((c.tc : Thread Cert.PleFirst.nD Cert.PleFirst.τ).loc Cert.PleFirst.main_arg4)
      ∧ r.2.mem ((c.tc : Thread Cert.PleFirst.nD Cert.PleFirst.τ).loc Cert.PleFirst.main_arg5) = m ((c.tc : Thread Cert.PleFirst.nD Cert.PleFirst.τ).loc Cert.PleFirst.main_arg5)
      ∧ r.2.mem ((c.tc : Thread Cert.PleFirst.nD Cert.PleFirst.τ).loc Cert.PleFirst.main_arg6) = m ((c.tc : Thread Cert.PleFirst.nD Cert.PleFirst.τ).loc Cert.PleFirst.main_arg6))
      ∧ r.2.sem = fun _ => 0)

def quiescent_PleFirstIdeal [hPleFirstIdeal : Cert.PleFirstIdeal.Facts] : Prop :=
  ∀ (m : (ℓ : Loc Cert.PleFirstIdeal.nD Cert.PleFirstIdeal.τ Cert.PleFirstIdeal.sig) → Buf (Elt Ideal) ℓ) (g : Dev Cert.PleFirstIdeal.nD → PrngReg), Pre_PleFirstIdeal m →
    θ_run (Cert.PleFirstIdeal.defs (F := Ideal)) (onTc (τ := Cert.PleFirstIdeal.τ) (Cert.PleFirstIdeal.main (F := Ideal))) ⟨m, fun _ => 0, g⟩ (fun r => (∀ c : Dev Cert.PleFirstIdeal.nD,
      r.2.mem ((c.tc : Thread Cert.PleFirstIdeal.nD Cert.PleFirstIdeal.τ).loc Cert.PleFirstIdeal.main_arg0) = m ((c.tc : Thread Cert.PleFirstIdeal.nD Cert.PleFirstIdeal.τ).loc Cert.PleFirstIdeal.main_arg0)
      ∧ r.2.mem ((c.tc : Thread Cert.PleFirstIdeal.nD Cert.PleFirstIdeal.τ).loc Cert.PleFirstIdeal.main_arg1) = m ((c.tc : Thread Cert.PleFirstIdeal.nD Cert.PleFirstIdeal.τ).loc Cert.PleFirstIdeal.main_arg1)
      ∧ r.2.mem ((c.tc : Thread Cert.PleFirstIdeal.nD Cert.PleFirstIdeal.τ).loc Cert.PleFirstIdeal.main_arg2) = m ((c.tc : Thread Cert.PleFirstIdeal.nD Cert.PleFirstIdeal.τ).loc Cert.PleFirstIdeal.main_arg2)
      ∧ r.2.mem ((c.tc : Thread Cert.PleFirstIdeal.nD Cert.PleFirstIdeal.τ).loc Cert.PleFirstIdeal.main_arg3) = m ((c.tc : Thread Cert.PleFirstIdeal.nD Cert.PleFirstIdeal.τ).loc Cert.PleFirstIdeal.main_arg3)
      ∧ r.2.mem ((c.tc : Thread Cert.PleFirstIdeal.nD Cert.PleFirstIdeal.τ).loc Cert.PleFirstIdeal.main_arg4) = m ((c.tc : Thread Cert.PleFirstIdeal.nD Cert.PleFirstIdeal.τ).loc Cert.PleFirstIdeal.main_arg4)
      ∧ r.2.mem ((c.tc : Thread Cert.PleFirstIdeal.nD Cert.PleFirstIdeal.τ).loc Cert.PleFirstIdeal.main_arg5) = m ((c.tc : Thread Cert.PleFirstIdeal.nD Cert.PleFirstIdeal.τ).loc Cert.PleFirstIdeal.main_arg5)
      ∧ r.2.mem ((c.tc : Thread Cert.PleFirstIdeal.nD Cert.PleFirstIdeal.τ).loc Cert.PleFirstIdeal.main_arg6) = m ((c.tc : Thread Cert.PleFirstIdeal.nD Cert.PleFirstIdeal.τ).loc Cert.PleFirstIdeal.main_arg6))
      ∧ r.2.sem = fun _ => 0)

def quiescent_PleFirstReferenceIdeal [hPleFirstReferenceIdeal : Cert.PleFirstReferenceIdeal.Facts] : Prop :=
  ∀ (m : (ℓ : Loc Cert.PleFirstReferenceIdeal.nD Cert.PleFirstReferenceIdeal.τ Cert.PleFirstReferenceIdeal.sig) → Buf (Elt Ideal) ℓ) (g : Dev Cert.PleFirstReferenceIdeal.nD → PrngReg), Pre_PleFirstReferenceIdeal m →
    θ_run (Cert.PleFirstReferenceIdeal.defs (F := Ideal)) (onTc (τ := Cert.PleFirstReferenceIdeal.τ) (Cert.PleFirstReferenceIdeal.main (F := Ideal))) ⟨m, fun _ => 0, g⟩ (fun r => (∀ c : Dev Cert.PleFirstReferenceIdeal.nD,
      r.2.mem ((c.tc : Thread Cert.PleFirstReferenceIdeal.nD Cert.PleFirstReferenceIdeal.τ).loc Cert.PleFirstReferenceIdeal.main_arg0) = m ((c.tc : Thread Cert.PleFirstReferenceIdeal.nD Cert.PleFirstReferenceIdeal.τ).loc Cert.PleFirstReferenceIdeal.main_arg0)
      ∧ r.2.mem ((c.tc : Thread Cert.PleFirstReferenceIdeal.nD Cert.PleFirstReferenceIdeal.τ).loc Cert.PleFirstReferenceIdeal.main_arg1) = m ((c.tc : Thread Cert.PleFirstReferenceIdeal.nD Cert.PleFirstReferenceIdeal.τ).loc Cert.PleFirstReferenceIdeal.main_arg1)
      ∧ r.2.mem ((c.tc : Thread Cert.PleFirstReferenceIdeal.nD Cert.PleFirstReferenceIdeal.τ).loc Cert.PleFirstReferenceIdeal.main_arg2) = m ((c.tc : Thread Cert.PleFirstReferenceIdeal.nD Cert.PleFirstReferenceIdeal.τ).loc Cert.PleFirstReferenceIdeal.main_arg2)
      ∧ r.2.mem ((c.tc : Thread Cert.PleFirstReferenceIdeal.nD Cert.PleFirstReferenceIdeal.τ).loc Cert.PleFirstReferenceIdeal.main_arg3) = m ((c.tc : Thread Cert.PleFirstReferenceIdeal.nD Cert.PleFirstReferenceIdeal.τ).loc Cert.PleFirstReferenceIdeal.main_arg3)
      ∧ r.2.mem ((c.tc : Thread Cert.PleFirstReferenceIdeal.nD Cert.PleFirstReferenceIdeal.τ).loc Cert.PleFirstReferenceIdeal.main_arg4) = m ((c.tc : Thread Cert.PleFirstReferenceIdeal.nD Cert.PleFirstReferenceIdeal.τ).loc Cert.PleFirstReferenceIdeal.main_arg4)
      ∧ r.2.mem ((c.tc : Thread Cert.PleFirstReferenceIdeal.nD Cert.PleFirstReferenceIdeal.τ).loc Cert.PleFirstReferenceIdeal.main_arg5) = m ((c.tc : Thread Cert.PleFirstReferenceIdeal.nD Cert.PleFirstReferenceIdeal.τ).loc Cert.PleFirstReferenceIdeal.main_arg5)
      ∧ r.2.mem ((c.tc : Thread Cert.PleFirstReferenceIdeal.nD Cert.PleFirstReferenceIdeal.τ).loc Cert.PleFirstReferenceIdeal.main_arg6) = m ((c.tc : Thread Cert.PleFirstReferenceIdeal.nD Cert.PleFirstReferenceIdeal.τ).loc Cert.PleFirstReferenceIdeal.main_arg6))
      ∧ r.2.sem = fun _ => 0)

def quiescent_Sg [hSg : Cert.Sg.Facts] : Prop :=
  ∀ (m : (ℓ : Loc Cert.Sg.nD Cert.Sg.τ Cert.Sg.sig) → Buf (Elt Bits) ℓ) (g : Dev Cert.Sg.nD → PrngReg), Pre_Sg m →
    θ_run (Cert.Sg.defs (F := Bits)) (onTc (τ := Cert.Sg.τ) (Cert.Sg.main (F := Bits))) ⟨m, fun _ => 0, g⟩ (fun r => (∀ c : Dev Cert.Sg.nD,
      r.2.mem ((c.tc : Thread Cert.Sg.nD Cert.Sg.τ).loc Cert.Sg.main_arg0) = m ((c.tc : Thread Cert.Sg.nD Cert.Sg.τ).loc Cert.Sg.main_arg0)
      ∧ r.2.mem ((c.tc : Thread Cert.Sg.nD Cert.Sg.τ).loc Cert.Sg.main_arg1) = m ((c.tc : Thread Cert.Sg.nD Cert.Sg.τ).loc Cert.Sg.main_arg1)
      ∧ r.2.mem ((c.tc : Thread Cert.Sg.nD Cert.Sg.τ).loc Cert.Sg.main_arg2) = m ((c.tc : Thread Cert.Sg.nD Cert.Sg.τ).loc Cert.Sg.main_arg2)
      ∧ r.2.mem ((c.tc : Thread Cert.Sg.nD Cert.Sg.τ).loc Cert.Sg.main_arg3) = m ((c.tc : Thread Cert.Sg.nD Cert.Sg.τ).loc Cert.Sg.main_arg3)
      ∧ r.2.mem ((c.tc : Thread Cert.Sg.nD Cert.Sg.τ).loc Cert.Sg.main_arg4) = m ((c.tc : Thread Cert.Sg.nD Cert.Sg.τ).loc Cert.Sg.main_arg4)
      ∧ r.2.mem ((c.tc : Thread Cert.Sg.nD Cert.Sg.τ).loc Cert.Sg.main_arg5) = m ((c.tc : Thread Cert.Sg.nD Cert.Sg.τ).loc Cert.Sg.main_arg5)
      ∧ r.2.mem ((c.tc : Thread Cert.Sg.nD Cert.Sg.τ).loc Cert.Sg.main_arg6) = m ((c.tc : Thread Cert.Sg.nD Cert.Sg.τ).loc Cert.Sg.main_arg6)
      ∧ r.2.mem ((c.tc : Thread Cert.Sg.nD Cert.Sg.τ).loc Cert.Sg.main_arg7) = m ((c.tc : Thread Cert.Sg.nD Cert.Sg.τ).loc Cert.Sg.main_arg7))
      ∧ r.2.sem = fun _ => 0)

def quiescent_SgIdeal [hSgIdeal : Cert.SgIdeal.Facts] : Prop :=
  ∀ (m : (ℓ : Loc Cert.SgIdeal.nD Cert.SgIdeal.τ Cert.SgIdeal.sig) → Buf (Elt Ideal) ℓ) (g : Dev Cert.SgIdeal.nD → PrngReg), Pre_SgIdeal m →
    θ_run (Cert.SgIdeal.defs (F := Ideal)) (onTc (τ := Cert.SgIdeal.τ) (Cert.SgIdeal.main (F := Ideal))) ⟨m, fun _ => 0, g⟩ (fun r => (∀ c : Dev Cert.SgIdeal.nD,
      r.2.mem ((c.tc : Thread Cert.SgIdeal.nD Cert.SgIdeal.τ).loc Cert.SgIdeal.main_arg0) = m ((c.tc : Thread Cert.SgIdeal.nD Cert.SgIdeal.τ).loc Cert.SgIdeal.main_arg0)
      ∧ r.2.mem ((c.tc : Thread Cert.SgIdeal.nD Cert.SgIdeal.τ).loc Cert.SgIdeal.main_arg1) = m ((c.tc : Thread Cert.SgIdeal.nD Cert.SgIdeal.τ).loc Cert.SgIdeal.main_arg1)
      ∧ r.2.mem ((c.tc : Thread Cert.SgIdeal.nD Cert.SgIdeal.τ).loc Cert.SgIdeal.main_arg2) = m ((c.tc : Thread Cert.SgIdeal.nD Cert.SgIdeal.τ).loc Cert.SgIdeal.main_arg2)
      ∧ r.2.mem ((c.tc : Thread Cert.SgIdeal.nD Cert.SgIdeal.τ).loc Cert.SgIdeal.main_arg3) = m ((c.tc : Thread Cert.SgIdeal.nD Cert.SgIdeal.τ).loc Cert.SgIdeal.main_arg3)
      ∧ r.2.mem ((c.tc : Thread Cert.SgIdeal.nD Cert.SgIdeal.τ).loc Cert.SgIdeal.main_arg4) = m ((c.tc : Thread Cert.SgIdeal.nD Cert.SgIdeal.τ).loc Cert.SgIdeal.main_arg4)
      ∧ r.2.mem ((c.tc : Thread Cert.SgIdeal.nD Cert.SgIdeal.τ).loc Cert.SgIdeal.main_arg5) = m ((c.tc : Thread Cert.SgIdeal.nD Cert.SgIdeal.τ).loc Cert.SgIdeal.main_arg5)
      ∧ r.2.mem ((c.tc : Thread Cert.SgIdeal.nD Cert.SgIdeal.τ).loc Cert.SgIdeal.main_arg6) = m ((c.tc : Thread Cert.SgIdeal.nD Cert.SgIdeal.τ).loc Cert.SgIdeal.main_arg6)
      ∧ r.2.mem ((c.tc : Thread Cert.SgIdeal.nD Cert.SgIdeal.τ).loc Cert.SgIdeal.main_arg7) = m ((c.tc : Thread Cert.SgIdeal.nD Cert.SgIdeal.τ).loc Cert.SgIdeal.main_arg7))
      ∧ r.2.sem = fun _ => 0)

def quiescent_SgReferenceIdeal [hSgReferenceIdeal : Cert.SgReferenceIdeal.Facts] : Prop :=
  ∀ (m : (ℓ : Loc Cert.SgReferenceIdeal.nD Cert.SgReferenceIdeal.τ Cert.SgReferenceIdeal.sig) → Buf (Elt Ideal) ℓ) (g : Dev Cert.SgReferenceIdeal.nD → PrngReg), Pre_SgReferenceIdeal m →
    θ_run (Cert.SgReferenceIdeal.defs (F := Ideal)) (onTc (τ := Cert.SgReferenceIdeal.τ) (Cert.SgReferenceIdeal.main (F := Ideal))) ⟨m, fun _ => 0, g⟩ (fun r => (∀ c : Dev Cert.SgReferenceIdeal.nD,
      r.2.mem ((c.tc : Thread Cert.SgReferenceIdeal.nD Cert.SgReferenceIdeal.τ).loc Cert.SgReferenceIdeal.main_arg0) = m ((c.tc : Thread Cert.SgReferenceIdeal.nD Cert.SgReferenceIdeal.τ).loc Cert.SgReferenceIdeal.main_arg0)
      ∧ r.2.mem ((c.tc : Thread Cert.SgReferenceIdeal.nD Cert.SgReferenceIdeal.τ).loc Cert.SgReferenceIdeal.main_arg1) = m ((c.tc : Thread Cert.SgReferenceIdeal.nD Cert.SgReferenceIdeal.τ).loc Cert.SgReferenceIdeal.main_arg1)
      ∧ r.2.mem ((c.tc : Thread Cert.SgReferenceIdeal.nD Cert.SgReferenceIdeal.τ).loc Cert.SgReferenceIdeal.main_arg2) = m ((c.tc : Thread Cert.SgReferenceIdeal.nD Cert.SgReferenceIdeal.τ).loc Cert.SgReferenceIdeal.main_arg2)
      ∧ r.2.mem ((c.tc : Thread Cert.SgReferenceIdeal.nD Cert.SgReferenceIdeal.τ).loc Cert.SgReferenceIdeal.main_arg3) = m ((c.tc : Thread Cert.SgReferenceIdeal.nD Cert.SgReferenceIdeal.τ).loc Cert.SgReferenceIdeal.main_arg3)
      ∧ r.2.mem ((c.tc : Thread Cert.SgReferenceIdeal.nD Cert.SgReferenceIdeal.τ).loc Cert.SgReferenceIdeal.main_arg4) = m ((c.tc : Thread Cert.SgReferenceIdeal.nD Cert.SgReferenceIdeal.τ).loc Cert.SgReferenceIdeal.main_arg4)
      ∧ r.2.mem ((c.tc : Thread Cert.SgReferenceIdeal.nD Cert.SgReferenceIdeal.τ).loc Cert.SgReferenceIdeal.main_arg5) = m ((c.tc : Thread Cert.SgReferenceIdeal.nD Cert.SgReferenceIdeal.τ).loc Cert.SgReferenceIdeal.main_arg5)
      ∧ r.2.mem ((c.tc : Thread Cert.SgReferenceIdeal.nD Cert.SgReferenceIdeal.τ).loc Cert.SgReferenceIdeal.main_arg6) = m ((c.tc : Thread Cert.SgReferenceIdeal.nD Cert.SgReferenceIdeal.τ).loc Cert.SgReferenceIdeal.main_arg6)
      ∧ r.2.mem ((c.tc : Thread Cert.SgReferenceIdeal.nD Cert.SgReferenceIdeal.τ).loc Cert.SgReferenceIdeal.main_arg7) = m ((c.tc : Thread Cert.SgReferenceIdeal.nD Cert.SgReferenceIdeal.τ).loc Cert.SgReferenceIdeal.main_arg7))
      ∧ r.2.sem = fun _ => 0)

def preserves_Kernel_KernelIdeal : Prop :=
  IdealRules.named_const.Statement Cert.KernelIdeal.κ "log2e_over_tau" .f32 0x3DB8AA3B#32 (((Real.log 2)⁻¹ * 16⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v89) = v3 c
          ∧ r.2.mem ((c.tc : Thread Cert.ReferenceIdeal.nD Cert.ReferenceIdeal.τ).loc Cert.ReferenceIdeal.main_v92) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v12) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2))

def preserves_Ple_PleIdeal : Prop :=
  True

def algebraic_PleIdeal_PleReferenceIdeal [hPleIdeal : Cert.PleIdeal.Facts] [hPleReferenceIdeal : Cert.PleReferenceIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleIdeal m →
    (∀ c : Dev Cert.PleIdeal.nD,
      m' ((c.tc : Thread Cert.PleReferenceIdeal.nD Cert.PleReferenceIdeal.τ).loc Cert.PleReferenceIdeal.main_arg0) = m ((c.tc : Thread Cert.PleIdeal.nD Cert.PleIdeal.τ).loc Cert.PleIdeal.main_arg0)
      ∧ m' ((c.tc : Thread Cert.PleReferenceIdeal.nD Cert.PleReferenceIdeal.τ).loc Cert.PleReferenceIdeal.main_arg1) = m ((c.tc : Thread Cert.PleIdeal.nD Cert.PleIdeal.τ).loc Cert.PleIdeal.main_arg1)
      ∧ m' ((c.tc : Thread Cert.PleReferenceIdeal.nD Cert.PleReferenceIdeal.τ).loc Cert.PleReferenceIdeal.main_arg2) = m ((c.tc : Thread Cert.PleIdeal.nD Cert.PleIdeal.τ).loc Cert.PleIdeal.main_arg2)
      ∧ m' ((c.tc : Thread Cert.PleReferenceIdeal.nD Cert.PleReferenceIdeal.τ).loc Cert.PleReferenceIdeal.main_arg3) = m ((c.tc : Thread Cert.PleIdeal.nD Cert.PleIdeal.τ).loc Cert.PleIdeal.main_arg3)
      ∧ m' ((c.tc : Thread Cert.PleReferenceIdeal.nD Cert.PleReferenceIdeal.τ).loc Cert.PleReferenceIdeal.main_arg4) = m ((c.tc : Thread Cert.PleIdeal.nD Cert.PleIdeal.τ).loc Cert.PleIdeal.main_arg4)
      ∧ m' ((c.tc : Thread Cert.PleReferenceIdeal.nD Cert.PleReferenceIdeal.τ).loc Cert.PleReferenceIdeal.main_arg5) = m ((c.tc : Thread Cert.PleIdeal.nD Cert.PleIdeal.τ).loc Cert.PleIdeal.main_arg5)
      ∧ m' ((c.tc : Thread Cert.PleReferenceIdeal.nD Cert.PleReferenceIdeal.τ).loc Cert.PleReferenceIdeal.main_arg6) = m ((c.tc : Thread Cert.PleIdeal.nD Cert.PleIdeal.τ).loc Cert.PleIdeal.main_arg6)) →
    ∃ (v0 : (c : Dev Cert.PleIdeal.nD) → Buf (Elt Ideal) ((c.tc : Thread Cert.PleIdeal.nD Cert.PleIdeal.τ).loc Cert.PleIdeal.main_v4)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v4) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v44) = v0 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4)
          ∧ r.2.mem ((c.tc : Thread Cert.PleReferenceIdeal.nD Cert.PleReferenceIdeal.τ).loc Cert.PleReferenceIdeal.main_arg5) = m' ((c.tc : Thread Cert.PleReferenceIdeal.nD Cert.PleReferenceIdeal.τ).loc Cert.PleReferenceIdeal.main_arg5)
          ∧ r.2.mem ((c.tc : Thread Cert.PleReferenceIdeal.nD Cert.PleReferenceIdeal.τ).loc Cert.PleReferenceIdeal.main_arg6) = m' ((c.tc : Thread Cert.PleReferenceIdeal.nD Cert.PleReferenceIdeal.τ).loc Cert.PleReferenceIdeal.main_arg6))

def preserves_PleFirst_PleFirstIdeal : Prop :=
  True

def algebraic_PleFirstIdeal_PleFirstReferenceIdeal [hPleFirstIdeal : Cert.PleFirstIdeal.Facts] [hPleFirstReferenceIdeal : Cert.PleFirstReferenceIdeal.Facts] : Prop :=
  ∀ (m : (ℓ : Loc Cert.PleFirstIdeal.nD Cert.PleFirstIdeal.τ Cert.PleFirstIdeal.sig) → Buf (Elt Ideal) ℓ) (g : Dev Cert.PleFirstIdeal.nD → PrngReg)
    (m' : (ℓ : Loc Cert.PleFirstReferenceIdeal.nD Cert.PleFirstReferenceIdeal.τ Cert.PleFirstReferenceIdeal.sig) → Buf (Elt Ideal) ℓ) (g' : Dev Cert.PleFirstReferenceIdeal.nD → PrngReg), Pre_PleFirstIdeal m →
    (∀ c : Dev Cert.PleFirstIdeal.nD,
      m' ((c.tc : Thread Cert.PleFirstReferenceIdeal.nD Cert.PleFirstReferenceIdeal.τ).loc Cert.PleFirstReferenceIdeal.main_arg0) = m ((c.tc : Thread Cert.PleFirstIdeal.nD Cert.PleFirstIdeal.τ).loc Cert.PleFirstIdeal.main_arg0)
      ∧ m' ((c.tc : Thread Cert.PleFirstReferenceIdeal.nD Cert.PleFirstReferenceIdeal.τ).loc Cert.PleFirstReferenceIdeal.main_arg1) = m ((c.tc : Thread Cert.PleFirstIdeal.nD Cert.PleFirstIdeal.τ).loc Cert.PleFirstIdeal.main_arg1)
      ∧ m' ((c.tc : Thread Cert.PleFirstReferenceIdeal.nD Cert.PleFirstReferenceIdeal.τ).loc Cert.PleFirstReferenceIdeal.main_arg2) = m ((c.tc : Thread Cert.PleFirstIdeal.nD Cert.PleFirstIdeal.τ).loc Cert.PleFirstIdeal.main_arg2)
      ∧ m' ((c.tc : Thread Cert.PleFirstReferenceIdeal.nD Cert.PleFirstReferenceIdeal.τ).loc Cert.PleFirstReferenceIdeal.main_arg3) = m ((c.tc : Thread Cert.PleFirstIdeal.nD Cert.PleFirstIdeal.τ).loc Cert.PleFirstIdeal.main_arg3)
      ∧ m' ((c.tc : Thread Cert.PleFirstReferenceIdeal.nD Cert.PleFirstReferenceIdeal.τ).loc Cert.PleFirstReferenceIdeal.main_arg4) = m ((c.tc : Thread Cert.PleFirstIdeal.nD Cert.PleFirstIdeal.τ).loc Cert.PleFirstIdeal.main_arg4)
      ∧ m' ((c.tc : Thread Cert.PleFirstReferenceIdeal.nD Cert.PleFirstReferenceIdeal.τ).loc Cert.PleFirstReferenceIdeal.main_arg5) = m ((c.tc : Thread Cert.PleFirstIdeal.nD Cert.PleFirstIdeal.τ).loc Cert.PleFirstIdeal.main_arg5)
      ∧ m' ((c.tc : Thread Cert.PleFirstReferenceIdeal.nD Cert.PleFirstReferenceIdeal.τ).loc Cert.PleFirstReferenceIdeal.main_arg6) = m ((c.tc : Thread Cert.PleFirstIdeal.nD Cert.PleFirstIdeal.τ).loc Cert.PleFirstIdeal.main_arg6)) →
    ∃ (v0 : (c : Dev Cert.PleFirstIdeal.nD) → Buf (Elt Ideal) ((c.tc : Thread Cert.PleFirstIdeal.nD Cert.PleFirstIdeal.τ).loc Cert.PleFirstIdeal.main_v6_0)) (v1 : (c : Dev Cert.PleFirstIdeal.nD) → Buf (Elt Ideal) ((c.tc : Thread Cert.PleFirstIdeal.nD Cert.PleFirstIdeal.τ).loc Cert.PleFirstIdeal.main_v6_1)),
      θ_run (Cert.PleFirstIdeal.defs (F := Ideal)) (onTc (τ := Cert.PleFirstIdeal.τ) (Cert.PleFirstIdeal.main (F := Ideal))) ⟨m, fun _ => 0, g⟩ (fun r => ∀ c : Dev Cert.PleFirstIdeal.nD,
          r.2.mem ((c.tc : Thread Cert.PleFirstIdeal.nD Cert.PleFirstIdeal.τ).loc Cert.PleFirstIdeal.main_v6_0) = v0 c
          ∧ r.2.mem ((c.tc : Thread Cert.PleFirstIdeal.nD Cert.PleFirstIdeal.τ).loc Cert.PleFirstIdeal.main_v6_1) = v1 c
          ∧ r.2.mem ((c.tc : Thread Cert.PleFirstIdeal.nD Cert.PleFirstIdeal.τ).loc Cert.PleFirstIdeal.main_arg0) = m ((c.tc : Thread Cert.PleFirstIdeal.nD Cert.PleFirstIdeal.τ).loc Cert.PleFirstIdeal.main_arg0)
          ∧ r.2.mem ((c.tc : Thread Cert.PleFirstIdeal.nD Cert.PleFirstIdeal.τ).loc Cert.PleFirstIdeal.main_arg1) = m ((c.tc : Thread Cert.PleFirstIdeal.nD Cert.PleFirstIdeal.τ).loc Cert.PleFirstIdeal.main_arg1)
          ∧ r.2.mem ((c.tc : Thread Cert.PleFirstIdeal.nD Cert.PleFirstIdeal.τ).loc Cert.PleFirstIdeal.main_arg2) = m ((c.tc : Thread Cert.PleFirstIdeal.nD Cert.PleFirstIdeal.τ).loc Cert.PleFirstIdeal.main_arg2)
          ∧ r.2.mem ((c.tc : Thread Cert.PleFirstIdeal.nD Cert.PleFirstIdeal.τ).loc Cert.PleFirstIdeal.main_arg3) = m ((c.tc : Thread Cert.PleFirstIdeal.nD Cert.PleFirstIdeal.τ).loc Cert.PleFirstIdeal.main_arg3)
          ∧ r.2.mem ((c.tc : Thread Cert.PleFirstIdeal.nD Cert.PleFirstIdeal.τ).loc Cert.PleFirstIdeal.main_arg4) = m ((c.tc : Thread Cert.PleFirstIdeal.nD Cert.PleFirstIdeal.τ).loc Cert.PleFirstIdeal.main_arg4)
          ∧ r.2.mem ((c.tc : Thread Cert.PleFirstIdeal.nD Cert.PleFirstIdeal.τ).loc Cert.PleFirstIdeal.main_arg5) = m ((c.tc : Thread Cert.PleFirstIdeal.nD Cert.PleFirstIdeal.τ).loc Cert.PleFirstIdeal.main_arg5)
          ∧ r.2.mem ((c.tc : Thread Cert.PleFirstIdeal.nD Cert.PleFirstIdeal.τ).loc Cert.PleFirstIdeal.main_arg6) = m ((c.tc : Thread Cert.PleFirstIdeal.nD Cert.PleFirstIdeal.τ).loc Cert.PleFirstIdeal.main_arg6))
      ∧ θ_run (Cert.PleFirstReferenceIdeal.defs (F := Ideal)) (onTc (τ := Cert.PleFirstReferenceIdeal.τ) (Cert.PleFirstReferenceIdeal.main (F := Ideal))) ⟨m', fun _ => 0, g'⟩ (fun r => ∀ c : Dev Cert.PleFirstReferenceIdeal.nD,
          r.2.mem ((c.tc : Thread Cert.PleFirstReferenceIdeal.nD Cert.PleFirstReferenceIdeal.τ).loc Cert.PleFirstReferenceIdeal.main_v31) = v0 c
          ∧ r.2.mem ((c.tc : Thread Cert.PleFirstReferenceIdeal.nD Cert.PleFirstReferenceIdeal.τ).loc Cert.PleFirstReferenceIdeal.main_v47) = v1 c
          ∧ r.2.mem ((c.tc : Thread Cert.PleFirstReferenceIdeal.nD Cert.PleFirstReferenceIdeal.τ).loc Cert.PleFirstReferenceIdeal.main_arg0) = m' ((c.tc : Thread Cert.PleFirstReferenceIdeal.nD Cert.PleFirstReferenceIdeal.τ).loc Cert.PleFirstReferenceIdeal.main_arg0)
          ∧ r.2.mem ((c.tc : Thread Cert.PleFirstReferenceIdeal.nD Cert.PleFirstReferenceIdeal.τ).loc Cert.PleFirstReferenceIdeal.main_arg1) = m' ((c.tc : Thread Cert.PleFirstReferenceIdeal.nD Cert.PleFirstReferenceIdeal.τ).loc Cert.PleFirstReferenceIdeal.main_arg1)
          ∧ r.2.mem ((c.tc : Thread Cert.PleFirstReferenceIdeal.nD Cert.PleFirstReferenceIdeal.τ).loc Cert.PleFirstReferenceIdeal.main_arg2) = m' ((c.tc : Thread Cert.PleFirstReferenceIdeal.nD Cert.PleFirstReferenceIdeal.τ).loc Cert.PleFirstReferenceIdeal.main_arg2)
          ∧ r.2.mem ((c.tc : Thread Cert.PleFirstReferenceIdeal.nD Cert.PleFirstReferenceIdeal.τ).loc Cert.PleFirstReferenceIdeal.main_arg3) = m' ((c.tc : Thread Cert.PleFirstReferenceIdeal.nD Cert.PleFirstReferenceIdeal.τ).loc Cert.PleFirstReferenceIdeal.main_arg3)
          ∧ r.2.mem ((c.tc : Thread Cert.PleFirstReferenceIdeal.nD Cert.PleFirstReferenceIdeal.τ).loc Cert.PleFirstReferenceIdeal.main_arg4) = m' ((c.tc : Thread Cert.PleFirstReferenceIdeal.nD Cert.PleFirstReferenceIdeal.τ).loc Cert.PleFirstReferenceIdeal.main_arg4)
          ∧ r.2.mem ((c.tc : Thread Cert.PleFirstReferenceIdeal.nD Cert.PleFirstReferenceIdeal.τ).loc Cert.PleFirstReferenceIdeal.main_arg5) = m' ((c.tc : Thread Cert.PleFirstReferenceIdeal.nD Cert.PleFirstReferenceIdeal.τ).loc Cert.PleFirstReferenceIdeal.main_arg5)
          ∧ r.2.mem ((c.tc : Thread Cert.PleFirstReferenceIdeal.nD Cert.PleFirstReferenceIdeal.τ).loc Cert.PleFirstReferenceIdeal.main_arg6) = m' ((c.tc : Thread Cert.PleFirstReferenceIdeal.nD Cert.PleFirstReferenceIdeal.τ).loc Cert.PleFirstReferenceIdeal.main_arg6))

def preserves_Sg_SgIdeal : Prop :=
  True

def algebraic_SgIdeal_SgReferenceIdeal [hSgIdeal : Cert.SgIdeal.Facts] [hSgReferenceIdeal : Cert.SgReferenceIdeal.Facts] : Prop :=
  ∀ (m : (ℓ : Loc Cert.SgIdeal.nD Cert.SgIdeal.τ Cert.SgIdeal.sig) → Buf (Elt Ideal) ℓ) (g : Dev Cert.SgIdeal.nD → PrngReg)
    (m' : (ℓ : Loc Cert.SgReferenceIdeal.nD Cert.SgReferenceIdeal.τ Cert.SgReferenceIdeal.sig) → Buf (Elt Ideal) ℓ) (g' : Dev Cert.SgReferenceIdeal.nD → PrngReg), Pre_SgIdeal m →
    (∀ c : Dev Cert.SgIdeal.nD,
      m' ((c.tc : Thread Cert.SgReferenceIdeal.nD Cert.SgReferenceIdeal.τ).loc Cert.SgReferenceIdeal.main_arg0) = m ((c.tc : Thread Cert.SgIdeal.nD Cert.SgIdeal.τ).loc Cert.SgIdeal.main_arg0)
      ∧ m' ((c.tc : Thread Cert.SgReferenceIdeal.nD Cert.SgReferenceIdeal.τ).loc Cert.SgReferenceIdeal.main_arg1) = m ((c.tc : Thread Cert.SgIdeal.nD Cert.SgIdeal.τ).loc Cert.SgIdeal.main_arg1)
      ∧ m' ((c.tc : Thread Cert.SgReferenceIdeal.nD Cert.SgReferenceIdeal.τ).loc Cert.SgReferenceIdeal.main_arg2) = m ((c.tc : Thread Cert.SgIdeal.nD Cert.SgIdeal.τ).loc Cert.SgIdeal.main_arg2)
      ∧ m' ((c.tc : Thread Cert.SgReferenceIdeal.nD Cert.SgReferenceIdeal.τ).loc Cert.SgReferenceIdeal.main_arg3) = m ((c.tc : Thread Cert.SgIdeal.nD Cert.SgIdeal.τ).loc Cert.SgIdeal.main_arg3)
      ∧ m' ((c.tc : Thread Cert.SgReferenceIdeal.nD Cert.SgReferenceIdeal.τ).loc Cert.SgReferenceIdeal.main_arg4) = m ((c.tc : Thread Cert.SgIdeal.nD Cert.SgIdeal.τ).loc Cert.SgIdeal.main_arg4)
      ∧ m' ((c.tc : Thread Cert.SgReferenceIdeal.nD Cert.SgReferenceIdeal.τ).loc Cert.SgReferenceIdeal.main_arg5) = m ((c.tc : Thread Cert.SgIdeal.nD Cert.SgIdeal.τ).loc Cert.SgIdeal.main_arg5)
      ∧ m' ((c.tc : Thread Cert.SgReferenceIdeal.nD Cert.SgReferenceIdeal.τ).loc Cert.SgReferenceIdeal.main_arg6) = m ((c.tc : Thread Cert.SgIdeal.nD Cert.SgIdeal.τ).loc Cert.SgIdeal.main_arg6)
      ∧ m' ((c.tc : Thread Cert.SgReferenceIdeal.nD Cert.SgReferenceIdeal.τ).loc Cert.SgReferenceIdeal.main_arg7) = m ((c.tc : Thread Cert.SgIdeal.nD Cert.SgIdeal.τ).loc Cert.SgIdeal.main_arg7)) →
    ∃ (v0 : (c : Dev Cert.SgIdeal.nD) → Buf (Elt Ideal) ((c.tc : Thread Cert.SgIdeal.nD Cert.SgIdeal.τ).loc Cert.SgIdeal.main_v3_0)) (v1 : (c : Dev Cert.SgIdeal.nD) → Buf (Elt Ideal) ((c.tc : Thread Cert.SgIdeal.nD Cert.SgIdeal.τ).loc Cert.SgIdeal.main_v3_1)),
      θ_run (Cert.SgIdeal.defs (F := Ideal)) (onTc (τ := Cert.SgIdeal.τ) (Cert.SgIdeal.main (F := Ideal))) ⟨m, fun _ => 0, g⟩ (fun r => ∀ c : Dev Cert.SgIdeal.nD,
          r.2.mem ((c.tc : Thread Cert.SgIdeal.nD Cert.SgIdeal.τ).loc Cert.SgIdeal.main_v3_0) = v0 c
          ∧ r.2.mem ((c.tc : Thread Cert.SgIdeal.nD Cert.SgIdeal.τ).loc Cert.SgIdeal.main_v3_1) = v1 c
          ∧ r.2.mem ((c.tc : Thread Cert.SgIdeal.nD Cert.SgIdeal.τ).loc Cert.SgIdeal.main_arg0) = m ((c.tc : Thread Cert.SgIdeal.nD Cert.SgIdeal.τ).loc Cert.SgIdeal.main_arg0)
          ∧ r.2.mem ((c.tc : Thread Cert.SgIdeal.nD Cert.SgIdeal.τ).loc Cert.SgIdeal.main_arg1) = m ((c.tc : Thread Cert.SgIdeal.nD Cert.SgIdeal.τ).loc Cert.SgIdeal.main_arg1)
          ∧ r.2.mem ((c.tc : Thread Cert.SgIdeal.nD Cert.SgIdeal.τ).loc Cert.SgIdeal.main_arg2) = m ((c.tc : Thread Cert.SgIdeal.nD Cert.SgIdeal.τ).loc Cert.SgIdeal.main_arg2)
          ∧ r.2.mem ((c.tc : Thread Cert.SgIdeal.nD Cert.SgIdeal.τ).loc Cert.SgIdeal.main_arg3) = m ((c.tc : Thread Cert.SgIdeal.nD Cert.SgIdeal.τ).loc Cert.SgIdeal.main_arg3)
          ∧ r.2.mem ((c.tc : Thread Cert.SgIdeal.nD Cert.SgIdeal.τ).loc Cert.SgIdeal.main_arg4) = m ((c.tc : Thread Cert.SgIdeal.nD Cert.SgIdeal.τ).loc Cert.SgIdeal.main_arg4)
          ∧ r.2.mem ((c.tc : Thread Cert.SgIdeal.nD Cert.SgIdeal.τ).loc Cert.SgIdeal.main_arg5) = m ((c.tc : Thread Cert.SgIdeal.nD Cert.SgIdeal.τ).loc Cert.SgIdeal.main_arg5)
          ∧ r.2.mem ((c.tc : Thread Cert.SgIdeal.nD Cert.SgIdeal.τ).loc Cert.SgIdeal.main_arg6) = m ((c.tc : Thread Cert.SgIdeal.nD Cert.SgIdeal.τ).loc Cert.SgIdeal.main_arg6)
          ∧ r.2.mem ((c.tc : Thread Cert.SgIdeal.nD Cert.SgIdeal.τ).loc Cert.SgIdeal.main_arg7) = m ((c.tc : Thread Cert.SgIdeal.nD Cert.SgIdeal.τ).loc Cert.SgIdeal.main_arg7))
      ∧ θ_run (Cert.SgReferenceIdeal.defs (F := Ideal)) (onTc (τ := Cert.SgReferenceIdeal.τ) (Cert.SgReferenceIdeal.main (F := Ideal))) ⟨m', fun _ => 0, g'⟩ (fun r => ∀ c : Dev Cert.SgReferenceIdeal.nD,
          r.2.mem ((c.tc : Thread Cert.SgReferenceIdeal.nD Cert.SgReferenceIdeal.τ).loc Cert.SgReferenceIdeal.main_v66) = v0 c
          ∧ r.2.mem ((c.tc : Thread Cert.SgReferenceIdeal.nD Cert.SgReferenceIdeal.τ).loc Cert.SgReferenceIdeal.main_v82) = v1 c
          ∧ r.2.mem ((c.tc : Thread Cert.SgReferenceIdeal.nD Cert.SgReferenceIdeal.τ).loc Cert.SgReferenceIdeal.main_arg0) = m' ((c.tc : Thread Cert.SgReferenceIdeal.nD Cert.SgReferenceIdeal.τ).loc Cert.SgReferenceIdeal.main_arg0)
          ∧ r.2.mem ((c.tc : Thread Cert.SgReferenceIdeal.nD Cert.SgReferenceIdeal.τ).loc Cert.SgReferenceIdeal.main_arg1) = m' ((c.tc : Thread Cert.SgReferenceIdeal.nD Cert.SgReferenceIdeal.τ).loc Cert.SgReferenceIdeal.main_arg1)
          ∧ r.2.mem ((c.tc : Thread Cert.SgReferenceIdeal.nD Cert.SgReferenceIdeal.τ).loc Cert.SgReferenceIdeal.main_arg2) = m' ((c.tc : Thread Cert.SgReferenceIdeal.nD Cert.SgReferenceIdeal.τ).loc Cert.SgReferenceIdeal.main_arg2)
          ∧ r.2.mem ((c.tc : Thread Cert.SgReferenceIdeal.nD Cert.SgReferenceIdeal.τ).loc Cert.SgReferenceIdeal.main_arg3) = m' ((c.tc : Thread Cert.SgReferenceIdeal.nD Cert.SgReferenceIdeal.τ).loc Cert.SgReferenceIdeal.main_arg3)
          ∧ r.2.mem ((c.tc : Thread Cert.SgReferenceIdeal.nD Cert.SgReferenceIdeal.τ).loc Cert.SgReferenceIdeal.main_arg4) = m' ((c.tc : Thread Cert.SgReferenceIdeal.nD Cert.SgReferenceIdeal.τ).loc Cert.SgReferenceIdeal.main_arg4)
          ∧ r.2.mem ((c.tc : Thread Cert.SgReferenceIdeal.nD Cert.SgReferenceIdeal.τ).loc Cert.SgReferenceIdeal.main_arg5) = m' ((c.tc : Thread Cert.SgReferenceIdeal.nD Cert.SgReferenceIdeal.τ).loc Cert.SgReferenceIdeal.main_arg5)
          ∧ r.2.mem ((c.tc : Thread Cert.SgReferenceIdeal.nD Cert.SgReferenceIdeal.τ).loc Cert.SgReferenceIdeal.main_arg6) = m' ((c.tc : Thread Cert.SgReferenceIdeal.nD Cert.SgReferenceIdeal.τ).loc Cert.SgReferenceIdeal.main_arg6)
          ∧ r.2.mem ((c.tc : Thread Cert.SgReferenceIdeal.nD Cert.SgReferenceIdeal.τ).loc Cert.SgReferenceIdeal.main_arg7) = m' ((c.tc : Thread Cert.SgReferenceIdeal.nD Cert.SgReferenceIdeal.τ).loc Cert.SgReferenceIdeal.main_arg7))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hPle : Cert.Ple.Facts) (hPleIdeal : Cert.PleIdeal.Facts) (hPleReferenceIdeal : Cert.PleReferenceIdeal.Facts) (hPleFirst : Cert.PleFirst.Facts) (hPleFirstIdeal : Cert.PleFirstIdeal.Facts) (hPleFirstReferenceIdeal : Cert.PleFirstReferenceIdeal.Facts) (hSg : Cert.Sg.Facts) (hSgIdeal : Cert.SgIdeal.Facts) (hSgReferenceIdeal : Cert.SgReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Ple (hPle := hPle)
    ∧ quiescent_PleIdeal (hPleIdeal := hPleIdeal)
    ∧ quiescent_PleReferenceIdeal (hPleReferenceIdeal := hPleReferenceIdeal)
    ∧ quiescent_PleFirst (hPleFirst := hPleFirst)
    ∧ quiescent_PleFirstIdeal (hPleFirstIdeal := hPleFirstIdeal)
    ∧ quiescent_PleFirstReferenceIdeal (hPleFirstReferenceIdeal := hPleFirstReferenceIdeal)
    ∧ quiescent_Sg (hSg := hSg)
    ∧ quiescent_SgIdeal (hSgIdeal := hSgIdeal)
    ∧ quiescent_SgReferenceIdeal (hSgReferenceIdeal := hSgReferenceIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
    ∧ preserves_Ple_PleIdeal
    ∧ algebraic_PleIdeal_PleReferenceIdeal (hPleIdeal := hPleIdeal) (hPleReferenceIdeal := hPleReferenceIdeal)
    ∧ preserves_PleFirst_PleFirstIdeal
    ∧ algebraic_PleFirstIdeal_PleFirstReferenceIdeal (hPleFirstIdeal := hPleFirstIdeal) (hPleFirstReferenceIdeal := hPleFirstReferenceIdeal)
    ∧ preserves_Sg_SgIdeal
    ∧ algebraic_SgIdeal_SgReferenceIdeal (hSgIdeal := hSgIdeal) (hSgReferenceIdeal := hSgReferenceIdeal)
-- ==== Kernel.lean ====
abbrev S8192x2048 : Shape := ⟨2, ![8192, 2048]⟩
abbrev S2x2048 : Shape := ⟨2, ![2, 2048]⟩
abbrev S2x2048x5136 : Shape := ⟨3, ![2, 2048, 5136]⟩
abbrev S2x16x512 : Shape := ⟨3, ![2, 16, 512]⟩
abbrev S2x512 : Shape := ⟨2, ![2, 512]⟩
abbrev S2x1024 : Shape := ⟨2, ![2, 1024]⟩
abbrev S2x2048x2048 : Shape := ⟨3, ![2, 2048, 2048]⟩
abbrev S2x1x2048 : Shape := ⟨3, ![2, 1, 2048]⟩
abbrev S2x1x512 : Shape := ⟨3, ![2, 1, 512]⟩
abbrev S2x1x1024 : Shape := ⟨3, ![2, 1, 1024]⟩
abbrev S8192x1024 : Shape := ⟨2, ![8192, 1024]⟩
abbrev S2048x2048 : Shape := ⟨2, ![2048, 2048]⟩
abbrev S256x2048 : Shape := ⟨2, ![256, 2048]⟩
abbrev S1x1x2048 : Shape := ⟨3, ![1, 1, 2048]⟩
abbrev S1x2048x5136 : Shape := ⟨3, ![1, 2048, 5136]⟩
abbrev S1x16x512 : Shape := ⟨3, ![1, 16, 512]⟩
abbrev S1x1x512 : Shape := ⟨3, ![1, 1, 512]⟩
abbrev S1x1x1024 : Shape := ⟨3, ![1, 1, 1024]⟩
abbrev S1x64x2048 : Shape := ⟨3, ![1, 64, 2048]⟩
abbrev S256x1024 : Shape := ⟨2, ![256, 1024]⟩
abbrev S64x2048 : Shape := ⟨2, ![64, 2048]⟩
abbrev S256x3072 : Shape := ⟨2, ![256, 3072]⟩
abbrev S256x16 : Shape := ⟨2, ![256, 16]⟩
abbrev S4x256x128 : Shape := ⟨3, ![4, 256, 128]⟩
abbrev S1x2048 : Shape := ⟨2, ![1, 2048]⟩
abbrev S256 : Shape := ⟨1, ![256]⟩
abbrev S256x1 : Shape := ⟨2, ![256, 1]⟩
abbrev S1x2048x16 : Shape := ⟨3, ![1, 2048, 16]⟩
abbrev S2048x16 : Shape := ⟨2, ![2048, 16]⟩
abbrev S64x64 : Shape := ⟨2, ![64, 64]⟩
abbrev S16x512 : Shape := ⟨2, ![16, 512]⟩
abbrev S1x512 : Shape := ⟨2, ![1, 512]⟩
abbrev S1x2048x256 : Shape := ⟨3, ![1, 2048, 256]⟩
abbrev S2048x256 : Shape := ⟨2, ![2048, 256]⟩
abbrev S256x256 : Shape := ⟨2, ![256, 256]⟩
abbrev S64x16 : Shape := ⟨2, ![64, 16]⟩
abbrev S64x512 : Shape := ⟨2, ![64, 512]⟩
abbrev S64x128 : Shape := ⟨2, ![64, 128]⟩
abbrev S64x256 : Shape := ⟨2, ![64, 256]⟩
abbrev S1x128 : Shape := ⟨2, ![1, 128]⟩
abbrev S1x256x128 : Shape := ⟨3, ![1, 256, 128]⟩
abbrev S256x128 : Shape := ⟨2, ![256, 128]⟩
abbrev S1x64x128 : Shape := ⟨3, ![1, 64, 128]⟩
abbrev S1x1x128 : Shape := ⟨3, ![1, 1, 128]⟩
abbrev S2x32x128 : Shape := ⟨3, ![2, 32, 128]⟩
abbrev S2x1x128 : Shape := ⟨3, ![2, 1, 128]⟩
abbrev S4x16x128 : Shape := ⟨3, ![4, 16, 128]⟩
abbrev S4x1x128 : Shape := ⟨3, ![4, 1, 128]⟩
abbrev S8x8x128 : Shape := ⟨3, ![8, 8, 128]⟩
abbrev S8x1x128 : Shape := ⟨3, ![8, 1, 128]⟩
abbrev S64 : Shape := ⟨1, ![64]⟩
abbrev S64x1 : Shape := ⟨2, ![64, 1]⟩
abbrev S1x1x256 : Shape := ⟨3, ![1, 1, 256]⟩
abbrev S1x256 : Shape := ⟨2, ![1, 256]⟩

abbrev nBuf : Space → Nat
  | .hbm => 18
  | .vmem => 28
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2x2048, .f32⟩
  | .hbm, ⟨3, _⟩ => ⟨S2x2048x5136, .f32⟩
  | .hbm, ⟨4, _⟩ => ⟨S2x16x512, .f32⟩
  | .hbm, ⟨5, _⟩ => ⟨S2x512, .f32⟩
  | .hbm, ⟨6, _⟩ => ⟨S2x1024, .f32⟩
  | .hbm, ⟨7, _⟩ => ⟨S2x2048x2048, .f32⟩
  | .hbm, ⟨8, _⟩ => ⟨S2x2048x2048, .f32⟩
  | .hbm, ⟨9, _⟩ => ⟨S2x1x2048, .f32⟩
  | .hbm, ⟨10, _⟩ => ⟨S2x2048x5136, .bf16⟩
  | .hbm, ⟨11, _⟩ => ⟨S2x1x512, .f32⟩
  | .hbm, ⟨12, _⟩ => ⟨S2x1x1024, .f32⟩
  | .hbm, ⟨13, _⟩ => ⟨S8192x2048, .f32⟩
  | .hbm, ⟨14, _⟩ => ⟨S8192x2048, .f32⟩
  | .hbm, ⟨15, _⟩ => ⟨S8192x1024, .bf16⟩
  | .hbm, ⟨16, _⟩ => ⟨S2048x2048, .bf16⟩
  | .hbm, ⟨17, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x1x2048, .f32⟩
  | .local _ .vmem, ⟨5, _⟩ => ⟨S1x2048x5136, .bf16⟩
  | .local _ .vmem, ⟨6, _⟩ => ⟨S1x16x512, .f32⟩
  | .local _ .vmem, ⟨7, _⟩ => ⟨S1x1x512, .f32⟩
  | .local _ .vmem, ⟨8, _⟩ => ⟨S1x1x1024, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x1024, .bf16⟩
  | .local _ .vmem, ⟨18, _⟩ => ⟨S256x1024, .bf16⟩
  | .local _ .vmem, ⟨19, _⟩ => ⟨S64x2048, .bf16⟩
  | .local _ .vmem, ⟨20, _⟩ => ⟨S64x2048, .bf16⟩
  | .local _ .vmem, ⟨21, _⟩ => ⟨S64x2048, .bf16⟩
  | .local _ .vmem, ⟨22, _⟩ => ⟨S64x2048, .bf16⟩
  | .local _ .vmem, ⟨23, _⟩ => ⟨S256x3072, .f32⟩
  | .local _ .vmem, ⟨24, _⟩ => ⟨S256x16, .f32⟩
  | .local _ .vmem, ⟨25, _⟩ => ⟨S256x3072, .f32⟩
  | .local _ .vmem, ⟨26, _⟩ => ⟨S256x16, .f32⟩
  | .local _ .vmem, ⟨27, _⟩ => ⟨S4x256x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x5136 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
variable {F : FTy → Type} [FloatOps F] [Named F]
def κ : String → Option EReal := fun
  | "log2e_over_tau" => some (((Real.log 2)⁻¹ * 16⁻¹ : ℝ) : EReal)
  | _ => none
-- ==== ReferenceIdeal.lean ====
abbrev S8192x2048 : Shape := ⟨2, ![8192, 2048]⟩
abbrev S2x2048 : Shape := ⟨2, ![2, 2048]⟩
abbrev S2x2048x5136 : Shape := ⟨3, ![2, 2048, 5136]⟩
abbrev S2x16x512 : Shape := ⟨3, ![2, 16, 512]⟩
abbrev S2x512 : Shape := ⟨2, ![2, 512]⟩
abbrev S2x1024 : Shape := ⟨2, ![2, 1024]⟩
abbrev S2x2048x2048 : Shape := ⟨3, ![2, 2048, 2048]⟩
abbrev S2x4096x2048 : Shape := ⟨3, ![2, 4096, 2048]⟩
abbrev S_ : Shape := ⟨0, ![]⟩
abbrev S2x4096 : Shape := ⟨2, ![2, 4096]⟩
abbrev S2x4096x1 : Shape := ⟨3, ![2, 4096, 1]⟩
abbrev S1x2048 : Shape := ⟨2, ![1, 2048]⟩
abbrev S2048 : Shape := ⟨1, ![2048]⟩
abbrev S1x1x2048 : Shape := ⟨3, ![1, 1, 2048]⟩
abbrev S1x2048x5136 : Shape := ⟨3, ![1, 2048, 5136]⟩
abbrev S2048x5136 : Shape := ⟨2, ![2048, 5136]⟩
abbrev S2x4096x5136 : Shape := ⟨3, ![2, 4096, 5136]⟩
abbrev S2x4096x512 : Shape := ⟨3, ![2, 4096, 512]⟩
abbrev S2x4096x1024 : Shape := ⟨3, ![2, 4096, 1024]⟩
abbrev S2x4096x16 : Shape := ⟨3, ![2, 4096, 16]⟩
abbrev S1x16x512 : Shape := ⟨3, ![1, 16, 512]⟩
abbrev S16x512 : Shape := ⟨2, ![16, 512]⟩
abbrev S1x512 : Shape := ⟨2, ![1, 512]⟩
abbrev S512 : Shape := ⟨1, ![512]⟩
abbrev S1x1x512 : Shape := ⟨3, ![1, 1, 512]⟩
abbrev S2x4096x4x128 : Shape := ⟨4, ![2, 4096, 4, 128]⟩
abbrev S2x4x4096x128 : Shape := ⟨4, ![2, 4, 4096, 128]⟩
abbrev S2x4x64x64x128 : Shape := ⟨5, ![2, 4, 64, 64, 128]⟩
abbrev S64x2x4x64x128 : Shape := ⟨5, ![64, 2, 4, 64, 128]⟩
abbrev S2x4096x4x256 : Shape := ⟨4, ![2, 4096, 4, 256]⟩
abbrev S2x4x4096x256 : Shape := ⟨4, ![2, 4, 4096, 256]⟩
abbrev S2x4x64x64x256 : Shape := ⟨5, ![2, 4, 64, 64, 256]⟩
abbrev S64x2x4x64x256 : Shape := ⟨5, ![64, 2, 4, 64, 256]⟩
abbrev S64x64 : Shape := ⟨2, ![64, 64]⟩
abbrev S64x64x1 : Shape := ⟨3, ![64, 64, 1]⟩
abbrev S2x4x128x256 : Shape := ⟨4, ![2, 4, 128, 256]⟩
abbrev S1x2x4x64x128 : Shape := ⟨5, ![1, 2, 4, 64, 128]⟩
abbrev S2x4x64x128 : Shape := ⟨4, ![2, 4, 64, 128]⟩
abbrev S1x2x4x64x256 : Shape := ⟨5, ![1, 2, 4, 64, 256]⟩
abbrev S2x4x64x256 : Shape := ⟨4, ![2, 4, 64, 256]⟩
abbrev S2x4x64x1x128 : Shape := ⟨5, ![2, 4, 64, 1, 128]⟩
abbrev S2x4x1x64x128 : Shape := ⟨5, ![2, 4, 1, 64, 128]⟩
abbrev S2x4x64x64 : Shape := ⟨4, ![2, 4, 64, 64]⟩
abbrev S2x4x1x128 : Shape := ⟨4, ![2, 4, 1, 128]⟩
abbrev S2x4x128 : Shape := ⟨3, ![2, 4, 128]⟩
abbrev S2x4x128x1 : Shape := ⟨4, ![2, 4, 128, 1]⟩
abbrev S2x4096x4 : Shape := ⟨3, ![2, 4096, 4]⟩
abbrev S2x4096x4x1 : Shape := ⟨4, ![2, 4096, 4, 1]⟩
abbrev S1x1024 : Shape := ⟨2, ![1, 1024]⟩
abbrev S1024 : Shape := ⟨1, ![1024]⟩
abbrev S4x256 : Shape := ⟨2, ![4, 256]⟩
abbrev S1x1x4x256 : Shape := ⟨4, ![1, 1, 4, 256]⟩
abbrev S8192x1024 : Shape := ⟨2, ![8192, 1024]⟩
abbrev S1x2048x2048 : Shape := ⟨3, ![1, 2048, 2048]⟩
abbrev S2048x2048 : Shape := ⟨2, ![2048, 2048]⟩

abbrev nBuf : Space → Nat
  | .hbm => 225
  | .vmem => 0
  | .smem => 0
  | _ => 0

abbrev hbmTy0_0 (i : Nat) : BufTy := match i % 128 with
  | 0 => ⟨S8192x2048, .f32⟩
  | 1 => ⟨S8192x2048, .f32⟩
  | 2 => ⟨S2x2048, .f32⟩
  | 3 => ⟨S2x2048x5136, .f32⟩
  | 4 => ⟨S2x16x512, .f32⟩
  | 5 => ⟨S2x512, .f32⟩
  | 6 => ⟨S2x1024, .f32⟩
  | 7 => ⟨S2x2048x2048, .f32⟩
  | 8 => ⟨S2x2048x2048, .f32⟩
  | 9 => ⟨S8192x2048, .f32⟩
  | 10 => ⟨S2x4096x2048, .f32⟩
  | 11 => ⟨S2x4096x2048, .f32⟩
  | 12 => ⟨S_, .f32⟩
  | 13 => ⟨S2x4096, .f32⟩
  | 14 => ⟨S2x4096x1, .f32⟩
  | 15 => ⟨S_, .f32⟩
  | 16 => ⟨S2x4096x1, .f32⟩
  | 17 => ⟨S2x4096x1, .f32⟩
  | 18 => ⟨S_, .f32⟩
  | 19 => ⟨S2x4096x1, .f32⟩
  | 20 => ⟨S2x4096x1, .f32⟩
  | 21 => ⟨S2x4096x1, .f32⟩
  | 22 => ⟨S2x4096x2048, .f32⟩
  | 23 => ⟨S2x4096x2048, .f32⟩
  | 24 => ⟨S1x2048, .f32⟩
  | 25 => ⟨S2048, .f32⟩
  | 26 => ⟨S1x1x2048, .f32⟩
  | 27 => ⟨S2x4096x2048, .f32⟩
  | 28 => ⟨S2x4096x2048, .f32⟩
  | 29 => ⟨S1x2048x5136, .f32⟩
  | 30 => ⟨S2048x5136, .f32⟩
  | 31 => ⟨S2x4096x5136, .f32⟩
  | 32 => ⟨S2x4096x2048, .f32⟩
  | 33 => ⟨S2x4096x512, .f32⟩
  | 34 => ⟨S2x4096x512, .f32⟩
  | 35 => ⟨S2x4096x1024, .f32⟩
  | 36 => ⟨S2x4096x1024, .f32⟩
  | 37 => ⟨S2x4096x16, .f32⟩
  | 38 => ⟨S1x16x512, .f32⟩
  | 39 => ⟨S16x512, .f32⟩
  | 40 => ⟨S2x4096x512, .f32⟩
  | 41 => ⟨S1x512, .f32⟩
  | 42 => ⟨S512, .f32⟩
  | 43 => ⟨S1x1x512, .f32⟩
  | 44 => ⟨S2x4096x512, .f32⟩
  | 45 => ⟨S2x4096x512, .f32⟩
  | 46 => ⟨S2x4096x512, .f32⟩
  | 47 => ⟨S_, .f32⟩
  | 48 => ⟨S2x4096x512, .f32⟩
  | 49 => ⟨S2x4096x512, .f32⟩
  | 50 => ⟨S2x4096x512, .f32⟩
  | 51 => ⟨S2x4096x512, .f32⟩
  | 52 => ⟨S2x4096x512, .i1⟩
  | 53 => ⟨S2x4096x512, .f32⟩
  | 54 => ⟨S2x4096x512, .f32⟩
  | 55 => ⟨S2x4096x512, .f32⟩
  | 56 => ⟨S2x4096x512, .f32⟩
  | 57 => ⟨S2x4096x512, .f32⟩
  | 58 => ⟨S2x4096x512, .f32⟩
  | 59 => ⟨S2x4096x512, .f32⟩
  | 60 => ⟨S2x4096x512, .f32⟩
  | 61 => ⟨S2x4096x512, .f32⟩
  | 62 => ⟨S_, .f32⟩
  | 63 => ⟨S2x4096x512, .f32⟩
  | 64 => ⟨S2x4096x512, .f32⟩
  | 65 => ⟨S_, .f32⟩
  | 66 => ⟨S2x4096x512, .f32⟩
  | 67 => ⟨S2x4096x512, .f32⟩
  | 68 => ⟨S2x4096x4x128, .f32⟩
  | 69 => ⟨S2x4x4096x128, .f32⟩
  | 70 => ⟨S2x4x64x64x128, .f32⟩
  | 71 => ⟨S64x2x4x64x128, .f32⟩
  | 72 => ⟨S2x4096x4x128, .f32⟩
  | 73 => ⟨S2x4x4096x128, .f32⟩
  | 74 => ⟨S2x4x64x64x128, .f32⟩
  | 75 => ⟨S64x2x4x64x128, .f32⟩
  | 76 => ⟨S2x4096x4x256, .f32⟩
  | 77 => ⟨S2x4x4096x256, .f32⟩
  | 78 => ⟨S2x4x64x64x256, .f32⟩
  | 79 => ⟨S64x2x4x64x256, .f32⟩
  | 80 => ⟨S2x4096x4x128, .f32⟩
  | 81 => ⟨S2x4x4096x128, .f32⟩
  | 82 => ⟨S2x4x64x64x128, .f32⟩
  | 83 => ⟨S64x2x4x64x128, .f32⟩
  | 84 => ⟨S_, .i1⟩
  | 85 => ⟨S64x64, .i1⟩
  | 86 => ⟨S64x64, .i32⟩
  | 87 => ⟨S_, .i32⟩
  | 88 => ⟨S64x64, .i32⟩
  | 89 => ⟨S64x64, .i32⟩
  | 90 => ⟨S64x64, .i32⟩
  | 91 => ⟨S64x64, .i1⟩
  | 92 => ⟨S_, .i1⟩
  | 93 => ⟨S64x64, .i1⟩
  | 94 => ⟨S64x64, .i1⟩
  | 95 => ⟨S64x64x1, .i1⟩
  | 96 => ⟨S_, .f32⟩
  | 97 => ⟨S2x4x128x256, .f32⟩
  | 98 => ⟨S_, .f32⟩
  | 99 => ⟨S64x2x4x64x256, .f32⟩
  | 100 => ⟨S_, .i32⟩
  | 101 => ⟨S64x2x4x64x128, .f32⟩
  | 102 => ⟨S64x2x4x64x128, .f32⟩
  | 103 => ⟨S64x2x4x64x256, .f32⟩
  | 104 => ⟨S64x2x4x64x128, .f32⟩
  | 105 => ⟨S64x64x1, .i1⟩
  | 106 => ⟨S_, .i32⟩
  | 107 => ⟨S2x4x128x256, .f32⟩
  | 108 => ⟨S64x2x4x64x256, .f32⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S1x2x4x64x128, .f32⟩
  | 116 => ⟨S2x4x64x128, .f32⟩
  | 117 => ⟨S_, .i32⟩
  | 118 => ⟨S_, .i32⟩
  | 119 => ⟨S_, .i32⟩
  | 120 => ⟨S_, .i32⟩
  | 121 => ⟨S1x2x4x64x128, .f32⟩
  | 122 => ⟨S2x4x64x128, .f32⟩
  | 123 => ⟨S_, .i32⟩
  | 124 => ⟨S_, .i32⟩
  | 125 => ⟨S_, .i32⟩
  | 126 => ⟨S_, .i32⟩
  | 127 => ⟨S1x2x4x64x256, .f32⟩
  | _ => ⟨S8192x2048, .f32⟩

abbrev hbmTy0_1 (i : Nat) : BufTy := match i % 128 with
  | 0 => ⟨S2x4x64x256, .f32⟩
  | 1 => ⟨S_, .i32⟩
  | 2 => ⟨S_, .i32⟩
  | 3 => ⟨S_, .i32⟩
  | 4 => ⟨S_, .i32⟩
  | 5 => ⟨S1x2x4x64x128, .f32⟩
  | 6 => ⟨S2x4x64x128, .f32⟩
  | 7 => ⟨S_, .f32⟩
  | 8 => ⟨S_, .f32⟩
  | 9 => ⟨S2x4x64x128, .f32⟩
  | 10 => ⟨S2x4x64x128, .f32⟩
  | 11 => ⟨S2x4x64x128, .f32⟩
  | 12 => ⟨S2x4x64x256, .f32⟩
  | 13 => ⟨S2x4x64x1x128, .f32⟩
  | 14 => ⟨S2x4x1x64x128, .f32⟩
  | 15 => ⟨S2x4x64x64x128, .f32⟩
  | 16 => ⟨S2x4x64x64x128, .f32⟩
  | 17 => ⟨S2x4x64x64x128, .f32⟩
  | 18 => ⟨S_, .f32⟩
  | 19 => ⟨S_, .f32⟩
  | 20 => ⟨S2x4x64x64x128, .i1⟩
  | 21 => ⟨S2x4x64x64x128, .f32⟩
  | 22 => ⟨S2x4x64x64x128, .f32⟩
  | 23 => ⟨S2x4x64x1x128, .f32⟩
  | 24 => ⟨S2x4x1x64x128, .f32⟩
  | 25 => ⟨S2x4x64x64x128, .f32⟩
  | 26 => ⟨S2x4x64x64x128, .f32⟩
  | 27 => ⟨S2x4x64x64x128, .f32⟩
  | 28 => ⟨S2x4x64x64x128, .f32⟩
  | 29 => ⟨S2x4x64x64x128, .f32⟩
  | 30 => ⟨S_, .f32⟩
  | 31 => ⟨S2x4x64x64, .f32⟩
  | 32 => ⟨S2x4x64x256, .f32⟩
  | 33 => ⟨S2x4x64x256, .f32⟩
  | 34 => ⟨S2x4x1x128, .f32⟩
  | 35 => ⟨S2x4x64x128, .f32⟩
  | 36 => ⟨S2x4x64x128, .f32⟩
  | 37 => ⟨S2x4x64x128, .f32⟩
  | 38 => ⟨S2x4x64x128, .f32⟩
  | 39 => ⟨S2x4x1x128, .f32⟩
  | 40 => ⟨S2x4x128, .f32⟩
  | 41 => ⟨S2x4x128x1, .f32⟩
  | 42 => ⟨S2x4x128x256, .f32⟩
  | 43 => ⟨S2x4x128x256, .f32⟩
  | 44 => ⟨S2x4x128x256, .f32⟩
  | 45 => ⟨S2x4x128x256, .f32⟩
  | 46 => ⟨S1x2x4x64x256, .f32⟩
  | 47 => ⟨S_, .i32⟩
  | 48 => ⟨S_, .i32⟩
  | 49 => ⟨S_, .i32⟩
  | 50 => ⟨S_, .i32⟩
  | 51 => ⟨S64x2x4x64x256, .f32⟩
  | 52 => ⟨S_, .i32⟩
  | 53 => ⟨S_, .i32⟩
  | 54 => ⟨S2x4x64x64x256, .f32⟩
  | 55 => ⟨S2x4x4096x256, .f32⟩
  | 56 => ⟨S2x4096x4x256, .f32⟩
  | 57 => ⟨S2x4096x4x256, .f32⟩
  | 58 => ⟨S_, .f32⟩
  | 59 => ⟨S2x4096x4, .f32⟩
  | 60 => ⟨S2x4096x4x1, .f32⟩
  | 61 => ⟨S_, .f32⟩
  | 62 => ⟨S2x4096x4x1, .f32⟩
  | 63 => ⟨S2x4096x4x1, .f32⟩
  | 64 => ⟨S_, .f32⟩
  | 65 => ⟨S2x4096x4x1, .f32⟩
  | 66 => ⟨S2x4096x4x1, .f32⟩
  | 67 => ⟨S2x4096x4x1, .f32⟩
  | 68 => ⟨S2x4096x4x256, .f32⟩
  | 69 => ⟨S2x4096x4x256, .f32⟩
  | 70 => ⟨S1x1024, .f32⟩
  | 71 => ⟨S1024, .f32⟩
  | 72 => ⟨S4x256, .f32⟩
  | 73 => ⟨S1x1x4x256, .f32⟩
  | 74 => ⟨S2x4096x4x256, .f32⟩
  | 75 => ⟨S2x4096x4x256, .f32⟩
  | 76 => ⟨S2x4096x1024, .f32⟩
  | 77 => ⟨S2x4096x1024, .f32⟩
  | 78 => ⟨S2x4096x1024, .f32⟩
  | 79 => ⟨S_, .f32⟩
  | 80 => ⟨S2x4096x1024, .f32⟩
  | 81 => ⟨S2x4096x1024, .f32⟩
  | 82 => ⟨S_, .f32⟩
  | 83 => ⟨S2x4096x1024, .f32⟩
  | 84 => ⟨S2x4096x1024, .f32⟩
  | 85 => ⟨S2x4096x1024, .f32⟩
  | 86 => ⟨S2x4096x1024, .f32⟩
  | 87 => ⟨S8192x2048, .f32⟩
  | 88 => ⟨S8192x2048, .f32⟩
  | 89 => ⟨S8192x1024, .f32⟩
  | 90 => ⟨S8192x1024, .bf16⟩
  | 91 => ⟨S1x2048x2048, .f32⟩
  | 92 => ⟨S2048x2048, .f32⟩
  | 93 => ⟨S2048x2048, .bf16⟩
  | 94 => ⟨S1x2048x2048, .f32⟩
  | 95 => ⟨S2048x2048, .f32⟩
  | 96 => ⟨S2048x2048, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call0_v0 : Ref sig .tc := ⟨.hbm, 46, rfl⟩
abbrev main_call0_call0_cst : Ref sig .tc := ⟨.hbm, 47, rfl⟩
abbrev main_call0_call0_v0 : Ref sig .tc := ⟨.hbm, 48, rfl⟩
abbrev main_call0_call0_v1 : Ref sig .tc := ⟨.hbm, 49, rfl⟩
abbrev main_call0_call0_v2 : Ref sig .tc := ⟨.hbm, 50, rfl⟩
abbrev main_call0_call0_v3 : Ref sig .tc := ⟨.hbm, 51, rfl⟩
abbrev main_call0_call0_v4 : Ref sig .tc := ⟨.hbm, 52, rfl⟩
abbrev main_call0_call0_v5 : Ref sig .tc := ⟨.hbm, 53, rfl⟩
abbrev main_call0_call0_v6 : Ref sig .tc := ⟨.hbm, 54, rfl⟩
abbrev main_call0_call0_v7 : Ref sig .tc := ⟨.hbm, 55, rfl⟩
abbrev main_call0_call0_v8 : Ref sig .tc := ⟨.hbm, 56, rfl⟩
abbrev main_call0_call0_v9 : Ref sig .tc := ⟨.hbm, 57, rfl⟩
abbrev main_call0_call0_v10 : Ref sig .tc := ⟨.hbm, 58, rfl⟩
abbrev main_call0_call0_v11 : Ref sig .tc := ⟨.hbm, 59, rfl⟩
abbrev main_call0_v1 : Ref sig .tc := ⟨.hbm, 60, rfl⟩
abbrev main_v34 : Ref sig .tc := ⟨.hbm, 61, rfl⟩
abbrev main_cst_2 : Ref sig .tc := ⟨.hbm, 62, rfl⟩
abbrev main_v35 : Ref sig .tc := ⟨.hbm, 63, rfl⟩
abbrev main_v36 : Ref sig .tc := ⟨.hbm, 64, rfl⟩
abbrev main_cst_3 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c : Ref sig .tc := ⟨.hbm, 84, rfl⟩
abbrev main_v55 : Ref sig .tc := ⟨.hbm, 85, rfl⟩
abbrev main_call1_v0 : Ref sig .tc := ⟨.hbm, 86, rfl⟩
abbrev main_call1_c : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_c_0 : Ref sig .tc := ⟨.hbm, 92, rfl⟩
abbrev main_call1_v5 : Ref sig .tc := ⟨.hbm, 93, rfl⟩
abbrev main_v56 : Ref sig .tc := ⟨.hbm, 94, rfl⟩
abbrev main_v57 : Ref sig .tc := ⟨.hbm, 95, rfl⟩
abbrev main_cst_4 : Ref sig .tc := ⟨.hbm, 96, rfl⟩
abbrev main_v58 : Ref sig .tc := ⟨.hbm, 97, rfl⟩
abbrev main_cst_5 : Ref sig .tc := ⟨.hbm, 98, rfl⟩
abbrev main_v59 : Ref sig .tc := ⟨.hbm, 99, rfl⟩
abbrev main_c_6 : Ref sig .tc := ⟨.hbm, 100, rfl⟩
abbrev main_v60_0 : Ref sig .tc := ⟨.hbm, 101, rfl⟩
abbrev main_v60_1 : Ref sig .tc := ⟨.hbm, 102, rfl⟩
abbrev main_v60_2 : Ref sig .tc := ⟨.hbm, 103, rfl⟩
abbrev main_v60_3 : Ref sig .tc := ⟨.hbm, 104, rfl⟩
abbrev main_v60_4 : Ref sig .tc := ⟨.hbm, 105, rfl⟩
abbrev main_v60_5 : Ref sig .tc := ⟨.hbm, 106, rfl⟩
abbrev main_v60_6 : Ref sig .tc := ⟨.hbm, 107, rfl⟩
abbrev main_v60_7 : Ref sig .tc := ⟨.hbm, 108, rfl⟩
abbrev main_while0c_c_17 : Ref sig .tc := ⟨.hbm, 109, rfl⟩
abbrev main_while0c_v93 : Ref sig .tc := ⟨.hbm, 110, rfl⟩
abbrev main_while0b_call2_c : Ref sig .tc := ⟨.hbm, 111, rfl⟩
abbrev main_while0b_call2_c_0 : Ref sig .tc := ⟨.hbm, 112, rfl⟩
abbrev main_while0b_call2_c_1 : Ref sig .tc := ⟨.hbm, 113, rfl⟩
abbrev main_while0b_call2_c_2 : Ref sig .tc := ⟨.hbm, 114, rfl⟩
abbrev main_while0b_call2_v0 : Ref sig .tc := ⟨.hbm, 115, rfl⟩
abbrev main_while0b_v93 : Ref sig .tc := ⟨.hbm, 116, rfl⟩
abbrev main_while0b_call3_c : Ref sig .tc := ⟨.hbm, 117, rfl⟩
abbrev main_while0b_call3_c_0 : Ref sig .tc := ⟨.hbm, 118, rfl⟩
abbrev main_while0b_call3_c_1 : Ref sig .tc := ⟨.hbm, 119, rfl⟩
abbrev main_while0b_call3_c_2 : Ref sig .tc := ⟨.hbm, 120, rfl⟩
abbrev main_while0b_call3_v0 : Ref sig .tc := ⟨.hbm, 121, rfl⟩
abbrev main_while0b_v94 : Ref sig .tc := ⟨.hbm, 122, rfl⟩
abbrev main_while0b_call4_c : Ref sig .tc := ⟨.hbm, 123, rfl⟩
abbrev main_while0b_call4_c_0 : Ref sig .tc := ⟨.hbm, 124, rfl⟩
abbrev main_while0b_call4_c_1 : Ref sig .tc := ⟨.hbm, 125, rfl⟩
abbrev main_while0b_call4_c_2 : Ref sig .tc := ⟨.hbm, 126, rfl⟩
abbrev main_while0b_call4_v0 : Ref sig .tc := ⟨.hbm, 127, rfl⟩
abbrev main_while0b_v95 : Ref sig .tc := ⟨.hbm, 128, rfl⟩
abbrev main_while0b_call5_c : Ref sig .tc := ⟨.hbm, 129, rfl⟩
abbrev main_while0b_call5_c_0 : Ref sig .tc := ⟨.hbm, 130, rfl⟩
abbrev main_while0b_call5_c_1 : Ref sig .tc := ⟨.hbm, 131, rfl⟩
abbrev main_while0b_call5_c_2 : Ref sig .tc := ⟨.hbm, 132, rfl⟩
abbrev main_while0b_call5_v0 : Ref sig .tc := ⟨.hbm, 133, rfl⟩
abbrev main_while0b_v96 : Ref sig .tc := ⟨.hbm, 134, rfl⟩
abbrev main_while0b_call6_call0_cst : Ref sig .tc := ⟨.hbm, 135, rfl⟩
abbrev main_while0b_call6_call0_v0 : Ref sig .tc := ⟨.hbm, 136, rfl⟩
abbrev main_while0b_v97 : Ref sig .tc := ⟨.hbm, 137, rfl⟩
abbrev main_while0b_v98 : Ref sig .tc := ⟨.hbm, 138, rfl⟩
abbrev main_while0b_v99 : Ref sig .tc := ⟨.hbm, 139, rfl⟩
abbrev main_while0b_v100 : Ref sig .tc := ⟨.hbm, 140, rfl⟩
abbrev main_while0b_v101 : Ref sig .tc := ⟨.hbm, 141, rfl⟩
abbrev main_while0b_v102 : Ref sig .tc := ⟨.hbm, 142, rfl⟩
abbrev main_while0b_v103 : Ref sig .tc := ⟨.hbm, 143, rfl⟩
abbrev main_while0b_v104 : Ref sig .tc := ⟨.hbm, 144, rfl⟩
abbrev main_while0b_v105 : Ref sig .tc := ⟨.hbm, 145, rfl⟩
abbrev main_while0b_cst_17 : Ref sig .tc := ⟨.hbm, 146, rfl⟩
abbrev main_while0b_call7_v0 : Ref sig .tc := ⟨.hbm, 147, rfl⟩
abbrev main_while0b_call7_v1 : Ref sig .tc := ⟨.hbm, 148, rfl⟩
abbrev main_while0b_call7_v2 : Ref sig .tc := ⟨.hbm, 149, rfl⟩
abbrev main_while0b_v106 : Ref sig .tc := ⟨.hbm, 150, rfl⟩
abbrev main_while0b_v107 : Ref sig .tc := ⟨.hbm, 151, rfl⟩
abbrev main_while0b_v108 : Ref sig .tc := ⟨.hbm, 152, rfl⟩
abbrev main_while0b_v109 : Ref sig .tc := ⟨.hbm, 153, rfl⟩
abbrev main_while0b_v110 : Ref sig .tc := ⟨.hbm, 154, rfl⟩
abbrev main_while0b_v111 : Ref sig .tc := ⟨.hbm, 155, rfl⟩
abbrev main_while0b_v112 : Ref sig .tc := ⟨.hbm, 156, rfl⟩
abbrev main_while0b_v113 : Ref sig .tc := ⟨.hbm, 157, rfl⟩
abbrev main_while0b_cst_18 : Ref sig .tc := ⟨.hbm, 158, rfl⟩
abbrev main_while0b_v114 : Ref sig .tc := ⟨.hbm, 159, rfl⟩
abbrev main_while0b_v115 : Ref sig .tc := ⟨.hbm, 160, rfl⟩
abbrev main_while0b_v116 : Ref sig .tc := ⟨.hbm, 161, rfl⟩
abbrev main_while0b_v117 : Ref sig .tc := ⟨.hbm, 162, rfl⟩
abbrev main_while0b_v118 : Ref sig .tc := ⟨.hbm, 163, rfl⟩
abbrev main_while0b_v119 : Ref sig .tc := ⟨.hbm, 164, rfl⟩
abbrev main_while0b_v120 : Ref sig .tc := ⟨.hbm, 165, rfl⟩
abbrev main_while0b_v121 : Ref sig .tc := ⟨.hbm, 166, rfl⟩
abbrev main_while0b_v122 : Ref sig .tc := ⟨.hbm, 167, rfl⟩
abbrev main_while0b_v123 : Ref sig .tc := ⟨.hbm, 168, rfl⟩
abbrev main_while0b_v124 : Ref sig .tc := ⟨.hbm, 169, rfl⟩
abbrev main_while0b_v125 : Ref sig .tc := ⟨.hbm, 170, rfl⟩
abbrev main_while0b_v126 : Ref sig .tc := ⟨.hbm, 171, rfl⟩
abbrev main_while0b_v127 : Ref sig .tc := ⟨.hbm, 172, rfl⟩
abbrev main_while0b_v128 : Ref sig .tc := ⟨.hbm, 173, rfl⟩
abbrev main_while0b_call8_v0 : Ref sig .tc := ⟨.hbm, 174, rfl⟩
abbrev main_while0b_call8_c : Ref sig .tc := ⟨.hbm, 175, rfl⟩
abbrev main_while0b_call8_c_0 : Ref sig .tc := ⟨.hbm, 176, rfl⟩
abbrev main_while0b_call8_c_1 : Ref sig .tc := ⟨.hbm, 177, rfl⟩
abbrev main_while0b_call8_c_2 : Ref sig .tc := ⟨.hbm, 178, rfl⟩
abbrev main_while0b_v129 : Ref sig .tc := ⟨.hbm, 179, rfl⟩
abbrev main_while0b_c_19 : Ref sig .tc := ⟨.hbm, 180, rfl⟩
abbrev main_while0b_v130 : Ref sig .tc := ⟨.hbm, 181, rfl⟩
abbrev main_v61 : Ref sig .tc := ⟨.hbm, 182, rfl⟩
abbrev main_v62 : Ref sig .tc := ⟨.hbm, 183, rfl⟩
abbrev main_v63 : Ref sig .tc := ⟨.hbm, 184, rfl⟩
abbrev main_v64 : Ref sig .tc := ⟨.hbm, 185, rfl⟩
abbrev main_cst_7 : Ref sig .tc := ⟨.hbm, 186, rfl⟩
abbrev main_v65 : Ref sig .tc := ⟨.hbm, 187, rfl⟩
abbrev main_v66 : Ref sig .tc := ⟨.hbm, 188, rfl⟩
abbrev main_cst_8 : Ref sig .tc := ⟨.hbm, 189, rfl⟩
abbrev main_v67 : Ref sig .tc := ⟨.hbm, 190, rfl⟩
abbrev main_v68 : Ref sig .tc := ⟨.hbm, 191, rfl⟩
abbrev main_cst_9 : Ref sig .tc := ⟨.hbm, 192, rfl⟩
abbrev main_v69 : Ref sig .tc := ⟨.hbm, 193, rfl⟩
abbrev main_v70 : Ref sig .tc := ⟨.hbm, 194, rfl⟩
abbrev main_v71 : Ref sig .tc := ⟨.hbm, 195, rfl⟩
abbrev main_v72 : Ref sig .tc := ⟨.hbm, 196, rfl⟩
abbrev main_v73 : Ref sig .tc := ⟨.hbm, 197, rfl⟩
abbrev main_v74 : Ref sig .tc := ⟨.hbm, 198, rfl⟩
abbrev main_v75 : Ref sig .tc := ⟨.hbm, 199, rfl⟩
abbrev main_v76 : Ref sig .tc := ⟨.hbm, 200, rfl⟩
abbrev main_v77 : Ref sig .tc := ⟨.hbm, 201, rfl⟩
abbrev main_v78 : Ref sig .tc := ⟨.hbm, 202, rfl⟩
abbrev main_v79 : Ref sig .tc := ⟨.hbm, 203, rfl⟩
abbrev main_v80 : Ref sig .tc := ⟨.hbm, 204, rfl⟩
abbrev main_call9_v0 : Ref sig .tc := ⟨.hbm, 205, rfl⟩
abbrev main_call9_v1 : Ref sig .tc := ⟨.hbm, 206, rfl⟩
abbrev main_call9_cst : Ref sig .tc := ⟨.hbm, 207, rfl⟩
abbrev main_call9_v2 : Ref sig .tc := ⟨.hbm, 208, rfl⟩
abbrev main_call9_v3 : Ref sig .tc := ⟨.hbm, 209, rfl⟩
abbrev main_call9_cst_0 : Ref sig .tc := ⟨.hbm, 210, rfl⟩
abbrev main_call9_v4 : Ref sig .tc := ⟨.hbm, 211, rfl⟩
abbrev main_call9_v5 : Ref sig .tc := ⟨.hbm, 212, rfl⟩
abbrev main_v81 : Ref sig .tc := ⟨.hbm, 213, rfl⟩
abbrev main_v82 : Ref sig .tc := ⟨.hbm, 214, rfl⟩
abbrev main_v83 : Ref sig .tc := ⟨.hbm, 215, rfl⟩
abbrev main_v84 : Ref sig .tc := ⟨.hbm, 216, rfl⟩
abbrev main_v85 : Ref sig .tc := ⟨.hbm, 217, rfl⟩
abbrev main_v86 : Ref sig .tc := ⟨.hbm, 218, rfl⟩
abbrev main_v87 : Ref sig .tc := ⟨.hbm, 219, rfl⟩
abbrev main_v88 : Ref sig .tc := ⟨.hbm, 220, rfl⟩
abbrev main_v89 : Ref sig .tc := ⟨.hbm, 221, rfl⟩
abbrev main_v90 : Ref sig .tc := ⟨.hbm, 222, rfl⟩
abbrev main_v91 : Ref sig .tc := ⟨.hbm, 223, rfl⟩
abbrev main_v92 : Ref sig .tc := ⟨.hbm, 224, rfl⟩

abbrev nD : Nat := 1
abbrev τ : Topo := Topo.v7x

variable {F : FTy → Type} [FloatOps F]

abbrev main_while0_count : Scf.Loop 32 := ⟨0#32, 64#32, 1#32⟩
-- ==== Ffn.lean ====
abbrev S8192x2048 : Shape := ⟨2, ![8192, 2048]⟩
abbrev S2x2048x11264 : Shape := ⟨3, ![2, 2048, 11264]⟩
abbrev S2x5632x2048 : Shape := ⟨3, ![2, 5632, 2048]⟩
abbrev S1024x2048 : Shape := ⟨2, ![1024, 2048]⟩
abbrev S1x512x2048 : Shape := ⟨3, ![1, 512, 2048]⟩
abbrev S3x2x2048x512 : Shape := ⟨4, ![3, 2, 2048, 512]⟩
abbrev S3x2 : Shape := ⟨2, ![3, 2]⟩
abbrev S1x1 : Shape := ⟨2, ![1, 1]⟩
abbrev S_ : Shape := ⟨0, ![]⟩
abbrev S1x1x2048x512 : Shape := ⟨4, ![1, 1, 2048, 512]⟩
abbrev S2048x512 : Shape := ⟨2, ![2048, 512]⟩
abbrev S1x2048x512 : Shape := ⟨3, ![1, 2048, 512]⟩
abbrev S1024x512 : Shape := ⟨2, ![1024, 512]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x11264, .f32⟩
  | .hbm, ⟨2, _⟩ => ⟨S2x5632x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x512x2048, .f32⟩
  | .local _ .vmem, ⟨3, _⟩ => ⟨S1x512x2048, .f32⟩
  | .local _ .vmem, ⟨4, _⟩ => ⟨S1024x2048, .f32⟩
  | .local _ .vmem, ⟨5, _⟩ => ⟨S1024x2048, .f32⟩
  | .local _ .vmem, ⟨6, _⟩ => ⟨S3x2x2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_mult1 : BitVec 32 :=
  let c0_i32_35 : BitVec 32 := 0#32
  let c11_i32_36 : BitVec 32 := 11#32
  let v57 : BitVec 32 := Scalar.remsi c0_i32_35 c11_i32_36
  let c0_i32_37 : BitVec 32 := 0#32
  let v58 : BitVec 32 := Scalar.addi v57 c0_i32_37
  let c512_i32_38 : BitVec 32 := 512#32
  let v59 : BitVec 32 := Scalar.muli v58 c512_i32_38
  v59
def k0_mult2 : BitVec 32 :=
  let c0_i32_35 : BitVec 32 := 0#32
  let c11_i32_36 : BitVec 32 := 11#32
  let v57 : BitVec 32 := Scalar.remsi c0_i32_35 c11_i32_36
  let c11_i32_39 : BitVec 32 := 11#32
  let v61 : BitVec 32 := Scalar.addi v57 c11_i32_39
  let c512_i32_40 : BitVec 32 := 512#32
  let v62 : BitVec 32 := Scalar.muli v61 c512_i32_40
  v62
def k0_off1 (c0_i32_35 : BitVec 32) (c0_i32_37 : BitVec 32) : Fin 3 → Nat :=
  let c0_i32_41 : BitVec 32 := 0#32
  let c0_i32_48 : BitVec 32 := 0#32
  let c11_i32_36 : BitVec 32 := 11#32
  let v57 : BitVec 32 := Scalar.remsi c0_i32_35 c11_i32_36
  let v58 : BitVec 32 := Scalar.addi v57 c0_i32_37
  let c512_i32_38 : BitVec 32 := 512#32
  let v59 : BitVec 32 := Scalar.muli v58 c512_i32_38
  let v60 : BitVec 32 := v59
  ![0, 0, v60.toNat]
def k0_mult3 : BitVec 32 :=
  let c1_i32_57 : BitVec 32 := 1#32
  let c11_i32_58 : BitVec 32 := 11#32
  let v76 : BitVec 32 := Scalar.remsi c1_i32_57 c11_i32_58
  let c0_i32_59 : BitVec 32 := 0#32
  let v77 : BitVec 32 := Scalar.addi v76 c0_i32_59
  let c512_i32_60 : BitVec 32 := 512#32
  let v78 : BitVec 32 := Scalar.muli v77 c512_i32_60
  v78
def k0_mult4 : BitVec 32 :=
  let c1_i32_57 : BitVec 32 := 1#32
  let c11_i32_58 : BitVec 32 := 11#32
  let v76 : BitVec 32 := Scalar.remsi c1_i32_57 c11_i32_58
  let c11_i32_61 : BitVec 32 := 11#32
  let v80 : BitVec 32 := Scalar.addi v76 c11_i32_61
  let c512_i32_62 : BitVec 32 := 512#32
  let v81 : BitVec 32 := Scalar.muli v80 c512_i32_62
  v81
def k0_cond2 (i : grid0.Coords) : BitVec 1 :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c2_i32 : BitVec 32 := 2#32
  let v5 : BitVec 32 := Scalar.addi v1 c2_i32
  let c88_i32 : BitVec 32 := 88#32
  let v6 : BitVec 1 := Scalar.cmpi .slt v5 c88_i32
  let v7 : BitVec 32 := Scalar.extui v6
  let c0_i32_1 : BitVec 32 := 0#32
  let v8 : BitVec 1 := Scalar.cmpi .ne v7 c0_i32_1
  v8

def k0_mult5 (i : grid0.Coords) : BitVec 32 :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c2_i32 : BitVec 32 := 2#32
  let v5 : BitVec 32 := Scalar.addi v1 c2_i32
  let c11_i32_36 : BitVec 32 := 11#32
  let v58 : BitVec 32 := Scalar.remsi v5 c11_i32_36
  let c0_i32_37 : BitVec 32 := 0#32
  let v59 : BitVec 32 := Scalar.addi v58 c0_i32_37
  let c512_i32_38 : BitVec 32 := 512#32
  let v60 : BitVec 32 := Scalar.muli v59 c512_i32_38
  v60
def k0_mult6 (i : grid0.Coords) : BitVec 32 :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c2_i32 : BitVec 32 := 2#32
  let v5 : BitVec 32 := Scalar.addi v1 c2_i32
  let c11_i32_36 : BitVec 32 := 11#32
  let v58 : BitVec 32 := Scalar.remsi v5 c11_i32_36
  let c11_i32_39 : BitVec 32 := 11#32
  let v62 : BitVec 32 := Scalar.addi v58 c11_i32_39
  let c512_i32_40 : BitVec 32 := 512#32
  let v63 : BitVec 32 := Scalar.muli v62 c512_i32_40
  v63
def k0_off2 (i : grid0.Coords) : Fin 2 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c2_i32 : BitVec 32 := 2#32
  let v5 : BitVec 32 := Scalar.addi v1 c2_i32
  let c3_i32_35 : BitVec 32 := 3#32
  let v57 : BitVec 32 := Scalar.remsi v5 c3_i32_35
  let c0_i32_43 : BitVec 32 := 0#32
  ![v57.toNat, 0]
def k0_off3 (i : grid0.Coords) : Fin 4 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c2_i32 : BitVec 32 := 2#32
  let v5 : BitVec 32 := Scalar.addi v1 c2_i32
  let c3_i32_35 : BitVec 32 := 3#32
  let v57 : BitVec 32 := Scalar.remsi v5 c3_i32_35
  let c0_i32_42 : BitVec 32 := 0#32
  let c0_i32_44 : BitVec 32 := 0#32
  let c0_i32_45 : BitVec 32 := 0#32
  ![v57.toNat, 0, 0, 0]
def k0_off4 (i : grid0.Coords) (c0_i32_37 : BitVec 32) : Fin 3 → Nat :=
  let c0_i32_41 : BitVec 32 := 0#32
  let c0_i32_46 : BitVec 32 := 0#32
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c2_i32 : BitVec 32 := 2#32
  let v5 : BitVec 32 := Scalar.addi v1 c2_i32
  let c11_i32_36 : BitVec 32 := 11#32
  let v58 : BitVec 32 := Scalar.remsi v5 c11_i32_36
  let v59 : BitVec 32 := Scalar.addi v58 c0_i32_37
  let c512_i32_38 : BitVec 32 := 512#32
  let v60 : BitVec 32 := Scalar.muli v59 c512_i32_38
  let v61 : BitVec 32 := v60
  ![0, 0, v61.toNat]
def k0_off5 (i : grid0.Coords) : Fin 2 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c2_i32 : BitVec 32 := 2#32
  let v5 : BitVec 32 := Scalar.addi v1 c2_i32
  let c3_i32_35 : BitVec 32 := 3#32
  let v57 : BitVec 32 := Scalar.remsi v5 c3_i32_35
  let c1_i32_49 : BitVec 32 := 1#32
  ![v57.toNat, 1]
def k0_off6 (i : grid0.Coords) : Fin 4 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c2_i32 : BitVec 32 := 2#32
  let v5 : BitVec 32 := Scalar.addi v1 c2_i32
  let c3_i32_35 : BitVec 32 := 3#32
  let v57 : BitVec 32 := Scalar.remsi v5 c3_i32_35
  let c1_i32_48 : BitVec 32 := 1#32
  let c0_i32_50 : BitVec 32 := 0#32
  let c0_i32_51 : BitVec 32 := 0#32
  ![v57.toNat, 1, 0, 0]
def k0_mult7 (i : grid0.Coords) : BitVec 32 :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c11_i32_2 : BitVec 32 := 11#32
  let v10 : BitVec 32 := Scalar.remsi v1 c11_i32_2
  let c0_i32_3 : BitVec 32 := 0#32
  let v11 : BitVec 32 := Scalar.addi v10 c0_i32_3
  let c512_i32 : BitVec 32 := 512#32
  let v12 : BitVec 32 := Scalar.muli v11 c512_i32
  v12
def k0_mult8 (i : grid0.Coords) : BitVec 32 :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c11_i32_2 : BitVec 32 := 11#32
  let v10 : BitVec 32 := Scalar.remsi v1 c11_i32_2
  let c11_i32_4 : BitVec 32 := 11#32
  let v14 : BitVec 32 := Scalar.addi v10 c11_i32_4
  let c512_i32_5 : BitVec 32 := 512#32
  let v15 : BitVec 32 := Scalar.muli v14 c512_i32_5
  v15
def k0_off7 (i : grid0.Coords) : Fin 2 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32 : BitVec 32 := 3#32
  let v9 : BitVec 32 := Scalar.remsi v1 c3_i32
  let c0_i32_8 : BitVec 32 := 0#32
  ![v9.toNat, 0]
def k0_off8 (i : grid0.Coords) : Fin 4 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32 : BitVec 32 := 3#32
  let v9 : BitVec 32 := Scalar.remsi v1 c3_i32
  let c0_i32_7 : BitVec 32 := 0#32
  let c0_i32_9 : BitVec 32 := 0#32
  let c0_i32_10 : BitVec 32 := 0#32
  ![v9.toNat, 0, 0, 0]
def k0_off9 (i : grid0.Coords) (c0_i32_3 : BitVec 32) : Fin 3 → Nat :=
  let c0_i32_6 : BitVec 32 := 0#32
  let c0_i32_11 : BitVec 32 := 0#32
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c11_i32_2 : BitVec 32 := 11#32
  let v10 : BitVec 32 := Scalar.remsi v1 c11_i32_2
  let v11 : BitVec 32 := Scalar.addi v10 c0_i32_3
  let c512_i32 : BitVec 32 := 512#32
  let v12 : BitVec 32 := Scalar.muli v11 c512_i32
  let v13 : BitVec 32 := v12
  ![0, 0, v13.toNat]
def k0_off10 (i : grid0.Coords) : Fin 2 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32 : BitVec 32 := 3#32
  let v9 : BitVec 32 := Scalar.remsi v1 c3_i32
  let c1_i32_13 : BitVec 32 := 1#32
  ![v9.toNat, 1]
def k0_off11 (i : grid0.Coords) : Fin 4 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32 : BitVec 32 := 3#32
  let v9 : BitVec 32 := Scalar.remsi v1 c3_i32
  let c1_i32 : BitVec 32 := 1#32
  let c0_i32_14 : BitVec 32 := 0#32
  let c0_i32_15 : BitVec 32 := 0#32
  ![v9.toNat, 1, 0, 0]
def k0_off12 (i : grid0.Coords) : Fin 4 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32 : BitVec 32 := 3#32
  let v9 : BitVec 32 := Scalar.remsi v1 c3_i32
  let v33 : Index := Scalar.indexCast v9
  let c0_20 : Index := 0#32
  let c0_21 : Index := 0#32
  let c0_22 : Index := 0#32
  ![v33.toNat, 0, 0, 0]
def k0_off13 (i : grid0.Coords) : Fin 4 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32 : BitVec 32 := 3#32
  let v9 : BitVec 32 := Scalar.remsi v1 c3_i32
  let v38 : Index := Scalar.indexCast v9
  let c1 : Index := 1#32
  let c0_23 : Index := 0#32
  let c0_24 : Index := 0#32
  ![v38.toNat, 1, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnReferenceIdeal.lean ====
abbrev S8192x2048 : Shape := ⟨2, ![8192, 2048]⟩
abbrev S2x2048x11264 : Shape := ⟨3, ![2, 2048, 11264]⟩
abbrev S2x5632x2048 : Shape := ⟨3, ![2, 5632, 2048]⟩
abbrev S1x2048x11264 : Shape := ⟨3, ![1, 2048, 11264]⟩
abbrev S2048x11264 : Shape := ⟨2, ![2048, 11264]⟩
abbrev S8192x11264 : Shape := ⟨2, ![8192, 11264]⟩
abbrev S8192x5632 : Shape := ⟨2, ![8192, 5632]⟩
abbrev S_ : Shape := ⟨0, ![]⟩
abbrev S1x5632x2048 : Shape := ⟨3, ![1, 5632, 2048]⟩
abbrev S5632x2048 : Shape := ⟨2, ![5632, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x11264, .f32⟩
  | .hbm, ⟨2, _⟩ => ⟨S2x5632x2048, .f32⟩
  | .hbm, ⟨3, _⟩ => ⟨S8192x2048, .f32⟩
  | .hbm, ⟨4, _⟩ => ⟨S1x2048x11264, .f32⟩
  | .hbm, ⟨5, _⟩ => ⟨S2048x11264, .f32⟩
  | .hbm, ⟨6, _⟩ => ⟨S8192x11264, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S1x5632x2048, .f32⟩
  | .hbm, ⟨20, _⟩ => ⟨S5632x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Ple.lean ====
abbrev S8192x2048 : Shape := ⟨2, ![8192, 2048]⟩
abbrev S2x2048 : Shape := ⟨2, ![2, 2048]⟩
abbrev S2048x2048 : Shape := ⟨2, ![2048, 2048]⟩
abbrev S2x2x4096x256 : Shape := ⟨4, ![2, 2, 4096, 256]⟩
abbrev S2x256x2048 : Shape := ⟨3, ![2, 256, 2048]⟩
abbrev S2048 : Shape := ⟨1, ![2048]⟩
abbrev S2x1x2048 : Shape := ⟨3, ![2, 1, 2048]⟩
abbrev S2x8192x256 : Shape := ⟨3, ![2, 8192, 256]⟩
abbrev S1x2048 : Shape := ⟨2, ![1, 2048]⟩
abbrev S512x2048 : Shape := ⟨2, ![512, 2048]⟩
abbrev S1x1x2048 : Shape := ⟨3, ![1, 1, 2048]⟩
abbrev S1x512x256 : Shape := ⟨3, ![1, 512, 256]⟩
abbrev S1x256x2048 : Shape := ⟨3, ![1, 256, 2048]⟩
abbrev S3x512x2048 : Shape := ⟨3, ![3, 512, 2048]⟩
abbrev S3 : Shape := ⟨1, ![3]⟩
abbrev S1 : Shape := ⟨1, ![1]⟩
abbrev S_ : Shape := ⟨0, ![]⟩
abbrev S1x512x2048 : Shape := ⟨3, ![1, 512, 2048]⟩
abbrev S512 : Shape := ⟨1, ![512]⟩
abbrev S512x1 : Shape := ⟨2, ![512, 1]⟩
abbrev S512x256 : Shape := ⟨2, ![512, 256]⟩
abbrev S256x2048 : Shape := ⟨2, ![256, 2048]⟩

abbrev nBuf : Space → Nat
  | .hbm => 12
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2x2048, .f32⟩
  | .hbm, ⟨3, _⟩ => ⟨S2048x2048, .bf16⟩
  | .hbm, ⟨4, _⟩ => ⟨S2x2x4096x256, .f32⟩
  | .hbm, ⟨5, _⟩ => ⟨S2x256x2048, .f32⟩
  | .hbm, ⟨6, _⟩ => ⟨S2048, .f32⟩
  | .hbm, ⟨7, _⟩ => ⟨S2x1x2048, .f32⟩
  | .hbm, ⟨8, _⟩ => ⟨S2x8192x256, .f32⟩
  | .hbm, ⟨9, _⟩ => ⟨S2x256x2048, .bf16⟩
  | .hbm, ⟨10, _⟩ => ⟨S1x2048, .f32⟩
  | .hbm, ⟨11, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S2048x2048, .bf16⟩
  | .local _ .vmem, ⟨4, _⟩ => ⟨S1x512x256, .f32⟩
  | .local _ .vmem, ⟨5, _⟩ => ⟨S1x512x256, .f32⟩
  | .local _ .vmem, ⟨6, _⟩ => ⟨S1x256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S3x512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_30 : BitVec 32 := 0#32
  c0_i32_30
def k0_mult2 : BitVec 32 :=
  let c512_i32_36 : BitVec 32 := 512#32
  c512_i32_36
def k0_cond2 (i : grid0.Coords) : BitVec 1 :=
  let arg0 : BitVec 32 := BitVec.ofNat 32 (i 0).val
  let c2_i32 : BitVec 32 := 2#32
  let v3 : BitVec 32 := Scalar.addi arg0 c2_i32
  let c16_i32 : BitVec 32 := 16#32
  let v4 : BitVec 1 := Scalar.cmpi .slt v3 c16_i32
  let v5 : BitVec 32 := Scalar.extui v4
  let c0_i32_1 : BitVec 32 := 0#32
  let v6 : BitVec 1 := Scalar.cmpi .ne v5 c0_i32_1
  v6

def k0_mult3 (i : grid0.Coords) : BitVec 32 :=
  let arg0 : BitVec 32 := BitVec.ofNat 32 (i 0).val
  let c2_i32 : BitVec 32 := 2#32
  let v3 : BitVec 32 := Scalar.addi arg0 c2_i32
  let c512_i32_31 : BitVec 32 := 512#32
  let v62 : BitVec 32 := Scalar.muli v3 c512_i32_31
  v62
def k0_off1 (i : grid0.Coords) : Fin 1 → Nat :=
  let arg0 : BitVec 32 := BitVec.ofNat 32 (i 0).val
  let c2_i32 : BitVec 32 := 2#32
  let v3 : BitVec 32 := Scalar.addi arg0 c2_i32
  let c3_i32_30 : BitVec 32 := 3#32
  let v61 : BitVec 32 := Scalar.remsi v3 c3_i32_30
  ![v61.toNat]
def k0_off2 (i : grid0.Coords) : Fin 3 → Nat :=
  let arg0 : BitVec 32 := BitVec.ofNat 32 (i 0).val
  let c2_i32 : BitVec 32 := 2#32
  let v3 : BitVec 32 := Scalar.addi arg0 c2_i32
  let c3_i32_30 : BitVec 32 := 3#32
  let v61 : BitVec 32 := Scalar.remsi v3 c3_i32_30
  let c0_i32_32 : BitVec 32 := 0#32
  let c0_i32_33 : BitVec 32 := 0#32
  ![v61.toNat, 0, 0]
def k0_off3 (i : grid0.Coords) : Fin 2 → Nat :=
  let arg0 : BitVec 32 := BitVec.ofNat 32 (i 0).val
  let c2_i32 : BitVec 32 := 2#32
  let v3 : BitVec 32 := Scalar.addi arg0 c2_i32
  let c512_i32_31 : BitVec 32 := 512#32
  let v62 : BitVec 32 := Scalar.muli v3 c512_i32_31
  let v63 : BitVec 32 := v62
  let c0_i32_34 : BitVec 32 := 0#32
  ![v63.toNat, 0]
def k0_mult4 (i : grid0.Coords) : BitVec 32 :=
  let arg0 : BitVec 32 := BitVec.ofNat 32 (i 0).val
  let c512_i32 : BitVec 32 := 512#32
  let v8 : BitVec 32 := Scalar.muli arg0 c512_i32
  v8
def k0_off4 (i : grid0.Coords) : Fin 1 → Nat :=
  let arg0 : BitVec 32 := BitVec.ofNat 32 (i 0).val
  let c3_i32 : BitVec 32 := 3#32
  let v7 : BitVec 32 := Scalar.remsi arg0 c3_i32
  ![v7.toNat]
def k0_off5 (i : grid0.Coords) : Fin 3 → Nat :=
  let arg0 : BitVec 32 := BitVec.ofNat 32 (i 0).val
  let c3_i32 : BitVec 32 := 3#32
  let v7 : BitVec 32 := Scalar.remsi arg0 c3_i32
  let c0_i32_2 : BitVec 32 := 0#32
  let c0_i32_3 : BitVec 32 := 0#32
  ![v7.toNat, 0, 0]
def k0_off6 (i : grid0.Coords) : Fin 2 → Nat :=
  let arg0 : BitVec 32 := BitVec.ofNat 32 (i 0).val
  let c512_i32 : BitVec 32 := 512#32
  let v8 : BitVec 32 := Scalar.muli arg0 c512_i32
  let v9 : BitVec 32 := v8
  let c0_i32_4 : BitVec 32 := 0#32
  ![v9.toNat, 0]
def k0_off7 (i : grid0.Coords) : Fin 3 → Nat :=
  let arg0 : BitVec 32 := BitVec.ofNat 32 (i 0).val
  let c3_i32 : BitVec 32 := 3#32
  let v7 : BitVec 32 := Scalar.remsi arg0 c3_i32
  let v15 : Index := Scalar.indexCast v7
  let c0 : Index := 0#32
  let c0_5 : Index := 0#32
  ![v15.toNat, 0, 0]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleReferenceIdeal.lean ====
abbrev S8192x2048 : Shape := ⟨2, ![8192, 2048]⟩
abbrev S2x2048 : Shape := ⟨2, ![2, 2048]⟩
abbrev S2048x2048 : Shape := ⟨2, ![2048, 2048]⟩
abbrev S2x2x4096x256 : Shape := ⟨4, ![2, 2, 4096, 256]⟩
abbrev S2x256x2048 : Shape := ⟨3, ![2, 256, 2048]⟩
abbrev S2048 : Shape := ⟨1, ![2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1x2x4096x256 : Shape := ⟨4, ![1, 2, 4096, 256]⟩
abbrev S2x4096x256 : Shape := ⟨3, ![2, 4096, 256]⟩
abbrev S8192x256 : Shape := ⟨2, ![8192, 256]⟩
abbrev S1x256x2048 : Shape := ⟨3, ![1, 256, 2048]⟩
abbrev S256x2048 : Shape := ⟨2, ![256, 2048]⟩

abbrev nBuf : Space → Nat
  | .hbm => 60
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2x2048, .f32⟩
  | .hbm, ⟨3, _⟩ => ⟨S2048x2048, .bf16⟩
  | .hbm, ⟨4, _⟩ => ⟨S2x2x4096x256, .f32⟩
  | .hbm, ⟨5, _⟩ => ⟨S2x256x2048, .f32⟩
  | .hbm, ⟨6, _⟩ => ⟨S2048, .f32⟩
  | .hbm, ⟨7, _⟩ => ⟨S8192x2048, .f32⟩
  | .hbm, ⟨8, _⟩ => ⟨S1x2048, .f32⟩
  | .hbm, ⟨9, _⟩ => ⟨S2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S2048x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S1x2x4096x256, .f32⟩
  | .hbm, ⟨37, _⟩ => ⟨S2x4096x256, .f32⟩
  | .hbm, ⟨38, _⟩ => ⟨S8192x256, .f32⟩
  | .hbm, ⟨39, _⟩ => ⟨S1x256x2048, .f32⟩
  | .hbm, ⟨40, _⟩ => ⟨S256x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S1x2048, .f32⟩
  | .hbm, ⟨58, _⟩ => ⟨S8192x2048, .f32⟩
  | .hbm, ⟨59, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== PleFirst.lean ====
abbrev S8192x2048 : Shape := ⟨2, ![8192, 2048]⟩
abbrev S2x2048 : Shape := ⟨2, ![2, 2048]⟩
abbrev S2048x2048 : Shape := ⟨2, ![2048, 2048]⟩
abbrev S2x2x4096x256 : Shape := ⟨4, ![2, 2, 4096, 256]⟩
abbrev S2x256x2048 : Shape := ⟨3, ![2, 256, 2048]⟩
abbrev S2x1x2048 : Shape := ⟨3, ![2, 1, 2048]⟩
abbrev S2x8192x256 : Shape := ⟨3, ![2, 8192, 256]⟩
abbrev S1x2048 : Shape := ⟨2, ![1, 2048]⟩
abbrev S2048 : Shape := ⟨1, ![2048]⟩
abbrev S512x2048 : Shape := ⟨2, ![512, 2048]⟩
abbrev S1x1x2048 : Shape := ⟨3, ![1, 1, 2048]⟩
abbrev S1x512x256 : Shape := ⟨3, ![1, 512, 256]⟩
abbrev S1x256x2048 : Shape := ⟨3, ![1, 256, 2048]⟩
abbrev S3x512x2048 : Shape := ⟨3, ![3, 512, 2048]⟩
abbrev S3 : Shape := ⟨1, ![3]⟩
abbrev S1 : Shape := ⟨1, ![1]⟩
abbrev S_ : Shape := ⟨0, ![]⟩
abbrev S1x512x2048 : Shape := ⟨3, ![1, 512, 2048]⟩
abbrev S512 : Shape := ⟨1, ![512]⟩
abbrev S512x1 : Shape := ⟨2, ![512, 1]⟩
abbrev S512x256 : Shape := ⟨2, ![512, 256]⟩
abbrev S256x2048 : Shape := ⟨2, ![256, 2048]⟩

abbrev nBuf : Space → Nat
  | .hbm => 15
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2x2048, .f32⟩
  | .hbm, ⟨3, _⟩ => ⟨S2048x2048, .bf16⟩
  | .hbm, ⟨4, _⟩ => ⟨S2x2x4096x256, .f32⟩
  | .hbm, ⟨5, _⟩ => ⟨S2x256x2048, .f32⟩
  | .hbm, ⟨6, _⟩ => ⟨S2x2048, .f32⟩
  | .hbm, ⟨7, _⟩ => ⟨S2x1x2048, .f32⟩
  | .hbm, ⟨8, _⟩ => ⟨S2x8192x256, .f32⟩
  | .hbm, ⟨9, _⟩ => ⟨S2x256x2048, .bf16⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S8192x2048, .f32⟩
  | .hbm, ⟨14, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S2048x2048, .bf16⟩
  | .local _ .vmem, ⟨4, _⟩ => ⟨S1x512x256, .f32⟩
  | .local _ .vmem, ⟨5, _⟩ => ⟨S1x512x256, .f32⟩
  | .local _ .vmem, ⟨6, _⟩ => ⟨S1x256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S3x512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_32 : BitVec 32 := 0#32
  c0_i32_32
def k0_mult2 : BitVec 32 :=
  let c512_i32_38 : BitVec 32 := 512#32
  c512_i32_38
def k0_cond2 (i : grid0.Coords) : BitVec 1 :=
  let arg0 : BitVec 32 := BitVec.ofNat 32 (i 0).val
  let c2_i32 : BitVec 32 := 2#32
  let v3 : BitVec 32 := Scalar.addi arg0 c2_i32
  let c16_i32 : BitVec 32 := 16#32
  let v4 : BitVec 1 := Scalar.cmpi .slt v3 c16_i32
  let v5 : BitVec 32 := Scalar.extui v4
  let c0_i32_1 : BitVec 32 := 0#32
  let v6 : BitVec 1 := Scalar.cmpi .ne v5 c0_i32_1
  v6

def k0_mult3 (i : grid0.Coords) : BitVec 32 :=
  let arg0 : BitVec 32 := BitVec.ofNat 32 (i 0).val
  let c2_i32 : BitVec 32 := 2#32
  let v3 : BitVec 32 := Scalar.addi arg0 c2_i32
  let c512_i32_33 : BitVec 32 := 512#32
  let v64 : BitVec 32 := Scalar.muli v3 c512_i32_33
  v64
def k0_off1 (i : grid0.Coords) : Fin 1 → Nat :=
  let arg0 : BitVec 32 := BitVec.ofNat 32 (i 0).val
  let c2_i32 : BitVec 32 := 2#32
  let v3 : BitVec 32 := Scalar.addi arg0 c2_i32
  let c3_i32_32 : BitVec 32 := 3#32
  let v63 : BitVec 32 := Scalar.remsi v3 c3_i32_32
  ![v63.toNat]
def k0_off2 (i : grid0.Coords) : Fin 3 → Nat :=
  let arg0 : BitVec 32 := BitVec.ofNat 32 (i 0).val
  let c2_i32 : BitVec 32 := 2#32
  let v3 : BitVec 32 := Scalar.addi arg0 c2_i32
  let c3_i32_32 : BitVec 32 := 3#32
  let v63 : BitVec 32 := Scalar.remsi v3 c3_i32_32
  let c0_i32_34 : BitVec 32 := 0#32
  let c0_i32_35 : BitVec 32 := 0#32
  ![v63.toNat, 0, 0]
def k0_off3 (i : grid0.Coords) : Fin 2 → Nat :=
  let arg0 : BitVec 32 := BitVec.ofNat 32 (i 0).val
  let c2_i32 : BitVec 32 := 2#32
  let v3 : BitVec 32 := Scalar.addi arg0 c2_i32
  let c512_i32_33 : BitVec 32 := 512#32
  let v64 : BitVec 32 := Scalar.muli v3 c512_i32_33
  let v65 : BitVec 32 := v64
  let c0_i32_36 : BitVec 32 := 0#32
  ![v65.toNat, 0]
def k0_mult4 (i : grid0.Coords) : BitVec 32 :=
  let arg0 : BitVec 32 := BitVec.ofNat 32 (i 0).val
  let c512_i32 : BitVec 32 := 512#32
  let v8 : BitVec 32 := Scalar.muli arg0 c512_i32
  v8
def k0_off4 (i : grid0.Coords) : Fin 1 → Nat :=
  let arg0 : BitVec 32 := BitVec.ofNat 32 (i 0).val
  let c3_i32 : BitVec 32 := 3#32
  let v7 : BitVec 32 := Scalar.remsi arg0 c3_i32
  ![v7.toNat]
def k0_off5 (i : grid0.Coords) : Fin 3 → Nat :=
  let arg0 : BitVec 32 := BitVec.ofNat 32 (i 0).val
  let c3_i32 : BitVec 32 := 3#32
  let v7 : BitVec 32 := Scalar.remsi arg0 c3_i32
  let c0_i32_2 : BitVec 32 := 0#32
  let c0_i32_3 : BitVec 32 := 0#32
  ![v7.toNat, 0, 0]
def k0_off6 (i : grid0.Coords) : Fin 2 → Nat :=
  let arg0 : BitVec 32 := BitVec.ofNat 32 (i 0).val
  let c512_i32 : BitVec 32 := 512#32
  let v8 : BitVec 32 := Scalar.muli arg0 c512_i32
  let v9 : BitVec 32 := v8
  let c0_i32_4 : BitVec 32 := 0#32
  ![v9.toNat, 0]
def k0_off7 (i : grid0.Coords) : Fin 3 → Nat :=
  let arg0 : BitVec 32 := BitVec.ofNat 32 (i 0).val
  let c3_i32 : BitVec 32 := 3#32
  let v7 : BitVec 32 := Scalar.remsi arg0 c3_i32
  let v15 : Index := Scalar.indexCast v7
  let c0 : Index := 0#32
  let c0_5 : Index := 0#32
  ![v15.toNat, 0, 0]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PleFirstReferenceIdeal.lean ====
abbrev S8192x2048 : Shape := ⟨2, ![8192, 2048]⟩
abbrev S2x2048 : Shape := ⟨2, ![2, 2048]⟩
abbrev S2048x2048 : Shape := ⟨2, ![2048, 2048]⟩
abbrev S2x2x4096x256 : Shape := ⟨4, ![2, 2, 4096, 256]⟩
abbrev S2x256x2048 : Shape := ⟨3, ![2, 256, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2x4096x256 : Shape := ⟨4, ![1, 2, 4096, 256]⟩
abbrev S2x4096x256 : Shape := ⟨3, ![2, 4096, 256]⟩
abbrev S8192x256 : Shape := ⟨2, ![8192, 256]⟩
abbrev S1x256x2048 : Shape := ⟨3, ![1, 256, 2048]⟩
abbrev S256x2048 : Shape := ⟨2, ![256, 2048]⟩

abbrev nBuf : Space → Nat
  | .hbm => 63
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2x2048, .f32⟩
  | .hbm, ⟨3, _⟩ => ⟨S2048x2048, .bf16⟩
  | .hbm, ⟨4, _⟩ => ⟨S2x2x4096x256, .f32⟩
  | .hbm, ⟨5, _⟩ => ⟨S2x256x2048, .f32⟩
  | .hbm, ⟨6, _⟩ => ⟨S2x2048, .f32⟩
  | .hbm, ⟨7, _⟩ => ⟨S8192x2048, .f32⟩
  | .hbm, ⟨8, _⟩ => ⟨S1x2048, .f32⟩
  | .hbm, ⟨9, _⟩ => ⟨S2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S2048x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S1x2x4096x256, .f32⟩
  | .hbm, ⟨37, _⟩ => ⟨S2x4096x256, .f32⟩
  | .hbm, ⟨38, _⟩ => ⟨S8192x256, .f32⟩
  | .hbm, ⟨39, _⟩ => ⟨S1x256x2048, .f32⟩
  | .hbm, ⟨40, _⟩ => ⟨S256x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S1x2048, .f32⟩
  | .hbm, ⟨45, _⟩ => ⟨S2048, .f32⟩
  | .hbm, ⟨46, _⟩ => ⟨S8192x2048, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1, .f32⟩
  | .hbm, ⟨57, _⟩ => ⟨S8192x2048, .f32⟩
  | .hbm, ⟨58, _⟩ => ⟨S8192x2048, .f32⟩
  | .hbm, ⟨59, _⟩ => ⟨S1x2048, .f32⟩
  | .hbm, ⟨60, _⟩ => ⟨S8192x2048, .f32⟩
  | .hbm, ⟨61, _⟩ => ⟨S8192x2048, .f32⟩
  | .hbm, ⟨62, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Sg.lean ====
abbrev S8192x2048 : Shape := ⟨2, ![8192, 2048]⟩
abbrev S2x1024 : Shape := ⟨2, ![2, 1024]⟩
abbrev S2x8x128x128 : Shape := ⟨4, ![2, 8, 128, 128]⟩
abbrev S2x8x128 : Shape := ⟨3, ![2, 8, 128]⟩
abbrev S8192x1024 : Shape := ⟨2, ![8192, 1024]⟩
abbrev S2048x2048 : Shape := ⟨2, ![2048, 2048]⟩
abbrev S2x2048 : Shape := ⟨2, ![2, 2048]⟩
abbrev S2x1x1024 : Shape := ⟨3, ![2, 1, 1024]⟩
abbrev S2x8x128x1 : Shape := ⟨4, ![2, 8, 128, 1]⟩
abbrev S2x1x2048 : Shape := ⟨3, ![2, 1, 2048]⟩
abbrev S512x1024 : Shape := ⟨2, ![512, 1024]⟩
abbrev S1x1x1024 : Shape := ⟨3, ![1, 1, 1024]⟩
abbrev S1x8x128x128 : Shape := ⟨4, ![1, 8, 128, 128]⟩
abbrev S1x8x128x1 : Shape := ⟨4, ![1, 8, 128, 1]⟩
abbrev S1x1x2048 : Shape := ⟨3, ![1, 1, 2048]⟩
abbrev S512x2048 : Shape := ⟨2, ![512, 2048]⟩
abbrev S3x512x2048 : Shape := ⟨3, ![3, 512, 2048]⟩
abbrev S3 : Shape := ⟨1, ![3]⟩
abbrev S1 : Shape := ⟨1, ![1]⟩
abbrev S_ : Shape := ⟨0, ![]⟩
abbrev S1x512x2048 : Shape := ⟨3, ![1, 512, 2048]⟩
abbrev S128x128 : Shape := ⟨2, ![128, 128]⟩
abbrev S1024x2048 : Shape := ⟨2, ![1024, 2048]⟩
abbrev S1x1x128x128 : Shape := ⟨4, ![1, 1, 128, 128]⟩
abbrev S1x1x128x1 : Shape := ⟨4, ![1, 1, 128, 1]⟩
abbrev S128x1 : Shape := ⟨2, ![128, 1]⟩
abbrev S1x1x128 : Shape := ⟨3, ![1, 1, 128]⟩
abbrev S1x128 : Shape := ⟨2, ![1, 128]⟩
abbrev S128 : Shape := ⟨1, ![128]⟩
abbrev S512x256 : Shape := ⟨2, ![512, 256]⟩
abbrev S256x2048 : Shape := ⟨2, ![256, 2048]⟩
abbrev S1x2048 : Shape := ⟨2, ![1, 2048]⟩
abbrev S512 : Shape := ⟨1, ![512]⟩
abbrev S512x1 : Shape := ⟨2, ![512, 1]⟩

abbrev nBuf : Space → Nat
  | .hbm => 13
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2x1024, .f32⟩
  | .hbm, ⟨3, _⟩ => ⟨S2x8x128x128, .f32⟩
  | .hbm, ⟨4, _⟩ => ⟨S2x8x128, .f32⟩
  | .hbm, ⟨5, _⟩ => ⟨S8192x1024, .bf16⟩
  | .hbm, ⟨6, _⟩ => ⟨S2048x2048, .bf16⟩
  | .hbm, ⟨7, _⟩ => ⟨S2x2048, .f32⟩
  | .hbm, ⟨8, _⟩ => ⟨S2x1x1024, .f32⟩
  | .hbm, ⟨9, _⟩ => ⟨S2x8x128x1, .f32⟩
  | .hbm, ⟨10, _⟩ => ⟨S2x1x2048, .f32⟩
  | .hbm, ⟨11, _⟩ => ⟨S8192x2048, .f32⟩
  | .hbm, ⟨12, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x8x128x128, .f32⟩
  | .local _ .vmem, ⟨6, _⟩ => ⟨S1x8x128x1, .f32⟩
  | .local _ .vmem, ⟨7, _⟩ => ⟨S512x1024, .bf16⟩
  | .local _ .vmem, ⟨8, _⟩ => ⟨S512x1024, .bf16⟩
  | .local _ .vmem, ⟨9, _⟩ => ⟨S2048x2048, .bf16⟩
  | .local _ .vmem, ⟨10, _⟩ => ⟨S1x1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S512x1024, .bf16⟩
  | .local _ .vmem, ⟨16, _⟩ => ⟨S3x512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_697 : BitVec 32 := 0#32
  c0_i32_697
def k0_mult2 : BitVec 32 :=
  let c512_i32_703 : BitVec 32 := 512#32
  c512_i32_703
def k0_cond2 (i : grid0.Coords) : BitVec 1 :=
  let arg0 : BitVec 32 := BitVec.ofNat 32 (i 0).val
  let c2_i32 : BitVec 32 := 2#32
  let v3 : BitVec 32 := Scalar.addi arg0 c2_i32
  let c16_i32 : BitVec 32 := 16#32
  let v4 : BitVec 1 := Scalar.cmpi .slt v3 c16_i32
  let v5 : BitVec 32 := Scalar.extui v4
  let c0_i32_1 : BitVec 32 := 0#32
  let v6 : BitVec 1 := Scalar.cmpi .ne v5 c0_i32_1
  v6

def k0_mult3 (i : grid0.Coords) : BitVec 32 :=
  let arg0 : BitVec 32 := BitVec.ofNat 32 (i 0).val
  let c2_i32 : BitVec 32 := 2#32
  let v3 : BitVec 32 := Scalar.addi arg0 c2_i32
  let c512_i32_698 : BitVec 32 := 512#32
  let v1571 : BitVec 32 := Scalar.muli v3 c512_i32_698
  v1571
def k0_off1 (i : grid0.Coords) : Fin 1 → Nat :=
  let arg0 : BitVec 32 := BitVec.ofNat 32 (i 0).val
  let c2_i32 : BitVec 32 := 2#32
  let v3 : BitVec 32 := Scalar.addi arg0 c2_i32
  let c3_i32_697 : BitVec 32 := 3#32
  let v1570 : BitVec 32 := Scalar.remsi v3 c3_i32_697
  ![v1570.toNat]
def k0_off2 (i : grid0.Coords) : Fin 3 → Nat :=
  let arg0 : BitVec 32 := BitVec.ofNat 32 (i 0).val
  let c2_i32 : BitVec 32 := 2#32
  let v3 : BitVec 32 := Scalar.addi arg0 c2_i32
  let c3_i32_697 : BitVec 32 := 3#32
  let v1570 : BitVec 32 := Scalar.remsi v3 c3_i32_697
  let c0_i32_699 : BitVec 32 := 0#32
  let c0_i32_700 : BitVec 32 := 0#32
  ![v1570.toNat, 0, 0]
def k0_off3 (i : grid0.Coords) : Fin 2 → Nat :=
  let arg0 : BitVec 32 := BitVec.ofNat 32 (i 0).val
  let c2_i32 : BitVec 32 := 2#32
  let v3 : BitVec 32 := Scalar.addi arg0 c2_i32
  let c512_i32_698 : BitVec 32 := 512#32
  let v1571 : BitVec 32 := Scalar.muli v3 c512_i32_698
  let v1572 : BitVec 32 := v1571
  let c0_i32_701 : BitVec 32 := 0#32
  ![v1572.toNat, 0]
def k0_mult4 (i : grid0.Coords) : BitVec 32 :=
  let arg0 : BitVec 32 := BitVec.ofNat 32 (i 0).val
  let c512_i32 : BitVec 32 := 512#32
  let v8 : BitVec 32 := Scalar.muli arg0 c512_i32
  v8
def k0_off4 (i : grid0.Coords) : Fin 1 → Nat :=
  let arg0 : BitVec 32 := BitVec.ofNat 32 (i 0).val
  let c3_i32 : BitVec 32 := 3#32
  let v7 : BitVec 32 := Scalar.remsi arg0 c3_i32
  ![v7.toNat]
def k0_off5 (i : grid0.Coords) : Fin 3 → Nat :=
  let arg0 : BitVec 32 := BitVec.ofNat 32 (i 0).val
  let c3_i32 : BitVec 32 := 3#32
  let v7 : BitVec 32 := Scalar.remsi arg0 c3_i32
  let c0_i32_2 : BitVec 32 := 0#32
  let c0_i32_3 : BitVec 32 := 0#32
  ![v7.toNat, 0, 0]
def k0_off6 (i : grid0.Coords) : Fin 2 → Nat :=
  let arg0 : BitVec 32 := BitVec.ofNat 32 (i 0).val
  let c512_i32 : BitVec 32 := 512#32
  let v8 : BitVec 32 := Scalar.muli arg0 c512_i32
  let v9 : BitVec 32 := v8
  let c0_i32_4 : BitVec 32 := 0#32
  ![v9.toNat, 0]
def k0_off7 (i : grid0.Coords) : Fin 3 → Nat :=
  let arg0 : BitVec 32 := BitVec.ofNat 32 (i 0).val
  let c3_i32 : BitVec 32 := 3#32
  let v7 : BitVec 32 := Scalar.remsi arg0 c3_i32
  let v1549 : Index := Scalar.indexCast v7
  let c0_685 : Index := 0#32
  let c0_686 : Index := 0#32
  ![v1549.toNat, 0, 0]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== SgReferenceIdeal.lean ====
abbrev S8192x2048 : Shape := ⟨2, ![8192, 2048]⟩
abbrev S2x1024 : Shape := ⟨2, ![2, 1024]⟩
abbrev S2x8x128x128 : Shape := ⟨4, ![2, 8, 128, 128]⟩
abbrev S2x8x128 : Shape := ⟨3, ![2, 8, 128]⟩
abbrev S8192x1024 : Shape := ⟨2, ![8192, 1024]⟩
abbrev S2048x2048 : Shape := ⟨2, ![2048, 2048]⟩
abbrev S2x2048 : Shape := ⟨2, ![2, 2048]⟩
abbrev S_ : Shape := ⟨0, ![]⟩
abbrev S2x32x128x8x128 : Shape := ⟨5, ![2, 32, 128, 8, 128]⟩
abbrev S2x32x128x8 : Shape := ⟨4, ![2, 32, 128, 8]⟩
abbrev S2x32x128x8x1 : Shape := ⟨5, ![2, 32, 128, 8, 1]⟩
abbrev S1x1024 : Shape := ⟨2, ![1, 1024]⟩
abbrev S1024 : Shape := ⟨1, ![1024]⟩
abbrev S8x128 : Shape := ⟨2, ![8, 128]⟩
abbrev S1x1x1x8x128 : Shape := ⟨5, ![1, 1, 1, 8, 128]⟩
abbrev S128x128 : Shape := ⟨2, ![128, 128]⟩
abbrev S1x8x128x128 : Shape := ⟨4, ![1, 8, 128, 128]⟩
abbrev S8x128x128 : Shape := ⟨3, ![8, 128, 128]⟩
abbrev S8x2x32x128x128 : Shape := ⟨5, ![8, 2, 32, 128, 128]⟩
abbrev S1x8x128 : Shape := ⟨3, ![1, 8, 128]⟩
abbrev S128x8 : Shape := ⟨2, ![128, 8]⟩
abbrev S1x1x128x8x1 : Shape := ⟨5, ![1, 1, 128, 8, 1]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩

abbrev nBuf : Space → Nat
  | .hbm => 114
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2x1024, .f32⟩
  | .hbm, ⟨3, _⟩ => ⟨S2x8x128x128, .f32⟩
  | .hbm, ⟨4, _⟩ => ⟨S2x8x128, .f32⟩
  | .hbm, ⟨5, _⟩ => ⟨S8192x1024, .bf16⟩
  | .hbm, ⟨6, _⟩ => ⟨S2048x2048, .bf16⟩
  | .hbm, ⟨7, _⟩ => ⟨S2x2048, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S2x32x128x8x128, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S2x32x128x8x128, .f32⟩
  | .hbm, ⟨30, _⟩ => ⟨S_, .f32⟩
  | .hbm, ⟨31, _⟩ => ⟨S2x32x128x8, .f32⟩
  | .hbm, ⟨32, _⟩ => ⟨S2x32x128x8x1, .f32⟩
  | .hbm, ⟨33, _⟩ => ⟨S_, .f32⟩
  | .hbm, ⟨34, _⟩ => ⟨S2x32x128x8x1, .f32⟩
  | .hbm, ⟨35, _⟩ => ⟨S2x32x128x8x1, .f32⟩
  | .hbm, ⟨36, _⟩ => ⟨S2x32x128x8x128, .f32⟩
  | .hbm, ⟨37, _⟩ => ⟨S2x32x128x8x128, .f32⟩
  | .hbm, ⟨38, _⟩ => ⟨S2x32x128x8x128, .f32⟩
  | .hbm, ⟨39, _⟩ => ⟨S2x32x128x8x128, .f32⟩
  | .hbm, ⟨40, _⟩ => ⟨S2x32x128x8x128, .f32⟩
  | .hbm, ⟨41, _⟩ => ⟨S_, .f32⟩
  | .hbm, ⟨42, _⟩ => ⟨S2x32x128x8, .f32⟩
  | .hbm, ⟨43, _⟩ => ⟨S2x32x128x8x1, .f32⟩
  | .hbm, ⟨44, _⟩ => ⟨S_, .f32⟩
  | .hbm, ⟨45, _⟩ => ⟨S2x32x128x8x1, .f32⟩
  | .hbm, ⟨46, _⟩ => ⟨S2x32x128x8x1, .f32⟩
  | .hbm, ⟨47, _⟩ => ⟨S2x32x128x8x128, .f32⟩
  | .hbm, ⟨48, _⟩ => ⟨S2x32x128x8x128, .f32⟩
  | .hbm, ⟨49, _⟩ => ⟨S_, .f32⟩
  | .hbm, ⟨50, _⟩ => ⟨S2x32x128x8x1, .f32⟩
  | .hbm, ⟨51, _⟩ => ⟨S2x32x128x8x1, .f32⟩
  | .hbm, ⟨52, _⟩ => ⟨S2x32x128x8x1, .f32⟩
  | .hbm, ⟨53, _⟩ => ⟨S2x32x128x8x128, .f32⟩
  | .hbm, ⟨54, _⟩ => ⟨S2x32x128x8x128, .f32⟩
  | .hbm, ⟨55, _⟩ => ⟨S1x1024, .f32⟩
  | .hbm, ⟨56, _⟩ => ⟨S1024, .f32⟩
  | .hbm, ⟨57, _⟩ => ⟨S8x128, .f32⟩
  | .hbm, ⟨58, _⟩ => ⟨S1x1x1x8x128, .f32⟩
  | .hbm, ⟨59, _⟩ => ⟨S2x32x128x8x128, .f32⟩
  | .hbm, ⟨60, _⟩ => ⟨S2x32x128x8x128, .f32⟩
  | .hbm, ⟨61, _⟩ => ⟨S_, .i1⟩
  | .hbm, ⟨62, _⟩ => ⟨S128x128, .i1⟩
  | .hbm, ⟨63, _⟩ => ⟨S128x128, .i32⟩
  | .hbm, ⟨64, _⟩ => ⟨S_, .i32⟩
  | .hbm, ⟨65, _⟩ => ⟨S128x128, .i32⟩
  | .hbm, ⟨66, _⟩ => ⟨S128x128, .i32⟩
  | .hbm, ⟨67, _⟩ => ⟨S128x128, .i32⟩
  | .hbm, ⟨68, _⟩ => ⟨S128x128, .i1⟩
  | .hbm, ⟨69, _⟩ => ⟨S_, .i1⟩
  | .hbm, ⟨70, _⟩ => ⟨S128x128, .i1⟩
  | .hbm, ⟨71, _⟩ => ⟨S128x128, .i1⟩
  | .hbm, ⟨72, _⟩ => ⟨S1x8x128x128, .f32⟩
  | .hbm, ⟨73, _⟩ => ⟨S8x128x128, .f32⟩
  | .hbm, ⟨74, _⟩ => ⟨S1x8x128x128, .f32⟩
  | .hbm, ⟨75, _⟩ => ⟨S8x128x128, .f32⟩
  | .hbm, ⟨76, _⟩ => ⟨S_, .f32⟩
  | .hbm, ⟨77, _⟩ => ⟨S8x128x128, .f32⟩
  | .hbm, ⟨78, _⟩ => ⟨S8x128x128, .i1⟩
  | .hbm, ⟨79, _⟩ => ⟨S8x128x128, .f32⟩
  | .hbm, ⟨80, _⟩ => ⟨S8x2x32x128x128, .f32⟩
  | .hbm, ⟨81, _⟩ => ⟨S2x32x128x8x128, .f32⟩
  | .hbm, ⟨82, _⟩ => ⟨S1x8x128, .f32⟩
  | .hbm, ⟨83, _⟩ => ⟨S8x128, .f32⟩
  | .hbm, ⟨84, _⟩ => ⟨S128x8, .f32⟩
  | .hbm, ⟨85, _⟩ => ⟨S1x1x128x8x1, .f32⟩
  | .hbm, ⟨86, _⟩ => ⟨S2x32x128x8x128, .f32⟩
  | .hbm, ⟨87, _⟩ => ⟨S2x32x128x8x128, .f32⟩
  | .hbm, ⟨88, _⟩ => ⟨S2x32x128x8x128, .f32⟩
  | .hbm, ⟨89, _⟩ => ⟨S8192x1024, .f32⟩
  | .hbm, ⟨90, _⟩ => ⟨S8192x1024, .f32⟩
  | .hbm, ⟨91, _⟩ => ⟨S8192x2048, .f32⟩
  | .hbm, ⟨92, _⟩ => ⟨S2048x2048, .f32⟩
  | .hbm, ⟨93, _⟩ => ⟨S8192x2048, .f32⟩
  | .hbm, ⟨94, _⟩ => ⟨S8192x2048, .f32⟩
  | .hbm, ⟨95, _⟩ => ⟨S8192x2048, .f32⟩
  | .hbm, ⟨96, _⟩ => ⟨S_, .f32⟩
  | .hbm, ⟨97, _⟩ => ⟨S8192, .f32⟩
  | .hbm, ⟨98, _⟩ => ⟨S8192x1, .f32⟩
  | .hbm, ⟨99, _⟩ => ⟨S_, .f32⟩
  | .hbm, ⟨100, _⟩ => ⟨S8192x1, .f32⟩
  | .hbm, ⟨101, _⟩ => ⟨S8192x1, .f32⟩
  | .hbm, ⟨102, _⟩ => ⟨S_, .f32⟩
  | .hbm, ⟨103, _⟩ => ⟨S8192x1, .f32⟩
  | .hbm, ⟨104, _⟩ => ⟨S8192x1, .f32⟩
  | .hbm, ⟨105, _⟩ => ⟨S8192x1, .f32⟩
  | .hbm, ⟨106, _⟩ => ⟨S8192x2048, .f32⟩
  | .hbm, ⟨107, _⟩ => ⟨S8192x2048, .f32⟩
  | .hbm, ⟨108, _⟩ => ⟨S1x2048, .f32⟩
  | .hbm, ⟨109, _⟩ => ⟨S2048, .f32⟩
  | .hbm, ⟨110, _⟩ => ⟨S1x2048, .f32⟩
  | .hbm, ⟨111, _⟩ => ⟨S8192x2048, .f32⟩
  | .hbm, ⟨112, _⟩ => ⟨S8192x2048, .f32⟩
  | .hbm, ⟨113, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c : Ref sig .tc := ⟨.hbm, 61, rfl⟩
abbrev main_v44 : Ref sig .tc := ⟨.hbm, 62, rfl⟩
abbrev main_call0_v0 : Ref sig .tc := ⟨.hbm, 63, rfl⟩
abbrev main_call0_c : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_c_0 : Ref sig .tc := ⟨.hbm, 69, rfl⟩
abbrev main_call0_v5 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_8 : Ref sig .tc := ⟨.hbm, 76, rfl⟩
abbrev main_v50 : Ref sig .tc := ⟨.hbm, 77, rfl⟩
abbrev main_call1_v0 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_9 : Ref sig .tc := ⟨.hbm, 96, rfl⟩
abbrev main_v68 : Ref sig .tc := ⟨.hbm, 97, rfl⟩
abbrev main_v69 : Ref sig .tc := ⟨.hbm, 98, rfl⟩
abbrev main_cst_10 : Ref sig .tc := ⟨.hbm, 99, rfl⟩
abbrev main_v70 : Ref sig .tc := ⟨.hbm, 100, rfl⟩
abbrev main_v71 : Ref sig .tc := ⟨.hbm, 101, rfl⟩
abbrev main_cst_11 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]
-- ==== Proof.GlaMath.lean ====
module

public import Idealize.ShloMosaic.Lib.Pointwise

@[expose] public section

noncomputable section

namespace Cert.Gla

open Idealize.ShloMosaic
open scoped BigOperators

/-! # The gated linear attention of one head over one chunk of 64 tokens, over the extended reals

The reference works in base e with the gates' running sums, the kernel in base 2 with running sums scaled by
`1 / log 2`, a gate split in three, and the scores in blocks. This file shows that both are one function. -/

/-- The change of base: `1 / log 2`. -/
def cb : ℝ := (Real.log 2)⁻¹

theorem cb_pos : 0 < cb := inv_pos.mpr (Real.log_pos (by norm_num))

/-- A power of two whose exponent was scaled by `1 / log 2` is a power of e. -/
theorem exp2_mul_cb (x : EReal) : Ideal.exp2 (x * (cb : EReal)) = Ideal.exp x := by
  induction x with
  | bot => rw [EReal.bot_mul_coe_of_pos cb_pos]; rfl
  | top => rw [EReal.top_mul_coe_of_pos cb_pos]; rfl
  | coe r =>
    rw [← EReal.coe_mul]
    show ((Real.rpow 2 (r * cb) : ℝ) : EReal) = ((Real.exp r : ℝ) : EReal)
    congr 1
    show (2 : ℝ) ^ (r * cb) = _
    rw [Real.rpow_def_of_pos (by norm_num)]
    congr 1
    have h : Real.log 2 ≠ 0 := (Real.log_pos (by norm_num)).ne'
    unfold cb
    field_simp

theorem add_mul_cb (x y : EReal) : (x + y) * (cb : EReal) = x * cb + y * cb := by
  rw [mul_comm, EReal.left_distrib_of_nonneg_of_ne_top (EReal.coe_nonneg.mpr cb_pos.le) (EReal.coe_ne_top _),
    mul_comm, mul_comm (cb : EReal) y]

theorem sub_mul_cb (x y : EReal) : (x - y) * (cb : EReal) = x * cb - y * cb := by
  rw [sub_eq_add_neg, add_mul_cb, EReal.neg_mul, sub_eq_add_neg]

theorem sum_mul_cb {ι : Type*} (s : Finset ι) (f : ι → EReal) : (∑ i ∈ s, f i) * (cb : EReal) = ∑ i ∈ s, f i * cb := by
  classical
  induction s using Finset.induction_on with
  | empty => simp
  | insert a s ha ih => rw [Finset.sum_insert ha, Finset.sum_insert ha, add_mul_cb, ih]

theorem sum_eq_bot {ι : Type*} [Fintype ι] (f : ι → EReal) (i : ι) (h : f i = ⊥) : ∑ j, f j = ⊥ := by
  classical
  rw [← Finset.add_sum_erase _ _ (Finset.mem_univ i), h, EReal.bot_add]

theorem sum_ne_top {ι : Type*} (s : Finset ι) (f : ι → EReal) (h : ∀ i, f i ≤ 0) : ∑ i ∈ s, f i ≤ 0 :=
  Finset.sum_nonpos fun i _ => h i

/-- A gate, its remainder and the remainder's remainder, each masked and summed: the gates' masked sum. A remainder is
zero for a finite gate, and for the gate `-∞` all is `-∞`. -/
theorem split3 {ι : Type*} [Fintype ι] (p : ι → Prop) [DecidablePred p] (g : ι → EReal) (hg : ∀ i, g i ≤ 0) :
    (∑ j, (if p j then (1 : EReal) else 0) * g j) + (∑ j, (if p j then (1 : EReal) else 0) * (g j - g j))
      + (∑ j, (if p j then (1 : EReal) else 0) * ((g j - g j) - (g j - g j))) = ∑ j, if p j then g j else 0 := by
  have e : (∑ j, (if p j then (1 : EReal) else 0) * g j) = ∑ j, if p j then g j else 0 :=
    Finset.sum_congr rfl fun j _ => by split <;> simp
  rw [e]
  by_cases h : ∃ j, p j ∧ g j = ⊥
  · obtain ⟨j, hp, hj⟩ := h
    rw [sum_eq_bot (fun j => if p j then g j else 0) j (by simp [hp, hj]), EReal.bot_add, EReal.bot_add]
  · have z : ∀ j, p j → g j - g j = 0 := fun j hp => by
      have hb : g j ≠ ⊥ := fun hb => h ⟨j, hp, hb⟩
      have ht : g j ≠ ⊤ := ne_top_of_le_ne_top EReal.zero_ne_top (hg j)
      exact EReal.sub_self ht hb
    have e1 : (∑ j, (if p j then (1 : EReal) else 0) * (g j - g j)) = 0 :=
      Finset.sum_eq_zero fun j _ => by
        split
        · rename_i hp; rw [z j hp, mul_zero]
        · rw [zero_mul]
    have e2 : (∑ j, (if p j then (1 : EReal) else 0) * ((g j - g j) - (g j - g j))) = 0 :=
      Finset.sum_eq_zero fun j _ => by
        split
        · rename_i hp; rw [z j hp, sub_zero, mul_zero]
        · rw [zero_mul]
    rw [e1, e2, add_zero, add_zero]

theorem exp2_bot : Ideal.exp2 ⊥ = 0 := rfl
theorem exp2_zero : Ideal.exp2 0 = 1 := by
  show ((Real.rpow 2 0 : ℝ) : EReal) = 1
  simp

/-- Two decays through a row between: `x ≤ r ≤ y` are running sums of gates, all at most 0. -/
theorem decay_through (x r y : EReal) (hxr : x ≤ r) (hry : r ≤ y) (hy : y ≤ 0) :
    Ideal.exp2 (min (x - r) 0) * Ideal.exp2 (min (-(y - r)) 0) = Ideal.exp2 (x - y) := by
  induction x with
  | top => exact absurd (hxr.trans (hry.trans hy)) (by simp)
  | bot =>
    rw [show (⊥ : EReal) - r = ⊥ by rw [sub_eq_add_neg, EReal.bot_add],
      show (⊥ : EReal) - y = ⊥ by rw [sub_eq_add_neg, EReal.bot_add], min_eq_left bot_le, exp2_bot, zero_mul]
  | coe x =>
    induction r with
    | top => exact absurd (hry.trans hy) (by simp)
    | bot => exact absurd hxr (by simp)
    | coe r =>
      induction y with
      | top => exact absurd hy (by simp)
      | bot => exact absurd hry (by simp)
      | coe y =>
        have h1 : x ≤ r := EReal.coe_le_coe_iff.mp hxr
        have h2 : r ≤ y := EReal.coe_le_coe_iff.mp hry
        rw [← EReal.coe_sub, ← EReal.coe_sub, ← EReal.coe_sub, ← EReal.coe_neg, ← EReal.coe_zero,
          min_eq_left (EReal.coe_le_coe_iff.mpr (by linarith)), min_eq_left (EReal.coe_le_coe_iff.mpr (by linarith))]
        show ((Real.rpow 2 (x - r) : ℝ) : EReal) * ((Real.rpow 2 (-(y - r)) : ℝ) : EReal) = ((Real.rpow 2 (x - y) : ℝ) : EReal)
        rw [← EReal.coe_mul]
        congr 1
        show (2 : ℝ) ^ (x - r) * (2 : ℝ) ^ (-(y - r)) = (2 : ℝ) ^ (x - y)
        rw [← Real.rpow_add (by norm_num)]
        congr 1
        ring

/-! ## The gate -/

/-- The logarithm of the sigmoid, as the kernel writes it. -/
def logsig (x : EReal) : EReal := min x 0 - Ideal.log1p (Ideal.exp (-(max x (-x))))

theorem log1p_nonneg (x : EReal) (hx : 0 ≤ x) : 0 ≤ Ideal.log1p x := by
  unfold Ideal.log1p
  induction x with
  | bot => exact absurd hx (by simp)
  | top => show 0 ≤ Ideal.log (1 + ⊤); rw [EReal.add_top_of_ne_bot (by rw [← EReal.coe_one]; exact EReal.coe_ne_bot 1)]; exact le_top
  | coe r =>
    have hr : 0 ≤ r := EReal.coe_nonneg.mp hx
    have e : (1 : EReal) + (r : EReal) = ((1 + r : ℝ) : EReal) := by rw [EReal.coe_add, EReal.coe_one]
    rw [e]
    show 0 ≤ (if 1 + r ≤ 0 then (⊥ : EReal) else (Real.log (1 + r) : EReal))
    rw [if_neg (by linarith)]
    exact EReal.coe_nonneg.mpr (Real.log_nonneg (by linarith))

theorem exp_nonneg (x : EReal) : 0 ≤ Ideal.exp x := by
  induction x with
  | bot => exact le_rfl
  | top => exact le_top
  | coe r => exact EReal.coe_nonneg.mpr (Real.exp_pos r).le

/-- A gate's logarithm is at most 0. -/
theorem logsig_nonpos (x : EReal) : logsig x ≤ 0 := by
  unfold logsig
  have h := log1p_nonneg _ (exp_nonneg (-(max x (-x))))
  calc min x 0 - _ ≤ 0 - 0 := EReal.sub_le_sub (min_le_right _ _) h
    _ = 0 := by simp

/-! ## One head, one chunk -/

/-- The reference's log-sigmoid, minus a softplus of the negation, is the kernel's. -/
theorem logsig_softplus (x : EReal) :
    -(max (-x) 0 + Ideal.log1p (Ideal.exp (-(max (-x) x)))) = logsig x := by
  have h1 : 0 ≤ max (-x) 0 := le_max_right _ _
  have h2 : 0 ≤ Ideal.log1p (Ideal.exp (-(max (-x) x))) := log1p_nonneg _ (exp_nonneg _)
  rw [EReal.neg_add (Or.inl (fun h => by simp [h] at h1)) (Or.inr (fun h => by simp [h] at h2))]
  rw [logsig, max_comm (-x) x]
  congr 1
  rcases le_total x 0 with h | h
  · rw [max_eq_left (EReal.neg_nonneg.mpr h), min_eq_left h, neg_neg]
  · rw [max_eq_right (EReal.neg_le_zero.mpr h), min_eq_right h, neg_zero]

/-- The gates' running sum over the chunk. -/
def cum (g : Fin 64 → Fin 128 → EReal) (i : Fin 64) (c : Fin 128) : EReal := ∑ j, if j ≤ i then g j c else 0

/-- The chunk's output: what the state gives, and what the chunk's own tokens up to `i` give. -/
def outS (q k g : Fin 64 → Fin 128 → EReal) (v : Fin 64 → Fin 256 → EReal) (S : Fin 128 → Fin 256 → EReal)
    (i : Fin 64) (n : Fin 256) : EReal :=
  (∑ c, q i c * Ideal.exp (cum g i c) * S c n)
    + ∑ j, (∑ c, q i c * k j c * Ideal.exp (if j ≤ i then cum g i c - cum g j c else ⊥)) * v j n

/-- The state after the chunk. -/
def stS (k g : Fin 64 → Fin 128 → EReal) (v : Fin 64 → Fin 256 → EReal) (S : Fin 128 → Fin 256 → EReal)
    (c : Fin 128) (n : Fin 256) : EReal :=
  S c n * Ideal.exp (cum g 63 c) + ∑ j, k j c * Ideal.exp (cum g 63 c - cum g j c) * v j n

variable (q k g : Fin 64 → Fin 128 → EReal) (v : Fin 64 → Fin 256 → EReal) (S : Fin 128 → Fin 256 → EReal)

theorem cum_nonpos (hg : ∀ j c, g j c ≤ 0) (i : Fin 64) (c : Fin 128) : cum g i c ≤ 0 :=
  Finset.sum_nonpos fun j _ => by split; exacts [hg j c, le_rfl]

theorem cum_anti (hg : ∀ j c, g j c ≤ 0) {i j : Fin 64} (h : i ≤ j) (c : Fin 128) : cum g j c ≤ cum g i c :=
  Finset.sum_le_sum fun l _ => by
    by_cases hl : l ≤ i
    · rw [if_pos (hl.trans h), if_pos hl]
    · rw [if_neg hl]; split; exacts [hg l c, le_rfl]

theorem cum_scale (i : Fin 64) (c : Fin 128) : cum (fun j c => g j c * (cb : EReal)) i c = cum g i c * cb := by
  unfold cum
  rw [sum_mul_cb]
  exact Finset.sum_congr rfl fun j _ => by split; exacts [rfl, (zero_mul _).symm]

/-- A decay between two rows in base 2, of scaled running sums, is the decay in base e. -/
theorem exp2_cum_sub (i j : Fin 64) (c : Fin 128) :
    Ideal.exp2 (cum g i c * cb - cum g j c * cb) = Ideal.exp (cum g i c - cum g j c) := by
  rw [← sub_mul_cb, exp2_mul_cb]

/-- One score of a block off the diagonal, through the reference row `r`, in base 2: the score in base e. -/
theorem score_block (hg : ∀ j c, g j c ≤ 0) (i j r : Fin 64) (hji : j ≤ i) (hjr : j ≤ r) (hri : r ≤ i) :
    (∑ c, q i c * Ideal.exp2 (min (cum g i c * cb - cum g r c * cb) 0)
        * (k j c * Ideal.exp2 (min (-(cum g j c * cb - cum g r c * cb)) 0)))
      = ∑ c, q i c * k j c * Ideal.exp (if j ≤ i then cum g i c - cum g j c else ⊥) := by
  have hcb : (0 : EReal) ≤ (cb : EReal) := EReal.coe_nonneg.mpr cb_pos.le
  refine Finset.sum_congr rfl fun c _ => ?_
  rw [if_pos hji, ← exp2_cum_sub, ← decay_through _ (cum g r c * cb) _
    (mul_le_mul_of_nonneg_right (cum_anti g hg hri c) hcb) (mul_le_mul_of_nonneg_right (cum_anti g hg hjr c) hcb)
    (by simpa using mul_le_mul_of_nonneg_right (cum_nonpos g hg j c) hcb)]
  ac_rfl

/-- One score of a block on the diagonal, in base 2: the score in base e. -/
theorem score_diag (i j : Fin 64) (hji : j ≤ i) :
    (∑ c, q i c * k j c * Ideal.exp2 (cum g i c * cb - cum g j c * cb))
      = ∑ c, q i c * k j c * Ideal.exp (if j ≤ i then cum g i c - cum g j c else ⊥) :=
  Finset.sum_congr rfl fun c _ => by rw [if_pos hji, exp2_cum_sub]

/-- A score above the diagonal is 0. -/
theorem score_above (i j : Fin 64) (hji : ¬ j ≤ i) :
    (∑ c, q i c * k j c * Ideal.exp (if j ≤ i then cum g i c - cum g j c else ⊥)) = 0 :=
  Finset.sum_eq_zero fun c _ => by rw [if_neg hji]; exact mul_zero _

end Cert.Gla

end
-- ==== Proof.Model.lean ====
module

public import proofs.«01_k».proof.Proof.GlaMath

@[expose] public section

noncomputable section

namespace Cert.Gla

open Idealize.ShloMosaic
open scoped BigOperators

/-! # The call as one function of its arrays

8192 rows are two sequences of 64 chunks of 64 tokens. -/

/-- The arrays the call reads, as functions of their coordinates (one layer's slice of each weight). -/
structure Args where
  /-- the activations -/
  h : Fin 8192 → Fin 2048 → EReal
  /-- the residual update -/
  d : Fin 8192 → Fin 2048 → EReal
  /-- the norm's gain -/
  mn : Fin 2048 → EReal
  /-- the packed projection -/
  w : Fin 2048 → Fin 5136 → EReal
  /-- the gate's second factor -/
  wg : Fin 16 → Fin 512 → EReal
  /-- the gate's bias -/
  bg : Fin 512 → EReal
  /-- the head norm's gain -/
  og : Fin 1024 → EReal

/-- 2048, 256, 16, the norms' epsilon and the queries' scale, as the programs write them. -/
abbrev c2048 : EReal := Ideal.ofBits .f32 0x45000000#32
@[inherit_doc c2048] abbrev c256 : EReal := Ideal.ofBits .f32 0x43800000#32
@[inherit_doc c2048] abbrev c16 : EReal := Ideal.ofBits .f32 0x41800000#32
@[inherit_doc c2048] abbrev eps : EReal := Ideal.ofBits .f32 0x358637BD#32
@[inherit_doc c2048] abbrev qs : EReal := Ideal.ofBits .f32 0x3DB504F3#32

/-- Row `i` of chunk `n` of sequence `b`. -/
def row (b : Fin 2) (n : ℕ) (i : Fin 64) : Fin 8192 := ⟨(b.val * 4096 + n * 64 + i.val) % 8192, Nat.mod_lt _ (by norm_num)⟩

namespace Args
variable (A : Args)

/-- The residual sum. -/
def h1 (r : Fin 8192) (c : Fin 2048) : EReal := A.h r c + A.d r c
/-- The normed row. -/
def nrm (r : Fin 8192) (c : Fin 2048) : EReal :=
  A.h1 r c * Ideal.rsqrt (Ideal.div (∑ j, A.h1 r j * A.h1 r j) c2048 + eps) * A.mn c
/-- The packed projection of the normed row. -/
def proj (r : Fin 8192) (c : Fin 5136) : EReal := ∑ j, A.nrm r j * A.w j c
/-- The gate before its nonlinearity. -/
def pre (r : Fin 8192) (c : Fin 512) : EReal := (∑ z : Fin 16, A.proj r ⟨5120 + z.val, by omega⟩ * A.wg z c) + A.bg c
/-- The gate. -/
def gate (r : Fin 8192) (c : Fin 512) : EReal := Ideal.div (logsig (A.pre r c)) c16

/-- A chunk's queries, keys, values and gates, of one head. -/
def qc (b : Fin 2) (e : Fin 4) (n : ℕ) (i : Fin 64) (c : Fin 128) : EReal :=
  A.proj (row b n i) ⟨2048 + e.val * 128 + c.val, by omega⟩ * qs
@[inherit_doc qc] def kc (b : Fin 2) (e : Fin 4) (n : ℕ) (i : Fin 64) (c : Fin 128) : EReal :=
  A.proj (row b n i) ⟨2560 + e.val * 128 + c.val, by omega⟩
@[inherit_doc qc] def vc (b : Fin 2) (e : Fin 4) (n : ℕ) (i : Fin 64) (c : Fin 256) : EReal :=
  A.proj (row b n i) ⟨3072 + e.val * 256 + c.val, by omega⟩
@[inherit_doc qc] def gc (b : Fin 2) (e : Fin 4) (n : ℕ) (i : Fin 64) (c : Fin 128) : EReal :=
  A.gate (row b n i) ⟨e.val * 128 + c.val, by omega⟩

/-- The recurrence's state before chunk `n` of sequence `b`. -/
def st (b : Fin 2) (e : Fin 4) : ℕ → Fin 128 → Fin 256 → EReal
  | 0 => fun _ _ => 0
  | n + 1 => stS (A.kc b e n) (A.gc b e n) (A.vc b e n) (st b e n)

/-- The attention's output for chunk `n` of sequence `b`. -/
def out (b : Fin 2) (e : Fin 4) (n : ℕ) (i : Fin 64) (c : Fin 256) : EReal :=
  outS (A.qc b e n) (A.kc b e n) (A.gc b e n) (A.vc b e n) (A.st b e n) i c

/-- The branch's result at row `i` of chunk `n` of sequence `b`, head `e`: the head's norm, its gain, the output gate. -/
def yc (b : Fin 2) (e : Fin 4) (n : ℕ) (i : Fin 64) (c : Fin 256) : EReal :=
  A.out b e n i c * Ideal.rsqrt (Ideal.div (∑ j, A.out b e n i j * A.out b e n i j) c256 + eps)
    * A.og ⟨e.val * 256 + c.val, by omega⟩
    * (A.proj (row b n i) ⟨4096 + e.val * 256 + c.val, by omega⟩
        * Ideal.logistic (A.proj (row b n i) ⟨4096 + e.val * 256 + c.val, by omega⟩))

end Args

theorem c16_eq : c16 = ((16 : ℝ) : EReal) := by
  simp [c16, Ideal.ofBits, Ideal.ieee, -EReal.coe_mul]; norm_num

/-- A gate is its log-sigmoid divided by 16. -/
theorem gate_eq (A : Args) (r : Fin 8192) (c : Fin 512) : A.gate r c = logsig (A.pre r c) * ((1 / 16 : ℝ) : EReal) := by
  unfold Args.gate
  rw [c16_eq, Ideal.div_coe (by norm_num)]

/-- A gate is at most 0. -/
theorem gate_nonpos (A : Args) (r : Fin 8192) (c : Fin 512) : A.gate r c ≤ 0 := by
  rw [gate_eq]
  exact mul_nonpos_of_nonpos_of_nonneg (logsig_nonpos _) (by exact_mod_cast (by norm_num : (0:ℝ) ≤ 1/16))

theorem gc_nonpos (A : Args) (b : Fin 2) (e : Fin 4) (n : ℕ) (i : Fin 64) (c : Fin 128) : A.gc b e n i c ≤ 0 :=
  gate_nonpos A _ _

end Cert.Gla

end
-- ==== Proof.KerMask.lean ====
module

public import proofs.«01_k».proof.Proof.Model
public import proofs.«01_k».proof.Proof.Gen.KernelIdeal.Skeleton

@[expose] public section

set_option maxRecDepth 16384

noncomputable section

namespace Cert.KernelIdeal.Ker

open Cert.KernelIdeal Cert.KernelIdeal.Gen Cert.Gla
open Idealize.ShloMosaic Idealize.ShloMosaic.TcCoe Idealize.SL.Sem
open scoped BigOperators

/-- The row number of every entry of a 64 by 64 tile. -/
def iR : IVec S64x64 32 := iota .tc S64x64 32 [0] iota_S64x64_d0_w32
/-- The column number of every entry of a 64 by 64 tile. -/
def iC : IVec S64x64 32 := iota .tc S64x64 32 [1] iota_S64x64_d1_w32
/-- The mask of the level whose blocks have 32 rows. -/
def m32 : IVec S64x64 1 :=
  k0_pay17 iR iC (k0_pay14 iR 32#32 k0_pay12 k0_pay13) 32#32 (k0_pay15 iC) (k0_pay16 iC)
    (Scalar.extui (Scalar.cmpi .sgt (32#32 : BitVec 32) 0#32)) 0#32
/-- The mask of the level whose blocks have 16 rows. -/
def m16 : IVec S64x64 1 :=
  k0_pay24 iR iC (k0_pay21 iR 16#32 (k0_pay18 iR) (k0_pay19 iR) k0_pay20) 16#32 (k0_pay22 iC)
    (k0_pay23 iC) 0#32
/-- The mask of the level whose blocks have 8 rows. -/
def m8 : IVec S64x64 1 :=
  k0_pay31 iR iC (k0_pay27 iR 8#32 (k0_pay25 iR) (k0_pay26 iR)) 8#32 (k0_pay28 iC) (k0_pay29 iC)
    (k0_pay30 iC)
/-- The column of an entry counted from the first column of its own 8 by 8 diagonal block. -/
def dOff : IVec S64x64 32 := k0_pay33 iR iC 8#32 (k0_pay32 iR)

/-- The level mask of block height 32 holds where the row lies in an odd block and the column in the
block just before. -/
theorem m32_at (i j : Fin 64) :
    m32 (ix2 i j) = if i.val / 32 % 2 = 1 ∧ j.val / 32 + 1 = i.val / 32 then 1#1 else 0#1 := by
  revert i j; decide +kernel
/-- The same for block height 16. -/
theorem m16_at (i j : Fin 64) :
    m16 (ix2 i j) = if i.val / 16 % 2 = 1 ∧ j.val / 16 + 1 = i.val / 16 then 1#1 else 0#1 := by
  revert i j; decide +kernel
/-- The same for block height 8. -/
theorem m8_at (i j : Fin 64) :
    m8 (ix2 i j) = if i.val / 8 % 2 = 1 ∧ j.val / 8 + 1 = i.val / 8 then 1#1 else 0#1 := by
  revert i j; decide +kernel
/-- The column offset of an entry from its own diagonal block. -/
theorem dOff_at (i j : Fin 64) : dOff (ix2 i j) = BitVec.ofInt 32 (j.val - (i.val / 8 * 8 : ℕ)) := by
  revert i j; decide +kernel
/-- The causal mask holds on and below the diagonal. -/
theorem causal_at (i j : Fin 64) : k0_pay10 (ix2 i j) = if j ≤ i then 1#1 else 0#1 := by
  revert i j; decide +kernel

end Cert.KernelIdeal.Ker
-- ==== Proof.KerHead.lean ====
module

public import proofs.«01_k».proof.Proof.KerMask

@[expose] public section

set_option maxRecDepth 16384

noncomputable section

namespace Cert.KernelIdeal.Ker

open Cert.KernelIdeal Cert.KernelIdeal.Gen Cert.Gla
open Idealize.ShloMosaic Idealize.ShloMosaic.TcCoe Idealize.SL.Sem
open scoped BigOperators

/-- The gates' running sums of one chunk, all four heads side by side, in base 2. -/
def bAll (wg : Vec Ideal S1x16x512 .f32) (bg : Vec Ideal S1x1x512 .f32) (z : Vec Ideal S64x16 .f32) :
    FVec Ideal S64x512 .f32 :=
  k0_pay38 k0_pay11 (k0_pay35 bg) (k0_pay37 wg z)

/-- One head's scores of one chunk, before the two last diagonals and the causal mask. -/
def scores (b q k : FVec Ideal S64x128 .f32) : FVec Ideal S64x64 .f32 :=
  k0_pay52 dOff b q k
    (k0_pay50 dOff b q k (k0_pay48 m8 dOff b q k (k0_pay46 m32 m16 b q k) (k0_pay47 b)) (k0_pay49 b q k))
    (k0_pay51 b)

/-- One head's attention output of one chunk. -/
def headO (b : FVec Ideal S64x128 .f32) (q k : Vec Ideal S64x128 .f32) (v : Vec Ideal S64x256 .f32)
    (st : Vec Ideal S1x256x128 .f32) : FVec Ideal S64x256 .f32 :=
  k0_pay55 k0_pay10 dOff b (k0_pay41 q) k (k0_pay42 v) (k0_pay45 b (k0_pay41 q) st) (scores b (k0_pay41 q) k)
    (k0_pay53 dOff) (k0_pay54 b (k0_pay41 q) k)

/-- One head's state after one chunk. -/
def headS (b : FVec Ideal S64x128 .f32) (k : Vec Ideal S64x128 .f32) (v : Vec Ideal S64x256 .f32)
    (st : Vec Ideal S1x256x128 .f32) : FVec Ideal S1x256x128 .f32 :=
  k0_pay56 b k (k0_pay42 v) (extractStridedSlice S1x128 ![63, 0] b slices_S64x128_o63_0_S1x128) (k0_pay44 st)

/-- One head's result of one chunk: the head norm, its gain and the output gate. -/
def headY (o : FVec Ideal S64x256 .f32) (r : Vec Ideal S64x256 .f32) (g : Vec Ideal S1x1x256 .f32) :
    FVec Ideal S64x256 .bf16 :=
  k0_pay58 o (divf (shapeCast S64x1 (multiReduction .add [1] S64 (mulf o o) 0x00000000#32 reduces_S64x256_S64
    (.inl rfl) rfl) shapeCasts_S64_S64x1) (broadcast S64x1 (Scalar.ofBits .f32 0x43800000#32))) r g

/-- A selection by a decided condition. -/
theorem select_ite {α : Type} (p : Prop) [Decidable p] (a b : α) :
    Scalar.select (if p then 1#1 else 0#1) a b = if p then a else b := by
  by_cases h : p <;> simp [h, Scalar.select]

/-- A choice between two values that are both `t`. -/
theorem ite_eq_of {α : Type} {p : Prop} [Decidable p] {a b t : α} (ha : p → a = t) (hb : ¬p → b = t) :
    (if p then a else b) = t := by
  by_cases h : p
  · rw [if_pos h]; exact ha h
  · rw [if_neg h]; exact hb h

/-- Where a diagonal's selection picks its own column. -/
theorem diag_eq : ∀ (d : Fin 128) (t : Fin 8),
    IntOp.cmpi .eq (BitVec.ofInt 32 ((d.val : ℤ) - 64)) (BitVec.ofNat 32 t.val)
      = if d.val = 64 + t.val then 1#1 else 0#1 := by decide +kernel

theorem diag_at (i j : Fin 64) (t : Fin 8) :
    IntOp.cmpi .eq (dOff (ix2 i j)) (BitVec.ofNat 32 t.val)
      = if j.val = i.val / 8 * 8 + t.val then 1#1 else 0#1 := by
  have h := diag_eq ⟨j.val + 64 - i.val / 8 * 8, by omega⟩ t
  rw [dOff_at]
  have e : (((⟨j.val + 64 - i.val / 8 * 8, by omega⟩ : Fin 128).val : ℕ) : ℤ) - 64 = (j.val : ℤ) - (i.val / 8 * 8 : ℕ) := by
    simp only []; omega
  rw [e] at h
  rw [h]
  congr 1
  simp only [eq_iff_iff]; omega

section
variable (g Q K : Fin 64 → Fin 128 → EReal) (V : Fin 64 → Fin 256 → EReal) (S : Fin 128 → Fin 256 → EReal)
variable (b : FVec Ideal S64x128 .f32) (q k : Vec Ideal S64x128 .f32) (v : Vec Ideal S64x256 .f32)
variable (st : Vec Ideal S1x256x128 .f32)

/-- The score of one pair of rows, which the reference has. -/
def tgt (i j : Fin 64) : EReal := ∑ c, Q i c * K j c * Ideal.exp (if j ≤ i then cum g i c - cum g j c else ⊥)

/-- A diagonal's score, when its column is `j`. -/
theorem diag_tgt (hb : ∀ i c, b (ix2 i c) = cum g i c * cb) (hq : ∀ i c, q (ix2 i c) = Q i c)
    (hk : ∀ i c, k (ix2 i c) = K i c) (i j r : Fin 64) (hji : j ≤ i) (hr : j.val = r.val) :
    (∑ c, q (ix2 i c) * k (ix2 r c) * Ideal.exp2 (b (ix2 i c) - b (ix2 r c))) = tgt g Q K i j := by
  obtain rfl : j = r := Fin.ext hr
  simp only [hb, hq, hk]
  exact score_diag _ _ _ i j hji

/-- A level's score, when the row it goes through lies between the two rows. -/
theorem block_tgt (hg : ∀ j c, g j c ≤ 0) (hb : ∀ i c, b (ix2 i c) = cum g i c * cb)
    (hq : ∀ i c, q (ix2 i c) = Q i c)
    (hk : ∀ i c, k (ix2 i c) = K i c) (i j r r' : Fin 64) (hrr : r.val = r'.val) (hjr : j ≤ r) (hri : r ≤ i) :
    (∑ c, q (ix2 i c) * Ideal.exp2 (min (b (ix2 i c) - b (ix2 r c)) 0)
      * (k (ix2 j c) * Ideal.exp2 (min (0 - (b (ix2 j c) - b (ix2 r' c))) 0))) = tgt g Q K i j := by
  obtain rfl : r = r' := Fin.ext hrr
  simp only [hb, hq, hk, zero_sub]
  exact score_block _ _ _ hg i j r (hjr.trans hri) hjr hri

/-- What the two upper levels select, at an entry of one of their masks, is the reference's score. -/
theorem pay46_at (hg : ∀ j c, g j c ≤ 0) (hb : ∀ i c, b (ix2 i c) = cum g i c * cb)
    (hq : ∀ i c, q (ix2 i c) = Q i c) (hk : ∀ i c, k (ix2 i c) = K i c) (i j : Fin 64) (hji : j ≤ i)
    (h : i.val / 16 % 2 = 1 ∧ j.val / 16 + 1 = i.val / 16 ∨ i.val / 32 % 2 = 1 ∧ j.val / 32 + 1 = i.val / 32) :
    k0_pay46 m32 m16 b q k (ix2 i j) = tgt g Q K i j := by
  have hji' : j.val ≤ i.val := hji
  unfold k0_pay46
  pointwise
  rw [m16_at, m32_at, select_ite, select_ite]
  refine ite_eq_of (fun l => ?_) fun l' => ite_eq_of (fun l => ?_) fun l => absurd h (by omega)
  · exact block_tgt g Q K b q k hg hb hq hk i j ⟨i.val / 32 * 32 + 15, by omega⟩ ⟨j.val / 32 * 32 + 15, by omega⟩
      (by simp only []; omega) (Fin.le_def.mpr (by simp only []; omega)) (Fin.le_def.mpr (by simp only []; omega))
  · exact block_tgt g Q K b q k hg hb hq hk i j 31 31 rfl (Fin.le_def.mpr (show j.val ≤ 31 by omega))
      (Fin.le_def.mpr (show 31 ≤ i.val by omega))

/-- The next level and the first diagonal, where they or what was selected before give the score. -/
theorem pay48_at (hg : ∀ j c, g j c ≤ 0) (hb : ∀ i c, b (ix2 i c) = cum g i c * cb)
    (hq : ∀ i c, q (ix2 i c) = Q i c) (hk : ∀ i c, k (ix2 i c) = K i c) (i j : Fin 64) (hji : j ≤ i)
    (z : FVec Ideal S64x64 .f32)
    (h : ¬ j.val = i.val / 8 * 8 → ¬ (i.val / 8 % 2 = 1 ∧ j.val / 8 + 1 = i.val / 8) → z (ix2 i j) = tgt g Q K i j) :
    k0_pay48 m8 dOff b q k z (k0_pay47 b) (ix2 i j) = tgt g Q K i j := by
  have hji' : j.val ≤ i.val := hji
  have d0 := diag_at i j 0
  simp only [Fin.val_zero, BitVec.ofNat_eq_ofNat, add_zero] at d0
  unfold k0_pay48 k0_pay47
  pointwise
  rw [d0, m8_at, select_ite, select_ite]
  refine ite_eq_of (fun e => diag_tgt g Q K b q k hb hq hk i j _ hji ?_) fun e =>
    ite_eq_of (fun l => ?_) fun l => h e l
  · exact e
  · exact block_tgt g Q K b q k hg hb hq hk i j ⟨i.val / 16 * 16 + 7, by omega⟩ ⟨j.val / 16 * 16 + 7, by omega⟩
      (by simp only []; omega) (Fin.le_def.mpr (by simp only []; omega)) (Fin.le_def.mpr (by simp only []; omega))

/-- The next three diagonals, where they or what was selected before give the score. -/
theorem pay50_at (hb : ∀ i c, b (ix2 i c) = cum g i c * cb)
    (hq : ∀ i c, q (ix2 i c) = Q i c) (hk : ∀ i c, k (ix2 i c) = K i c) (i j : Fin 64) (hji : j ≤ i)
    (z : FVec Ideal S64x64 .f32)
    (h : ¬ j.val = i.val / 8 * 8 + 1 → ¬ j.val = i.val / 8 * 8 + 2 → ¬ j.val = i.val / 8 * 8 + 3 → z (ix2 i j) = tgt g Q K i j) :
    k0_pay50 dOff b q k z (k0_pay49 b q k) (ix2 i j) = tgt g Q K i j := by
  have d1 := diag_at i j 1
  have d2 := diag_at i j 2
  have d3 := diag_at i j 3
  simp only [Fin.val_one, Fin.val_two, show (3 : Fin 8).val = 3 from rfl, BitVec.ofNat_eq_ofNat] at d1 d2 d3
  unfold k0_pay50 k0_pay49
  pointwise
  rw [d3, d2, d1, select_ite, select_ite, select_ite]
  refine ite_eq_of (fun e => diag_tgt g Q K b q k hb hq hk i j _ hji ?_) fun e3 =>
    ite_eq_of (fun e => diag_tgt g Q K b q k hb hq hk i j _ hji ?_) fun e2 =>
    ite_eq_of (fun e => diag_tgt g Q K b q k hb hq hk i j _ hji ?_) fun e1 => h e1 e2 e3
  all_goals exact e

/-- The next two diagonals, where they or what was selected before give the score. -/
theorem pay52_at (hb : ∀ i c, b (ix2 i c) = cum g i c * cb)
    (hq : ∀ i c, q (ix2 i c) = Q i c) (hk : ∀ i c, k (ix2 i c) = K i c) (i j : Fin 64) (hji : j ≤ i)
    (z : FVec Ideal S64x64 .f32)
    (h : ¬ j.val = i.val / 8 * 8 + 4 → ¬ j.val = i.val / 8 * 8 + 5 → z (ix2 i j) = tgt g Q K i j) :
    k0_pay52 dOff b q k z (k0_pay51 b) (ix2 i j) = tgt g Q K i j := by
  have d4 := diag_at i j 4
  have d5 := diag_at i j 5
  simp only [show (4 : Fin 8).val = 4 from rfl, show (5 : Fin 8).val = 5 from rfl, BitVec.ofNat_eq_ofNat] at d4 d5
  unfold k0_pay52 k0_pay51
  pointwise
  rw [d5, d4, select_ite, select_ite]
  refine ite_eq_of (fun e => diag_tgt g Q K b q k hb hq hk i j _ hji ?_) fun e5 =>
    ite_eq_of (fun e => diag_tgt g Q K b q k hb hq hk i j _ hji ?_) fun e4 => h e4 e5
  all_goals exact e

/-- What the levels and the diagonals select, on and below the diagonal, is the reference's score. -/
theorem scores_at (hg : ∀ j c, g j c ≤ 0) (hb : ∀ i c, b (ix2 i c) = cum g i c * cb)
    (hq : ∀ i c, q (ix2 i c) = Q i c) (hk : ∀ i c, k (ix2 i c) = K i c) (i j : Fin 64) (hji : j ≤ i)
    (h6 : j.val ≠ i.val / 8 * 8 + 6) (h7 : j.val ≠ i.val / 8 * 8 + 7) :
    scores b q k (ix2 i j) = tgt g Q K i j := by
  have hji' : j.val ≤ i.val := hji
  unfold scores
  exact pay52_at g Q K b q k hb hq hk i j hji _ fun _ _ => pay50_at g Q K b q k hb hq hk i j hji _ fun _ _ _ =>
    pay48_at g Q K b q k hg hb hq hk i j hji _ fun _ _ => pay46_at g Q K b q k hg hb hq hk i j hji (by omega)

/-- One head's output of one chunk is the recurrence's. -/
theorem headO_at (hg : ∀ j c, g j c ≤ 0) (hb : ∀ i c, b (ix2 i c) = cum g i c * cb)
    (hq : ∀ i c, q (ix2 i c) * qs = Q i c) (hk : ∀ i c, k (ix2 i c) = K i c) (hv : ∀ i n, v (ix2 i n) = V i n)
    (hs : ∀ n c, st (ix3 0 n c) = S c n) (i : Fin 64) (n : Fin 256) :
    headO b q k v st (ix2 i n) = outS Q K g V S i n := by
  have hq' : ∀ i c, k0_pay41 (F := Ideal) q (ix2 i c) = Q i c := fun i c => by
    rw [← hq]; unfold k0_pay41; pointwise
  have d6 := fun j => diag_at i j 6
  have d7 := fun j => diag_at i j 7
  simp only [show (6 : Fin 8).val = 6 from rfl, show (7 : Fin 8).val = 7 from rfl, BitVec.ofNat_eq_ofNat] at d6 d7
  have hs' := scores_at g Q K b (k0_pay41 q) k hg hb hq' hk i
  have o1 : k0_pay45 (F := Ideal) b (k0_pay41 q) st (ix2 i n) = ∑ c, Q i c * Ideal.exp (cum g i c) * S c n := by
    unfold k0_pay45 k0_pay44
    generalize k0_pay41 (F := Ideal) q = q' at hq'
    pointwise
    exact Finset.sum_congr rfl fun c _ => by
      rw [hq', hs, hb]; exact congrArg (fun x => _ * x * _) (exp2_mul_cb _)
  unfold headO
  generalize scores b (k0_pay41 q) k = sc at hs' ⊢
  generalize k0_pay45 (F := Ideal) b (k0_pay41 q) st = o at o1 ⊢
  generalize k0_pay41 (F := Ideal) q = q' at hq' ⊢
  unfold k0_pay55 k0_pay53 k0_pay54 k0_pay42
  pointwise
  rw [o1]
  refine congrArg (_ + ·) (Finset.sum_congr rfl fun j _ => ?_)
  simp only [d6, d7, causal_at, select_ite]
  by_cases hji : j ≤ i
  · change _ = tgt g Q K i j * V j n
    rw [if_pos hji, hv]
    refine congrArg (· * _) ?_
    refine ite_eq_of (fun e => diag_tgt g Q K b q' k hb hq' hk i j _ hji ?_) fun e7 =>
      ite_eq_of (fun e => diag_tgt g Q K b q' k hb hq' hk i j _ hji ?_) fun e6 => hs' j hji e6 e7
    · exact e
    · exact e
  · rw [if_neg hji, score_above _ _ _ i j hji, zero_mul]

/-- One head's state after one chunk is the recurrence's. -/
theorem headS_at (hb : ∀ i c, b (ix2 i c) = cum g i c * cb)
    (hk : ∀ i c, k (ix2 i c) = K i c) (hv : ∀ i n, v (ix2 i n) = V i n)
    (hs : ∀ n c, st (ix3 0 n c) = S c n) (n : Fin 256) (c : Fin 128) :
    headS b k v st (ix3 0 n c) = stS K g V S c n := by
  unfold headS k0_pay56 k0_pay42 k0_pay44
  pointwise
  simp only [hb, hk, hv, hs]
  unfold stS
  refine congrArg₂ (· + ·) (congrArg (_ * ·) (exp2_mul_cb _)) (Finset.sum_congr rfl fun j _ => ?_)
  rw [mul_comm]
  exact congrArg (fun x => _ * x * _) (exp2_cum_sub _ _ _ _)

/-- One head's result of one chunk, from its output, its gate and the norm's gain. -/
theorem headY_at (o : FVec Ideal S64x256 .f32) (r : Vec Ideal S64x256 .f32) (gn : Vec Ideal S1x1x256 .f32)
    (i : Fin 64) (n : Fin 256) :
    headY o r gn (ix2 i n) = o (ix2 i n) * Ideal.rsqrt (Ideal.div (∑ j, o (ix2 i j) * o (ix2 i j)) c256 + eps)
      * gn (ix3 0 0 n) * (r (ix2 i n) * Ideal.logistic (r (ix2 i n))) := by
  unfold headY k0_pay58
  pointwise

end

/-- The running sums of one chunk, from the gates before their nonlinearity. -/
theorem bAll_at (wg : Vec Ideal S1x16x512 .f32) (bg : Vec Ideal S1x1x512 .f32) (z : Vec Ideal S64x16 .f32)
    (G : Fin 64 → EReal) (c : Fin 512)
    (hG : ∀ j, G j = logsig ((∑ x : Fin 16, z (ix2 j x) * wg (ix3 0 x c)) + bg (ix3 0 0 c)) * ((1 / 16 : ℝ) : EReal))
    (i : Fin 64) :
    bAll wg bg z (ix2 i c) = (∑ j, if j ≤ i then G j else 0) * cb := by
  have hz : ∀ j, k0_pay37 (F := Ideal) wg z (ix2 j c) = ∑ x : Fin 16, z (ix2 j x) * wg (ix3 0 x c) := fun j => by
    unfold k0_pay37 k0_pay34; pointwise
  have hbg : k0_pay35 (F := Ideal) bg (ix2 0 c) = bg (ix3 0 0 c) := by
    unfold k0_pay35; pointwise
  have hk : Named.named (F := Ideal) (φ := .f32) κ "log2e_over_tau" 0x3DB8AA3B#32
      = (((Real.log 2)⁻¹ * 16⁻¹ : ℝ) : EReal) := IdealRules.named_const.ideal_named_scalar _ _ _ _ rfl
  unfold bAll
  generalize k0_pay37 (F := Ideal) wg z = Z at hz ⊢
  generalize k0_pay35 (F := Ideal) bg = B at hbg ⊢
  have key : ∀ j, logsig (Z (ix2 j c) + B (ix2 0 c)) * (((Real.log 2)⁻¹ * 16⁻¹ : ℝ) : EReal) = G j * cb := fun j => by
    rw [hz, hbg, hG, mul_assoc, ← EReal.coe_mul]
    unfold cb
    rw [show (Real.log 2)⁻¹ * 16⁻¹ = 1 / 16 * (Real.log 2)⁻¹ by ring]
  have hn : ∀ j, G j * (cb : EReal) ≤ 0 := fun j => by
    rw [hG]
    exact mul_nonpos_of_nonpos_of_nonneg (mul_nonpos_of_nonpos_of_nonneg (logsig_nonpos _)
      (by exact_mod_cast (by norm_num : (0:ℝ) ≤ 1/16))) (by exact_mod_cast cb_pos.le)
  have e : ∀ j, (min (Z (ix2 j c) + B (ix2 0 c)) 0 -
      Ideal.log1p (Ideal.exp (0 - FloatOps.absf (F := Ideal) (φ := .f32) (Z (ix2 j c) + B (ix2 0 c)))))
        * (Named.named (F := Ideal) (φ := .f32) κ "log2e_over_tau" 0x3DB8AA3B#32 : EReal) = G j * cb := fun j => by
    rw [hk, ← key, zero_sub]
    rfl
  unfold k0_pay38 k0_pay11
  pointwise
  simp only [causal_at, select_ite]
  have s := split3 (fun j : Fin 64 => j ≤ i) (fun j => G j * (cb : EReal)) hn
  rw [sum_mul_cb]
  simp only [ite_mul, zero_mul, one_mul] at s ⊢
  rw [← s]
  refine congrArg₂ (· + ·) (congrArg₂ (· + ·) ?_ ?_) ?_ <;>
    refine Finset.sum_congr rfl fun j _ => ?_ <;> rw [← e j]

end Cert.KernelIdeal.Ker
-- ==== Proof.KerTile.lean ====
module

public import proofs.«01_k».proof.Proof.KerHead
public import proofs.«01_k».proof.Proof.Gen.KernelIdeal.Frame
public import Idealize.ShloMosaic.Lib.Pipeline.ValueKit
public import Idealize.ShloMosaic.Lib.Pipeline.ReadBack

@[expose] public section

set_option maxRecDepth 16384
set_option maxHeartbeats 4000000

noncomputable section

namespace Cert.KernelIdeal.Ker

open Cert.KernelIdeal Cert.KernelIdeal.Gen Cert.Gla
open Idealize.ShloMosaic Idealize.ShloMosaic.TcCoe Idealize.SL.Sem
open scoped BigOperators

/-- What one step of the attention works on: the projected tile, its gate columns, the gate's factor and bias, the
state's four heads, the output gain. -/
structure Tile where
  /-- the projected tile -/
  P : Vec Ideal S256x3072 .f32
  /-- its gate columns -/
  Z : Vec Ideal S256x16 .f32
  /-- the gate's second factor -/
  wg : Vec Ideal S1x16x512 .f32
  /-- the gate's bias -/
  bg : Vec Ideal S1x1x512 .f32
  /-- the state the step starts from -/
  S : Vec Ideal S4x256x128 .f32
  /-- the head norm's gain -/
  og : Vec Ideal S1x1x1024 .f32

namespace Tile
variable (T : Tile) (e : Fin 4) (c : Fin 4)

/-- One head's queries of one chunk; its keys, values and output gates; the chunk's gate columns. -/
def q : Vec Ideal S64x128 .f32 := View.ld T.P (Rect.unit (s := S256x3072) ![64 * c.val, 128 * e.val] ![64, 128] (by revert e c; decide))
@[inherit_doc q] def k : Vec Ideal S64x128 .f32 := View.ld T.P (Rect.unit (s := S256x3072) ![64 * c.val, 512 + 128 * e.val] ![64, 128] (by revert e c; decide))
@[inherit_doc q] def v : Vec Ideal S64x256 .f32 := View.ld T.P (Rect.unit (s := S256x3072) ![64 * c.val, 1024 + 256 * e.val] ![64, 256] (by revert e c; decide))
@[inherit_doc q] def r : Vec Ideal S64x256 .f32 := View.ld T.P (Rect.unit (s := S256x3072) ![64 * c.val, 2048 + 256 * e.val] ![64, 256] (by revert e c; decide))
@[inherit_doc q] def z : Vec Ideal S64x16 .f32 := View.ld T.Z (Rect.unit (s := S256x16) ![64 * c.val, 0] ![64, 16] (by revert c; decide))
/-- One head's state before the step, its gain, and the running sums of its gates over one chunk. -/
def s0 : Vec Ideal S1x256x128 .f32 := View.ld T.S (Rect.unit (s := S4x256x128) ![e.val, 0, 0] ![1, 256, 128] (by revert e; decide))
@[inherit_doc s0] def g : Vec Ideal S1x1x256 .f32 := View.ld T.og (Rect.unit (s := S1x1x1024) ![0, 0, 256 * e.val] ![1, 1, 256] (by revert e; decide))
@[inherit_doc s0] def b : FVec Ideal S64x128 .f32 :=
  extractStridedSlice S64x128 ![0, 128 * e.val] (bAll T.wg T.bg (T.z c)) (by revert e; decide)

/-- One head's state before chunk `n` of the tile. -/
def st : ℕ → Vec Ideal S1x256x128 .f32
  | 0 => T.s0 e
  | n + 1 => headS (T.b e ⟨n % 4, Nat.mod_lt _ (by norm_num)⟩) (T.k e ⟨n % 4, Nat.mod_lt _ (by norm_num)⟩)
      (T.v e ⟨n % 4, Nat.mod_lt _ (by norm_num)⟩) (st n)

/-- One head's result of one chunk. -/
def y : FVec Ideal S64x256 .bf16 := headY (headO (T.b e c) (T.q e c) (T.k e c) (T.v e c) (T.st e c.val)) (T.r e c) (T.g e)

end Tile

variable (m : (ℓ : Loc nD τ sig) → Buf (Elt Ideal) ℓ)

/-- What the point `t` works on, over the state `S`. -/
def tile (c : Dev nD) (t : Fin cfg0.N) (S : Vec Ideal S4x256x128 .f32) : Tile where
  P := (outsAt0 m c (t.val - 1) (by omega)).2.2.2.2.2.1
  Z := (outsAt0 m c (t.val - 1) (by omega)).2.2.2.2.2.2.1
  wg := iblk m c 4 t
  bg := iblk m c 5 t
  S := S
  og := iblk m c 6 t

/-- An entry of head `e`'s state lies in the rectangle that head's store writes, at its own place. -/
theorem st_emb (e : Fin 4) (n : Fin 256) (d : Fin 128) (inb) :
    (Rect.unit (s := S4x256x128) ![e.val, 0, 0] S1x256x128.size inb).emb (ix3 0 n d) = (ix3 e n d : S4x256x128.Idx) := by
  funext a
  match a with
  | ⟨0, _⟩ => exact Fin.ext (show e.val + 1 * 0 = e.val by omega)
  | ⟨1, _⟩ => exact Fin.ext (show 0 + 1 * n.val = n.val by omega)
  | ⟨2, _⟩ => exact Fin.ext (show 0 + 1 * d.val = d.val by omega)

/-- An entry of head `e`'s state does not lie in another head's rectangle. -/
theorem st_miss (e e' : Fin 4) (h : e ≠ e') (n : Fin 256) (d : Fin 128) (inb) :
    (ix3 e n d : S4x256x128.Idx) ∉ (Rect.unit (s := S4x256x128) ![e'.val, 0, 0] S1x256x128.size inb).set := by
  intro hm
  have h0 := (Rect.mem_set_unit.mp hm) 0
  have h1 : e'.val ≤ e.val := h0.1
  have h2 : e.val < e'.val + 1 := h0.2
  exact h (Fin.ext (by omega))

/-- The state's entry of head `e`, after stores of which the last one of that head's is `w`. -/
theorem st_hit (e : Fin 4) (n : Fin 256) (d : Fin 128) (inb) (w : Vec Ideal S1x256x128 .f32) (L) :
    View.canon (Val := Elt Ideal) (s := S4x256x128) (e := .f32)
      (⟨Rect.unit (s := S4x256x128) ![e.val, 0, 0] S1x256x128.size inb, w⟩ :: L) (ix3 e n d) = w (ix3 0 n d) := by
  have h := View.canon_cons_emb (Rect.unit (s := S4x256x128) ![e.val, 0, 0] S1x256x128.size inb) w L (ix3 0 n d)
  rwa [st_emb] at h

/-- The same through a later store of another head. -/
theorem st_skip (e e' : Fin 4) (h : e ≠ e') (n : Fin 256) (d : Fin 128) (inb) (w : Vec Ideal S1x256x128 .f32) (L) (x)
    (hL : View.canon (Val := Elt Ideal) (s := S4x256x128) (e := .f32) L (ix3 e n d) = x) :
    View.canon (Val := Elt Ideal) (s := S4x256x128) (e := .f32)
      (⟨Rect.unit (s := S4x256x128) ![e'.val, 0, 0] S1x256x128.size inb, w⟩ :: L) (ix3 e n d) = x :=
  (View.canon_cons_of_not_mem _ _ (st_miss e e' h n d inb)).trans hL

theorem state_C (c : Dev nD) (t : Fin cfg0.N) (h0 : ¬t.val % 33 = 0)
    (h1 : ¬(t.val % 33 = 0 ∨ t.val % 33 = 1 ∨ t.val % 33 = 17)) (e : Fin 4) (n : Fin 256) (d : Fin 128) :
    (outsAt0 m c t.val t.isLt).2.2.2.2.2.2.2 (ix3 e n d)
      = (tile m c t (outsAt0 m c (t.val - 1) (by omega)).2.2.2.2.2.2.2).st e 4 (ix3 0 n d) := by
  rw [outsAt0_C m c t h0 h1]
  frame_open
  simp (disch := decide) only [↓ View.readCov_skip, ↓ View.readCov_cons_toLoadRect, ↓ View.readCov_fill]
  frame_out
  simp only [read_unread_whole]
  match e with
  | 3 => exact (st_hit 3 n d _ _ _).trans rfl
  | 2 => exact st_skip 2 3 (by decide) n d _ _ _ _ ((st_hit 2 n d _ _ _).trans rfl)
  | 1 => exact st_skip 1 3 (by decide) n d _ _ _ _ (st_skip 1 2 (by decide) n d _ _ _ _ ((st_hit 1 n d _ _ _).trans rfl))
  | 0 => exact st_skip 0 3 (by decide) n d _ _ _ _ (st_skip 0 2 (by decide) n d _ _ _ _
      (st_skip 0 1 (by decide) n d _ _ _ _ ((st_hit 0 n d _ _ _).trans rfl)))

theorem state_B (c : Dev nD) (t : Fin cfg0.N) (h0 : ¬t.val % 33 = 0)
    (h1 : (t.val % 33 = 0 ∨ t.val % 33 = 1 ∨ t.val % 33 = 17)) (e : Fin 4) (n : Fin 256) (d : Fin 128) :
    (outsAt0 m c t.val t.isLt).2.2.2.2.2.2.2 (ix3 e n d)
      = (tile m c t (k0_pay4 (F := Ideal))).st e 4 (ix3 0 n d) := by
  rw [outsAt0_B m c t h0 h1]
  frame_open
  simp (disch := decide) only [↓ View.readCov_skip, ↓ View.readCov_cons_toLoadRect, ↓ View.readCov_fill]
  frame_out
  simp only [read_unread_whole]
  match e with
  | 3 => exact (st_hit 3 n d _ _ _).trans rfl
  | 2 => exact st_skip 2 3 (by decide) n d _ _ _ _ ((st_hit 2 n d _ _ _).trans rfl)
  | 1 => exact st_skip 1 3 (by decide) n d _ _ _ _ (st_skip 1 2 (by decide) n d _ _ _ _ ((st_hit 1 n d _ _ _).trans rfl))
  | 0 => exact st_skip 0 3 (by decide) n d _ _ _ _ (st_skip 0 2 (by decide) n d _ _ _ _
      (st_skip 0 1 (by decide) n d _ _ _ _ ((st_hit 0 n d _ _ _).trans rfl)))

end Cert.KernelIdeal.Ker
-- ==== Proof.KerVal.lean ====
module

public import proofs.«01_k».proof.Proof.KerTile

@[expose] public section

set_option maxRecDepth 16384

noncomputable section

namespace Cert.KernelIdeal.Ker

open Cert.KernelIdeal Cert.KernelIdeal.Gen Cert.Gla
open Idealize.ShloMosaic Idealize.ShloMosaic.TcCoe Idealize.SL.Sem
open scoped BigOperators

/-- Row `i` of the tile that begins at chunk `n0` of sequence `b`. -/
def tokT (b : Fin 2) (n0 : ℕ) (i : Fin 256) : Fin 8192 := ⟨(b.val * 4096 + n0 * 64 + i.val) % 8192, Nat.mod_lt _ (by norm_num)⟩

/-- The tile holds what the call's function gives for the four chunks from `n0` of sequence `b`. -/
structure Fits (T : Tile) (A : Args) (b : Fin 2) (n0 : ℕ) : Prop where
  hP : ∀ (i : Fin 256) (n : Fin 3072), T.P (ix2 i n) = A.proj (tokT b n0 i) ⟨2048 + n.val, by omega⟩
  hZ : ∀ (i : Fin 256) (x : Fin 16), T.Z (ix2 i x) = A.proj (tokT b n0 i) ⟨5120 + x.val, by omega⟩
  hwg : ∀ (x : Fin 16) (n : Fin 512), T.wg (ix3 0 x n) = A.wg x n
  hbg : ∀ n : Fin 512, T.bg (ix3 0 0 n) = A.bg n
  hS : ∀ (e : Fin 4) (n : Fin 256) (d : Fin 128), T.S (ix3 e n d) = A.st b e n0 d n
  hog : ∀ n : Fin 1024, T.og (ix3 0 0 n) = A.og n

section
variable (T : Tile) (e c : Fin 4)

/-- Where the chunk's rows lie in the tile. -/
theorem q_at (i : Fin 64) (d : Fin 128) : T.q e c (ix2 i d) = T.P (ix2 ⟨64 * c.val + i.val, by omega⟩ ⟨128 * e.val + d.val, by omega⟩) := by
  refine congrArg T.P ?_
  funext a
  match a with
  | ⟨0, _⟩ => exact Fin.ext (show 64 * c.val + 1 * i.val = _ by simp)
  | ⟨1, _⟩ => exact Fin.ext (show 128 * e.val + 1 * d.val = _ by simp)

@[inherit_doc q_at] theorem k_at (i : Fin 64) (d : Fin 128) : T.k e c (ix2 i d) = T.P (ix2 ⟨64 * c.val + i.val, by omega⟩ ⟨512 + 128 * e.val + d.val, by omega⟩) := by
  refine congrArg T.P ?_
  funext a
  match a with
  | ⟨0, _⟩ => exact Fin.ext (show 64 * c.val + 1 * i.val = _ by simp)
  | ⟨1, _⟩ => exact Fin.ext (show 512 + 128 * e.val + 1 * d.val = _ by simp)

@[inherit_doc q_at] theorem v_at (i : Fin 64) (d : Fin 256) : T.v e c (ix2 i d) = T.P (ix2 ⟨64 * c.val + i.val, by omega⟩ ⟨1024 + 256 * e.val + d.val, by omega⟩) := by
  refine congrArg T.P ?_
  funext a
  match a with
  | ⟨0, _⟩ => exact Fin.ext (show 64 * c.val + 1 * i.val = _ by simp)
  | ⟨1, _⟩ => exact Fin.ext (show 1024 + 256 * e.val + 1 * d.val = _ by simp)

@[inherit_doc q_at] theorem r_at (i : Fin 64) (d : Fin 256) : T.r e c (ix2 i d) = T.P (ix2 ⟨64 * c.val + i.val, by omega⟩ ⟨2048 + 256 * e.val + d.val, by omega⟩) := by
  refine congrArg T.P ?_
  funext a
  match a with
  | ⟨0, _⟩ => exact Fin.ext (show 64 * c.val + 1 * i.val = _ by simp)
  | ⟨1, _⟩ => exact Fin.ext (show 2048 + 256 * e.val + 1 * d.val = _ by simp)

@[inherit_doc q_at] theorem z_at (i : Fin 64) (d : Fin 16) : T.z c (ix2 i d) = T.Z (ix2 ⟨64 * c.val + i.val, by omega⟩ d) := by
  refine congrArg T.Z ?_
  funext a
  match a with
  | ⟨0, _⟩ => exact Fin.ext (show 64 * c.val + 1 * i.val = _ by simp)
  | ⟨1, _⟩ => exact Fin.ext (show 0 + 1 * d.val = _ by simp)

@[inherit_doc q_at] theorem g_at (d : Fin 256) : T.g e (ix3 0 0 d) = T.og (ix3 0 0 ⟨256 * e.val + d.val, by omega⟩) := by
  refine congrArg T.og ?_
  funext a
  match a with
  | ⟨0, _⟩ => rfl
  | ⟨1, _⟩ => rfl
  | ⟨2, _⟩ => exact Fin.ext (show 256 * e.val + 1 * d.val = _ by simp)

@[inherit_doc q_at] theorem s0_at (n : Fin 256) (d : Fin 128) : T.s0 e (ix3 0 n d) = T.S (ix3 e n d) :=
  congrArg T.S (st_emb e n d _)

@[inherit_doc q_at] theorem b_at (i : Fin 64) (d : Fin 128) :
    T.b e c (ix2 i d) = bAll T.wg T.bg (T.z c) (ix2 i ⟨128 * e.val + d.val, by omega⟩) := by
  unfold Tile.b
  generalize bAll T.wg T.bg (T.z c) = B
  refine congrArg B ?_
  funext a
  match a with
  | ⟨0, _⟩ => exact Fin.ext (show 0 + i.val = _ by simp)
  | ⟨1, _⟩ => exact Fin.ext (show 128 * e.val + d.val = _ by simp)

end

section
variable {T : Tile} {A : Args} {b : Fin 2} {n0 : ℕ} (h : Fits T A b n0) (e c : Fin 4)
include h

theorem tokT_eq (i : Fin 64) : tokT b n0 ⟨64 * c.val + i.val, by omega⟩ = row b (n0 + c.val) i := by
  unfold tokT row
  refine Fin.ext ?_
  dsimp only
  congr 1; ring

/-- The chunk's queries, keys, values, and running sums of its gates, as the call's function has them. -/
theorem fits_q (i : Fin 64) (d : Fin 128) : T.q e c (ix2 i d) * qs = A.qc b e (n0 + c.val) i d := by
  rw [q_at, h.hP, tokT_eq h c i]
  unfold Args.qc
  refine congrArg (· * qs) (congrArg (A.proj _) (Fin.ext ?_))
  dsimp only; ring

@[inherit_doc fits_q] theorem fits_k (i : Fin 64) (d : Fin 128) : T.k e c (ix2 i d) = A.kc b e (n0 + c.val) i d := by
  rw [k_at, h.hP, tokT_eq h c i]
  unfold Args.kc
  refine congrArg (A.proj _) (Fin.ext ?_)
  dsimp only; ring

@[inherit_doc fits_q] theorem fits_v (i : Fin 64) (d : Fin 256) : T.v e c (ix2 i d) = A.vc b e (n0 + c.val) i d := by
  rw [v_at, h.hP, tokT_eq h c i]
  unfold Args.vc
  refine congrArg (A.proj _) (Fin.ext ?_)
  dsimp only; ring

@[inherit_doc fits_q] theorem fits_r (i : Fin 64) (d : Fin 256) :
    T.r e c (ix2 i d) = A.proj (row b (n0 + c.val) i) ⟨4096 + e.val * 256 + d.val, by omega⟩ := by
  rw [r_at, h.hP, tokT_eq h c i]
  refine congrArg (A.proj _) (Fin.ext ?_)
  dsimp only; ring

@[inherit_doc fits_q] theorem fits_b (i : Fin 64) (d : Fin 128) : T.b e c (ix2 i d) = cum (A.gc b e (n0 + c.val)) i d * cb := by
  rw [b_at, bAll_at T.wg T.bg (T.z c) (fun j => A.gc b e (n0 + c.val) j d) _ (fun j => ?_) i]
  · rfl
  · unfold Args.gc
    rw [gate_eq]
    refine congrArg (logsig · * _) ?_
    unfold Args.pre
    refine congrArg₂ (· + ·) (Finset.sum_congr rfl fun x _ => ?_) ?_
    · rw [z_at, h.hZ, h.hwg, tokT_eq h c j]
      refine congrArg (A.proj _ _ * A.wg x ·) (Fin.ext ?_)
      dsimp only; ring
    · rw [h.hbg]
      refine congrArg A.bg (Fin.ext ?_)
      dsimp only; ring

/-- A head's state before chunk `n` of the tile is the recurrence's state there. -/
theorem fits_st : ∀ (n : ℕ) (_ : n ≤ 4) (v : Fin 256) (d : Fin 128), T.st e n (ix3 0 v d) = A.st b e (n0 + n) d v
  | 0, _, v, d => (s0_at T e v d).trans (h.hS e v d)
  | n + 1, hn, v, d => by
    have hc : n % 4 = n := Nat.mod_eq_of_lt (by omega)
    have key := headS_at (A.gc b e (n0 + n)) (A.kc b e (n0 + n)) (A.vc b e (n0 + n)) (A.st b e (n0 + n))
      (T.b e ⟨n % 4, Nat.mod_lt _ (by norm_num)⟩) (T.k e ⟨n % 4, Nat.mod_lt _ (by norm_num)⟩)
      (T.v e ⟨n % 4, Nat.mod_lt _ (by norm_num)⟩) (T.st e n)
      (fun i c => by rw [fits_b h]; simp only [hc]) (fun i c => by rw [fits_k h]; simp only [hc])
      (fun i c => by rw [fits_v h]; simp only [hc]) (fun v d => fits_st n (by omega) v d) v d
    exact key

/-- A head's result of one chunk is the branch's. -/
theorem fits_y (i : Fin 64) (n : Fin 256) : T.y e c (ix2 i n) = A.yc b e (n0 + c.val) i n := by
  have ho : ∀ j, headO (T.b e c) (T.q e c) (T.k e c) (T.v e c) (T.st e c.val) (ix2 i j) = A.out b e (n0 + c.val) i j := fun j =>
    headO_at (A.gc b e (n0 + c.val)) (A.qc b e (n0 + c.val)) (A.kc b e (n0 + c.val)) (A.vc b e (n0 + c.val)) (A.st b e (n0 + c.val))
      _ _ _ _ _ (gc_nonpos A b e _) (fits_b h e c) (fits_q h e c) (fits_k h e c) (fits_v h e c)
      (fun v d => fits_st h e c.val (by omega) v d) i j
  unfold Tile.y
  rw [headY_at, g_at, h.hog, fits_r h]
  simp only [ho]
  unfold Args.yc
  refine congrArg (_ * A.og · * _) (Fin.ext ?_)
  dsimp only; ring

end

end Cert.KernelIdeal.Ker

end
-- ==== Proof.KerOut.lean ====
module

public import proofs.«01_k».proof.Proof.KerTile

@[expose] public section

set_option maxRecDepth 16384
set_option maxHeartbeats 1000000

noncomputable section

namespace Cert.KernelIdeal.Ker

open Cert.KernelIdeal Cert.KernelIdeal.Gen Cert.Gla
open Idealize.ShloMosaic Idealize.ShloMosaic.TcCoe Idealize.SL.Sem
open scoped BigOperators

/-- What a list of stores leaves at an index: the newest one's payload where `p` holds, else the earlier ones'. -/
theorem piece_step {s : Shape} {φ : EltTy} (r : Rect s) (w : r.shape.Idx → Elt Ideal φ) (L : List (View.Piece (Elt Ideal) s φ))
    (y : s.Idx) (v : Elt Ideal φ) (p : Prop) (hp : p ∨ ¬ p) (hx : p → ∃ x, r.emb x = y ∧ w x = v) (hn : ¬p → y ∉ r.set)
    (hL : ¬p → View.canon (Val := Elt Ideal) L y = v) : View.canon (Val := Elt Ideal) (⟨r, w⟩ :: L) y = v := by
  rcases hp with h | h
  · obtain ⟨x, rfl, e⟩ := hx h
    rw [View.canon_cons_emb, e]
  · rw [View.canon_cons_of_not_mem _ _ (hn h)]
    exact hL h

/-- One store of a head's result of a chunk, into the result's block. -/
theorem y_step (T : Tile) (e c : Fin 4) (inb)
    (w : (Rect.unit (s := S256x1024) ![64 * c.val, 256 * e.val] S64x256.size inb).shape.Idx → Elt Ideal .bf16) (hw : w = T.y e c) (L) (i : Fin 256) (n : Fin 1024)
    (hL : ¬((⟨n.val / 256, by omega⟩ : Fin 4) = e ∧ (⟨i.val / 64, by omega⟩ : Fin 4) = c) →
      View.canon (Val := Elt Ideal) (s := S256x1024) (e := .bf16) L (ix2 i n)
        = T.y ⟨n.val / 256, by omega⟩ ⟨i.val / 64, by omega⟩ (ix2 ⟨i.val % 64, by omega⟩ ⟨n.val % 256, by omega⟩)) :
    View.canon (Val := Elt Ideal) (s := S256x1024) (e := .bf16)
      (⟨Rect.unit (s := S256x1024) ![64 * c.val, 256 * e.val] S64x256.size inb, w⟩ :: L) (ix2 i n)
        = T.y ⟨n.val / 256, by omega⟩ ⟨i.val / 64, by omega⟩ (ix2 ⟨i.val % 64, by omega⟩ ⟨n.val % 256, by omega⟩) := by
  refine piece_step (s := S256x1024) _ w L (ix2 i n) _ _ (Classical.em _) (fun h => ?_) (fun h hm => h ?_) hL
  · obtain ⟨h1, h2⟩ := h
    refine ⟨ix2 ⟨i.val % 64, by omega⟩ ⟨n.val % 256, by omega⟩, ?_, by rw [hw, h1, h2]⟩
    have h1' : n.val / 256 = e.val := congrArg Fin.val h1
    have h2' : i.val / 64 = c.val := congrArg Fin.val h2
    funext a
    match a with
    | ⟨0, _⟩ => exact Fin.ext (show 64 * c.val + 1 * (i.val % 64) = i.val by omega)
    | ⟨1, _⟩ => exact Fin.ext (show 256 * e.val + 1 * (n.val % 256) = n.val by omega)
  · have h0 := (Rect.mem_set_unit.mp hm) 0
    have h1 := (Rect.mem_set_unit.mp hm) 1
    have a0 : 64 * c.val ≤ i.val := h0.1
    have a1 : i.val < 64 * c.val + 64 := h0.2
    have b0 : 256 * e.val ≤ n.val := h1.1
    have b1 : n.val < 256 * e.val + 256 := h1.2
    exact ⟨Fin.ext (by simp only []; omega), Fin.ext (by simp only []; omega)⟩

/-- One store of 256 columns, into a block of `C` columns. -/
theorem col_step {C : ℕ} (G : ℕ → FVec Ideal S256x256 .f32) (j : ℕ) (inb)
    (w : (Rect.unit (s := ⟨2, ![256, C]⟩) ![0, 256 * j] S256x256.size inb).shape.Idx → Elt Ideal .f32) (hw : w = G j) (L) (i : Fin 256) (n : Fin C)
    (hL : ¬(n.val / 256 = j) → View.canon (Val := Elt Ideal) (s := ⟨2, ![256, C]⟩) (e := .f32) L (ix2 i n)
        = G (n.val / 256) (ix2 i ⟨n.val % 256, by omega⟩)) :
    View.canon (Val := Elt Ideal) (s := ⟨2, ![256, C]⟩) (e := .f32)
      (⟨Rect.unit (s := ⟨2, ![256, C]⟩) ![0, 256 * j] S256x256.size inb, w⟩ :: L) (ix2 i n)
        = G (n.val / 256) (ix2 i ⟨n.val % 256, by omega⟩) := by
  refine piece_step (s := ⟨2, ![256, C]⟩) _ w L (ix2 i n) _ _ (Classical.em _) (fun h => ?_) (fun h hm => h ?_) hL
  · refine ⟨ix2 i ⟨n.val % 256, by omega⟩, ?_, by rw [hw, h]⟩
    funext a
    match a with
    | ⟨0, _⟩ => exact Fin.ext (show 0 + 1 * i.val = i.val by omega)
    | ⟨1, _⟩ => exact Fin.ext (show 256 * j + 1 * (n.val % 256) = n.val by omega)
  · have h1 := (Rect.mem_set_unit.mp hm) 1
    have b0 : 256 * j ≤ n.val := h1.1
    have b1 : n.val < 256 * j + 256 := h1.2
    omega

variable (m : (ℓ : Loc nD τ sig) → Buf (Elt Ideal) ℓ)

/-- No (head, chunk) pair is left out by the sixteen stores. -/
theorem none_left : ∀ a b : Fin 4, (∀ e c : Fin 4, ¬(a = e ∧ b = c)) → False := fun a b h => h a b ⟨rfl, rfl⟩

end Cert.KernelIdeal.Ker
-- ==== Proof.KerCol.lean ====
module

public import proofs.«01_k».proof.Proof.KerOut

@[expose] public section

set_option maxRecDepth 16384
set_option maxHeartbeats 4000000

noncomputable section

namespace Cert.KernelIdeal.Ker

open Cert.KernelIdeal Cert.KernelIdeal.Gen Cert.Gla
open Idealize.ShloMosaic Idealize.ShloMosaic.TcCoe Idealize.SL.Sem
open scoped BigOperators

variable (m : (ℓ : Loc nD τ sig) → Buf (Elt Ideal) ℓ)
/-- The columns from `256 * j` of the packed projection of one point's tile. -/
def colP (c : Dev nD) (t : Fin cfg0.N) (j : ℕ) : FVec Ideal S256x256 .f32 :=
  k0_pay36 (k0_pay8 (iblk m c 0 t) (iblk m c 1 t) (iblk m c 2 t))
    (View.ld (iblk m c 3 t) (Rect.unit (s := S1x2048x5136) ![0, 0, 256 * (j % 20)] ![1, 2048, 256] (by
      have : j % 20 < 20 := Nat.mod_lt _ (by norm_num)
      generalize j % 20 = k at this; revert k; decide)))

/-- What the whole of the next tile's buffer holds, read back: what its stores left. -/
theorem pay395_at (v : View sig .tc .vmem S256x3072 .f32) (L : List (View.Piece (Elt Ideal) S256x3072 .f32)) (inb) (i : Fin 256) (n : Fin 3072) :
    k0_pay395 (F := Ideal) (v.readCov L (Rect.unit (s := S256x3072) ![0, 0] ![256, 3072] inb).toLoadRect) (ix2 i n)
      = View.canon (Val := Elt Ideal) L (ix2 i n) := by
  rw [View.readCov_eq_canon']
  unfold k0_pay395
  pointwise

end Cert.KernelIdeal.Ker

end
-- ==== Proof.KerBlk.lean ====
module

public import proofs.«01_k».proof.Proof.KerCol
public import Idealize.ShloMosaic.Lib.StableHlo.ReadAt

@[expose] public section

set_option maxRecDepth 16384

noncomputable section

namespace Cert.KernelIdeal.Ker

open Cert.KernelIdeal Cert.KernelIdeal.Gen Cert.Gla
open Idealize.ShloMosaic Idealize.ShloMosaic.TcCoe Idealize.ShloMosaic.StableHlo Idealize.SL.Sem
open scoped BigOperators

variable (m : (ℓ : Loc nD τ sig) → Buf (Elt Ideal) ℓ)

/-- The kernel's arrays as the call's arguments. -/
def argsK (c : Dev nD) : Args where
  h r k := m ((c : Thread nD τ).loc main_arg0) (ix2 r k)
  d r k := m ((c : Thread nD τ).loc main_arg1) (ix2 r k)
  mn k := m ((c : Thread nD τ).loc main_arg2) (ix2 0 k)
  w j k := m ((c : Thread nD τ).loc main_arg3) (ix3 0 j k)
  wg z k := m ((c : Thread nD τ).loc main_arg4) (ix3 0 z k)
  bg k := m ((c : Thread nD τ).loc main_arg5) (ix2 0 k)
  og k := m ((c : Thread nD τ).loc main_arg6) (ix2 0 k)

/-- Where each input window's block lies at a point. -/
theorem idx : ∀ t : Fin cfg0.N, win0_0.index t = ![min t.val 31, 0] ∧ win0_1.index t = ![min t.val 31, 0]
    ∧ win0_2.index t = ![0, 0, 0] ∧ win0_3.index t = ![0, 0, 0] ∧ win0_4.index t = ![0, 0, 0]
    ∧ win0_5.index t = ![0, 0, 0] ∧ win0_6.index t = ![0, 0, 0]
    ∧ win0_7.index t = ![0, min t.val 31, 0] ∧ win0_8.index t = ![0, min t.val 31, 0] := by
  decide +kernel

/-- The reshaped weights when the grid starts. -/
theorem V0_at (c : Dev nD) (k : Fin 2048) : V m c main_v0 (ix3 0 0 k) = (argsK m c).mn k := by
  unfold V
  after_reads_at
  rfl

theorem V1_at (c : Dev nD) (j : Fin 2048) (k : Fin 5136) : V m c main_v1 (ix3 0 j k) = (argsK m c).w j k := by
  unfold V
  after_reads_at
  rfl

theorem V2_at (c : Dev nD) (k : Fin 512) : V m c main_v2 (ix3 0 0 k) = (argsK m c).bg k := by
  unfold V
  after_reads_at
  rfl

theorem V3_at (c : Dev nD) (k : Fin 1024) : V m c main_v3 (ix3 0 0 k) = (argsK m c).og k := by
  unfold V
  after_reads_at
  rfl

/-- A row of a point's tile. -/
def trow (t : ℕ) (i : Fin 256) : Fin 8192 := ⟨min t 31 * 256 + i.val, by omega⟩

theorem blk0_at (c : Dev nD) (t : Fin cfg0.N) (i : Fin 256) (k : Fin 2048) :
    iblk m c 0 t (ix2 i k) = (argsK m c).h (trow t.val i) k := by
  unfold argsK trow
  blk_ext [iblk, V, idx t]

theorem blk1_at (c : Dev nD) (t : Fin cfg0.N) (i : Fin 256) (k : Fin 2048) :
    iblk m c 1 t (ix2 i k) = (argsK m c).d (trow t.val i) k := by
  unfold argsK trow
  blk_ext [iblk, V, idx t]

theorem blk2_at (c : Dev nD) (t : Fin cfg0.N) (k : Fin 2048) :
    iblk m c 2 t (ix3 0 0 k) = (argsK m c).mn k := by
  rw [← V0_at]
  blk_ext [iblk, idx t]

theorem blk3_at (c : Dev nD) (t : Fin cfg0.N) (j : Fin 2048) (k : Fin 5136) :
    iblk m c 3 t (ix3 0 j k) = (argsK m c).w j k := by
  rw [← V1_at]
  blk_ext [iblk, idx t]

theorem blk4_at (c : Dev nD) (t : Fin cfg0.N) (j : Fin 16) (k : Fin 512) :
    iblk m c 4 t (ix3 0 j k) = (argsK m c).wg j k := by
  unfold argsK
  blk_ext [iblk, V, idx t]

theorem blk5_at (c : Dev nD) (t : Fin cfg0.N) (k : Fin 512) :
    iblk m c 5 t (ix3 0 0 k) = (argsK m c).bg k := by
  rw [← V2_at]
  blk_ext [iblk, idx t]

theorem blk6_at (c : Dev nD) (t : Fin cfg0.N) (k : Fin 1024) :
    iblk m c 6 t (ix3 0 0 k) = (argsK m c).og k := by
  rw [← V3_at]
  blk_ext [iblk, idx t]

theorem blk7_at (c : Dev nD) (t : Fin cfg0.N) (i : Fin 64) (k : Fin 2048) :
    iblk m c 7 t (ix3 0 i k) = m ((c : Thread nD τ).loc main_arg7) (ix3 0 ⟨min t.val 31 * 64 + i.val, by omega⟩ k) := by
  blk_ext [iblk, V, idx t]

theorem blk8_at (c : Dev nD) (t : Fin cfg0.N) (i : Fin 64) (k : Fin 2048) :
    iblk m c 8 t (ix3 0 i k) = m ((c : Thread nD τ).loc main_arg8) (ix3 0 ⟨min t.val 31 * 64 + i.val, by omega⟩ k) := by
  blk_ext [iblk, V, idx t]

end Cert.KernelIdeal.Ker

end
-- ==== Proof.KerColA.lean ====
module

public import proofs.«01_k».proof.Proof.KerCol

@[expose] public section

set_option maxRecDepth 16384
set_option maxHeartbeats 1000000

noncomputable section

namespace Cert.KernelIdeal.Ker

open Cert.KernelIdeal Cert.KernelIdeal.Gen Cert.Gla
open Idealize.ShloMosaic Idealize.ShloMosaic.TcCoe Idealize.SL.Sem
open scoped BigOperators

variable (m : (ℓ : Loc nD τ sig) → Buf (Elt Ideal) ℓ)
/-- The sum of the two residuals a point writes. -/
theorem h1_A (c : Dev nD) (t : Fin cfg0.N) (h0 : t.val % 33 = 0)
    (h1 : (t.val % 33 = 0 ∨ t.val % 33 = 1 ∨ t.val % 33 = 17)) :
    (outsAt0 m c t.val t.isLt).1 = k0_pay7 (iblk m c 0 t) (iblk m c 1 t) := by
  rw [outsAt0_A m c t h0 h1]
  frame_out
  try rfl

/-- The first weight's block, kept as it is. -/
theorem wa_A (c : Dev nD) (t : Fin cfg0.N) (h0 : t.val % 33 = 0)
    (h1 : (t.val % 33 = 0 ∨ t.val % 33 = 1 ∨ t.val % 33 = 17)) :
    (outsAt0 m c t.val t.isLt).2.2.2.1 = k0_pay5 (iblk m c 7 t) := by
  rw [outsAt0_A m c t h0 h1]
  frame_out
  rfl

/-- The second weight's block, kept as it is. -/
theorem wb_A (c : Dev nD) (t : Fin cfg0.N) (h0 : t.val % 33 = 0)
    (h1 : (t.val % 33 = 0 ∨ t.val % 33 = 1 ∨ t.val % 33 = 17)) :
    (outsAt0 m c t.val t.isLt).2.2.2.2.1 = k0_pay6 (iblk m c 8 t) := by
  rw [outsAt0_A m c t h0 h1]
  frame_out
  rfl

/-- The decay's low-rank columns a point leaves for the next one. -/
theorem z_A (c : Dev nD) (t : Fin cfg0.N) (h0 : t.val % 33 = 0)
    (h1 : (t.val % 33 = 0 ∨ t.val % 33 = 1 ∨ t.val % 33 = 17)) :
    (outsAt0 m c t.val t.isLt).2.2.2.2.2.2.1 =
    k0_pay9 (iblk m c 0 t) (iblk m c 1 t) (iblk m c 2 t)
    (View.ld (iblk m c 3 t) (Rect.unit (s := S1x2048x5136) ![0, 0, 5120] ![1, 2048, 16] inb_S1x2048x5136_S1x2048x16_0_0_5120)) := by
  rw [outsAt0_A m c t h0 h1]
  frame_out
  simp only [k0_pay9, k0_pay8, k0_pay1, k0_pay7, shapeCast_id]
  rfl

/-- The first 2048 columns of the packed projection. -/
theorem auv_A (c : Dev nD) (t : Fin cfg0.N) (h0 : t.val % 33 = 0)
    (h1 : (t.val % 33 = 0 ∨ t.val % 33 = 1 ∨ t.val % 33 = 17)) (i : Fin 256) (n : Fin 2048) :
    (outsAt0 m c t.val t.isLt).2.1 (ix2 i n) = colP m c t (n.val / 256) (ix2 i ⟨n.val % 256, by omega⟩) := by
  have hn : n.val / 256 < 8 := by omega
  rw [outsAt0_A m c t h0 h1]
  frame_out
  refine col_step (colP m c t) 7 _ _ ?_ _ i n fun a7 => ?_
  swap
  refine col_step (colP m c t) 6 _ _ ?_ _ i n fun a6 => ?_
  swap
  refine col_step (colP m c t) 5 _ _ ?_ _ i n fun a5 => ?_
  swap
  refine col_step (colP m c t) 4 _ _ ?_ _ i n fun a4 => ?_
  swap
  refine col_step (colP m c t) 3 _ _ ?_ _ i n fun a3 => ?_
  swap
  refine col_step (colP m c t) 2 _ _ ?_ _ i n fun a2 => ?_
  swap
  refine col_step (colP m c t) 1 _ _ ?_ _ i n fun a1 => ?_
  swap
  refine col_step (colP m c t) 0 _ _ ?_ _ i n fun a0 => ?_
  swap
  · exact absurd hn (by omega)
  all_goals
    simp only [colP, shapeCast_id, Nat.reduceMul, Nat.reduceMod,
      k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91,
      k0_pay92, k0_pay93, k0_pay94, k0_pay95, k0_pay96, k0_pay97, k0_pay98, k0_pay99, k0_pay100, k0_pay101,
      k0_pay102, k0_pay103, k0_pay104, k0_pay105, k0_pay106, k0_pay107, k0_pay108, k0_pay109, k0_pay110,
      k0_pay111, k0_pay112, k0_pay113, k0_pay114, k0_pay115, k0_pay116, k0_pay117, k0_pay118, k0_pay119,
      k0_pay120, k0_pay121, k0_pay122, k0_pay123, k0_pay124, k0_pay125, k0_pay126, k0_pay127, k0_pay128,
      k0_pay129, k0_pay130, k0_pay131, k0_pay132, k0_pay133, k0_pay134, k0_pay135, k0_pay136, k0_pay137,
      k0_pay138, k0_pay139, k0_pay140, k0_pay141, k0_pay142, k0_pay143, k0_pay144, k0_pay145, k0_pay146,
      k0_pay147, k0_pay148, k0_pay149, k0_pay150, k0_pay151, k0_pay152, k0_pay153, k0_pay154, k0_pay155,
      k0_pay156, k0_pay157, k0_pay158, k0_pay159, k0_pay160, k0_pay161, k0_pay162, k0_pay163, k0_pay164,
      k0_pay165, k0_pay166, k0_pay167, k0_pay168, k0_pay169, k0_pay170, k0_pay171, k0_pay172, k0_pay173,
      k0_pay174, k0_pay175, k0_pay176, k0_pay177, k0_pay178, k0_pay179, k0_pay180, k0_pay181, k0_pay182,
      k0_pay183, k0_pay184, k0_pay185, k0_pay186, k0_pay187, k0_pay188, k0_pay189, k0_pay190, k0_pay191,
      k0_pay192, k0_pay193, k0_pay194, k0_pay195, k0_pay196, k0_pay197, k0_pay198, k0_pay199, k0_pay200,
      k0_pay201, k0_pay202, k0_pay203, k0_pay204, k0_pay205, k0_pay206, k0_pay207, k0_pay208, k0_pay209,
      k0_pay210, k0_pay211, k0_pay212, k0_pay213, k0_pay214, k0_pay215, k0_pay216, k0_pay217, k0_pay218,
      k0_pay219, k0_pay220, k0_pay221, k0_pay222, k0_pay223, k0_pay224, k0_pay225, k0_pay226, k0_pay227,
      k0_pay228, k0_pay229, k0_pay230, k0_pay231, k0_pay232, k0_pay233, k0_pay234, k0_pay235, k0_pay236,
      k0_pay237, k0_pay238, k0_pay239, k0_pay240, k0_pay241, k0_pay242, k0_pay243, k0_pay244, k0_pay245,
      k0_pay246, k0_pay247, k0_pay248, k0_pay249, k0_pay250, k0_pay251, k0_pay252, k0_pay253, k0_pay254,
      k0_pay255, k0_pay256, k0_pay257, k0_pay258, k0_pay259, k0_pay260, k0_pay261, k0_pay262, k0_pay263,
      k0_pay264, k0_pay265, k0_pay266, k0_pay267, k0_pay268, k0_pay269, k0_pay270, k0_pay271, k0_pay272,
      k0_pay273, k0_pay274, k0_pay275, k0_pay276, k0_pay277, k0_pay278, k0_pay279, k0_pay280, k0_pay281,
      k0_pay282, k0_pay283, k0_pay284, k0_pay285, k0_pay286, k0_pay287, k0_pay288, k0_pay289, k0_pay290,
      k0_pay291, k0_pay292, k0_pay293, k0_pay294, k0_pay295, k0_pay296, k0_pay297, k0_pay298, k0_pay299,
      k0_pay300, k0_pay301, k0_pay302, k0_pay303, k0_pay304, k0_pay305, k0_pay306, k0_pay307, k0_pay308,
      k0_pay309, k0_pay310, k0_pay311, k0_pay312, k0_pay313, k0_pay314, k0_pay315, k0_pay316, k0_pay317,
      k0_pay318, k0_pay319, k0_pay320, k0_pay321, k0_pay322, k0_pay323, k0_pay324, k0_pay325, k0_pay326,
      k0_pay327, k0_pay328, k0_pay329, k0_pay330, k0_pay331, k0_pay332, k0_pay333, k0_pay334, k0_pay335,
      k0_pay336, k0_pay337, k0_pay338, k0_pay339, k0_pay340, k0_pay341, k0_pay342, k0_pay343, k0_pay344,
      k0_pay345, k0_pay346, k0_pay347, k0_pay348, k0_pay349, k0_pay350, k0_pay351, k0_pay352, k0_pay353,
      k0_pay354, k0_pay355, k0_pay356, k0_pay357, k0_pay358, k0_pay359, k0_pay360, k0_pay361, k0_pay362,
      k0_pay363, k0_pay364, k0_pay365, k0_pay366, k0_pay367, k0_pay368, k0_pay369, k0_pay370, k0_pay371,
      k0_pay372, k0_pay373, k0_pay374, k0_pay375, k0_pay376, k0_pay377, k0_pay378, k0_pay379, k0_pay380,
      k0_pay381, k0_pay382, k0_pay383, k0_pay384, k0_pay385, k0_pay386, k0_pay387, k0_pay388, k0_pay389,
      k0_pay390, k0_pay391, k0_pay392, k0_pay393, k0_pay394, k0_pay395]
    rfl

/-- The projection's columns a point leaves for the next one. -/
theorem proj_A (c : Dev nD) (t : Fin cfg0.N) (h0 : t.val % 33 = 0)
    (h1 : (t.val % 33 = 0 ∨ t.val % 33 = 1 ∨ t.val % 33 = 17)) (i : Fin 256) (n : Fin 3072) :
    (outsAt0 m c t.val t.isLt).2.2.2.2.2.1 (ix2 i n) = colP m c t (8 + n.val / 256) (ix2 i ⟨n.val % 256, by omega⟩) := by
  have hn : n.val / 256 < 12 := by omega
  rw [outsAt0_A m c t h0 h1]
  frame_out
  rw [pay395_at]
  refine col_step (fun j => colP m c t (8 + j)) 11 _ _ ?_ _ i n fun a11 => ?_
  swap
  refine col_step (fun j => colP m c t (8 + j)) 10 _ _ ?_ _ i n fun a10 => ?_
  swap
  refine col_step (fun j => colP m c t (8 + j)) 9 _ _ ?_ _ i n fun a9 => ?_
  swap
  refine col_step (fun j => colP m c t (8 + j)) 8 _ _ ?_ _ i n fun a8 => ?_
  swap
  refine col_step (fun j => colP m c t (8 + j)) 7 _ _ ?_ _ i n fun a7 => ?_
  swap
  refine col_step (fun j => colP m c t (8 + j)) 6 _ _ ?_ _ i n fun a6 => ?_
  swap
  refine col_step (fun j => colP m c t (8 + j)) 5 _ _ ?_ _ i n fun a5 => ?_
  swap
  refine col_step (fun j => colP m c t (8 + j)) 4 _ _ ?_ _ i n fun a4 => ?_
  swap
  refine col_step (fun j => colP m c t (8 + j)) 3 _ _ ?_ _ i n fun a3 => ?_
  swap
  refine col_step (fun j => colP m c t (8 + j)) 2 _ _ ?_ _ i n fun a2 => ?_
  swap
  refine col_step (fun j => colP m c t (8 + j)) 1 _ _ ?_ _ i n fun a1 => ?_
  swap
  refine col_step (fun j => colP m c t (8 + j)) 0 _ _ ?_ _ i n fun a0 => ?_
  swap
  · exact absurd hn (by omega)
  all_goals
    simp only [colP, shapeCast_id, Nat.reduceMul, Nat.reduceAdd, Nat.reduceMod,
      k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91,
      k0_pay92, k0_pay93, k0_pay94, k0_pay95, k0_pay96, k0_pay97, k0_pay98, k0_pay99, k0_pay100, k0_pay101,
      k0_pay102, k0_pay103, k0_pay104, k0_pay105, k0_pay106, k0_pay107, k0_pay108, k0_pay109, k0_pay110,
      k0_pay111, k0_pay112, k0_pay113, k0_pay114, k0_pay115, k0_pay116, k0_pay117, k0_pay118, k0_pay119,
      k0_pay120, k0_pay121, k0_pay122, k0_pay123, k0_pay124, k0_pay125, k0_pay126, k0_pay127, k0_pay128,
      k0_pay129, k0_pay130, k0_pay131, k0_pay132, k0_pay133, k0_pay134, k0_pay135, k0_pay136, k0_pay137,
      k0_pay138, k0_pay139, k0_pay140, k0_pay141, k0_pay142, k0_pay143, k0_pay144, k0_pay145, k0_pay146,
      k0_pay147, k0_pay148, k0_pay149, k0_pay150, k0_pay151, k0_pay152, k0_pay153, k0_pay154, k0_pay155,
      k0_pay156, k0_pay157, k0_pay158, k0_pay159, k0_pay160, k0_pay161, k0_pay162, k0_pay163, k0_pay164,
      k0_pay165, k0_pay166, k0_pay167, k0_pay168, k0_pay169, k0_pay170, k0_pay171, k0_pay172, k0_pay173,
      k0_pay174, k0_pay175, k0_pay176, k0_pay177, k0_pay178, k0_pay179, k0_pay180, k0_pay181, k0_pay182,
      k0_pay183, k0_pay184, k0_pay185, k0_pay186, k0_pay187, k0_pay188, k0_pay189, k0_pay190, k0_pay191,
      k0_pay192, k0_pay193, k0_pay194, k0_pay195, k0_pay196, k0_pay197, k0_pay198, k0_pay199, k0_pay200,
      k0_pay201, k0_pay202, k0_pay203, k0_pay204, k0_pay205, k0_pay206, k0_pay207, k0_pay208, k0_pay209,
      k0_pay210, k0_pay211, k0_pay212, k0_pay213, k0_pay214, k0_pay215, k0_pay216, k0_pay217, k0_pay218,
      k0_pay219, k0_pay220, k0_pay221, k0_pay222, k0_pay223, k0_pay224, k0_pay225, k0_pay226, k0_pay227,
      k0_pay228, k0_pay229, k0_pay230, k0_pay231, k0_pay232, k0_pay233, k0_pay234, k0_pay235, k0_pay236,
      k0_pay237, k0_pay238, k0_pay239, k0_pay240, k0_pay241, k0_pay242, k0_pay243, k0_pay244, k0_pay245,
      k0_pay246, k0_pay247, k0_pay248, k0_pay249, k0_pay250, k0_pay251, k0_pay252, k0_pay253, k0_pay254,
      k0_pay255, k0_pay256, k0_pay257, k0_pay258, k0_pay259, k0_pay260, k0_pay261, k0_pay262, k0_pay263,
      k0_pay264, k0_pay265, k0_pay266, k0_pay267, k0_pay268, k0_pay269, k0_pay270, k0_pay271, k0_pay272,
      k0_pay273, k0_pay274, k0_pay275, k0_pay276, k0_pay277, k0_pay278, k0_pay279, k0_pay280, k0_pay281,
      k0_pay282, k0_pay283, k0_pay284, k0_pay285, k0_pay286, k0_pay287, k0_pay288, k0_pay289, k0_pay290,
      k0_pay291, k0_pay292, k0_pay293, k0_pay294, k0_pay295, k0_pay296, k0_pay297, k0_pay298, k0_pay299,
      k0_pay300, k0_pay301, k0_pay302, k0_pay303, k0_pay304, k0_pay305, k0_pay306, k0_pay307, k0_pay308,
      k0_pay309, k0_pay310, k0_pay311, k0_pay312, k0_pay313, k0_pay314, k0_pay315, k0_pay316, k0_pay317,
      k0_pay318, k0_pay319, k0_pay320, k0_pay321, k0_pay322, k0_pay323, k0_pay324, k0_pay325, k0_pay326,
      k0_pay327, k0_pay328, k0_pay329, k0_pay330, k0_pay331, k0_pay332, k0_pay333, k0_pay334, k0_pay335,
      k0_pay336, k0_pay337, k0_pay338, k0_pay339, k0_pay340, k0_pay341, k0_pay342, k0_pay343, k0_pay344,
      k0_pay345, k0_pay346, k0_pay347, k0_pay348, k0_pay349, k0_pay350, k0_pay351, k0_pay352, k0_pay353,
      k0_pay354, k0_pay355, k0_pay356, k0_pay357, k0_pay358, k0_pay359, k0_pay360, k0_pay361, k0_pay362,
      k0_pay363, k0_pay364, k0_pay365, k0_pay366, k0_pay367, k0_pay368, k0_pay369, k0_pay370, k0_pay371,
      k0_pay372, k0_pay373, k0_pay374, k0_pay375, k0_pay376, k0_pay377, k0_pay378, k0_pay379, k0_pay380,
      k0_pay381, k0_pay382, k0_pay383, k0_pay384, k0_pay385, k0_pay386, k0_pay387, k0_pay388, k0_pay389,
      k0_pay390, k0_pay391, k0_pay392, k0_pay393, k0_pay394, k0_pay395]
    rfl

end Cert.KernelIdeal.Ker

end
-- ==== Proof.KerColB.lean ====
module

public import proofs.«01_k».proof.Proof.KerCol

@[expose] public section

set_option maxRecDepth 16384
set_option maxHeartbeats 1000000

noncomputable section

namespace Cert.KernelIdeal.Ker

open Cert.KernelIdeal Cert.KernelIdeal.Gen Cert.Gla
open Idealize.ShloMosaic Idealize.ShloMosaic.TcCoe Idealize.SL.Sem
open scoped BigOperators

variable (m : (ℓ : Loc nD τ sig) → Buf (Elt Ideal) ℓ)
/-- The sum of the two residuals a point writes. -/
theorem h1_B (c : Dev nD) (t : Fin cfg0.N) (h0 : ¬t.val % 33 = 0)
    (h1 : (t.val % 33 = 0 ∨ t.val % 33 = 1 ∨ t.val % 33 = 17)) :
    (outsAt0 m c t.val t.isLt).1 = k0_pay7 (iblk m c 0 t) (iblk m c 1 t) := by
  rw [outsAt0_B m c t h0 h1]
  frame_out
  try rfl

/-- The first weight's block, kept as it is. -/
theorem wa_B (c : Dev nD) (t : Fin cfg0.N) (h0 : ¬t.val % 33 = 0)
    (h1 : (t.val % 33 = 0 ∨ t.val % 33 = 1 ∨ t.val % 33 = 17)) :
    (outsAt0 m c t.val t.isLt).2.2.2.1 = k0_pay5 (iblk m c 7 t) := by
  rw [outsAt0_B m c t h0 h1]
  frame_out
  rfl

/-- The second weight's block, kept as it is. -/
theorem wb_B (c : Dev nD) (t : Fin cfg0.N) (h0 : ¬t.val % 33 = 0)
    (h1 : (t.val % 33 = 0 ∨ t.val % 33 = 1 ∨ t.val % 33 = 17)) :
    (outsAt0 m c t.val t.isLt).2.2.2.2.1 = k0_pay6 (iblk m c 8 t) := by
  rw [outsAt0_B m c t h0 h1]
  frame_out
  rfl

/-- The decay's low-rank columns a point leaves for the next one. -/
theorem z_B (c : Dev nD) (t : Fin cfg0.N) (h0 : ¬t.val % 33 = 0)
    (h1 : (t.val % 33 = 0 ∨ t.val % 33 = 1 ∨ t.val % 33 = 17)) :
    (outsAt0 m c t.val t.isLt).2.2.2.2.2.2.1 =
    k0_pay9 (iblk m c 0 t) (iblk m c 1 t) (iblk m c 2 t)
    (View.ld (iblk m c 3 t) (Rect.unit (s := S1x2048x5136) ![0, 0, 5120] ![1, 2048, 16] inb_S1x2048x5136_S1x2048x16_0_0_5120)) := by
  rw [outsAt0_B m c t h0 h1]
  frame_out
  simp only [k0_pay9, k0_pay8, k0_pay1, k0_pay7, shapeCast_id]
  rfl

/-- The first 2048 columns of the packed projection. -/
theorem auv_B (c : Dev nD) (t : Fin cfg0.N) (h0 : ¬t.val % 33 = 0)
    (h1 : (t.val % 33 = 0 ∨ t.val % 33 = 1 ∨ t.val % 33 = 17)) (i : Fin 256) (n : Fin 2048) :
    (outsAt0 m c t.val t.isLt).2.1 (ix2 i n) = colP m c t (n.val / 256) (ix2 i ⟨n.val % 256, by omega⟩) := by
  have hn : n.val / 256 < 8 := by omega
  rw [outsAt0_B m c t h0 h1]
  frame_out
  refine col_step (colP m c t) 7 _ _ ?_ _ i n fun a7 => ?_
  swap
  refine col_step (colP m c t) 6 _ _ ?_ _ i n fun a6 => ?_
  swap
  refine col_step (colP m c t) 5 _ _ ?_ _ i n fun a5 => ?_
  swap
  refine col_step (colP m c t) 4 _ _ ?_ _ i n fun a4 => ?_
  swap
  refine col_step (colP m c t) 3 _ _ ?_ _ i n fun a3 => ?_
  swap
  refine col_step (colP m c t) 2 _ _ ?_ _ i n fun a2 => ?_
  swap
  refine col_step (colP m c t) 1 _ _ ?_ _ i n fun a1 => ?_
  swap
  refine col_step (colP m c t) 0 _ _ ?_ _ i n fun a0 => ?_
  swap
  · exact absurd hn (by omega)
  all_goals
    simp only [colP, shapeCast_id, Nat.reduceMul, Nat.reduceMod,
      k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91,
      k0_pay92, k0_pay93, k0_pay94, k0_pay95, k0_pay96, k0_pay97, k0_pay98, k0_pay99, k0_pay100, k0_pay101,
      k0_pay102, k0_pay103, k0_pay104, k0_pay105, k0_pay106, k0_pay107, k0_pay108, k0_pay109, k0_pay110,
      k0_pay111, k0_pay112, k0_pay113, k0_pay114, k0_pay115, k0_pay116, k0_pay117, k0_pay118, k0_pay119,
      k0_pay120, k0_pay121, k0_pay122, k0_pay123, k0_pay124, k0_pay125, k0_pay126, k0_pay127, k0_pay128,
      k0_pay129, k0_pay130, k0_pay131, k0_pay132, k0_pay133, k0_pay134, k0_pay135, k0_pay136, k0_pay137,
      k0_pay138, k0_pay139, k0_pay140, k0_pay141, k0_pay142, k0_pay143, k0_pay144, k0_pay145, k0_pay146,
      k0_pay147, k0_pay148, k0_pay149, k0_pay150, k0_pay151, k0_pay152, k0_pay153, k0_pay154, k0_pay155,
      k0_pay156, k0_pay157, k0_pay158, k0_pay159, k0_pay160, k0_pay161, k0_pay162, k0_pay163, k0_pay164,
      k0_pay165, k0_pay166, k0_pay167, k0_pay168, k0_pay169, k0_pay170, k0_pay171, k0_pay172, k0_pay173,
      k0_pay174, k0_pay175, k0_pay176, k0_pay177, k0_pay178, k0_pay179, k0_pay180, k0_pay181, k0_pay182,
      k0_pay183, k0_pay184, k0_pay185, k0_pay186, k0_pay187, k0_pay188, k0_pay189, k0_pay190, k0_pay191,
      k0_pay192, k0_pay193, k0_pay194, k0_pay195, k0_pay196, k0_pay197, k0_pay198, k0_pay199, k0_pay200,
      k0_pay201, k0_pay202, k0_pay203, k0_pay204, k0_pay205, k0_pay206, k0_pay207, k0_pay208, k0_pay209,
      k0_pay210, k0_pay211, k0_pay212, k0_pay213, k0_pay214, k0_pay215, k0_pay216, k0_pay217, k0_pay218,
      k0_pay219, k0_pay220, k0_pay221, k0_pay222, k0_pay223, k0_pay224, k0_pay225, k0_pay226, k0_pay227,
      k0_pay228, k0_pay229, k0_pay230, k0_pay231, k0_pay232, k0_pay233, k0_pay234, k0_pay235, k0_pay236,
      k0_pay237, k0_pay238, k0_pay239, k0_pay240, k0_pay241, k0_pay242, k0_pay243, k0_pay244, k0_pay245,
      k0_pay246, k0_pay247, k0_pay248, k0_pay249, k0_pay250, k0_pay251, k0_pay252, k0_pay253, k0_pay254,
      k0_pay255, k0_pay256, k0_pay257, k0_pay258, k0_pay259, k0_pay260, k0_pay261, k0_pay262, k0_pay263,
      k0_pay264, k0_pay265, k0_pay266, k0_pay267, k0_pay268, k0_pay269, k0_pay270, k0_pay271, k0_pay272,
      k0_pay273, k0_pay274, k0_pay275, k0_pay276, k0_pay277, k0_pay278, k0_pay279, k0_pay280, k0_pay281,
      k0_pay282, k0_pay283, k0_pay284, k0_pay285, k0_pay286, k0_pay287, k0_pay288, k0_pay289, k0_pay290,
      k0_pay291, k0_pay292, k0_pay293, k0_pay294, k0_pay295, k0_pay296, k0_pay297, k0_pay298, k0_pay299,
      k0_pay300, k0_pay301, k0_pay302, k0_pay303, k0_pay304, k0_pay305, k0_pay306, k0_pay307, k0_pay308,
      k0_pay309, k0_pay310, k0_pay311, k0_pay312, k0_pay313, k0_pay314, k0_pay315, k0_pay316, k0_pay317,
      k0_pay318, k0_pay319, k0_pay320, k0_pay321, k0_pay322, k0_pay323, k0_pay324, k0_pay325, k0_pay326,
      k0_pay327, k0_pay328, k0_pay329, k0_pay330, k0_pay331, k0_pay332, k0_pay333, k0_pay334, k0_pay335,
      k0_pay336, k0_pay337, k0_pay338, k0_pay339, k0_pay340, k0_pay341, k0_pay342, k0_pay343, k0_pay344,
      k0_pay345, k0_pay346, k0_pay347, k0_pay348, k0_pay349, k0_pay350, k0_pay351, k0_pay352, k0_pay353,
      k0_pay354, k0_pay355, k0_pay356, k0_pay357, k0_pay358, k0_pay359, k0_pay360, k0_pay361, k0_pay362,
      k0_pay363, k0_pay364, k0_pay365, k0_pay366, k0_pay367, k0_pay368, k0_pay369, k0_pay370, k0_pay371,
      k0_pay372, k0_pay373, k0_pay374, k0_pay375, k0_pay376, k0_pay377, k0_pay378, k0_pay379, k0_pay380,
      k0_pay381, k0_pay382, k0_pay383, k0_pay384, k0_pay385, k0_pay386, k0_pay387, k0_pay388, k0_pay389,
      k0_pay390, k0_pay391, k0_pay392, k0_pay393, k0_pay394, k0_pay395]
    rfl

/-- The projection's columns a point leaves for the next one. -/
theorem proj_B (c : Dev nD) (t : Fin cfg0.N) (h0 : ¬t.val % 33 = 0)
    (h1 : (t.val % 33 = 0 ∨ t.val % 33 = 1 ∨ t.val % 33 = 17)) (i : Fin 256) (n : Fin 3072) :
    (outsAt0 m c t.val t.isLt).2.2.2.2.2.1 (ix2 i n) = colP m c t (8 + n.val / 256) (ix2 i ⟨n.val % 256, by omega⟩) := by
  have hn : n.val / 256 < 12 := by omega
  rw [outsAt0_B m c t h0 h1]
  frame_out
  rw [pay395_at]
  refine col_step (fun j => colP m c t (8 + j)) 11 _ _ ?_ _ i n fun a11 => ?_
  swap
  refine col_step (fun j => colP m c t (8 + j)) 10 _ _ ?_ _ i n fun a10 => ?_
  swap
  refine col_step (fun j => colP m c t (8 + j)) 9 _ _ ?_ _ i n fun a9 => ?_
  swap
  refine col_step (fun j => colP m c t (8 + j)) 8 _ _ ?_ _ i n fun a8 => ?_
  swap
  refine col_step (fun j => colP m c t (8 + j)) 7 _ _ ?_ _ i n fun a7 => ?_
  swap
  refine col_step (fun j => colP m c t (8 + j)) 6 _ _ ?_ _ i n fun a6 => ?_
  swap
  refine col_step (fun j => colP m c t (8 + j)) 5 _ _ ?_ _ i n fun a5 => ?_
  swap
  refine col_step (fun j => colP m c t (8 + j)) 4 _ _ ?_ _ i n fun a4 => ?_
  swap
  refine col_step (fun j => colP m c t (8 + j)) 3 _ _ ?_ _ i n fun a3 => ?_
  swap
  refine col_step (fun j => colP m c t (8 + j)) 2 _ _ ?_ _ i n fun a2 => ?_
  swap
  refine col_step (fun j => colP m c t (8 + j)) 1 _ _ ?_ _ i n fun a1 => ?_
  swap
  refine col_step (fun j => colP m c t (8 + j)) 0 _ _ ?_ _ i n fun a0 => ?_
  swap
  · exact absurd hn (by omega)
  all_goals
    simp only [colP, shapeCast_id, Nat.reduceMul, Nat.reduceAdd, Nat.reduceMod,
      k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91,
      k0_pay92, k0_pay93, k0_pay94, k0_pay95, k0_pay96, k0_pay97, k0_pay98, k0_pay99, k0_pay100, k0_pay101,
      k0_pay102, k0_pay103, k0_pay104, k0_pay105, k0_pay106, k0_pay107, k0_pay108, k0_pay109, k0_pay110,
      k0_pay111, k0_pay112, k0_pay113, k0_pay114, k0_pay115, k0_pay116, k0_pay117, k0_pay118, k0_pay119,
      k0_pay120, k0_pay121, k0_pay122, k0_pay123, k0_pay124, k0_pay125, k0_pay126, k0_pay127, k0_pay128,
      k0_pay129, k0_pay130, k0_pay131, k0_pay132, k0_pay133, k0_pay134, k0_pay135, k0_pay136, k0_pay137,
      k0_pay138, k0_pay139, k0_pay140, k0_pay141, k0_pay142, k0_pay143, k0_pay144, k0_pay145, k0_pay146,
      k0_pay147, k0_pay148, k0_pay149, k0_pay150, k0_pay151, k0_pay152, k0_pay153, k0_pay154, k0_pay155,
      k0_pay156, k0_pay157, k0_pay158, k0_pay159, k0_pay160, k0_pay161, k0_pay162, k0_pay163, k0_pay164,
      k0_pay165, k0_pay166, k0_pay167, k0_pay168, k0_pay169, k0_pay170, k0_pay171, k0_pay172, k0_pay173,
      k0_pay174, k0_pay175, k0_pay176, k0_pay177, k0_pay178, k0_pay179, k0_pay180, k0_pay181, k0_pay182,
      k0_pay183, k0_pay184, k0_pay185, k0_pay186, k0_pay187, k0_pay188, k0_pay189, k0_pay190, k0_pay191,
      k0_pay192, k0_pay193, k0_pay194, k0_pay195, k0_pay196, k0_pay197, k0_pay198, k0_pay199, k0_pay200,
      k0_pay201, k0_pay202, k0_pay203, k0_pay204, k0_pay205, k0_pay206, k0_pay207, k0_pay208, k0_pay209,
      k0_pay210, k0_pay211, k0_pay212, k0_pay213, k0_pay214, k0_pay215, k0_pay216, k0_pay217, k0_pay218,
      k0_pay219, k0_pay220, k0_pay221, k0_pay222, k0_pay223, k0_pay224, k0_pay225, k0_pay226, k0_pay227,
      k0_pay228, k0_pay229, k0_pay230, k0_pay231, k0_pay232, k0_pay233, k0_pay234, k0_pay235, k0_pay236,
      k0_pay237, k0_pay238, k0_pay239, k0_pay240, k0_pay241, k0_pay242, k0_pay243, k0_pay244, k0_pay245,
      k0_pay246, k0_pay247, k0_pay248, k0_pay249, k0_pay250, k0_pay251, k0_pay252, k0_pay253, k0_pay254,
      k0_pay255, k0_pay256, k0_pay257, k0_pay258, k0_pay259, k0_pay260, k0_pay261, k0_pay262, k0_pay263,
      k0_pay264, k0_pay265, k0_pay266, k0_pay267, k0_pay268, k0_pay269, k0_pay270, k0_pay271, k0_pay272,
      k0_pay273, k0_pay274, k0_pay275, k0_pay276, k0_pay277, k0_pay278, k0_pay279, k0_pay280, k0_pay281,
      k0_pay282, k0_pay283, k0_pay284, k0_pay285, k0_pay286, k0_pay287, k0_pay288, k0_pay289, k0_pay290,
      k0_pay291, k0_pay292, k0_pay293, k0_pay294, k0_pay295, k0_pay296, k0_pay297, k0_pay298, k0_pay299,
      k0_pay300, k0_pay301, k0_pay302, k0_pay303, k0_pay304, k0_pay305, k0_pay306, k0_pay307, k0_pay308,
      k0_pay309, k0_pay310, k0_pay311, k0_pay312, k0_pay313, k0_pay314, k0_pay315, k0_pay316, k0_pay317,
      k0_pay318, k0_pay319, k0_pay320, k0_pay321, k0_pay322, k0_pay323, k0_pay324, k0_pay325, k0_pay326,
      k0_pay327, k0_pay328, k0_pay329, k0_pay330, k0_pay331, k0_pay332, k0_pay333, k0_pay334, k0_pay335,
      k0_pay336, k0_pay337, k0_pay338, k0_pay339, k0_pay340, k0_pay341, k0_pay342, k0_pay343, k0_pay344,
      k0_pay345, k0_pay346, k0_pay347, k0_pay348, k0_pay349, k0_pay350, k0_pay351, k0_pay352, k0_pay353,
      k0_pay354, k0_pay355, k0_pay356, k0_pay357, k0_pay358, k0_pay359, k0_pay360, k0_pay361, k0_pay362,
      k0_pay363, k0_pay364, k0_pay365, k0_pay366, k0_pay367, k0_pay368, k0_pay369, k0_pay370, k0_pay371,
      k0_pay372, k0_pay373, k0_pay374, k0_pay375, k0_pay376, k0_pay377, k0_pay378, k0_pay379, k0_pay380,
      k0_pay381, k0_pay382, k0_pay383, k0_pay384, k0_pay385, k0_pay386, k0_pay387, k0_pay388, k0_pay389,
      k0_pay390, k0_pay391, k0_pay392, k0_pay393, k0_pay394, k0_pay395]
    rfl

end Cert.KernelIdeal.Ker

end
-- ==== Proof.KerColC.lean ====
module

public import proofs.«01_k».proof.Proof.KerCol

@[expose] public section

set_option maxRecDepth 16384
set_option maxHeartbeats 1000000

noncomputable section

namespace Cert.KernelIdeal.Ker

open Cert.KernelIdeal Cert.KernelIdeal.Gen Cert.Gla
open Idealize.ShloMosaic Idealize.ShloMosaic.TcCoe Idealize.SL.Sem
open scoped BigOperators

variable (m : (ℓ : Loc nD τ sig) → Buf (Elt Ideal) ℓ)
/-- The sum of the two residuals a point writes. -/
theorem h1_C (c : Dev nD) (t : Fin cfg0.N) (h0 : ¬t.val % 33 = 0)
    (h1 : ¬(t.val % 33 = 0 ∨ t.val % 33 = 1 ∨ t.val % 33 = 17)) :
    (outsAt0 m c t.val t.isLt).1 = k0_pay7 (iblk m c 0 t) (iblk m c 1 t) := by
  rw [outsAt0_C m c t h0 h1]
  frame_out
  try rfl

/-- The first weight's block, kept as it is. -/
theorem wa_C (c : Dev nD) (t : Fin cfg0.N) (h0 : ¬t.val % 33 = 0)
    (h1 : ¬(t.val % 33 = 0 ∨ t.val % 33 = 1 ∨ t.val % 33 = 17)) :
    (outsAt0 m c t.val t.isLt).2.2.2.1 = k0_pay5 (iblk m c 7 t) := by
  rw [outsAt0_C m c t h0 h1]
  frame_out
  rfl

/-- The second weight's block, kept as it is. -/
theorem wb_C (c : Dev nD) (t : Fin cfg0.N) (h0 : ¬t.val % 33 = 0)
    (h1 : ¬(t.val % 33 = 0 ∨ t.val % 33 = 1 ∨ t.val % 33 = 17)) :
    (outsAt0 m c t.val t.isLt).2.2.2.2.1 = k0_pay6 (iblk m c 8 t) := by
  rw [outsAt0_C m c t h0 h1]
  frame_out
  rfl

/-- The decay's low-rank columns a point leaves for the next one. -/
theorem z_C (c : Dev nD) (t : Fin cfg0.N) (h0 : ¬t.val % 33 = 0)
    (h1 : ¬(t.val % 33 = 0 ∨ t.val % 33 = 1 ∨ t.val % 33 = 17)) :
    (outsAt0 m c t.val t.isLt).2.2.2.2.2.2.1 =
    k0_pay9 (iblk m c 0 t) (iblk m c 1 t) (iblk m c 2 t)
    (View.ld (iblk m c 3 t) (Rect.unit (s := S1x2048x5136) ![0, 0, 5120] ![1, 2048, 16] inb_S1x2048x5136_S1x2048x16_0_0_5120)) := by
  rw [outsAt0_C m c t h0 h1]
  frame_out
  simp only [k0_pay9, k0_pay8, k0_pay1, k0_pay7, shapeCast_id]
  rfl

/-- The first 2048 columns of the packed projection. -/
theorem auv_C (c : Dev nD) (t : Fin cfg0.N) (h0 : ¬t.val % 33 = 0)
    (h1 : ¬(t.val % 33 = 0 ∨ t.val % 33 = 1 ∨ t.val % 33 = 17)) (i : Fin 256) (n : Fin 2048) :
    (outsAt0 m c t.val t.isLt).2.1 (ix2 i n) = colP m c t (n.val / 256) (ix2 i ⟨n.val % 256, by omega⟩) := by
  have hn : n.val / 256 < 8 := by omega
  rw [outsAt0_C m c t h0 h1]
  frame_out
  refine col_step (colP m c t) 7 _ _ ?_ _ i n fun a7 => ?_
  swap
  refine col_step (colP m c t) 6 _ _ ?_ _ i n fun a6 => ?_
  swap
  refine col_step (colP m c t) 5 _ _ ?_ _ i n fun a5 => ?_
  swap
  refine col_step (colP m c t) 4 _ _ ?_ _ i n fun a4 => ?_
  swap
  refine col_step (colP m c t) 3 _ _ ?_ _ i n fun a3 => ?_
  swap
  refine col_step (colP m c t) 2 _ _ ?_ _ i n fun a2 => ?_
  swap
  refine col_step (colP m c t) 1 _ _ ?_ _ i n fun a1 => ?_
  swap
  refine col_step (colP m c t) 0 _ _ ?_ _ i n fun a0 => ?_
  swap
  · exact absurd hn (by omega)
  all_goals
    simp only [colP, shapeCast_id, Nat.reduceMul, Nat.reduceMod,
      k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91,
      k0_pay92, k0_pay93, k0_pay94, k0_pay95, k0_pay96, k0_pay97, k0_pay98, k0_pay99, k0_pay100, k0_pay101,
      k0_pay102, k0_pay103, k0_pay104, k0_pay105, k0_pay106, k0_pay107, k0_pay108, k0_pay109, k0_pay110,
      k0_pay111, k0_pay112, k0_pay113, k0_pay114, k0_pay115, k0_pay116, k0_pay117, k0_pay118, k0_pay119,
      k0_pay120, k0_pay121, k0_pay122, k0_pay123, k0_pay124, k0_pay125, k0_pay126, k0_pay127, k0_pay128,
      k0_pay129, k0_pay130, k0_pay131, k0_pay132, k0_pay133, k0_pay134, k0_pay135, k0_pay136, k0_pay137,
      k0_pay138, k0_pay139, k0_pay140, k0_pay141, k0_pay142, k0_pay143, k0_pay144, k0_pay145, k0_pay146,
      k0_pay147, k0_pay148, k0_pay149, k0_pay150, k0_pay151, k0_pay152, k0_pay153, k0_pay154, k0_pay155,
      k0_pay156, k0_pay157, k0_pay158, k0_pay159, k0_pay160, k0_pay161, k0_pay162, k0_pay163, k0_pay164,
      k0_pay165, k0_pay166, k0_pay167, k0_pay168, k0_pay169, k0_pay170, k0_pay171, k0_pay172, k0_pay173,
      k0_pay174, k0_pay175, k0_pay176, k0_pay177, k0_pay178, k0_pay179, k0_pay180, k0_pay181, k0_pay182,
      k0_pay183, k0_pay184, k0_pay185, k0_pay186, k0_pay187, k0_pay188, k0_pay189, k0_pay190, k0_pay191,
      k0_pay192, k0_pay193, k0_pay194, k0_pay195, k0_pay196, k0_pay197, k0_pay198, k0_pay199, k0_pay200,
      k0_pay201, k0_pay202, k0_pay203, k0_pay204, k0_pay205, k0_pay206, k0_pay207, k0_pay208, k0_pay209,
      k0_pay210, k0_pay211, k0_pay212, k0_pay213, k0_pay214, k0_pay215, k0_pay216, k0_pay217, k0_pay218,
      k0_pay219, k0_pay220, k0_pay221, k0_pay222, k0_pay223, k0_pay224, k0_pay225, k0_pay226, k0_pay227,
      k0_pay228, k0_pay229, k0_pay230, k0_pay231, k0_pay232, k0_pay233, k0_pay234, k0_pay235, k0_pay236,
      k0_pay237, k0_pay238, k0_pay239, k0_pay240, k0_pay241, k0_pay242, k0_pay243, k0_pay244, k0_pay245,
      k0_pay246, k0_pay247, k0_pay248, k0_pay249, k0_pay250, k0_pay251, k0_pay252, k0_pay253, k0_pay254,
      k0_pay255, k0_pay256, k0_pay257, k0_pay258, k0_pay259, k0_pay260, k0_pay261, k0_pay262, k0_pay263,
      k0_pay264, k0_pay265, k0_pay266, k0_pay267, k0_pay268, k0_pay269, k0_pay270, k0_pay271, k0_pay272,
      k0_pay273, k0_pay274, k0_pay275, k0_pay276, k0_pay277, k0_pay278, k0_pay279, k0_pay280, k0_pay281,
      k0_pay282, k0_pay283, k0_pay284, k0_pay285, k0_pay286, k0_pay287, k0_pay288, k0_pay289, k0_pay290,
      k0_pay291, k0_pay292, k0_pay293, k0_pay294, k0_pay295, k0_pay296, k0_pay297, k0_pay298, k0_pay299,
      k0_pay300, k0_pay301, k0_pay302, k0_pay303, k0_pay304, k0_pay305, k0_pay306, k0_pay307, k0_pay308,
      k0_pay309, k0_pay310, k0_pay311, k0_pay312, k0_pay313, k0_pay314, k0_pay315, k0_pay316, k0_pay317,
      k0_pay318, k0_pay319, k0_pay320, k0_pay321, k0_pay322, k0_pay323, k0_pay324, k0_pay325, k0_pay326,
      k0_pay327, k0_pay328, k0_pay329, k0_pay330, k0_pay331, k0_pay332, k0_pay333, k0_pay334, k0_pay335,
      k0_pay336, k0_pay337, k0_pay338, k0_pay339, k0_pay340, k0_pay341, k0_pay342, k0_pay343, k0_pay344,
      k0_pay345, k0_pay346, k0_pay347, k0_pay348, k0_pay349, k0_pay350, k0_pay351, k0_pay352, k0_pay353,
      k0_pay354, k0_pay355, k0_pay356, k0_pay357, k0_pay358, k0_pay359, k0_pay360, k0_pay361, k0_pay362,
      k0_pay363, k0_pay364, k0_pay365, k0_pay366, k0_pay367, k0_pay368, k0_pay369, k0_pay370, k0_pay371,
      k0_pay372, k0_pay373, k0_pay374, k0_pay375, k0_pay376, k0_pay377, k0_pay378, k0_pay379, k0_pay380,
      k0_pay381, k0_pay382, k0_pay383, k0_pay384, k0_pay385, k0_pay386, k0_pay387, k0_pay388, k0_pay389,
      k0_pay390, k0_pay391, k0_pay392, k0_pay393, k0_pay394, k0_pay395]
    rfl

/-- The projection's columns a point leaves for the next one. -/
theorem proj_C (c : Dev nD) (t : Fin cfg0.N) (h0 : ¬t.val % 33 = 0)
    (h1 : ¬(t.val % 33 = 0 ∨ t.val % 33 = 1 ∨ t.val % 33 = 17)) (i : Fin 256) (n : Fin 3072) :
    (outsAt0 m c t.val t.isLt).2.2.2.2.2.1 (ix2 i n) = colP m c t (8 + n.val / 256) (ix2 i ⟨n.val % 256, by omega⟩) := by
  have hn : n.val / 256 < 12 := by omega
  rw [outsAt0_C m c t h0 h1]
  frame_out
  rw [pay395_at]
  refine col_step (fun j => colP m c t (8 + j)) 11 _ _ ?_ _ i n fun a11 => ?_
  swap
  refine col_step (fun j => colP m c t (8 + j)) 10 _ _ ?_ _ i n fun a10 => ?_
  swap
  refine col_step (fun j => colP m c t (8 + j)) 9 _ _ ?_ _ i n fun a9 => ?_
  swap
  refine col_step (fun j => colP m c t (8 + j)) 8 _ _ ?_ _ i n fun a8 => ?_
  swap
  refine col_step (fun j => colP m c t (8 + j)) 7 _ _ ?_ _ i n fun a7 => ?_
  swap
  refine col_step (fun j => colP m c t (8 + j)) 6 _ _ ?_ _ i n fun a6 => ?_
  swap
  refine col_step (fun j => colP m c t (8 + j)) 5 _ _ ?_ _ i n fun a5 => ?_
  swap
  refine col_step (fun j => colP m c t (8 + j)) 4 _ _ ?_ _ i n fun a4 => ?_
  swap
  refine col_step (fun j => colP m c t (8 + j)) 3 _ _ ?_ _ i n fun a3 => ?_
  swap
  refine col_step (fun j => colP m c t (8 + j)) 2 _ _ ?_ _ i n fun a2 => ?_
  swap
  refine col_step (fun j => colP m c t (8 + j)) 1 _ _ ?_ _ i n fun a1 => ?_
  swap
  refine col_step (fun j => colP m c t (8 + j)) 0 _ _ ?_ _ i n fun a0 => ?_
  swap
  · exact absurd hn (by omega)
  all_goals
    simp only [colP, shapeCast_id, Nat.reduceMul, Nat.reduceAdd, Nat.reduceMod,
      k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91,
      k0_pay92, k0_pay93, k0_pay94, k0_pay95, k0_pay96, k0_pay97, k0_pay98, k0_pay99, k0_pay100, k0_pay101,
      k0_pay102, k0_pay103, k0_pay104, k0_pay105, k0_pay106, k0_pay107, k0_pay108, k0_pay109, k0_pay110,
      k0_pay111, k0_pay112, k0_pay113, k0_pay114, k0_pay115, k0_pay116, k0_pay117, k0_pay118, k0_pay119,
      k0_pay120, k0_pay121, k0_pay122, k0_pay123, k0_pay124, k0_pay125, k0_pay126, k0_pay127, k0_pay128,
      k0_pay129, k0_pay130, k0_pay131, k0_pay132, k0_pay133, k0_pay134, k0_pay135, k0_pay136, k0_pay137,
      k0_pay138, k0_pay139, k0_pay140, k0_pay141, k0_pay142, k0_pay143, k0_pay144, k0_pay145, k0_pay146,
      k0_pay147, k0_pay148, k0_pay149, k0_pay150, k0_pay151, k0_pay152, k0_pay153, k0_pay154, k0_pay155,
      k0_pay156, k0_pay157, k0_pay158, k0_pay159, k0_pay160, k0_pay161, k0_pay162, k0_pay163, k0_pay164,
      k0_pay165, k0_pay166, k0_pay167, k0_pay168, k0_pay169, k0_pay170, k0_pay171, k0_pay172, k0_pay173,
      k0_pay174, k0_pay175, k0_pay176, k0_pay177, k0_pay178, k0_pay179, k0_pay180, k0_pay181, k0_pay182,
      k0_pay183, k0_pay184, k0_pay185, k0_pay186, k0_pay187, k0_pay188, k0_pay189, k0_pay190, k0_pay191,
      k0_pay192, k0_pay193, k0_pay194, k0_pay195, k0_pay196, k0_pay197, k0_pay198, k0_pay199, k0_pay200,
      k0_pay201, k0_pay202, k0_pay203, k0_pay204, k0_pay205, k0_pay206, k0_pay207, k0_pay208, k0_pay209,
      k0_pay210, k0_pay211, k0_pay212, k0_pay213, k0_pay214, k0_pay215, k0_pay216, k0_pay217, k0_pay218,
      k0_pay219, k0_pay220, k0_pay221, k0_pay222, k0_pay223, k0_pay224, k0_pay225, k0_pay226, k0_pay227,
      k0_pay228, k0_pay229, k0_pay230, k0_pay231, k0_pay232, k0_pay233, k0_pay234, k0_pay235, k0_pay236,
      k0_pay237, k0_pay238, k0_pay239, k0_pay240, k0_pay241, k0_pay242, k0_pay243, k0_pay244, k0_pay245,
      k0_pay246, k0_pay247, k0_pay248, k0_pay249, k0_pay250, k0_pay251, k0_pay252, k0_pay253, k0_pay254,
      k0_pay255, k0_pay256, k0_pay257, k0_pay258, k0_pay259, k0_pay260, k0_pay261, k0_pay262, k0_pay263,
      k0_pay264, k0_pay265, k0_pay266, k0_pay267, k0_pay268, k0_pay269, k0_pay270, k0_pay271, k0_pay272,
      k0_pay273, k0_pay274, k0_pay275, k0_pay276, k0_pay277, k0_pay278, k0_pay279, k0_pay280, k0_pay281,
      k0_pay282, k0_pay283, k0_pay284, k0_pay285, k0_pay286, k0_pay287, k0_pay288, k0_pay289, k0_pay290,
      k0_pay291, k0_pay292, k0_pay293, k0_pay294, k0_pay295, k0_pay296, k0_pay297, k0_pay298, k0_pay299,
      k0_pay300, k0_pay301, k0_pay302, k0_pay303, k0_pay304, k0_pay305, k0_pay306, k0_pay307, k0_pay308,
      k0_pay309, k0_pay310, k0_pay311, k0_pay312, k0_pay313, k0_pay314, k0_pay315, k0_pay316, k0_pay317,
      k0_pay318, k0_pay319, k0_pay320, k0_pay321, k0_pay322, k0_pay323, k0_pay324, k0_pay325, k0_pay326,
      k0_pay327, k0_pay328, k0_pay329, k0_pay330, k0_pay331, k0_pay332, k0_pay333, k0_pay334, k0_pay335,
      k0_pay336, k0_pay337, k0_pay338, k0_pay339, k0_pay340, k0_pay341, k0_pay342, k0_pay343, k0_pay344,
      k0_pay345, k0_pay346, k0_pay347, k0_pay348, k0_pay349, k0_pay350, k0_pay351, k0_pay352, k0_pay353,
      k0_pay354, k0_pay355, k0_pay356, k0_pay357, k0_pay358, k0_pay359, k0_pay360, k0_pay361, k0_pay362,
      k0_pay363, k0_pay364, k0_pay365, k0_pay366, k0_pay367, k0_pay368, k0_pay369, k0_pay370, k0_pay371,
      k0_pay372, k0_pay373, k0_pay374, k0_pay375, k0_pay376, k0_pay377, k0_pay378, k0_pay379, k0_pay380,
      k0_pay381, k0_pay382, k0_pay383, k0_pay384, k0_pay385, k0_pay386, k0_pay387, k0_pay388, k0_pay389,
      k0_pay390, k0_pay391, k0_pay392, k0_pay393, k0_pay394, k0_pay395]
    rfl

end Cert.KernelIdeal.Ker

end
-- ==== Proof.KerY.lean ====
module

public import proofs.«01_k».proof.Proof.KerOut

@[expose] public section

set_option maxRecDepth 16384
set_option maxHeartbeats 1000000

noncomputable section

namespace Cert.KernelIdeal.Ker

open Cert.KernelIdeal Cert.KernelIdeal.Gen Cert.Gla
open Idealize.ShloMosaic Idealize.ShloMosaic.TcCoe Idealize.SL.Sem
open scoped BigOperators

variable (m : (ℓ : Loc nD τ sig) → Buf (Elt Ideal) ℓ)

/-- What a step leaves in the result's block, where the state is carried on: every head's result of every chunk of its tile. -/
theorem y_C (c : Dev nD) (t : Fin cfg0.N) (h0 : ¬t.val % 33 = 0)
    (h1 : ¬(t.val % 33 = 0 ∨ t.val % 33 = 1 ∨ t.val % 33 = 17)) (i : Fin 256) (n : Fin 1024) :
    (outsAt0 m c t.val t.isLt).2.2.1 (ix2 i n)
      = (tile m c t (outsAt0 m c (t.val - 1) (by omega)).2.2.2.2.2.2.2).y ⟨n.val / 256, by omega⟩ ⟨i.val / 64, by omega⟩
          (ix2 ⟨i.val % 64, by omega⟩ ⟨n.val % 256, by omega⟩) := by
  have hn4 : n.val / 256 < 4 := by omega
  have hi4 : i.val / 64 < 4 := by omega
  rw [outsAt0_C m c t h0 h1]
  frame_open
  simp (disch := decide) only [↓ View.readCov_skip, ↓ View.readCov_cons_toLoadRect, ↓ View.readCov_fill]
  frame_out
  simp only [read_unread_whole]
  refine y_step _ 3 3 _ _ ?_ _ i n fun a33 => ?_
  swap
  refine y_step _ 2 3 _ _ ?_ _ i n fun a23 => ?_
  swap
  refine y_step _ 1 3 _ _ ?_ _ i n fun a13 => ?_
  swap
  refine y_step _ 0 3 _ _ ?_ _ i n fun a03 => ?_
  swap
  refine y_step _ 3 2 _ _ ?_ _ i n fun a32 => ?_
  swap
  refine y_step _ 2 2 _ _ ?_ _ i n fun a22 => ?_
  swap
  refine y_step _ 1 2 _ _ ?_ _ i n fun a12 => ?_
  swap
  refine y_step _ 0 2 _ _ ?_ _ i n fun a02 => ?_
  swap
  refine y_step _ 3 1 _ _ ?_ _ i n fun a31 => ?_
  swap
  refine y_step _ 2 1 _ _ ?_ _ i n fun a21 => ?_
  swap
  refine y_step _ 1 1 _ _ ?_ _ i n fun a11 => ?_
  swap
  refine y_step _ 0 1 _ _ ?_ _ i n fun a01 => ?_
  swap
  refine y_step _ 3 0 _ _ ?_ _ i n fun a30 => ?_
  swap
  refine y_step _ 2 0 _ _ ?_ _ i n fun a20 => ?_
  swap
  refine y_step _ 1 0 _ _ ?_ _ i n fun a10 => ?_
  swap
  refine y_step _ 0 0 _ _ ?_ _ i n fun a00 => ?_
  swap
  · refine (none_left ⟨n.val / 256, hn4⟩ ⟨i.val / 64, hi4⟩ fun e c => ?_).elim
    match e, c with
    | 3, 3 => exact a33
    | 2, 3 => exact a23
    | 1, 3 => exact a13
    | 0, 3 => exact a03
    | 3, 2 => exact a32
    | 2, 2 => exact a22
    | 1, 2 => exact a12
    | 0, 2 => exact a02
    | 3, 1 => exact a31
    | 2, 1 => exact a21
    | 1, 1 => exact a11
    | 0, 1 => exact a01
    | 3, 0 => exact a30
    | 2, 0 => exact a20
    | 1, 0 => exact a10
    | 0, 0 => exact a00
  all_goals
    simp only [Fin.isValue, Tile.y, Tile.b, Tile.q, Tile.k, Tile.v, Tile.r, Tile.g, Tile.z, Tile.s0, Tile.st, tile, headY,
      headO, headS, scores, bAll, iR, iC, m32, m16, m8, dOff, Nat.reduceMul, Nat.reduceAdd, Nat.reduceMod,
      show ((0 : Fin 4) : ℕ) = 0 from rfl, show ((1 : Fin 4) : ℕ) = 1 from rfl, show ((2 : Fin 4) : ℕ) = 2 from rfl,
      show ((3 : Fin 4) : ℕ) = 3 from rfl,
      k0_pay1, k0_pay2, k0_pay3, k0_pay4, k0_pay5, k0_pay6, k0_pay7, k0_pay8, k0_pay9, k0_pay10, k0_pay11,
        k0_pay12, k0_pay13, k0_pay14, k0_pay15, k0_pay16, k0_pay17, k0_pay18, k0_pay19, k0_pay20, k0_pay21,
        k0_pay22, k0_pay23, k0_pay24, k0_pay25, k0_pay26, k0_pay27, k0_pay28, k0_pay29, k0_pay30, k0_pay31,
        k0_pay32, k0_pay33, k0_pay34, k0_pay35, k0_pay36, k0_pay37, k0_pay38, k0_pay39, k0_pay40, k0_pay41,
        k0_pay42, k0_pay43, k0_pay44, k0_pay45, k0_pay46, k0_pay47, k0_pay48, k0_pay49, k0_pay50, k0_pay51,
        k0_pay52, k0_pay53, k0_pay54, k0_pay55, k0_pay56, k0_pay57, k0_pay58, k0_pay59, k0_pay60, k0_pay61,
        k0_pay62, k0_pay63, k0_pay64, k0_pay65, k0_pay66, k0_pay67, k0_pay68, k0_pay69, k0_pay70, k0_pay71,
        k0_pay72, k0_pay73, k0_pay74, k0_pay75, k0_pay76, k0_pay77, k0_pay78, k0_pay79, k0_pay80, k0_pay81,
        k0_pay82, k0_pay83, k0_pay84, k0_pay85, k0_pay86, k0_pay87, k0_pay88, k0_pay89, k0_pay90, k0_pay91,
        k0_pay92, k0_pay93, k0_pay94, k0_pay95, k0_pay96, k0_pay97, k0_pay98, k0_pay99, k0_pay100, k0_pay101,
        k0_pay102, k0_pay103, k0_pay104, k0_pay105, k0_pay106, k0_pay107, k0_pay108, k0_pay109, k0_pay110,
        k0_pay111, k0_pay112, k0_pay113, k0_pay114, k0_pay115, k0_pay116, k0_pay117, k0_pay118, k0_pay119,
        k0_pay120, k0_pay121, k0_pay122, k0_pay123, k0_pay124, k0_pay125, k0_pay126, k0_pay127, k0_pay128,
        k0_pay129, k0_pay130, k0_pay131, k0_pay132, k0_pay133, k0_pay134, k0_pay135, k0_pay136, k0_pay137,
        k0_pay138, k0_pay139, k0_pay140, k0_pay141, k0_pay142, k0_pay143, k0_pay144, k0_pay145, k0_pay146,
        k0_pay147, k0_pay148, k0_pay149, k0_pay150, k0_pay151, k0_pay152, k0_pay153, k0_pay154, k0_pay155,
        k0_pay156, k0_pay157, k0_pay158, k0_pay159, k0_pay160, k0_pay161, k0_pay162, k0_pay163, k0_pay164,
        k0_pay165, k0_pay166, k0_pay167, k0_pay168, k0_pay169, k0_pay170, k0_pay171, k0_pay172, k0_pay173,
        k0_pay174, k0_pay175, k0_pay176, k0_pay177, k0_pay178, k0_pay179, k0_pay180, k0_pay181, k0_pay182,
        k0_pay183, k0_pay184, k0_pay185, k0_pay186, k0_pay187, k0_pay188, k0_pay189, k0_pay190, k0_pay191,
        k0_pay192, k0_pay193, k0_pay194, k0_pay195, k0_pay196, k0_pay197, k0_pay198, k0_pay199, k0_pay200,
        k0_pay201, k0_pay202, k0_pay203, k0_pay204, k0_pay205, k0_pay206, k0_pay207, k0_pay208, k0_pay209,
        k0_pay210, k0_pay211, k0_pay212, k0_pay213, k0_pay214, k0_pay215, k0_pay216, k0_pay217, k0_pay218,
        k0_pay219, k0_pay220, k0_pay221, k0_pay222, k0_pay223, k0_pay224, k0_pay225, k0_pay226, k0_pay227,
        k0_pay228, k0_pay229, k0_pay230, k0_pay231, k0_pay232, k0_pay233, k0_pay234, k0_pay235, k0_pay236,
        k0_pay237, k0_pay238, k0_pay239, k0_pay240, k0_pay241, k0_pay242, k0_pay243, k0_pay244, k0_pay245,
        k0_pay246, k0_pay247, k0_pay248, k0_pay249, k0_pay250, k0_pay251, k0_pay252, k0_pay253, k0_pay254,
        k0_pay255, k0_pay256, k0_pay257, k0_pay258, k0_pay259, k0_pay260, k0_pay261, k0_pay262, k0_pay263,
        k0_pay264, k0_pay265, k0_pay266, k0_pay267, k0_pay268, k0_pay269, k0_pay270, k0_pay271, k0_pay272,
        k0_pay273, k0_pay274, k0_pay275, k0_pay276, k0_pay277, k0_pay278, k0_pay279, k0_pay280, k0_pay281,
        k0_pay282, k0_pay283, k0_pay284, k0_pay285, k0_pay286, k0_pay287, k0_pay288, k0_pay289, k0_pay290,
        k0_pay291, k0_pay292, k0_pay293, k0_pay294, k0_pay295, k0_pay296, k0_pay297, k0_pay298, k0_pay299,
        k0_pay300, k0_pay301, k0_pay302, k0_pay303, k0_pay304, k0_pay305, k0_pay306, k0_pay307, k0_pay308,
        k0_pay309, k0_pay310, k0_pay311, k0_pay312, k0_pay313, k0_pay314, k0_pay315, k0_pay316, k0_pay317,
        k0_pay318, k0_pay319, k0_pay320, k0_pay321, k0_pay322, k0_pay323, k0_pay324, k0_pay325, k0_pay326,
        k0_pay327, k0_pay328, k0_pay329, k0_pay330, k0_pay331, k0_pay332, k0_pay333, k0_pay334, k0_pay335,
        k0_pay336, k0_pay337, k0_pay338, k0_pay339, k0_pay340, k0_pay341, k0_pay342, k0_pay343, k0_pay344,
        k0_pay345, k0_pay346, k0_pay347, k0_pay348, k0_pay349, k0_pay350, k0_pay351, k0_pay352, k0_pay353,
        k0_pay354, k0_pay355, k0_pay356, k0_pay357, k0_pay358, k0_pay359, k0_pay360, k0_pay361, k0_pay362,
        k0_pay363, k0_pay364, k0_pay365, k0_pay366, k0_pay367, k0_pay368, k0_pay369, k0_pay370, k0_pay371,
        k0_pay372, k0_pay373, k0_pay374, k0_pay375, k0_pay376, k0_pay377, k0_pay378, k0_pay379, k0_pay380,
        k0_pay381, k0_pay382, k0_pay383, k0_pay384, k0_pay385, k0_pay386, k0_pay387, k0_pay388, k0_pay389,
        k0_pay390, k0_pay391, k0_pay392, k0_pay393, k0_pay394, k0_pay395]
    rfl

/-- What a step leaves in the result's block, where the state starts over: every head's result of every chunk of its tile. -/
theorem y_B (c : Dev nD) (t : Fin cfg0.N) (h0 : ¬t.val % 33 = 0)
    (h1 : (t.val % 33 = 0 ∨ t.val % 33 = 1 ∨ t.val % 33 = 17)) (i : Fin 256) (n : Fin 1024) :
    (outsAt0 m c t.val t.isLt).2.2.1 (ix2 i n)
      = (tile m c t (k0_pay4 (F := Ideal))).y ⟨n.val / 256, by omega⟩ ⟨i.val / 64, by omega⟩
          (ix2 ⟨i.val % 64, by omega⟩ ⟨n.val % 256, by omega⟩) := by
  have hn4 : n.val / 256 < 4 := by omega
  have hi4 : i.val / 64 < 4 := by omega
  rw [outsAt0_B m c t h0 h1]
  frame_open
  simp (disch := decide) only [↓ View.readCov_skip, ↓ View.readCov_cons_toLoadRect, ↓ View.readCov_fill]
  frame_out
  simp only [read_unread_whole]
  refine y_step _ 3 3 _ _ ?_ _ i n fun a33 => ?_
  swap
  refine y_step _ 2 3 _ _ ?_ _ i n fun a23 => ?_
  swap
  refine y_step _ 1 3 _ _ ?_ _ i n fun a13 => ?_
  swap
  refine y_step _ 0 3 _ _ ?_ _ i n fun a03 => ?_
  swap
  refine y_step _ 3 2 _ _ ?_ _ i n fun a32 => ?_
  swap
  refine y_step _ 2 2 _ _ ?_ _ i n fun a22 => ?_
  swap
  refine y_step _ 1 2 _ _ ?_ _ i n fun a12 => ?_
  swap
  refine y_step _ 0 2 _ _ ?_ _ i n fun a02 => ?_
  swap
  refine y_step _ 3 1 _ _ ?_ _ i n fun a31 => ?_
  swap
  refine y_step _ 2 1 _ _ ?_ _ i n fun a21 => ?_
  swap
  refine y_step _ 1 1 _ _ ?_ _ i n fun a11 => ?_
  swap
  refine y_step _ 0 1 _ _ ?_ _ i n fun a01 => ?_
  swap
  refine y_step _ 3 0 _ _ ?_ _ i n fun a30 => ?_
  swap
  refine y_step _ 2 0 _ _ ?_ _ i n fun a20 => ?_
  swap
  refine y_step _ 1 0 _ _ ?_ _ i n fun a10 => ?_
  swap
  refine y_step _ 0 0 _ _ ?_ _ i n fun a00 => ?_
  swap
  · refine (none_left ⟨n.val / 256, hn4⟩ ⟨i.val / 64, hi4⟩ fun e c => ?_).elim
    match e, c with
    | 3, 3 => exact a33
    | 2, 3 => exact a23
    | 1, 3 => exact a13
    | 0, 3 => exact a03
    | 3, 2 => exact a32
    | 2, 2 => exact a22
    | 1, 2 => exact a12
    | 0, 2 => exact a02
    | 3, 1 => exact a31
    | 2, 1 => exact a21
    | 1, 1 => exact a11
    | 0, 1 => exact a01
    | 3, 0 => exact a30
    | 2, 0 => exact a20
    | 1, 0 => exact a10
    | 0, 0 => exact a00
  all_goals
    simp only [Fin.isValue, Tile.y, Tile.b, Tile.q, Tile.k, Tile.v, Tile.r, Tile.g, Tile.z, Tile.s0, Tile.st, tile, headY,
      headO, headS, scores, bAll, iR, iC, m32, m16, m8, dOff, Nat.reduceMul, Nat.reduceAdd, Nat.reduceMod,
      show ((0 : Fin 4) : ℕ) = 0 from rfl, show ((1 : Fin 4) : ℕ) = 1 from rfl, show ((2 : Fin 4) : ℕ) = 2 from rfl,
      show ((3 : Fin 4) : ℕ) = 3 from rfl,
      k0_pay1, k0_pay2, k0_pay3, k0_pay4, k0_pay5, k0_pay6, k0_pay7, k0_pay8, k0_pay9, k0_pay10, k0_pay11,
        k0_pay12, k0_pay13, k0_pay14, k0_pay15, k0_pay16, k0_pay17, k0_pay18, k0_pay19, k0_pay20, k0_pay21,
        k0_pay22, k0_pay23, k0_pay24, k0_pay25, k0_pay26, k0_pay27, k0_pay28, k0_pay29, k0_pay30, k0_pay31,
        k0_pay32, k0_pay33, k0_pay34, k0_pay35, k0_pay36, k0_pay37, k0_pay38, k0_pay39, k0_pay40, k0_pay41,
        k0_pay42, k0_pay43, k0_pay44, k0_pay45, k0_pay46, k0_pay47, k0_pay48, k0_pay49, k0_pay50, k0_pay51,
        k0_pay52, k0_pay53, k0_pay54, k0_pay55, k0_pay56, k0_pay57, k0_pay58, k0_pay59, k0_pay60, k0_pay61,
        k0_pay62, k0_pay63, k0_pay64, k0_pay65, k0_pay66, k0_pay67, k0_pay68, k0_pay69, k0_pay70, k0_pay71,
        k0_pay72, k0_pay73, k0_pay74, k0_pay75, k0_pay76, k0_pay77, k0_pay78, k0_pay79, k0_pay80, k0_pay81,
        k0_pay82, k0_pay83, k0_pay84, k0_pay85, k0_pay86, k0_pay87, k0_pay88, k0_pay89, k0_pay90, k0_pay91,
        k0_pay92, k0_pay93, k0_pay94, k0_pay95, k0_pay96, k0_pay97, k0_pay98, k0_pay99, k0_pay100, k0_pay101,
        k0_pay102, k0_pay103, k0_pay104, k0_pay105, k0_pay106, k0_pay107, k0_pay108, k0_pay109, k0_pay110,
        k0_pay111, k0_pay112, k0_pay113, k0_pay114, k0_pay115, k0_pay116, k0_pay117, k0_pay118, k0_pay119,
        k0_pay120, k0_pay121, k0_pay122, k0_pay123, k0_pay124, k0_pay125, k0_pay126, k0_pay127, k0_pay128,
        k0_pay129, k0_pay130, k0_pay131, k0_pay132, k0_pay133, k0_pay134, k0_pay135, k0_pay136, k0_pay137,
        k0_pay138, k0_pay139, k0_pay140, k0_pay141, k0_pay142, k0_pay143, k0_pay144, k0_pay145, k0_pay146,
        k0_pay147, k0_pay148, k0_pay149, k0_pay150, k0_pay151, k0_pay152, k0_pay153, k0_pay154, k0_pay155,
        k0_pay156, k0_pay157, k0_pay158, k0_pay159, k0_pay160, k0_pay161, k0_pay162, k0_pay163, k0_pay164,
        k0_pay165, k0_pay166, k0_pay167, k0_pay168, k0_pay169, k0_pay170, k0_pay171, k0_pay172, k0_pay173,
        k0_pay174, k0_pay175, k0_pay176, k0_pay177, k0_pay178, k0_pay179, k0_pay180, k0_pay181, k0_pay182,
        k0_pay183, k0_pay184, k0_pay185, k0_pay186, k0_pay187, k0_pay188, k0_pay189, k0_pay190, k0_pay191,
        k0_pay192, k0_pay193, k0_pay194, k0_pay195, k0_pay196, k0_pay197, k0_pay198, k0_pay199, k0_pay200,
        k0_pay201, k0_pay202, k0_pay203, k0_pay204, k0_pay205, k0_pay206, k0_pay207, k0_pay208, k0_pay209,
        k0_pay210, k0_pay211, k0_pay212, k0_pay213, k0_pay214, k0_pay215, k0_pay216, k0_pay217, k0_pay218,
        k0_pay219, k0_pay220, k0_pay221, k0_pay222, k0_pay223, k0_pay224, k0_pay225, k0_pay226, k0_pay227,
        k0_pay228, k0_pay229, k0_pay230, k0_pay231, k0_pay232, k0_pay233, k0_pay234, k0_pay235, k0_pay236,
        k0_pay237, k0_pay238, k0_pay239, k0_pay240, k0_pay241, k0_pay242, k0_pay243, k0_pay244, k0_pay245,
        k0_pay246, k0_pay247, k0_pay248, k0_pay249, k0_pay250, k0_pay251, k0_pay252, k0_pay253, k0_pay254,
        k0_pay255, k0_pay256, k0_pay257, k0_pay258, k0_pay259, k0_pay260, k0_pay261, k0_pay262, k0_pay263,
        k0_pay264, k0_pay265, k0_pay266, k0_pay267, k0_pay268, k0_pay269, k0_pay270, k0_pay271, k0_pay272,
        k0_pay273, k0_pay274, k0_pay275, k0_pay276, k0_pay277, k0_pay278, k0_pay279, k0_pay280, k0_pay281,
        k0_pay282, k0_pay283, k0_pay284, k0_pay285, k0_pay286, k0_pay287, k0_pay288, k0_pay289, k0_pay290,
        k0_pay291, k0_pay292, k0_pay293, k0_pay294, k0_pay295, k0_pay296, k0_pay297, k0_pay298, k0_pay299,
        k0_pay300, k0_pay301, k0_pay302, k0_pay303, k0_pay304, k0_pay305, k0_pay306, k0_pay307, k0_pay308,
        k0_pay309, k0_pay310, k0_pay311, k0_pay312, k0_pay313, k0_pay314, k0_pay315, k0_pay316, k0_pay317,
        k0_pay318, k0_pay319, k0_pay320, k0_pay321, k0_pay322, k0_pay323, k0_pay324, k0_pay325, k0_pay326,
        k0_pay327, k0_pay328, k0_pay329, k0_pay330, k0_pay331, k0_pay332, k0_pay333, k0_pay334, k0_pay335,
        k0_pay336, k0_pay337, k0_pay338, k0_pay339, k0_pay340, k0_pay341, k0_pay342, k0_pay343, k0_pay344,
        k0_pay345, k0_pay346, k0_pay347, k0_pay348, k0_pay349, k0_pay350, k0_pay351, k0_pay352, k0_pay353,
        k0_pay354, k0_pay355, k0_pay356, k0_pay357, k0_pay358, k0_pay359, k0_pay360, k0_pay361, k0_pay362,
        k0_pay363, k0_pay364, k0_pay365, k0_pay366, k0_pay367, k0_pay368, k0_pay369, k0_pay370, k0_pay371,
        k0_pay372, k0_pay373, k0_pay374, k0_pay375, k0_pay376, k0_pay377, k0_pay378, k0_pay379, k0_pay380,
        k0_pay381, k0_pay382, k0_pay383, k0_pay384, k0_pay385, k0_pay386, k0_pay387, k0_pay388, k0_pay389,
        k0_pay390, k0_pay391, k0_pay392, k0_pay393, k0_pay394, k0_pay395]
    rfl

end Cert.KernelIdeal.Ker
-- ==== Proof.KerStep.lean ====
module

public import proofs.«01_k».proof.Proof.KerVal
public import proofs.«01_k».proof.Proof.KerBlk
public import proofs.«01_k».proof.Proof.KerColA
public import proofs.«01_k».proof.Proof.KerColB
public import proofs.«01_k».proof.Proof.KerColC
public import proofs.«01_k».proof.Proof.KerY

@[expose] public section

set_option maxRecDepth 16384

noncomputable section

namespace Cert.KernelIdeal.Ker

open Cert.KernelIdeal Cert.KernelIdeal.Gen Cert.Gla
open Idealize.ShloMosaic Idealize.ShloMosaic.TcCoe Idealize.SL.Sem
open scoped BigOperators

variable (m : (ℓ : Loc nD τ sig) → Buf (Elt Ideal) ℓ)

/-- The normed tile of a point is the rows' norms. -/
theorem nrm_at (c : Dev nD) (t : Fin cfg0.N) (i : Fin 256) (k : Fin 2048) :
    k0_pay8 (iblk m c 0 t) (iblk m c 1 t) (iblk m c 2 t) (ix2 i k) = (argsK m c).nrm (trow t.val i) k := by
  unfold k0_pay8 k0_pay7
  generalize hX : iblk m c 0 t = X
  generalize hY : iblk m c 1 t = Y
  generalize hZ : iblk m c 2 t = Z
  pointwise
  subst hX hY hZ
  rw [blk0_at, blk1_at, blk2_at]
  simp only [blk0_at, blk1_at]
  rfl

/-- A stretch of the packed projection of a point's tile. -/
theorem colP_at (c : Dev nD) (t : Fin cfg0.N) (j : ℕ) (hj : j < 20) (i : Fin 256) (n : Fin 256) :
    colP m c t j (ix2 i n) = (argsK m c).proj (trow t.val i) ⟨256 * j + n.val, by omega⟩ := by
  have hjm : j % 20 = j := Nat.mod_eq_of_lt hj
  unfold colP k0_pay36
  pointwise
  simp only [nrm_at, blk3_at, hjm]
  rfl

/-- What every point leaves in the residual sum's block. -/
theorem h1_at (c : Dev nD) (t : Fin cfg0.N) (i : Fin 256) (k : Fin 2048) :
    (outsAt0 m c t.val t.isLt).1 (ix2 i k) = (argsK m c).h1 (trow t.val i) k := by
  have h : (outsAt0 m c t.val t.isLt).1 = k0_pay7 (iblk m c 0 t) (iblk m c 1 t) := by
    by_cases h0 : t.val % 33 = 0
    · exact h1_A m c t h0 (Or.inl h0)
    · by_cases h1 : t.val % 33 = 0 ∨ t.val % 33 = 1 ∨ t.val % 33 = 17
      · exact h1_B m c t h0 h1
      · exact h1_C m c t h0 h1
  rw [h]
  unfold k0_pay7 Args.h1
  pointwise
  rw [blk0_at, blk1_at]

/-- What every point leaves in the block of the projection's first 2048 columns. -/
theorem auv_at (c : Dev nD) (t : Fin cfg0.N) (i : Fin 256) (n : Fin 2048) :
    (outsAt0 m c t.val t.isLt).2.1 (ix2 i n) = (argsK m c).proj (trow t.val i) ⟨n.val, by omega⟩ := by
  have h : (outsAt0 m c t.val t.isLt).2.1 (ix2 i n) = colP m c t (n.val / 256) (ix2 i ⟨n.val % 256, by omega⟩) := by
    by_cases h0 : t.val % 33 = 0
    · exact auv_A m c t h0 (Or.inl h0) i n
    · by_cases h1 : t.val % 33 = 0 ∨ t.val % 33 = 1 ∨ t.val % 33 = 17
      · exact auv_B m c t h0 h1 i n
      · exact auv_C m c t h0 h1 i n
  rw [h, colP_at m c t _ (by omega)]
  refine congrArg ((argsK m c).proj _) (Fin.ext ?_)
  dsimp only; omega

/-- What every point leaves for the next one: the rest of the projection, and the gate's columns. -/
theorem proj_at (c : Dev nD) (t : Fin cfg0.N) (i : Fin 256) (n : Fin 3072) :
    (outsAt0 m c t.val t.isLt).2.2.2.2.2.1 (ix2 i n) = (argsK m c).proj (trow t.val i) ⟨2048 + n.val, by omega⟩ := by
  have h : (outsAt0 m c t.val t.isLt).2.2.2.2.2.1 (ix2 i n) = colP m c t (8 + n.val / 256) (ix2 i ⟨n.val % 256, by omega⟩) := by
    by_cases h0 : t.val % 33 = 0
    · exact proj_A m c t h0 (Or.inl h0) i n
    · by_cases h1 : t.val % 33 = 0 ∨ t.val % 33 = 1 ∨ t.val % 33 = 17
      · exact proj_B m c t h0 h1 i n
      · exact proj_C m c t h0 h1 i n
  rw [h, colP_at m c t _ (by omega)]
  refine congrArg ((argsK m c).proj _) (Fin.ext ?_)
  dsimp only; omega

@[inherit_doc proj_at] theorem zcol_at (c : Dev nD) (t : Fin cfg0.N) (i : Fin 256) (x : Fin 16) :
    (outsAt0 m c t.val t.isLt).2.2.2.2.2.2.1 (ix2 i x) = (argsK m c).proj (trow t.val i) ⟨5120 + x.val, by omega⟩ := by
  have h : (outsAt0 m c t.val t.isLt).2.2.2.2.2.2.1 = k0_pay9 (iblk m c 0 t) (iblk m c 1 t) (iblk m c 2 t)
      (View.ld (iblk m c 3 t) (Rect.unit (s := S1x2048x5136) ![0, 0, 5120] ![1, 2048, 16] inb_S1x2048x5136_S1x2048x16_0_0_5120)) := by
    by_cases h0 : t.val % 33 = 0
    · exact z_A m c t h0 (Or.inl h0)
    · by_cases h1 : t.val % 33 = 0 ∨ t.val % 33 = 1 ∨ t.val % 33 = 17
      · exact z_B m c t h0 h1
      · exact z_C m c t h0 h1
  rw [h]
  unfold k0_pay9
  pointwise
  simp only [nrm_at, blk3_at]
  rfl

/-- The sequence and the first chunk of the tile that point `s + 1` attends over. -/
def seqOf (s : ℕ) : Fin 2 := ⟨s / 16 % 2, Nat.mod_lt _ (by norm_num)⟩
@[inherit_doc seqOf] def chunkOf (s : ℕ) : ℕ := s % 16 * 4

theorem trow_eq (s : ℕ) (hs : s < 32) (i : Fin 256) : trow s i = tokT (seqOf s) (chunkOf s) i := by
  unfold trow tokT seqOf chunkOf
  refine Fin.ext ?_
  dsimp only
  omega

/-- A point's tile fits when its state does. -/
theorem fits_tile (c : Dev nD) (t : Fin cfg0.N) (ht : 1 ≤ t.val) (S : Vec Ideal S4x256x128 .f32)
    (hS : ∀ (e : Fin 4) (n : Fin 256) (d : Fin 128), S (ix3 e n d) = (argsK m c).st (seqOf (t.val - 1)) e (chunkOf (t.val - 1)) d n) :
    Fits (tile m c t S) (argsK m c) (seqOf (t.val - 1)) (chunkOf (t.val - 1)) := by
  have h32 : t.val - 1 < 32 := by have : t.val < 33 := t.isLt; omega
  have hN : t.val - 1 < cfg0.N := lt_of_le_of_lt (Nat.sub_le _ _) t.isLt
  refine ⟨fun i n => ?_, fun i x => ?_, fun x n => blk4_at m c t x n, fun n => blk5_at m c t n, hS, fun n => blk6_at m c t n⟩
  · rw [← trow_eq _ h32]; exact proj_at m c ⟨t.val - 1, hN⟩ i n
  · rw [← trow_eq _ h32]; exact zcol_at m c ⟨t.val - 1, hN⟩ i x

/-- The state that begins a sequence is zero. -/
theorem pay4_at (e : Fin 4) (n : Fin 256) (d : Fin 128) : k0_pay4 (F := Ideal) (ix3 e n d) = 0 := by
  unfold k0_pay4
  pointwise

/-- The state after point `s + 1` is the recurrence's after the tile's four chunks. -/
theorem state_at (c : Dev nD) : ∀ (s : ℕ) (hs : s + 1 < cfg0.N) (e : Fin 4) (n : Fin 256) (d : Fin 128),
    (outsAt0 m c (s + 1) hs).2.2.2.2.2.2.2 (ix3 e n d) = (argsK m c).st (seqOf s) e (chunkOf s + 4) d n := by
  intro s
  induction s with
  | zero =>
    intro hs e n d
    rw [state_B m c ⟨1, hs⟩ (by show ¬1 % 33 = 0; decide) (by show 1 % 33 = 0 ∨ 1 % 33 = 1 ∨ 1 % 33 = 17; decide) e n d]
    exact fits_st (fits_tile m c ⟨1, hs⟩ (by show 1 ≤ 1; decide) _ fun e n d => (pay4_at e n d).trans (by
        show 0 = (argsK m c).st (seqOf 0) e (chunkOf 0) d n; rfl)) e 4 le_rfl n d
  | succ s ih =>
    intro hs e n d
    have h33 : s + 2 < 33 := hs
    by_cases h17 : s = 15
    · subst h17
      rw [state_B m c ⟨17, hs⟩ (by show ¬17 % 33 = 0; decide) (by show 17 % 33 = 0 ∨ 17 % 33 = 1 ∨ 17 % 33 = 17; decide) e n d]
      exact fits_st (fits_tile m c ⟨17, hs⟩ (by show 1 ≤ 17; decide) _ fun e n d => (pay4_at e n d).trans (by
        show 0 = (argsK m c).st (seqOf 16) e (chunkOf 16) d n; rfl)) e 4 le_rfl n d
    · have a0 : ¬(s + 1 + 1) % 33 = 0 := by omega
      have a1 : ¬((s + 1 + 1) % 33 = 0 ∨ (s + 1 + 1) % 33 = 1 ∨ (s + 1 + 1) % 33 = 17) := by omega
      rw [state_C m c ⟨s + 1 + 1, hs⟩ a0 a1 e n d]
      refine fits_st (fits_tile m c ⟨s + 1 + 1, hs⟩ (by simp) _ fun e n d => ?_) e 4 le_rfl n d
      refine (ih (by omega) e n d).trans ?_
      have e1 : seqOf (s + 1) = seqOf s := by unfold seqOf; refine Fin.ext ?_; dsimp only; omega
      have e2 : chunkOf (s + 1) = chunkOf s + 4 := by unfold chunkOf; omega
      show _ = (argsK m c).st (seqOf (s + 1)) e (chunkOf (s + 1)) d n
      rw [e1, e2]

/-- What point `s + 1` leaves in the result's block: the branch's result of the tile before. -/
theorem y_at (c : Dev nD) (s : ℕ) (hs : s + 1 < cfg0.N) (i : Fin 256) (n : Fin 1024) :
    (outsAt0 m c (s + 1) hs).2.2.1 (ix2 i n)
      = (argsK m c).yc (seqOf s) ⟨n.val / 256, by omega⟩ (chunkOf s + i.val / 64) ⟨i.val % 64, by omega⟩ ⟨n.val % 256, by omega⟩ := by
  have h33 : s + 1 < 33 := hs
  by_cases hB : s = 0 ∨ s = 16
  · have a0 : ¬(s + 1) % 33 = 0 := by omega
    have a1 : ((s + 1) % 33 = 0 ∨ (s + 1) % 33 = 1 ∨ (s + 1) % 33 = 17) := by omega
    rw [y_B m c ⟨s + 1, hs⟩ a0 a1 i n]
    refine fits_y (fits_tile m c ⟨s + 1, hs⟩ (by simp) _ fun e n d => (pay4_at e n d).trans ?_) _ _ _ _
    have e2 : chunkOf s = 0 := by unfold chunkOf; omega
    show _ = (argsK m c).st (seqOf s) e (chunkOf s) d n
    rw [e2]; rfl
  · have a0 : ¬(s + 1) % 33 = 0 := by omega
    have a1 : ¬((s + 1) % 33 = 0 ∨ (s + 1) % 33 = 1 ∨ (s + 1) % 33 = 17) := by omega
    rw [y_C m c ⟨s + 1, hs⟩ a0 a1 i n]
    refine fits_y (fits_tile m c ⟨s + 1, hs⟩ (by simp) _ fun e n d => ?_) _ _ _ _
    obtain ⟨r, rfl⟩ : ∃ r, s = r + 1 := ⟨s - 1, by omega⟩
    refine (state_at m c r (by omega) e n d).trans ?_
    have e1 : seqOf (r + 1) = seqOf r := by unfold seqOf; refine Fin.ext ?_; dsimp only; omega
    have e2 : chunkOf (r + 1) = chunkOf r + 4 := by unfold chunkOf; omega
    show _ = (argsK m c).st (seqOf (r + 1)) e (chunkOf (r + 1)) d n
    rw [e1, e2]

end Cert.KernelIdeal.Ker

end
-- ==== Proof.KerArr.lean ====
module

public import proofs.«01_k».proof.Proof.KerStep
public import proofs.«01_k».proof.Proof.Gen.KernelIdeal.Value

@[expose] public section

set_option maxRecDepth 16384

noncomputable section

namespace Cert.KernelIdeal.Ker

open Cert.KernelIdeal Cert.KernelIdeal.Gen Cert.Gla
open Idealize.ShloMosaic Idealize.ShloMosaic.TcCoe Idealize.SL.Sem
open scoped BigOperators

variable (m : (ℓ : Loc nD τ sig) → Buf (Elt Ideal) ℓ)

/-- Where each output window's block lies at a point. -/
theorem idxO : ∀ t : Fin cfg0.N, win0_9.index t = ![min t.val 31, 0] ∧ win0_10.index t = ![min t.val 31, 0]
    ∧ win0_11.index t = ![t.val - 1, 0] ∧ win0_12.index t = ![min t.val 31, 0] ∧ win0_13.index t = ![min t.val 31, 0] := by
  decide +kernel

/-- Every entry of an index of two coordinates is one of `ix2`. -/
theorem ix2_eta {a b : ℕ} (y : (⟨2, ![a, b]⟩ : Shape).Idx) : y = ix2 (y 0) (y 1) := by
  funext i
  match i with
  | ⟨0, _⟩ => rfl
  | ⟨1, _⟩ => rfl

/-- The residual sum's array after the run. -/
theorem arr9 (c : Dev nD) : (dats m 0 c).arrAt 9 cfg0.N = fun j : S8192x2048.Idx => (argsK m c).h1 (j 0) (j 1) := by
  refine (dats m 0 c).arrAt_eq_of_covers 9 _ (by decide +kernel) fun t hf y => ?_
  rw [after0_9]
  blk_simp
  obtain ⟨i, k, rfl⟩ : ∃ (i : Fin 256) (k : Fin 2048), y = ix2 i k := ⟨y 0, y 1, ix2_eta y⟩
  refine (h1_at m c t i k).trans (congrArg₂ (argsK m c).h1 (Fin.ext ?_) (Fin.ext ?_))
  · blk_simp [idxO t]; rfl
  · blk_simp [idxO t]

/-- The array of the projection's first 2048 columns after the run. -/
theorem arr10 (c : Dev nD) : (dats m 0 c).arrAt 10 cfg0.N
    = fun j : S8192x2048.Idx => (argsK m c).proj (j 0) ⟨(j 1).val, lt_trans (j 1).isLt (by decide)⟩ := by
  refine (dats m 0 c).arrAt_eq_of_covers 10 _ (by decide +kernel) fun t hf y => ?_
  rw [after0_10]
  blk_simp
  obtain ⟨i, k, rfl⟩ : ∃ (i : Fin 256) (k : Fin 2048), y = ix2 i k := ⟨y 0, y 1, ix2_eta y⟩
  refine (auv_at m c t i k).trans (congrArg₂ (argsK m c).proj (Fin.ext ?_) (Fin.ext ?_))
  · blk_simp [idxO t]; rfl
  · blk_simp [idxO t]

/-- The place of the branch's result in its sequence: row, chunk, head, column. -/
def yArr (A : Args) (r : Fin 8192) (k : Fin 1024) : EReal :=
  A.yc ⟨r.val / 4096, by omega⟩ ⟨k.val / 256, by omega⟩ (r.val % 4096 / 64) ⟨r.val % 64, by omega⟩ ⟨k.val % 256, by omega⟩

/-- A branch's result does not depend on how its place is written. -/
theorem yc_congr (A : Args) {b b' : Fin 2} {e e' : Fin 4} {n n' : ℕ} {i i' : Fin 64} {k k' : Fin 256}
    (hb : b = b') (he : e = e') (hn : n = n') (hi : i = i') (hk : k = k') : A.yc b e n i k = A.yc b' e' n' i' k' := by
  subst hb he hn hi hk; rfl

/-- The result's block is first written back after the second point. -/
theorem flush11 : ∀ t : Fin cfg0.N, (cfg0.win 11).flush t = true → 1 ≤ t.val := by
  decide +kernel

/-- The branch's result after the run. -/
theorem arr11 (c : Dev nD) : (dats m 0 c).arrAt 11 cfg0.N = fun j : S8192x1024.Idx => yArr (argsK m c) (j 0) (j 1) := by
  refine (dats m 0 c).arrAt_eq_of_covers 11 _ (by decide +kernel) fun t hf y => ?_
  have ht := flush11 t hf
  rw [after0_11]
  blk_simp
  obtain ⟨i, k, rfl⟩ : ∃ (i : Fin 256) (k : Fin 1024), y = ix2 i k := ⟨y 0, y 1, ix2_eta y⟩
  obtain ⟨s, hs⟩ : ∃ s, t.val = s + 1 := ⟨t.val - 1, by omega⟩
  have hs33 : s + 1 < 33 := hs ▸ t.isLt
  have e0 : ((win0_11.blk t).view.emb (ix2 i k) 0).val = s * 256 + i.val := by
    blk_simp [idxO t]; simp [hs]
  have e1 : ((win0_11.blk t).view.emb (ix2 i k) 1).val = k.val := by
    blk_simp [idxO t]
  have hy := y_at m c s (hs ▸ t.isLt) i k
  obtain ⟨tv, ht'⟩ := t
  dsimp only at hs
  subst hs
  refine hy.trans ?_
  unfold yArr seqOf chunkOf
  refine yc_congr _ (Fin.ext ?_) (Fin.ext ?_) ?_ (Fin.ext ?_) (Fin.ext ?_)
  all_goals dsimp only
  · rw [e0]; omega
  · rw [e1]
  · rw [e0]; omega
  · rw [e0]; omega
  · rw [e1]

/-- The first kept weight after the run. -/
theorem arr12 (c : Dev nD) : (dats m 0 c).arrAt 12 cfg0.N
    = fun j : S2048x2048.Idx => m ((c : Thread nD τ).loc main_arg7) (ix3 0 (j 0) (j 1)) := by
  refine (dats m 0 c).arrAt_eq_of_covers 12 _ (by decide +kernel) fun t hf y => ?_
  rw [after0_12]
  blk_simp
  obtain ⟨i, k, rfl⟩ : ∃ (i : Fin 64) (k : Fin 2048), y = ix2 i k := ⟨y 0, y 1, ix2_eta y⟩
  have h : (outsAt0 m c t.val t.isLt).2.2.2.1 = k0_pay5 (iblk m c 7 t) := by
    by_cases h0 : t.val % 33 = 0
    · exact wa_A m c t h0 (Or.inl h0)
    · by_cases h1 : t.val % 33 = 0 ∨ t.val % 33 = 1 ∨ t.val % 33 = 17
      · exact wa_B m c t h0 h1
      · exact wa_C m c t h0 h1
  rw [h]
  have h2 : k0_pay5 (iblk m c 7 t) (ix2 i k) = iblk m c 7 t (ix3 0 i k) := by
    unfold k0_pay5; pointwise
  refine h2.trans ((blk7_at m c t i k).trans (congrArg₂ (fun a b => m ((c : Thread nD τ).loc main_arg7) (ix3 0 a b)) (Fin.ext ?_) (Fin.ext ?_)))
  · blk_simp [idxO t]
  · blk_simp [idxO t]

/-- The second kept weight after the run. -/
theorem arr13 (c : Dev nD) : (dats m 0 c).arrAt 13 cfg0.N
    = fun j : S2048x2048.Idx => m ((c : Thread nD τ).loc main_arg8) (ix3 0 (j 0) (j 1)) := by
  refine (dats m 0 c).arrAt_eq_of_covers 13 _ (by decide +kernel) fun t hf y => ?_
  rw [after0_13]
  blk_simp
  obtain ⟨i, k, rfl⟩ : ∃ (i : Fin 64) (k : Fin 2048), y = ix2 i k := ⟨y 0, y 1, ix2_eta y⟩
  have h : (outsAt0 m c t.val t.isLt).2.2.2.2.1 = k0_pay6 (iblk m c 8 t) := by
    by_cases h0 : t.val % 33 = 0
    · exact wb_A m c t h0 (Or.inl h0)
    · by_cases h1 : t.val % 33 = 0 ∨ t.val % 33 = 1 ∨ t.val % 33 = 17
      · exact wb_B m c t h0 h1
      · exact wb_C m c t h0 h1
  rw [h]
  have h2 : k0_pay6 (iblk m c 8 t) (ix2 i k) = iblk m c 8 t (ix3 0 i k) := by
    unfold k0_pay6; pointwise
  refine h2.trans ((blk8_at m c t i k).trans (congrArg₂ (fun a b => m ((c : Thread nD τ).loc main_arg8) (ix3 0 a b)) (Fin.ext ?_) (Fin.ext ?_)))
  · blk_simp [idxO t]
  · blk_simp [idxO t]

end Cert.KernelIdeal.Ker

end
-- ==== Proof.RefEntry.lean ====
module

public import proofs.«01_k».proof.Proof.Model
public import proofs.«01_k».proof.Proof.Gen.ReferenceIdeal.Run
public import Idealize.ShloMosaic.Lib.StableHlo.ReadAt

@[expose] public section

set_option maxRecDepth 8192

noncomputable section

namespace Cert.ReferenceIdeal.Ref

open Cert.ReferenceIdeal Cert.ReferenceIdeal.Gen Cert.Gla
open Idealize.ShloMosaic Idealize.ShloMosaic.TcCoe Idealize.ShloMosaic.StableHlo Idealize.SL.Sem
open scoped BigOperators

/-- The reference's arrays as the call's arguments, from any contents. -/
def argsOf (V : Valuation τ sig (Elt Ideal)) : Args where
  h r c := V (Proc.devRef .tc main_arg0) (ix2 r c)
  d r c := V (Proc.devRef .tc main_arg1) (ix2 r c)
  mn c := V (Proc.devRef .tc main_arg2) (ix2 0 c)
  w j c := V (Proc.devRef .tc main_arg3) (ix3 0 j c)
  wg z c := V (Proc.devRef .tc main_arg4) (ix3 0 z c)
  bg c := V (Proc.devRef .tc main_arg5) (ix2 0 c)
  og c := V (Proc.devRef .tc main_arg6) (ix2 0 c)

/-- A token's row. -/
def tok (b : Fin 2) (t : Fin 4096) : Fin 8192 := ⟨b.val * 4096 + t.val, by omega⟩

theorem v0_at (V : Valuation τ sig (Elt Ideal)) (r : Fin 8192) (c : Fin 2048) :
    after hostOps0 V (Proc.devRef .tc main_v0) (ix2 r c) = (argsOf V).h1 r c := by
  after_reads_at
  rfl

theorem v1_at (V : Valuation τ sig (Elt Ideal)) (b : Fin 2) (t : Fin 4096) (c : Fin 2048) :
    after hostOps0 V (Proc.devRef .tc main_v1) (ix3 b t c) = (argsOf V).h1 (tok b t) c := by
  after_reads_at
  rfl

theorem v19_at (V : Valuation τ sig (Elt Ideal)) (b : Fin 2) (t : Fin 4096) (c : Fin 5136) :
    after hostOps0 V (Proc.devRef .tc main_v19) (ix3 b t c) = (argsOf V).proj (tok b t) c := by
  after_reads_at
  rfl

theorem v21_at (V : Valuation τ sig (Elt Ideal)) (b : Fin 2) (t : Fin 4096) (c : Fin 512) :
    after hostOps0 V (Proc.devRef .tc main_v21) (ix3 b t c) = (argsOf V).proj (tok b t) ⟨2048 + c.val, by omega⟩ := by
  after_reads_at
  rfl

theorem v22_at (V : Valuation τ sig (Elt Ideal)) (b : Fin 2) (t : Fin 4096) (c : Fin 512) :
    after hostOps0 V (Proc.devRef .tc main_v22) (ix3 b t c) = (argsOf V).proj (tok b t) ⟨2560 + c.val, by omega⟩ := by
  after_reads_at
  rfl

theorem v23_at (V : Valuation τ sig (Elt Ideal)) (b : Fin 2) (t : Fin 4096) (c : Fin 1024) :
    after hostOps0 V (Proc.devRef .tc main_v23) (ix3 b t c) = (argsOf V).proj (tok b t) ⟨3072 + c.val, by omega⟩ := by
  after_reads_at
  rfl

theorem v24_at (V : Valuation τ sig (Elt Ideal)) (b : Fin 2) (t : Fin 4096) (c : Fin 1024) :
    after hostOps0 V (Proc.devRef .tc main_v24) (ix3 b t c) = (argsOf V).proj (tok b t) ⟨4096 + c.val, by omega⟩ := by
  after_reads_at
  rfl

theorem v20_at (V : Valuation τ sig (Elt Ideal)) (b : Fin 2) (t : Fin 4096) (c : Fin 2048) :
    after hostOps0 V (Proc.devRef .tc main_v20) (ix3 b t c) = (argsOf V).proj (tok b t) ⟨c.val, by omega⟩ := by
  after_reads_at
  rfl

theorem v33_at (V : Valuation τ sig (Elt Ideal)) (b : Fin 2) (t : Fin 4096) (c : Fin 512) :
    after hostOps0 V (Proc.devRef .tc main_v33) (ix3 b t c) = (argsOf V).pre (tok b t) c := by
  after_reads_at
  rfl

theorem v34_at (V : Valuation τ sig (Elt Ideal)) (b : Fin 2) (t : Fin 4096) (c : Fin 512) :
    after hostOps0_1 V (Proc.devRef .tc main_v34) (ix3 b t c) = logsig (V (Proc.devRef .tc main_v33) (ix3 b t c)) := by
  after_reads_at
  simp only [ne_eq, not_true_eq_false, if_false]
  rw [← logsig_softplus]
  change -(max _ 0 + Ideal.log1p (Ideal.exp (-(max (-_) (-(-_)))))) = _
  rw [neg_neg]

theorem v60_0_at (V : Valuation τ sig (Elt Ideal)) (n : Fin 64) (b : Fin 2) (e : Fin 4) (i : Fin 64) (c : Fin 128) :
    after hostOps0_4 (after hostOps0_3 (after hostOps0_2 V)) (Proc.devRef .tc main_v60_0) (ix5 n b e i c)
      = HMul.hMul (α := EReal) (β := EReal) (γ := EReal) (V (Proc.devRef .tc main_v21) (ix3 b ⟨n.val * 64 + i.val, by omega⟩ ⟨e.val * 128 + c.val, by omega⟩)) qs := by
  after_reads_at
  rw [id]
  pointwise

theorem v60_1_at (V : Valuation τ sig (Elt Ideal)) (n : Fin 64) (b : Fin 2) (e : Fin 4) (i : Fin 64) (c : Fin 128) :
    after hostOps0_4 (after hostOps0_3 (after hostOps0_2 V)) (Proc.devRef .tc main_v60_1) (ix5 n b e i c)
      = V (Proc.devRef .tc main_v22) (ix3 b ⟨n.val * 64 + i.val, by omega⟩ ⟨e.val * 128 + c.val, by omega⟩) := by
  after_reads_at
  rw [id]
  pointwise

theorem v60_2_at (V : Valuation τ sig (Elt Ideal)) (n : Fin 64) (b : Fin 2) (e : Fin 4) (i : Fin 64) (c : Fin 256) :
    after hostOps0_4 (after hostOps0_3 (after hostOps0_2 V)) (Proc.devRef .tc main_v60_2) (ix5 n b e i c)
      = V (Proc.devRef .tc main_v23) (ix3 b ⟨n.val * 64 + i.val, by omega⟩ ⟨e.val * 256 + c.val, by omega⟩) := by
  after_reads_at
  rw [id]
  pointwise

theorem v60_6_at (V : Valuation τ sig (Elt Ideal)) (b : Fin 2) (e : Fin 4) (c : Fin 128) (v : Fin 256) :
    after hostOps0_4 (after hostOps0_3 (after hostOps0_2 V)) (Proc.devRef .tc main_v60_6) (ix4 b e c v) = (0 : EReal) := by
  after_reads_at
  rw [id]
  pointwise

theorem v60_3_at (V : Valuation τ sig (Elt Ideal)) (n : Fin 64) (b : Fin 2) (e : Fin 4) (i : Fin 64) (c : Fin 128) :
    after hostOps0_4 (after hostOps0_3 (after hostOps0_2 V)) (Proc.devRef .tc main_v60_3) (ix5 n b e i c)
      = Ideal.div (V (Proc.devRef .tc main_v34) (ix3 b ⟨n.val * 64 + i.val, by omega⟩ ⟨e.val * 128 + c.val, by omega⟩)) c16 := by
  after_reads_at
  rw [id]
  pointwise

theorem v60_4_at (V : Valuation τ sig (Elt Ideal)) (i j : Fin 64) :
    after hostOps0_4 (after hostOps0_3 (after hostOps0_2 V)) (Proc.devRef .tc main_v60_4) (ix3 i j 0)
      = if j ≤ i then 1#1 else 0#1 := by
  after_reads_at
  rw [id]
  pointwise
  revert i j
  decide +kernel

end Cert.ReferenceIdeal.Ref

end
-- ==== Proof.RefCum.lean ====
module

public import proofs.«01_k».proof.Proof.RefEntry

@[expose] public section

set_option maxRecDepth 8192

noncomputable section

namespace Cert.ReferenceIdeal.Ref

open Cert.ReferenceIdeal Cert.ReferenceIdeal.Gen Cert.Gla
open Idealize.ShloMosaic Idealize.ShloMosaic.TcCoe Idealize.ShloMosaic.StableHlo Idealize.SL.Sem
open scoped BigOperators

/-- The running sum's window has 64 places along the chunk and one along every other axis. -/
def winEquiv : (⟨4, ![1, 1, 64, 1]⟩ : Shape).Idx ≃ Fin 64 where
  toFun a := a 2
  invFun k := ix4 0 0 k 0
  left_inv a := by
    funext i
    match i with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
  right_inv k := rfl

/-- A left fold that adds is the sum. -/
theorem foldl_add {n : ℕ} (f : Fin n → EReal) : (List.finRange n).foldl (fun r k => r + f k) 0 = ∑ k, f k := by
  rw [← List.sum_ofFn, List.ofFn_eq_map, ← List.foldl_map, List.sum_eq_foldl]

/-- A sum over the window's places that reach back from `i` is the sum over the places up to `i`. -/
theorem window_sum (f : Fin 64 → EReal) (i : Fin 64) :
    (∑ a : Fin 64, if h : 63 ≤ i.val + a.val ∧ i.val + a.val - 63 < 64 then f ⟨i.val + a.val - 63, h.2⟩ else 0)
      = ∑ j, if j ≤ i then f j else 0 := by
  refine Finset.sum_bij_ne_zero (fun a _ _ => ⟨(i.val + a.val - 63) % 64, Nat.mod_lt _ (by norm_num)⟩) (fun _ _ _ => Finset.mem_univ _) ?_ ?_ ?_
  · intro a _ ha b _ hb hab
    have h1 : 63 ≤ i.val + a.val := by
      by_contra hc; exact ha (dif_neg fun h => hc h.1)
    have h2 : 63 ≤ i.val + b.val := by
      by_contra hc; exact hb (dif_neg fun h => hc h.1)
    have := Fin.val_eq_of_eq hab
    dsimp only at this
    exact Fin.ext (by omega)
  · intro j _ hj
    have h1 : j ≤ i := by
      by_contra hc; exact hj (if_neg hc)
    have h1' : j.val ≤ i.val := h1
    refine ⟨⟨63 + j.val - i.val, by omega⟩, Finset.mem_univ _, ?_, ?_⟩
    · have h2 : 63 ≤ i.val + (63 + j.val - i.val) ∧ i.val + (63 + j.val - i.val) - 63 < 64 := by omega
      rw [dif_pos h2]
      rw [if_pos h1] at hj
      have : (⟨i.val + (63 + j.val - i.val) - 63, h2.2⟩ : Fin 64) = j := Fin.ext (by dsimp only; omega)
      rwa [this]
    · exact Fin.ext (by dsimp only; omega)
  · intro a _ ha
    have h1 : 63 ≤ i.val + a.val ∧ i.val + a.val - 63 < 64 := by
      by_contra hc; exact ha (dif_neg hc)
    rw [dif_pos h1]
    have e : (⟨(i.val + a.val - 63) % 64, Nat.mod_lt _ (by norm_num)⟩ : Fin 64) = ⟨i.val + a.val - 63, h1.2⟩ :=
      Fin.ext (Nat.mod_eq_of_lt h1.2)
    rw [e, if_pos]
    exact Fin.mk_le_of_le_val (by omega)

/-- The running sum along a chunk. -/
theorem cumsum_at (x : FVec Ideal S2x4x64x128 .f32) (v : FVec Ideal S_ .f32) (hv : ∀ i, v i = 0) (h) (h2)
    (b : Fin 2) (e : Fin 4) (i : Fin 64) (c : Fin 128) :
    Host.reduceWindowAdd (t := S2x4x64x128) (u := S_) ![1, 1, 64, 1] ![1, 1, 1, 1] ![0, 0, 63, 0] ![0, 0, 0, 0] x v h h2 (ix4 b e i c)
      = ∑ j, if j ≤ i then x (ix4 b e j c) else 0 := by
  unfold Host.reduceWindowAdd
  rw [hv]
  change (List.finRange _).foldl _ (0 : EReal) = _
  refine (foldl_add _).trans ?_
  rw [← window_sum (fun j => x (ix4 b e j c)) i]
  rw [← Equiv.sum_comp ((⟨4, ![1, 1, 64, 1]⟩ : Shape).rowMajor.symm.trans winEquiv)]
  refine Finset.sum_congr rfl fun n _ => ?_
  obtain ⟨y, hy⟩ : ∃ y, (⟨4, ![1, 1, 64, 1]⟩ : Shape).rowMajor.symm n = y := ⟨_, rfl⟩
  have hw : ((⟨4, ![1, 1, 64, 1]⟩ : Shape).rowMajor.symm.trans winEquiv) n = y 2 := by
    rw [← hy]; rfl
  rw [hw]
  have y0 : (y 0).val = 0 := Nat.lt_one_iff.mp (y 0).isLt
  have y1 : (y 1).val = 0 := Nat.lt_one_iff.mp (y 1).isLt
  have y3 : (y 3).val = 0 := Nat.lt_one_iff.mp (y 3).isLt
  have hb := b.isLt
  have he := e.isLt
  have hc := c.isLt
  by_cases h63 : 63 ≤ i.val + (y 2).val ∧ i.val + (y 2).val - 63 < 64
  · rw [dif_pos h63]
    refine (dif_pos ?_).trans ?_
    · intro a
      match a with
      | ⟨0, _⟩ =>
        refine (show 0 ≤ b.val * 1 + ((⟨4, ![1, 1, 64, 1]⟩ : Shape).rowMajor.symm n 0).val ∧ b.val * 1 + ((⟨4, ![1, 1, 64, 1]⟩ : Shape).rowMajor.symm n 0).val - 0 < 2 from ?_)
        rw [hy]; omega
      | ⟨1, _⟩ =>
        refine (show 0 ≤ e.val * 1 + ((⟨4, ![1, 1, 64, 1]⟩ : Shape).rowMajor.symm n 1).val ∧ e.val * 1 + ((⟨4, ![1, 1, 64, 1]⟩ : Shape).rowMajor.symm n 1).val - 0 < 4 from ?_)
        rw [hy]; omega
      | ⟨2, _⟩ =>
        refine (show 63 ≤ i.val * 1 + ((⟨4, ![1, 1, 64, 1]⟩ : Shape).rowMajor.symm n 2).val ∧ i.val * 1 + ((⟨4, ![1, 1, 64, 1]⟩ : Shape).rowMajor.symm n 2).val - 63 < 64 from ?_)
        rw [hy]; omega
      | ⟨3, _⟩ =>
        refine (show 0 ≤ c.val * 1 + ((⟨4, ![1, 1, 64, 1]⟩ : Shape).rowMajor.symm n 3).val ∧ c.val * 1 + ((⟨4, ![1, 1, 64, 1]⟩ : Shape).rowMajor.symm n 3).val - 0 < 128 from ?_)
        rw [hy]; omega
    · refine congrArg x ?_
      funext a
      match a with
      | ⟨0, _⟩ => exact Fin.ext (show b.val * 1 + ((⟨4, ![1, 1, 64, 1]⟩ : Shape).rowMajor.symm n 0).val - 0 = b.val by rw [hy]; omega)
      | ⟨1, _⟩ => exact Fin.ext (show e.val * 1 + ((⟨4, ![1, 1, 64, 1]⟩ : Shape).rowMajor.symm n 1).val - 0 = e.val by rw [hy]; omega)
      | ⟨2, _⟩ => exact Fin.ext (show i.val * 1 + ((⟨4, ![1, 1, 64, 1]⟩ : Shape).rowMajor.symm n 2).val - 63 = i.val + (y 2).val - 63 by rw [hy]; omega)
      | ⟨3, _⟩ => exact Fin.ext (show c.val * 1 + ((⟨4, ![1, 1, 64, 1]⟩ : Shape).rowMajor.symm n 3).val - 0 = c.val by rw [hy]; omega)
  · rw [dif_neg h63]
    refine dif_neg fun hin => h63 ?_
    have h2 := hin 2
    have h3 : 63 ≤ i.val * 1 + ((⟨4, ![1, 1, 64, 1]⟩ : Shape).rowMajor.symm n 2).val
      ∧ i.val * 1 + ((⟨4, ![1, 1, 64, 1]⟩ : Shape).rowMajor.symm n 2).val - 63 < 64 := h2
    rw [hy] at h3
    omega

end Cert.ReferenceIdeal.Ref

end
-- ==== Proof.RefStep.lean ====
module

public import proofs.«01_k».proof.Proof.RefCum
public import Idealize.ShloMosaic.Lib.DynamicIndex
public import Idealize.ShloMosaic.Lib.WordCmp

@[expose] public section

set_option maxRecDepth 8192

noncomputable section

namespace Cert.ReferenceIdeal.Ref

open Cert.ReferenceIdeal Cert.ReferenceIdeal.Gen Cert.ReferenceIdeal.Value Cert.Gla
open Idealize.ShloMosaic Idealize.ShloMosaic.TcCoe Idealize.ShloMosaic.StableHlo Idealize.SL.Sem
open scoped BigOperators

/-- The scan's counter before trip `k`, as a number. -/
theorem iv_int (k : ℕ) (hk : k < 64) : (Scf.iv 0#32 1#32 k).toInt = (k : ℤ) := by
  interval_cases k <;> decide

/-- A chunk lies within an operand whose rows have 128 entries. -/
theorem slices128 (k : Fin 64) : S64x2x4x64x128.Slices ![k.val, 0, 0, 0, 0] S1x2x4x64x128 := by
  revert k; decide

/-- One chunk of a stacked operand whose rows have 128 entries. -/
theorem chunk128_at (x : FVec Ideal S64x2x4x64x128 .f32) (start : Fin 5 → ℤ) (k : Fin 64)
    (h0 : start 0 = k.val) (h1 : start 1 = 0) (h2 : start 2 = 0) (h3 : start 3 = 0) (h4 : start 4 = 0) (hs hc)
    (b : Fin 2) (e : Fin 4) (i : Fin 64) (c : Fin 128) :
    shapeCast S2x4x64x128 (Host.dynamicSlice S1x2x4x64x128 x start hs) hc (ix4 b e i c) = x (ix5 k b e i c) := by
  have hoff := slices128 k
  rw [Host.dynamicSlice_eq_extractStridedSlice _ x start ![k.val, 0, 0, 0, 0] hs hoff (fun a => by
    match a with
    | ⟨0, _⟩ => exact h0
    | ⟨1, _⟩ => exact h1
    | ⟨2, _⟩ => exact h2
    | ⟨3, _⟩ => exact h3
    | ⟨4, _⟩ => exact h4)]
  pointwise

/-- A chunk lies within an operand whose rows have 256 entries. -/
theorem slices256 (k : Fin 64) : S64x2x4x64x256.Slices ![k.val, 0, 0, 0, 0] S1x2x4x64x256 := by
  revert k; decide

/-- One chunk of a stacked operand whose rows have 256 entries. -/
theorem chunk256_at (x : FVec Ideal S64x2x4x64x256 .f32) (start : Fin 5 → ℤ) (k : Fin 64)
    (h0 : start 0 = k.val) (h1 : start 1 = 0) (h2 : start 2 = 0) (h3 : start 3 = 0) (h4 : start 4 = 0) (hs hc)
    (b : Fin 2) (e : Fin 4) (i : Fin 64) (c : Fin 256) :
    shapeCast S2x4x64x256 (Host.dynamicSlice S1x2x4x64x256 x start hs) hc (ix4 b e i c) = x (ix5 k b e i c) := by
  have hoff := slices256 k
  rw [Host.dynamicSlice_eq_extractStridedSlice _ x start ![k.val, 0, 0, 0, 0] hs hoff (fun a => by
    match a with
    | ⟨0, _⟩ => exact h0
    | ⟨1, _⟩ => exact h1
    | ⟨2, _⟩ => exact h2
    | ⟨3, _⟩ => exact h3
    | ⟨4, _⟩ => exact h4)]
  pointwise

/-- A trip's queries. -/
theorem q_at (V : Valuation τ sig (Elt Ideal)) (k : Fin 64) (hk : V (Proc.devRef .tc main_v60_5) = fun _ => Scf.iv 0#32 1#32 k.val)
    (b : Fin 2) (e : Fin 4) (i : Fin 64) (c : Fin 128) :
    res_main_while0b_v93 V (ix4 b e i c) = V (Proc.devRef .tc main_v60_0) (ix5 k b e i c) := by
  unfold res_main_while0b_v93
  rw [hk]
  exact chunk128_at _ _ k (iv_int k.val k.isLt) rfl rfl rfl rfl _ _ b e i c

/-- A trip's keys. -/
theorem k_at (V : Valuation τ sig (Elt Ideal)) (k : Fin 64) (hk : V (Proc.devRef .tc main_v60_5) = fun _ => Scf.iv 0#32 1#32 k.val)
    (b : Fin 2) (e : Fin 4) (i : Fin 64) (c : Fin 128) :
    res_main_while0b_v94 V (ix4 b e i c) = V (Proc.devRef .tc main_v60_1) (ix5 k b e i c) := by
  unfold res_main_while0b_v94
  rw [hk]
  exact chunk128_at _ _ k (iv_int k.val k.isLt) rfl rfl rfl rfl _ _ b e i c

/-- A trip's values. -/
theorem v_at (V : Valuation τ sig (Elt Ideal)) (k : Fin 64) (hk : V (Proc.devRef .tc main_v60_5) = fun _ => Scf.iv 0#32 1#32 k.val)
    (b : Fin 2) (e : Fin 4) (i : Fin 64) (c : Fin 256) :
    res_main_while0b_v95 V (ix4 b e i c) = V (Proc.devRef .tc main_v60_2) (ix5 k b e i c) := by
  unfold res_main_while0b_v95
  rw [hk]
  exact chunk256_at _ _ k (iv_int k.val k.isLt) rfl rfl rfl rfl _ _ b e i c

/-- A chunk written over its slot. -/
theorem upd_at (x : FVec Ideal S64x2x4x64x256 .f32) (u : FVec Ideal S1x2x4x64x256 .f32) (start : Fin 5 → ℤ) (k : Fin 64)
    (h0 : start 0 = k.val) (h1 : start 1 = 0) (h2 : start 2 = 0) (h3 : start 3 = 0) (h4 : start 4 = 0) (hs)
    (n : Fin 64) (b : Fin 2) (e : Fin 4) (i : Fin 64) (c : Fin 256) :
    Host.dynamicUpdateSlice x u start hs (ix5 n b e i c) = if n = k then u (ix5 0 b e i c) else x (ix5 n b e i c) := by
  rw [WordCmp.dynamicUpdateSlice_eq_update x u start hs ![k.val, 0, 0, 0, 0] (slices256 k) (fun a => by
    match a with
    | ⟨0, _⟩ => exact h0
    | ⟨1, _⟩ => exact h1
    | ⟨2, _⟩ => exact h2
    | ⟨3, _⟩ => exact h3
    | ⟨4, _⟩ => exact h4)]
  pointwise
  by_cases hn : n = k
  · subst hn
    rw [if_pos rfl, dif_pos ⟨le_rfl, by omega⟩]
    exact congrArg u (by congr 1; exact Fin.ext (by simp))
  · rw [if_neg hn, dif_neg (fun h => hn (Fin.ext (by omega)))]

/-- The running sums of a trip's gates. -/
theorem b_at (V : Valuation τ sig (Elt Ideal)) (k : Fin 64) (hk : V (Proc.devRef .tc main_v60_5) = fun _ => Scf.iv 0#32 1#32 k.val)
    (b : Fin 2) (e : Fin 4) (i : Fin 64) (c : Fin 128) :
    res_main_while0b_v97 V (ix4 b e i c) = cum (fun j c => V (Proc.devRef .tc main_v60_3) (ix5 k b e j c)) i c := by
  unfold res_main_while0b_v97
  rw [hk]
  refine (cumsum_at _ _ (fun i => by pointwise) _ _ b e i c).trans (Finset.sum_congr rfl fun j _ => ?_)
  rw [chunk128_at _ _ k (iv_int k.val k.isLt) rfl rfl rfl rfl _ _ b e j c]

/-- The running sums' last row. -/
theorem last_at (V : Valuation τ sig (Elt Ideal)) (k : Fin 64) (hk : V (Proc.devRef .tc main_v60_5) = fun _ => Scf.iv 0#32 1#32 k.val)
    (b : Fin 2) (e : Fin 4) (c : Fin 128) :
    res_main_while0b_v117 V (ix4 b e 0 c) = cum (fun j c => V (Proc.devRef .tc main_v60_3) (ix5 k b e j c)) 63 c := by
  unfold res_main_while0b_v117
  rw [← b_at V k hk b e 63 c]
  generalize res_main_while0b_v97 V = X
  pointwise

/-- What a trip works on: chunk `k` of every stacked operand, over the state before it. -/
structure At (A : Args) (k : ℕ) (V : Valuation τ sig (Elt Ideal)) : Prop where
  hq : ∀ (n : Fin 64) (b : Fin 2) (e : Fin 4) (i : Fin 64) (c : Fin 128), V (Proc.devRef .tc main_v60_0) (ix5 n b e i c) = A.qc b e n i c
  hk : ∀ (n : Fin 64) (b : Fin 2) (e : Fin 4) (i : Fin 64) (c : Fin 128), V (Proc.devRef .tc main_v60_1) (ix5 n b e i c) = A.kc b e n i c
  hv : ∀ (n : Fin 64) (b : Fin 2) (e : Fin 4) (i : Fin 64) (c : Fin 256), V (Proc.devRef .tc main_v60_2) (ix5 n b e i c) = A.vc b e n i c
  hg : ∀ (n : Fin 64) (b : Fin 2) (e : Fin 4) (i : Fin 64) (c : Fin 128), V (Proc.devRef .tc main_v60_3) (ix5 n b e i c) = A.gc b e n i c
  hm : ∀ i j : Fin 64, V (Proc.devRef .tc main_v60_4) (ix3 i j 0) = if j ≤ i then 1#1 else 0#1
  hc : V (Proc.devRef .tc main_v60_5) = fun _ => Scf.iv 0#32 1#32 k
  hS : ∀ (b : Fin 2) (e : Fin 4) (c : Fin 128) (v : Fin 256), V (Proc.devRef .tc main_v60_6) (ix4 b e c v) = A.st b e k c v
  hO : ∀ (n : Fin 64) (b : Fin 2) (e : Fin 4) (i : Fin 64) (v : Fin 256), n.val < k → V (Proc.devRef .tc main_v60_7) (ix5 n b e i v) = A.out b e n i v

variable {A : Args} {V : Valuation τ sig (Elt Ideal)}

/-- The state after a trip. -/
theorem st_step (k : Fin 64) (h : At A k.val V) (b : Fin 2) (e : Fin 4) (c : Fin 128) (v : Fin 256) :
    step_main_v60_6 V (ix4 b e c v) = A.st b e (k.val + 1) c v := by
  have hk := k_at V k h.hc b e
  have hv := v_at V k h.hc b e
  have hb := b_at V k h.hc b e
  have hl := last_at V k h.hc b e
  have hS := h.hS b e
  simp only [h.hk, h.hv, h.hg] at hk hv hb hl
  unfold step_main_v60_6
  generalize res_main_while0b_v94 V = K at hk ⊢
  generalize res_main_while0b_v95 V = W at hv ⊢
  generalize res_main_while0b_v97 V = B at hb ⊢
  generalize res_main_while0b_v117 V = L at hl ⊢
  generalize V (Proc.devRef .tc main_v60_6) = S at hS ⊢
  rw [id]
  pointwise
  simp only [hk, hv, hb, hl, hS]
  rfl

/-- A trip's output. -/
theorem out_step (k : Fin 64) (h : At A k.val V) (n : Fin 64) (b : Fin 2) (e : Fin 4) (i : Fin 64) (v : Fin 256) :
    step_main_v60_7 V (ix5 n b e i v) = if n = k then A.out b e k i v else V (Proc.devRef .tc main_v60_7) (ix5 n b e i v) := by
  have hq := q_at V k h.hc b e
  have hk := k_at V k h.hc b e
  have hv := v_at V k h.hc b e
  have hb := b_at V k h.hc b e
  have hS := h.hS b e
  have hm := h.hm
  simp only [h.hq, h.hk, h.hv, h.hg] at hq hk hv hb
  unfold step_main_v60_7
  rw [id]
  rw [h.hc]
  refine (upd_at _ _ _ k (iv_int k.val k.isLt) rfl rfl rfl rfl _ n b e i v).trans ?_
  generalize res_main_while0b_v93 V = Q at hq ⊢
  generalize res_main_while0b_v94 V = K at hk ⊢
  generalize res_main_while0b_v95 V = W at hv ⊢
  generalize res_main_while0b_v97 V = B at hb ⊢
  generalize V (Proc.devRef .tc main_v60_6) = S at hS ⊢
  generalize V (Proc.devRef .tc main_v60_4) = M at hm ⊢
  refine if_congr Iff.rfl ?_ rfl
  pointwise
  simp only [hq, hk, hv, hb, hS, hm]
  refine congrArg₂ (· + ·) rfl (Finset.sum_congr rfl fun j _ => congrArg₂ (· * ·) (Finset.sum_congr rfl fun c _ =>
    congrArg₂ (· * ·) rfl (congrArg Ideal.exp ?_)) rfl)
  by_cases hj : j ≤ i
  · rw [if_pos hj, if_pos hj]; rfl
  · rw [if_neg hj, if_neg hj]
    show Ideal.ofBits .f32 0xFF800000#32 = ⊥
    simp [Ideal.ofBits, Ideal.ieee]

/-- One trip of the loop. -/
theorem at_step (k : Fin 64) (h : At A k.val V) : At A (k.val + 1) (STEP V) where
  hq n b e i c := by rw [STEP_main_v60_0]; exact h.hq n b e i c
  hk n b e i c := by rw [STEP_main_v60_1]; exact h.hk n b e i c
  hv n b e i c := by rw [STEP_main_v60_2]; exact h.hv n b e i c
  hg n b e i c := by rw [STEP_main_v60_3]; exact h.hg n b e i c
  hm i j := by rw [STEP_main_v60_4]; exact h.hm i j
  hc := by
    rw [STEP_main_v60_5, Scf.iv_succ]
    unfold step_main_v60_5
    rw [h.hc]
    rfl
  hS b e c v := by rw [STEP_main_v60_6]; exact st_step k h b e c v
  hO n b e i v hn := by
    rw [STEP_main_v60_7, out_step k h]
    split
    · next e' => rw [e']
    · next e' => exact h.hO n b e i v (lt_of_le_of_ne (Nat.lt_succ_iff.mp hn) fun q => e' (Fin.ext q))

/-- All trips of the loop up to the `k`-th. -/
theorem at_iter (h : At A 0 V) : ∀ k ≤ 64, At A k (STEP^[k] V)
  | 0, _ => h
  | k + 1, hk => by
    rw [Function.iterate_succ_apply']
    exact at_step ⟨k, hk⟩ (at_iter h k (le_of_lt hk))

/-- The stacked outputs after the loop, where its entry is the recurrence's start. -/
theorem loop_out (m : (ℓ : Loc nD τ sig) → Buf (Elt Ideal) ℓ) (c : Dev nD) (h : At A 0 (atK m 0 c))
    (n : Fin 64) (b : Fin 2) (e : Fin 4) (i : Fin 64) (v : Fin 256) :
    atK m 64 c (Proc.devRef .tc main_v60_7) (ix5 n b e i v) = A.out b e n i v := by
  rw [atK_agree m c 64 main_v60_7 (by decide)]
  exact (at_iter h 64 le_rfl).hO n b e i v n.isLt

end Cert.ReferenceIdeal.Ref

end
-- ==== Proof.RefPost.lean ====
module

public import proofs.«01_k».proof.Proof.RefStep
public import proofs.«01_k».proof.Proof.Gen.ReferenceIdeal.Run
public import Idealize.ShloMosaic.Lib.StableHlo.ReadAt

@[expose] public section

set_option maxRecDepth 8192

noncomputable section

namespace Cert.ReferenceIdeal.Ref

open Cert.ReferenceIdeal Cert.ReferenceIdeal.Gen Cert.ReferenceIdeal.Value Cert.Gla
open Idealize.ShloMosaic Idealize.ShloMosaic.TcCoe Idealize.ShloMosaic.StableHlo Idealize.SL.Sem
open scoped BigOperators

variable (V : Valuation τ sig (Elt Ideal))

/-- The contents after the operations that follow the loop. -/
abbrev post : Valuation τ sig (Elt Ideal) := after hostOps0_7 (after hostOps0_6 (after hostOps0_5 V))

/-- A row's sequence, chunk and place in the chunk. -/
abbrev rb (r : Fin 8192) : Fin 2 := ⟨r.val / 4096, by omega⟩
@[inherit_doc rb] abbrev rt (r : Fin 8192) : Fin 4096 := ⟨r.val % 4096, by omega⟩
@[inherit_doc rb] abbrev rn (r : Fin 8192) : Fin 64 := ⟨r.val % 4096 / 64, by omega⟩
@[inherit_doc rb] abbrev ri (r : Fin 8192) : Fin 64 := ⟨r.val % 64, by omega⟩
/-- A column's head and place in the head. -/
abbrev ce (k : Fin 1024) : Fin 4 := ⟨k.val / 256, by omega⟩
@[inherit_doc ce] abbrev cv (k : Fin 1024) : Fin 256 := ⟨k.val % 256, by omega⟩

/-- The residual sum's result. -/
theorem v83_at (r : Fin 8192) (c : Fin 2048) :
    post V (Proc.devRef .tc main_v83) (ix2 r c) = V (Proc.devRef .tc main_v1) (ix3 (rb r) (rt r) c) := by
  after_reads_at

/-- The projection's passed-on columns. -/
theorem v84_at (r : Fin 8192) (c : Fin 2048) :
    post V (Proc.devRef .tc main_v84) (ix2 r c) = V (Proc.devRef .tc main_v20) (ix3 (rb r) (rt r) c) := by
  after_reads_at

/-- The first layer's slice of each of the two weights. -/
theorem v89_at (i j : Fin 2048) :
    post V (Proc.devRef .tc main_v89) (ix2 i j) = V (Proc.devRef .tc main_arg7) (ix3 0 i j) := by
  after_reads_at
@[inherit_doc v89_at] theorem v92_at (i j : Fin 2048) :
    post V (Proc.devRef .tc main_v92) (ix2 i j) = V (Proc.devRef .tc main_arg8) (ix3 0 i j) := by
  after_reads_at

/-- The attention's outputs, one row per token. -/
theorem v63_at (b : Fin 2) (t : Fin 4096) (e : Fin 4) (v : Fin 256) :
    after hostOps0_5 V (Proc.devRef .tc main_v63) (ix4 b t e v)
      = V (Proc.devRef .tc main_v60_7) (ix5 ⟨t.val / 64, by omega⟩ b e ⟨t.val % 64, by omega⟩ v) := by
  after_reads_at

/-- The head norm of the attention's outputs. -/
theorem v80_at (b : Fin 2) (t : Fin 4096) (k : Fin 1024) (O : Fin 256 → EReal)
    (hO : ∀ v, V (Proc.devRef .tc main_v60_7) (ix5 ⟨t.val / 64, by omega⟩ b (ce k) ⟨t.val % 64, by omega⟩ v) = O v) :
    after hostOps0_5 V (Proc.devRef .tc main_v80) (ix3 b t k)
      = O (cv k) * Ideal.rsqrt (Ideal.div (∑ j, O j * O j) c256 + eps) * V (Proc.devRef .tc main_arg6) (ix2 0 k) := by
  after_reads_at
  pointwise
  simp only [hO]
  rw [show (⟨k.val / 256 * 256 + k.val % 256, by omega⟩ : Fin 1024) = k from Fin.ext (Nat.div_add_mod' _ _)]

/-- The output gate. -/
theorem v81_at (b : Fin 2) (t : Fin 4096) (k : Fin 1024) (g : EReal) (hg : V (Proc.devRef .tc main_v24) (ix3 b t k) = g) :
    after hostOps0_6 V (Proc.devRef .tc main_v81) (ix3 b t k) = g * Ideal.logistic g := by
  after_reads_at
  rw [hg]
  rfl

/-- The branch's result. -/
theorem v86_at (r : Fin 8192) (k : Fin 1024) :
    post V (Proc.devRef .tc main_v86) (ix2 r k)
      = HMul.hMul (α := EReal) (β := EReal) (γ := EReal) (after hostOps0_6 (after hostOps0_5 V) (Proc.devRef .tc main_v80) (ix3 (rb r) (rt r) k))
        (after hostOps0_6 (after hostOps0_5 V) (Proc.devRef .tc main_v81) (ix3 (rb r) (rt r) k)) := by
  after_reads_at

end Cert.ReferenceIdeal.Ref

end
-- ==== Proof.RefFin.lean ====
module

public import proofs.«01_k».proof.Proof.RefPost
public import proofs.«01_k».proof.Proof.Gen.ReferenceIdeal.Run
public import Idealize.ShloMosaic.Lib.StableHlo.ReadAt

@[expose] public section

set_option maxRecDepth 8192

noncomputable section

namespace Cert.ReferenceIdeal.Ref

open Cert.ReferenceIdeal Cert.ReferenceIdeal.Gen Cert.ReferenceIdeal.Value Cert.Gla
open Idealize.ShloMosaic Idealize.ShloMosaic.TcCoe Idealize.ShloMosaic.StableHlo Idealize.SL.Sem
open scoped BigOperators

variable (m : (ℓ : Loc nD τ sig) → Buf (Elt Ideal) ℓ) (c : Dev nD)

/-! ## What the loop and the operations around it leave alone -/

/-- What one trip, its condition included, writes. -/
abbrev loopW : List (Ref sig .tc) := condOps_W ++ while0Ops0_W ++ while0Ops0_1_W ++ while0Ops0_2_W ++ while0Ops0_3_W
  ++ while0Ops0_4_W ++ while0Ops0_5_W ++ while0Ops0_6_W ++ while0Ops0_7_W ++ while0Ops0_8_W ++ while0Ops0_9_W

/-- The loop leaves alone what its trips do not write. -/
theorem loop_keep (r : Ref sig .tc) (h : r ∉ loopW) : ∀ k, atK m k c (Proc.devRef .tc r) = atK m 0 c (Proc.devRef .tc r)
  | 0 => rfl
  | k + 1 => by
    simp only [loopW, List.mem_append, not_or] at h
    obtain ⟨⟨⟨⟨⟨⟨⟨⟨⟨⟨h0, h1⟩, h2⟩, h3⟩, h4⟩, h5⟩, h6⟩, h7⟩, h8⟩, h9⟩, h10⟩ := h
    rw [show atK m (k + 1) c = afterL bodyI (after condOps (atK m k c)) from rfl]
    simp only [afterL_cons, afterL_nil]
    rw [after_of_writes_sub _ _ while0Ops0_9_writes h10, after_of_writes_sub _ _ while0Ops0_8_writes h9,
      after_of_writes_sub _ _ while0Ops0_7_writes h8, after_of_writes_sub _ _ while0Ops0_6_writes h7,
      after_of_writes_sub _ _ while0Ops0_5_writes h6, after_of_writes_sub _ _ while0Ops0_4_writes h5,
      after_of_writes_sub _ _ while0Ops0_3_writes h4, after_of_writes_sub _ _ while0Ops0_2_writes h3,
      after_of_writes_sub _ _ while0Ops0_1_writes h2, after_of_writes_sub _ _ while0Ops0_writes h1,
      after_of_writes_sub _ _ condOps_writes h0]
    refine loop_keep r ?_ k
    simp only [loopW, List.mem_append, not_or]
    exact ⟨⟨⟨⟨⟨⟨⟨⟨⟨⟨h0, h1⟩, h2⟩, h3⟩, h4⟩, h5⟩, h6⟩, h7⟩, h8⟩, h9⟩, h10⟩

/-- What the operations after the loop write. -/
abbrev post5W : List (Ref sig .tc) := [main_v61, main_v62, main_v63, main_v64, main_cst_7, main_v65, main_v66, main_cst_8, main_v67, main_v68, main_cst_9, main_v69, main_v70, main_v71, main_v72, main_v73, main_v74, main_v75, main_v76, main_v77, main_v78, main_v79, main_v80]
@[inherit_doc post5W] abbrev post6W : List (Ref sig .tc) := [main_call9_v0, main_call9_v1, main_call9_cst, main_call9_v2, main_call9_v3, main_call9_cst_0, main_call9_v4, main_call9_v5, main_v81]
@[inherit_doc post5W] abbrev post7W : List (Ref sig .tc) := [main_v82, main_v83, main_v84, main_v85, main_v86, main_v87, main_v88, main_v89, main_v90, main_v91, main_v92]
/-- All of what they write. -/
abbrev postW : List (Ref sig .tc) := post5W ++ post6W ++ post7W
theorem post5_writes : (hostOps0_5 : List (HloOp τ sig (Elt Ideal))).Forall fun op => op.writes ⊆ (post5W.map (Proc.devRef (τ := τ) .tc)).toFinset :=
  StableHlo.forall_writes_sub_of_map rfl
theorem post6_writes : (hostOps0_6 : List (HloOp τ sig (Elt Ideal))).Forall fun op => op.writes ⊆ (post6W.map (Proc.devRef (τ := τ) .tc)).toFinset :=
  StableHlo.forall_writes_sub_of_map rfl
theorem post7_writes : (hostOps0_7 : List (HloOp τ sig (Elt Ideal))).Forall fun op => op.writes ⊆ (post7W.map (Proc.devRef (τ := τ) .tc)).toFinset :=
  StableHlo.forall_writes_sub_of_map rfl

/-- The operations after the loop leave alone what they do not write. -/
theorem post_keep (V : Valuation τ sig (Elt Ideal)) (r : Ref sig .tc) (h : r ∉ postW) :
    post V (Proc.devRef .tc r) = V (Proc.devRef .tc r) := by
  simp only [postW, List.mem_append, not_or] at h
  rw [post, after_of_writes_sub _ _ post7_writes h.2, after_of_writes_sub _ _ post6_writes h.1.2, after_of_writes_sub _ _ post5_writes h.1.1]

/-- The operations that follow the first stretch leave alone what they do not write. -/
theorem pre_keep (V : Valuation τ sig (Elt Ideal)) (r : Ref sig .tc)
    (h : r ∉ hostOps0_1_W ++ hostOps0_2_W ++ hostOps0_3_W ++ hostOps0_4_W) :
    after hostOps0_4 (after hostOps0_3 (after hostOps0_2 (after hostOps0_1 V))) (Proc.devRef .tc r) = V (Proc.devRef .tc r) := by
  simp only [List.mem_append, not_or] at h
  obtain ⟨⟨⟨h1, h2⟩, h3⟩, h4⟩ := h
  rw [after_of_writes_sub _ _ hostOps0_4_writes h4, after_of_writes_sub _ _ hostOps0_3_writes h3,
    after_of_writes_sub _ _ hostOps0_2_writes h2, after_of_writes_sub _ _ hostOps0_1_writes h1]

/-- The loop's entry, stretch by stretch. -/
theorem entry_eq : atK m 0 c = after hostOps0_4 (after hostOps0_3 (after hostOps0_2 (after hostOps0_1 (after hostOps0 (launchContents m c))))) := rfl

/-- The arrays the reference is launched with. -/
abbrev argsR : Args := argsOf (launchContents m c)

theorem row_tok (b : Fin 2) (n i : Fin 64) : tok b ⟨n.val * 64 + i.val, by omega⟩ = row b n.val i := by
  apply Fin.ext; simp only [tok, row]; omega

/-- The loop starts at the recurrence's start. -/
theorem at_entry : At (argsR m c) 0 (atK m 0 c) where
  hq n b e i x := by
    rw [entry_eq, v60_0_at, after_of_writes_sub _ _ hostOps0_1_writes (by decide +kernel), v21_at, row_tok]
    simp only [Args.qc, Nat.add_assoc]
  hk n b e i x := by
    rw [entry_eq, v60_1_at, after_of_writes_sub _ _ hostOps0_1_writes (by decide +kernel), v22_at, row_tok]
    simp only [Args.kc, Nat.add_assoc]
  hv n b e i x := by
    rw [entry_eq, v60_2_at, after_of_writes_sub _ _ hostOps0_1_writes (by decide +kernel), v23_at, row_tok]
    simp only [Args.vc, Nat.add_assoc]
  hg n b e i x := by
    rw [entry_eq, v60_3_at, v34_at, v33_at, row_tok]
    rfl
  hm i j := by rw [entry_eq, v60_4_at]
  hc := atK_ctr m c 0
  hS b e x v := by rw [entry_eq, v60_6_at]; rfl
  hO n b e i v h := absurd h (Nat.not_lt_zero _)

/-- The attention's stacked outputs at the end of the loop. -/
theorem after_loop (n : Fin 64) (b : Fin 2) (e : Fin 4) (i : Fin 64) (v : Fin 256) :
    after condOps (atK m 64 c) (Proc.devRef .tc main_v60_7) (ix5 n b e i v) = (argsR m c).out b e n i v := by
  rw [after_of_writes_sub _ _ condOps_writes (by decide +kernel)]
  exact loop_out m c (at_entry m c) n b e i v

/-- What neither the stretches between the first and the loop nor the loop write. -/
theorem keep (r : Ref sig .tc) (h : r ∉ hostOps0_1_W ++ hostOps0_2_W ++ hostOps0_3_W ++ hostOps0_4_W) (h' : r ∉ loopW) :
    after condOps (atK m 64 c) (Proc.devRef .tc r) = after hostOps0 (launchContents m c) (Proc.devRef .tc r) := by
  rw [after_of_writes_sub _ _ condOps_writes (fun q => h' (by simp only [loopW, List.mem_append, q, true_or])), loop_keep m c r h' 64, entry_eq, pre_keep _ r h]

/-- The arguments keep their contents. -/
theorem arg_keep (r : Ref sig .tc) (h0 : r ∉ hostOps0_W) (h : r ∉ hostOps0_1_W ++ hostOps0_2_W ++ hostOps0_3_W ++ hostOps0_4_W) (h' : r ∉ loopW) :
    after condOps (atK m 64 c) (Proc.devRef .tc r) = launchContents m c (Proc.devRef .tc r) := by
  rw [keep m c r h h', after_of_writes_sub _ _ hostOps0_writes h0]

/-- The reference's memory at the end, as the reference computes it. -/
abbrev fin : Valuation τ sig (Elt Ideal) := finalContents condOps preI bodyI postI 64 m c

theorem fin_eq : fin m c = post (after condOps (atK m 64 c)) := rfl

/-- The arguments at the end. -/
theorem fin_arg (r : Ref sig .tc) (h0 : r ∉ hostOps0_W) (h : r ∉ hostOps0_1_W ++ hostOps0_2_W ++ hostOps0_3_W ++ hostOps0_4_W) (h' : r ∉ loopW)
    (hp : r ∉ postW) : fin m c (Proc.devRef .tc r) = m ((c : Thread nD τ).loc r) := by
  rw [fin_eq, post_keep _ r hp, arg_keep m c r h0 h h']

theorem rtok (r : Fin 8192) : tok (rb r) (rt r) = r := Fin.ext (by simp only [tok]; omega)

/-- The residual sum at the end. -/
theorem fin_v83 (r : Fin 8192) (k : Fin 2048) : fin m c (Proc.devRef .tc main_v83) (ix2 r k) = (argsR m c).h1 r k := by
  rw [fin_eq, v83_at, keep m c main_v1 (by decide +kernel) (by decide +kernel), v1_at, rtok]

/-- The projection's passed-on columns at the end. -/
theorem fin_v84 (r : Fin 8192) (k : Fin 2048) :
    fin m c (Proc.devRef .tc main_v84) (ix2 r k) = (argsR m c).proj r ⟨k.val, by omega⟩ := by
  rw [fin_eq, v84_at, keep m c main_v20 (by decide +kernel) (by decide +kernel), v20_at, rtok]

/-- The two weights' slices at the end. -/
theorem fin_v89 (i j : Fin 2048) : fin m c (Proc.devRef .tc main_v89) (ix2 i j) = m ((c : Thread nD τ).loc main_arg7) (ix3 0 i j) := by
  rw [fin_eq, v89_at, arg_keep m c main_arg7 (by decide +kernel) (by decide +kernel) (by decide +kernel)]
@[inherit_doc fin_v89] theorem fin_v92 (i j : Fin 2048) : fin m c (Proc.devRef .tc main_v92) (ix2 i j) = m ((c : Thread nD τ).loc main_arg8) (ix3 0 i j) := by
  rw [fin_eq, v92_at, arg_keep m c main_arg8 (by decide +kernel) (by decide +kernel) (by decide +kernel)]

/-- The branch's result at the end. -/
theorem fin_v86 (r : Fin 8192) (k : Fin 1024) :
    fin m c (Proc.devRef .tc main_v86) (ix2 r k) = (argsR m c).yc (rb r) (ce k) (rn r) (ri r) (cv k) := by
  have hr : row (rb r) (rn r).val (ri r) = r := Fin.ext (by simp only [row]; omega)
  have hk : (⟨(ce k).val * 256 + (cv k).val, by omega⟩ : Fin 1024) = k := Fin.ext (Nat.div_add_mod' _ _)
  rw [fin_eq, v86_at, after_of_writes_sub _ _ post6_writes (r := main_v80) (by decide +kernel)]
  rw [v80_at _ (rb r) (rt r) k ((argsR m c).out (rb r) (ce k) (rn r) (ri r)) (fun v => ?_),
    v81_at _ (rb r) (rt r) k ((argsR m c).proj r ⟨4096 + k.val, by omega⟩) ?_,
    arg_keep m c main_arg6 (by decide +kernel) (by decide +kernel) (by decide +kernel)]
  · unfold Args.yc
    rw [hr, hk]
    simp only [Nat.add_assoc, show (ce k).val * 256 + (cv k).val = k.val from Nat.div_add_mod' _ _]
    rfl
  · rw [after_of_writes_sub _ _ post5_writes (by decide +kernel), keep m c main_v24 (by decide +kernel) (by decide +kernel), v24_at, rtok]
  · rw [after_loop]
    exact congrArg (fun i => (argsR m c).out (rb r) (ce k) (rn r) i v) (Fin.ext (Nat.mod_mod_of_dvd _ (by decide)))

end Cert.ReferenceIdeal.Ref

end
-- ==== Proof.FfnRing.lean ====
module

public import proofs.«01_k».proof.Proof.Gen.FfnIdeal.Frame
public import proofs.«01_k».proof.Proof.Gen.FfnIdeal.Skeleton
public import Idealize.ShloMosaic.Lib.Ring.WriteBehind

@[expose] public section

set_option maxRecDepth 16384

noncomputable section

/-! # The ring of the feed-forward kernel

The kernel fetches the weight's tiles ahead of their use into three slots of two slabs each, with a semaphore for each
slab. These are the names of the slots, the slabs and the semaphores, what the ring holds before a grid step
(`ringAt0_0`), how it is set up and given back (`ring0_0_in`, `ring0_0_out`), and where each access of the body lies
(the `coff` and `canon` lemmas). The text follows the frame that is generated for the same kernel with its slabs and semaphores
numbered by one index instead of two. -/

namespace Cert.FfnIdeal.Run

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 800000 in
/-- The program is its one launch. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The arguments are kept by a run of the pipeline. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 1).trans (((dats 0 c).arrAt_in 1 rfl _).trans ((hA c 1).trans (V_main_arg2 m c)))⟩) h

abbrev cond0_0 (i : grid0.Coords) : Prop := k0_cond1 i = 1#1
theorem hcond0_0 : ∀ t : Fin cfg0.N, cond0_0 (grid0.coords t) ↔ t.val % 88 = 0 :=
  (by decide +kernel : ∀ t : Fin grid0.N, cond0_0 (grid0.coords t) ↔ t.val % 88 = 0)

abbrev cond0_1 (i : grid0.Coords) : Prop := k0_cond2 i = 1#1
theorem hcond0_1 : ∀ t : Fin cfg0.N, cond0_1 (grid0.coords t) ↔ t.val < 86 :=
  (by decide +kernel : ∀ t : Fin grid0.N, cond0_1 (grid0.coords t) ↔ t.val < 86)

abbrev cond0_2 (i : grid0.Coords) : Prop := (Scalar.cmpi .ne (Scalar.extui (Scalar.cmpi .eq (BitVec.ofNat 32 (i 1).val) 0#32)) 0#32) = 1#1
theorem hcond0_2 : ∀ t : Fin cfg0.N, cond0_2 (grid0.coords t) ↔ t.val % 11 = 0 :=
  (fun t => by
    have ht : t.val < 88 := Nat.lt_of_lt_of_eq t.isLt N_0
    have e0 : (grid0.coords t 0).val = t.val / 11 % 8 := Pipeline.Grid.coords_val t 0 (by decide) rfl
    have e1 : (grid0.coords t 1).val = t.val / 1 % 11 := Pipeline.Grid.coords_val t 1 (by decide) rfl
    simp only [cond0_2, e0, e1]
    word_cmp
   : ∀ t : Fin grid0.N, cond0_2 (grid0.coords t) ↔ t.val % 11 = 0)

abbrev VO0_2 : View sig .tc .vmem S1024x2048 .f32 := (Memref.whole cc0_stg2_0 : Memref sig .tc .vmem S1024x2048 .f32).view
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .f32 := win0_2.stage (cfg0.slots t 2)
abbrev hs0_2 (t : Fin cfg0.N) : (ms0_2 t).IsWhole := hstage0_2 ((cfg0.slots t 2).cast nbuf0_2)
abbrev scM0_0 : Memref sig .tc .vmem S3x2x2048x512 .f32 := Memref.whole cc0_scratch0
abbrev hbM0_0 : Memref sig .tc .hbm S2x2048x11264 .f32 := Memref.whole main_arg1
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

abbrev osem0 : Fin 6 → SemLoc sig := fun j => (![SemLoc.dma 6, SemLoc.dma 7, SemLoc.dma 8, SemLoc.dma 9, SemLoc.dma 10, SemLoc.dma 11] : Fin 6 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) := by
  rw [Pipeline.ownSems0_eq_of_list c osem0 [0, 1, 2, 3, 4, 5] (by decide) (by decide)]; rfl
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt0 c hbM0_0 (V m c main_arg1)) := by
  rw [BI.bigSep_eq_bigSepL_of_eq [main_arg1] (by decide) (by decide)]; rfl

theorem PhiD0_eq (c : Dev nD) :
    (Pipeline.ΦD osem0 spec0 H0 (V m) c : sProp 𝕄)
      = iprop(iprop((∃ d, owns (c : Thread nD τ) scM0_0 fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) ∗ iprop(hbPt0 c hbM0_0 (V m c main_arg1))) := by
  rw [Pipeline.ΦD_eq, scopedRest0_eq, ownSems00_eq, hbmPts0_eq]; simp only [scM0_0, owns_whole]; try rfl

instance : NeZero grid0.N := ⟨by rw [N_0]; decide⟩
theorem inb_win0_0 (s : Fin 3) (w : Fin 2) : ∀ a, (![s.val, w.val, 0, 0] : Fin 4 → Nat) a + S1x1x2048x512.size a ≤ S3x2x2048x512.size a := by
  have := s.isLt; have := w.isLt; intro a; fin_cases a <;> simp <;> omega
theorem inb_cell0_0 (s : Fin 3) (w : Fin 2) : ∀ a, (![s.val, w.val] : Fin 2 → Nat) a + S1x1.size a ≤ S3x2.size a := by
  have := s.isLt; have := w.isLt; intro a; fin_cases a <;> simp <;> omega
theorem inb_src0_0_0 (b : Fin 88) : ∀ a, (![0, 0, 512 * (b.val % 11)] : Fin 3 → Nat) a + S1x2048x512.size a ≤ S2x2048x11264.size a := by
  have := b.isLt; intro a; fin_cases a <;> simp <;> omega
def rwin0_0_0 (s : Fin 3) : Memref sig .tc .vmem S2048x512 .f32 :=
  (scM0_0.slice (Rect.unit (s := S3x2x2048x512) ![s.val, 0, 0, 0] S1x1x2048x512.size (inb_win0_0 s 0)) (fun _ => rfl)).squeeze S2048x512 squeezes_S1x1x2048x512_S2048x512
def srcB0_0_0 (b : Fin 88) : Memref sig .tc .hbm S2048x512 .f32 :=
  (hbM0_0.slice (Rect.unit (s := S2x2048x11264) ![0, 0, 512 * (b.val % 11)] S1x2048x512.size (inb_src0_0_0 b)) (fun _ => rfl)).squeeze S2048x512 squeezes_S1x2048x512_S2048x512
theorem inb_src0_0_1 (b : Fin 88) : ∀ a, (![0, 0, 512 * (b.val % 11) + 5632] : Fin 3 → Nat) a + S1x2048x512.size a ≤ S2x2048x11264.size a := by
  have := b.isLt; intro a; fin_cases a <;> simp <;> omega
def rwin0_0_1 (s : Fin 3) : Memref sig .tc .vmem S2048x512 .f32 :=
  (scM0_0.slice (Rect.unit (s := S3x2x2048x512) ![s.val, 1, 0, 0] S1x1x2048x512.size (inb_win0_0 s 1)) (fun _ => rfl)).squeeze S2048x512 squeezes_S1x1x2048x512_S2048x512
def srcB0_0_1 (b : Fin 88) : Memref sig .tc .hbm S2048x512 .f32 :=
  (hbM0_0.slice (Rect.unit (s := S2x2048x11264) ![0, 0, 512 * (b.val % 11) + 5632] S1x2048x512.size (inb_src0_0_1 b)) (fun _ => rfl)).squeeze S2048x512 squeezes_S1x2048x512_S2048x512
def cellA0_0 (s : Fin 3) (w : Fin 2) : DmaSems sig S_ := (cc0_scratch1.slice (Rect.unit (s := S3x2) ![s.val, w.val] S1x1.size (inb_cell0_0 s w))).squeeze S_ squeezes_S1x1_S_
abbrev cellR0_0 (s : Fin 3) (w : Fin 2) : SemLoc sig := SemLoc.dma (cellA0_0 s w).sem
theorem cellR0_0_0_0 : cellR0_0 0 0 = SemLoc.dma 6 := by decide
theorem cellR0_0_0_1 : cellR0_0 0 1 = SemLoc.dma 7 := by decide
theorem cellR0_0_1_0 : cellR0_0 1 0 = SemLoc.dma 8 := by decide
theorem cellR0_0_1_1 : cellR0_0 1 1 = SemLoc.dma 9 := by decide
theorem cellR0_0_2_0 : cellR0_0 2 0 = SemLoc.dma 10 := by decide
theorem cellR0_0_2_1 : cellR0_0 2 1 = SemLoc.dma 11 := by decide

section Ring0_0
variable (c : Dev nD) (W0 : HbBuf0 (F := F) c hbM0_0)
abbrev qs0_0_0 (s : Fin 3) : PosShare TreeShare := if s.val = 0 then fullShare.left else if s.val = 1 then fullShare.right.left else fullShare.right.right.left
abbrev qs0_0_1 (s : Fin 3) : PosShare TreeShare := if s.val = 0 then fullShare.right.right.right.left else if s.val = 1 then fullShare.right.right.right.right.left else fullShare.right.right.right.right.right
abbrev winP0_0_0 (s : Fin 3) (e : HbBuf0 (F := F) c scM0_0) : sProp 𝕄 := (rwin0_0_0 s).view.loc (c : Thread nD τ) ↦[(rwin0_0_0 s).view.set]{fullShare} e
abbrev winP0_0_1 (s : Fin 3) (e : HbBuf0 (F := F) c scM0_0) : sProp 𝕄 := (rwin0_0_1 s).view.loc (c : Thread nD τ) ↦[(rwin0_0_1 s).view.set]{fullShare} e
abbrev slotP0_0 (s : Fin 3) (f : Fin 2 → HbBuf0 (F := F) c scM0_0) : sProp 𝕄 := iprop(winP0_0_0 c s (f 0) ∗ winP0_0_1 c s (f 1))
abbrev cellP0_0 (s : Fin 3) : sProp 𝕄 := iprop(semVal ((c : Thread nD τ), cellR0_0 s 0) 0 ∗ semVal ((c : Thread nD τ), cellR0_0 s 1) 0)
abbrev srcP0_0_0 (s : Fin 3) (b : Fin 88) : sProp 𝕄 := (srcB0_0_0 b).view.loc (c : Thread nD τ) ↦[(srcB0_0_0 b).view.set]{qs0_0_0 s} W0
def restP0_0_0 (s : Fin 3) (b : Fin 88) : sProp 𝕄 := ((c : Thread nD τ).loc main_arg1) ↦[Finset.univ \ (srcB0_0_0 b).view.set]{qs0_0_0 s} W0
abbrev wholeP0_0_0 (s : Fin 3) : sProp 𝕄 := ((c : Thread nD τ).loc main_arg1) ↦[Finset.univ]{qs0_0_0 s} W0
abbrev landed0_0_0 (s : Fin 3) (b : Fin 88) (f : HbBuf0 (F := F) c scM0_0) : HbBuf0 (F := F) c scM0_0 :=
  (rwin0_0_0 s).view.writes (Elt F) f [⟨Rect.whole S2048x512, ReadAs.same.apply ((srcB0_0_0 b).view.read (Elt F) W0)⟩]
abbrev flightP0_0_0 (s : Fin 3) (b : Fin 88) (f : HbBuf0 (F := F) c scM0_0) : sProp 𝕄 :=
  Transfers.Flight countersEmb (c : Thread nD τ) (cellR0_0 s 0) default ((rwin0_0_0 s).view.amount (cellR0_0 s 0))
    iprop(winP0_0_0 c s (landed0_0_0 c W0 s b f) ∗ srcP0_0_0 c W0 s b)
abbrev srcP0_0_1 (s : Fin 3) (b : Fin 88) : sProp 𝕄 := (srcB0_0_1 b).view.loc (c : Thread nD τ) ↦[(srcB0_0_1 b).view.set]{qs0_0_1 s} W0
def restP0_0_1 (s : Fin 3) (b : Fin 88) : sProp 𝕄 := ((c : Thread nD τ).loc main_arg1) ↦[Finset.univ \ (srcB0_0_1 b).view.set]{qs0_0_1 s} W0
abbrev wholeP0_0_1 (s : Fin 3) : sProp 𝕄 := ((c : Thread nD τ).loc main_arg1) ↦[Finset.univ]{qs0_0_1 s} W0
abbrev landed0_0_1 (s : Fin 3) (b : Fin 88) (f : HbBuf0 (F := F) c scM0_0) : HbBuf0 (F := F) c scM0_0 :=
  (rwin0_0_1 s).view.writes (Elt F) f [⟨Rect.whole S2048x512, ReadAs.same.apply ((srcB0_0_1 b).view.read (Elt F) W0)⟩]
abbrev flightP0_0_1 (s : Fin 3) (b : Fin 88) (f : HbBuf0 (F := F) c scM0_0) : sProp 𝕄 :=
  Transfers.Flight countersEmb (c : Thread nD τ) (cellR0_0 s 1) default ((rwin0_0_1 s).view.amount (cellR0_0 s 1))
    iprop(winP0_0_1 c s (landed0_0_1 c W0 s b f) ∗ srcP0_0_1 c W0 s b)
abbrev landedJ0_0 (s : Fin 3) (b : Fin 88) : Fin 2 → HbBuf0 (F := F) c scM0_0 := ![landed0_0_0 c W0 s b (rwin0_0_0 s).view.junk, landed0_0_1 c W0 s b (rwin0_0_1 s).view.junk]
abbrev flightP0_0 (s : Fin 3) (b : Fin 88) (f : Fin 2 → HbBuf0 (F := F) c scM0_0) : sProp 𝕄 := iprop(flightP0_0_0 c W0 s b (f 0) ∗ flightP0_0_1 c W0 s b (f 1))

abbrev slotW0_0 (s : Fin 3) (f : Fin 2 → HbBuf0 (F := F) c scM0_0) : sProp 𝕄 := iprop(slotP0_0 c s f ∗ wholeP0_0_0 c W0 s ∗ wholeP0_0_1 c W0 s)
abbrev flightW0_0 (s : Fin 3) (b : Fin 88) (f : Fin 2 → HbBuf0 (F := F) c scM0_0) : sProp 𝕄 := iprop(flightP0_0 c W0 s b f ∗ restP0_0_0 c W0 s b ∗ restP0_0_1 c W0 s b)
abbrev noHome0_0 (b : Fin 88) : sProp 𝕄 := iprop(emp)
/-- What the ring holds before grid step `k`. -/
def ringAt0_0 (k : ℕ) : sProp 𝕄 :=
  if k = 0 then Ring.At₀ (cellP0_0 c) (slotW0_0 c W0) noHome0_0
  else Ring.At 2 (cellP0_0 c) (slotW0_0 c W0) noHome0_0 (flightW0_0 c W0) k
omit [FloatOps F] in
theorem cellP0_0_0 : cellP0_0 (F := F) c 0 = iprop(semVal ((c : Thread nD τ), SemLoc.dma 6) 0 ∗ semVal ((c : Thread nD τ), SemLoc.dma 7) 0) := by simp only [cellP0_0, cellR0_0_0_0, cellR0_0_0_1]
omit [FloatOps F] in
theorem cellP0_0_1 : cellP0_0 (F := F) c 1 = iprop(semVal ((c : Thread nD τ), SemLoc.dma 8) 0 ∗ semVal ((c : Thread nD τ), SemLoc.dma 9) 0) := by simp only [cellP0_0, cellR0_0_1_0, cellR0_0_1_1]
omit [FloatOps F] in
theorem cellP0_0_2 : cellP0_0 (F := F) c 2 = iprop(semVal ((c : Thread nD τ), SemLoc.dma 10) 0 ∗ semVal ((c : Thread nD τ), SemLoc.dma 11) 0) := by simp only [cellP0_0, cellR0_0_2_0, cellR0_0_2_1]
end Ring0_0

abbrev winOff0_0 (i : Fin 3 × Fin 2) : Fin 4 → Nat := ![i.1.val, i.2.val, 0, 0]
theorem inb_win0_0' (i : Fin 3 × Fin 2) : ∀ a, winOff0_0 i a + S1x1x2048x512.size a ≤ S3x2x2048x512.size a := inb_win0_0 i.1 i.2
abbrev winSet0_0 (i : Fin 3 × Fin 2) : Finset S3x2x2048x512.Idx := (Rect.unit (s := S3x2x2048x512) (winOff0_0 i) S1x1x2048x512.size (inb_win0_0' i)).set
theorem winSet0_0_eq_0 (s : Fin 3) : (rwin0_0_0 s).view.set = winSet0_0 (s, 0) := by
  simp only [rwin0_0_0, Memref.view_squeeze, View.set_reshape]; exact View.set_slice_whole _ _
theorem winSet0_0_eq_1 (s : Fin 3) : (rwin0_0_1 s).view.set = winSet0_0 (s, 1) := by
  simp only [rwin0_0_1, Memref.view_squeeze, View.set_reshape]; exact View.set_slice_whole _ _
def winIx0_0 (i : Fin 3 × Fin 2) : Fin 4 → ℕ := ![i.1.val, i.2.val, 0, 0]
def winUn0_0 (v : Fin 4 → ℕ) : Fin 3 × Fin 2 := (Fin.ofNat 3 (v 0), Fin.ofNat 2 (v 1))
theorem winUn0_0_left : ∀ i : Fin 3 × Fin 2, winUn0_0 (winIx0_0 i) = i := by decide +kernel
theorem wins0_0_disjoint (i i' : Fin 3 × Fin 2) (h : i ≠ i') : Disjoint (winSet0_0 i) (winSet0_0 i') :=
  Ring.boxes_disjoint (s := S3x2x2048x512) S1x1x2048x512.size winOff0_0 inb_win0_0' winIx0_0
    (fun i a => by fin_cases a <;> simp [winOff0_0, winIx0_0] <;> omega) winUn0_0 winUn0_0_left i i' h
abbrev spareSet0_0 : Finset S3x2x2048x512.Idx := Finset.univ \ Finset.univ.biUnion winSet0_0
abbrev spareP0_0 (c : Dev nD) : sProp 𝕄 := iprop(∃ f : Buf (Elt F) ((c : Thread nD τ).loc cc0_scratch0), ((c : Thread nD τ).loc cc0_scratch0) ↦[spareSet0_0]{fullShare} f)

section InOut0_0
variable (c : Dev nD) (W0 : HbBuf0 (F := F) c hbM0_0)
theorem winP0_0_eq (i : Fin 3 × Fin 2) (e : HbBuf0 (F := F) c scM0_0) : (![winP0_0_0 (F := F) c i.1 e, winP0_0_1 (F := F) c i.1 e] : Fin 2 → sProp 𝕄) i.2 = (((c : Thread nD τ).loc cc0_scratch0) ↦[winSet0_0 i]{fullShare} e : sProp 𝕄) := by
  obtain ⟨s, w⟩ := i
  fin_cases w
  · show winP0_0_0 (F := F) c s e = _; unfold winP0_0_0; rw [winSet0_0_eq_0]; rfl
  · show winP0_0_1 (F := F) c s e = _; unfold winP0_0_1; rw [winSet0_0_eq_1]; rfl
theorem slots0_0_eq : (bigSep Finset.univ (fun i : Fin 3 × Fin 2 => iprop(∃ e, (fun (i : Fin 3 × Fin 2) (e : HbBuf0 (F := F) c scM0_0) => (![winP0_0_0 c i.1 e, winP0_0_1 c i.1 e] : Fin 2 → sProp 𝕄) i.2) i e)) : sProp 𝕄) = iprop((∃ f, slotP0_0 (F := F) c 0 f) ∗ (∃ f, slotP0_0 (F := F) c 1 f) ∗ ∃ f, slotP0_0 (F := F) c 2 f) := by
  rw [BI.bigSep_univ_prod, Ring.bigSep_fin3]
  have e : ∀ j : Fin 3, (bigSep Finset.univ (fun w : Fin 2 => iprop(∃ e, (fun (i : Fin 3 × Fin 2) (e : HbBuf0 (F := F) c scM0_0) => (![winP0_0_0 c i.1 e, winP0_0_1 c i.1 e] : Fin 2 → sProp 𝕄) i.2) (j, w) e)) : sProp 𝕄) = iprop(∃ f, slotP0_0 (F := F) c j f) := fun j => by
    rw [← Ring.bigSep_exists_pi_eq]; unfold slotP0_0
    refine congrArg _ (funext fun f => ?_)
    rw [BI.bigSep_eq_bigSepL_of_eq [0, 1] (by decide) (by decide)]; rfl
  rw [e 0, e 1, e 2]

theorem slotP0_0_tuple (s : Fin 3) (a0 a1 : HbBuf0 (F := F) c scM0_0) : slotP0_0 (F := F) c s ![a0, a1] = iprop(winP0_0_0 c s a0 ∗ winP0_0_1 c s a1) := rfl
theorem slotP0_0_landed (s : Fin 3) (b : Fin 88) : iprop(winP0_0_0 c s (landed0_0_0 c W0 s b (rwin0_0_0 s).view.junk) ∗ winP0_0_1 c s (landed0_0_1 c W0 s b (rwin0_0_1 s).view.junk)) ⊢ slotP0_0 (F := F) c s (landedJ0_0 c W0 s b) :=
  Entails.of_eq (slotP0_0_tuple c s (landed0_0_0 c W0 s b (rwin0_0_0 s).view.junk) (landed0_0_1 c W0 s b (rwin0_0_1 s).view.junk)).symm
theorem src0_0_0_split (s : Fin 3) (b : Fin 88) : wholeP0_0_0 (F := F) c W0 s ⊣⊢ iprop(srcP0_0_0 c W0 s b ∗ restP0_0_0 c W0 s b) := by
  unfold restP0_0_0; exact pointsTo_split_subset (Finset.subset_univ _)
theorem src0_0_1_split (s : Fin 3) (b : Fin 88) : wholeP0_0_1 (F := F) c W0 s ⊣⊢ iprop(srcP0_0_1 c W0 s b ∗ restP0_0_1 c W0 s b) := by
  unfold restP0_0_1; exact pointsTo_split_subset (Finset.subset_univ _)
theorem whole0_0_r0_split : (hbPt0 c hbM0_0 W0 : sProp 𝕄) ⊣⊢ iprop(wholeP0_0_0 c W0 0 ∗ wholeP0_0_0 c W0 1 ∗ wholeP0_0_0 c W0 2 ∗ wholeP0_0_1 c W0 0 ∗ wholeP0_0_1 c W0 1 ∗ wholeP0_0_1 c W0 2) := by
  refine ⟨?_, ?_⟩
  · iintro H
    ihave G0 := (pointsTo_share (PosShare.mem_left_op_right fullShare)).1 $$ H
    icases G0 with ⟨H0, R1⟩
    ihave G1 := (pointsTo_share (PosShare.mem_left_op_right fullShare.right)).1 $$ R1
    icases G1 with ⟨H1, R2⟩
    ihave G2 := (pointsTo_share (PosShare.mem_left_op_right fullShare.right.right)).1 $$ R2
    icases G2 with ⟨H2, R3⟩
    ihave G3 := (pointsTo_share (PosShare.mem_left_op_right fullShare.right.right.right)).1 $$ R3
    icases G3 with ⟨H3, R4⟩
    ihave G4 := (pointsTo_share (PosShare.mem_left_op_right fullShare.right.right.right.right)).1 $$ R4
    icases G4 with ⟨H4, H5⟩
    isplitl [H0]; · iexact H0
    isplitl [H1]; · iexact H1
    isplitl [H2]; · iexact H2
    isplitl [H3]; · iexact H3
    isplitl [H4]; · iexact H4
    iexact H5
  · iintro ⟨H0, H1, H2, H3, H4, H5⟩
    iapply (pointsTo_share (PosShare.mem_left_op_right fullShare)).2
    isplitl [H0]; · iexact H0
    iapply (pointsTo_share (PosShare.mem_left_op_right fullShare.right)).2
    isplitl [H1]; · iexact H1
    iapply (pointsTo_share (PosShare.mem_left_op_right fullShare.right.right)).2
    isplitl [H2]; · iexact H2
    iapply (pointsTo_share (PosShare.mem_left_op_right fullShare.right.right.right)).2
    isplitl [H3]; · iexact H3
    iapply (pointsTo_share (PosShare.mem_left_op_right fullShare.right.right.right.right)).2
    isplitl [H4]; · iexact H4
    iexact H5

set_option maxHeartbeats 1000000 in
theorem slots0_0_in : iprop(∃ d, owns (c : Thread nD τ) scM0_0 fullShare d) ⊢ (iprop(((∃ f, slotP0_0 (F := F) c 0 f) ∗ (∃ f, slotP0_0 (F := F) c 1 f) ∗ ∃ f, slotP0_0 (F := F) c 2 f) ∗ spareP0_0 c) : sProp 𝕄) := by
  simp only [scM0_0, owns_whole]
  rw [← slots0_0_eq c]
  exact Ring.pieces_split_spare (U := Pipeline.UD sig nD τ) (ℓ := (c : Thread nD τ).loc cc0_scratch0) (q := fullShare) winSet0_0 wins0_0_disjoint
    (fun (i : Fin 3 × Fin 2) (e : HbBuf0 (F := F) c scM0_0) => (![winP0_0_0 c i.1 e, winP0_0_1 c i.1 e] : Fin 2 → sProp 𝕄) i.2) (winP0_0_eq c)
set_option maxHeartbeats 1000000 in
theorem slots0_0_out : (iprop(((∃ f, slotP0_0 (F := F) c 0 f) ∗ (∃ f, slotP0_0 (F := F) c 1 f) ∗ ∃ f, slotP0_0 (F := F) c 2 f) ∗ spareP0_0 c) : sProp 𝕄) ⊢ iprop(∃ d, owns (c : Thread nD τ) scM0_0 fullShare d) := by
  simp only [scM0_0, owns_whole]
  rw [← slots0_0_eq c]
  exact Ring.pieces_join_spare (U := Pipeline.UD sig nD τ) (ℓ := (c : Thread nD τ).loc cc0_scratch0) (q := fullShare) winSet0_0 wins0_0_disjoint
    (fun (i : Fin 3 × Fin 2) (e : HbBuf0 (F := F) c scM0_0) => (![winP0_0_0 c i.1 e, winP0_0_1 c i.1 e] : Fin 2 → sProp 𝕄) i.2) (winP0_0_eq c)
end InOut0_0

/-- The ring at the start. -/
theorem ring0_0_in (c : Dev nD) :
    iprop((∃ d, owns (c : Thread nD τ) scM0_0 fullShare d) ∗ (semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) ∗ hbPt0 c hbM0_0 (V m c main_arg1))
      ⊢ iprop(ringAt0_0 c (V m c main_arg1) 0 ∗ spareP0_0 c) := by
  unfold ringAt0_0; rw [if_pos rfl]; unfold Ring.At₀
  rw [Ring.bigSep_fin3]
  simp only [Ring.free, cellP0_0_0, cellP0_0_1, cellP0_0_2]
  iintro ⟨HS, Hc, HR0⟩
  icases Hc with ⟨H0_0, H0_1, H1_0, H1_1, H2_0, H2_1⟩
  ihave HS' := (slots0_0_in (F := F) c) $$ HS
  icases HS' with ⟨⟨⟨%d0, HS0⟩, ⟨%d1, HS1⟩, ⟨%d2, HS2⟩⟩, HSp⟩
  ihave HR0' := (whole0_0_r0_split (F := F) c (V m c main_arg1)).1 $$ HR0
  icases HR0' with ⟨HW0_0, HW0_1, HW0_2, HW1_0, HW1_1, HW1_2⟩
  isplitl [H0_0 H0_1 HS0 HW0_0 HW1_0 H1_0 H1_1 HS1 HW0_1 HW1_1 H2_0 H2_1 HS2 HW0_2 HW1_2]
  · iapply Ring.with_homes₀
    isplitl [H0_0 H0_1 HS0 HW0_0 HW1_0]
    · isplitl [H0_0 H0_1]
      · isplitl [H0_0]; · iexact H0_0
        iexact H0_1
      iexists d0; isplitl [HS0]; · iexact HS0
      isplitl [HW0_0]; · iexact HW0_0
      iexact HW1_0
    isplitl [H1_0 H1_1 HS1 HW0_1 HW1_1]
    · isplitl [H1_0 H1_1]
      · isplitl [H1_0]; · iexact H1_0
        iexact H1_1
      iexists d1; isplitl [HS1]; · iexact HS1
      isplitl [HW0_1]; · iexact HW0_1
      iexact HW1_1
    · isplitl [H2_0 H2_1]
      · isplitl [H2_0]; · iexact H2_0
        iexact H2_1
      iexists d2; isplitl [HS2]; · iexact HS2
      isplitl [HW0_2]; · iexact HW0_2
      iexact HW1_2
  iexact HSp
/-- The ring at the end. -/
theorem ring0_0_out (c : Dev nD) :
    iprop(ringAt0_0 c (V m c main_arg1) 88 ∗ spareP0_0 c)
      ⊢ iprop((∃ d, owns (c : Thread nD τ) scM0_0 fullShare d) ∗ (semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) ∗ hbPt0 c hbM0_0 (V m c main_arg1)) := by
  unfold ringAt0_0; rw [if_neg (by decide)]
  iintro ⟨H, HSp⟩
  ihave H' := (Ring.free3_of_At_last _ _ _ _) $$ H
  simp only [Ring.free, cellP0_0_0, cellP0_0_1, cellP0_0_2]
  icases H' with ⟨-, ⟨⟨H0_0, H0_1⟩, ⟨%f0, HS0, HW0_0, HW1_0⟩⟩, ⟨⟨H1_0, H1_1⟩, ⟨%f1, HS1, HW0_1, HW1_1⟩⟩, ⟨⟨H2_0, H2_1⟩, ⟨%f2, HS2, HW0_2, HW1_2⟩⟩⟩
  isplitl [HS0 HS1 HS2 HSp]
  · iapply (slots0_0_out (F := F) c); isplitl [HS0 HS1 HS2]
    · isplitl [HS0]; · iexists f0; iexact HS0
      isplitl [HS1]; · iexists f1; iexact HS1
      iexists f2; iexact HS2
    iexact HSp
  isplitl [H0_0 H0_1 H1_0 H1_1 H2_0 H2_1]
  · isplitl [H0_0]; · iexact H0_0
    isplitl [H0_1]; · iexact H0_1
    isplitl [H1_0]; · iexact H1_0
    isplitl [H1_1]; · iexact H1_1
    isplitl [H2_0]; · iexact H2_0
    iexact H2_1
  · iapply (whole0_0_r0_split (F := F) c (V m c main_arg1)).2; isplitl [HW0_0]; · iexact HW0_0
    isplitl [HW0_1]; · iexact HW0_1
    isplitl [HW0_2]; · iexact HW0_2
    isplitl [HW1_0]; · iexact HW1_0
    isplitl [HW1_1]; · iexact HW1_1
    iexact HW1_2

section Canon0_0
omit [FloatOps F]
theorem rstep0_0_A : ∀ t : Fin grid0.N, cond0_0 (grid0.coords t) → cond0_1 (grid0.coords t) → cond0_2 (grid0.coords t) → t.val = 0 ∧ (t.val + 1) = 1 := by decide +kernel
theorem rstep0_0_B : ∀ t : Fin grid0.N, ¬cond0_0 (grid0.coords t) → cond0_1 (grid0.coords t) → ¬cond0_2 (grid0.coords t) → 1 ≤ t.val ∧ t.val + 2 < 88 ∧ (t.val + 1) = t.val + 1 := by decide +kernel
theorem rstep0_0_C : ∀ t : Fin grid0.N, ¬cond0_0 (grid0.coords t) → cond0_1 (grid0.coords t) → cond0_2 (grid0.coords t) → 1 ≤ t.val ∧ t.val + 2 < 88 ∧ (t.val + 1) = t.val + 1 := by decide +kernel
theorem rstep0_0_D : ∀ t : Fin grid0.N, ¬cond0_0 (grid0.coords t) → ¬cond0_1 (grid0.coords t) → ¬cond0_2 (grid0.coords t) → 1 ≤ t.val ∧ 88 ≤ t.val + 2 ∧ t.val < 88 ∧ (t.val + 1) = t.val + 1 := by decide +kernel
set_option synthInstance.maxSize 4096 in
theorem coff0_0_1 : ∀ t : Fin grid0.N, cond0_0 (grid0.coords t) → cond0_1 (grid0.coords t) → cond0_2 (grid0.coords t) → (![0, 0, 0, 0] : Fin 4 → Nat) = ![(Ring.sl 3 t.val).val, 0, 0, 0] := by decide +kernel
@[sl_canon] theorem canon0_0_1 (t : Fin grid0.N) (h0 : cond0_0 (grid0.coords t)) (h1 : cond0_1 (grid0.coords t)) (h2 : cond0_2 (grid0.coords t)) :
    (scM0_0.slice (Rect.unit (s := S3x2x2048x512) ![0, 0, 0, 0] S1x1x2048x512.size inb_S3x2x2048x512_S1x1x2048x512_0_0_0_0) (fun _ => rfl)).squeeze S2048x512 squeezes_S1x1x2048x512_S2048x512 = rwin0_0_0 (Ring.sl 3 t.val) :=
  congrArg (fun M : Memref sig .tc .vmem S1x1x2048x512 .f32 => M.squeeze S2048x512 squeezes_S1x1x2048x512_S2048x512) (Memref.slice_unit_congr _ (coff0_0_1 t h0 h1 h2) _ _ (fun _ => rfl) (fun _ => rfl))
@[sl_canon] theorem canon0_0_1' (t : Fin grid0.N) (h0 : cond0_0 (grid0.coords t)) (h1 : cond0_1 (grid0.coords t)) (h2 : cond0_2 (grid0.coords t)) :
    (scM0_0.slice (Rect.unit (s := S3x2x2048x512) ![0, 0, 0, 0] ![1, 1, 2048, 512] inb_S3x2x2048x512_S1x1x2048x512_0_0_0_0) (fun _ => rfl)).squeeze S2048x512 squeezes_S1x1x2048x512_S2048x512 = rwin0_0_0 (Ring.sl 3 t.val) :=
  canon0_0_1 t h0 h1 h2
set_option synthInstance.maxSize 4096 in
theorem coff0_0_2 : ∀ t : Fin grid0.N, cond0_0 (grid0.coords t) → cond0_1 (grid0.coords t) → cond0_2 (grid0.coords t) → (![0, 0] : Fin 2 → Nat) = ![(Ring.sl 3 t.val).val, 0] := by decide +kernel
@[sl_canon] theorem canon0_0_2 (t : Fin grid0.N) (h0 : cond0_0 (grid0.coords t)) (h1 : cond0_1 (grid0.coords t)) (h2 : cond0_2 (grid0.coords t)) :
    (cc0_scratch1.slice (Rect.unit (s := S3x2) ![0, 0] S1x1.size inb_S3x2_S1x1_0_0)).squeeze S_ squeezes_S1x1_S_ = cellA0_0 (Ring.sl 3 t.val) 0 :=
  congrArg (fun A : DmaSems sig S1x1 => A.squeeze S_ squeezes_S1x1_S_) (SemArray.slice_unit_congr _ (coff0_0_2 t h0 h1 h2) _ _)
@[sl_canon] theorem canon0_0_2' (t : Fin grid0.N) (h0 : cond0_0 (grid0.coords t)) (h1 : cond0_1 (grid0.coords t)) (h2 : cond0_2 (grid0.coords t)) :
    (cc0_scratch1.slice (Rect.unit (s := S3x2) ![0, 0] ![1, 1] inb_S3x2_S1x1_0_0)).squeeze S_ squeezes_S1x1_S_ = cellA0_0 (Ring.sl 3 t.val) 0 :=
  canon0_0_2 t h0 h1 h2
set_option synthInstance.maxSize 4096 in
theorem coff0_0_3 : ∀ t : Fin grid0.N, cond0_0 (grid0.coords t) → cond0_1 (grid0.coords t) → cond0_2 (grid0.coords t) → k0_off1 0#32 0#32 = ![0, 0, 512 * ((Ring.bk 88 t.val).val % 11)] := by decide +kernel
@[sl_canon] theorem canon0_0_3 (t : Fin grid0.N) (h0 : cond0_0 (grid0.coords t)) (h1 : cond0_1 (grid0.coords t)) (h2 : cond0_2 (grid0.coords t)) :
    (hbM0_0.slice (Rect.unit (s := S2x2048x11264) (k0_off1 0#32 0#32) S1x2048x512.size (k0_off1_inb (grid0.coords t) h0 0 0)) (fun _ => rfl)).squeeze S2048x512 squeezes_S1x2048x512_S2048x512 = srcB0_0_0 (Ring.bk 88 t.val) :=
  congrArg (fun M : Memref sig .tc .hbm S1x2048x512 .f32 => M.squeeze S2048x512 squeezes_S1x2048x512_S2048x512) (Memref.slice_unit_congr _ (coff0_0_3 t h0 h1 h2) _ _ (fun _ => rfl) (fun _ => rfl))
@[sl_canon] theorem canon0_0_3' (t : Fin grid0.N) (h0 : cond0_0 (grid0.coords t)) (h1 : cond0_1 (grid0.coords t)) (h2 : cond0_2 (grid0.coords t)) :
    (hbM0_0.slice (Rect.unit (s := S2x2048x11264) (k0_off1 0#32 0#32) ![1, 2048, 512] (k0_off1_inb (grid0.coords t) h0 0 0)) (fun _ => rfl)).squeeze S2048x512 squeezes_S1x2048x512_S2048x512 = srcB0_0_0 (Ring.bk 88 t.val) :=
  canon0_0_3 t h0 h1 h2
set_option synthInstance.maxSize 4096 in
theorem coff0_0_4 : ∀ t : Fin grid0.N, cond0_0 (grid0.coords t) → cond0_1 (grid0.coords t) → cond0_2 (grid0.coords t) → (![0, 1, 0, 0] : Fin 4 → Nat) = ![(Ring.sl 3 t.val).val, 1, 0, 0] := by decide +kernel
@[sl_canon] theorem canon0_0_4 (t : Fin grid0.N) (h0 : cond0_0 (grid0.coords t)) (h1 : cond0_1 (grid0.coords t)) (h2 : cond0_2 (grid0.coords t)) :
    (scM0_0.slice (Rect.unit (s := S3x2x2048x512) ![0, 1, 0, 0] S1x1x2048x512.size inb_S3x2x2048x512_S1x1x2048x512_0_1_0_0) (fun _ => rfl)).squeeze S2048x512 squeezes_S1x1x2048x512_S2048x512 = rwin0_0_1 (Ring.sl 3 t.val) :=
  congrArg (fun M : Memref sig .tc .vmem S1x1x2048x512 .f32 => M.squeeze S2048x512 squeezes_S1x1x2048x512_S2048x512) (Memref.slice_unit_congr _ (coff0_0_4 t h0 h1 h2) _ _ (fun _ => rfl) (fun _ => rfl))
@[sl_canon] theorem canon0_0_4' (t : Fin grid0.N) (h0 : cond0_0 (grid0.coords t)) (h1 : cond0_1 (grid0.coords t)) (h2 : cond0_2 (grid0.coords t)) :
    (scM0_0.slice (Rect.unit (s := S3x2x2048x512) ![0, 1, 0, 0] ![1, 1, 2048, 512] inb_S3x2x2048x512_S1x1x2048x512_0_1_0_0) (fun _ => rfl)).squeeze S2048x512 squeezes_S1x1x2048x512_S2048x512 = rwin0_0_1 (Ring.sl 3 t.val) :=
  canon0_0_4 t h0 h1 h2
set_option synthInstance.maxSize 4096 in
theorem coff0_0_5 : ∀ t : Fin grid0.N, cond0_0 (grid0.coords t) → cond0_1 (grid0.coords t) → cond0_2 (grid0.coords t) → (![0, 1] : Fin 2 → Nat) = ![(Ring.sl 3 t.val).val, 1] := by decide +kernel
@[sl_canon] theorem canon0_0_5 (t : Fin grid0.N) (h0 : cond0_0 (grid0.coords t)) (h1 : cond0_1 (grid0.coords t)) (h2 : cond0_2 (grid0.coords t)) :
    (cc0_scratch1.slice (Rect.unit (s := S3x2) ![0, 1] S1x1.size inb_S3x2_S1x1_0_1)).squeeze S_ squeezes_S1x1_S_ = cellA0_0 (Ring.sl 3 t.val) 1 :=
  congrArg (fun A : DmaSems sig S1x1 => A.squeeze S_ squeezes_S1x1_S_) (SemArray.slice_unit_congr _ (coff0_0_5 t h0 h1 h2) _ _)
@[sl_canon] theorem canon0_0_5' (t : Fin grid0.N) (h0 : cond0_0 (grid0.coords t)) (h1 : cond0_1 (grid0.coords t)) (h2 : cond0_2 (grid0.coords t)) :
    (cc0_scratch1.slice (Rect.unit (s := S3x2) ![0, 1] ![1, 1] inb_S3x2_S1x1_0_1)).squeeze S_ squeezes_S1x1_S_ = cellA0_0 (Ring.sl 3 t.val) 1 :=
  canon0_0_5 t h0 h1 h2
set_option synthInstance.maxSize 4096 in
theorem coff0_0_6 : ∀ t : Fin grid0.N, cond0_0 (grid0.coords t) → cond0_1 (grid0.coords t) → cond0_2 (grid0.coords t) → k0_off1 0#32 11#32 = ![0, 0, 512 * ((Ring.bk 88 t.val).val % 11) + 5632] := by decide +kernel
@[sl_canon] theorem canon0_0_6 (t : Fin grid0.N) (h0 : cond0_0 (grid0.coords t)) (h1 : cond0_1 (grid0.coords t)) (h2 : cond0_2 (grid0.coords t)) :
    (hbM0_0.slice (Rect.unit (s := S2x2048x11264) (k0_off1 0#32 11#32) S1x2048x512.size (k0_off1_inb (grid0.coords t) h0 0 1)) (fun _ => rfl)).squeeze S2048x512 squeezes_S1x2048x512_S2048x512 = srcB0_0_1 (Ring.bk 88 t.val) :=
  congrArg (fun M : Memref sig .tc .hbm S1x2048x512 .f32 => M.squeeze S2048x512 squeezes_S1x2048x512_S2048x512) (Memref.slice_unit_congr _ (coff0_0_6 t h0 h1 h2) _ _ (fun _ => rfl) (fun _ => rfl))
@[sl_canon] theorem canon0_0_6' (t : Fin grid0.N) (h0 : cond0_0 (grid0.coords t)) (h1 : cond0_1 (grid0.coords t)) (h2 : cond0_2 (grid0.coords t)) :
    (hbM0_0.slice (Rect.unit (s := S2x2048x11264) (k0_off1 0#32 11#32) ![1, 2048, 512] (k0_off1_inb (grid0.coords t) h0 0 1)) (fun _ => rfl)).squeeze S2048x512 squeezes_S1x2048x512_S2048x512 = srcB0_0_1 (Ring.bk 88 t.val) :=
  canon0_0_6 t h0 h1 h2
set_option synthInstance.maxSize 4096 in
theorem coff0_0_7 : ∀ t : Fin grid0.N, cond0_0 (grid0.coords t) → cond0_1 (grid0.coords t) → cond0_2 (grid0.coords t) → (![1, 0, 0, 0] : Fin 4 → Nat) = ![(Ring.sl 3 (t.val + 1)).val, 0, 0, 0] := by decide +kernel
@[sl_canon] theorem canon0_0_7 (t : Fin grid0.N) (h0 : cond0_0 (grid0.coords t)) (h1 : cond0_1 (grid0.coords t)) (h2 : cond0_2 (grid0.coords t)) :
    (scM0_0.slice (Rect.unit (s := S3x2x2048x512) ![1, 0, 0, 0] S1x1x2048x512.size inb_S3x2x2048x512_S1x1x2048x512_1_0_0_0) (fun _ => rfl)).squeeze S2048x512 squeezes_S1x1x2048x512_S2048x512 = rwin0_0_0 (Ring.sl 3 (t.val + 1)) :=
  congrArg (fun M : Memref sig .tc .vmem S1x1x2048x512 .f32 => M.squeeze S2048x512 squeezes_S1x1x2048x512_S2048x512) (Memref.slice_unit_congr _ (coff0_0_7 t h0 h1 h2) _ _ (fun _ => rfl) (fun _ => rfl))
@[sl_canon] theorem canon0_0_7' (t : Fin grid0.N) (h0 : cond0_0 (grid0.coords t)) (h1 : cond0_1 (grid0.coords t)) (h2 : cond0_2 (grid0.coords t)) :
    (scM0_0.slice (Rect.unit (s := S3x2x2048x512) ![1, 0, 0, 0] ![1, 1, 2048, 512] inb_S3x2x2048x512_S1x1x2048x512_1_0_0_0) (fun _ => rfl)).squeeze S2048x512 squeezes_S1x1x2048x512_S2048x512 = rwin0_0_0 (Ring.sl 3 (t.val + 1)) :=
  canon0_0_7 t h0 h1 h2
set_option synthInstance.maxSize 4096 in
theorem coff0_0_8 : ∀ t : Fin grid0.N, cond0_0 (grid0.coords t) → cond0_1 (grid0.coords t) → cond0_2 (grid0.coords t) → (![1, 0] : Fin 2 → Nat) = ![(Ring.sl 3 (t.val + 1)).val, 0] := by decide +kernel
@[sl_canon] theorem canon0_0_8 (t : Fin grid0.N) (h0 : cond0_0 (grid0.coords t)) (h1 : cond0_1 (grid0.coords t)) (h2 : cond0_2 (grid0.coords t)) :
    (cc0_scratch1.slice (Rect.unit (s := S3x2) ![1, 0] S1x1.size inb_S3x2_S1x1_1_0)).squeeze S_ squeezes_S1x1_S_ = cellA0_0 (Ring.sl 3 (t.val + 1)) 0 :=
  congrArg (fun A : DmaSems sig S1x1 => A.squeeze S_ squeezes_S1x1_S_) (SemArray.slice_unit_congr _ (coff0_0_8 t h0 h1 h2) _ _)
@[sl_canon] theorem canon0_0_8' (t : Fin grid0.N) (h0 : cond0_0 (grid0.coords t)) (h1 : cond0_1 (grid0.coords t)) (h2 : cond0_2 (grid0.coords t)) :
    (cc0_scratch1.slice (Rect.unit (s := S3x2) ![1, 0] ![1, 1] inb_S3x2_S1x1_1_0)).squeeze S_ squeezes_S1x1_S_ = cellA0_0 (Ring.sl 3 (t.val + 1)) 0 :=
  canon0_0_8 t h0 h1 h2
set_option synthInstance.maxSize 4096 in
theorem coff0_0_9 : ∀ t : Fin grid0.N, cond0_0 (grid0.coords t) → cond0_1 (grid0.coords t) → cond0_2 (grid0.coords t) → k0_off1 1#32 0#32 = ![0, 0, 512 * ((Ring.bk 88 (t.val + 1)).val % 11)] := by decide +kernel
@[sl_canon] theorem canon0_0_9 (t : Fin grid0.N) (h0 : cond0_0 (grid0.coords t)) (h1 : cond0_1 (grid0.coords t)) (h2 : cond0_2 (grid0.coords t)) :
    (hbM0_0.slice (Rect.unit (s := S2x2048x11264) (k0_off1 1#32 0#32) S1x2048x512.size (k0_off1_inb (grid0.coords t) h0 1 0)) (fun _ => rfl)).squeeze S2048x512 squeezes_S1x2048x512_S2048x512 = srcB0_0_0 (Ring.bk 88 (t.val + 1)) :=
  congrArg (fun M : Memref sig .tc .hbm S1x2048x512 .f32 => M.squeeze S2048x512 squeezes_S1x2048x512_S2048x512) (Memref.slice_unit_congr _ (coff0_0_9 t h0 h1 h2) _ _ (fun _ => rfl) (fun _ => rfl))
@[sl_canon] theorem canon0_0_9' (t : Fin grid0.N) (h0 : cond0_0 (grid0.coords t)) (h1 : cond0_1 (grid0.coords t)) (h2 : cond0_2 (grid0.coords t)) :
    (hbM0_0.slice (Rect.unit (s := S2x2048x11264) (k0_off1 1#32 0#32) ![1, 2048, 512] (k0_off1_inb (grid0.coords t) h0 1 0)) (fun _ => rfl)).squeeze S2048x512 squeezes_S1x2048x512_S2048x512 = srcB0_0_0 (Ring.bk 88 (t.val + 1)) :=
  canon0_0_9 t h0 h1 h2
set_option synthInstance.maxSize 4096 in
theorem coff0_0_10 : ∀ t : Fin grid0.N, cond0_0 (grid0.coords t) → cond0_1 (grid0.coords t) → cond0_2 (grid0.coords t) → (![1, 1, 0, 0] : Fin 4 → Nat) = ![(Ring.sl 3 (t.val + 1)).val, 1, 0, 0] := by decide +kernel
@[sl_canon] theorem canon0_0_10 (t : Fin grid0.N) (h0 : cond0_0 (grid0.coords t)) (h1 : cond0_1 (grid0.coords t)) (h2 : cond0_2 (grid0.coords t)) :
    (scM0_0.slice (Rect.unit (s := S3x2x2048x512) ![1, 1, 0, 0] S1x1x2048x512.size inb_S3x2x2048x512_S1x1x2048x512_1_1_0_0) (fun _ => rfl)).squeeze S2048x512 squeezes_S1x1x2048x512_S2048x512 = rwin0_0_1 (Ring.sl 3 (t.val + 1)) :=
  congrArg (fun M : Memref sig .tc .vmem S1x1x2048x512 .f32 => M.squeeze S2048x512 squeezes_S1x1x2048x512_S2048x512) (Memref.slice_unit_congr _ (coff0_0_10 t h0 h1 h2) _ _ (fun _ => rfl) (fun _ => rfl))
@[sl_canon] theorem canon0_0_10' (t : Fin grid0.N) (h0 : cond0_0 (grid0.coords t)) (h1 : cond0_1 (grid0.coords t)) (h2 : cond0_2 (grid0.coords t)) :
    (scM0_0.slice (Rect.unit (s := S3x2x2048x512) ![1, 1, 0, 0] ![1, 1, 2048, 512] inb_S3x2x2048x512_S1x1x2048x512_1_1_0_0) (fun _ => rfl)).squeeze S2048x512 squeezes_S1x1x2048x512_S2048x512 = rwin0_0_1 (Ring.sl 3 (t.val + 1)) :=
  canon0_0_10 t h0 h1 h2
set_option synthInstance.maxSize 4096 in
theorem coff0_0_11 : ∀ t : Fin grid0.N, cond0_0 (grid0.coords t) → cond0_1 (grid0.coords t) → cond0_2 (grid0.coords t) → (![1, 1] : Fin 2 → Nat) = ![(Ring.sl 3 (t.val + 1)).val, 1] := by decide +kernel
@[sl_canon] theorem canon0_0_11 (t : Fin grid0.N) (h0 : cond0_0 (grid0.coords t)) (h1 : cond0_1 (grid0.coords t)) (h2 : cond0_2 (grid0.coords t)) :
    (cc0_scratch1.slice (Rect.unit (s := S3x2) ![1, 1] S1x1.size inb_S3x2_S1x1_1_1)).squeeze S_ squeezes_S1x1_S_ = cellA0_0 (Ring.sl 3 (t.val + 1)) 1 :=
  congrArg (fun A : DmaSems sig S1x1 => A.squeeze S_ squeezes_S1x1_S_) (SemArray.slice_unit_congr _ (coff0_0_11 t h0 h1 h2) _ _)
@[sl_canon] theorem canon0_0_11' (t : Fin grid0.N) (h0 : cond0_0 (grid0.coords t)) (h1 : cond0_1 (grid0.coords t)) (h2 : cond0_2 (grid0.coords t)) :
    (cc0_scratch1.slice (Rect.unit (s := S3x2) ![1, 1] ![1, 1] inb_S3x2_S1x1_1_1)).squeeze S_ squeezes_S1x1_S_ = cellA0_0 (Ring.sl 3 (t.val + 1)) 1 :=
  canon0_0_11 t h0 h1 h2
set_option synthInstance.maxSize 4096 in
theorem coff0_0_12 : ∀ t : Fin grid0.N, cond0_0 (grid0.coords t) → cond0_1 (grid0.coords t) → cond0_2 (grid0.coords t) → k0_off1 1#32 11#32 = ![0, 0, 512 * ((Ring.bk 88 (t.val + 1)).val % 11) + 5632] := by decide +kernel
@[sl_canon] theorem canon0_0_12 (t : Fin grid0.N) (h0 : cond0_0 (grid0.coords t)) (h1 : cond0_1 (grid0.coords t)) (h2 : cond0_2 (grid0.coords t)) :
    (hbM0_0.slice (Rect.unit (s := S2x2048x11264) (k0_off1 1#32 11#32) S1x2048x512.size (k0_off1_inb (grid0.coords t) h0 1 1)) (fun _ => rfl)).squeeze S2048x512 squeezes_S1x2048x512_S2048x512 = srcB0_0_1 (Ring.bk 88 (t.val + 1)) :=
  congrArg (fun M : Memref sig .tc .hbm S1x2048x512 .f32 => M.squeeze S2048x512 squeezes_S1x2048x512_S2048x512) (Memref.slice_unit_congr _ (coff0_0_12 t h0 h1 h2) _ _ (fun _ => rfl) (fun _ => rfl))
@[sl_canon] theorem canon0_0_12' (t : Fin grid0.N) (h0 : cond0_0 (grid0.coords t)) (h1 : cond0_1 (grid0.coords t)) (h2 : cond0_2 (grid0.coords t)) :
    (hbM0_0.slice (Rect.unit (s := S2x2048x11264) (k0_off1 1#32 11#32) ![1, 2048, 512] (k0_off1_inb (grid0.coords t) h0 1 1)) (fun _ => rfl)).squeeze S2048x512 squeezes_S1x2048x512_S2048x512 = srcB0_0_1 (Ring.bk 88 (t.val + 1)) :=
  canon0_0_12 t h0 h1 h2
set_option synthInstance.maxSize 4096 in
theorem coff0_0_13 : ∀ t : Fin grid0.N, k0_off3 (grid0.coords t) = ![(Ring.sl 3 (t.val + 2)).val, 0, 0, 0] := by decide +kernel
@[sl_canon] theorem canon0_0_13 (t : Fin grid0.N) (h1 : cond0_1 (grid0.coords t)) :
    (scM0_0.slice (Rect.unit (s := S3x2x2048x512) (k0_off3 (grid0.coords t)) S1x1x2048x512.size (k0_off3_inb (grid0.coords t) h1)) (fun _ => rfl)).squeeze S2048x512 squeezes_S1x1x2048x512_S2048x512 = rwin0_0_0 (Ring.sl 3 (t.val + 2)) :=
  congrArg (fun M : Memref sig .tc .vmem S1x1x2048x512 .f32 => M.squeeze S2048x512 squeezes_S1x1x2048x512_S2048x512) (Memref.slice_unit_congr _ (coff0_0_13 t ) _ _ (fun _ => rfl) (fun _ => rfl))
@[sl_canon] theorem canon0_0_13' (t : Fin grid0.N) (h1 : cond0_1 (grid0.coords t)) :
    (scM0_0.slice (Rect.unit (s := S3x2x2048x512) (k0_off3 (grid0.coords t)) ![1, 1, 2048, 512] (k0_off3_inb (grid0.coords t) h1)) (fun _ => rfl)).squeeze S2048x512 squeezes_S1x1x2048x512_S2048x512 = rwin0_0_0 (Ring.sl 3 (t.val + 2)) :=
  canon0_0_13 t h1
set_option synthInstance.maxSize 4096 in
theorem coff0_0_14 : ∀ t : Fin grid0.N, k0_off2 (grid0.coords t) = ![(Ring.sl 3 (t.val + 2)).val, 0] := by decide +kernel
@[sl_canon] theorem canon0_0_14 (t : Fin grid0.N) (h1 : cond0_1 (grid0.coords t)) :
    (cc0_scratch1.slice (Rect.unit (s := S3x2) (k0_off2 (grid0.coords t)) S1x1.size (k0_off2_inb (grid0.coords t) h1))).squeeze S_ squeezes_S1x1_S_ = cellA0_0 (Ring.sl 3 (t.val + 2)) 0 :=
  congrArg (fun A : DmaSems sig S1x1 => A.squeeze S_ squeezes_S1x1_S_) (SemArray.slice_unit_congr _ (coff0_0_14 t ) _ _)
@[sl_canon] theorem canon0_0_14' (t : Fin grid0.N) (h1 : cond0_1 (grid0.coords t)) :
    (cc0_scratch1.slice (Rect.unit (s := S3x2) (k0_off2 (grid0.coords t)) ![1, 1] (k0_off2_inb (grid0.coords t) h1))).squeeze S_ squeezes_S1x1_S_ = cellA0_0 (Ring.sl 3 (t.val + 2)) 0 :=
  canon0_0_14 t h1
set_option synthInstance.maxSize 4096 in
theorem coff0_0_15 : ∀ t : Fin grid0.N, cond0_0 (grid0.coords t) → cond0_1 (grid0.coords t) → cond0_2 (grid0.coords t) → k0_off4 (grid0.coords t) 0#32 = ![0, 0, 512 * ((Ring.bk 88 (t.val + 2)).val % 11)] := by decide +kernel
@[sl_canon] theorem canon0_0_15 (t : Fin grid0.N) (h0 : cond0_0 (grid0.coords t)) (h1 : cond0_1 (grid0.coords t)) (h2 : cond0_2 (grid0.coords t)) :
    (hbM0_0.slice (Rect.unit (s := S2x2048x11264) (k0_off4 (grid0.coords t) 0#32) S1x2048x512.size (k0_off4_inb (grid0.coords t) h1 0)) (fun _ => rfl)).squeeze S2048x512 squeezes_S1x2048x512_S2048x512 = srcB0_0_0 (Ring.bk 88 (t.val + 2)) :=
  congrArg (fun M : Memref sig .tc .hbm S1x2048x512 .f32 => M.squeeze S2048x512 squeezes_S1x2048x512_S2048x512) (Memref.slice_unit_congr _ (coff0_0_15 t h0 h1 h2) _ _ (fun _ => rfl) (fun _ => rfl))
@[sl_canon] theorem canon0_0_15' (t : Fin grid0.N) (h0 : cond0_0 (grid0.coords t)) (h1 : cond0_1 (grid0.coords t)) (h2 : cond0_2 (grid0.coords t)) :
    (hbM0_0.slice (Rect.unit (s := S2x2048x11264) (k0_off4 (grid0.coords t) 0#32) ![1, 2048, 512] (k0_off4_inb (grid0.coords t) h1 0)) (fun _ => rfl)).squeeze S2048x512 squeezes_S1x2048x512_S2048x512 = srcB0_0_0 (Ring.bk 88 (t.val + 2)) :=
  canon0_0_15 t h0 h1 h2
set_option synthInstance.maxSize 4096 in
theorem coff0_0_16 : ∀ t : Fin grid0.N, k0_off6 (grid0.coords t) = ![(Ring.sl 3 (t.val + 2)).val, 1, 0, 0] := by decide +kernel
@[sl_canon] theorem canon0_0_16 (t : Fin grid0.N) (h1 : cond0_1 (grid0.coords t)) :
    (scM0_0.slice (Rect.unit (s := S3x2x2048x512) (k0_off6 (grid0.coords t)) S1x1x2048x512.size (k0_off6_inb (grid0.coords t) h1)) (fun _ => rfl)).squeeze S2048x512 squeezes_S1x1x2048x512_S2048x512 = rwin0_0_1 (Ring.sl 3 (t.val + 2)) :=
  congrArg (fun M : Memref sig .tc .vmem S1x1x2048x512 .f32 => M.squeeze S2048x512 squeezes_S1x1x2048x512_S2048x512) (Memref.slice_unit_congr _ (coff0_0_16 t ) _ _ (fun _ => rfl) (fun _ => rfl))
@[sl_canon] theorem canon0_0_16' (t : Fin grid0.N) (h1 : cond0_1 (grid0.coords t)) :
    (scM0_0.slice (Rect.unit (s := S3x2x2048x512) (k0_off6 (grid0.coords t)) ![1, 1, 2048, 512] (k0_off6_inb (grid0.coords t) h1)) (fun _ => rfl)).squeeze S2048x512 squeezes_S1x1x2048x512_S2048x512 = rwin0_0_1 (Ring.sl 3 (t.val + 2)) :=
  canon0_0_16 t h1
set_option synthInstance.maxSize 4096 in
theorem coff0_0_17 : ∀ t : Fin grid0.N, k0_off5 (grid0.coords t) = ![(Ring.sl 3 (t.val + 2)).val, 1] := by decide +kernel
@[sl_canon] theorem canon0_0_17 (t : Fin grid0.N) (h1 : cond0_1 (grid0.coords t)) :
    (cc0_scratch1.slice (Rect.unit (s := S3x2) (k0_off5 (grid0.coords t)) S1x1.size (k0_off5_inb (grid0.coords t) h1))).squeeze S_ squeezes_S1x1_S_ = cellA0_0 (Ring.sl 3 (t.val + 2)) 1 :=
  congrArg (fun A : DmaSems sig S1x1 => A.squeeze S_ squeezes_S1x1_S_) (SemArray.slice_unit_congr _ (coff0_0_17 t ) _ _)
@[sl_canon] theorem canon0_0_17' (t : Fin grid0.N) (h1 : cond0_1 (grid0.coords t)) :
    (cc0_scratch1.slice (Rect.unit (s := S3x2) (k0_off5 (grid0.coords t)) ![1, 1] (k0_off5_inb (grid0.coords t) h1))).squeeze S_ squeezes_S1x1_S_ = cellA0_0 (Ring.sl 3 (t.val + 2)) 1 :=
  canon0_0_17 t h1
set_option synthInstance.maxSize 4096 in
theorem coff0_0_18 : ∀ t : Fin grid0.N, cond0_0 (grid0.coords t) → cond0_1 (grid0.coords t) → cond0_2 (grid0.coords t) → k0_off4 (grid0.coords t) 11#32 = ![0, 0, 512 * ((Ring.bk 88 (t.val + 2)).val % 11) + 5632] := by decide +kernel
@[sl_canon] theorem canon0_0_18 (t : Fin grid0.N) (h0 : cond0_0 (grid0.coords t)) (h1 : cond0_1 (grid0.coords t)) (h2 : cond0_2 (grid0.coords t)) :
    (hbM0_0.slice (Rect.unit (s := S2x2048x11264) (k0_off4 (grid0.coords t) 11#32) S1x2048x512.size (k0_off4_inb (grid0.coords t) h1 1)) (fun _ => rfl)).squeeze S2048x512 squeezes_S1x2048x512_S2048x512 = srcB0_0_1 (Ring.bk 88 (t.val + 2)) :=
  congrArg (fun M : Memref sig .tc .hbm S1x2048x512 .f32 => M.squeeze S2048x512 squeezes_S1x2048x512_S2048x512) (Memref.slice_unit_congr _ (coff0_0_18 t h0 h1 h2) _ _ (fun _ => rfl) (fun _ => rfl))
@[sl_canon] theorem canon0_0_18' (t : Fin grid0.N) (h0 : cond0_0 (grid0.coords t)) (h1 : cond0_1 (grid0.coords t)) (h2 : cond0_2 (grid0.coords t)) :
    (hbM0_0.slice (Rect.unit (s := S2x2048x11264) (k0_off4 (grid0.coords t) 11#32) ![1, 2048, 512] (k0_off4_inb (grid0.coords t) h1 1)) (fun _ => rfl)).squeeze S2048x512 squeezes_S1x2048x512_S2048x512 = srcB0_0_1 (Ring.bk 88 (t.val + 2)) :=
  canon0_0_18 t h0 h1 h2
set_option synthInstance.maxSize 4096 in
theorem coff0_0_19 : ∀ t : Fin grid0.N, k0_off8 (grid0.coords t) = ![(Ring.sl 3 t.val).val, 0, 0, 0] := by decide +kernel
@[sl_canon] theorem canon0_0_19 (t : Fin grid0.N) :
    (scM0_0.slice (Rect.unit (s := S3x2x2048x512) (k0_off8 (grid0.coords t)) S1x1x2048x512.size (k0_off8_inb (grid0.coords t))) (fun _ => rfl)).squeeze S2048x512 squeezes_S1x1x2048x512_S2048x512 = rwin0_0_0 (Ring.sl 3 t.val) :=
  congrArg (fun M : Memref sig .tc .vmem S1x1x2048x512 .f32 => M.squeeze S2048x512 squeezes_S1x1x2048x512_S2048x512) (Memref.slice_unit_congr _ (coff0_0_19 t ) _ _ (fun _ => rfl) (fun _ => rfl))
@[sl_canon] theorem canon0_0_19' (t : Fin grid0.N) :
    (scM0_0.slice (Rect.unit (s := S3x2x2048x512) (k0_off8 (grid0.coords t)) ![1, 1, 2048, 512] (k0_off8_inb (grid0.coords t))) (fun _ => rfl)).squeeze S2048x512 squeezes_S1x1x2048x512_S2048x512 = rwin0_0_0 (Ring.sl 3 t.val) :=
  canon0_0_19 t
set_option synthInstance.maxSize 4096 in
theorem coff0_0_20 : ∀ t : Fin grid0.N, k0_off7 (grid0.coords t) = ![(Ring.sl 3 t.val).val, 0] := by decide +kernel
@[sl_canon] theorem canon0_0_20 (t : Fin grid0.N) :
    (cc0_scratch1.slice (Rect.unit (s := S3x2) (k0_off7 (grid0.coords t)) S1x1.size (k0_off7_inb (grid0.coords t)))).squeeze S_ squeezes_S1x1_S_ = cellA0_0 (Ring.sl 3 t.val) 0 :=
  congrArg (fun A : DmaSems sig S1x1 => A.squeeze S_ squeezes_S1x1_S_) (SemArray.slice_unit_congr _ (coff0_0_20 t ) _ _)
@[sl_canon] theorem canon0_0_20' (t : Fin grid0.N) :
    (cc0_scratch1.slice (Rect.unit (s := S3x2) (k0_off7 (grid0.coords t)) ![1, 1] (k0_off7_inb (grid0.coords t)))).squeeze S_ squeezes_S1x1_S_ = cellA0_0 (Ring.sl 3 t.val) 0 :=
  canon0_0_20 t
set_option synthInstance.maxSize 4096 in
theorem coff0_0_21 : ∀ t : Fin grid0.N, k0_off11 (grid0.coords t) = ![(Ring.sl 3 t.val).val, 1, 0, 0] := by decide +kernel
@[sl_canon] theorem canon0_0_21 (t : Fin grid0.N) :
    (scM0_0.slice (Rect.unit (s := S3x2x2048x512) (k0_off11 (grid0.coords t)) S1x1x2048x512.size (k0_off11_inb (grid0.coords t))) (fun _ => rfl)).squeeze S2048x512 squeezes_S1x1x2048x512_S2048x512 = rwin0_0_1 (Ring.sl 3 t.val) :=
  congrArg (fun M : Memref sig .tc .vmem S1x1x2048x512 .f32 => M.squeeze S2048x512 squeezes_S1x1x2048x512_S2048x512) (Memref.slice_unit_congr _ (coff0_0_21 t ) _ _ (fun _ => rfl) (fun _ => rfl))
@[sl_canon] theorem canon0_0_21' (t : Fin grid0.N) :
    (scM0_0.slice (Rect.unit (s := S3x2x2048x512) (k0_off11 (grid0.coords t)) ![1, 1, 2048, 512] (k0_off11_inb (grid0.coords t))) (fun _ => rfl)).squeeze S2048x512 squeezes_S1x1x2048x512_S2048x512 = rwin0_0_1 (Ring.sl 3 t.val) :=
  canon0_0_21 t
set_option synthInstance.maxSize 4096 in
theorem coff0_0_22 : ∀ t : Fin grid0.N, k0_off10 (grid0.coords t) = ![(Ring.sl 3 t.val).val, 1] := by decide +kernel
@[sl_canon] theorem canon0_0_22 (t : Fin grid0.N) :
    (cc0_scratch1.slice (Rect.unit (s := S3x2) (k0_off10 (grid0.coords t)) S1x1.size (k0_off10_inb (grid0.coords t)))).squeeze S_ squeezes_S1x1_S_ = cellA0_0 (Ring.sl 3 t.val) 1 :=
  congrArg (fun A : DmaSems sig S1x1 => A.squeeze S_ squeezes_S1x1_S_) (SemArray.slice_unit_congr _ (coff0_0_22 t ) _ _)
@[sl_canon] theorem canon0_0_22' (t : Fin grid0.N) :
    (cc0_scratch1.slice (Rect.unit (s := S3x2) (k0_off10 (grid0.coords t)) ![1, 1] (k0_off10_inb (grid0.coords t)))).squeeze S_ squeezes_S1x1_S_ = cellA0_0 (Ring.sl 3 t.val) 1 :=
  canon0_0_22 t
set_option synthInstance.maxSize 4096 in
theorem coff0_0_23 : ∀ t : Fin grid0.N, ¬cond0_0 (grid0.coords t) → cond0_1 (grid0.coords t) → ¬cond0_2 (grid0.coords t) → k0_off4 (grid0.coords t) 0#32 = ![0, 0, 512 * ((Ring.bk 88 (t.val + 2)).val % 11)] := by decide +kernel
@[sl_canon] theorem canon0_0_23 (t : Fin grid0.N) (h0 : ¬cond0_0 (grid0.coords t)) (h1 : cond0_1 (grid0.coords t)) (h2 : ¬cond0_2 (grid0.coords t)) :
    (hbM0_0.slice (Rect.unit (s := S2x2048x11264) (k0_off4 (grid0.coords t) 0#32) S1x2048x512.size (k0_off4_inb (grid0.coords t) h1 0)) (fun _ => rfl)).squeeze S2048x512 squeezes_S1x2048x512_S2048x512 = srcB0_0_0 (Ring.bk 88 (t.val + 2)) :=
  congrArg (fun M : Memref sig .tc .hbm S1x2048x512 .f32 => M.squeeze S2048x512 squeezes_S1x2048x512_S2048x512) (Memref.slice_unit_congr _ (coff0_0_23 t h0 h1 h2) _ _ (fun _ => rfl) (fun _ => rfl))
@[sl_canon] theorem canon0_0_23' (t : Fin grid0.N) (h0 : ¬cond0_0 (grid0.coords t)) (h1 : cond0_1 (grid0.coords t)) (h2 : ¬cond0_2 (grid0.coords t)) :
    (hbM0_0.slice (Rect.unit (s := S2x2048x11264) (k0_off4 (grid0.coords t) 0#32) ![1, 2048, 512] (k0_off4_inb (grid0.coords t) h1 0)) (fun _ => rfl)).squeeze S2048x512 squeezes_S1x2048x512_S2048x512 = srcB0_0_0 (Ring.bk 88 (t.val + 2)) :=
  canon0_0_23 t h0 h1 h2
set_option synthInstance.maxSize 4096 in
theorem coff0_0_24 : ∀ t : Fin grid0.N, ¬cond0_0 (grid0.coords t) → cond0_1 (grid0.coords t) → ¬cond0_2 (grid0.coords t) → k0_off4 (grid0.coords t) 11#32 = ![0, 0, 512 * ((Ring.bk 88 (t.val + 2)).val % 11) + 5632] := by decide +kernel
@[sl_canon] theorem canon0_0_24 (t : Fin grid0.N) (h0 : ¬cond0_0 (grid0.coords t)) (h1 : cond0_1 (grid0.coords t)) (h2 : ¬cond0_2 (grid0.coords t)) :
    (hbM0_0.slice (Rect.unit (s := S2x2048x11264) (k0_off4 (grid0.coords t) 11#32) S1x2048x512.size (k0_off4_inb (grid0.coords t) h1 1)) (fun _ => rfl)).squeeze S2048x512 squeezes_S1x2048x512_S2048x512 = srcB0_0_1 (Ring.bk 88 (t.val + 2)) :=
  congrArg (fun M : Memref sig .tc .hbm S1x2048x512 .f32 => M.squeeze S2048x512 squeezes_S1x2048x512_S2048x512) (Memref.slice_unit_congr _ (coff0_0_24 t h0 h1 h2) _ _ (fun _ => rfl) (fun _ => rfl))
@[sl_canon] theorem canon0_0_24' (t : Fin grid0.N) (h0 : ¬cond0_0 (grid0.coords t)) (h1 : cond0_1 (grid0.coords t)) (h2 : ¬cond0_2 (grid0.coords t)) :
    (hbM0_0.slice (Rect.unit (s := S2x2048x11264) (k0_off4 (grid0.coords t) 11#32) ![1, 2048, 512] (k0_off4_inb (grid0.coords t) h1 1)) (fun _ => rfl)).squeeze S2048x512 squeezes_S1x2048x512_S2048x512 = srcB0_0_1 (Ring.bk 88 (t.val + 2)) :=
  canon0_0_24 t h0 h1 h2
set_option synthInstance.maxSize 4096 in
theorem coff0_0_25 : ∀ t : Fin grid0.N, ¬cond0_0 (grid0.coords t) → cond0_1 (grid0.coords t) → cond0_2 (grid0.coords t) → k0_off4 (grid0.coords t) 0#32 = ![0, 0, 512 * ((Ring.bk 88 (t.val + 2)).val % 11)] := by decide +kernel
@[sl_canon] theorem canon0_0_25 (t : Fin grid0.N) (h0 : ¬cond0_0 (grid0.coords t)) (h1 : cond0_1 (grid0.coords t)) (h2 : cond0_2 (grid0.coords t)) :
    (hbM0_0.slice (Rect.unit (s := S2x2048x11264) (k0_off4 (grid0.coords t) 0#32) S1x2048x512.size (k0_off4_inb (grid0.coords t) h1 0)) (fun _ => rfl)).squeeze S2048x512 squeezes_S1x2048x512_S2048x512 = srcB0_0_0 (Ring.bk 88 (t.val + 2)) :=
  congrArg (fun M : Memref sig .tc .hbm S1x2048x512 .f32 => M.squeeze S2048x512 squeezes_S1x2048x512_S2048x512) (Memref.slice_unit_congr _ (coff0_0_25 t h0 h1 h2) _ _ (fun _ => rfl) (fun _ => rfl))
@[sl_canon] theorem canon0_0_25' (t : Fin grid0.N) (h0 : ¬cond0_0 (grid0.coords t)) (h1 : cond0_1 (grid0.coords t)) (h2 : cond0_2 (grid0.coords t)) :
    (hbM0_0.slice (Rect.unit (s := S2x2048x11264) (k0_off4 (grid0.coords t) 0#32) ![1, 2048, 512] (k0_off4_inb (grid0.coords t) h1 0)) (fun _ => rfl)).squeeze S2048x512 squeezes_S1x2048x512_S2048x512 = srcB0_0_0 (Ring.bk 88 (t.val + 2)) :=
  canon0_0_25 t h0 h1 h2
set_option synthInstance.maxSize 4096 in
theorem coff0_0_26 : ∀ t : Fin grid0.N, ¬cond0_0 (grid0.coords t) → cond0_1 (grid0.coords t) → cond0_2 (grid0.coords t) → k0_off4 (grid0.coords t) 11#32 = ![0, 0, 512 * ((Ring.bk 88 (t.val + 2)).val % 11) + 5632] := by decide +kernel
@[sl_canon] theorem canon0_0_26 (t : Fin grid0.N) (h0 : ¬cond0_0 (grid0.coords t)) (h1 : cond0_1 (grid0.coords t)) (h2 : cond0_2 (grid0.coords t)) :
    (hbM0_0.slice (Rect.unit (s := S2x2048x11264) (k0_off4 (grid0.coords t) 11#32) S1x2048x512.size (k0_off4_inb (grid0.coords t) h1 1)) (fun _ => rfl)).squeeze S2048x512 squeezes_S1x2048x512_S2048x512 = srcB0_0_1 (Ring.bk 88 (t.val + 2)) :=
  congrArg (fun M : Memref sig .tc .hbm S1x2048x512 .f32 => M.squeeze S2048x512 squeezes_S1x2048x512_S2048x512) (Memref.slice_unit_congr _ (coff0_0_26 t h0 h1 h2) _ _ (fun _ => rfl) (fun _ => rfl))
@[sl_canon] theorem canon0_0_26' (t : Fin grid0.N) (h0 : ¬cond0_0 (grid0.coords t)) (h1 : cond0_1 (grid0.coords t)) (h2 : cond0_2 (grid0.coords t)) :
    (hbM0_0.slice (Rect.unit (s := S2x2048x11264) (k0_off4 (grid0.coords t) 11#32) ![1, 2048, 512] (k0_off4_inb (grid0.coords t) h1 1)) (fun _ => rfl)).squeeze S2048x512 squeezes_S1x2048x512_S2048x512 = srcB0_0_1 (Ring.bk 88 (t.val + 2)) :=
  canon0_0_26 t h0 h1 h2
set_option synthInstance.maxSize 4096 in
theorem coff0_0_27 : ∀ t : Fin grid0.N, k0_off12 (grid0.coords t) = ![(Ring.sl 3 t.val).val, 0, 0, 0] := by decide +kernel
instance (priority := high) closedOff0_0_27 (t : Fin grid0.N) : ClosedOff (k0_off12 (grid0.coords t)) := ⟨![(Ring.sl 3 t.val).val, 0, 0, 0], coff0_0_27 t⟩
set_option synthInstance.maxSize 4096 in
theorem coff0_0_28 : ∀ t : Fin grid0.N, k0_off13 (grid0.coords t) = ![(Ring.sl 3 t.val).val, 1, 0, 0] := by decide +kernel
instance (priority := high) closedOff0_0_28 (t : Fin grid0.N) : ClosedOff (k0_off13 (grid0.coords t)) := ⟨![(Ring.sl 3 t.val).val, 1, 0, 0], coff0_0_28 t⟩
end Canon0_0

end Cert.FfnIdeal.Run

end
-- ==== Proof.FfnRunA.lean ====
module

public import proofs.«01_k».proof.Proof.FfnRing

@[expose] public section

set_option maxRecDepth 16384

noncomputable section

/-! The body run through at the first grid step: the ring is filled, the result's block starts from zeros. -/

namespace Cert.FfnIdeal.Run

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- the run's proof is long
set_option maxHeartbeats 1000000 in
/-- What the body does at such a grid step: what it writes to the result's block, and that it runs. -/
noncomputable def kernelRun0_A (c : Dev nD) (t : Fin cfg0.N) (arg2 : Memref sig .tc .vmem S1024x2048 .bf16) (harg2 : arg2.IsWhole) (arg4 : Memref sig .tc .vmem S1x512x2048 .f32) (harg4 : arg4.IsWhole) (arg5 : Memref sig .tc .vmem S1024x2048 .f32) (harg5 : arg5.IsWhole) (hc0 : cond0_0 (grid0.coords t)) (hc1 : cond0_1 (grid0.coords t)) (hc2 : cond0_2 (grid0.coords t))
    (x0 : Vec F S1024x2048 .bf16) (x1 : Vec F S1x512x2048 .f32) (fh0 : HbBuf0 (F := F) c hbM0_0) :
    { L2 : List (View.Piece (Elt F) S1024x2048 .f32) //
      ∀ (W : Waits sig Unit) (K : PUnit → sProp 𝕄),
        iprop(owns (c : Thread nD τ) arg2 fullShare x0 ∗ owns (c : Thread nD τ) arg4 fullShare x1 ∗ (∃ d, owns (c : Thread nD τ) arg5 fullShare d) ∗ Ring.free (cellP0_0 c) (slotW0_0 c fh0) (Ring.sl 3 t.val) ∗ Ring.free (cellP0_0 c) (slotW0_0 c fh0) (Ring.sl 3 (t.val + 1)) ∗ Ring.free (cellP0_0 c) (slotW0_0 c fh0) (Ring.sl 3 (t.val + 2)) ∗ owes (c : Thread nD τ) 0 W
            ∗ (iprop(owns (c : Thread nD τ) arg2 fullShare x0 ∗ owns (c : Thread nD τ) arg4 fullShare x1 ∗ (∃ f, arg5.view.loc (c : Thread nD τ) ↦[arg5.view.set]{fullShare} arg5.view.writes (Elt F) f L2) ∗ Ring.inflight (flightW0_0 c fh0) (Ring.sl 3 (t.val + 1)) (Ring.bk 88 (t.val + 1)) ∗ Ring.inflight (flightW0_0 c fh0) (Ring.sl 3 (t.val + 2)) (Ring.bk 88 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0_ffn (grid0.coords t) arg2 harg2 (Memref.whole main_arg1) (Memref.isWhole_whole _) arg4 harg4 arg5 harg5 scM0_0 (Memref.isWhole_whole _) cc0_scratch1) K } := by
  refine ⟨?_, fun W K => ?run⟩
  case run =>
    haveI : Fact (cond0_0 (grid0.coords t)) := ⟨hc0⟩
    haveI : Fact (cond0_1 (grid0.coords t)) := ⟨hc1⟩
    haveI : Fact (cond0_2 (grid0.coords t)) := ⟨hc2⟩
    simp only [cc0_ffn_eq_skeleton]; unfold cc0_ffn_skel
    simp only [k0_part2_eq_skeleton, k0_part1_eq_skeleton]
    have hcanon0 := canon0_0_1 t hc0 hc1 hc2
    have hcanon1 := canon0_0_1' t hc0 hc1 hc2
    have hcanon2 := canon0_0_2 t hc0 hc1 hc2
    have hcanon3 := canon0_0_2' t hc0 hc1 hc2
    have hcanon4 := canon0_0_4 t hc0 hc1 hc2
    have hcanon5 := canon0_0_4' t hc0 hc1 hc2
    have hcanon6 := canon0_0_5 t hc0 hc1 hc2
    have hcanon7 := canon0_0_5' t hc0 hc1 hc2
    have hcanon8 := canon0_0_7 t hc0 hc1 hc2
    have hcanon9 := canon0_0_7' t hc0 hc1 hc2
    have hcanon10 := canon0_0_8 t hc0 hc1 hc2
    have hcanon11 := canon0_0_8' t hc0 hc1 hc2
    have hcanon12 := canon0_0_10 t hc0 hc1 hc2
    have hcanon13 := canon0_0_10' t hc0 hc1 hc2
    have hcanon14 := canon0_0_11 t hc0 hc1 hc2
    have hcanon15 := canon0_0_11' t hc0 hc1 hc2
    unfold owns Ring.free Ring.inflight
    iintro ⟨⟨%f0, %hf0, H0⟩, ⟨%f1, %hf1, H1⟩, ⟨%d2, %f2, -, H2⟩, ⟨⟨Hc0_0_0_0, Hc0_0_0_1⟩, ⟨%fs0_0_0, ⟨Hs0_0_0_0, Hs0_0_0_1⟩, Hw0_0_0_0, Hw0_0_0_1⟩⟩, ⟨⟨Hc0_0_1_0, Hc0_0_1_1⟩, ⟨%fs0_0_1, ⟨Hs0_0_1_0, Hs0_0_1_1⟩, Hw0_0_1_0, Hw0_0_1_1⟩⟩, ⟨⟨Hc0_0_2_0, Hc0_0_2_1⟩, ⟨%fs0_0_2, ⟨Hs0_0_2_0, Hs0_0_2_1⟩, Hw0_0_2_0, Hw0_0_2_1⟩⟩, HW, Hk⟩
    ihave Hsp0_0_0_0 := (src0_0_0_split c fh0 (Ring.sl 3 t.val) (Ring.bk 88 t.val)).1 $$ Hw0_0_0_0
    icases Hsp0_0_0_0 with ⟨Hh0_0_0_0, Hr0_0_0_0⟩
    ihave Hsp0_0_0_1 := (src0_0_1_split c fh0 (Ring.sl 3 t.val) (Ring.bk 88 t.val)).1 $$ Hw0_0_0_1
    icases Hsp0_0_0_1 with ⟨Hh0_0_0_1, Hr0_0_0_1⟩
    ihave Hsp0_0_1_0 := (src0_0_0_split c fh0 (Ring.sl 3 (t.val + 1)) (Ring.bk 88 (t.val + 1))).1 $$ Hw0_0_1_0
    icases Hsp0_0_1_0 with ⟨Hh0_0_1_0, Hr0_0_1_0⟩
    ihave Hsp0_0_1_1 := (src0_0_1_split c fh0 (Ring.sl 3 (t.val + 1)) (Ring.bk 88 (t.val + 1))).1 $$ Hw0_0_1_1
    icases Hsp0_0_1_1 with ⟨Hh0_0_1_1, Hr0_0_1_1⟩
    ihave Hsp0_0_2_0 := (src0_0_0_split c fh0 (Ring.sl 3 (t.val + 2)) (Ring.bk 88 (t.val + 2))).1 $$ Hw0_0_2_0
    icases Hsp0_0_2_0 with ⟨Hh0_0_2_0, Hr0_0_2_0⟩
    ihave Hsp0_0_2_1 := (src0_0_1_split c fh0 (Ring.sl 3 (t.val + 2)) (Ring.bk 88 (t.val + 2))).1 $$ Hw0_0_2_1
    icases Hsp0_0_2_1 with ⟨Hh0_0_2_1, Hr0_0_2_1⟩
    obtain rfl := harg2.eq_unread hf0; obtain rfl := harg4.eq_unread hf1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg4.read_unread _
      iexact H1
    isplitl [H2]; · iexists _; iexact H2
    isplitl [Hc0_0_1_0 Hc0_0_1_1 Hr0_0_1_0 Hr0_0_1_1]
    · iexists fs0_0_1; isplitl [Hc0_0_1_0 Hc0_0_1_1]
      · isplitl [Hc0_0_1_0]; · iexact Hc0_0_1_0
        iexact Hc0_0_1_1
      isplitl [Hr0_0_1_0]; · iexact Hr0_0_1_0
      iexact Hr0_0_1_1
    isplitl [Hc0_0_2_0 Hc0_0_2_1 Hr0_0_2_0 Hr0_0_2_1]
    · iexists fs0_0_2; isplitl [Hc0_0_2_0 Hc0_0_2_1]
      · isplitl [Hc0_0_2_0]; · iexact Hc0_0_2_0
        iexact Hc0_0_2_1
      isplitl [Hr0_0_2_0]; · iexact Hr0_0_2_0
      iexact Hr0_0_2_1
    isplitl [Hc0_0_0_0 Hc0_0_0_1 Hs0_0_0_0 Hs0_0_0_1 Hh0_0_0_0 Hh0_0_0_1 Hr0_0_0_0 Hr0_0_0_1]
    · isplitl [Hc0_0_0_0 Hc0_0_0_1]
      · isplitl [Hc0_0_0_0]; · iexact Hc0_0_0_0
        iexact Hc0_0_0_1
      iexists (landedJ0_0 c fh0 (Ring.sl 3 t.val) (Ring.bk 88 t.val)); isplitl [Hs0_0_0_0 Hs0_0_0_1]
      · iapply (slotP0_0_landed c fh0 (Ring.sl 3 t.val) (Ring.bk 88 t.val))
        isplitl [Hs0_0_0_0]; · iexact Hs0_0_0_0
        iexact Hs0_0_0_1
      isplitl [Hh0_0_0_0 Hr0_0_0_0]
      · iapply (src0_0_0_split c fh0 (Ring.sl 3 t.val) (Ring.bk 88 t.val)).2; isplitl [Hh0_0_0_0]; · iexact Hh0_0_0_0
        iexact Hr0_0_0_0
      iapply (src0_0_1_split c fh0 (Ring.sl 3 t.val) (Ring.bk 88 t.val)).2; isplitl [Hh0_0_0_1]; · iexact Hh0_0_0_1
      iexact Hr0_0_0_1
    iexists _; iexact HW

end Cert.FfnIdeal.Run

end
-- ==== Proof.FfnRunB.lean ====
module

public import proofs.«01_k».proof.Proof.FfnRunA

@[expose] public section

set_option maxRecDepth 16384

noncomputable section

/-! The body run through at a grid step within a block of rows, with a fetch ahead. -/

namespace Cert.FfnIdeal.Run

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- the run's proof is long
set_option maxHeartbeats 1000000 in
/-- What the body does at such a grid step: what it writes to the result's block, and that it runs. -/
noncomputable def kernelRun0_B (c : Dev nD) (t : Fin cfg0.N) (arg2 : Memref sig .tc .vmem S1024x2048 .bf16) (harg2 : arg2.IsWhole) (arg4 : Memref sig .tc .vmem S1x512x2048 .f32) (harg4 : arg4.IsWhole) (arg5 : Memref sig .tc .vmem S1024x2048 .f32) (harg5 : arg5.IsWhole) (hc0 : ¬cond0_0 (grid0.coords t)) (hc1 : cond0_1 (grid0.coords t)) (hc2 : ¬cond0_2 (grid0.coords t))
    (x0 : Vec F S1024x2048 .bf16) (x1 : Vec F S1x512x2048 .f32) (xo2 : Vec F S1024x2048 .f32) (fh0 : HbBuf0 (F := F) c hbM0_0) :
    { L2 : List (View.Piece (Elt F) S1024x2048 .f32) //
      ∀ (W : Waits sig Unit) (K : PUnit → sProp 𝕄),
        iprop(owns (c : Thread nD τ) arg2 fullShare x0 ∗ owns (c : Thread nD τ) arg4 fullShare x1 ∗ owns (c : Thread nD τ) arg5 fullShare xo2 ∗ Ring.inflight (flightW0_0 c fh0) (Ring.sl 3 t.val) (Ring.bk 88 t.val) ∗ Ring.inflight (flightW0_0 c fh0) (Ring.sl 3 (t.val + 1)) (Ring.bk 88 (t.val + 1)) ∗ Ring.free (cellP0_0 c) (slotW0_0 c fh0) (Ring.sl 3 (t.val + 2)) ∗ owes (c : Thread nD τ) 0 W
            ∗ (iprop(owns (c : Thread nD τ) arg2 fullShare x0 ∗ owns (c : Thread nD τ) arg4 fullShare x1 ∗ (∃ f, arg5.view.loc (c : Thread nD τ) ↦[arg5.view.set]{fullShare} arg5.view.writes (Elt F) f L2) ∗ Ring.inflight (flightW0_0 c fh0) (Ring.sl 3 (t.val + 1)) (Ring.bk 88 (t.val + 1)) ∗ Ring.inflight (flightW0_0 c fh0) (Ring.sl 3 (t.val + 2)) (Ring.bk 88 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0_ffn (grid0.coords t) arg2 harg2 (Memref.whole main_arg1) (Memref.isWhole_whole _) arg4 harg4 arg5 harg5 scM0_0 (Memref.isWhole_whole _) cc0_scratch1) K } := by
  refine ⟨?_, fun W K => ?run⟩
  case run =>
    haveI : Fact (¬cond0_0 (grid0.coords t)) := ⟨hc0⟩
    haveI : Fact (cond0_1 (grid0.coords t)) := ⟨hc1⟩
    haveI : Fact (¬cond0_2 (grid0.coords t)) := ⟨hc2⟩
    simp only [cc0_ffn_eq_skeleton]; unfold cc0_ffn_skel
    simp only [k0_part2_eq_skeleton]
    unfold owns Ring.free Ring.inflight
    iintro ⟨⟨%f0, %hf0, H0⟩, ⟨%f1, %hf1, H1⟩, ⟨%f2, %hf2, H2⟩, ⟨%ff0_0_0, ⟨Hf0_0_0_0, Hf0_0_0_1⟩, Hrf0_0_0_0, Hrf0_0_0_1⟩, ⟨%ff0_0_1, ⟨Hf0_0_1_0, Hf0_0_1_1⟩, Hrf0_0_1_0, Hrf0_0_1_1⟩, ⟨⟨Hc0_0_2_0, Hc0_0_2_1⟩, ⟨%fs0_0_2, ⟨Hs0_0_2_0, Hs0_0_2_1⟩, Hw0_0_2_0, Hw0_0_2_1⟩⟩, HW, Hk⟩
    ihave Hsp0_0_2_0 := (src0_0_0_split c fh0 (Ring.sl 3 (t.val + 2)) (Ring.bk 88 (t.val + 2))).1 $$ Hw0_0_2_0
    icases Hsp0_0_2_0 with ⟨Hh0_0_2_0, Hr0_0_2_0⟩
    ihave Hsp0_0_2_1 := (src0_0_1_split c fh0 (Ring.sl 3 (t.val + 2)) (Ring.bk 88 (t.val + 2))).1 $$ Hw0_0_2_1
    icases Hsp0_0_2_1 with ⟨Hh0_0_2_1, Hr0_0_2_1⟩
    obtain rfl := harg2.eq_unread hf0; obtain rfl := harg4.eq_unread hf1; obtain rfl := harg5.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg4.read_unread _
      iexact H1
    isplitl [H2]; · iexists _; iexact H2
    isplitl [Hf0_0_1_0 Hf0_0_1_1 Hrf0_0_1_0 Hrf0_0_1_1]
    · iexists ff0_0_1; isplitl [Hf0_0_1_0 Hf0_0_1_1]
      · isplitl [Hf0_0_1_0]; · iexact Hf0_0_1_0
        iexact Hf0_0_1_1
      isplitl [Hrf0_0_1_0]; · iexact Hrf0_0_1_0
      iexact Hrf0_0_1_1
    isplitl [Hc0_0_2_0 Hc0_0_2_1 Hr0_0_2_0 Hr0_0_2_1]
    · iexists fs0_0_2; isplitl [Hc0_0_2_0 Hc0_0_2_1]
      · isplitl [Hc0_0_2_0]; · iexact Hc0_0_2_0
        iexact Hc0_0_2_1
      isplitl [Hr0_0_2_0]; · iexact Hr0_0_2_0
      iexact Hr0_0_2_1
    isplitl [Hf0_0_0_0 Hf0_0_0_1 Hf0_0_0_0_dst Hf0_0_0_1_dst Hf0_0_0_0_src Hf0_0_0_1_src Hrf0_0_0_0 Hrf0_0_0_1]
    · isplitl [Hf0_0_0_0 Hf0_0_0_1]
      · isplitl [Hf0_0_0_0]; · iexact Hf0_0_0_0
        iexact Hf0_0_0_1
      iexists (landedJ0_0 c fh0 (Ring.sl 3 t.val) (Ring.bk 88 t.val)); isplitl [Hf0_0_0_0_dst Hf0_0_0_1_dst]
      · iapply (slotP0_0_landed c fh0 (Ring.sl 3 t.val) (Ring.bk 88 t.val))
        isplitl [Hf0_0_0_0_dst]; · iexact Hf0_0_0_0_dst
        iexact Hf0_0_0_1_dst
      isplitl [Hf0_0_0_0_src Hrf0_0_0_0]
      · iapply (src0_0_0_split c fh0 (Ring.sl 3 t.val) (Ring.bk 88 t.val)).2; isplitl [Hf0_0_0_0_src]; · iexact Hf0_0_0_0_src
        iexact Hrf0_0_0_0
      iapply (src0_0_1_split c fh0 (Ring.sl 3 t.val) (Ring.bk 88 t.val)).2; isplitl [Hf0_0_0_1_src]; · iexact Hf0_0_0_1_src
      iexact Hrf0_0_0_1
    iexists _; iexact HW

end Cert.FfnIdeal.Run

end
-- ==== Proof.FfnRunC.lean ====
module

public import proofs.«01_k».proof.Proof.FfnRunB

@[expose] public section

set_option maxRecDepth 16384

noncomputable section

/-! The body run through at the first grid step of a later block of rows: the block starts from zeros. -/

namespace Cert.FfnIdeal.Run

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- the run's proof is long
set_option maxHeartbeats 1000000 in
/-- What the body does at such a grid step: what it writes to the result's block, and that it runs. -/
noncomputable def kernelRun0_C (c : Dev nD) (t : Fin cfg0.N) (arg2 : Memref sig .tc .vmem S1024x2048 .bf16) (harg2 : arg2.IsWhole) (arg4 : Memref sig .tc .vmem S1x512x2048 .f32) (harg4 : arg4.IsWhole) (arg5 : Memref sig .tc .vmem S1024x2048 .f32) (harg5 : arg5.IsWhole) (hc0 : ¬cond0_0 (grid0.coords t)) (hc1 : cond0_1 (grid0.coords t)) (hc2 : cond0_2 (grid0.coords t))
    (x0 : Vec F S1024x2048 .bf16) (x1 : Vec F S1x512x2048 .f32) (fh0 : HbBuf0 (F := F) c hbM0_0) :
    { L2 : List (View.Piece (Elt F) S1024x2048 .f32) //
      ∀ (W : Waits sig Unit) (K : PUnit → sProp 𝕄),
        iprop(owns (c : Thread nD τ) arg2 fullShare x0 ∗ owns (c : Thread nD τ) arg4 fullShare x1 ∗ (∃ d, owns (c : Thread nD τ) arg5 fullShare d) ∗ Ring.inflight (flightW0_0 c fh0) (Ring.sl 3 t.val) (Ring.bk 88 t.val) ∗ Ring.inflight (flightW0_0 c fh0) (Ring.sl 3 (t.val + 1)) (Ring.bk 88 (t.val + 1)) ∗ Ring.free (cellP0_0 c) (slotW0_0 c fh0) (Ring.sl 3 (t.val + 2)) ∗ owes (c : Thread nD τ) 0 W
            ∗ (iprop(owns (c : Thread nD τ) arg2 fullShare x0 ∗ owns (c : Thread nD τ) arg4 fullShare x1 ∗ (∃ f, arg5.view.loc (c : Thread nD τ) ↦[arg5.view.set]{fullShare} arg5.view.writes (Elt F) f L2) ∗ Ring.inflight (flightW0_0 c fh0) (Ring.sl 3 (t.val + 1)) (Ring.bk 88 (t.val + 1)) ∗ Ring.inflight (flightW0_0 c fh0) (Ring.sl 3 (t.val + 2)) (Ring.bk 88 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0_ffn (grid0.coords t) arg2 harg2 (Memref.whole main_arg1) (Memref.isWhole_whole _) arg4 harg4 arg5 harg5 scM0_0 (Memref.isWhole_whole _) cc0_scratch1) K } := by
  refine ⟨?_, fun W K => ?run⟩
  case run =>
    haveI : Fact (¬cond0_0 (grid0.coords t)) := ⟨hc0⟩
    haveI : Fact (cond0_1 (grid0.coords t)) := ⟨hc1⟩
    haveI : Fact (cond0_2 (grid0.coords t)) := ⟨hc2⟩
    simp only [cc0_ffn_eq_skeleton]; unfold cc0_ffn_skel
    simp only [k0_part2_eq_skeleton]
    unfold owns Ring.free Ring.inflight
    iintro ⟨⟨%f0, %hf0, H0⟩, ⟨%f1, %hf1, H1⟩, ⟨%d2, %f2, -, H2⟩, ⟨%ff0_0_0, ⟨Hf0_0_0_0, Hf0_0_0_1⟩, Hrf0_0_0_0, Hrf0_0_0_1⟩, ⟨%ff0_0_1, ⟨Hf0_0_1_0, Hf0_0_1_1⟩, Hrf0_0_1_0, Hrf0_0_1_1⟩, ⟨⟨Hc0_0_2_0, Hc0_0_2_1⟩, ⟨%fs0_0_2, ⟨Hs0_0_2_0, Hs0_0_2_1⟩, Hw0_0_2_0, Hw0_0_2_1⟩⟩, HW, Hk⟩
    ihave Hsp0_0_2_0 := (src0_0_0_split c fh0 (Ring.sl 3 (t.val + 2)) (Ring.bk 88 (t.val + 2))).1 $$ Hw0_0_2_0
    icases Hsp0_0_2_0 with ⟨Hh0_0_2_0, Hr0_0_2_0⟩
    ihave Hsp0_0_2_1 := (src0_0_1_split c fh0 (Ring.sl 3 (t.val + 2)) (Ring.bk 88 (t.val + 2))).1 $$ Hw0_0_2_1
    icases Hsp0_0_2_1 with ⟨Hh0_0_2_1, Hr0_0_2_1⟩
    obtain rfl := harg2.eq_unread hf0; obtain rfl := harg4.eq_unread hf1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg4.read_unread _
      iexact H1
    isplitl [H2]; · iexists _; iexact H2
    isplitl [Hf0_0_1_0 Hf0_0_1_1 Hrf0_0_1_0 Hrf0_0_1_1]
    · iexists ff0_0_1; isplitl [Hf0_0_1_0 Hf0_0_1_1]
      · isplitl [Hf0_0_1_0]; · iexact Hf0_0_1_0
        iexact Hf0_0_1_1
      isplitl [Hrf0_0_1_0]; · iexact Hrf0_0_1_0
      iexact Hrf0_0_1_1
    isplitl [Hc0_0_2_0 Hc0_0_2_1 Hr0_0_2_0 Hr0_0_2_1]
    · iexists fs0_0_2; isplitl [Hc0_0_2_0 Hc0_0_2_1]
      · isplitl [Hc0_0_2_0]; · iexact Hc0_0_2_0
        iexact Hc0_0_2_1
      isplitl [Hr0_0_2_0]; · iexact Hr0_0_2_0
      iexact Hr0_0_2_1
    isplitl [Hf0_0_0_0 Hf0_0_0_1 Hf0_0_0_0_dst Hf0_0_0_1_dst Hf0_0_0_0_src Hf0_0_0_1_src Hrf0_0_0_0 Hrf0_0_0_1]
    · isplitl [Hf0_0_0_0 Hf0_0_0_1]
      · isplitl [Hf0_0_0_0]; · iexact Hf0_0_0_0
        iexact Hf0_0_0_1
      iexists (landedJ0_0 c fh0 (Ring.sl 3 t.val) (Ring.bk 88 t.val)); isplitl [Hf0_0_0_0_dst Hf0_0_0_1_dst]
      · iapply (slotP0_0_landed c fh0 (Ring.sl 3 t.val) (Ring.bk 88 t.val))
        isplitl [Hf0_0_0_0_dst]; · iexact Hf0_0_0_0_dst
        iexact Hf0_0_0_1_dst
      isplitl [Hf0_0_0_0_src Hrf0_0_0_0]
      · iapply (src0_0_0_split c fh0 (Ring.sl 3 t.val) (Ring.bk 88 t.val)).2; isplitl [Hf0_0_0_0_src]; · iexact Hf0_0_0_0_src
        iexact Hrf0_0_0_0
      iapply (src0_0_1_split c fh0 (Ring.sl 3 t.val) (Ring.bk 88 t.val)).2; isplitl [Hf0_0_0_1_src]; · iexact Hf0_0_0_1_src
      iexact Hrf0_0_0_1
    iexists _; iexact HW

end Cert.FfnIdeal.Run

end
-- ==== Proof.FfnRunD.lean ====
module

public import proofs.«01_k».proof.Proof.FfnRunC

@[expose] public section

set_option maxRecDepth 16384

noncomputable section

/-! The body run through at the last two grid steps, which fetch nothing. -/

namespace Cert.FfnIdeal.Run

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- the run's proof is long
set_option maxHeartbeats 1000000 in
/-- What the body does at such a grid step: what it writes to the result's block, and that it runs. -/
noncomputable def kernelRun0_D (c : Dev nD) (t : Fin cfg0.N) (arg2 : Memref sig .tc .vmem S1024x2048 .bf16) (harg2 : arg2.IsWhole) (arg4 : Memref sig .tc .vmem S1x512x2048 .f32) (harg4 : arg4.IsWhole) (arg5 : Memref sig .tc .vmem S1024x2048 .f32) (harg5 : arg5.IsWhole) (hc0 : ¬cond0_0 (grid0.coords t)) (hc1 : ¬cond0_1 (grid0.coords t)) (hc2 : ¬cond0_2 (grid0.coords t))
    (x0 : Vec F S1024x2048 .bf16) (x1 : Vec F S1x512x2048 .f32) (xo2 : Vec F S1024x2048 .f32) (fh0 : HbBuf0 (F := F) c hbM0_0) :
    { L2 : List (View.Piece (Elt F) S1024x2048 .f32) //
      ∀ (W : Waits sig Unit) (K : PUnit → sProp 𝕄),
        iprop(owns (c : Thread nD τ) arg2 fullShare x0 ∗ owns (c : Thread nD τ) arg4 fullShare x1 ∗ owns (c : Thread nD τ) arg5 fullShare xo2 ∗ Ring.inflight (flightW0_0 c fh0) (Ring.sl 3 t.val) (Ring.bk 88 t.val) ∗ Ring.slotAt 2 (cellP0_0 c) (slotW0_0 c fh0) (flightW0_0 c fh0) t.val 1 ∗ Ring.free (cellP0_0 c) (slotW0_0 c fh0) (Ring.sl 3 (t.val + 2)) ∗ owes (c : Thread nD τ) 0 W
            ∗ (iprop(owns (c : Thread nD τ) arg2 fullShare x0 ∗ owns (c : Thread nD τ) arg4 fullShare x1 ∗ (∃ f, arg5.view.loc (c : Thread nD τ) ↦[arg5.view.set]{fullShare} arg5.view.writes (Elt F) f L2) ∗ Ring.slotAt 2 (cellP0_0 c) (slotW0_0 c fh0) (flightW0_0 c fh0) t.val 1 ∗ Ring.free (cellP0_0 c) (slotW0_0 c fh0) (Ring.sl 3 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0_ffn (grid0.coords t) arg2 harg2 (Memref.whole main_arg1) (Memref.isWhole_whole _) arg4 harg4 arg5 harg5 scM0_0 (Memref.isWhole_whole _) cc0_scratch1) K } := by
  refine ⟨?_, fun W K => ?run⟩
  case run =>
    haveI : Fact (¬cond0_0 (grid0.coords t)) := ⟨hc0⟩
    haveI : Fact (¬cond0_1 (grid0.coords t)) := ⟨hc1⟩
    haveI : Fact (¬cond0_2 (grid0.coords t)) := ⟨hc2⟩
    simp only [cc0_ffn_eq_skeleton]; unfold cc0_ffn_skel
    simp only [k0_part2_eq_skeleton]
    unfold owns Ring.free Ring.inflight
    iintro ⟨⟨%f0, %hf0, H0⟩, ⟨%f1, %hf1, H1⟩, ⟨%f2, %hf2, H2⟩, ⟨%ff0_0_0, ⟨Hf0_0_0_0, Hf0_0_0_1⟩, Hrf0_0_0_0, Hrf0_0_0_1⟩, Hro0_0_1, ⟨⟨Hc0_0_2_0, Hc0_0_2_1⟩, ⟨%fs0_0_2, ⟨Hs0_0_2_0, Hs0_0_2_1⟩, Hw0_0_2_0, Hw0_0_2_1⟩⟩, HW, Hk⟩
    obtain rfl := harg2.eq_unread hf0; obtain rfl := harg4.eq_unread hf1; obtain rfl := harg5.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg4.read_unread _
      iexact H1
    isplitl [H2]; · iexists _; iexact H2
    isplitl [Hro0_0_1]; · iexact Hro0_0_1
    isplitl [Hc0_0_2_0 Hc0_0_2_1 Hs0_0_2_0 Hs0_0_2_1 Hw0_0_2_0 Hw0_0_2_1]
    · isplitl [Hc0_0_2_0 Hc0_0_2_1]
      · isplitl [Hc0_0_2_0]; · iexact Hc0_0_2_0
        iexact Hc0_0_2_1
      iexists fs0_0_2; isplitl [Hs0_0_2_0 Hs0_0_2_1]
      · isplitl [Hs0_0_2_0]; · iexact Hs0_0_2_0
        iexact Hs0_0_2_1
      isplitl [Hw0_0_2_0]; · iexact Hw0_0_2_0
      iexact Hw0_0_2_1
    isplitl [Hf0_0_0_0 Hf0_0_0_1 Hf0_0_0_0_dst Hf0_0_0_1_dst Hf0_0_0_0_src Hf0_0_0_1_src Hrf0_0_0_0 Hrf0_0_0_1]
    · isplitl [Hf0_0_0_0 Hf0_0_0_1]
      · isplitl [Hf0_0_0_0]; · iexact Hf0_0_0_0
        iexact Hf0_0_0_1
      iexists (landedJ0_0 c fh0 (Ring.sl 3 t.val) (Ring.bk 88 t.val)); isplitl [Hf0_0_0_0_dst Hf0_0_0_1_dst]
      · iapply (slotP0_0_landed c fh0 (Ring.sl 3 t.val) (Ring.bk 88 t.val))
        isplitl [Hf0_0_0_0_dst]; · iexact Hf0_0_0_0_dst
        iexact Hf0_0_0_1_dst
      isplitl [Hf0_0_0_0_src Hrf0_0_0_0]
      · iapply (src0_0_0_split c fh0 (Ring.sl 3 t.val) (Ring.bk 88 t.val)).2; isplitl [Hf0_0_0_0_src]; · iexact Hf0_0_0_0_src
        iexact Hrf0_0_0_0
      iapply (src0_0_1_split c fh0 (Ring.sl 3 t.val) (Ring.bk 88 t.val)).2; isplitl [Hf0_0_0_1_src]; · iexact Hf0_0_0_1_src
      iexact Hrf0_0_0_1
    iexists _; iexact HW

end Cert.FfnIdeal.Run

end
-- ==== Proof.FfnTile.lean ====
module

public import proofs.«01_k».proof.Proof.FfnRunD
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.FfnIdeal.Run

open Cert.FfnIdeal.Gen
open Idealize.ShloMosaic Idealize.ShloMosaic.TcCoe Idealize.SL.Sem
open scoped BigOperators

variable {F : FTy → Type} [FloatOps F]

/-- Where the body reads the first half of a landed slot, and the second half. -/
theorem off12 : ∀ t : Fin grid0.N, k0_off12 (grid0.coords t) = ![(Ring.sl 3 t.val).val, 0, 0, 0] := by decide +kernel
@[inherit_doc off12] theorem off13 : ∀ t : Fin grid0.N, k0_off13 (grid0.coords t) = ![(Ring.sl 3 t.val).val, 1, 0, 0] := by decide +kernel

/-- What the body reads of the first half of a landed slot: the tile's block of columns of the weight. -/
theorem slot0_at (c : Dev nD) (t : Fin cfg0.N) (fh0 : HbBuf0 (F := F) c hbM0_0) (inb) (f) (k : Fin 2048) (n : Fin 512) :
    shapeCast (s := S1x1x2048x512) S2048x512 (View.readAt (Elt F) scM0_0.view (Rect.unit (k0_off12 (grid0.coords t)) ![1, 1, 2048, 512] inb).toLoadRect
      ((rwin0_0_0 (Ring.sl 3 t.val)).view.writes (Elt F) f
        [⟨Rect.whole S2048x512, ReadAs.same.apply (View.read (Elt F) (srcB0_0_0 (Ring.bk 88 t.val)).view fh0)⟩]))
        shapeCasts_S1x1x2048x512_S2048x512 (ix2 k n)
      = fh0 (ix3 0 k ⟨512 * (t.val % 11) + n.val, by omega⟩ : S2x2048x11264.Idx) := by
  have hN : t.val < 88 := lt_of_lt_of_eq t.isLt (show cfg0.N = 88 from N_0)
  refine (congrArg (fun X => shapeCast (s := S1x1x2048x512) S2048x512 X shapeCasts_S1x1x2048x512_S2048x512 (ix2 k n))
    (View.readAt_unit_eq_of_eq (Val' := Elt F) scM0_0.view inb (off12 t) _)).trans ?_
  refine (congrFun (Memref.read_squeeze_slice scM0_0 (Rect.unit (s := S3x2x2048x512) ![(Ring.sl 3 t.val).val, 0, 0, 0] S1x1x2048x512.size (inb_win0_0 _ 0))
    (fun _ => rfl) squeezes_S1x1x2048x512_S2048x512 shapeCasts_S1x1x2048x512_S2048x512 _) (ix2 k n)).symm.trans ?_
  refine (congrFun (View.read_writes_whole (rwin0_0_0 (Ring.sl 3 t.val)).view f _) (ix2 k n)).trans ?_
  refine (congrFun (Memref.read_squeeze_slice hbM0_0 (Rect.unit (s := S2x2048x11264) ![0, 0, 512 * ((Ring.bk 88 t.val).val % 11)] S1x2048x512.size (inb_src0_0_0 _))
    (fun _ => rfl) squeezes_S1x2048x512_S2048x512 (show S1x2048x512.ShapeCasts S2048x512 by decide) fh0) (ix2 k n)).trans ?_
  have hb : (Ring.bk 88 t.val).val = t.val := Nat.mod_eq_of_lt hN
  generalize hX : hbM0_0.view.readAt (Elt F) (Rect.unit (s := S2x2048x11264) ![0, 0, 512 * ((Ring.bk 88 t.val).val % 11)] S1x2048x512.size (inb_src0_0_0 _)).toLoadRect fh0 = X
  have h1 : shapeCast (s := S1x2048x512) S2048x512 X (by decide) (ix2 k n) = X (ix3 0 k n : S1x2048x512.Idx) := by
    pointwise
  refine h1.trans ?_
  subst hX
  refine congrArg fh0 ?_
  funext a
  match a with
  | ⟨0, _⟩ => rfl
  | ⟨1, _⟩ => exact Fin.ext (show 0 + 1 * k.val = k.val by omega)
  | ⟨2, _⟩ => exact Fin.ext (show 512 * ((Ring.bk 88 t.val).val % 11) + 1 * n.val = 512 * (t.val % 11) + n.val by rw [hb]; omega)

@[inherit_doc slot0_at] theorem slot1_at (c : Dev nD) (t : Fin cfg0.N) (fh0 : HbBuf0 (F := F) c hbM0_0) (inb) (f) (k : Fin 2048) (n : Fin 512) :
    shapeCast (s := S1x1x2048x512) S2048x512 (View.readAt (Elt F) scM0_0.view (Rect.unit (k0_off13 (grid0.coords t)) ![1, 1, 2048, 512] inb).toLoadRect
      ((rwin0_0_1 (Ring.sl 3 t.val)).view.writes (Elt F) f
        [⟨Rect.whole S2048x512, ReadAs.same.apply (View.read (Elt F) (srcB0_0_1 (Ring.bk 88 t.val)).view fh0)⟩]))
        shapeCasts_S1x1x2048x512_S2048x512 (ix2 k n)
      = fh0 (ix3 0 k ⟨512 * (t.val % 11) + n.val + 5632, by omega⟩ : S2x2048x11264.Idx) := by
  have hN : t.val < 88 := lt_of_lt_of_eq t.isLt (show cfg0.N = 88 from N_0)
  refine (congrArg (fun X => shapeCast (s := S1x1x2048x512) S2048x512 X shapeCasts_S1x1x2048x512_S2048x512 (ix2 k n))
    (View.readAt_unit_eq_of_eq (Val' := Elt F) scM0_0.view inb (off13 t) _)).trans ?_
  refine (congrFun (Memref.read_squeeze_slice scM0_0 (Rect.unit (s := S3x2x2048x512) ![(Ring.sl 3 t.val).val, 1, 0, 0] S1x1x2048x512.size (inb_win0_0 _ 1))
    (fun _ => rfl) squeezes_S1x1x2048x512_S2048x512 shapeCasts_S1x1x2048x512_S2048x512 _) (ix2 k n)).symm.trans ?_
  refine (congrFun (View.read_writes_whole (rwin0_0_1 (Ring.sl 3 t.val)).view f _) (ix2 k n)).trans ?_
  refine (congrFun (Memref.read_squeeze_slice hbM0_0 (Rect.unit (s := S2x2048x11264) ![0, 0, 512 * ((Ring.bk 88 t.val).val % 11) + 5632] S1x2048x512.size (inb_src0_0_1 _))
    (fun _ => rfl) squeezes_S1x2048x512_S2048x512 (show S1x2048x512.ShapeCasts S2048x512 by decide) fh0) (ix2 k n)).trans ?_
  have hb : (Ring.bk 88 t.val).val = t.val := Nat.mod_eq_of_lt hN
  generalize hX : hbM0_0.view.readAt (Elt F) (Rect.unit (s := S2x2048x11264) ![0, 0, 512 * ((Ring.bk 88 t.val).val % 11) + 5632] S1x2048x512.size (inb_src0_0_1 _)).toLoadRect fh0 = X
  have h1 : shapeCast (s := S1x2048x512) S2048x512 X (by decide) (ix2 k n) = X (ix3 0 k n : S1x2048x512.Idx) := by
    pointwise
  refine h1.trans ?_
  subst hX
  refine congrArg fh0 ?_
  funext a
  match a with
  | ⟨0, _⟩ => rfl
  | ⟨1, _⟩ => exact Fin.ext (show 0 + 1 * k.val = k.val by omega)
  | ⟨2, _⟩ => exact Fin.ext (show 512 * ((Ring.bk 88 t.val).val % 11) + 5632 + 1 * n.val = 512 * (t.val % 11) + n.val + 5632 by rw [hb]; omega)

end Cert.FfnIdeal.Run

end
-- ==== Proof.FfnFrame.lean ====
module

public import proofs.«01_k».proof.Proof.FfnRunD
public import Idealize.ShloMosaic.Lib.Claim
public import Idealize.ShloMosaic.Lib.Pipeline.Value

@[expose] public section

set_option maxRecDepth 16384

noncomputable section

/-! # The feed-forward kernel's frame

What each kind of grid step leaves in the result's block (`out0_A_2` and its three siblings), what every grid step leaves
(`outsAt0`), the body's obligation, and the run: `frame` and `run_blocks`. It holds over any float values. -/

namespace Cert.FfnIdeal.Run

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
theorem cover0_A_2 (c : Dev nD) (t : Fin cfg0.N) (arg2 : Memref sig .tc .vmem S1024x2048 .bf16) (harg2 : arg2.IsWhole) (arg4 : Memref sig .tc .vmem S1x512x2048 .f32) (harg4 : arg4.IsWhole) (arg5 : Memref sig .tc .vmem S1024x2048 .f32) (harg5 : arg5.IsWhole) (hc0 : cond0_0 (grid0.coords t)) (hc1 : cond0_1 (grid0.coords t)) (hc2 : cond0_2 (grid0.coords t))
    (x0 : Vec F S1024x2048 .bf16) (x1 : Vec F S1x512x2048 .f32) (fh0 : HbBuf0 (F := F) c hbM0_0) (y : S1024x2048.Idx) :
    ∃ pc ∈ (kernelRun0_A c t arg2 harg2 arg4 harg4 arg5 harg5 hc0 hc1 hc2 x0 x1 fh0).1, y ∈ pc.1.set :=
  View.cover_of_tiledL (kernelRun0_A c t arg2 harg2 arg4 harg4 arg5 harg5 hc0 hc1 hc2 x0 x1 fh0).1 S1024x2048.size (by sl_kernel_rfl) y

def out0_A_2 (c : Dev nD) (t : Fin cfg0.N) (arg2 : Memref sig .tc .vmem S1024x2048 .bf16) (harg2 : arg2.IsWhole) (arg4 : Memref sig .tc .vmem S1x512x2048 .f32) (harg4 : arg4.IsWhole) (arg5 : Memref sig .tc .vmem S1024x2048 .f32) (harg5 : arg5.IsWhole) (hc0 : cond0_0 (grid0.coords t)) (hc1 : cond0_1 (grid0.coords t)) (hc2 : cond0_2 (grid0.coords t))
    (x0 : Vec F S1024x2048 .bf16) (x1 : Vec F S1x512x2048 .f32) (fh0 : HbBuf0 (F := F) c hbM0_0) : Vec F S1024x2048 .f32 :=
  VO0_2.read (Elt F) (VO0_2.writes (Elt F) VO0_2.junk (kernelRun0_A c t arg2 harg2 arg4 harg4 arg5 harg5 hc0 hc1 hc2 x0 x1 fh0).1)

theorem cover0_B_2 (c : Dev nD) (t : Fin cfg0.N) (arg2 : Memref sig .tc .vmem S1024x2048 .bf16) (harg2 : arg2.IsWhole) (arg4 : Memref sig .tc .vmem S1x512x2048 .f32) (harg4 : arg4.IsWhole) (arg5 : Memref sig .tc .vmem S1024x2048 .f32) (harg5 : arg5.IsWhole) (hc0 : ¬cond0_0 (grid0.coords t)) (hc1 : cond0_1 (grid0.coords t)) (hc2 : ¬cond0_2 (grid0.coords t))
    (x0 : Vec F S1024x2048 .bf16) (x1 : Vec F S1x512x2048 .f32) (xo2 : Vec F S1024x2048 .f32) (fh0 : HbBuf0 (F := F) c hbM0_0) (y : S1024x2048.Idx) :
    ∃ pc ∈ (kernelRun0_B c t arg2 harg2 arg4 harg4 arg5 harg5 hc0 hc1 hc2 x0 x1 xo2 fh0).1, y ∈ pc.1.set :=
  View.cover_of_tiledL (kernelRun0_B c t arg2 harg2 arg4 harg4 arg5 harg5 hc0 hc1 hc2 x0 x1 xo2 fh0).1 S1024x2048.size (by sl_kernel_rfl) y

def out0_B_2 (c : Dev nD) (t : Fin cfg0.N) (arg2 : Memref sig .tc .vmem S1024x2048 .bf16) (harg2 : arg2.IsWhole) (arg4 : Memref sig .tc .vmem S1x512x2048 .f32) (harg4 : arg4.IsWhole) (arg5 : Memref sig .tc .vmem S1024x2048 .f32) (harg5 : arg5.IsWhole) (hc0 : ¬cond0_0 (grid0.coords t)) (hc1 : cond0_1 (grid0.coords t)) (hc2 : ¬cond0_2 (grid0.coords t))
    (x0 : Vec F S1024x2048 .bf16) (x1 : Vec F S1x512x2048 .f32) (xo2 : Vec F S1024x2048 .f32) (fh0 : HbBuf0 (F := F) c hbM0_0) : Vec F S1024x2048 .f32 :=
  VO0_2.read (Elt F) (VO0_2.writes (Elt F) VO0_2.junk (kernelRun0_B c t arg2 harg2 arg4 harg4 arg5 harg5 hc0 hc1 hc2 x0 x1 xo2 fh0).1)

theorem cover0_C_2 (c : Dev nD) (t : Fin cfg0.N) (arg2 : Memref sig .tc .vmem S1024x2048 .bf16) (harg2 : arg2.IsWhole) (arg4 : Memref sig .tc .vmem S1x512x2048 .f32) (harg4 : arg4.IsWhole) (arg5 : Memref sig .tc .vmem S1024x2048 .f32) (harg5 : arg5.IsWhole) (hc0 : ¬cond0_0 (grid0.coords t)) (hc1 : cond0_1 (grid0.coords t)) (hc2 : cond0_2 (grid0.coords t))
    (x0 : Vec F S1024x2048 .bf16) (x1 : Vec F S1x512x2048 .f32) (fh0 : HbBuf0 (F := F) c hbM0_0) (y : S1024x2048.Idx) :
    ∃ pc ∈ (kernelRun0_C c t arg2 harg2 arg4 harg4 arg5 harg5 hc0 hc1 hc2 x0 x1 fh0).1, y ∈ pc.1.set :=
  View.cover_of_tiledL (kernelRun0_C c t arg2 harg2 arg4 harg4 arg5 harg5 hc0 hc1 hc2 x0 x1 fh0).1 S1024x2048.size (by sl_kernel_rfl) y

def out0_C_2 (c : Dev nD) (t : Fin cfg0.N) (arg2 : Memref sig .tc .vmem S1024x2048 .bf16) (harg2 : arg2.IsWhole) (arg4 : Memref sig .tc .vmem S1x512x2048 .f32) (harg4 : arg4.IsWhole) (arg5 : Memref sig .tc .vmem S1024x2048 .f32) (harg5 : arg5.IsWhole) (hc0 : ¬cond0_0 (grid0.coords t)) (hc1 : cond0_1 (grid0.coords t)) (hc2 : cond0_2 (grid0.coords t))
    (x0 : Vec F S1024x2048 .bf16) (x1 : Vec F S1x512x2048 .f32) (fh0 : HbBuf0 (F := F) c hbM0_0) : Vec F S1024x2048 .f32 :=
  VO0_2.read (Elt F) (VO0_2.writes (Elt F) VO0_2.junk (kernelRun0_C c t arg2 harg2 arg4 harg4 arg5 harg5 hc0 hc1 hc2 x0 x1 fh0).1)

theorem cover0_D_2 (c : Dev nD) (t : Fin cfg0.N) (arg2 : Memref sig .tc .vmem S1024x2048 .bf16) (harg2 : arg2.IsWhole) (arg4 : Memref sig .tc .vmem S1x512x2048 .f32) (harg4 : arg4.IsWhole) (arg5 : Memref sig .tc .vmem S1024x2048 .f32) (harg5 : arg5.IsWhole) (hc0 : ¬cond0_0 (grid0.coords t)) (hc1 : ¬cond0_1 (grid0.coords t)) (hc2 : ¬cond0_2 (grid0.coords t))
    (x0 : Vec F S1024x2048 .bf16) (x1 : Vec F S1x512x2048 .f32) (xo2 : Vec F S1024x2048 .f32) (fh0 : HbBuf0 (F := F) c hbM0_0) (y : S1024x2048.Idx) :
    ∃ pc ∈ (kernelRun0_D c t arg2 harg2 arg4 harg4 arg5 harg5 hc0 hc1 hc2 x0 x1 xo2 fh0).1, y ∈ pc.1.set :=
  View.cover_of_tiledL (kernelRun0_D c t arg2 harg2 arg4 harg4 arg5 harg5 hc0 hc1 hc2 x0 x1 xo2 fh0).1 S1024x2048.size (by sl_kernel_rfl) y

def out0_D_2 (c : Dev nD) (t : Fin cfg0.N) (arg2 : Memref sig .tc .vmem S1024x2048 .bf16) (harg2 : arg2.IsWhole) (arg4 : Memref sig .tc .vmem S1x512x2048 .f32) (harg4 : arg4.IsWhole) (arg5 : Memref sig .tc .vmem S1024x2048 .f32) (harg5 : arg5.IsWhole) (hc0 : ¬cond0_0 (grid0.coords t)) (hc1 : ¬cond0_1 (grid0.coords t)) (hc2 : ¬cond0_2 (grid0.coords t))
    (x0 : Vec F S1024x2048 .bf16) (x1 : Vec F S1x512x2048 .f32) (xo2 : Vec F S1024x2048 .f32) (fh0 : HbBuf0 (F := F) c hbM0_0) : Vec F S1024x2048 .f32 :=
  VO0_2.read (Elt F) (VO0_2.writes (Elt F) VO0_2.junk (kernelRun0_D c t arg2 harg2 arg4 harg4 arg5 harg5 hc0 hc1 hc2 x0 x1 xo2 fh0).1)

/-- What every grid step leaves in the result's block. -/
def outsAt0 (c : Dev nD) : (n : ℕ) → n < cfg0.N → Vec F S1024x2048 .f32
  | 0, hn => out0_A_2 c ⟨0, hn⟩ (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) ((hcond0_1 ⟨0, hn⟩).mpr (by (try dsimp only); omega)) ((hcond0_2 ⟨0, hn⟩).mpr (Nat.zero_mod _)) (iblk m c 0 ⟨0, hn⟩) (iblk m c 1 ⟨0, hn⟩) (V m c main_arg1)
  | n + 1, hn =>
    if h0 : (n + 1) % 88 = 0 then
      if h1 : (n + 1) < 86 then
        if h2 : (n + 1) % 11 = 0 then
          out0_A_2 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (V m c main_arg1)
        else
          False.elim (by have hN : n + 1 < 88 := lt_of_lt_of_eq hn (show cfg0.N = 88 from N_0); omega)
      else
        False.elim (by have hN : n + 1 < 88 := lt_of_lt_of_eq hn (show cfg0.N = 88 from N_0); omega)
    else
      if h1 : (n + 1) < 86 then
        if h2 : (n + 1) % 11 = 0 then
          out0_C_2 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (V m c main_arg1)
        else
          out0_B_2 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (outsAt0 c n (Nat.lt_of_succ_lt hn)) (V m c main_arg1)
      else
        if h2 : (n + 1) % 11 = 0 then
          False.elim (by have hN : n + 1 < 88 := lt_of_lt_of_eq hn (show cfg0.N = 88 from N_0); omega)
        else
          out0_D_2 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (outsAt0 c n (Nat.lt_of_succ_lt hn)) (V m c main_arg1)

theorem outsAt0_A (c : Dev nD) (t : Fin cfg0.N) (h0 : t.val % 88 = 0) (h1 : t.val < 86) (h2 : t.val % 11 = 0) :
    outsAt0 m c t.val t.isLt = out0_A_2 c t (ms0_0 t) (hs0_0 t) (ms0_1 t) (hs0_1 t) (ms0_2 t) (hs0_2 t) ((hcond0_0 t).mpr h0) ((hcond0_1 t).mpr h1) ((hcond0_2 t).mpr h2) (iblk m c 0 t) (iblk m c 1 t) (V m c main_arg1) := by
  obtain ⟨n, hn⟩ := t
  cases n with
  | zero => exact rfl
  | succ n => exact (dif_pos h0).trans ((dif_pos h1).trans ((dif_pos h2).trans rfl))

theorem outsAt0_B (c : Dev nD) (t : Fin cfg0.N) (h0 : ¬t.val % 88 = 0) (h1 : t.val < 86) (h2 : ¬t.val % 11 = 0) :
    outsAt0 m c t.val t.isLt = out0_B_2 c t (ms0_0 t) (hs0_0 t) (ms0_1 t) (hs0_1 t) (ms0_2 t) (hs0_2 t) (fun h => h0 ((hcond0_0 t).mp h)) ((hcond0_1 t).mpr h1) (fun h => h2 ((hcond0_2 t).mp h)) (iblk m c 0 t) (iblk m c 1 t) (outsAt0 m c (t.val - 1) (Nat.lt_of_le_of_lt (Nat.sub_le _ _) t.isLt)) (V m c main_arg1) := by
  obtain ⟨n, hn⟩ := t
  cases n with
  | zero => exact (by exfalso; (try dsimp only at h0); exact absurd (Nat.zero_mod _) h0)
  | succ n => exact (dif_neg h0).trans ((dif_pos h1).trans ((dif_neg h2).trans rfl))

theorem outsAt0_C (c : Dev nD) (t : Fin cfg0.N) (h0 : ¬t.val % 88 = 0) (h1 : t.val < 86) (h2 : t.val % 11 = 0) :
    outsAt0 m c t.val t.isLt = out0_C_2 c t (ms0_0 t) (hs0_0 t) (ms0_1 t) (hs0_1 t) (ms0_2 t) (hs0_2 t) (fun h => h0 ((hcond0_0 t).mp h)) ((hcond0_1 t).mpr h1) ((hcond0_2 t).mpr h2) (iblk m c 0 t) (iblk m c 1 t) (V m c main_arg1) := by
  obtain ⟨n, hn⟩ := t
  cases n with
  | zero => exact (by exfalso; (try dsimp only at h0); exact absurd (Nat.zero_mod _) h0)
  | succ n => exact (dif_neg h0).trans ((dif_pos h1).trans ((dif_pos h2).trans rfl))

theorem outsAt0_D (c : Dev nD) (t : Fin cfg0.N) (h0 : ¬t.val % 88 = 0) (h1 : ¬t.val < 86) (h2 : ¬t.val % 11 = 0) :
    outsAt0 m c t.val t.isLt = out0_D_2 c t (ms0_0 t) (hs0_0 t) (ms0_1 t) (hs0_1 t) (ms0_2 t) (hs0_2 t) (fun h => h0 ((hcond0_0 t).mp h)) (fun h => h1 ((hcond0_1 t).mp h)) (fun h => h2 ((hcond0_2 t).mp h)) (iblk m c 0 t) (iblk m c 1 t) (outsAt0 m c (t.val - 1) (Nat.lt_of_le_of_lt (Nat.sub_le _ _) t.isLt)) (V m c main_arg1) := by
  obtain ⟨n, hn⟩ := t
  cases n with
  | zero => exact (by exfalso; (try dsimp only at h0); exact absurd (Nat.zero_mod _) h0)
  | succ n => exact (dif_neg h0).trans ((dif_neg h1).trans ((dif_neg h2).trans rfl))

/-- What is held between grid steps: the ring and the generator. -/
def PhiR (c : Dev nD) (k : ℕ) : sProp 𝕄 := iprop((∃ r, prngReg c r) ∗ (ringAt0_0 c (V m c main_arg1) k ∗ spareP0_0 c))

/-- What the pipeline's windows hold at every grid step. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ t := PhiR m c t.val
  q _ := fullShare
  owed _ := 0

theorem A_eq (c : Dev nD) (w : Fin cfg0.W) : (dats m 0 c).A w = V m c (Pipeline.arrRef spec0 w) := by
  dsimp only [dats]

theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2_B (c : Dev nD) (t : Fin cfg0.N) (h0 : ¬t.val % 88 = 0) (h1 : t.val < 86) (h2 : ¬t.val % 11 = 0) (d) :
    (dats m 0 c).before 2 t d = (outsAt0 m c (t.val - 1) (Nat.lt_of_le_of_lt (Nat.sub_le _ _) t.isLt)) := by
  have hN : t.val < 88 := lt_of_lt_of_eq t.isLt (show cfg0.N = 88 from N_0)
  rw [Dat.before_out_kept _ 2 rfl t (by omega) (Bool.eq_false_iff.mpr fun h => by have := (flush0_2 _).mp h; dsimp only at this; omega)
    (fun _ => rfl) (fun _ _ => rfl)]
  dsimp only [dats]
theorem before0_2_D (c : Dev nD) (t : Fin cfg0.N) (h0 : ¬t.val % 88 = 0) (h1 : ¬t.val < 86) (h2 : ¬t.val % 11 = 0) (d) :
    (dats m 0 c).before 2 t d = (outsAt0 m c (t.val - 1) (Nat.lt_of_le_of_lt (Nat.sub_le _ _) t.isLt)) := by
  have hN : t.val < 88 := lt_of_lt_of_eq t.isLt (show cfg0.N = 88 from N_0)
  rw [Dat.before_out_kept _ 2 rfl t (by omega) (Bool.eq_false_iff.mpr fun h => by have := (flush0_2 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 1600000 in
/-- The body at every grid step, by its kind. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [after0_0, after0_1, after0_2]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0
  have hgN : grid0.N = 88 := N_0
  have hN : t.val < 88 := lt_of_lt_of_eq t.isLt (show cfg0.N = 88 from N_0)
  by_cases h0 : t.val % 88 = 0
  · by_cases h1 : t.val < 86
    · by_cases h2 : t.val % 11 = 0
      · rw [outsAt0_A m c t h0 h1 h2]
        unfold out0_A_2
        have hr0 := rstep0_0_A t ((hcond0_0 t).mpr h0) ((hcond0_1 t).mpr h1) ((hcond0_2 t).mpr h2)
        obtain ⟨hK00, hK10⟩ := hr0
        rw [if_pos hK00, if_neg (show ¬t.val + 1 = 0 by omega)]
        rw [Ring.At₀_eq3' _ _ _ t.val hK00 (by decide : 3 ≤ 88), Ring.At3_one' _ _ _ _ t.val hK00 (by decide : 3 ≤ 88)]
        iintro ⟨⟨Hg, ⟨⟨-, Hfr0_0_0, Hfr0_0_1, Hfr0_0_2⟩, HSp0_0⟩⟩, ⟨%W, -, HW⟩, ⟨%d0, H0⟩, ⟨%d1, H1⟩, ⟨%d2, H2⟩⟩
        iapply ((kernelRun0_A c t _ _ _ _ _ _ ((hcond0_0 t).mpr h0) ((hcond0_1 t).mpr h1) ((hcond0_2 t).mpr h2) (iblk m c 0 t) (iblk m c 1 t) (V m c main_arg1)).2 W _)
        isplitl [H0]; · iexact H0
        isplitl [H1]; · iexact H1
        isplitl [H2]; · iexists _; iexact H2
        isplitl [Hfr0_0_0]; · iexact Hfr0_0_0
        isplitl [Hfr0_0_1]; · iexact Hfr0_0_1
        isplitl [Hfr0_0_2]; · iexact Hfr0_0_2
        isplitl [HW]; · iexact HW
        iintro ⟨H0, H1, ⟨%e2, H2⟩, Hfa0_0', Hfb0_0', Hfc0_0', ⟨%W', HW'⟩⟩
        isplitl [Hg HSp0_0 Hfa0_0' Hfb0_0' Hfc0_0']
        · isplitl [Hg]; · iexact Hg
          isplitl [Hfa0_0' Hfb0_0' Hfc0_0']
          · iapply (Ring.with_homes (Idealize.SL.BI.Entails.refl _))
            isplitl [Hfa0_0']; · iexact Hfa0_0'
            isplitl [Hfb0_0']; · iexact Hfb0_0'
            iexact Hfc0_0'
          iexact HSp0_0
        isplitl [HW']
        · iexists W'; isplitr; · ipureintro; exact fun _ _ => Or.inl trivial
          iexact HW'
        isplitl [H0]; · iexact H0
        isplitl [H1]; · iexact H1
        unfold owns; iexists _; isplitr
        swap; · iexact H2
        ipureintro; exact View.read_writes_of_cover _ _ _ _ _ (cover0_A_2 c _ _ _ _ _ _ _ _ _ _ _ _ _)
      · exfalso; omega
    · exfalso; omega
  · by_cases h1 : t.val < 86
    · by_cases h2 : t.val % 11 = 0
      · rw [outsAt0_C m c t h0 h1 h2]
        unfold out0_C_2
        have hr0 := rstep0_0_C t (fun h => h0 ((hcond0_0 t).mp h)) ((hcond0_1 t).mpr h1) ((hcond0_2 t).mpr h2)
        obtain ⟨hK10, hKB0, hKs0⟩ := hr0
        rw [if_neg (show ¬t.val = 0 by omega), if_neg (show ¬t.val + 1 = 0 by omega)]
        rw [Ring.At3_here _ _ _ _ t.val hKB0, Ring.At3_next _ _ _ _ t.val hKB0, Ring.slotAt3_next0 _ _ _ t.val (by omega), Ring.slotAt3_next1 _ _ _ t.val hKB0]
        iintro ⟨⟨Hg, ⟨⟨-, Hfr0_0_0, Hfr0_0_1, Hfr0_0_2⟩, HSp0_0⟩⟩, ⟨%W, -, HW⟩, ⟨%d0, H0⟩, ⟨%d1, H1⟩, ⟨%d2, H2⟩⟩
        iapply ((kernelRun0_C c t _ _ _ _ _ _ (fun h => h0 ((hcond0_0 t).mp h)) ((hcond0_1 t).mpr h1) ((hcond0_2 t).mpr h2) (iblk m c 0 t) (iblk m c 1 t) (V m c main_arg1)).2 W _)
        isplitl [H0]; · iexact H0
        isplitl [H1]; · iexact H1
        isplitl [H2]; · iexists _; iexact H2
        isplitl [Hfr0_0_0]; · iexact Hfr0_0_0
        isplitl [Hfr0_0_1]; · iexact Hfr0_0_1
        isplitl [Hfr0_0_2]; · iexact Hfr0_0_2
        isplitl [HW]; · iexact HW
        iintro ⟨H0, H1, ⟨%e2, H2⟩, Hfa0_0', Hfb0_0', Hfc0_0', ⟨%W', HW'⟩⟩
        isplitl [Hg HSp0_0 Hfa0_0' Hfb0_0' Hfc0_0']
        · isplitl [Hg]; · iexact Hg
          isplitl [Hfa0_0' Hfb0_0' Hfc0_0']
          · iapply (Ring.with_homes (Idealize.SL.BI.Entails.refl _))
            isplitl [Hfa0_0']; · iexact Hfa0_0'
            isplitl [Hfb0_0']; · iexact Hfb0_0'
            iexact Hfc0_0'
          iexact HSp0_0
        isplitl [HW']
        · iexists W'; isplitr; · ipureintro; exact fun _ _ => Or.inl trivial
          iexact HW'
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _)
      · rw [outsAt0_B m c t h0 h1 h2]
        simp only [before0_2_B m c t h0 h1 h2]
        unfold out0_B_2
        have hr0 := rstep0_0_B t (fun h => h0 ((hcond0_0 t).mp h)) ((hcond0_1 t).mpr h1) (fun h => h2 ((hcond0_2 t).mp h))
        obtain ⟨hK10, hKB0, hKs0⟩ := hr0
        rw [if_neg (show ¬t.val = 0 by omega), if_neg (show ¬t.val + 1 = 0 by omega)]
        rw [Ring.At3_here _ _ _ _ t.val hKB0, Ring.At3_next _ _ _ _ t.val hKB0, Ring.slotAt3_next0 _ _ _ t.val (by omega), Ring.slotAt3_next1 _ _ _ t.val hKB0]
        iintro ⟨⟨Hg, ⟨⟨-, Hfr0_0_0, Hfr0_0_1, Hfr0_0_2⟩, HSp0_0⟩⟩, ⟨%W, -, HW⟩, ⟨%d0, H0⟩, ⟨%d1, H1⟩, ⟨%d2, H2⟩⟩
        iapply ((kernelRun0_B c t _ _ _ _ _ _ (fun h => h0 ((hcond0_0 t).mp h)) ((hcond0_1 t).mpr h1) (fun h => h2 ((hcond0_2 t).mp h)) (iblk m c 0 t) (iblk m c 1 t) _ (V m c main_arg1)).2 W _)
        isplitl [H0]; · iexact H0
        isplitl [H1]; · iexact H1
        isplitl [H2]; · iexact H2
        isplitl [Hfr0_0_0]; · iexact Hfr0_0_0
        isplitl [Hfr0_0_1]; · iexact Hfr0_0_1
        isplitl [Hfr0_0_2]; · iexact Hfr0_0_2
        isplitl [HW]; · iexact HW
        iintro ⟨H0, H1, ⟨%e2, H2⟩, Hfa0_0', Hfb0_0', Hfc0_0', ⟨%W', HW'⟩⟩
        isplitl [Hg HSp0_0 Hfa0_0' Hfb0_0' Hfc0_0']
        · isplitl [Hg]; · iexact Hg
          isplitl [Hfa0_0' Hfb0_0' Hfc0_0']
          · iapply (Ring.with_homes (Idealize.SL.BI.Entails.refl _))
            isplitl [Hfa0_0']; · iexact Hfa0_0'
            isplitl [Hfb0_0']; · iexact Hfb0_0'
            iexact Hfc0_0'
          iexact HSp0_0
        isplitl [HW']
        · iexists W'; isplitr; · ipureintro; exact fun _ _ => Or.inl trivial
          iexact HW'
        isplitl [H0]; · iexact H0
        isplitl [H1]; · iexact H1
        unfold owns; iexists _; isplitr
        swap; · iexact H2
        ipureintro; exact View.read_writes_of_cover _ _ _ _ _ (cover0_B_2 c _ _ _ _ _ _ _ _ _ _ _ _ _ _)
    · by_cases h2 : t.val % 11 = 0
      · exfalso; omega
      · rw [outsAt0_D m c t h0 h1 h2]
        simp only [before0_2_D m c t h0 h1 h2]
        unfold out0_D_2
        have hr0 := rstep0_0_D t (fun h => h0 ((hcond0_0 t).mp h)) (fun h => h1 ((hcond0_1 t).mp h)) (fun h => h2 ((hcond0_2 t).mp h))
        obtain ⟨hK10, hKB0, hKlt0, hKs0⟩ := hr0
        rw [if_neg (show ¬t.val = 0 by omega), if_neg (show ¬t.val + 1 = 0 by omega)]
        rw [Ring.At3_here_tail _ _ _ _ t.val hKlt0, Ring.At3_next_tail _ _ _ _ t.val hKB0 hKlt0, Ring.slotAt3_tail_role _ _ _ t.val]
        iintro ⟨⟨Hg, ⟨⟨-, Hfr0_0_0, Hfr0_0_1, Hfr0_0_2⟩, HSp0_0⟩⟩, ⟨%W, -, HW⟩, ⟨%d0, H0⟩, ⟨%d1, H1⟩, ⟨%d2, H2⟩⟩
        iapply ((kernelRun0_D c t _ _ _ _ _ _ (fun h => h0 ((hcond0_0 t).mp h)) (fun h => h1 ((hcond0_1 t).mp h)) (fun h => h2 ((hcond0_2 t).mp h)) (iblk m c 0 t) (iblk m c 1 t) _ (V m c main_arg1)).2 W _)
        isplitl [H0]; · iexact H0
        isplitl [H1]; · iexact H1
        isplitl [H2]; · iexact H2
        isplitl [Hfr0_0_0]; · iexact Hfr0_0_0
        isplitl [Hfr0_0_1]; · iexact Hfr0_0_1
        isplitl [Hfr0_0_2]; · iexact Hfr0_0_2
        isplitl [HW]; · iexact HW
        iintro ⟨H0, H1, ⟨%e2, H2⟩, Hfa0_0', Hfb0_0', Hfc0_0', ⟨%W', HW'⟩⟩
        isplitl [Hg HSp0_0 Hfa0_0' Hfb0_0' Hfc0_0']
        · isplitl [Hg]; · iexact Hg
          isplitl [Hfa0_0' Hfb0_0' Hfc0_0']
          · iapply (Ring.with_homes (Idealize.SL.BI.Entails.refl _))
            isplitl [Hfa0_0']; · iexact Hfa0_0'
            isplitl [Hfb0_0']; · iexact Hfb0_0'
            iexact Hfc0_0'
          iexact HSp0_0
        isplitl [HW']
        · iexists W'; isplitr; · ipureintro; exact fun _ _ => Or.inl trivial
          iexact HW'
        isplitl [H0]; · iexact H0
        isplitl [H1]; · iexact H1
        unfold owns; iexists _; isplitr
        swap; · iexact H2
        ipureintro; exact View.read_writes_of_cover _ _ _ _ _ (cover0_D_2 c _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- Every grid step does what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch gives is what the first grid step needs. -/
theorem hin (c : Dev nD) : Pipeline.ΦD osem0 spec0 H0 (V m) c ⊢ (dats m 0 c).Φ 0 := by
  rw [PhiD0_eq, show (dats m 0 c).Φ 0 = PhiR m c 0 from rfl]
  unfold PhiR
  iintro ⟨HR0_0, Hg, ⟨Hq0, Hq1, Hq2, Hq3, Hq4, Hq5⟩, Hh0⟩
  isplitl [Hg]; · iexact Hg
  iapply (ring0_0_in (F := F) m c)
  isplitl [HR0_0]; · iexact HR0_0
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  iexact Hh0
/-- What the last grid step leaves is what the launch takes back. -/
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 88 by rw [N_0]]
  iintro ⟨Hg, HR0_0⟩
  ihave HX0_0 := (ring0_0_out (F := F) m c) $$ HR0_0
  icases HX0_0 with ⟨HR0_0, ⟨Hq0, Hq1, Hq2, Hq3, Hq4, Hq5⟩, Hh0⟩
  isplitl [HR0_0]
  · iexact HR0_0
  isplitl [Hg]
  · iexact Hg
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  iexact Hh0

-- the launch theorem's arguments are found by unification
set_option backward.isDefEq.respectTransparency.types false in
/-- The run with the pipeline's arrays and all counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The run with the pipeline's arrays. -/
theorem run_main : θ_run defs (onTc (τ := τ) (main (F := F))) (s₀ m ρ) (Pipeline.FramePost cfgs (dats m) 0 (V m)) :=
  (θ_run defs _ _).mono (fun _ h => h.1) (run_main_quiescent m ρ)

/-- The arguments are kept. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The kernel runs, keeps its arguments and leaves every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (unchanged m ρ) ((θ_run defs _ _).mono (fun _ h => h.2) (run_main_quiescent m ρ))

/-- The run with the result named: what the pipeline's output array holds at the end. -/
theorem run_blocks : θ_run defs (onTc (τ := τ) (main (F := F))) ⟨m, fun _ => 0, ρ⟩ (fun r => ∀ c : Dev nD,
      r.2.mem ((c : Thread nD τ).loc main_v0) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  have h : θ_run defs (onTc (τ := τ) (main (F := F))) ⟨m, fun _ => 0, ρ⟩ (fun r => ∀ c : Dev nD,
      r.2.mem ((c : Thread nD τ).loc main_v0) = (dats m 0 c).arrAt 2 cfg0.N) :=
    (θ_run defs _ _).mono (fun r h c => (h c).1 2) (run_main m ρ)
  (θ_run defs _ _).mono (fun _ h c => ⟨h.1 c, h.2 c⟩) (θ_run_and h (unchanged m ρ))

end Cert.FfnIdeal.Run

end
-- ==== Proof.FfnModel.lean ====
module

public import Idealize.ShloMosaic.Lib.IdealHost
public import Idealize.ShloMosaic.Lib.Pipeline.ValueKit

@[expose] public section

noncomputable section

namespace Cert.Swi

open Idealize.ShloMosaic
open scoped BigOperators

/-! # The feed-forward call as one function of its arrays -/

/-- The kernel's factor of a half. -/
abbrev half : EReal := Ideal.ofBits .f32 0x3F000000#32

/-- The arrays the call reads, as functions of their coordinates (one layer's slice of each weight). -/
structure Args where
  /-- the normed activations -/
  x : Fin 8192 → Fin 2048 → EReal
  /-- the gate's and the input's weights, side by side -/
  w : Fin 2048 → Fin 11264 → EReal
  /-- the output weight -/
  o : Fin 5632 → Fin 2048 → EReal

namespace Args
variable (A : Args)

/-- The gate's column `l` of row `r`. -/
def gate (r : Fin 8192) (l : Fin 5632) : EReal := ∑ j : Fin 2048, A.x r j * A.w j ⟨l.val, by omega⟩

/-- The input's column `l` of row `r`. -/
def up (r : Fin 8192) (l : Fin 5632) : EReal := ∑ j : Fin 2048, A.x r j * A.w j ⟨l.val + 5632, by omega⟩

/-- What column `l` gives to the result at row `r`, column `k`. -/
def term (r : Fin 8192) (k : Fin 2048) (l : Fin 5632) : EReal :=
  half * A.gate r l * Ideal.logistic (A.gate r l) * A.up r l * A.o l k

/-- The same by the column's number. -/
def termN (r : Fin 8192) (k : Fin 2048) (l : ℕ) : EReal := A.term r k ⟨l % 5632, Nat.mod_lt _ (by norm_num)⟩

/-- What the first `n` tiles of 512 columns give. -/
def acc (r : Fin 8192) (k : Fin 2048) (n : ℕ) : EReal := ∑ s ∈ Finset.range n, ∑ q : Fin 512, A.termN r k (s * 512 + q.val)

/-- The reference's result: half of the product over all columns. -/
def res (r : Fin 8192) (k : Fin 2048) : EReal :=
  half * ∑ l : Fin 5632, A.gate r l * Ideal.logistic (A.gate r l) * A.up r l * A.o l k

theorem half_eq : half = ((1 / 2 : ℝ) : EReal) := by
  simp [half, Ideal.ofBits, Ideal.ieee, -EReal.coe_mul]; norm_num

/-- A half distributes over a sum. -/
theorem half_sum {ι : Type*} (s : Finset ι) (f : ι → EReal) : half * ∑ i ∈ s, f i = ∑ i ∈ s, half * f i := by
  classical
  rw [half_eq]
  induction s using Finset.induction_on with
  | empty => simp
  | insert i s hi ih =>
    rw [Finset.sum_insert hi, Finset.sum_insert hi, ← ih]
    exact EReal.left_distrib_of_nonneg_of_ne_top (by exact_mod_cast (by norm_num : (0:ℝ) ≤ 1 / 2)) (EReal.coe_ne_top _) _ _

/-- All eleven tiles together give the reference's result. -/
theorem acc_eq (r : Fin 8192) (k : Fin 2048) : A.acc r k 11 = A.res r k := by
  unfold acc res
  rw [half_sum, ← Fin.sum_univ_eq_sum_range (fun s => ∑ q : Fin 512, A.termN r k (s * 512 + q.val)) 11]
  refine (Fin.sum_univ_univ_mul_add 11 512 (A.termN r k)).trans (Finset.sum_congr rfl fun (l : Fin 5632) _ => ?_)
  have hl : (⟨l.val % 5632, Nat.mod_lt _ (by norm_num)⟩ : Fin 5632) = l := Fin.ext (Nat.mod_eq_of_lt l.isLt)
  unfold termN
  rw [hl]
  unfold term
  simp only [mul_assoc]

theorem acc_succ (r : Fin 8192) (k : Fin 2048) (n : ℕ) :
    A.acc r k (n + 1) = A.acc r k n + ∑ q : Fin 512, A.termN r k (n * 512 + q.val) := Finset.sum_range_succ _ _

theorem acc_zero (r : Fin 8192) (k : Fin 2048) : A.acc r k 0 = 0 := Finset.sum_range_zero _

end Args

end Cert.Swi

end
-- ==== Proof.FfnVal.lean ====
module

public import proofs.«01_k».proof.Proof.FfnTile
public import proofs.«01_k».proof.Proof.FfnFrame
public import proofs.«01_k».proof.Proof.FfnModel
public import Idealize.ShloMosaic.Lib.VecWindow

@[expose] public section

set_option maxRecDepth 16384

noncomputable section

namespace Cert.FfnIdeal.Run

open Cert.FfnIdeal.Gen
open Idealize.ShloMosaic Idealize.ShloMosaic.TcCoe Idealize.SL.Sem
open scoped BigOperators

/-- One step at an entry: what the block held, and the tile's share of the second product. -/
theorem pay2_at (x : Vec Ideal S1024x2048 .bf16) (g u : Vec Ideal S1x1x2048x512 .f32) (p : Vec Ideal S1024x2048 .f32)
    (o : Vec Ideal S1x512x2048 .f32) (r : Fin 1024) (k : Fin 2048) :
    k0_pay2 x g u p o (ix2 r k) = HAdd.hAdd (α := EReal) (β := EReal) (γ := EReal) (p (ix2 r k))
      (∑ n : Fin 512, (Swi.half * (∑ j : Fin 2048, (HMul.hMul (α := EReal) (β := EReal) (γ := EReal) (x (ix2 r j)) (g (ix4 0 0 j n))))
        * Ideal.logistic (∑ j : Fin 2048, (HMul.hMul (α := EReal) (β := EReal) (γ := EReal) (x (ix2 r j)) (g (ix4 0 0 j n))))
        * (∑ j : Fin 2048, (HMul.hMul (α := EReal) (β := EReal) (γ := EReal) (x (ix2 r j)) (u (ix4 0 0 j n))))) * (o (ix3 0 n k))) := by
  unfold k0_pay2
  pointwise

/-- The slab's cast read at an entry. -/
theorem cast4_at {F : FTy → Type} [FloatOps F] (X : Vec F S1x1x2048x512 .f32) (k : Fin 2048) (n : Fin 512) :
    shapeCast S2048x512 X shapeCasts_S1x1x2048x512_S2048x512 (ix2 k n) = X (ix4 0 0 k n) := by
  pointwise

/-- The zeros the block starts from. -/
theorem pay1_at (r : Fin 1024) (k : Fin 2048) : k0_pay1 (F := Ideal) (ix2 r k) = (0 : EReal) := by
  unfold k0_pay1
  pointwise

section
variable {F : FTy → Type} [FloatOps F]
variable (c : Dev nD) (t : Fin cfg0.N) (arg2 : Memref sig .tc .vmem S1024x2048 .bf16) (harg2 : arg2.IsWhole)
  (arg4 : Memref sig .tc .vmem S1x512x2048 .f32) (harg4 : arg4.IsWhole) (arg5 : Memref sig .tc .vmem S1024x2048 .f32) (harg5 : arg5.IsWhole)
  (x0 : Vec F S1024x2048 .bf16) (x1 : Vec F S1x512x2048 .f32) (xo2 : Vec F S1024x2048 .f32) (fh0 : HbBuf0 (F := F) c hbM0_0)

/-- What a point of this kind leaves in the block. -/
theorem out_A (hc0 : cond0_0 (grid0.coords t)) (hc1 : cond0_1 (grid0.coords t)) (hc2 : cond0_2 (grid0.coords t)) :
    out0_A_2 c t arg2 harg2 arg4 harg4 arg5 harg5 hc0 hc1 hc2 x0 x1 fh0
      = k0_pay2 x0 (kernelRun0_A.sl.v34 c t fh0) (kernelRun0_A.sl.v39 c t fh0) k0_pay1 x1 := by
  unfold out0_A_2 kernelRun0_A
  dsimp only
  refine (View.read_writes_full (s := S1024x2048) VO0_2 _ (by decide) _ _).trans ?_
  have e0 : View.readAt (Elt F) arg2.view (Rect.unit ![0, 0] ![1024, 2048] inb_S1024x2048_S1024x2048_0_0).toLoadRect (harg2.unread x0) = x0 :=
    (View.readAt_full (s := S1024x2048) arg2.view _ _).trans (harg2.read_unread x0)
  have e1 : View.readAt (Elt F) arg4.view (Rect.unit ![0, 0, 0] ![1, 512, 2048] inb_S1x512x2048_S1x512x2048_0_0_0).toLoadRect (harg4.unread x1) = x1 :=
    (View.readAt_full (s := S1x512x2048) arg4.view _ _).trans (harg4.read_unread x1)
  have e2 : kernelRun0_A.sl.v48 (F := F) c arg5 = k0_pay1 := by
    unfold kernelRun0_A.sl.v48 kernelRun0_A.sl.H2_1
    exact View.readCov_full (s := S1024x2048) arg5.view _ _ _ _
  exact congr (congr (congrArg (fun a b d => k0_pay2 a _ _ b d) e0) e2) e1

/-- A slab's entry is the weight's. -/
theorem v34_A (k : Fin 2048) (n : Fin 512) : kernelRun0_A.sl.v34 c t fh0 (ix4 0 0 k n : S1x1x2048x512.Idx)
    = fh0 (ix3 0 k ⟨512 * (t.val % 11) + n.val, by omega⟩ : S2x2048x11264.Idx) := by
  refine (cast4_at (kernelRun0_A.sl.v34 c t fh0) k n).symm.trans ?_
  unfold kernelRun0_A.sl.v34 kernelRun0_A.sl.dma0
  exact slot0_at c t fh0 _ _ k n

/-- A slab's entry is the weight's. -/
theorem v39_A (k : Fin 2048) (n : Fin 512) : kernelRun0_A.sl.v39 c t fh0 (ix4 0 0 k n : S1x1x2048x512.Idx)
    = fh0 (ix3 0 k ⟨512 * (t.val % 11) + n.val + 5632, by omega⟩ : S2x2048x11264.Idx) := by
  refine (cast4_at (kernelRun0_A.sl.v39 c t fh0) k n).symm.trans ?_
  unfold kernelRun0_A.sl.v39 kernelRun0_A.sl.dma0_1
  exact slot1_at c t fh0 _ _ k n

/-- What a point of this kind leaves in the block. -/
theorem out_B (hc0 : ¬cond0_0 (grid0.coords t)) (hc1 : cond0_1 (grid0.coords t)) (hc2 : ¬cond0_2 (grid0.coords t)) :
    out0_B_2 c t arg2 harg2 arg4 harg4 arg5 harg5 hc0 hc1 hc2 x0 x1 xo2 fh0
      = k0_pay2 x0 (kernelRun0_B.sl.v34 c t fh0) (kernelRun0_B.sl.v39 c t fh0) xo2 x1 := by
  unfold out0_B_2 kernelRun0_B
  dsimp only
  refine (View.read_writes_full (s := S1024x2048) VO0_2 _ (by decide) _ _).trans ?_
  have e0 : View.readAt (Elt F) arg2.view (Rect.unit ![0, 0] ![1024, 2048] inb_S1024x2048_S1024x2048_0_0).toLoadRect (harg2.unread x0) = x0 :=
    (View.readAt_full (s := S1024x2048) arg2.view _ _).trans (harg2.read_unread x0)
  have e1 : View.readAt (Elt F) arg4.view (Rect.unit ![0, 0, 0] ![1, 512, 2048] inb_S1x512x2048_S1x512x2048_0_0_0).toLoadRect (harg4.unread x1) = x1 :=
    (View.readAt_full (s := S1x512x2048) arg4.view _ _).trans (harg4.read_unread x1)
  have e2 : View.readAt (Elt F) arg5.view (Rect.unit ![0, 0] ![1024, 2048] inb_S1024x2048_S1024x2048_0_0).toLoadRect (harg5.unread xo2) = xo2 :=
    (View.readAt_full (s := S1024x2048) arg5.view _ _).trans (harg5.read_unread xo2)
  exact congr (congr (congrArg (fun a b d => k0_pay2 a _ _ b d) e0) e2) e1

/-- A slab's entry is the weight's. -/
theorem v34_B (k : Fin 2048) (n : Fin 512) : kernelRun0_B.sl.v34 c t fh0 (ix4 0 0 k n : S1x1x2048x512.Idx)
    = fh0 (ix3 0 k ⟨512 * (t.val % 11) + n.val, by omega⟩ : S2x2048x11264.Idx) := by
  refine (cast4_at (kernelRun0_B.sl.v34 c t fh0) k n).symm.trans ?_
  unfold kernelRun0_B.sl.v34
  exact slot0_at c t fh0 _ _ k n

/-- A slab's entry is the weight's. -/
theorem v39_B (k : Fin 2048) (n : Fin 512) : kernelRun0_B.sl.v39 c t fh0 (ix4 0 0 k n : S1x1x2048x512.Idx)
    = fh0 (ix3 0 k ⟨512 * (t.val % 11) + n.val + 5632, by omega⟩ : S2x2048x11264.Idx) := by
  refine (cast4_at (kernelRun0_B.sl.v39 c t fh0) k n).symm.trans ?_
  unfold kernelRun0_B.sl.v39
  exact slot1_at c t fh0 _ _ k n

/-- What a point of this kind leaves in the block. -/
theorem out_C (hc0 : ¬cond0_0 (grid0.coords t)) (hc1 : cond0_1 (grid0.coords t)) (hc2 : cond0_2 (grid0.coords t)) :
    out0_C_2 c t arg2 harg2 arg4 harg4 arg5 harg5 hc0 hc1 hc2 x0 x1 fh0
      = k0_pay2 x0 (kernelRun0_C.sl.v34 c t fh0) (kernelRun0_C.sl.v39 c t fh0) k0_pay1 x1 := by
  unfold out0_C_2 kernelRun0_C
  dsimp only
  refine (View.read_writes_full (s := S1024x2048) VO0_2 _ (by decide) _ _).trans ?_
  have e0 : View.readAt (Elt F) arg2.view (Rect.unit ![0, 0] ![1024, 2048] inb_S1024x2048_S1024x2048_0_0).toLoadRect (harg2.unread x0) = x0 :=
    (View.readAt_full (s := S1024x2048) arg2.view _ _).trans (harg2.read_unread x0)
  have e1 : View.readAt (Elt F) arg4.view (Rect.unit ![0, 0, 0] ![1, 512, 2048] inb_S1x512x2048_S1x512x2048_0_0_0).toLoadRect (harg4.unread x1) = x1 :=
    (View.readAt_full (s := S1x512x2048) arg4.view _ _).trans (harg4.read_unread x1)
  have e2 : kernelRun0_C.sl.v48 (F := F) c arg5 = k0_pay1 := by
    unfold kernelRun0_C.sl.v48 kernelRun0_C.sl.H2_1
    exact View.readCov_full (s := S1024x2048) arg5.view _ _ _ _
  exact congr (congr (congrArg (fun a b d => k0_pay2 a _ _ b d) e0) e2) e1

/-- A slab's entry is the weight's. -/
theorem v34_C (k : Fin 2048) (n : Fin 512) : kernelRun0_C.sl.v34 c t fh0 (ix4 0 0 k n : S1x1x2048x512.Idx)
    = fh0 (ix3 0 k ⟨512 * (t.val % 11) + n.val, by omega⟩ : S2x2048x11264.Idx) := by
  refine (cast4_at (kernelRun0_C.sl.v34 c t fh0) k n).symm.trans ?_
  unfold kernelRun0_C.sl.v34
  exact slot0_at c t fh0 _ _ k n

/-- A slab's entry is the weight's. -/
theorem v39_C (k : Fin 2048) (n : Fin 512) : kernelRun0_C.sl.v39 c t fh0 (ix4 0 0 k n : S1x1x2048x512.Idx)
    = fh0 (ix3 0 k ⟨512 * (t.val % 11) + n.val + 5632, by omega⟩ : S2x2048x11264.Idx) := by
  refine (cast4_at (kernelRun0_C.sl.v39 c t fh0) k n).symm.trans ?_
  unfold kernelRun0_C.sl.v39
  exact slot1_at c t fh0 _ _ k n

/-- What a point of this kind leaves in the block. -/
theorem out_D (hc0 : ¬cond0_0 (grid0.coords t)) (hc1 : ¬cond0_1 (grid0.coords t)) (hc2 : ¬cond0_2 (grid0.coords t)) :
    out0_D_2 c t arg2 harg2 arg4 harg4 arg5 harg5 hc0 hc1 hc2 x0 x1 xo2 fh0
      = k0_pay2 x0 (kernelRun0_D.sl.v34 c t fh0) (kernelRun0_D.sl.v39 c t fh0) xo2 x1 := by
  unfold out0_D_2 kernelRun0_D
  dsimp only
  refine (View.read_writes_full (s := S1024x2048) VO0_2 _ (by decide) _ _).trans ?_
  have e0 : View.readAt (Elt F) arg2.view (Rect.unit ![0, 0] ![1024, 2048] inb_S1024x2048_S1024x2048_0_0).toLoadRect (harg2.unread x0) = x0 :=
    (View.readAt_full (s := S1024x2048) arg2.view _ _).trans (harg2.read_unread x0)
  have e1 : View.readAt (Elt F) arg4.view (Rect.unit ![0, 0, 0] ![1, 512, 2048] inb_S1x512x2048_S1x512x2048_0_0_0).toLoadRect (harg4.unread x1) = x1 :=
    (View.readAt_full (s := S1x512x2048) arg4.view _ _).trans (harg4.read_unread x1)
  have e2 : View.readAt (Elt F) arg5.view (Rect.unit ![0, 0] ![1024, 2048] inb_S1024x2048_S1024x2048_0_0).toLoadRect (harg5.unread xo2) = xo2 :=
    (View.readAt_full (s := S1024x2048) arg5.view _ _).trans (harg5.read_unread xo2)
  exact congr (congr (congrArg (fun a b d => k0_pay2 a _ _ b d) e0) e2) e1

/-- A slab's entry is the weight's. -/
theorem v34_D (k : Fin 2048) (n : Fin 512) : kernelRun0_D.sl.v34 c t fh0 (ix4 0 0 k n : S1x1x2048x512.Idx)
    = fh0 (ix3 0 k ⟨512 * (t.val % 11) + n.val, by omega⟩ : S2x2048x11264.Idx) := by
  refine (cast4_at (kernelRun0_D.sl.v34 c t fh0) k n).symm.trans ?_
  unfold kernelRun0_D.sl.v34
  exact slot0_at c t fh0 _ _ k n

/-- A slab's entry is the weight's. -/
theorem v39_D (k : Fin 2048) (n : Fin 512) : kernelRun0_D.sl.v39 c t fh0 (ix4 0 0 k n : S1x1x2048x512.Idx)
    = fh0 (ix3 0 k ⟨512 * (t.val % 11) + n.val + 5632, by omega⟩ : S2x2048x11264.Idx) := by
  refine (cast4_at (kernelRun0_D.sl.v39 c t fh0) k n).symm.trans ?_
  unfold kernelRun0_D.sl.v39
  exact slot1_at c t fh0 _ _ k n

end

end Cert.FfnIdeal.Run

end
-- ==== Proof.FfnArr.lean ====
module

public import proofs.«01_k».proof.Proof.FfnVal
public import proofs.«01_k».proof.Proof.FfnModel

@[expose] public section

set_option maxRecDepth 16384

noncomputable section

namespace Cert.FfnIdeal.Run

open Cert.FfnIdeal.Gen Cert.Swi
open Idealize.ShloMosaic Idealize.ShloMosaic.TcCoe Idealize.SL.Sem
open scoped BigOperators

variable (m : (ℓ : Loc nD τ sig) → Buf (Elt Ideal) ℓ)

/-- The kernel's arrays as the call's arguments. -/
def argsF (c : Dev nD) : Args where
  x r j := m ((c : Thread nD τ).loc main_arg0) (ix2 r j)
  w j l := m ((c : Thread nD τ).loc main_arg1) (ix3 0 j l)
  o l k := m ((c : Thread nD τ).loc main_arg2) (ix3 0 l k)

/-- Where each window's block lies at a point. -/
theorem idxF : ∀ t : Fin cfg0.N, win0_0.index t = ![t.val / 11, 0] ∧ win0_1.index t = ![0, t.val % 11, 0]
    ∧ win0_2.index t = ![t.val / 11, 0] := by
  decide +kernel

/-- The result's row of a block's row. -/
def rowF (t : ℕ) (i : Fin 1024) : Fin 8192 := ⟨(t / 11 * 1024 + i.val) % 8192, Nat.mod_lt _ (by norm_num)⟩

theorem rowF_val (t : Fin cfg0.N) (i : Fin 1024) : (rowF t.val i).val = t.val / 11 * 1024 + i.val := by
  have hN : t.val < 88 := lt_of_lt_of_eq t.isLt (show cfg0.N = 88 from N_0)
  exact Nat.mod_eq_of_lt (by omega)

theorem blkF0_at (c : Dev nD) (t : Fin cfg0.N) (i : Fin 1024) (j : Fin 2048) : iblk m c 0 t (ix2 i j) = (argsF m c).x (rowF t.val i) j := by
  have h := rowF_val t i
  unfold argsF
  generalize rowF t.val i = R at h
  blk_ext [iblk, V, idxF t]
  all_goals try omega

theorem blkF1_at (c : Dev nD) (t : Fin cfg0.N) (q : Fin 512) (k : Fin 2048) :
    iblk m c 1 t (ix3 0 q k) = (argsF m c).o ⟨t.val % 11 * 512 + q.val, by omega⟩ k := by
  unfold argsF
  blk_ext [iblk, V, idxF t]
  all_goals try omega

/-- One step of the sum, given what the slabs hold. -/
theorem step_at (c : Dev nD) (t : Fin cfg0.N) (g u : Vec Ideal S1x1x2048x512 .f32) (p : Vec Ideal S1024x2048 .f32)
    (hg : ∀ (j : Fin 2048) (n : Fin 512), g (ix4 0 0 j n) = V m c main_arg1 (ix3 0 j ⟨512 * (t.val % 11) + n.val, by omega⟩ : S2x2048x11264.Idx))
    (hu : ∀ (j : Fin 2048) (n : Fin 512), u (ix4 0 0 j n) = V m c main_arg1 (ix3 0 j ⟨512 * (t.val % 11) + n.val + 5632, by omega⟩ : S2x2048x11264.Idx))
    (i : Fin 1024) (k : Fin 2048) (hp : p (ix2 i k) = (argsF m c).acc (rowF t.val i) k (t.val % 11)) :
    k0_pay2 (iblk m c 0 t) g u p (iblk m c 1 t) (ix2 i k) = (argsF m c).acc (rowF t.val i) k (t.val % 11 + 1) := by
  refine (pay2_at (iblk m c 0 t) g u p (iblk m c 1 t) i k).trans ?_
  rw [Args.acc_succ]
  refine congrArg₂ (HAdd.hAdd (α := EReal) (β := EReal) (γ := EReal)) hp (Finset.sum_congr rfl fun n _ => ?_)
  have hl : (⟨(t.val % 11 * 512 + n.val) % 5632, Nat.mod_lt _ (by norm_num)⟩ : Fin 5632) = ⟨t.val % 11 * 512 + n.val, by omega⟩ :=
    Fin.ext (Nat.mod_eq_of_lt (by have := Nat.mod_lt t.val (show 0 < 11 by norm_num); omega))
  unfold Args.termN
  rw [hl]
  have hG : (∑ j : Fin 2048, (HMul.hMul (α := EReal) (β := EReal) (γ := EReal) (iblk m c 0 t (ix2 i j)) (g (ix4 0 0 j n))))
      = (argsF m c).gate (rowF t.val i) ⟨t.val % 11 * 512 + n.val, by omega⟩ := by
    refine Finset.sum_congr rfl fun j _ => congrArg₂ (HMul.hMul (α := EReal) (β := EReal) (γ := EReal)) (blkF0_at m c t i j) ((hg j n).trans ?_)
    exact congrArg (fun l => m ((c : Thread nD τ).loc main_arg1) (ix3 0 j l)) (Fin.ext (show 512 * (t.val % 11) + n.val = t.val % 11 * 512 + n.val by omega))
  have hU : (∑ j : Fin 2048, (HMul.hMul (α := EReal) (β := EReal) (γ := EReal) (iblk m c 0 t (ix2 i j)) (u (ix4 0 0 j n))))
      = (argsF m c).up (rowF t.val i) ⟨t.val % 11 * 512 + n.val, by omega⟩ := by
    refine Finset.sum_congr rfl fun j _ => congrArg₂ (HMul.hMul (α := EReal) (β := EReal) (γ := EReal)) (blkF0_at m c t i j) ((hu j n).trans ?_)
    exact congrArg (fun l => m ((c : Thread nD τ).loc main_arg1) (ix3 0 j l)) (Fin.ext (show 512 * (t.val % 11) + n.val + 5632 = t.val % 11 * 512 + n.val + 5632 by omega))
  rw [hG, hU]
  exact congrArg (HMul.hMul (α := EReal) (β := EReal) (γ := EReal) _) (blkF1_at m c t n k)

/-- What every point leaves in the result's block: the tiles so far. -/
theorem outsF (c : Dev nD) (n : ℕ) : ∀ (hn : n < cfg0.N) (i : Fin 1024) (k : Fin 2048),
    outsAt0 m c n hn (ix2 i k) = (argsF m c).acc (rowF n i) k (n % 11 + 1) := by
  induction n with
  | zero =>
    intro hn i k
    refine (congrFun (outsAt0_A m c ⟨0, hn⟩ (Nat.zero_mod _) (show (0 : ℕ) < 86 by norm_num) (Nat.zero_mod _)) (ix2 i k)).trans ?_
    rw [out_A]
    refine step_at m c ⟨0, hn⟩ _ _ _ (fun j q => v34_A c ⟨0, hn⟩ _ j q) (fun j q => v39_A c ⟨0, hn⟩ _ j q) i k ?_
    exact (pay1_at i k).trans (Args.acc_zero _ _ _).symm
  | succ n ih =>
    intro hn i k
    have hN : n + 1 < 88 := lt_of_lt_of_eq hn (show cfg0.N = 88 from N_0)
    have h0 : ¬ (n + 1) % 88 = 0 := by omega
    by_cases h2 : (n + 1) % 11 = 0
    · have h1 : n + 1 < 86 := by omega
      refine (congrFun (outsAt0_C m c ⟨n + 1, hn⟩ h0 h1 h2) (ix2 i k)).trans ?_
      rw [out_C]
      refine step_at m c ⟨n + 1, hn⟩ _ _ _ (fun j q => v34_C c ⟨n + 1, hn⟩ _ j q) (fun j q => v39_C c ⟨n + 1, hn⟩ _ j q) i k ?_
      refine (pay1_at i k).trans ?_
      dsimp only
      rw [h2]
      exact (Args.acc_zero _ _ _).symm
    · have hp : outsAt0 m c n (Nat.lt_of_succ_lt hn) (ix2 i k) = (argsF m c).acc (rowF (n + 1) i) k ((n + 1) % 11) := by
        have e1 : rowF n i = rowF (n + 1) i := by
          unfold rowF
          have e : n / 11 = (n + 1) / 11 := by omega
          simp only [e]
        have e2 : n % 11 + 1 = (n + 1) % 11 := by omega
        rw [ih (Nat.lt_of_succ_lt hn) i k, e1, e2]
      by_cases h1 : n + 1 < 86
      · refine (congrFun (outsAt0_B m c ⟨n + 1, hn⟩ h0 h1 h2) (ix2 i k)).trans ?_
        rw [out_B]
        exact step_at m c ⟨n + 1, hn⟩ _ _ _ (fun j q => v34_B c ⟨n + 1, hn⟩ _ j q) (fun j q => v39_B c ⟨n + 1, hn⟩ _ j q) i k hp
      · refine (congrFun (outsAt0_D m c ⟨n + 1, hn⟩ h0 h1 h2) (ix2 i k)).trans ?_
        rw [out_D]
        exact step_at m c ⟨n + 1, hn⟩ _ _ _ (fun j q => v34_D c ⟨n + 1, hn⟩ _ j q) (fun j q => v39_D c ⟨n + 1, hn⟩ _ j q) i k hp

/-- Every index of two coordinates is an `ix2`. -/
theorem ix2_eta {a b : ℕ} (y : (⟨2, ![a, b]⟩ : Shape).Idx) : y = ix2 (y 0) (y 1) := by
  funext i
  match i with
  | ⟨0, _⟩ => rfl
  | ⟨1, _⟩ => rfl

/-- The kernel's result after the run. -/
theorem arrF (c : Dev nD) : (dats m 0 c).arrAt 2 cfg0.N = fun j : S8192x2048.Idx => (argsF m c).res (j 0) (j 1) := by
  refine (dats m 0 c).arrAt_eq_of_covers 2 _ (by decide +kernel) fun t hf y => ?_
  have ht : t.val % 11 = 10 := (flush0_2 t).mp hf
  rw [after0_2]
  blk_simp
  obtain ⟨i, k, rfl⟩ : ∃ (i : Fin 1024) (k : Fin 2048), y = ix2 i k := ⟨y 0, y 1, ix2_eta y⟩
  refine (outsF m c t.val t.isLt i k).trans ?_
  rw [ht, Args.acc_eq]
  refine congrArg₂ (argsF m c).res (Fin.ext ?_) (Fin.ext ?_)
  · rw [rowF_val]; blk_simp [idxF t]
  · blk_simp [idxF t]

end Cert.FfnIdeal.Run

end
-- ==== Proof.FfnRef.lean ====
module

public import proofs.«01_k».proof.Proof.Gen.FfnReferenceIdeal.Run
public import proofs.«01_k».proof.Proof.FfnModel
public import Idealize.ShloMosaic.Lib.StableHlo.ReadAt

@[expose] public section

set_option maxRecDepth 8192

noncomputable section

namespace Cert.FfnReferenceIdeal.Ref

open Cert.FfnReferenceIdeal Cert.FfnReferenceIdeal.Gen Cert.Swi
open Idealize.ShloMosaic Idealize.ShloMosaic.TcCoe Idealize.ShloMosaic.StableHlo Idealize.SL.Sem
open scoped BigOperators

section
variable {F : FTy → Type} [FloatOps F]

/-- The normed activations times the packed weight. -/
def proj (x : (⟨S8192x2048, .bf16⟩ : BufTy).Contents (Elt F)) (w : (⟨S2x2048x11264, .f32⟩ : BufTy).Contents (Elt F)) :
    (⟨S8192x11264, .f32⟩ : BufTy).Contents (Elt F) :=
  Host.dotGeneral dot_S8192x2048_S2048x11264_S8192x11264_1_0_0_1_n_n none (extf .f32 x bitsLt_bf16_f32)
    (shapeCast S2048x11264 (extractStridedSlice S1x2048x11264 ![0, 0, 0] w slices_S2x2048x11264_S1x2048x11264_0_0_0) shapeCasts_S1x2048x11264_S2048x11264)

/-- The gate's columns. -/
def gateT (p : (⟨S8192x11264, .f32⟩ : BufTy).Contents (Elt F)) : (⟨S8192x5632, .f32⟩ : BufTy).Contents (Elt F) :=
  extractStridedSlice S8192x5632 ![0, 0] p slices_S8192x11264_S8192x5632_0_0

/-- The columns after the gate, times the gate's sigmoid linear unit. -/
def hid (p : (⟨S8192x11264, .f32⟩ : BufTy).Contents (Elt F)) : (⟨S8192x5632, .f32⟩ : BufTy).Contents (Elt F) :=
  mulf (mulf (gateT p) (Host.divf (broadcastInDim S8192x5632 ![] bcast_S_S8192x5632 (constant S_ .f32 0x3F800000#32))
      (addf (broadcastInDim S8192x5632 ![] bcast_S_S8192x5632 (constant S_ .f32 0x3F800000#32)) (Host.exp (Host.negf (gateT p))))))
    (extractStridedSlice S8192x5632 ![0, 5632] p slices_S8192x11264_S8192x5632_0_5632)

/-- The reference's result as a term of its arguments. -/
def out (x : (⟨S8192x2048, .bf16⟩ : BufTy).Contents (Elt F)) (w : (⟨S2x2048x11264, .f32⟩ : BufTy).Contents (Elt F))
    (o : (⟨S2x5632x2048, .f32⟩ : BufTy).Contents (Elt F)) : (⟨S8192x2048, .f32⟩ : BufTy).Contents (Elt F) :=
  mulf (broadcastInDim S8192x2048 ![] bcast_S_S8192x2048 (constant S_ .f32 0x3F000000#32))
    (Host.dotGeneral dot_S8192x5632_S5632x2048_S8192x2048_1_0_0_1_n_n none (hid (proj x w))
      (shapeCast S5632x2048 (extractStridedSlice S1x5632x2048 ![0, 0, 0] o slices_S2x5632x2048_S1x5632x2048_0_0_0) shapeCasts_S1x5632x2048_S5632x2048))

/-- The reference's run: its result is that term and its arguments are as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.FfnReferenceIdeal.Value.run m ρ

end

/-- The arrays as the call's arguments. -/
def argsOf (x : (⟨S8192x2048, .bf16⟩ : BufTy).Contents (Elt Ideal)) (w : (⟨S2x2048x11264, .f32⟩ : BufTy).Contents (Elt Ideal))
    (o : (⟨S2x5632x2048, .f32⟩ : BufTy).Contents (Elt Ideal)) : Args where
  x r j := x (ix2 r j)
  w j l := w (ix3 0 j l)
  o l k := o (ix3 0 l k)

variable (x : (⟨S8192x2048, .bf16⟩ : BufTy).Contents (Elt Ideal)) (w : (⟨S2x2048x11264, .f32⟩ : BufTy).Contents (Elt Ideal))
  (o : (⟨S2x5632x2048, .f32⟩ : BufTy).Contents (Elt Ideal))

/-- The product at an entry. -/
theorem proj_at (r : Fin 8192) (l : Fin 11264) :
    proj x w (ix2 r l) = ∑ j : Fin 2048, (argsOf x w o).x r j * (argsOf x w o).w j l := by
  unfold proj argsOf
  pointwise

/-- The gate at an entry. -/
theorem gateT_at (r : Fin 8192) (l : Fin 5632) : gateT (proj x w) (ix2 r l) = (argsOf x w o).gate r l := by
  refine Eq.trans ?_ (proj_at x w o r ⟨l.val, by omega⟩)
  generalize proj x w = p
  unfold gateT
  pointwise

/-- The gated columns at an entry. -/
theorem hid_at (r : Fin 8192) (l : Fin 5632) :
    hid (proj x w) (ix2 r l) = (argsOf x w o).gate r l * Ideal.logistic ((argsOf x w o).gate r l) * (argsOf x w o).up r l := by
  have hg := gateT_at x w o r l
  have hu := proj_at x w o r ⟨l.val + 5632, by omega⟩
  rw [← hg]
  unfold Args.up
  rw [← hu]
  generalize proj x w = p
  unfold hid
  generalize gateT p = q
  pointwise
  rw [show (⟨5632 + l.val, by omega⟩ : Fin 11264) = ⟨l.val + 5632, by omega⟩ from Fin.ext (Nat.add_comm _ _)]
  rfl

/-- The reference's result, element by element. -/
theorem out_at (r : Fin 8192) (k : Fin 2048) : out x w o (ix2 r k) = (argsOf x w o).res r k := by
  unfold out Args.res
  simp only [← hid_at x w o r]
  generalize hid (proj x w) = h
  unfold argsOf
  pointwise

end Cert.FfnReferenceIdeal.Ref

end
-- ==== Proof.PleModel.lean ====
module

public import proofs.«01_k».proof.Proof.Model

@[expose] public section

noncomputable section

namespace Cert.Emb

open Idealize.ShloMosaic Cert.Gla
open scoped BigOperators

/-! # The per-layer embedding's call as one function of its arrays -/

/-- A row's root mean square norm, at column `k`. -/
def rms (f : Fin 2048 → EReal) (g : Fin 2048 → EReal) (k : Fin 2048) : EReal :=
  f k * Ideal.rsqrt (Ideal.div (∑ j, f j * f j) c2048 + eps) * g k

/-- The arrays the call reads, as functions of their coordinates (one layer's slice of each weight). -/
structure Args where
  /-- the residual -/
  h : Fin 8192 → Fin 2048 → EReal
  /-- the feed-forward's output -/
  d : Fin 8192 → Fin 2048 → EReal
  /-- the gate's norm's gain -/
  pn : Fin 2048 → EReal
  /-- the gate's weight -/
  wg : Fin 2048 → Fin 2048 → EReal
  /-- the layer's input embedding -/
  p : Fin 8192 → Fin 256 → EReal
  /-- the embedding's projection -/
  wp : Fin 256 → Fin 2048 → EReal
  /-- the final norm's gain -/
  fn : Fin 2048 → EReal

namespace Args
variable (A : Args)

/-- The residual sum. -/
def x (r : Fin 8192) (k : Fin 2048) : EReal := A.h r k + A.d r k
/-- The gate before its sigmoid. -/
def pre (r : Fin 8192) (k : Fin 2048) : EReal := ∑ j, rms (A.x r) A.pn j * A.wg j k
/-- The projected embedding. -/
def emb (r : Fin 8192) (k : Fin 2048) : EReal := ∑ z, A.p r z * A.wp z k
/-- The sum with the gated embedding. -/
def y (r : Fin 8192) (k : Fin 2048) : EReal := A.x r k + Ideal.logistic (A.pre r k) * A.emb r k
/-- The result: the final norm of that sum. -/
def res (r : Fin 8192) (k : Fin 2048) : EReal := rms (A.y r) A.fn k

end Args

end Cert.Emb

end
-- ==== Proof.PleVal.lean ====
module

public import proofs.«01_k».proof.Proof.Gen.PleIdeal.Value
public import proofs.«01_k».proof.Proof.PleModel
public import Idealize.ShloMosaic.Lib.VecWindow
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.PleIdeal.Val

open Cert.PleIdeal Cert.PleIdeal.Gen Cert.Emb
open Idealize.ShloMosaic Idealize.ShloMosaic.TcCoe Idealize.SL.Sem
open scoped BigOperators

/-- The residual sum of a block. -/
theorem pay2_at (s : Vec Ideal S1x512x2048 .f32) (d : Vec Ideal S512x2048 .f32) (i : Fin 512) (k : Fin 2048) :
    k0_pay2 s d (ix2 i k) = HAdd.hAdd (α := EReal) (β := EReal) (γ := EReal) (s (ix3 0 i k)) (d (ix2 i k)) := by
  unfold k0_pay2
  pointwise

/-- Its norm. -/
theorem pay3_at (s : Vec Ideal S1x512x2048 .f32) (d : Vec Ideal S512x2048 .f32) (g : Vec Ideal S1x1x2048 .f32) (i : Fin 512) (k : Fin 2048) :
    k0_pay3 s d g (ix2 i k) = rms (fun j => k0_pay2 s d (ix2 i j)) (fun j => g (ix3 0 0 j)) k := by
  unfold k0_pay3 rms
  generalize k0_pay2 s d = x
  pointwise

/-- The gated sum of a block at an entry. -/
def gsum (x : FVec Ideal S512x2048 .f32) (n : FVec Ideal S512x2048 .bf16) (w : Vec Ideal S2048x2048 .bf16) (p : Vec Ideal S1x512x256 .f32)
    (wp : Vec Ideal S1x256x2048 .bf16) (i : Fin 512) (k : Fin 2048) : EReal :=
  x (ix2 i k) + Ideal.logistic (∑ j : Fin 2048, (HMul.hMul (α := EReal) (β := EReal) (γ := EReal) (n (ix2 i j)) (w (ix2 j k))))
    * ∑ z : Fin 256, (HMul.hMul (α := EReal) (β := EReal) (γ := EReal) (p (ix3 0 i z)) (wp (ix3 0 z k)))

/-- The result of a block. -/
theorem pay1_at (x : FVec Ideal S512x2048 .f32) (n : FVec Ideal S512x2048 .bf16) (w : Vec Ideal S2048x2048 .bf16) (p : Vec Ideal S1x512x256 .f32)
    (wp : Vec Ideal S1x256x2048 .bf16) (g : Vec Ideal S1x2048 .f32) (i : Fin 512) (k : Fin 2048) :
    k0_pay1 x n w p wp g (ix2 i k) = rms (gsum x n w p wp i) (fun j => g (ix2 0 j)) k := by
  unfold k0_pay1 rms gsum
  pointwise

variable {F : FTy → Type} [FloatOps F]

/-- Where the body reads a landed slot. -/
theorem off7 : ∀ t : Fin grid0.N, k0_off7 (grid0.coords t) = ![(Ring.sl 3 t.val).val, 0, 0] := by decide +kernel

/-- A slot's cast read at an entry. -/
theorem cast3_at (X : Vec F S1x512x2048 .f32) (i : Fin 512) (k : Fin 2048) :
    shapeCast S512x2048 X shapeCasts_S1x512x2048_S512x2048 (ix2 i k) = X (ix3 0 i k) := by
  pointwise

/-- What the body reads of a landed slot: the point's block of rows. -/
theorem slot_at (c : Dev nD) (t : Fin cfg0.N) (fh0 : HbBuf0 (F := F) c hbM0_0) (inb) (f) (i : Fin 512) (k : Fin 2048) :
    shapeCast (s := S1x512x2048) S512x2048 (View.readAt (Elt F) scM0_0.view (Rect.unit (k0_off7 (grid0.coords t)) ![1, 512, 2048] inb).toLoadRect
      ((rslot0_0 (Ring.sl 3 t.val)).view.writes (Elt F) f
        [⟨Rect.whole S512x2048, ReadAs.same.apply (View.read (Elt F) (srcB0_0 (Ring.bk 16 t.val)).view fh0)⟩]))
        shapeCasts_S1x512x2048_S512x2048 (ix2 i k)
      = fh0 (ix2 ⟨512 * t.val + i.val, by have := t.isLt; have : cfg0.N = 16 := N_0; omega⟩ k : S8192x2048.Idx) := by
  have hN : t.val < 16 := lt_of_lt_of_eq t.isLt (show cfg0.N = 16 from N_0)
  refine (congrArg (fun X => shapeCast (s := S1x512x2048) S512x2048 X shapeCasts_S1x512x2048_S512x2048 (ix2 i k))
    (View.readAt_unit_eq_of_eq (Val' := Elt F) scM0_0.view inb (off7 t) _)).trans ?_
  refine (congrFun (Memref.read_squeeze_slice scM0_0 (Rect.unit (s := S3x512x2048) ![(Ring.sl 3 t.val).val, 0, 0] S1x512x2048.size (inb_slot0_0 _))
    (fun _ => rfl) squeezes_S1x512x2048_S512x2048 shapeCasts_S1x512x2048_S512x2048 _) (ix2 i k)).symm.trans ?_
  refine (congrFun (View.read_writes_whole (rslot0_0 (Ring.sl 3 t.val)).view f _) (ix2 i k)).trans ?_
  have hb : (Ring.bk 16 t.val).val = t.val := Nat.mod_eq_of_lt hN
  refine congrArg fh0 ?_
  funext a
  match a with
  | ⟨0, _⟩ => exact Fin.ext (show 512 * (Ring.bk 16 t.val).val + 1 * i.val = 512 * t.val + i.val by rw [hb]; omega)
  | ⟨1, _⟩ => exact Fin.ext (show 0 + 1 * k.val = k.val by omega)

end Cert.PleIdeal.Val

end
-- ==== Proof.PleArr.lean ====
module

public import proofs.«01_k».proof.Proof.PleVal

@[expose] public section

set_option maxRecDepth 16384

noncomputable section

namespace Cert.PleIdeal.Val

open Cert.PleIdeal Cert.PleIdeal.Gen Cert.Emb
open Idealize.ShloMosaic Idealize.ShloMosaic.TcCoe Idealize.ShloMosaic.StableHlo Idealize.SL.Sem
open scoped BigOperators

section
variable {F : FTy → Type} [FloatOps F]
variable (c : Dev nD) (t : Fin cfg0.N) (arg2 : Memref sig .tc .vmem S512x2048 .f32) (harg2 : arg2.IsWhole)
  (arg3 : Memref sig .tc .vmem S1x1x2048 .f32) (harg3 : arg3.IsWhole) (arg4 : Memref sig .tc .vmem S2048x2048 .bf16) (harg4 : arg4.IsWhole)
  (arg5 : Memref sig .tc .vmem S1x512x256 .f32) (harg5 : arg5.IsWhole) (arg6 : Memref sig .tc .vmem S1x256x2048 .bf16) (harg6 : arg6.IsWhole)
  (arg7 : Memref sig .tc .vmem S1x2048 .f32) (harg7 : arg7.IsWhole) (arg8 : Memref sig .tc .vmem S512x2048 .f32) (harg8 : arg8.IsWhole)
  (x0 : Vec F S512x2048 .f32) (x1 : Vec F S1x1x2048 .f32) (x2 : Vec F S2048x2048 .bf16) (x3 : Vec F S1x512x256 .f32)
  (x4 : Vec F S1x256x2048 .bf16) (x5 : Vec F S1x2048 .f32) (fh0 : HbBuf0 (F := F) c hbM0_0)

/-- What a point leaves in the result's block, from what its slot holds. -/
abbrev outOf (s : Vec F S1x512x2048 .f32) : Vec F S512x2048 .f32 := k0_pay1 (k0_pay2 s x0) (k0_pay3 s x0 x1) x2 x3 x4 x5

/-- What a point of this kind leaves in the block. -/
theorem out_A (hc0 : cond0_0 (grid0.coords t)) (hc1 : cond0_1 (grid0.coords t)) :
    out0_A_6 c t arg2 harg2 arg3 harg3 arg4 harg4 arg5 harg5 arg6 harg6 arg7 harg7 arg8 harg8 hc0 hc1 x0 x1 x2 x3 x4 x5 fh0
      = outOf x0 x1 x2 x3 x4 x5 (kernelRun0_A.sl.v16 c t fh0) := by
  unfold out0_A_6 kernelRun0_A
  dsimp only
  refine (View.read_writes_full (s := S512x2048) VO0_6 _ (by decide) _ _).trans ?_
  have e0 : View.readAt (Elt F) arg2.view (Rect.unit ![0, 0] ![512, 2048] inb_S512x2048_S512x2048_0_0).toLoadRect (harg2.unread x0) = x0 :=
    (View.readAt_full (s := S512x2048) arg2.view _ _).trans (harg2.read_unread x0)
  have e1 : View.readAt (Elt F) arg3.view (Rect.unit ![0, 0, 0] ![1, 1, 2048] inb_S1x1x2048_S1x1x2048_0_0_0).toLoadRect (harg3.unread x1) = x1 :=
    (View.readAt_full (s := S1x1x2048) arg3.view _ _).trans (harg3.read_unread x1)
  have e2 : View.readAt (Elt F) arg4.view (Rect.unit ![0, 0] ![2048, 2048] inb_S2048x2048_S2048x2048_0_0).toLoadRect (harg4.unread x2) = x2 :=
    (View.readAt_full (s := S2048x2048) arg4.view _ _).trans (harg4.read_unread x2)
  have e3 : View.readAt (Elt F) arg5.view (Rect.unit ![0, 0, 0] ![1, 512, 256] inb_S1x512x256_S1x512x256_0_0_0).toLoadRect (harg5.unread x3) = x3 :=
    (View.readAt_full (s := S1x512x256) arg5.view _ _).trans (harg5.read_unread x3)
  have e4 : View.readAt (Elt F) arg6.view (Rect.unit ![0, 0, 0] ![1, 256, 2048] inb_S1x256x2048_S1x256x2048_0_0_0).toLoadRect (harg6.unread x4) = x4 :=
    (View.readAt_full (s := S1x256x2048) arg6.view _ _).trans (harg6.read_unread x4)
  have e5 : View.readAt (Elt F) arg7.view (Rect.unit ![0, 0] ![1, 2048] inb_S1x2048_S1x2048_0_0).toLoadRect (harg7.unread x5) = x5 :=
    (View.readAt_full (s := S1x2048) arg7.view _ _).trans (harg7.read_unread x5)
  have key := congr (congr (congr (congr (congr (congrArg (fun a b d e f g => outOf a b d e f g (kernelRun0_A.sl.v16 c t fh0)) e0) e1) e2) e3) e4) e5
  exact key

/-- What the point's slot holds: its block of rows. -/
theorem v16_A (i : Fin 512) (k : Fin 2048) : kernelRun0_A.sl.v16 c t fh0 (ix3 0 i k : S1x512x2048.Idx)
    = fh0 (ix2 ⟨512 * t.val + i.val, by have := t.isLt; have : cfg0.N = 16 := N_0; omega⟩ k : S8192x2048.Idx) := by
  refine (cast3_at (kernelRun0_A.sl.v16 c t fh0) i k).symm.trans ?_
  exact slot_at c t fh0 _ _ i k

/-- What a point of this kind leaves in the block. -/
theorem out_B (hc0 : ¬cond0_0 (grid0.coords t)) (hc1 : cond0_1 (grid0.coords t)) :
    out0_B_6 c t arg2 harg2 arg3 harg3 arg4 harg4 arg5 harg5 arg6 harg6 arg7 harg7 arg8 harg8 hc0 hc1 x0 x1 x2 x3 x4 x5 fh0
      = outOf x0 x1 x2 x3 x4 x5 (kernelRun0_B.sl.v16 c t fh0) := by
  unfold out0_B_6 kernelRun0_B
  dsimp only
  refine (View.read_writes_full (s := S512x2048) VO0_6 _ (by decide) _ _).trans ?_
  have e0 : View.readAt (Elt F) arg2.view (Rect.unit ![0, 0] ![512, 2048] inb_S512x2048_S512x2048_0_0).toLoadRect (harg2.unread x0) = x0 :=
    (View.readAt_full (s := S512x2048) arg2.view _ _).trans (harg2.read_unread x0)
  have e1 : View.readAt (Elt F) arg3.view (Rect.unit ![0, 0, 0] ![1, 1, 2048] inb_S1x1x2048_S1x1x2048_0_0_0).toLoadRect (harg3.unread x1) = x1 :=
    (View.readAt_full (s := S1x1x2048) arg3.view _ _).trans (harg3.read_unread x1)
  have e2 : View.readAt (Elt F) arg4.view (Rect.unit ![0, 0] ![2048, 2048] inb_S2048x2048_S2048x2048_0_0).toLoadRect (harg4.unread x2) = x2 :=
    (View.readAt_full (s := S2048x2048) arg4.view _ _).trans (harg4.read_unread x2)
  have e3 : View.readAt (Elt F) arg5.view (Rect.unit ![0, 0, 0] ![1, 512, 256] inb_S1x512x256_S1x512x256_0_0_0).toLoadRect (harg5.unread x3) = x3 :=
    (View.readAt_full (s := S1x512x256) arg5.view _ _).trans (harg5.read_unread x3)
  have e4 : View.readAt (Elt F) arg6.view (Rect.unit ![0, 0, 0] ![1, 256, 2048] inb_S1x256x2048_S1x256x2048_0_0_0).toLoadRect (harg6.unread x4) = x4 :=
    (View.readAt_full (s := S1x256x2048) arg6.view _ _).trans (harg6.read_unread x4)
  have e5 : View.readAt (Elt F) arg7.view (Rect.unit ![0, 0] ![1, 2048] inb_S1x2048_S1x2048_0_0).toLoadRect (harg7.unread x5) = x5 :=
    (View.readAt_full (s := S1x2048) arg7.view _ _).trans (harg7.read_unread x5)
  have key := congr (congr (congr (congr (congr (congrArg (fun a b d e f g => outOf a b d e f g (kernelRun0_B.sl.v16 c t fh0)) e0) e1) e2) e3) e4) e5
  exact key

/-- What the point's slot holds: its block of rows. -/
theorem v16_B (i : Fin 512) (k : Fin 2048) : kernelRun0_B.sl.v16 c t fh0 (ix3 0 i k : S1x512x2048.Idx)
    = fh0 (ix2 ⟨512 * t.val + i.val, by have := t.isLt; have : cfg0.N = 16 := N_0; omega⟩ k : S8192x2048.Idx) := by
  refine (cast3_at (kernelRun0_B.sl.v16 c t fh0) i k).symm.trans ?_
  exact slot_at c t fh0 _ _ i k

/-- What a point of this kind leaves in the block. -/
theorem out_C (hc0 : ¬cond0_0 (grid0.coords t)) (hc1 : ¬cond0_1 (grid0.coords t)) :
    out0_C_6 c t arg2 harg2 arg3 harg3 arg4 harg4 arg5 harg5 arg6 harg6 arg7 harg7 arg8 harg8 hc0 hc1 x0 x1 x2 x3 x4 x5 fh0
      = outOf x0 x1 x2 x3 x4 x5 (kernelRun0_C.sl.v16 c t fh0) := by
  unfold out0_C_6 kernelRun0_C
  dsimp only
  refine (View.read_writes_full (s := S512x2048) VO0_6 _ (by decide) _ _).trans ?_
  have e0 : View.readAt (Elt F) arg2.view (Rect.unit ![0, 0] ![512, 2048] inb_S512x2048_S512x2048_0_0).toLoadRect (harg2.unread x0) = x0 :=
    (View.readAt_full (s := S512x2048) arg2.view _ _).trans (harg2.read_unread x0)
  have e1 : View.readAt (Elt F) arg3.view (Rect.unit ![0, 0, 0] ![1, 1, 2048] inb_S1x1x2048_S1x1x2048_0_0_0).toLoadRect (harg3.unread x1) = x1 :=
    (View.readAt_full (s := S1x1x2048) arg3.view _ _).trans (harg3.read_unread x1)
  have e2 : View.readAt (Elt F) arg4.view (Rect.unit ![0, 0] ![2048, 2048] inb_S2048x2048_S2048x2048_0_0).toLoadRect (harg4.unread x2) = x2 :=
    (View.readAt_full (s := S2048x2048) arg4.view _ _).trans (harg4.read_unread x2)
  have e3 : View.readAt (Elt F) arg5.view (Rect.unit ![0, 0, 0] ![1, 512, 256] inb_S1x512x256_S1x512x256_0_0_0).toLoadRect (harg5.unread x3) = x3 :=
    (View.readAt_full (s := S1x512x256) arg5.view _ _).trans (harg5.read_unread x3)
  have e4 : View.readAt (Elt F) arg6.view (Rect.unit ![0, 0, 0] ![1, 256, 2048] inb_S1x256x2048_S1x256x2048_0_0_0).toLoadRect (harg6.unread x4) = x4 :=
    (View.readAt_full (s := S1x256x2048) arg6.view _ _).trans (harg6.read_unread x4)
  have e5 : View.readAt (Elt F) arg7.view (Rect.unit ![0, 0] ![1, 2048] inb_S1x2048_S1x2048_0_0).toLoadRect (harg7.unread x5) = x5 :=
    (View.readAt_full (s := S1x2048) arg7.view _ _).trans (harg7.read_unread x5)
  have key := congr (congr (congr (congr (congr (congrArg (fun a b d e f g => outOf a b d e f g (kernelRun0_C.sl.v16 c t fh0)) e0) e1) e2) e3) e4) e5
  exact key

/-- What the point's slot holds: its block of rows. -/
theorem v16_C (i : Fin 512) (k : Fin 2048) : kernelRun0_C.sl.v16 c t fh0 (ix3 0 i k : S1x512x2048.Idx)
    = fh0 (ix2 ⟨512 * t.val + i.val, by have := t.isLt; have : cfg0.N = 16 := N_0; omega⟩ k : S8192x2048.Idx) := by
  refine (cast3_at (kernelRun0_C.sl.v16 c t fh0) i k).symm.trans ?_
  exact slot_at c t fh0 _ _ i k

end

variable (m : (ℓ : Loc nD τ sig) → Buf (Elt Ideal) ℓ)

/-- The kernel's arrays as the call's arguments. -/
def argsE (c : Dev nD) : Args where
  h r k := m ((c : Thread nD τ).loc main_arg0) (ix2 r k)
  d r k := m ((c : Thread nD τ).loc main_arg1) (ix2 r k)
  pn k := m ((c : Thread nD τ).loc main_arg2) (ix2 1 k)
  wg j k := m ((c : Thread nD τ).loc main_arg3) (ix2 j k)
  p r z := m ((c : Thread nD τ).loc main_arg4) (ix4 1 ⟨r.val / 4096, by omega⟩ ⟨r.val % 4096, by omega⟩ z)
  wp z k := m ((c : Thread nD τ).loc main_arg5) (ix3 1 z k)
  fn k := m ((c : Thread nD τ).loc main_arg6) (ix1 k)

/-- Where each window's block lies at a point. -/
theorem idxE : ∀ t : Fin cfg0.N, win0_0.index t = ![t.val, 0] ∧ win0_1.index t = ![1, 0, 0] ∧ win0_2.index t = ![0, 0]
    ∧ win0_3.index t = ![1, t.val, 0] ∧ win0_4.index t = ![1, 0, 0] ∧ win0_5.index t = ![0, 0] ∧ win0_6.index t = ![t.val, 0] := by
  decide +kernel

/-- The reshaped arrays when the grid starts. -/
theorem V0_at (c : Dev nD) (k : Fin 2048) : V m c main_v0 (ix3 1 0 k) = (argsE m c).pn k := by
  unfold V
  after_reads_at
  rfl

@[inherit_doc V0_at] theorem V1_at (c : Dev nD) (r : Fin 8192) (z : Fin 256) : V m c main_v1 (ix3 1 r z) = (argsE m c).p r z := by
  unfold V
  after_reads_at
  rfl

@[inherit_doc V0_at] theorem V2_at (c : Dev nD) (z : Fin 256) (k : Fin 2048) : V m c main_v2 (ix3 1 z k) = (argsE m c).wp z k := by
  unfold V
  after_reads_at
  rfl

@[inherit_doc V0_at] theorem V3_at (c : Dev nD) (k : Fin 2048) : V m c main_v3 (ix2 0 k) = (argsE m c).fn k := by
  unfold V
  after_reads_at
  rfl

/-- The result's row of a block's row. -/
def rowE (t : Fin cfg0.N) (i : Fin 512) : Fin 8192 := ⟨512 * t.val + i.val, by have := t.isLt; have : cfg0.N = 16 := N_0; omega⟩

theorem blk0_at (c : Dev nD) (t : Fin cfg0.N) (i : Fin 512) (k : Fin 2048) : iblk m c 0 t (ix2 i k) = (argsE m c).d (rowE t i) k := by
  unfold argsE rowE
  blk_ext [iblk, V, idxE t]
  all_goals try omega

theorem blk1_at (c : Dev nD) (t : Fin cfg0.N) (k : Fin 2048) : iblk m c 1 t (ix3 0 0 k) = (argsE m c).pn k := by
  rw [← V0_at]
  blk_ext [iblk, idxE t]

theorem blk2_at (c : Dev nD) (t : Fin cfg0.N) (j k : Fin 2048) : iblk m c 2 t (ix2 j k) = (argsE m c).wg j k := by
  unfold argsE
  blk_ext [iblk, V, idxE t]

theorem blk3_at (c : Dev nD) (t : Fin cfg0.N) (i : Fin 512) (z : Fin 256) : iblk m c 3 t (ix3 0 i z) = (argsE m c).p (rowE t i) z := by
  rw [← V1_at]
  unfold rowE
  blk_ext [iblk, idxE t]
  all_goals try omega

theorem blk4_at (c : Dev nD) (t : Fin cfg0.N) (z : Fin 256) (k : Fin 2048) : iblk m c 4 t (ix3 0 z k) = (argsE m c).wp z k := by
  rw [← V2_at]
  blk_ext [iblk, idxE t]

theorem blk5_at (c : Dev nD) (t : Fin cfg0.N) (k : Fin 2048) : iblk m c 5 t (ix2 0 k) = (argsE m c).fn k := by
  rw [← V3_at]
  blk_ext [iblk, idxE t]

/-- A point's block of the result, given what its slot holds. -/
theorem outOf_at (c : Dev nD) (t : Fin cfg0.N) (s : Vec Ideal S1x512x2048 .f32)
    (hs : ∀ (i : Fin 512) (k : Fin 2048), s (ix3 0 i k) = V m c main_arg0 (ix2 (rowE t i) k : S8192x2048.Idx)) (i : Fin 512) (k : Fin 2048) :
    outOf (iblk m c 0 t) (iblk m c 1 t) (iblk m c 2 t) (iblk m c 3 t) (iblk m c 4 t) (iblk m c 5 t) s (ix2 i k)
      = (argsE m c).res (rowE t i) k := by
  have hx : ∀ j : Fin 2048, k0_pay2 s (iblk m c 0 t) (ix2 i j) = (argsE m c).x (rowE t i) j := fun j =>
    (pay2_at s (iblk m c 0 t) i j).trans (congrArg₂ (HAdd.hAdd (α := EReal) (β := EReal) (γ := EReal)) (hs i j) (blk0_at m c t i j))
  have hn : ∀ j : Fin 2048, k0_pay3 s (iblk m c 0 t) (iblk m c 1 t) (ix2 i j) = rms ((argsE m c).x (rowE t i)) (argsE m c).pn j := fun j =>
    (pay3_at s (iblk m c 0 t) (iblk m c 1 t) i j).trans (congrArg₂ (fun f g => rms f g j) (funext hx) (funext fun l => blk1_at m c t l))
  refine (pay1_at _ _ (iblk m c 2 t) (iblk m c 3 t) (iblk m c 4 t) (iblk m c 5 t) i k).trans ?_
  refine congrArg₂ (fun f g => rms f g k) (funext fun j => ?_) (funext fun l => blk5_at m c t l)
  unfold gsum Args.y Args.pre Args.emb
  refine congrArg₂ (HAdd.hAdd (α := EReal) (β := EReal) (γ := EReal)) (hx j) (congrArg₂ (HMul.hMul (α := EReal) (β := EReal) (γ := EReal))
    (congrArg Ideal.logistic (Finset.sum_congr rfl fun l _ => ?_)) (Finset.sum_congr rfl fun z _ => ?_))
  · exact congrArg₂ (HMul.hMul (α := EReal) (β := EReal) (γ := EReal)) (hn l) (blk2_at m c t l j)
  · exact congrArg₂ (HMul.hMul (α := EReal) (β := EReal) (γ := EReal)) (blk3_at m c t i z) (blk4_at m c t z j)

/-- What every point leaves in the result's block. -/
theorem outsE (c : Dev nD) (t : Fin cfg0.N) (i : Fin 512) (k : Fin 2048) : outsAt0 m c t.val t.isLt (ix2 i k) = (argsE m c).res (rowE t i) k := by
  by_cases h0 : t.val % 16 = 0
  · have hN : t.val < 16 := lt_of_lt_of_eq t.isLt (show cfg0.N = 16 from N_0)
    have h1 : t.val < 14 := by omega
    refine (congrFun (outsAt0_A m c t h0 h1) (ix2 i k)).trans ?_
    rw [out_A]
    exact outOf_at m c t _ (fun i k => v16_A c t _ i k) i k
  · by_cases h1 : t.val < 14
    · refine (congrFun (outsAt0_B m c t h0 h1) (ix2 i k)).trans ?_
      rw [out_B]
      exact outOf_at m c t _ (fun i k => v16_B c t _ i k) i k
    · refine (congrFun (outsAt0_C m c t h0 h1) (ix2 i k)).trans ?_
      rw [out_C]
      exact outOf_at m c t _ (fun i k => v16_C c t _ i k) i k

/-- Every index of two coordinates is an `ix2`. -/
theorem ix2_eta {a b : ℕ} (y : (⟨2, ![a, b]⟩ : Shape).Idx) : y = ix2 (y 0) (y 1) := by
  funext i
  match i with
  | ⟨0, _⟩ => rfl
  | ⟨1, _⟩ => rfl

/-- The kernel's result after the run. -/
theorem arrE (c : Dev nD) : (dats m 0 c).arrAt 6 cfg0.N = fun j : S8192x2048.Idx => (argsE m c).res (j 0) (j 1) := by
  refine (dats m 0 c).arrAt_eq_of_covers 6 _ (by decide +kernel) fun t hf y => ?_
  rw [after0_6]
  blk_simp
  obtain ⟨i, k, rfl⟩ : ∃ (i : Fin 512) (k : Fin 2048), y = ix2 i k := ⟨y 0, y 1, ix2_eta y⟩
  refine (outsE m c t i k).trans (congrArg₂ (argsE m c).res (Fin.ext ?_) (Fin.ext ?_))
  · unfold rowE; blk_simp [idxE t]; dsimp only; omega
  · blk_simp [idxE t]

end Cert.PleIdeal.Val

end
-- ==== Proof.PleRef.lean ====
module

public import proofs.«01_k».proof.Proof.Gen.PleReferenceIdeal.Run
public import proofs.«01_k».proof.Proof.PleModel
public import Idealize.ShloMosaic.Lib.StableHlo.ReadAt

@[expose] public section

set_option maxRecDepth 8192

noncomputable section

namespace Cert.PleReferenceIdeal.Ref

open Cert.PleReferenceIdeal Cert.PleReferenceIdeal.Gen Cert.Emb
open Idealize.ShloMosaic Idealize.ShloMosaic.TcCoe Idealize.ShloMosaic.StableHlo Idealize.SL.Sem
open scoped BigOperators

section
variable {F : FTy → Type} [FloatOps F]

/-- The reference's root mean square norm. -/
def norm (x : (⟨S8192x2048, .f32⟩ : BufTy).Contents (Elt F)) (g : (⟨S2048, .f32⟩ : BufTy).Contents (Elt F)) :
    (⟨S8192x2048, .f32⟩ : BufTy).Contents (Elt F) :=
  mulf (mulf x (broadcastInDim S8192x2048 ![0, 1] bcast_S8192x1_S8192x2048_0_1 (Host.rsqrt (addf
      (Host.divf (broadcastInDim S8192x1 ![0] bcast_S8192_S8192x1_0
        (Host.reduceAdd (mulf x x) (constant S_ .f32 0x00000000#32) reducesTo_S8192x2048_S8192_d1 h_S_))
        (broadcastInDim S8192x1 ![] bcast_S_S8192x1 (constant S_ .f32 0x45000000#32)))
      (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

/-- The gate of a normed row. -/
def gate (n : (⟨S8192x2048, .f32⟩ : BufTy).Contents (Elt F)) (w : (⟨S2048x2048, .bf16⟩ : BufTy).Contents (Elt F)) :
    (⟨S8192x2048, .f32⟩ : BufTy).Contents (Elt F) :=
  Host.divf (broadcastInDim S8192x2048 ![] bcast_S_S8192x2048 (constant S_ .f32 0x3F800000#32))
    (addf (broadcastInDim S8192x2048 ![] bcast_S_S8192x2048 (constant S_ .f32 0x3F800000#32))
      (Host.exp (Host.negf (Host.dotGeneral dot_S8192x2048_S2048x2048_S8192x2048_1_0_0_1_n_n none n (extf .f32 w bitsLt_bf16_f32)))))

/-- The projected embedding of the second layer. -/
def emb (p : (⟨S2x2x4096x256, .f32⟩ : BufTy).Contents (Elt F)) (w : (⟨S2x256x2048, .f32⟩ : BufTy).Contents (Elt F)) :
    (⟨S8192x2048, .f32⟩ : BufTy).Contents (Elt F) :=
  Host.dotGeneral dot_S8192x256_S256x2048_S8192x2048_1_0_0_1_n_n none
    (shapeCast S8192x256 (shapeCast S2x4096x256 (extractStridedSlice S1x2x4096x256 ![1, 0, 0, 0] p slices_S2x2x4096x256_S1x2x4096x256_1_0_0_0)
      shapeCasts_S1x2x4096x256_S2x4096x256) shapeCasts_S2x4096x256_S8192x256)
    (shapeCast S256x2048 (extractStridedSlice S1x256x2048 ![1, 0, 0] w slices_S2x256x2048_S1x256x2048_1_0_0) shapeCasts_S1x256x2048_S256x2048)

/-- The reference's result as a term of its arguments. -/
def out (h d : (⟨S8192x2048, .f32⟩ : BufTy).Contents (Elt F)) (pn : (⟨S2x2048, .f32⟩ : BufTy).Contents (Elt F))
    (wg : (⟨S2048x2048, .bf16⟩ : BufTy).Contents (Elt F)) (p : (⟨S2x2x4096x256, .f32⟩ : BufTy).Contents (Elt F))
    (wp : (⟨S2x256x2048, .f32⟩ : BufTy).Contents (Elt F)) (fn : (⟨S2048, .f32⟩ : BufTy).Contents (Elt F)) :
    (⟨S8192x2048, .f32⟩ : BufTy).Contents (Elt F) :=
  norm (addf (addf h d) (mulf (gate (norm (addf h d)
    (shapeCast S2048 (extractStridedSlice S1x2048 ![1, 0] pn slices_S2x2048_S1x2048_1_0) shapeCasts_S1x2048_S2048)) wg) (emb p wp))) fn

/-- The reference's run: its result is that term and its arguments are as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44) = out (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.PleReferenceIdeal.Value.run m ρ

end

/-- The reference's norm at an entry. -/
theorem norm_at (x : (⟨S8192x2048, .f32⟩ : BufTy).Contents (Elt Ideal)) (g : (⟨S2048, .f32⟩ : BufTy).Contents (Elt Ideal))
    (r : Fin 8192) (k : Fin 2048) : norm x g (ix2 r k) = rms (fun j => x (ix2 r j)) (fun j => g (ix1 j)) k := by
  unfold norm rms
  pointwise

/-- The gate at an entry. -/
theorem gate_at (n : (⟨S8192x2048, .f32⟩ : BufTy).Contents (Elt Ideal)) (w : (⟨S2048x2048, .bf16⟩ : BufTy).Contents (Elt Ideal))
    (r : Fin 8192) (k : Fin 2048) :
    gate n w (ix2 r k) = Ideal.logistic (∑ j : Fin 2048, (HMul.hMul (α := EReal) (β := EReal) (γ := EReal) (n (ix2 r j)) (w (ix2 j k)))) := by
  unfold gate
  pointwise
  rfl

/-- The projected embedding at an entry. -/
theorem emb_at (p : (⟨S2x2x4096x256, .f32⟩ : BufTy).Contents (Elt Ideal)) (w : (⟨S2x256x2048, .f32⟩ : BufTy).Contents (Elt Ideal))
    (r : Fin 8192) (k : Fin 2048) :
    emb p w (ix2 r k) = ∑ z : Fin 256, (HMul.hMul (α := EReal) (β := EReal) (γ := EReal)
      (p (ix4 1 ⟨r.val / 4096, by omega⟩ ⟨r.val % 4096, by omega⟩ z)) (w (ix3 1 z k))) := by
  unfold emb
  pointwise

/-- The arrays as the call's arguments. -/
def argsOf (h d : (⟨S8192x2048, .f32⟩ : BufTy).Contents (Elt Ideal)) (pn : (⟨S2x2048, .f32⟩ : BufTy).Contents (Elt Ideal))
    (wg : (⟨S2048x2048, .bf16⟩ : BufTy).Contents (Elt Ideal)) (p : (⟨S2x2x4096x256, .f32⟩ : BufTy).Contents (Elt Ideal))
    (wp : (⟨S2x256x2048, .f32⟩ : BufTy).Contents (Elt Ideal)) (fn : (⟨S2048, .f32⟩ : BufTy).Contents (Elt Ideal)) : Args where
  h r k := h (ix2 r k)
  d r k := d (ix2 r k)
  pn k := pn (ix2 1 k)
  wg j k := wg (ix2 j k)
  p r z := p (ix4 1 ⟨r.val / 4096, by omega⟩ ⟨r.val % 4096, by omega⟩ z)
  wp z k := wp (ix3 1 z k)
  fn k := fn (ix1 k)

/-- The gain's slice at an entry. -/
theorem gain_at (pn : (⟨S2x2048, .f32⟩ : BufTy).Contents (Elt Ideal)) (k : Fin 2048) :
    shapeCast S2048 (extractStridedSlice S1x2048 ![1, 0] pn slices_S2x2048_S1x2048_1_0) shapeCasts_S1x2048_S2048 (ix1 k) = pn (ix2 1 k) := by
  pointwise

/-- The reference's result, element by element. -/
theorem out_at (h d : (⟨S8192x2048, .f32⟩ : BufTy).Contents (Elt Ideal)) (pn : (⟨S2x2048, .f32⟩ : BufTy).Contents (Elt Ideal))
    (wg : (⟨S2048x2048, .bf16⟩ : BufTy).Contents (Elt Ideal)) (p : (⟨S2x2x4096x256, .f32⟩ : BufTy).Contents (Elt Ideal))
    (wp : (⟨S2x256x2048, .f32⟩ : BufTy).Contents (Elt Ideal)) (fn : (⟨S2048, .f32⟩ : BufTy).Contents (Elt Ideal))
    (r : Fin 8192) (k : Fin 2048) : out h d pn wg p wp fn (ix2 r k) = (argsOf h d pn wg p wp fn).res r k := by
  unfold out Args.res
  refine (norm_at _ fn r k).trans (congrArg (fun f => rms f _ k) (funext fun j => ?_))
  refine congrArg₂ (HAdd.hAdd (α := EReal) (β := EReal) (γ := EReal)) rfl (congrArg₂ (HMul.hMul (α := EReal) (β := EReal) (γ := EReal))
    ((gate_at _ wg r j).trans (congrArg Ideal.logistic (Finset.sum_congr rfl fun l _ =>
      congrArg (fun a => HMul.hMul (α := EReal) (β := EReal) (γ := EReal) a (wg (ix2 l j))) ?_))) (emb_at p wp r j))
  refine (norm_at _ _ r l).trans (congrArg (fun g => rms _ g l) (funext fun i => gain_at pn i))

end Cert.PleReferenceIdeal.Ref

end
-- ==== Proof.PlfVal.lean ====
module

public import proofs.«01_k».proof.Proof.Gen.PleFirstIdeal.Value
public import proofs.«01_k».proof.Proof.PleModel
public import Idealize.ShloMosaic.Lib.VecWindow
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.PleFirstIdeal.Val

open Cert.PleFirstIdeal Cert.PleFirstIdeal.Gen Cert.Emb
open Idealize.ShloMosaic Idealize.ShloMosaic.TcCoe Idealize.SL.Sem
open scoped BigOperators

/-- The residual sum of a block. -/
theorem pay3_at (s : Vec Ideal S1x512x2048 .f32) (d : Vec Ideal S512x2048 .f32) (i : Fin 512) (k : Fin 2048) :
    k0_pay3 s d (ix2 i k) = HAdd.hAdd (α := EReal) (β := EReal) (γ := EReal) (s (ix3 0 i k)) (d (ix2 i k)) := by
  unfold k0_pay3
  pointwise

/-- Its norm. -/
theorem pay4_at (s : Vec Ideal S1x512x2048 .f32) (d : Vec Ideal S512x2048 .f32) (g : Vec Ideal S1x1x2048 .f32) (i : Fin 512) (k : Fin 2048) :
    k0_pay4 s d g (ix2 i k) = rms (fun j => k0_pay3 s d (ix2 i j)) (fun j => g (ix3 0 0 j)) k := by
  unfold k0_pay4 rms
  generalize k0_pay3 s d = x
  pointwise

/-- The gated sum of a block at an entry. -/
def gsum (x : FVec Ideal S512x2048 .f32) (n : FVec Ideal S512x2048 .bf16) (w : Vec Ideal S2048x2048 .bf16) (p : Vec Ideal S1x512x256 .f32)
    (wp : Vec Ideal S1x256x2048 .bf16) (i : Fin 512) (k : Fin 2048) : EReal :=
  x (ix2 i k) + Ideal.logistic (∑ j : Fin 2048, (HMul.hMul (α := EReal) (β := EReal) (γ := EReal) (n (ix2 i j)) (w (ix2 j k))))
    * ∑ z : Fin 256, (HMul.hMul (α := EReal) (β := EReal) (γ := EReal) (p (ix3 0 i z)) (wp (ix3 0 z k)))

/-- The first result of a block. -/
theorem pay1_at (x : FVec Ideal S512x2048 .f32) (n : FVec Ideal S512x2048 .bf16) (w : Vec Ideal S2048x2048 .bf16) (p : Vec Ideal S1x512x256 .f32)
    (wp : Vec Ideal S1x256x2048 .bf16) (i : Fin 512) (k : Fin 2048) : k0_pay1 x n w p wp (ix2 i k) = gsum x n w p wp i k := by
  unfold k0_pay1 gsum
  pointwise

/-- The second result of a block. -/
theorem pay2_at (x : FVec Ideal S512x2048 .f32) (n : FVec Ideal S512x2048 .bf16) (w : Vec Ideal S2048x2048 .bf16) (p : Vec Ideal S1x512x256 .f32)
    (wp : Vec Ideal S1x256x2048 .bf16) (g : Vec Ideal S1x2048 .f32) (i : Fin 512) (k : Fin 2048) :
    k0_pay2 x n w p wp g (ix2 i k) = rms (gsum x n w p wp i) (fun j => g (ix2 0 j)) k := by
  rw [show gsum x n w p wp i = fun j => k0_pay1 x n w p wp (ix2 i j) from funext fun j => (pay1_at x n w p wp i j).symm]
  unfold k0_pay2 rms
  generalize k0_pay1 x n w p wp = y
  pointwise

variable {F : FTy → Type} [FloatOps F]

/-- Where the body reads a landed slot. -/
theorem off7 : ∀ t : Fin grid0.N, k0_off7 (grid0.coords t) = ![(Ring.sl 3 t.val).val, 0, 0] := by decide +kernel

/-- A slot's cast read at an entry. -/
theorem cast3_at (X : Vec F S1x512x2048 .f32) (i : Fin 512) (k : Fin 2048) :
    shapeCast S512x2048 X shapeCasts_S1x512x2048_S512x2048 (ix2 i k) = X (ix3 0 i k) := by
  pointwise

/-- What the body reads of a landed slot: the point's block of rows. -/
theorem slot_at (c : Dev nD) (t : Fin cfg0.N) (fh0 : HbBuf0 (F := F) c hbM0_0) (inb) (f) (i : Fin 512) (k : Fin 2048) :
    shapeCast (s := S1x512x2048) S512x2048 (View.readAt (Elt F) scM0_0.view (Rect.unit (k0_off7 (grid0.coords t)) ![1, 512, 2048] inb).toLoadRect
      ((rslot0_0 (Ring.sl 3 t.val)).view.writes (Elt F) f
        [⟨Rect.whole S512x2048, ReadAs.same.apply (View.read (Elt F) (srcB0_0 (Ring.bk 16 t.val)).view fh0)⟩]))
        shapeCasts_S1x512x2048_S512x2048 (ix2 i k)
      = fh0 (ix2 ⟨512 * t.val + i.val, by have := t.isLt; have : cfg0.N = 16 := N_0; omega⟩ k : S8192x2048.Idx) := by
  have hN : t.val < 16 := lt_of_lt_of_eq t.isLt (show cfg0.N = 16 from N_0)
  refine (congrArg (fun X => shapeCast (s := S1x512x2048) S512x2048 X shapeCasts_S1x512x2048_S512x2048 (ix2 i k))
    (View.readAt_unit_eq_of_eq (Val' := Elt F) scM0_0.view inb (off7 t) _)).trans ?_
  refine (congrFun (Memref.read_squeeze_slice scM0_0 (Rect.unit (s := S3x512x2048) ![(Ring.sl 3 t.val).val, 0, 0] S1x512x2048.size (inb_slot0_0 _))
    (fun _ => rfl) squeezes_S1x512x2048_S512x2048 shapeCasts_S1x512x2048_S512x2048 _) (ix2 i k)).symm.trans ?_
  refine (congrFun (View.read_writes_whole (rslot0_0 (Ring.sl 3 t.val)).view f _) (ix2 i k)).trans ?_
  have hb : (Ring.bk 16 t.val).val = t.val := Nat.mod_eq_of_lt hN
  refine congrArg fh0 ?_
  funext a
  match a with
  | ⟨0, _⟩ => exact Fin.ext (show 512 * (Ring.bk 16 t.val).val + 1 * i.val = 512 * t.val + i.val by rw [hb]; omega)
  | ⟨1, _⟩ => exact Fin.ext (show 0 + 1 * k.val = k.val by omega)

end Cert.PleFirstIdeal.Val

end
-- ==== Proof.PlfArr.lean ====
module

public import proofs.«01_k».proof.Proof.PlfVal

@[expose] public section

set_option maxRecDepth 16384

noncomputable section

namespace Cert.PleFirstIdeal.Val

open Cert.PleFirstIdeal Cert.PleFirstIdeal.Gen Cert.Emb
open Idealize.ShloMosaic Idealize.ShloMosaic.TcCoe Idealize.ShloMosaic.StableHlo Idealize.SL.Sem
open scoped BigOperators

section
variable {F : FTy → Type} [FloatOps F]
variable (c : Dev nD) (t : Fin cfg0.N) (arg2 : Memref sig .tc .vmem S512x2048 .f32) (harg2 : arg2.IsWhole)
  (arg3 : Memref sig .tc .vmem S1x1x2048 .f32) (harg3 : arg3.IsWhole) (arg4 : Memref sig .tc .vmem S2048x2048 .bf16) (harg4 : arg4.IsWhole)
  (arg5 : Memref sig .tc .vmem S1x512x256 .f32) (harg5 : arg5.IsWhole) (arg6 : Memref sig .tc .vmem S1x256x2048 .bf16) (harg6 : arg6.IsWhole)
  (arg7 : Memref sig .tc .vmem S1x2048 .f32) (harg7 : arg7.IsWhole) (arg8 : Memref sig .tc .vmem S512x2048 .f32) (harg8 : arg8.IsWhole)
  (arg9 : Memref sig .tc .vmem S512x2048 .bf16) (harg9 : arg9.IsWhole)
  (x0 : Vec F S512x2048 .f32) (x1 : Vec F S1x1x2048 .f32) (x2 : Vec F S2048x2048 .bf16) (x3 : Vec F S1x512x256 .f32)
  (x4 : Vec F S1x256x2048 .bf16) (x5 : Vec F S1x2048 .f32) (fh0 : HbBuf0 (F := F) c hbM0_0)

/-- What a point leaves in the first result's block, from what its slot holds. -/
abbrev outOf (s : Vec F S1x512x2048 .f32) : Vec F S512x2048 .f32 := k0_pay1 (k0_pay3 s x0) (k0_pay4 s x0 x1) x2 x3 x4

/-- What it leaves in the second result's block. -/
abbrev outOn (s : Vec F S1x512x2048 .f32) : Vec F S512x2048 .bf16 := k0_pay2 (k0_pay3 s x0) (k0_pay4 s x0 x1) x2 x3 x4 x5

/-- What a point of this kind leaves in the first result's block. -/
theorem out_A (hc0 : cond0_0 (grid0.coords t)) (hc1 : cond0_1 (grid0.coords t)) :
    out0_A_6 c t arg2 harg2 arg3 harg3 arg4 harg4 arg5 harg5 arg6 harg6 arg7 harg7 arg8 harg8 arg9 harg9 hc0 hc1 x0 x1 x2 x3 x4 x5 fh0
      = outOf x0 x1 x2 x3 x4 (kernelRun0_A.sl.v16 c t fh0) := by
  unfold out0_A_6 kernelRun0_A
  dsimp only
  refine (View.read_writes_full (s := S512x2048) VO0_6 _ (by decide) _ _).trans ?_
  have e0 : View.readAt (Elt F) arg2.view (Rect.unit ![0, 0] ![512, 2048] inb_S512x2048_S512x2048_0_0).toLoadRect (harg2.unread x0) = x0 :=
    (View.readAt_full (s := S512x2048) arg2.view _ _).trans (harg2.read_unread x0)
  have e1 : View.readAt (Elt F) arg3.view (Rect.unit ![0, 0, 0] ![1, 1, 2048] inb_S1x1x2048_S1x1x2048_0_0_0).toLoadRect (harg3.unread x1) = x1 :=
    (View.readAt_full (s := S1x1x2048) arg3.view _ _).trans (harg3.read_unread x1)
  have e2 : View.readAt (Elt F) arg4.view (Rect.unit ![0, 0] ![2048, 2048] inb_S2048x2048_S2048x2048_0_0).toLoadRect (harg4.unread x2) = x2 :=
    (View.readAt_full (s := S2048x2048) arg4.view _ _).trans (harg4.read_unread x2)
  have e3 : View.readAt (Elt F) arg5.view (Rect.unit ![0, 0, 0] ![1, 512, 256] inb_S1x512x256_S1x512x256_0_0_0).toLoadRect (harg5.unread x3) = x3 :=
    (View.readAt_full (s := S1x512x256) arg5.view _ _).trans (harg5.read_unread x3)
  have e4 : View.readAt (Elt F) arg6.view (Rect.unit ![0, 0, 0] ![1, 256, 2048] inb_S1x256x2048_S1x256x2048_0_0_0).toLoadRect (harg6.unread x4) = x4 :=
    (View.readAt_full (s := S1x256x2048) arg6.view _ _).trans (harg6.read_unread x4)
  have key := congr (congr (congr (congr (congrArg (fun a b d e f => outOf a b d e f (kernelRun0_A.sl.v16 c t fh0)) e0) e1) e2) e3) e4
  exact key

/-- What it leaves in the second result's block. -/
theorem outn_A (hc0 : cond0_0 (grid0.coords t)) (hc1 : cond0_1 (grid0.coords t)) :
    out0_A_7 c t arg2 harg2 arg3 harg3 arg4 harg4 arg5 harg5 arg6 harg6 arg7 harg7 arg8 harg8 arg9 harg9 hc0 hc1 x0 x1 x2 x3 x4 x5 fh0
      = outOn x0 x1 x2 x3 x4 x5 (kernelRun0_A.sl.v16 c t fh0) := by
  unfold out0_A_7 kernelRun0_A
  dsimp only
  refine (View.read_writes_full (s := S512x2048) VO0_7 _ (by decide) _ _).trans ?_
  have e0 : View.readAt (Elt F) arg2.view (Rect.unit ![0, 0] ![512, 2048] inb_S512x2048_S512x2048_0_0).toLoadRect (harg2.unread x0) = x0 :=
    (View.readAt_full (s := S512x2048) arg2.view _ _).trans (harg2.read_unread x0)
  have e1 : View.readAt (Elt F) arg3.view (Rect.unit ![0, 0, 0] ![1, 1, 2048] inb_S1x1x2048_S1x1x2048_0_0_0).toLoadRect (harg3.unread x1) = x1 :=
    (View.readAt_full (s := S1x1x2048) arg3.view _ _).trans (harg3.read_unread x1)
  have e2 : View.readAt (Elt F) arg4.view (Rect.unit ![0, 0] ![2048, 2048] inb_S2048x2048_S2048x2048_0_0).toLoadRect (harg4.unread x2) = x2 :=
    (View.readAt_full (s := S2048x2048) arg4.view _ _).trans (harg4.read_unread x2)
  have e3 : View.readAt (Elt F) arg5.view (Rect.unit ![0, 0, 0] ![1, 512, 256] inb_S1x512x256_S1x512x256_0_0_0).toLoadRect (harg5.unread x3) = x3 :=
    (View.readAt_full (s := S1x512x256) arg5.view _ _).trans (harg5.read_unread x3)
  have e4 : View.readAt (Elt F) arg6.view (Rect.unit ![0, 0, 0] ![1, 256, 2048] inb_S1x256x2048_S1x256x2048_0_0_0).toLoadRect (harg6.unread x4) = x4 :=
    (View.readAt_full (s := S1x256x2048) arg6.view _ _).trans (harg6.read_unread x4)
  have e5 : View.readAt (Elt F) arg7.view (Rect.unit ![0, 0] ![1, 2048] inb_S1x2048_S1x2048_0_0).toLoadRect (harg7.unread x5) = x5 :=
    (View.readAt_full (s := S1x2048) arg7.view _ _).trans (harg7.read_unread x5)
  have key := congr (congr (congr (congr (congr (congrArg (fun a b d e f g => outOn a b d e f g (kernelRun0_A.sl.v16 c t fh0)) e0) e1) e2) e3) e4) e5
  exact key

/-- What the point's slot holds: its block of rows. -/
theorem v16_A (i : Fin 512) (k : Fin 2048) : kernelRun0_A.sl.v16 c t fh0 (ix3 0 i k : S1x512x2048.Idx)
    = fh0 (ix2 ⟨512 * t.val + i.val, by have := t.isLt; have : cfg0.N = 16 := N_0; omega⟩ k : S8192x2048.Idx) := by
  refine (cast3_at (kernelRun0_A.sl.v16 c t fh0) i k).symm.trans ?_
  exact slot_at c t fh0 _ _ i k

/-- What a point of this kind leaves in the first result's block. -/
theorem out_B (hc0 : ¬cond0_0 (grid0.coords t)) (hc1 : cond0_1 (grid0.coords t)) :
    out0_B_6 c t arg2 harg2 arg3 harg3 arg4 harg4 arg5 harg5 arg6 harg6 arg7 harg7 arg8 harg8 arg9 harg9 hc0 hc1 x0 x1 x2 x3 x4 x5 fh0
      = outOf x0 x1 x2 x3 x4 (kernelRun0_B.sl.v16 c t fh0) := by
  unfold out0_B_6 kernelRun0_B
  dsimp only
  refine (View.read_writes_full (s := S512x2048) VO0_6 _ (by decide) _ _).trans ?_
  have e0 : View.readAt (Elt F) arg2.view (Rect.unit ![0, 0] ![512, 2048] inb_S512x2048_S512x2048_0_0).toLoadRect (harg2.unread x0) = x0 :=
    (View.readAt_full (s := S512x2048) arg2.view _ _).trans (harg2.read_unread x0)
  have e1 : View.readAt (Elt F) arg3.view (Rect.unit ![0, 0, 0] ![1, 1, 2048] inb_S1x1x2048_S1x1x2048_0_0_0).toLoadRect (harg3.unread x1) = x1 :=
    (View.readAt_full (s := S1x1x2048) arg3.view _ _).trans (harg3.read_unread x1)
  have e2 : View.readAt (Elt F) arg4.view (Rect.unit ![0, 0] ![2048, 2048] inb_S2048x2048_S2048x2048_0_0).toLoadRect (harg4.unread x2) = x2 :=
    (View.readAt_full (s := S2048x2048) arg4.view _ _).trans (harg4.read_unread x2)
  have e3 : View.readAt (Elt F) arg5.view (Rect.unit ![0, 0, 0] ![1, 512, 256] inb_S1x512x256_S1x512x256_0_0_0).toLoadRect (harg5.unread x3) = x3 :=
    (View.readAt_full (s := S1x512x256) arg5.view _ _).trans (harg5.read_unread x3)
  have e4 : View.readAt (Elt F) arg6.view (Rect.unit ![0, 0, 0] ![1, 256, 2048] inb_S1x256x2048_S1x256x2048_0_0_0).toLoadRect (harg6.unread x4) = x4 :=
    (View.readAt_full (s := S1x256x2048) arg6.view _ _).trans (harg6.read_unread x4)
  have key := congr (congr (congr (congr (congrArg (fun a b d e f => outOf a b d e f (kernelRun0_B.sl.v16 c t fh0)) e0) e1) e2) e3) e4
  exact key

/-- What it leaves in the second result's block. -/
theorem outn_B (hc0 : ¬cond0_0 (grid0.coords t)) (hc1 : cond0_1 (grid0.coords t)) :
    out0_B_7 c t arg2 harg2 arg3 harg3 arg4 harg4 arg5 harg5 arg6 harg6 arg7 harg7 arg8 harg8 arg9 harg9 hc0 hc1 x0 x1 x2 x3 x4 x5 fh0
      = outOn x0 x1 x2 x3 x4 x5 (kernelRun0_B.sl.v16 c t fh0) := by
  unfold out0_B_7 kernelRun0_B
  dsimp only
  refine (View.read_writes_full (s := S512x2048) VO0_7 _ (by decide) _ _).trans ?_
  have e0 : View.readAt (Elt F) arg2.view (Rect.unit ![0, 0] ![512, 2048] inb_S512x2048_S512x2048_0_0).toLoadRect (harg2.unread x0) = x0 :=
    (View.readAt_full (s := S512x2048) arg2.view _ _).trans (harg2.read_unread x0)
  have e1 : View.readAt (Elt F) arg3.view (Rect.unit ![0, 0, 0] ![1, 1, 2048] inb_S1x1x2048_S1x1x2048_0_0_0).toLoadRect (harg3.unread x1) = x1 :=
    (View.readAt_full (s := S1x1x2048) arg3.view _ _).trans (harg3.read_unread x1)
  have e2 : View.readAt (Elt F) arg4.view (Rect.unit ![0, 0] ![2048, 2048] inb_S2048x2048_S2048x2048_0_0).toLoadRect (harg4.unread x2) = x2 :=
    (View.readAt_full (s := S2048x2048) arg4.view _ _).trans (harg4.read_unread x2)
  have e3 : View.readAt (Elt F) arg5.view (Rect.unit ![0, 0, 0] ![1, 512, 256] inb_S1x512x256_S1x512x256_0_0_0).toLoadRect (harg5.unread x3) = x3 :=
    (View.readAt_full (s := S1x512x256) arg5.view _ _).trans (harg5.read_unread x3)
  have e4 : View.readAt (Elt F) arg6.view (Rect.unit ![0, 0, 0] ![1, 256, 2048] inb_S1x256x2048_S1x256x2048_0_0_0).toLoadRect (harg6.unread x4) = x4 :=
    (View.readAt_full (s := S1x256x2048) arg6.view _ _).trans (harg6.read_unread x4)
  have e5 : View.readAt (Elt F) arg7.view (Rect.unit ![0, 0] ![1, 2048] inb_S1x2048_S1x2048_0_0).toLoadRect (harg7.unread x5) = x5 :=
    (View.readAt_full (s := S1x2048) arg7.view _ _).trans (harg7.read_unread x5)
  have key := congr (congr (congr (congr (congr (congrArg (fun a b d e f g => outOn a b d e f g (kernelRun0_B.sl.v16 c t fh0)) e0) e1) e2) e3) e4) e5
  exact key

/-- What the point's slot holds: its block of rows. -/
theorem v16_B (i : Fin 512) (k : Fin 2048) : kernelRun0_B.sl.v16 c t fh0 (ix3 0 i k : S1x512x2048.Idx)
    = fh0 (ix2 ⟨512 * t.val + i.val, by have := t.isLt; have : cfg0.N = 16 := N_0; omega⟩ k : S8192x2048.Idx) := by
  refine (cast3_at (kernelRun0_B.sl.v16 c t fh0) i k).symm.trans ?_
  exact slot_at c t fh0 _ _ i k

/-- What a point of this kind leaves in the first result's block. -/
theorem out_C (hc0 : ¬cond0_0 (grid0.coords t)) (hc1 : ¬cond0_1 (grid0.coords t)) :
    out0_C_6 c t arg2 harg2 arg3 harg3 arg4 harg4 arg5 harg5 arg6 harg6 arg7 harg7 arg8 harg8 arg9 harg9 hc0 hc1 x0 x1 x2 x3 x4 x5 fh0
      = outOf x0 x1 x2 x3 x4 (kernelRun0_C.sl.v16 c t fh0) := by
  unfold out0_C_6 kernelRun0_C
  dsimp only
  refine (View.read_writes_full (s := S512x2048) VO0_6 _ (by decide) _ _).trans ?_
  have e0 : View.readAt (Elt F) arg2.view (Rect.unit ![0, 0] ![512, 2048] inb_S512x2048_S512x2048_0_0).toLoadRect (harg2.unread x0) = x0 :=
    (View.readAt_full (s := S512x2048) arg2.view _ _).trans (harg2.read_unread x0)
  have e1 : View.readAt (Elt F) arg3.view (Rect.unit ![0, 0, 0] ![1, 1, 2048] inb_S1x1x2048_S1x1x2048_0_0_0).toLoadRect (harg3.unread x1) = x1 :=
    (View.readAt_full (s := S1x1x2048) arg3.view _ _).trans (harg3.read_unread x1)
  have e2 : View.readAt (Elt F) arg4.view (Rect.unit ![0, 0] ![2048, 2048] inb_S2048x2048_S2048x2048_0_0).toLoadRect (harg4.unread x2) = x2 :=
    (View.readAt_full (s := S2048x2048) arg4.view _ _).trans (harg4.read_unread x2)
  have e3 : View.readAt (Elt F) arg5.view (Rect.unit ![0, 0, 0] ![1, 512, 256] inb_S1x512x256_S1x512x256_0_0_0).toLoadRect (harg5.unread x3) = x3 :=
    (View.readAt_full (s := S1x512x256) arg5.view _ _).trans (harg5.read_unread x3)
  have e4 : View.readAt (Elt F) arg6.view (Rect.unit ![0, 0, 0] ![1, 256, 2048] inb_S1x256x2048_S1x256x2048_0_0_0).toLoadRect (harg6.unread x4) = x4 :=
    (View.readAt_full (s := S1x256x2048) arg6.view _ _).trans (harg6.read_unread x4)
  have key := congr (congr (congr (congr (congrArg (fun a b d e f => outOf a b d e f (kernelRun0_C.sl.v16 c t fh0)) e0) e1) e2) e3) e4
  exact key

/-- What it leaves in the second result's block. -/
theorem outn_C (hc0 : ¬cond0_0 (grid0.coords t)) (hc1 : ¬cond0_1 (grid0.coords t)) :
    out0_C_7 c t arg2 harg2 arg3 harg3 arg4 harg4 arg5 harg5 arg6 harg6 arg7 harg7 arg8 harg8 arg9 harg9 hc0 hc1 x0 x1 x2 x3 x4 x5 fh0
      = outOn x0 x1 x2 x3 x4 x5 (kernelRun0_C.sl.v16 c t fh0) := by
  unfold out0_C_7 kernelRun0_C
  dsimp only
  refine (View.read_writes_full (s := S512x2048) VO0_7 _ (by decide) _ _).trans ?_
  have e0 : View.readAt (Elt F) arg2.view (Rect.unit ![0, 0] ![512, 2048] inb_S512x2048_S512x2048_0_0).toLoadRect (harg2.unread x0) = x0 :=
    (View.readAt_full (s := S512x2048) arg2.view _ _).trans (harg2.read_unread x0)
  have e1 : View.readAt (Elt F) arg3.view (Rect.unit ![0, 0, 0] ![1, 1, 2048] inb_S1x1x2048_S1x1x2048_0_0_0).toLoadRect (harg3.unread x1) = x1 :=
    (View.readAt_full (s := S1x1x2048) arg3.view _ _).trans (harg3.read_unread x1)
  have e2 : View.readAt (Elt F) arg4.view (Rect.unit ![0, 0] ![2048, 2048] inb_S2048x2048_S2048x2048_0_0).toLoadRect (harg4.unread x2) = x2 :=
    (View.readAt_full (s := S2048x2048) arg4.view _ _).trans (harg4.read_unread x2)
  have e3 : View.readAt (Elt F) arg5.view (Rect.unit ![0, 0, 0] ![1, 512, 256] inb_S1x512x256_S1x512x256_0_0_0).toLoadRect (harg5.unread x3) = x3 :=
    (View.readAt_full (s := S1x512x256) arg5.view _ _).trans (harg5.read_unread x3)
  have e4 : View.readAt (Elt F) arg6.view (Rect.unit ![0, 0, 0] ![1, 256, 2048] inb_S1x256x2048_S1x256x2048_0_0_0).toLoadRect (harg6.unread x4) = x4 :=
    (View.readAt_full (s := S1x256x2048) arg6.view _ _).trans (harg6.read_unread x4)
  have e5 : View.readAt (Elt F) arg7.view (Rect.unit ![0, 0] ![1, 2048] inb_S1x2048_S1x2048_0_0).toLoadRect (harg7.unread x5) = x5 :=
    (View.readAt_full (s := S1x2048) arg7.view _ _).trans (harg7.read_unread x5)
  have key := congr (congr (congr (congr (congr (congrArg (fun a b d e f g => outOn a b d e f g (kernelRun0_C.sl.v16 c t fh0)) e0) e1) e2) e3) e4) e5
  exact key

/-- What the point's slot holds: its block of rows. -/
theorem v16_C (i : Fin 512) (k : Fin 2048) : kernelRun0_C.sl.v16 c t fh0 (ix3 0 i k : S1x512x2048.Idx)
    = fh0 (ix2 ⟨512 * t.val + i.val, by have := t.isLt; have : cfg0.N = 16 := N_0; omega⟩ k : S8192x2048.Idx) := by
  refine (cast3_at (kernelRun0_C.sl.v16 c t fh0) i k).symm.trans ?_
  exact slot_at c t fh0 _ _ i k

end

variable (m : (ℓ : Loc nD τ sig) → Buf (Elt Ideal) ℓ)

/-- The kernel's arrays as the call's arguments. -/
def argsE (c : Dev nD) : Args where
  h r k := m ((c : Thread nD τ).loc main_arg0) (ix2 r k)
  d r k := m ((c : Thread nD τ).loc main_arg1) (ix2 r k)
  pn k := m ((c : Thread nD τ).loc main_arg2) (ix2 0 k)
  wg j k := m ((c : Thread nD τ).loc main_arg3) (ix2 j k)
  p r z := m ((c : Thread nD τ).loc main_arg4) (ix4 0 ⟨r.val / 4096, by omega⟩ ⟨r.val % 4096, by omega⟩ z)
  wp z k := m ((c : Thread nD τ).loc main_arg5) (ix3 0 z k)
  fn k := m ((c : Thread nD τ).loc main_arg6) (ix2 1 k)

/-- Where each window's block lies at a point. -/
theorem idxE : ∀ t : Fin cfg0.N, win0_0.index t = ![t.val, 0] ∧ win0_1.index t = ![0, 0, 0] ∧ win0_2.index t = ![0, 0]
    ∧ win0_3.index t = ![0, t.val, 0] ∧ win0_4.index t = ![0, 0, 0] ∧ win0_5.index t = ![0, 0] ∧ win0_6.index t = ![t.val, 0] ∧ win0_7.index t = ![t.val, 0] := by
  decide +kernel

/-- The reshaped arrays when the grid starts. -/
theorem V0_at (c : Dev nD) (k : Fin 2048) : V m c main_v0 (ix3 0 0 k) = (argsE m c).pn k := by
  unfold V
  after_reads_at
  rfl

@[inherit_doc V0_at] theorem V1_at (c : Dev nD) (r : Fin 8192) (z : Fin 256) : V m c main_v1 (ix3 0 r z) = (argsE m c).p r z := by
  unfold V
  after_reads_at
  rfl

@[inherit_doc V0_at] theorem V2_at (c : Dev nD) (z : Fin 256) (k : Fin 2048) : V m c main_v2 (ix3 0 z k) = (argsE m c).wp z k := by
  unfold V
  after_reads_at
  rfl

@[inherit_doc V0_at] theorem V5_at (c : Dev nD) (k : Fin 2048) : V m c main_v5 (ix2 0 k) = (argsE m c).fn k := by
  unfold V
  after_reads_at
  rfl

/-- The result's row of a block's row. -/
def rowE (t : Fin cfg0.N) (i : Fin 512) : Fin 8192 := ⟨512 * t.val + i.val, by have := t.isLt; have : cfg0.N = 16 := N_0; omega⟩

theorem blk0_at (c : Dev nD) (t : Fin cfg0.N) (i : Fin 512) (k : Fin 2048) : iblk m c 0 t (ix2 i k) = (argsE m c).d (rowE t i) k := by
  unfold argsE rowE
  blk_ext [iblk, V, idxE t]
  all_goals try omega

theorem blk1_at (c : Dev nD) (t : Fin cfg0.N) (k : Fin 2048) : iblk m c 1 t (ix3 0 0 k) = (argsE m c).pn k := by
  rw [← V0_at]
  blk_ext [iblk, idxE t]

theorem blk2_at (c : Dev nD) (t : Fin cfg0.N) (j k : Fin 2048) : iblk m c 2 t (ix2 j k) = (argsE m c).wg j k := by
  unfold argsE
  blk_ext [iblk, V, idxE t]

theorem blk3_at (c : Dev nD) (t : Fin cfg0.N) (i : Fin 512) (z : Fin 256) : iblk m c 3 t (ix3 0 i z) = (argsE m c).p (rowE t i) z := by
  rw [← V1_at]
  unfold rowE
  blk_ext [iblk, idxE t]
  all_goals try omega

theorem blk4_at (c : Dev nD) (t : Fin cfg0.N) (z : Fin 256) (k : Fin 2048) : iblk m c 4 t (ix3 0 z k) = (argsE m c).wp z k := by
  rw [← V2_at]
  blk_ext [iblk, idxE t]

theorem blk5_at (c : Dev nD) (t : Fin cfg0.N) (k : Fin 2048) : iblk m c 5 t (ix2 0 k) = (argsE m c).fn k := by
  rw [← V5_at]
  blk_ext [iblk, idxE t]

/-- The gated sum of a point's block, given what its slot holds. -/
theorem gsum_at (c : Dev nD) (t : Fin cfg0.N) (s : Vec Ideal S1x512x2048 .f32)
    (hs : ∀ (i : Fin 512) (k : Fin 2048), s (ix3 0 i k) = V m c main_arg0 (ix2 (rowE t i) k : S8192x2048.Idx)) (i : Fin 512) (j : Fin 2048) :
    gsum (k0_pay3 s (iblk m c 0 t)) (k0_pay4 s (iblk m c 0 t) (iblk m c 1 t)) (iblk m c 2 t) (iblk m c 3 t) (iblk m c 4 t) i j
      = (argsE m c).y (rowE t i) j := by
  have hx : ∀ j : Fin 2048, k0_pay3 s (iblk m c 0 t) (ix2 i j) = (argsE m c).x (rowE t i) j := fun j =>
    (pay3_at s (iblk m c 0 t) i j).trans (congrArg₂ (HAdd.hAdd (α := EReal) (β := EReal) (γ := EReal)) (hs i j) (blk0_at m c t i j))
  have hn : ∀ j : Fin 2048, k0_pay4 s (iblk m c 0 t) (iblk m c 1 t) (ix2 i j) = rms ((argsE m c).x (rowE t i)) (argsE m c).pn j := fun j =>
    (pay4_at s (iblk m c 0 t) (iblk m c 1 t) i j).trans (congrArg₂ (fun f g => rms f g j) (funext hx) (funext fun l => blk1_at m c t l))
  unfold gsum Args.y Args.pre Args.emb
  refine congrArg₂ (HAdd.hAdd (α := EReal) (β := EReal) (γ := EReal)) (hx j) (congrArg₂ (HMul.hMul (α := EReal) (β := EReal) (γ := EReal))
    (congrArg Ideal.logistic (Finset.sum_congr rfl fun l _ => ?_)) (Finset.sum_congr rfl fun z _ => ?_))
  · exact congrArg₂ (HMul.hMul (α := EReal) (β := EReal) (γ := EReal)) (hn l) (blk2_at m c t l j)
  · exact congrArg₂ (HMul.hMul (α := EReal) (β := EReal) (γ := EReal)) (blk3_at m c t i z) (blk4_at m c t z j)

/-- A point's block of the first result, given what its slot holds. -/
theorem outOf_at (c : Dev nD) (t : Fin cfg0.N) (s : Vec Ideal S1x512x2048 .f32)
    (hs : ∀ (i : Fin 512) (k : Fin 2048), s (ix3 0 i k) = V m c main_arg0 (ix2 (rowE t i) k : S8192x2048.Idx)) (i : Fin 512) (k : Fin 2048) :
    outOf (iblk m c 0 t) (iblk m c 1 t) (iblk m c 2 t) (iblk m c 3 t) (iblk m c 4 t) s (ix2 i k) = (argsE m c).y (rowE t i) k :=
  (pay1_at _ _ (iblk m c 2 t) (iblk m c 3 t) (iblk m c 4 t) i k).trans (gsum_at m c t s hs i k)

/-- A point's block of the second result, given what its slot holds. -/
theorem outOn_at (c : Dev nD) (t : Fin cfg0.N) (s : Vec Ideal S1x512x2048 .f32)
    (hs : ∀ (i : Fin 512) (k : Fin 2048), s (ix3 0 i k) = V m c main_arg0 (ix2 (rowE t i) k : S8192x2048.Idx)) (i : Fin 512) (k : Fin 2048) :
    outOn (iblk m c 0 t) (iblk m c 1 t) (iblk m c 2 t) (iblk m c 3 t) (iblk m c 4 t) (iblk m c 5 t) s (ix2 i k) = (argsE m c).res (rowE t i) k :=
  (pay2_at _ _ (iblk m c 2 t) (iblk m c 3 t) (iblk m c 4 t) (iblk m c 5 t) i k).trans
    (congrArg₂ (fun f g => rms f g k) (funext fun j => gsum_at m c t s hs i j) (funext fun l => blk5_at m c t l))

/-- What every point leaves in the first result's block. -/
theorem outsE (c : Dev nD) (t : Fin cfg0.N) (i : Fin 512) (k : Fin 2048) : (outsAt0 m c t.val t.isLt).1 (ix2 i k) = (argsE m c).y (rowE t i) k := by
  by_cases h0 : t.val % 16 = 0
  · have hN : t.val < 16 := lt_of_lt_of_eq t.isLt (show cfg0.N = 16 from N_0)
    have h1 : t.val < 14 := by omega
    refine (congrFun (congrArg Prod.fst (outsAt0_A m c t h0 h1)) (ix2 i k)).trans ?_
    dsimp only
    rw [out_A]
    exact outOf_at m c t _ (fun i k => v16_A c t _ i k) i k
  · by_cases h1 : t.val < 14
    · refine (congrFun (congrArg Prod.fst (outsAt0_B m c t h0 h1)) (ix2 i k)).trans ?_
      dsimp only
      rw [out_B]
      exact outOf_at m c t _ (fun i k => v16_B c t _ i k) i k
    · refine (congrFun (congrArg Prod.fst (outsAt0_C m c t h0 h1)) (ix2 i k)).trans ?_
      dsimp only
      rw [out_C]
      exact outOf_at m c t _ (fun i k => v16_C c t _ i k) i k

/-- What every point leaves in the second result's block. -/
theorem outnE (c : Dev nD) (t : Fin cfg0.N) (i : Fin 512) (k : Fin 2048) : (outsAt0 m c t.val t.isLt).2 (ix2 i k) = (argsE m c).res (rowE t i) k := by
  by_cases h0 : t.val % 16 = 0
  · have hN : t.val < 16 := lt_of_lt_of_eq t.isLt (show cfg0.N = 16 from N_0)
    have h1 : t.val < 14 := by omega
    refine (congrFun (congrArg Prod.snd (outsAt0_A m c t h0 h1)) (ix2 i k)).trans ?_
    dsimp only
    rw [outn_A]
    exact outOn_at m c t _ (fun i k => v16_A c t _ i k) i k
  · by_cases h1 : t.val < 14
    · refine (congrFun (congrArg Prod.snd (outsAt0_B m c t h0 h1)) (ix2 i k)).trans ?_
      dsimp only
      rw [outn_B]
      exact outOn_at m c t _ (fun i k => v16_B c t _ i k) i k
    · refine (congrFun (congrArg Prod.snd (outsAt0_C m c t h0 h1)) (ix2 i k)).trans ?_
      dsimp only
      rw [outn_C]
      exact outOn_at m c t _ (fun i k => v16_C c t _ i k) i k

/-- Every index of two coordinates is an `ix2`. -/
theorem ix2_eta {a b : ℕ} (y : (⟨2, ![a, b]⟩ : Shape).Idx) : y = ix2 (y 0) (y 1) := by
  funext i
  match i with
  | ⟨0, _⟩ => rfl
  | ⟨1, _⟩ => rfl

/-- The kernel's first result after the run. -/
theorem arrE (c : Dev nD) : (dats m 0 c).arrAt 6 cfg0.N = fun j : S8192x2048.Idx => (argsE m c).y (j 0) (j 1) := by
  refine (dats m 0 c).arrAt_eq_of_covers 6 _ (by decide +kernel) fun t hf y => ?_
  rw [after0_6]
  blk_simp
  obtain ⟨i, k, rfl⟩ : ∃ (i : Fin 512) (k : Fin 2048), y = ix2 i k := ⟨y 0, y 1, ix2_eta y⟩
  refine (outsE m c t i k).trans (congrArg₂ (argsE m c).y (Fin.ext ?_) (Fin.ext ?_))
  · unfold rowE; blk_simp [idxE t]; dsimp only; omega
  · blk_simp [idxE t]

/-- The kernel's second result after the run. -/
theorem arrN (c : Dev nD) : (dats m 0 c).arrAt 7 cfg0.N = fun j : S8192x2048.Idx => (argsE m c).res (j 0) (j 1) := by
  refine (dats m 0 c).arrAt_eq_of_covers 7 _ (by decide +kernel) fun t hf y => ?_
  rw [after0_7]
  blk_simp
  obtain ⟨i, k, rfl⟩ : ∃ (i : Fin 512) (k : Fin 2048), y = ix2 i k := ⟨y 0, y 1, ix2_eta y⟩
  refine (outnE m c t i k).trans (congrArg₂ (argsE m c).res (Fin.ext ?_) (Fin.ext ?_))
  · unfold rowE; blk_simp [idxE t]; dsimp only; omega
  · blk_simp [idxE t]

end Cert.PleFirstIdeal.Val

end
-- ==== Proof.PlfRef.lean ====
module

public import proofs.«01_k».proof.Proof.Gen.PleFirstReferenceIdeal.Run
public import proofs.«01_k».proof.Proof.PleModel
public import Idealize.ShloMosaic.Lib.StableHlo.ReadAt

@[expose] public section

set_option maxRecDepth 8192

noncomputable section

namespace Cert.PleFirstReferenceIdeal.Ref

open Cert.PleFirstReferenceIdeal Cert.PleFirstReferenceIdeal.Gen Cert.Emb
open Idealize.ShloMosaic Idealize.ShloMosaic.TcCoe Idealize.ShloMosaic.StableHlo Idealize.SL.Sem
open scoped BigOperators

section
variable {F : FTy → Type} [FloatOps F]

/-- The reference's root mean square norm. -/
def norm (x : (⟨S8192x2048, .f32⟩ : BufTy).Contents (Elt F)) (g : (⟨S2048, .f32⟩ : BufTy).Contents (Elt F)) :
    (⟨S8192x2048, .f32⟩ : BufTy).Contents (Elt F) :=
  mulf (mulf x (broadcastInDim S8192x2048 ![0, 1] bcast_S8192x1_S8192x2048_0_1 (Host.rsqrt (addf
      (Host.divf (broadcastInDim S8192x1 ![0] bcast_S8192_S8192x1_0
        (Host.reduceAdd (mulf x x) (constant S_ .f32 0x00000000#32) reducesTo_S8192x2048_S8192_d1 h_S_))
        (broadcastInDim S8192x1 ![] bcast_S_S8192x1 (constant S_ .f32 0x45000000#32)))
      (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

/-- The gate of a normed row. -/
def gate (n : (⟨S8192x2048, .f32⟩ : BufTy).Contents (Elt F)) (w : (⟨S2048x2048, .bf16⟩ : BufTy).Contents (Elt F)) :
    (⟨S8192x2048, .f32⟩ : BufTy).Contents (Elt F) :=
  Host.divf (broadcastInDim S8192x2048 ![] bcast_S_S8192x2048 (constant S_ .f32 0x3F800000#32))
    (addf (broadcastInDim S8192x2048 ![] bcast_S_S8192x2048 (constant S_ .f32 0x3F800000#32))
      (Host.exp (Host.negf (Host.dotGeneral dot_S8192x2048_S2048x2048_S8192x2048_1_0_0_1_n_n none n (extf .f32 w bitsLt_bf16_f32)))))

/-- The projected embedding of the first layer. -/
def emb (p : (⟨S2x2x4096x256, .f32⟩ : BufTy).Contents (Elt F)) (w : (⟨S2x256x2048, .f32⟩ : BufTy).Contents (Elt F)) :
    (⟨S8192x2048, .f32⟩ : BufTy).Contents (Elt F) :=
  Host.dotGeneral dot_S8192x256_S256x2048_S8192x2048_1_0_0_1_n_n none
    (shapeCast S8192x256 (shapeCast S2x4096x256 (extractStridedSlice S1x2x4096x256 ![0, 0, 0, 0] p slices_S2x2x4096x256_S1x2x4096x256_0_0_0_0)
      shapeCasts_S1x2x4096x256_S2x4096x256) shapeCasts_S2x4096x256_S8192x256)
    (shapeCast S256x2048 (extractStridedSlice S1x256x2048 ![0, 0, 0] w slices_S2x256x2048_S1x256x2048_0_0_0) shapeCasts_S1x256x2048_S256x2048)

/-- The reference's first result as a term of its arguments. -/
def out (h d : (⟨S8192x2048, .f32⟩ : BufTy).Contents (Elt F)) (pn : (⟨S2x2048, .f32⟩ : BufTy).Contents (Elt F))
    (wg : (⟨S2048x2048, .bf16⟩ : BufTy).Contents (Elt F)) (p : (⟨S2x2x4096x256, .f32⟩ : BufTy).Contents (Elt F))
    (wp : (⟨S2x256x2048, .f32⟩ : BufTy).Contents (Elt F)) :
    (⟨S8192x2048, .f32⟩ : BufTy).Contents (Elt F) :=
  addf (addf h d) (mulf (gate (norm (addf h d)
    (shapeCast S2048 (extractStridedSlice S1x2048 ![0, 0] pn slices_S2x2048_S1x2048_0_0) shapeCasts_S1x2048_S2048)) wg) (emb p wp))

/-- The second result: the next norm of the first. -/
def outn (h d : (⟨S8192x2048, .f32⟩ : BufTy).Contents (Elt F)) (pn : (⟨S2x2048, .f32⟩ : BufTy).Contents (Elt F))
    (wg : (⟨S2048x2048, .bf16⟩ : BufTy).Contents (Elt F)) (p : (⟨S2x2x4096x256, .f32⟩ : BufTy).Contents (Elt F))
    (wp : (⟨S2x256x2048, .f32⟩ : BufTy).Contents (Elt F)) (fn : (⟨S2x2048, .f32⟩ : BufTy).Contents (Elt F)) :
    (⟨S8192x2048, .bf16⟩ : BufTy).Contents (Elt F) :=
  truncf .bf16 (norm (out h d pn wg p wp)
    (shapeCast S2048 (extractStridedSlice S1x2048 ![1, 0] fn slices_S2x2048_S1x2048_1_0) shapeCasts_S1x2048_S2048)) bitsLt_bf16_f32

/-- The reference's run: its result is that term and its arguments are as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v47) = outn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.PleFirstReferenceIdeal.Value.run m ρ

end

/-- The reference's norm at an entry. -/
theorem norm_at (x : (⟨S8192x2048, .f32⟩ : BufTy).Contents (Elt Ideal)) (g : (⟨S2048, .f32⟩ : BufTy).Contents (Elt Ideal))
    (r : Fin 8192) (k : Fin 2048) : norm x g (ix2 r k) = rms (fun j => x (ix2 r j)) (fun j => g (ix1 j)) k := by
  unfold norm rms
  pointwise

/-- The gate at an entry. -/
theorem gate_at (n : (⟨S8192x2048, .f32⟩ : BufTy).Contents (Elt Ideal)) (w : (⟨S2048x2048, .bf16⟩ : BufTy).Contents (Elt Ideal))
    (r : Fin 8192) (k : Fin 2048) :
    gate n w (ix2 r k) = Ideal.logistic (∑ j : Fin 2048, (HMul.hMul (α := EReal) (β := EReal) (γ := EReal) (n (ix2 r j)) (w (ix2 j k)))) := by
  unfold gate
  pointwise
  rfl

/-- The projected embedding at an entry. -/
theorem emb_at (p : (⟨S2x2x4096x256, .f32⟩ : BufTy).Contents (Elt Ideal)) (w : (⟨S2x256x2048, .f32⟩ : BufTy).Contents (Elt Ideal))
    (r : Fin 8192) (k : Fin 2048) :
    emb p w (ix2 r k) = ∑ z : Fin 256, (HMul.hMul (α := EReal) (β := EReal) (γ := EReal)
      (p (ix4 0 ⟨r.val / 4096, by omega⟩ ⟨r.val % 4096, by omega⟩ z)) (w (ix3 0 z k))) := by
  unfold emb
  pointwise

/-- The arrays as the call's arguments. -/
def argsOf (h d : (⟨S8192x2048, .f32⟩ : BufTy).Contents (Elt Ideal)) (pn : (⟨S2x2048, .f32⟩ : BufTy).Contents (Elt Ideal))
    (wg : (⟨S2048x2048, .bf16⟩ : BufTy).Contents (Elt Ideal)) (p : (⟨S2x2x4096x256, .f32⟩ : BufTy).Contents (Elt Ideal))
    (wp : (⟨S2x256x2048, .f32⟩ : BufTy).Contents (Elt Ideal)) (fn : (⟨S2x2048, .f32⟩ : BufTy).Contents (Elt Ideal)) : Args where
  h r k := h (ix2 r k)
  d r k := d (ix2 r k)
  pn k := pn (ix2 0 k)
  wg j k := wg (ix2 j k)
  p r z := p (ix4 0 ⟨r.val / 4096, by omega⟩ ⟨r.val % 4096, by omega⟩ z)
  wp z k := wp (ix3 0 z k)
  fn k := fn (ix2 1 k)

/-- The gain's slice at an entry. -/
theorem gain_at (pn : (⟨S2x2048, .f32⟩ : BufTy).Contents (Elt Ideal)) (k : Fin 2048) :
    shapeCast S2048 (extractStridedSlice S1x2048 ![0, 0] pn slices_S2x2048_S1x2048_0_0) shapeCasts_S1x2048_S2048 (ix1 k) = pn (ix2 0 k) := by
  pointwise

/-- The next gain's slice at an entry. -/
theorem gain1_at (pn : (⟨S2x2048, .f32⟩ : BufTy).Contents (Elt Ideal)) (k : Fin 2048) :
    shapeCast S2048 (extractStridedSlice S1x2048 ![1, 0] pn slices_S2x2048_S1x2048_1_0) shapeCasts_S1x2048_S2048 (ix1 k) = pn (ix2 1 k) := by
  pointwise

/-- The reference's first result, element by element. -/
theorem out_at (h d : (⟨S8192x2048, .f32⟩ : BufTy).Contents (Elt Ideal)) (pn : (⟨S2x2048, .f32⟩ : BufTy).Contents (Elt Ideal))
    (wg : (⟨S2048x2048, .bf16⟩ : BufTy).Contents (Elt Ideal)) (p : (⟨S2x2x4096x256, .f32⟩ : BufTy).Contents (Elt Ideal))
    (wp : (⟨S2x256x2048, .f32⟩ : BufTy).Contents (Elt Ideal)) (fn : (⟨S2x2048, .f32⟩ : BufTy).Contents (Elt Ideal))
    (r : Fin 8192) (j : Fin 2048) : out h d pn wg p wp (ix2 r j) = (argsOf h d pn wg p wp fn).y r j := by
  unfold out Args.y
  refine congrArg₂ (HAdd.hAdd (α := EReal) (β := EReal) (γ := EReal)) rfl (congrArg₂ (HMul.hMul (α := EReal) (β := EReal) (γ := EReal))
    ((gate_at _ wg r j).trans (congrArg Ideal.logistic (Finset.sum_congr rfl fun l _ =>
      congrArg (fun a => HMul.hMul (α := EReal) (β := EReal) (γ := EReal) a (wg (ix2 l j))) ?_))) (emb_at p wp r j))
  refine (norm_at _ _ r l).trans (congrArg (fun g => rms _ g l) (funext fun i => gain_at pn i))

/-- The reference's second result, element by element. -/
theorem outn_at (h d : (⟨S8192x2048, .f32⟩ : BufTy).Contents (Elt Ideal)) (pn : (⟨S2x2048, .f32⟩ : BufTy).Contents (Elt Ideal))
    (wg : (⟨S2048x2048, .bf16⟩ : BufTy).Contents (Elt Ideal)) (p : (⟨S2x2x4096x256, .f32⟩ : BufTy).Contents (Elt Ideal))
    (wp : (⟨S2x256x2048, .f32⟩ : BufTy).Contents (Elt Ideal)) (fn : (⟨S2x2048, .f32⟩ : BufTy).Contents (Elt Ideal))
    (r : Fin 8192) (k : Fin 2048) : outn h d pn wg p wp fn (ix2 r k) = (argsOf h d pn wg p wp fn).res r k := by
  refine (norm_at (out h d pn wg p wp) _ r k).trans ?_
  exact congrArg₂ (fun f g => rms f g k) (funext fun j => out_at h d pn wg p wp fn r j) (funext fun i => gain1_at fn i)

end Cert.PleFirstReferenceIdeal.Ref

end
-- ==== Proof.SgModel.lean ====
module

public import proofs.«01_k».proof.Proof.PleModel
public import Idealize.ShloMosaic.PureOps.Ideal.Laws

@[expose] public section

noncomputable section

namespace Cert.Spg

open Idealize.ShloMosaic Cert.Gla Cert.Emb
open scoped BigOperators

/-! # The chunked spatial gating and the output projection as one function of their arrays -/

/-- The exact gaussian error linear unit, with the constants as the programs write them. -/
def gelu (x : EReal) : EReal :=
  Ideal.ofBits .f32 0x3F000000#32 * x * (1 + Ideal.erf (x * Ideal.ofBits .f32 0x3F3504F3#32))

/-- The mean of a head's 128 columns. -/
def mean (f : Fin 128 → EReal) : EReal := Ideal.div (∑ j, f j) (Ideal.ofBits .f32 0x43000000#32)

/-- The head's norm, at column `d`. -/
def lnorm (f : Fin 128 → EReal) (g : EReal) (d : Fin 128) : EReal :=
  (f d - mean f) * Ideal.rsqrt (mean (fun j => (f j - mean f) * (f j - mean f)) + eps) * g

/-- A causal weight: zero after the diagonal. -/
def tri (w : Fin 128 → Fin 128 → EReal) (t s : Fin 128) : EReal := if s.val ≤ t.val then w t s else 0

/-- One head of one chunk of 128 tokens: the gated mix, at token `t` and column `d`. -/
def gated (w : Fin 128 → Fin 128 → EReal) (b g : Fin 128 → EReal) (u v : Fin 128 → Fin 128 → EReal) (t d : Fin 128) : EReal :=
  gelu (u t d) * ((∑ s, tri w t s * lnorm (fun j => gelu (v s j)) (g d) d) + b t)

/-- The arrays the call reads, as functions of their coordinates (one layer's slice of each weight). -/
structure Args where
  /-- the residual -/
  h : Fin 8192 → Fin 2048 → EReal
  /-- the two halves of the projection -/
  u : Fin 8192 → Fin 1024 → EReal
  /-- the second half -/
  v : Fin 8192 → Fin 1024 → EReal
  /-- the head norm's gain -/
  gv : Fin 1024 → EReal
  /-- the mixing weights of the heads -/
  ws : Fin 8 → Fin 128 → Fin 128 → EReal
  /-- their biases -/
  bs : Fin 8 → Fin 128 → EReal
  /-- the other branch's result -/
  yb : Fin 8192 → Fin 1024 → EReal
  /-- the output projection -/
  w : Fin 2048 → Fin 2048 → EReal
  /-- the next norm's gain -/
  fn : Fin 2048 → EReal

namespace Args
variable (A : Args)

/-- Row `t` of the chunk of 128 rows that starts at `128 q`. -/
def row (q : Fin 64) (t : Fin 128) : Fin 8192 := ⟨128 * q.val + t.val, by omega⟩
/-- Column `d` of head `e`. -/
def col (e : Fin 8) (d : Fin 128) : Fin 1024 := ⟨128 * e.val + d.val, by omega⟩
/-- The gating branch of a chunk and a head. -/
def tile (q : Fin 64) (e : Fin 8) (t d : Fin 128) : EReal :=
  gated (A.ws e) (A.bs e) (fun d => A.gv (col e d)) (fun t d => A.u (row q t) (col e d)) (fun t d => A.v (row q t) (col e d)) t d
/-- The gating branch. -/
def ya (r : Fin 8192) (n : Fin 1024) : EReal :=
  A.tile ⟨r.val / 128, by omega⟩ ⟨n.val / 128, by omega⟩ ⟨r.val % 128, by omega⟩ ⟨n.val % 128, by omega⟩
/-- The residual with the projection of the two branches. -/
def y (r : Fin 8192) (k : Fin 2048) : EReal :=
  A.h r k + ((∑ n : Fin 1024, A.ya r n * A.w ⟨n.val, by omega⟩ k) + ∑ n : Fin 1024, A.yb r n * A.w ⟨1024 + n.val, by omega⟩ k)
/-- Its norm. -/
def res (r : Fin 8192) (k : Fin 2048) : EReal := rms (A.y r) A.fn k

end Args

end Cert.Spg

end
-- ==== Proof.SgVal.lean ====
module

public import proofs.«01_k».proof.Proof.Gen.SgIdeal.Value
public import proofs.«01_k».proof.Proof.SgModel
public import Idealize.ShloMosaic.Lib.VecWindow
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.SgIdeal.Val

open Cert.SgIdeal Cert.SgIdeal.Gen Cert.Emb Cert.Spg
open Idealize.ShloMosaic Idealize.ShloMosaic.TcCoe Idealize.SL.Sem
open scoped BigOperators

section
variable {F : FTy → Type} [FloatOps F]

/-- The unit of a tile. -/
def gelV (x : FVec F S128x128 .f32) : FVec F S128x128 .f32 :=
  mulf (mulf (broadcast S128x128 (Scalar.ofBits .f32 0x3F000000#32)) x)
    (addf (broadcast S128x128 (Scalar.ofBits .f32 0x3F800000#32)) (erf (mulf x (broadcast S128x128 (Scalar.ofBits .f32 0x3F3504F3#32)))))

/-- The mean of a tile's rows. -/
def meanV (x : FVec F S128x128 .f32) : FVec F S128x1 .f32 :=
  divf (shapeCast S128x1 (multiReduction .add [1] S128 x 0x00000000#32 reduces_S128x128_S128 (.inl rfl) rfl) shapeCasts_S128_S128x1)
    (broadcast S128x1 (Scalar.ofBits .f32 0x43000000#32))

/-- What is left of the mean. -/
def cenV (x : FVec F S128x128 .f32) : FVec F S128x128 .f32 := subf x (broadcastTo S128x128 (meanV x) broadcasts_S128x1_S128x128)

/-- The head's norm of a tile. -/
def lnV (x : FVec F S128x128 .f32) (g : FVec F S1x128 .f32) : FVec F S128x128 .f32 :=
  mulf (mulf (cenV x) (broadcastTo S128x128 (rsqrt (addf (meanV (mulf (cenV x) (cenV x))) (broadcast S128x1 (Scalar.ofBits .f32 0x358637BD#32)))) broadcasts_S128x1_S128x128))
    (broadcastTo S128x128 g broadcasts_S1x128_S128x128)

/-- A chunk's tile of a head, from the head's weights and biases and gain and the chunk's tiles. -/
def tileV (w : Vec F S1x1x128x128 .f32) (b : Vec F S1x1x128x1 .f32) (g : Vec F S1x1x128 .f32) (u v : Vec F S128x128 .f32) : FVec F S128x128 .bf16 :=
  shapeCast S128x128 (truncf .bf16 (mulf (gelV u) (addf
    (matmul dot_S128x128_S128x128_S128x128_1_0_0_1_n_n none (k0_pay4 w) (truncf .bf16 (lnV (gelV v) (k0_pay6 g)) bitsLt_bf16_f32) (constant S128x128 .f32 0x00000000#32))
    (broadcastTo S128x128 (k0_pay5 b) broadcasts_S128x1_S128x128))) bitsLt_bf16_f32) shapeCasts_S128x128_S128x128

end

/-- The unit at an entry. -/
theorem gelV_at (x : FVec Ideal S128x128 .f32) (i j : Fin 128) : gelV x (ix2 i j) = gelu (x (ix2 i j)) := by
  unfold gelV gelu
  pointwise
  rfl

/-- The mean at an entry. -/
theorem meanV_at (x : FVec Ideal S128x128 .f32) (i : Fin 128) : meanV x (ix2 i 0) = mean (fun j => x (ix2 i j)) := by
  unfold meanV mean
  pointwise

/-- The rest at an entry. -/
theorem cenV_at (x : FVec Ideal S128x128 .f32) (i j : Fin 128) :
    cenV x (ix2 i j) = HSub.hSub (α := EReal) (β := EReal) (γ := EReal) (x (ix2 i j)) (mean (fun j => x (ix2 i j))) := by
  rw [← meanV_at]
  unfold cenV
  generalize meanV x = y
  pointwise

/-- The head's norm at an entry. -/
theorem lnV_at (x : FVec Ideal S128x128 .f32) (g : FVec Ideal S1x128 .f32) (i d : Fin 128) :
    lnV x g (ix2 i d) = lnorm (fun j => x (ix2 i j)) (g (ix2 0 d)) d := by
  unfold lnorm
  have hc : ∀ j : Fin 128, HSub.hSub (α := EReal) (β := EReal) (γ := EReal) (x (ix2 i j)) (mean (fun j => x (ix2 i j))) = cenV x (ix2 i j) :=
    fun j => (cenV_at x i j).symm
  beta_reduce
  rw [hc d, show (fun j : Fin 128 => HMul.hMul (α := EReal) (β := EReal) (γ := EReal)
      (HSub.hSub (α := EReal) (β := EReal) (γ := EReal) (x (ix2 i j)) (mean (fun j => x (ix2 i j))))
      (HSub.hSub (α := EReal) (β := EReal) (γ := EReal) (x (ix2 i j)) (mean (fun j => x (ix2 i j)))))
    = fun j => mulf (cenV x) (cenV x) (ix2 i j) from funext fun j => congrArg₂ (HMul.hMul (α := EReal) (β := EReal) (γ := EReal)) (hc j) (hc j),
    ← meanV_at]
  unfold lnV
  generalize meanV (mulf (cenV x) (cenV x)) = y
  generalize cenV x = z
  pointwise

/-- A causal weight at an entry. -/
theorem pay4_at (w : Vec Ideal S1x1x128x128 .f32) (t s : Fin 128) : k0_pay4 w (ix2 t s) = tri (fun t s => w (ix4 0 0 t s)) t s := by
  have hm : ∀ t s : Fin 128, IntOp.cmpi CmpIPredicate.sge (BitVec.ofNat 32 t.val) (BitVec.ofNat 32 s.val)
      = if s.val ≤ t.val then 1#1 else 0#1 := by decide +kernel
  unfold k0_pay4 k0_pay2 tri
  pointwise
  rw [hm t s]
  split <;> rfl

/-- A bias at an entry. -/
theorem pay5_at (b : Vec Ideal S1x1x128x1 .f32) (t : Fin 128) : k0_pay5 b (ix2 t 0) = b (ix4 0 0 t 0) := by
  unfold k0_pay5
  pointwise

/-- A gain at an entry. -/
theorem pay6_at (g : Vec Ideal S1x1x128 .f32) (d : Fin 128) : k0_pay6 g (ix2 0 d) = g (ix3 0 0 d) := by
  unfold k0_pay6
  pointwise

/-- The tile's mix at an entry. -/
theorem tileV_mix (y : FVec Ideal S128x128 .f32) (w : FVec Ideal S128x128 .bf16) (n : FVec Ideal S128x128 .bf16) (b : FVec Ideal S128x1 .f32) (t d : Fin 128) :
    shapeCast S128x128 (truncf .bf16 (mulf y (addf
      (matmul dot_S128x128_S128x128_S128x128_1_0_0_1_n_n none w n (constant S128x128 .f32 0x00000000#32))
      (broadcastTo S128x128 b broadcasts_S128x1_S128x128))) bitsLt_bf16_f32) shapeCasts_S128x128_S128x128 (ix2 t d)
    = HMul.hMul (α := EReal) (β := EReal) (γ := EReal) (y (ix2 t d)) (HAdd.hAdd (α := EReal) (β := EReal) (γ := EReal)
        (∑ s : Fin 128, HMul.hMul (α := EReal) (β := EReal) (γ := EReal) (w (ix2 t s)) (n (ix2 s d))) (b (ix2 t 0))) := by
  pointwise

/-- A tile at an entry. -/
theorem tileV_at (w : Vec Ideal S1x1x128x128 .f32) (b : Vec Ideal S1x1x128x1 .f32) (g : Vec Ideal S1x1x128 .f32) (u v : Vec Ideal S128x128 .f32) (t d : Fin 128) :
    tileV w b g u v (ix2 t d) = gated (fun t s => w (ix4 0 0 t s)) (fun t => b (ix4 0 0 t 0)) (fun d => g (ix3 0 0 d))
      (fun t d => u (ix2 t d)) (fun t d => v (ix2 t d)) t d := by
  unfold tileV gated
  refine (tileV_mix _ _ _ _ t d).trans ?_
  refine congrArg₂ (HMul.hMul (α := EReal) (β := EReal) (γ := EReal)) (gelV_at u t d)
    (congrArg₂ (HAdd.hAdd (α := EReal) (β := EReal) (γ := EReal)) (Finset.sum_congr rfl fun s _ => ?_) (pay5_at b t))
  refine congrArg₂ (HMul.hMul (α := EReal) (β := EReal) (γ := EReal)) (pay4_at w t s) ((lnV_at (gelV v) (k0_pay6 g) s d).trans ?_)
  exact congrArg₂ (fun f z => lnorm f z d) (funext fun j => gelV_at v s j) (pay6_at g d)

/-- The product with the rows of the other branch. -/
theorem pay3_at (y : Vec Ideal S512x1024 .bf16) (w : Vec Ideal S1024x2048 .bf16) (i : Fin 512) (k : Fin 2048) :
    k0_pay3 y w (ix2 i k) = ∑ n : Fin 1024, HMul.hMul (α := EReal) (β := EReal) (γ := EReal) (y (ix2 i n)) (w (ix2 n k)) := by
  unfold k0_pay3
  pointwise

/-- Two heads' product added to what was there. -/
theorem pay34_at (a : FVec Ideal S512x2048 .f32) (y : Vec Ideal S512x256 .bf16) (w : Vec Ideal S256x2048 .bf16) (i : Fin 512) (k : Fin 2048) :
    k0_pay34 a y w (ix2 i k) = HAdd.hAdd (α := EReal) (β := EReal) (γ := EReal) (a (ix2 i k))
      (∑ n : Fin 256, HMul.hMul (α := EReal) (β := EReal) (γ := EReal) (y (ix2 i n)) (w (ix2 n k))) := by
  unfold k0_pay34
  pointwise

/-- The last two heads' product and the residual. -/
theorem pay133_at (a : FVec Ideal S512x2048 .f32) (y : Vec Ideal S512x256 .bf16) (w : Vec Ideal S256x2048 .bf16) (s : Vec Ideal S1x512x2048 .f32) (i : Fin 512) (k : Fin 2048) :
    k0_pay133 a y w s (ix2 i k) = HAdd.hAdd (α := EReal) (β := EReal) (γ := EReal) (s (ix3 0 i k)) (k0_pay34 a y w (ix2 i k)) := by
  unfold k0_pay133 k0_pay34
  pointwise

/-- The norm of the result. -/
theorem pay1_at (x : FVec Ideal S512x2048 .f32) (g : Vec Ideal S1x1x2048 .f32) (i : Fin 512) (k : Fin 2048) :
    k0_pay1 x g (ix2 i k) = rms (fun j => x (ix2 i j)) (fun j => g (ix3 0 0 j)) k := by
  unfold k0_pay1 rms
  pointwise

variable {F : FTy → Type} [FloatOps F]
/-- Where the body reads a landed slot. -/
theorem off7 : ∀ t : Fin grid0.N, k0_off7 (grid0.coords t) = ![(Ring.sl 3 t.val).val, 0, 0] := by decide +kernel

/-- A slot's cast read at an entry. -/
theorem cast3_at (X : Vec F S1x512x2048 .f32) (i : Fin 512) (k : Fin 2048) :
    shapeCast S512x2048 X shapeCasts_S1x512x2048_S512x2048 (ix2 i k) = X (ix3 0 i k) := by
  pointwise

/-- What the body reads of a landed slot: the point's block of rows. -/
theorem slot_at (c : Dev nD) (t : Fin cfg0.N) (fh0 : HbBuf0 (F := F) c hbM0_0) (inb) (f) (i : Fin 512) (k : Fin 2048) :
    shapeCast (s := S1x512x2048) S512x2048 (View.readAt (Elt F) scM0_1.view (Rect.unit (k0_off7 (grid0.coords t)) ![1, 512, 2048] inb).toLoadRect
      ((rslot0_0 (Ring.sl 3 t.val)).view.writes (Elt F) f
        [⟨Rect.whole S512x2048, ReadAs.same.apply (View.read (Elt F) (srcB0_0 (Ring.bk 16 t.val)).view fh0)⟩]))
        shapeCasts_S1x512x2048_S512x2048 (ix2 i k)
      = fh0 (ix2 ⟨512 * t.val + i.val, by have := t.isLt; have : cfg0.N = 16 := N_0; omega⟩ k : S8192x2048.Idx) := by
  have hN : t.val < 16 := lt_of_lt_of_eq t.isLt (show cfg0.N = 16 from N_0)
  refine (congrArg (fun X => shapeCast (s := S1x512x2048) S512x2048 X shapeCasts_S1x512x2048_S512x2048 (ix2 i k))
    (View.readAt_unit_eq_of_eq (Val' := Elt F) scM0_1.view inb (off7 t) _)).trans ?_
  refine (congrFun (Memref.read_squeeze_slice scM0_1 (Rect.unit (s := S3x512x2048) ![(Ring.sl 3 t.val).val, 0, 0] S1x512x2048.size (inb_slot0_0 _))
    (fun _ => rfl) squeezes_S1x512x2048_S512x2048 shapeCasts_S1x512x2048_S512x2048 _) (ix2 i k)).symm.trans ?_
  refine (congrFun (View.read_writes_whole (rslot0_0 (Ring.sl 3 t.val)).view f _) (ix2 i k)).trans ?_
  have hb : (Ring.bk 16 t.val).val = t.val := Nat.mod_eq_of_lt hN
  refine congrArg fh0 ?_
  funext a
  match a with
  | ⟨0, _⟩ => exact Fin.ext (show 512 * (Ring.bk 16 t.val).val + 1 * i.val = 512 * t.val + i.val by rw [hb]; omega)
  | ⟨1, _⟩ => exact Fin.ext (show 0 + 1 * k.val = k.val by omega)

end Cert.SgIdeal.Val

end
-- ==== Proof.SgTile.lean ====
module

public import proofs.«01_k».proof.Proof.SgVal

@[expose] public section

set_option maxRecDepth 16384

noncomputable section

namespace Cert.SgIdeal.Val

open Cert.SgIdeal Cert.SgIdeal.Gen Cert.Emb Cert.Spg
open Idealize.ShloMosaic Idealize.ShloMosaic.TcCoe Idealize.SL.Sem
open scoped BigOperators

/-- Where a tile lies. -/
theorem inbT : ∀ (e : Fin 8) (c : Fin 4) (a : Fin 2), (![128 * c.val, 128 * e.val] : Fin 2 → ℕ) a + (![128, 128] : Fin 2 → ℕ) a ≤ S512x1024.size a := by decide
@[inherit_doc inbT] theorem inbG : ∀ (e : Fin 8) (a : Fin 3), (![0, 0, 128 * e.val] : Fin 3 → ℕ) a + (![1, 1, 128] : Fin 3 → ℕ) a ≤ S1x1x1024.size a := by decide
@[inherit_doc inbT] theorem inbW : ∀ (e : Fin 8) (a : Fin 4), (![0, e.val, 0, 0] : Fin 4 → ℕ) a + (![1, 1, 128, 128] : Fin 4 → ℕ) a ≤ S1x8x128x128.size a := by decide
@[inherit_doc inbT] theorem inbS : ∀ (e : Fin 8) (a : Fin 4), (![0, e.val, 0, 0] : Fin 4 → ℕ) a + (![1, 1, 128, 1] : Fin 4 → ℕ) a ≤ S1x8x128x1.size a := by decide
@[inherit_doc inbT] theorem inbR : ∀ (p : Fin 4) (a : Fin 2), (![256 * p.val, 0] : Fin 2 → ℕ) a + (![256, 2048] : Fin 2 → ℕ) a ≤ S2048x2048.size a := by decide

/-- The tile of head `e` and chunk `c` of a block. -/
def blockT (x0 x1 : Vec Ideal S512x1024 .f32) (x2 : Vec Ideal S1x1x1024 .f32) (x3 : Vec Ideal S1x8x128x128 .f32) (x4 : Vec Ideal S1x8x128x1 .f32)
    (e : Fin 8) (c : Fin 4) : FVec Ideal S128x128 .bf16 :=
  tileV (View.ld x3 (Rect.unit (s := S1x8x128x128) ![0, e.val, 0, 0] ![1, 1, 128, 128] (inbW e)))
    (View.ld x4 (Rect.unit (s := S1x8x128x1) ![0, e.val, 0, 0] ![1, 1, 128, 1] (inbS e)))
    (View.ld x2 (Rect.unit (s := S1x1x1024) ![0, 0, 128 * e.val] ![1, 1, 128] (inbG e)))
    (View.ld x0 (Rect.unit (s := S512x1024) ![128 * c.val, 128 * e.val] ![128, 128] (inbT e c)))
    (View.ld x1 (Rect.unit (s := S512x1024) ![128 * c.val, 128 * e.val] ![128, 128] (inbT e c)))

/-- The tiles as one array of 512 rows. -/
def tiled (T : Fin 8 → Fin 4 → FVec Ideal S128x128 .bf16) (i : Fin 512) (n : Fin 1024) : EReal :=
  T ⟨n.val / 128, by omega⟩ ⟨i.val / 128, by omega⟩ (ix2 ⟨i.val % 128, by omega⟩ ⟨n.val % 128, by omega⟩)

/-- One store of a tile into the block of gated columns. -/
theorem tile_step (T : Fin 8 → Fin 4 → FVec Ideal S128x128 .bf16) (e : Fin 8) (c : Fin 4) (inb)
    (w : (Rect.unit (s := S512x1024) ![128 * c.val, 128 * e.val] S128x128.size inb).shape.Idx → Elt Ideal .bf16) (hw : w = T e c) (L) (i : Fin 512) (n : Fin 1024)
    (hL : ¬(n.val / 128 = e.val ∧ i.val / 128 = c.val) → View.canon (Val := Elt Ideal) (s := S512x1024) (e := .bf16) L (ix2 i n) = tiled T i n) :
    View.canon (Val := Elt Ideal) (s := S512x1024) (e := .bf16)
      (⟨Rect.unit (s := S512x1024) ![128 * c.val, 128 * e.val] S128x128.size inb, w⟩ :: L) (ix2 i n) = tiled T i n := by
  by_cases h : n.val / 128 = e.val ∧ i.val / 128 = c.val
  · obtain ⟨h1, h2⟩ := h
    have hx : (Rect.unit (s := S512x1024) ![128 * c.val, 128 * e.val] S128x128.size inb).emb (ix2 ⟨i.val % 128, by omega⟩ ⟨n.val % 128, by omega⟩) = ix2 i n := by
      funext a
      match a with
      | ⟨0, _⟩ => exact Fin.ext (show 128 * c.val + 1 * (i.val % 128) = i.val by omega)
      | ⟨1, _⟩ => exact Fin.ext (show 128 * e.val + 1 * (n.val % 128) = n.val by omega)
    refine (congrArg (View.canon (Val := Elt Ideal) (s := S512x1024) (e := .bf16) _) hx.symm).trans ?_
    refine (View.canon_cons_emb _ _ _ _).trans ?_
    subst hw
    unfold tiled
    exact congrArg₂ (fun e c => T e c (ix2 ⟨i.val % 128, by omega⟩ ⟨n.val % 128, by omega⟩)) (Fin.ext h1.symm) (Fin.ext h2.symm)
  · refine (View.canon_cons_of_not_mem _ _ (fun hm => h ?_)).trans (hL h)
    have h0 := (Rect.mem_set_unit (inb := inb) |>.mp hm) 0
    have h1 := (Rect.mem_set_unit (inb := inb) |>.mp hm) 1
    have a0 : 128 * c.val ≤ i.val := h0.1
    have a1 : i.val < 128 * c.val + 128 := h0.2
    have b0 : 128 * e.val ≤ n.val := h1.1
    have b1 : n.val < 128 * e.val + 128 := h1.2
    omega

/-- What a read of 256 columns gives, at an entry: what the stores left there. -/
theorem readCols_at (v : View sig .tc .vmem S512x1024 .bf16) (L : List (View.Piece (Elt Ideal) S512x1024 .bf16)) (o : ℕ) (inb) (i : Fin 512) (n : Fin 256)
    (n' : Fin 1024) (hn : n'.val = o + n.val) :
    v.readCov L (Rect.unit (s := S512x1024) ![0, o] S512x256.size inb).toLoadRect (ix2 i n) = View.canon (Val := Elt Ideal) L (ix2 i n') := by
  rw [View.readCov_eq_canon']
  refine congrArg (View.canon (Val := Elt Ideal) L) ?_
  funext a
  match a with
  | ⟨0, _⟩ => exact Fin.ext (show 0 + 1 * i.val = i.val by omega)
  | ⟨1, _⟩ => exact Fin.ext (show o + 1 * n.val = n'.val by omega)

/-- Rows of the output projection. -/
def rows256 (x6 : Vec Ideal S2048x2048 .bf16) (p : Fin 4) : Vec Ideal S256x2048 .bf16 :=
  View.ld x6 (Rect.unit (s := S2048x2048) ![256 * p.val, 0] ![256, 2048] (inbR p))

/-- The rows of the other branch. -/
def rowsB (x6 : Vec Ideal S2048x2048 .bf16) : Vec Ideal S1024x2048 .bf16 :=
  View.ld x6 (Rect.unit (s := S2048x2048) ![1024, 0] ![1024, 2048] (by decide))

/-- What a point leaves in the first result's block, from the four reads of the gated columns and its slot. -/
def outOf (x5 : Vec Ideal S512x1024 .bf16) (x6 : Vec Ideal S2048x2048 .bf16) (r0 r1 r2 r3 : Vec Ideal S512x256 .bf16) (s : Vec Ideal S1x512x2048 .f32) : FVec Ideal S512x2048 .f32 :=
  k0_pay133 (k0_pay34 (k0_pay34 (k0_pay34 (k0_pay3 x5 (rowsB x6)) r0 (rows256 x6 0)) r1 (rows256 x6 1)) r2 (rows256 x6 2)) r3 (rows256 x6 3) s

/-- The rows at an entry. -/
theorem rows256_at (x6 : Vec Ideal S2048x2048 .bf16) (p : Fin 4) (n : Fin 256) (k : Fin 2048) : rows256 x6 p (ix2 n k) = x6 (ix2 ⟨256 * p.val + n.val, by omega⟩ k) := by
  refine congrArg x6 ?_
  funext a
  match a with
  | ⟨0, _⟩ => exact Fin.ext (show 256 * p.val + 1 * n.val = 256 * p.val + n.val by omega)
  | ⟨1, _⟩ => exact Fin.ext (show 0 + 1 * k.val = k.val by omega)

@[inherit_doc rows256_at] theorem rowsB_at (x6 : Vec Ideal S2048x2048 .bf16) (n : Fin 1024) (k : Fin 2048) : rowsB x6 (ix2 n k) = x6 (ix2 ⟨1024 + n.val, by omega⟩ k) := by
  refine congrArg x6 ?_
  funext a
  match a with
  | ⟨0, _⟩ => exact Fin.ext (show 1024 + 1 * n.val = 1024 + n.val by omega)
  | ⟨1, _⟩ => exact Fin.ext (show 0 + 1 * k.val = k.val by omega)

/-- A sum over 1024 columns by quarters. -/
theorem sum_quarters (f : Fin 1024 → EReal) : ∑ n, f n = (∑ n : Fin 256, f ⟨n.val, by omega⟩) + ((∑ n : Fin 256, f ⟨256 + n.val, by omega⟩)
    + ((∑ n : Fin 256, f ⟨512 + n.val, by omega⟩) + ∑ n : Fin 256, f ⟨768 + n.val, by omega⟩)) := by
  have a := Fin.sum_univ_add (a := 256) (b := 768) f
  have b := Fin.sum_univ_add (a := 256) (b := 512) (fun i => f (Fin.natAdd 256 i))
  have c := Fin.sum_univ_add (a := 256) (b := 256) (fun i => f (Fin.natAdd 256 (Fin.natAdd 256 i)))
  refine a.trans (congrArg₂ (· + ·) rfl (b.trans (congrArg₂ (· + ·) rfl (c.trans (congrArg₂ (· + ·)
    (Finset.sum_congr rfl fun n _ => congrArg f (Fin.ext ?_)) (Finset.sum_congr rfl fun n _ => congrArg f (Fin.ext ?_)))))))
  · show 256 + (256 + n.val) = 512 + n.val; omega
  · show 256 + (256 + (256 + n.val)) = 768 + n.val; omega

/-- The order of the five terms. -/
theorem perm (a b c d z : EReal) : z + a + b + c + d = a + (b + (c + d)) + z := by
  simp only [add_comm, add_left_comm, add_assoc]

/-- The first result's block at an entry. -/
theorem outOf_val (x5 : Vec Ideal S512x1024 .bf16) (x6 : Vec Ideal S2048x2048 .bf16) (r0 r1 r2 r3 : Vec Ideal S512x256 .bf16) (s : Vec Ideal S1x512x2048 .f32)
    (Y : Fin 512 → Fin 1024 → EReal) (h0 : ∀ i n, r0 (ix2 i n) = Y i ⟨n.val, by omega⟩) (h1 : ∀ i n, r1 (ix2 i n) = Y i ⟨256 + n.val, by omega⟩)
    (h2 : ∀ i n, r2 (ix2 i n) = Y i ⟨512 + n.val, by omega⟩) (h3 : ∀ i n, r3 (ix2 i n) = Y i ⟨768 + n.val, by omega⟩) (i : Fin 512) (k : Fin 2048) :
    outOf x5 x6 r0 r1 r2 r3 s (ix2 i k) = HAdd.hAdd (α := EReal) (β := EReal) (γ := EReal) (s (ix3 0 i k))
      (HAdd.hAdd (α := EReal) (β := EReal) (γ := EReal) (∑ n : Fin 1024, HMul.hMul (α := EReal) (β := EReal) (γ := EReal) (Y i n) (x6 (ix2 ⟨n.val, by omega⟩ k)))
        (∑ n : Fin 1024, HMul.hMul (α := EReal) (β := EReal) (γ := EReal) (x5 (ix2 i n)) (x6 (ix2 ⟨1024 + n.val, by omega⟩ k)))) := by
  unfold outOf
  refine (pay133_at _ _ _ _ i k).trans (congrArg (HAdd.hAdd (α := EReal) (β := EReal) (γ := EReal) (s (ix3 0 i k))) ?_)
  have q : ∀ (a : FVec Ideal S512x2048 .f32) (r : Vec Ideal S512x256 .bf16) (p : Fin 4), (∀ i n, r (ix2 i n) = Y i ⟨256 * p.val + n.val, by omega⟩) →
      k0_pay34 a r (rows256 x6 p) (ix2 i k) = HAdd.hAdd (α := EReal) (β := EReal) (γ := EReal) (a (ix2 i k))
        (∑ n : Fin 256, HMul.hMul (α := EReal) (β := EReal) (γ := EReal) (Y i ⟨256 * p.val + n.val, by omega⟩) (x6 (ix2 ⟨256 * p.val + n.val, by omega⟩ k))) := by
    intro a r p hr
    refine (pay34_at _ _ _ i k).trans (congrArg (HAdd.hAdd (α := EReal) (β := EReal) (γ := EReal) (a (ix2 i k))) (Finset.sum_congr rfl fun n _ => ?_))
    exact congrArg₂ (HMul.hMul (α := EReal) (β := EReal) (γ := EReal)) (hr i n) (rows256_at x6 p n k)
  have e0 : k0_pay3 x5 (rowsB x6) (ix2 i k) = ∑ n : Fin 1024, HMul.hMul (α := EReal) (β := EReal) (γ := EReal) (x5 (ix2 i n)) (x6 (ix2 ⟨1024 + n.val, by omega⟩ k)) :=
    (pay3_at _ _ i k).trans (Finset.sum_congr rfl fun n _ => congrArg (HMul.hMul (α := EReal) (β := EReal) (γ := EReal) (x5 (ix2 i n))) (rowsB_at x6 n k))
  rw [q _ r3 3 h3, q _ r2 2 h2, q _ r1 1 h1, q _ r0 0 (fun i n => (h0 i n).trans (congrArg (Y i) (Fin.ext (show n.val = 256 * 0 + n.val by omega)))), e0,
    sum_quarters (fun n => HMul.hMul (α := EReal) (β := EReal) (γ := EReal) (Y i n) (x6 (ix2 ⟨n.val, by omega⟩ k)))]
  have z : ∀ n : Fin 256, (⟨256 * (0 : Fin 4).val + n.val, by omega⟩ : Fin 1024) = ⟨n.val, by omega⟩ := fun n => Fin.ext (by show 256 * 0 + n.val = n.val; omega)
  have z' : ∀ n : Fin 256, (⟨256 * (0 : Fin 4).val + n.val, by omega⟩ : Fin 2048) = ⟨n.val, by omega⟩ := fun n => Fin.ext (by show 256 * 0 + n.val = n.val; omega)
  simp only [z, z']
  refine (perm _ _ _ _ _).trans ?_
  rfl

/-- A tile of a block at an entry. -/
theorem blockT_at (x0 x1 : Vec Ideal S512x1024 .f32) (x2 : Vec Ideal S1x1x1024 .f32) (x3 : Vec Ideal S1x8x128x128 .f32) (x4 : Vec Ideal S1x8x128x1 .f32)
    (e : Fin 8) (c : Fin 4) (t d : Fin 128) :
    blockT x0 x1 x2 x3 x4 e c (ix2 t d) = gated (fun t s => x3 (ix4 0 e t s)) (fun t => x4 (ix4 0 e t 0)) (fun d => x2 (ix3 0 0 (Args.col e d)))
      (fun t d => x0 (ix2 ⟨128 * c.val + t.val, by omega⟩ (Args.col e d))) (fun t d => x1 (ix2 ⟨128 * c.val + t.val, by omega⟩ (Args.col e d))) t d := by
  unfold blockT
  refine (tileV_at _ _ _ _ _ t d).trans ?_
  have c3 : ∀ t s : Fin 128, View.ld x3 (Rect.unit (s := S1x8x128x128) ![0, e.val, 0, 0] ![1, 1, 128, 128] (inbW e)) (ix4 0 0 t s) = x3 (ix4 0 e t s) := by
    intro t s
    refine congrArg x3 ?_
    funext a
    match a with
    | ⟨0, _⟩ => rfl
    | ⟨1, _⟩ => exact Fin.ext (show e.val + 1 * 0 = e.val by omega)
    | ⟨2, _⟩ => exact Fin.ext (show 0 + 1 * t.val = t.val by omega)
    | ⟨3, _⟩ => exact Fin.ext (show 0 + 1 * s.val = s.val by omega)
  have c4 : ∀ t : Fin 128, View.ld x4 (Rect.unit (s := S1x8x128x1) ![0, e.val, 0, 0] ![1, 1, 128, 1] (inbS e)) (ix4 0 0 t 0) = x4 (ix4 0 e t 0) := by
    intro t
    refine congrArg x4 ?_
    funext a
    match a with
    | ⟨0, _⟩ => rfl
    | ⟨1, _⟩ => exact Fin.ext (show e.val + 1 * 0 = e.val by omega)
    | ⟨2, _⟩ => exact Fin.ext (show 0 + 1 * t.val = t.val by omega)
    | ⟨3, _⟩ => rfl
  have c2 : ∀ d : Fin 128, View.ld x2 (Rect.unit (s := S1x1x1024) ![0, 0, 128 * e.val] ![1, 1, 128] (inbG e)) (ix3 0 0 d) = x2 (ix3 0 0 (Args.col e d)) := by
    intro d
    refine congrArg x2 ?_
    funext a
    match a with
    | ⟨0, _⟩ => rfl
    | ⟨1, _⟩ => rfl
    | ⟨2, _⟩ => exact Fin.ext (show 128 * e.val + 1 * d.val = 128 * e.val + d.val by omega)
  have c0 : ∀ (x : Vec Ideal S512x1024 .f32) (t d : Fin 128), View.ld x (Rect.unit (s := S512x1024) ![128 * c.val, 128 * e.val] ![128, 128] (inbT e c)) (ix2 t d)
      = x (ix2 ⟨128 * c.val + t.val, by omega⟩ (Args.col e d)) := by
    intro x t d
    refine congrArg x ?_
    funext a
    match a with
    | ⟨0, _⟩ => exact Fin.ext (show 128 * c.val + 1 * t.val = 128 * c.val + t.val by omega)
    | ⟨1, _⟩ => exact Fin.ext (show 128 * e.val + 1 * d.val = 128 * e.val + d.val by omega)
  simp only [c3, c4, c2]
  exact congrArg₂ (fun u v => gated _ _ _ u v t d) (funext fun t => funext fun d => c0 x0 t d) (funext fun t => funext fun d => c0 x1 t d)

end Cert.SgIdeal.Val

end
-- ==== Proof.SgA.lean ====
module

public import proofs.«01_k».proof.Proof.SgTile

@[expose] public section

set_option maxRecDepth 16384
set_option maxHeartbeats 2000000

noncomputable section

namespace Cert.SgIdeal.Val

open Cert.SgIdeal Cert.SgIdeal.Gen Cert.Emb Cert.Spg
open Idealize.ShloMosaic Idealize.ShloMosaic.TcCoe Idealize.SL.Sem
open scoped BigOperators

variable (c : Dev nD) (t : Fin cfg0.N) (arg2 : Memref sig .tc .vmem S512x1024 .f32) (harg2 : arg2.IsWhole)
  (arg3 : Memref sig .tc .vmem S512x1024 .f32) (harg3 : arg3.IsWhole) (arg4 : Memref sig .tc .vmem S1x1x1024 .f32) (harg4 : arg4.IsWhole)
  (arg5 : Memref sig .tc .vmem S1x8x128x128 .f32) (harg5 : arg5.IsWhole) (arg6 : Memref sig .tc .vmem S1x8x128x1 .f32) (harg6 : arg6.IsWhole)
  (arg7 : Memref sig .tc .vmem S512x1024 .bf16) (harg7 : arg7.IsWhole) (arg8 : Memref sig .tc .vmem S2048x2048 .bf16) (harg8 : arg8.IsWhole)
  (arg9 : Memref sig .tc .vmem S1x1x2048 .f32) (harg9 : arg9.IsWhole) (arg10 : Memref sig .tc .vmem S512x2048 .f32) (harg10 : arg10.IsWhole)
  (arg11 : Memref sig .tc .vmem S512x2048 .bf16) (harg11 : arg11.IsWhole) (arg12 : Memref sig .tc .vmem S512x1024 .bf16) (harg12 : arg12.IsWhole)
  (x0 x1 : Vec Ideal S512x1024 .f32) (x2 : Vec Ideal S1x1x1024 .f32) (x3 : Vec Ideal S1x8x128x128 .f32) (x4 : Vec Ideal S1x8x128x1 .f32)
  (x5 : Vec Ideal S512x1024 .bf16) (x6 : Vec Ideal S2048x2048 .bf16) (x7 : Vec Ideal S1x1x2048 .f32) (fh0 : HbBuf0 (F := Ideal) c hbM0_0)

/-- What the body reads back of two heads' columns. -/
theorem read0_A (i : Fin 512) (n : Fin 256) :
    kernelRun0_A.sl.v399 c arg2 harg2 arg3 harg3 arg4 harg4 arg5 harg5 arg6 harg6 arg12 x0 x1 x2 x3 x4 (ix2 i n)
      = tiled (blockT x0 x1 x2 x3 x4) i ⟨n.val, by omega⟩ := by
  have key : kernelRun0_A.sl.v399 c arg2 harg2 arg3 harg3 arg4 harg4 arg5 harg5 arg6 harg6 arg12 x0 x1 x2 x3 x4 (ix2 i n)
      = tiled (blockT (arg2.view.read (Elt Ideal) (harg2.unread x0)) (arg3.view.read (Elt Ideal) (harg3.unread x1)) (arg4.view.read (Elt Ideal) (harg4.unread x2))
        (arg5.view.read (Elt Ideal) (harg5.unread x3)) (arg6.view.read (Elt Ideal) (harg6.unread x4))) i ⟨n.val, by omega⟩ := by
    unfold kernelRun0_A.sl.v399
    refine (readCols_at _ _ 0 _ i n ⟨n.val, by omega⟩ (by first | rfl | (dsimp only; omega))).trans ?_
    unfold kernelRun0_A.sl.HS0_8
    have h1 : (⟨n.val, by omega⟩ : Fin 1024).val = 0 + n.val := by first | rfl | (dsimp only; omega)
    generalize (⟨n.val, by omega⟩ : Fin 1024) = n' at h1 ⊢
    refine tile_step _ 1 3 _ _ ?_ _ i n' fun a13 => ?_
    swap
    replace a13 : ¬(n'.val / 128 = 1 ∧ i.val / 128 = 3) := a13
    refine tile_step _ 1 2 _ _ ?_ _ i n' fun a12 => ?_
    swap
    replace a12 : ¬(n'.val / 128 = 1 ∧ i.val / 128 = 2) := a12
    refine tile_step _ 1 1 _ _ ?_ _ i n' fun a11 => ?_
    swap
    replace a11 : ¬(n'.val / 128 = 1 ∧ i.val / 128 = 1) := a11
    refine tile_step _ 1 0 _ _ ?_ _ i n' fun a10 => ?_
    swap
    replace a10 : ¬(n'.val / 128 = 1 ∧ i.val / 128 = 0) := a10
    refine tile_step _ 0 3 _ _ ?_ _ i n' fun a03 => ?_
    swap
    replace a03 : ¬(n'.val / 128 = 0 ∧ i.val / 128 = 3) := a03
    refine tile_step _ 0 2 _ _ ?_ _ i n' fun a02 => ?_
    swap
    replace a02 : ¬(n'.val / 128 = 0 ∧ i.val / 128 = 2) := a02
    refine tile_step _ 0 1 _ _ ?_ _ i n' fun a01 => ?_
    swap
    replace a01 : ¬(n'.val / 128 = 0 ∧ i.val / 128 = 1) := a01
    refine tile_step _ 0 0 _ _ ?_ _ i n' fun a00 => ?_
    swap
    replace a00 : ¬(n'.val / 128 = 0 ∧ i.val / 128 = 0) := a00
    · exact absurd i.isLt (by omega)
    all_goals rfl
  rw [harg2.read_unread x0, harg3.read_unread x1, harg4.read_unread x2, harg5.read_unread x3, harg6.read_unread x4] at key
  exact key

/-- What the body reads back of two heads' columns. -/
theorem read1_A (i : Fin 512) (n : Fin 256) :
    kernelRun0_A.sl.v781 c arg2 harg2 arg3 harg3 arg4 harg4 arg5 harg5 arg6 harg6 arg12 x0 x1 x2 x3 x4 (ix2 i n)
      = tiled (blockT x0 x1 x2 x3 x4) i ⟨256 + n.val, by omega⟩ := by
  have key : kernelRun0_A.sl.v781 c arg2 harg2 arg3 harg3 arg4 harg4 arg5 harg5 arg6 harg6 arg12 x0 x1 x2 x3 x4 (ix2 i n)
      = tiled (blockT (arg2.view.read (Elt Ideal) (harg2.unread x0)) (arg3.view.read (Elt Ideal) (harg3.unread x1)) (arg4.view.read (Elt Ideal) (harg4.unread x2))
        (arg5.view.read (Elt Ideal) (harg5.unread x3)) (arg6.view.read (Elt Ideal) (harg6.unread x4))) i ⟨256 + n.val, by omega⟩ := by
    unfold kernelRun0_A.sl.v781
    refine (readCols_at _ _ 256 _ i n ⟨256 + n.val, by omega⟩ (by first | rfl | (dsimp only; omega))).trans ?_
    unfold kernelRun0_A.sl.HS0_16
    have h1 : (⟨256 + n.val, by omega⟩ : Fin 1024).val = 256 + n.val := by first | rfl | (dsimp only; omega)
    generalize (⟨256 + n.val, by omega⟩ : Fin 1024) = n' at h1 ⊢
    refine tile_step _ 3 3 _ _ ?_ _ i n' fun a33 => ?_
    swap
    replace a33 : ¬(n'.val / 128 = 3 ∧ i.val / 128 = 3) := a33
    refine tile_step _ 3 2 _ _ ?_ _ i n' fun a32 => ?_
    swap
    replace a32 : ¬(n'.val / 128 = 3 ∧ i.val / 128 = 2) := a32
    refine tile_step _ 3 1 _ _ ?_ _ i n' fun a31 => ?_
    swap
    replace a31 : ¬(n'.val / 128 = 3 ∧ i.val / 128 = 1) := a31
    refine tile_step _ 3 0 _ _ ?_ _ i n' fun a30 => ?_
    swap
    replace a30 : ¬(n'.val / 128 = 3 ∧ i.val / 128 = 0) := a30
    refine tile_step _ 2 3 _ _ ?_ _ i n' fun a23 => ?_
    swap
    replace a23 : ¬(n'.val / 128 = 2 ∧ i.val / 128 = 3) := a23
    refine tile_step _ 2 2 _ _ ?_ _ i n' fun a22 => ?_
    swap
    replace a22 : ¬(n'.val / 128 = 2 ∧ i.val / 128 = 2) := a22
    refine tile_step _ 2 1 _ _ ?_ _ i n' fun a21 => ?_
    swap
    replace a21 : ¬(n'.val / 128 = 2 ∧ i.val / 128 = 1) := a21
    refine tile_step _ 2 0 _ _ ?_ _ i n' fun a20 => ?_
    swap
    replace a20 : ¬(n'.val / 128 = 2 ∧ i.val / 128 = 0) := a20
    · exact absurd i.isLt (by omega)
    all_goals rfl
  rw [harg2.read_unread x0, harg3.read_unread x1, harg4.read_unread x2, harg5.read_unread x3, harg6.read_unread x4] at key
  exact key

/-- What the body reads back of two heads' columns. -/
theorem read2_A (i : Fin 512) (n : Fin 256) :
    kernelRun0_A.sl.v1163 c arg2 harg2 arg3 harg3 arg4 harg4 arg5 harg5 arg6 harg6 arg12 x0 x1 x2 x3 x4 (ix2 i n)
      = tiled (blockT x0 x1 x2 x3 x4) i ⟨512 + n.val, by omega⟩ := by
  have key : kernelRun0_A.sl.v1163 c arg2 harg2 arg3 harg3 arg4 harg4 arg5 harg5 arg6 harg6 arg12 x0 x1 x2 x3 x4 (ix2 i n)
      = tiled (blockT (arg2.view.read (Elt Ideal) (harg2.unread x0)) (arg3.view.read (Elt Ideal) (harg3.unread x1)) (arg4.view.read (Elt Ideal) (harg4.unread x2))
        (arg5.view.read (Elt Ideal) (harg5.unread x3)) (arg6.view.read (Elt Ideal) (harg6.unread x4))) i ⟨512 + n.val, by omega⟩ := by
    unfold kernelRun0_A.sl.v1163
    refine (readCols_at _ _ 512 _ i n ⟨512 + n.val, by omega⟩ (by first | rfl | (dsimp only; omega))).trans ?_
    unfold kernelRun0_A.sl.HS0_24
    have h1 : (⟨512 + n.val, by omega⟩ : Fin 1024).val = 512 + n.val := by first | rfl | (dsimp only; omega)
    generalize (⟨512 + n.val, by omega⟩ : Fin 1024) = n' at h1 ⊢
    refine tile_step _ 5 3 _ _ ?_ _ i n' fun a53 => ?_
    swap
    replace a53 : ¬(n'.val / 128 = 5 ∧ i.val / 128 = 3) := a53
    refine tile_step _ 5 2 _ _ ?_ _ i n' fun a52 => ?_
    swap
    replace a52 : ¬(n'.val / 128 = 5 ∧ i.val / 128 = 2) := a52
    refine tile_step _ 5 1 _ _ ?_ _ i n' fun a51 => ?_
    swap
    replace a51 : ¬(n'.val / 128 = 5 ∧ i.val / 128 = 1) := a51
    refine tile_step _ 5 0 _ _ ?_ _ i n' fun a50 => ?_
    swap
    replace a50 : ¬(n'.val / 128 = 5 ∧ i.val / 128 = 0) := a50
    refine tile_step _ 4 3 _ _ ?_ _ i n' fun a43 => ?_
    swap
    replace a43 : ¬(n'.val / 128 = 4 ∧ i.val / 128 = 3) := a43
    refine tile_step _ 4 2 _ _ ?_ _ i n' fun a42 => ?_
    swap
    replace a42 : ¬(n'.val / 128 = 4 ∧ i.val / 128 = 2) := a42
    refine tile_step _ 4 1 _ _ ?_ _ i n' fun a41 => ?_
    swap
    replace a41 : ¬(n'.val / 128 = 4 ∧ i.val / 128 = 1) := a41
    refine tile_step _ 4 0 _ _ ?_ _ i n' fun a40 => ?_
    swap
    replace a40 : ¬(n'.val / 128 = 4 ∧ i.val / 128 = 0) := a40
    · exact absurd i.isLt (by omega)
    all_goals rfl
  rw [harg2.read_unread x0, harg3.read_unread x1, harg4.read_unread x2, harg5.read_unread x3, harg6.read_unread x4] at key
  exact key

/-- What the body reads back of two heads' columns. -/
theorem read3_A (i : Fin 512) (n : Fin 256) :
    kernelRun0_A.sl.v1545 c arg2 harg2 arg3 harg3 arg4 harg4 arg5 harg5 arg6 harg6 arg12 x0 x1 x2 x3 x4 (ix2 i n)
      = tiled (blockT x0 x1 x2 x3 x4) i ⟨768 + n.val, by omega⟩ := by
  have key : kernelRun0_A.sl.v1545 c arg2 harg2 arg3 harg3 arg4 harg4 arg5 harg5 arg6 harg6 arg12 x0 x1 x2 x3 x4 (ix2 i n)
      = tiled (blockT (arg2.view.read (Elt Ideal) (harg2.unread x0)) (arg3.view.read (Elt Ideal) (harg3.unread x1)) (arg4.view.read (Elt Ideal) (harg4.unread x2))
        (arg5.view.read (Elt Ideal) (harg5.unread x3)) (arg6.view.read (Elt Ideal) (harg6.unread x4))) i ⟨768 + n.val, by omega⟩ := by
    unfold kernelRun0_A.sl.v1545
    refine (readCols_at _ _ 768 _ i n ⟨768 + n.val, by omega⟩ (by first | rfl | (dsimp only; omega))).trans ?_
    unfold kernelRun0_A.sl.HS0_32
    have h1 : (⟨768 + n.val, by omega⟩ : Fin 1024).val = 768 + n.val := by first | rfl | (dsimp only; omega)
    generalize (⟨768 + n.val, by omega⟩ : Fin 1024) = n' at h1 ⊢
    refine tile_step _ 7 3 _ _ ?_ _ i n' fun a73 => ?_
    swap
    replace a73 : ¬(n'.val / 128 = 7 ∧ i.val / 128 = 3) := a73
    refine tile_step _ 7 2 _ _ ?_ _ i n' fun a72 => ?_
    swap
    replace a72 : ¬(n'.val / 128 = 7 ∧ i.val / 128 = 2) := a72
    refine tile_step _ 7 1 _ _ ?_ _ i n' fun a71 => ?_
    swap
    replace a71 : ¬(n'.val / 128 = 7 ∧ i.val / 128 = 1) := a71
    refine tile_step _ 7 0 _ _ ?_ _ i n' fun a70 => ?_
    swap
    replace a70 : ¬(n'.val / 128 = 7 ∧ i.val / 128 = 0) := a70
    refine tile_step _ 6 3 _ _ ?_ _ i n' fun a63 => ?_
    swap
    replace a63 : ¬(n'.val / 128 = 6 ∧ i.val / 128 = 3) := a63
    refine tile_step _ 6 2 _ _ ?_ _ i n' fun a62 => ?_
    swap
    replace a62 : ¬(n'.val / 128 = 6 ∧ i.val / 128 = 2) := a62
    refine tile_step _ 6 1 _ _ ?_ _ i n' fun a61 => ?_
    swap
    replace a61 : ¬(n'.val / 128 = 6 ∧ i.val / 128 = 1) := a61
    refine tile_step _ 6 0 _ _ ?_ _ i n' fun a60 => ?_
    swap
    replace a60 : ¬(n'.val / 128 = 6 ∧ i.val / 128 = 0) := a60
    · exact absurd i.isLt (by omega)
    all_goals rfl
  rw [harg2.read_unread x0, harg3.read_unread x1, harg4.read_unread x2, harg5.read_unread x3, harg6.read_unread x4] at key
  exact key

end Cert.SgIdeal.Val

end
-- ==== Proof.SgB.lean ====
module

public import proofs.«01_k».proof.Proof.SgTile

@[expose] public section

set_option maxRecDepth 16384
set_option maxHeartbeats 2000000

noncomputable section

namespace Cert.SgIdeal.Val

open Cert.SgIdeal Cert.SgIdeal.Gen Cert.Emb Cert.Spg
open Idealize.ShloMosaic Idealize.ShloMosaic.TcCoe Idealize.SL.Sem
open scoped BigOperators

variable (c : Dev nD) (t : Fin cfg0.N) (arg2 : Memref sig .tc .vmem S512x1024 .f32) (harg2 : arg2.IsWhole)
  (arg3 : Memref sig .tc .vmem S512x1024 .f32) (harg3 : arg3.IsWhole) (arg4 : Memref sig .tc .vmem S1x1x1024 .f32) (harg4 : arg4.IsWhole)
  (arg5 : Memref sig .tc .vmem S1x8x128x128 .f32) (harg5 : arg5.IsWhole) (arg6 : Memref sig .tc .vmem S1x8x128x1 .f32) (harg6 : arg6.IsWhole)
  (arg7 : Memref sig .tc .vmem S512x1024 .bf16) (harg7 : arg7.IsWhole) (arg8 : Memref sig .tc .vmem S2048x2048 .bf16) (harg8 : arg8.IsWhole)
  (arg9 : Memref sig .tc .vmem S1x1x2048 .f32) (harg9 : arg9.IsWhole) (arg10 : Memref sig .tc .vmem S512x2048 .f32) (harg10 : arg10.IsWhole)
  (arg11 : Memref sig .tc .vmem S512x2048 .bf16) (harg11 : arg11.IsWhole) (arg12 : Memref sig .tc .vmem S512x1024 .bf16) (harg12 : arg12.IsWhole)
  (x0 x1 : Vec Ideal S512x1024 .f32) (x2 : Vec Ideal S1x1x1024 .f32) (x3 : Vec Ideal S1x8x128x128 .f32) (x4 : Vec Ideal S1x8x128x1 .f32)
  (x5 : Vec Ideal S512x1024 .bf16) (x6 : Vec Ideal S2048x2048 .bf16) (x7 : Vec Ideal S1x1x2048 .f32) (fh0 : HbBuf0 (F := Ideal) c hbM0_0)

/-- What the body reads back of two heads' columns. -/
theorem read0_B (i : Fin 512) (n : Fin 256) :
    kernelRun0_B.sl.v399 c arg2 harg2 arg3 harg3 arg4 harg4 arg5 harg5 arg6 harg6 arg12 x0 x1 x2 x3 x4 (ix2 i n)
      = tiled (blockT x0 x1 x2 x3 x4) i ⟨n.val, by omega⟩ := by
  have key : kernelRun0_B.sl.v399 c arg2 harg2 arg3 harg3 arg4 harg4 arg5 harg5 arg6 harg6 arg12 x0 x1 x2 x3 x4 (ix2 i n)
      = tiled (blockT (arg2.view.read (Elt Ideal) (harg2.unread x0)) (arg3.view.read (Elt Ideal) (harg3.unread x1)) (arg4.view.read (Elt Ideal) (harg4.unread x2))
        (arg5.view.read (Elt Ideal) (harg5.unread x3)) (arg6.view.read (Elt Ideal) (harg6.unread x4))) i ⟨n.val, by omega⟩ := by
    unfold kernelRun0_B.sl.v399
    refine (readCols_at _ _ 0 _ i n ⟨n.val, by omega⟩ (by first | rfl | (dsimp only; omega))).trans ?_
    unfold kernelRun0_B.sl.HS0_8
    have h1 : (⟨n.val, by omega⟩ : Fin 1024).val = 0 + n.val := by first | rfl | (dsimp only; omega)
    generalize (⟨n.val, by omega⟩ : Fin 1024) = n' at h1 ⊢
    refine tile_step _ 1 3 _ _ ?_ _ i n' fun a13 => ?_
    swap
    replace a13 : ¬(n'.val / 128 = 1 ∧ i.val / 128 = 3) := a13
    refine tile_step _ 1 2 _ _ ?_ _ i n' fun a12 => ?_
    swap
    replace a12 : ¬(n'.val / 128 = 1 ∧ i.val / 128 = 2) := a12
    refine tile_step _ 1 1 _ _ ?_ _ i n' fun a11 => ?_
    swap
    replace a11 : ¬(n'.val / 128 = 1 ∧ i.val / 128 = 1) := a11
    refine tile_step _ 1 0 _ _ ?_ _ i n' fun a10 => ?_
    swap
    replace a10 : ¬(n'.val / 128 = 1 ∧ i.val / 128 = 0) := a10
    refine tile_step _ 0 3 _ _ ?_ _ i n' fun a03 => ?_
    swap
    replace a03 : ¬(n'.val / 128 = 0 ∧ i.val / 128 = 3) := a03
    refine tile_step _ 0 2 _ _ ?_ _ i n' fun a02 => ?_
    swap
    replace a02 : ¬(n'.val / 128 = 0 ∧ i.val / 128 = 2) := a02
    refine tile_step _ 0 1 _ _ ?_ _ i n' fun a01 => ?_
    swap
    replace a01 : ¬(n'.val / 128 = 0 ∧ i.val / 128 = 1) := a01
    refine tile_step _ 0 0 _ _ ?_ _ i n' fun a00 => ?_
    swap
    replace a00 : ¬(n'.val / 128 = 0 ∧ i.val / 128 = 0) := a00
    · exact absurd i.isLt (by omega)
    all_goals rfl
  rw [harg2.read_unread x0, harg3.read_unread x1, harg4.read_unread x2, harg5.read_unread x3, harg6.read_unread x4] at key
  exact key

/-- What the body reads back of two heads' columns. -/
theorem read1_B (i : Fin 512) (n : Fin 256) :
    kernelRun0_B.sl.v781 c arg2 harg2 arg3 harg3 arg4 harg4 arg5 harg5 arg6 harg6 arg12 x0 x1 x2 x3 x4 (ix2 i n)
      = tiled (blockT x0 x1 x2 x3 x4) i ⟨256 + n.val, by omega⟩ := by
  have key : kernelRun0_B.sl.v781 c arg2 harg2 arg3 harg3 arg4 harg4 arg5 harg5 arg6 harg6 arg12 x0 x1 x2 x3 x4 (ix2 i n)
      = tiled (blockT (arg2.view.read (Elt Ideal) (harg2.unread x0)) (arg3.view.read (Elt Ideal) (harg3.unread x1)) (arg4.view.read (Elt Ideal) (harg4.unread x2))
        (arg5.view.read (Elt Ideal) (harg5.unread x3)) (arg6.view.read (Elt Ideal) (harg6.unread x4))) i ⟨256 + n.val, by omega⟩ := by
    unfold kernelRun0_B.sl.v781
    refine (readCols_at _ _ 256 _ i n ⟨256 + n.val, by omega⟩ (by first | rfl | (dsimp only; omega))).trans ?_
    unfold kernelRun0_B.sl.HS0_16
    have h1 : (⟨256 + n.val, by omega⟩ : Fin 1024).val = 256 + n.val := by first | rfl | (dsimp only; omega)
    generalize (⟨256 + n.val, by omega⟩ : Fin 1024) = n' at h1 ⊢
    refine tile_step _ 3 3 _ _ ?_ _ i n' fun a33 => ?_
    swap
    replace a33 : ¬(n'.val / 128 = 3 ∧ i.val / 128 = 3) := a33
    refine tile_step _ 3 2 _ _ ?_ _ i n' fun a32 => ?_
    swap
    replace a32 : ¬(n'.val / 128 = 3 ∧ i.val / 128 = 2) := a32
    refine tile_step _ 3 1 _ _ ?_ _ i n' fun a31 => ?_
    swap
    replace a31 : ¬(n'.val / 128 = 3 ∧ i.val / 128 = 1) := a31
    refine tile_step _ 3 0 _ _ ?_ _ i n' fun a30 => ?_
    swap
    replace a30 : ¬(n'.val / 128 = 3 ∧ i.val / 128 = 0) := a30
    refine tile_step _ 2 3 _ _ ?_ _ i n' fun a23 => ?_
    swap
    replace a23 : ¬(n'.val / 128 = 2 ∧ i.val / 128 = 3) := a23
    refine tile_step _ 2 2 _ _ ?_ _ i n' fun a22 => ?_
    swap
    replace a22 : ¬(n'.val / 128 = 2 ∧ i.val / 128 = 2) := a22
    refine tile_step _ 2 1 _ _ ?_ _ i n' fun a21 => ?_
    swap
    replace a21 : ¬(n'.val / 128 = 2 ∧ i.val / 128 = 1) := a21
    refine tile_step _ 2 0 _ _ ?_ _ i n' fun a20 => ?_
    swap
    replace a20 : ¬(n'.val / 128 = 2 ∧ i.val / 128 = 0) := a20
    · exact absurd i.isLt (by omega)
    all_goals rfl
  rw [harg2.read_unread x0, harg3.read_unread x1, harg4.read_unread x2, harg5.read_unread x3, harg6.read_unread x4] at key
  exact key

/-- What the body reads back of two heads' columns. -/
theorem read2_B (i : Fin 512) (n : Fin 256) :
    kernelRun0_B.sl.v1163 c arg2 harg2 arg3 harg3 arg4 harg4 arg5 harg5 arg6 harg6 arg12 x0 x1 x2 x3 x4 (ix2 i n)
      = tiled (blockT x0 x1 x2 x3 x4) i ⟨512 + n.val, by omega⟩ := by
  have key : kernelRun0_B.sl.v1163 c arg2 harg2 arg3 harg3 arg4 harg4 arg5 harg5 arg6 harg6 arg12 x0 x1 x2 x3 x4 (ix2 i n)
      = tiled (blockT (arg2.view.read (Elt Ideal) (harg2.unread x0)) (arg3.view.read (Elt Ideal) (harg3.unread x1)) (arg4.view.read (Elt Ideal) (harg4.unread x2))
        (arg5.view.read (Elt Ideal) (harg5.unread x3)) (arg6.view.read (Elt Ideal) (harg6.unread x4))) i ⟨512 + n.val, by omega⟩ := by
    unfold kernelRun0_B.sl.v1163
    refine (readCols_at _ _ 512 _ i n ⟨512 + n.val, by omega⟩ (by first | rfl | (dsimp only; omega))).trans ?_
    unfold kernelRun0_B.sl.HS0_24
    have h1 : (⟨512 + n.val, by omega⟩ : Fin 1024).val = 512 + n.val := by first | rfl | (dsimp only; omega)
    generalize (⟨512 + n.val, by omega⟩ : Fin 1024) = n' at h1 ⊢
    refine tile_step _ 5 3 _ _ ?_ _ i n' fun a53 => ?_
    swap
    replace a53 : ¬(n'.val / 128 = 5 ∧ i.val / 128 = 3) := a53
    refine tile_step _ 5 2 _ _ ?_ _ i n' fun a52 => ?_
    swap
    replace a52 : ¬(n'.val / 128 = 5 ∧ i.val / 128 = 2) := a52
    refine tile_step _ 5 1 _ _ ?_ _ i n' fun a51 => ?_
    swap
    replace a51 : ¬(n'.val / 128 = 5 ∧ i.val / 128 = 1) := a51
    refine tile_step _ 5 0 _ _ ?_ _ i n' fun a50 => ?_
    swap
    replace a50 : ¬(n'.val / 128 = 5 ∧ i.val / 128 = 0) := a50
    refine tile_step _ 4 3 _ _ ?_ _ i n' fun a43 => ?_
    swap
    replace a43 : ¬(n'.val / 128 = 4 ∧ i.val / 128 = 3) := a43
    refine tile_step _ 4 2 _ _ ?_ _ i n' fun a42 => ?_
    swap
    replace a42 : ¬(n'.val / 128 = 4 ∧ i.val / 128 = 2) := a42
    refine tile_step _ 4 1 _ _ ?_ _ i n' fun a41 => ?_
    swap
    replace a41 : ¬(n'.val / 128 = 4 ∧ i.val / 128 = 1) := a41
    refine tile_step _ 4 0 _ _ ?_ _ i n' fun a40 => ?_
    swap
    replace a40 : ¬(n'.val / 128 = 4 ∧ i.val / 128 = 0) := a40
    · exact absurd i.isLt (by omega)
    all_goals rfl
  rw [harg2.read_unread x0, harg3.read_unread x1, harg4.read_unread x2, harg5.read_unread x3, harg6.read_unread x4] at key
  exact key

/-- What the body reads back of two heads' columns. -/
theorem read3_B (i : Fin 512) (n : Fin 256) :
    kernelRun0_B.sl.v1545 c arg2 harg2 arg3 harg3 arg4 harg4 arg5 harg5 arg6 harg6 arg12 x0 x1 x2 x3 x4 (ix2 i n)
      = tiled (blockT x0 x1 x2 x3 x4) i ⟨768 + n.val, by omega⟩ := by
  have key : kernelRun0_B.sl.v1545 c arg2 harg2 arg3 harg3 arg4 harg4 arg5 harg5 arg6 harg6 arg12 x0 x1 x2 x3 x4 (ix2 i n)
      = tiled (blockT (arg2.view.read (Elt Ideal) (harg2.unread x0)) (arg3.view.read (Elt Ideal) (harg3.unread x1)) (arg4.view.read (Elt Ideal) (harg4.unread x2))
        (arg5.view.read (Elt Ideal) (harg5.unread x3)) (arg6.view.read (Elt Ideal) (harg6.unread x4))) i ⟨768 + n.val, by omega⟩ := by
    unfold kernelRun0_B.sl.v1545
    refine (readCols_at _ _ 768 _ i n ⟨768 + n.val, by omega⟩ (by first | rfl | (dsimp only; omega))).trans ?_
    unfold kernelRun0_B.sl.HS0_32
    have h1 : (⟨768 + n.val, by omega⟩ : Fin 1024).val = 768 + n.val := by first | rfl | (dsimp only; omega)
    generalize (⟨768 + n.val, by omega⟩ : Fin 1024) = n' at h1 ⊢
    refine tile_step _ 7 3 _ _ ?_ _ i n' fun a73 => ?_
    swap
    replace a73 : ¬(n'.val / 128 = 7 ∧ i.val / 128 = 3) := a73
    refine tile_step _ 7 2 _ _ ?_ _ i n' fun a72 => ?_
    swap
    replace a72 : ¬(n'.val / 128 = 7 ∧ i.val / 128 = 2) := a72
    refine tile_step _ 7 1 _ _ ?_ _ i n' fun a71 => ?_
    swap
    replace a71 : ¬(n'.val / 128 = 7 ∧ i.val / 128 = 1) := a71
    refine tile_step _ 7 0 _ _ ?_ _ i n' fun a70 => ?_
    swap
    replace a70 : ¬(n'.val / 128 = 7 ∧ i.val / 128 = 0) := a70
    refine tile_step _ 6 3 _ _ ?_ _ i n' fun a63 => ?_
    swap
    replace a63 : ¬(n'.val / 128 = 6 ∧ i.val / 128 = 3) := a63
    refine tile_step _ 6 2 _ _ ?_ _ i n' fun a62 => ?_
    swap
    replace a62 : ¬(n'.val / 128 = 6 ∧ i.val / 128 = 2) := a62
    refine tile_step _ 6 1 _ _ ?_ _ i n' fun a61 => ?_
    swap
    replace a61 : ¬(n'.val / 128 = 6 ∧ i.val / 128 = 1) := a61
    refine tile_step _ 6 0 _ _ ?_ _ i n' fun a60 => ?_
    swap
    replace a60 : ¬(n'.val / 128 = 6 ∧ i.val / 128 = 0) := a60
    · exact absurd i.isLt (by omega)
    all_goals rfl
  rw [harg2.read_unread x0, harg3.read_unread x1, harg4.read_unread x2, harg5.read_unread x3, harg6.read_unread x4] at key
  exact key

end Cert.SgIdeal.Val

end
-- ==== Proof.SgC.lean ====
module

public import proofs.«01_k».proof.Proof.SgTile

@[expose] public section

set_option maxRecDepth 16384
set_option maxHeartbeats 2000000

noncomputable section

namespace Cert.SgIdeal.Val

open Cert.SgIdeal Cert.SgIdeal.Gen Cert.Emb Cert.Spg
open Idealize.ShloMosaic Idealize.ShloMosaic.TcCoe Idealize.SL.Sem
open scoped BigOperators

variable (c : Dev nD) (t : Fin cfg0.N) (arg2 : Memref sig .tc .vmem S512x1024 .f32) (harg2 : arg2.IsWhole)
  (arg3 : Memref sig .tc .vmem S512x1024 .f32) (harg3 : arg3.IsWhole) (arg4 : Memref sig .tc .vmem S1x1x1024 .f32) (harg4 : arg4.IsWhole)
  (arg5 : Memref sig .tc .vmem S1x8x128x128 .f32) (harg5 : arg5.IsWhole) (arg6 : Memref sig .tc .vmem S1x8x128x1 .f32) (harg6 : arg6.IsWhole)
  (arg7 : Memref sig .tc .vmem S512x1024 .bf16) (harg7 : arg7.IsWhole) (arg8 : Memref sig .tc .vmem S2048x2048 .bf16) (harg8 : arg8.IsWhole)
  (arg9 : Memref sig .tc .vmem S1x1x2048 .f32) (harg9 : arg9.IsWhole) (arg10 : Memref sig .tc .vmem S512x2048 .f32) (harg10 : arg10.IsWhole)
  (arg11 : Memref sig .tc .vmem S512x2048 .bf16) (harg11 : arg11.IsWhole) (arg12 : Memref sig .tc .vmem S512x1024 .bf16) (harg12 : arg12.IsWhole)
  (x0 x1 : Vec Ideal S512x1024 .f32) (x2 : Vec Ideal S1x1x1024 .f32) (x3 : Vec Ideal S1x8x128x128 .f32) (x4 : Vec Ideal S1x8x128x1 .f32)
  (x5 : Vec Ideal S512x1024 .bf16) (x6 : Vec Ideal S2048x2048 .bf16) (x7 : Vec Ideal S1x1x2048 .f32) (fh0 : HbBuf0 (F := Ideal) c hbM0_0)

/-- What the body reads back of two heads' columns. -/
theorem read0_C (i : Fin 512) (n : Fin 256) :
    kernelRun0_C.sl.v399 c arg2 harg2 arg3 harg3 arg4 harg4 arg5 harg5 arg6 harg6 arg12 x0 x1 x2 x3 x4 (ix2 i n)
      = tiled (blockT x0 x1 x2 x3 x4) i ⟨n.val, by omega⟩ := by
  have key : kernelRun0_C.sl.v399 c arg2 harg2 arg3 harg3 arg4 harg4 arg5 harg5 arg6 harg6 arg12 x0 x1 x2 x3 x4 (ix2 i n)
      = tiled (blockT (arg2.view.read (Elt Ideal) (harg2.unread x0)) (arg3.view.read (Elt Ideal) (harg3.unread x1)) (arg4.view.read (Elt Ideal) (harg4.unread x2))
        (arg5.view.read (Elt Ideal) (harg5.unread x3)) (arg6.view.read (Elt Ideal) (harg6.unread x4))) i ⟨n.val, by omega⟩ := by
    unfold kernelRun0_C.sl.v399
    refine (readCols_at _ _ 0 _ i n ⟨n.val, by omega⟩ (by first | rfl | (dsimp only; omega))).trans ?_
    unfold kernelRun0_C.sl.HS0_8
    have h1 : (⟨n.val, by omega⟩ : Fin 1024).val = 0 + n.val := by first | rfl | (dsimp only; omega)
    generalize (⟨n.val, by omega⟩ : Fin 1024) = n' at h1 ⊢
    refine tile_step _ 1 3 _ _ ?_ _ i n' fun a13 => ?_
    swap
    replace a13 : ¬(n'.val / 128 = 1 ∧ i.val / 128 = 3) := a13
    refine tile_step _ 1 2 _ _ ?_ _ i n' fun a12 => ?_
    swap
    replace a12 : ¬(n'.val / 128 = 1 ∧ i.val / 128 = 2) := a12
    refine tile_step _ 1 1 _ _ ?_ _ i n' fun a11 => ?_
    swap
    replace a11 : ¬(n'.val / 128 = 1 ∧ i.val / 128 = 1) := a11
    refine tile_step _ 1 0 _ _ ?_ _ i n' fun a10 => ?_
    swap
    replace a10 : ¬(n'.val / 128 = 1 ∧ i.val / 128 = 0) := a10
    refine tile_step _ 0 3 _ _ ?_ _ i n' fun a03 => ?_
    swap
    replace a03 : ¬(n'.val / 128 = 0 ∧ i.val / 128 = 3) := a03
    refine tile_step _ 0 2 _ _ ?_ _ i n' fun a02 => ?_
    swap
    replace a02 : ¬(n'.val / 128 = 0 ∧ i.val / 128 = 2) := a02
    refine tile_step _ 0 1 _ _ ?_ _ i n' fun a01 => ?_
    swap
    replace a01 : ¬(n'.val / 128 = 0 ∧ i.val / 128 = 1) := a01
    refine tile_step _ 0 0 _ _ ?_ _ i n' fun a00 => ?_
    swap
    replace a00 : ¬(n'.val / 128 = 0 ∧ i.val / 128 = 0) := a00
    · exact absurd i.isLt (by omega)
    all_goals rfl
  rw [harg2.read_unread x0, harg3.read_unread x1, harg4.read_unread x2, harg5.read_unread x3, harg6.read_unread x4] at key
  exact key

/-- What the body reads back of two heads' columns. -/
theorem read1_C (i : Fin 512) (n : Fin 256) :
    kernelRun0_C.sl.v781 c arg2 harg2 arg3 harg3 arg4 harg4 arg5 harg5 arg6 harg6 arg12 x0 x1 x2 x3 x4 (ix2 i n)
      = tiled (blockT x0 x1 x2 x3 x4) i ⟨256 + n.val, by omega⟩ := by
  have key : kernelRun0_C.sl.v781 c arg2 harg2 arg3 harg3 arg4 harg4 arg5 harg5 arg6 harg6 arg12 x0 x1 x2 x3 x4 (ix2 i n)
      = tiled (blockT (arg2.view.read (Elt Ideal) (harg2.unread x0)) (arg3.view.read (Elt Ideal) (harg3.unread x1)) (arg4.view.read (Elt Ideal) (harg4.unread x2))
        (arg5.view.read (Elt Ideal) (harg5.unread x3)) (arg6.view.read (Elt Ideal) (harg6.unread x4))) i ⟨256 + n.val, by omega⟩ := by
    unfold kernelRun0_C.sl.v781
    refine (readCols_at _ _ 256 _ i n ⟨256 + n.val, by omega⟩ (by first | rfl | (dsimp only; omega))).trans ?_
    unfold kernelRun0_C.sl.HS0_16
    have h1 : (⟨256 + n.val, by omega⟩ : Fin 1024).val = 256 + n.val := by first | rfl | (dsimp only; omega)
    generalize (⟨256 + n.val, by omega⟩ : Fin 1024) = n' at h1 ⊢
    refine tile_step _ 3 3 _ _ ?_ _ i n' fun a33 => ?_
    swap
    replace a33 : ¬(n'.val / 128 = 3 ∧ i.val / 128 = 3) := a33
    refine tile_step _ 3 2 _ _ ?_ _ i n' fun a32 => ?_
    swap
    replace a32 : ¬(n'.val / 128 = 3 ∧ i.val / 128 = 2) := a32
    refine tile_step _ 3 1 _ _ ?_ _ i n' fun a31 => ?_
    swap
    replace a31 : ¬(n'.val / 128 = 3 ∧ i.val / 128 = 1) := a31
    refine tile_step _ 3 0 _ _ ?_ _ i n' fun a30 => ?_
    swap
    replace a30 : ¬(n'.val / 128 = 3 ∧ i.val / 128 = 0) := a30
    refine tile_step _ 2 3 _ _ ?_ _ i n' fun a23 => ?_
    swap
    replace a23 : ¬(n'.val / 128 = 2 ∧ i.val / 128 = 3) := a23
    refine tile_step _ 2 2 _ _ ?_ _ i n' fun a22 => ?_
    swap
    replace a22 : ¬(n'.val / 128 = 2 ∧ i.val / 128 = 2) := a22
    refine tile_step _ 2 1 _ _ ?_ _ i n' fun a21 => ?_
    swap
    replace a21 : ¬(n'.val / 128 = 2 ∧ i.val / 128 = 1) := a21
    refine tile_step _ 2 0 _ _ ?_ _ i n' fun a20 => ?_
    swap
    replace a20 : ¬(n'.val / 128 = 2 ∧ i.val / 128 = 0) := a20
    · exact absurd i.isLt (by omega)
    all_goals rfl
  rw [harg2.read_unread x0, harg3.read_unread x1, harg4.read_unread x2, harg5.read_unread x3, harg6.read_unread x4] at key
  exact key

/-- What the body reads back of two heads' columns. -/
theorem read2_C (i : Fin 512) (n : Fin 256) :
    kernelRun0_C.sl.v1163 c arg2 harg2 arg3 harg3 arg4 harg4 arg5 harg5 arg6 harg6 arg12 x0 x1 x2 x3 x4 (ix2 i n)
      = tiled (blockT x0 x1 x2 x3 x4) i ⟨512 + n.val, by omega⟩ := by
  have key : kernelRun0_C.sl.v1163 c arg2 harg2 arg3 harg3 arg4 harg4 arg5 harg5 arg6 harg6 arg12 x0 x1 x2 x3 x4 (ix2 i n)
      = tiled (blockT (arg2.view.read (Elt Ideal) (harg2.unread x0)) (arg3.view.read (Elt Ideal) (harg3.unread x1)) (arg4.view.read (Elt Ideal) (harg4.unread x2))
        (arg5.view.read (Elt Ideal) (harg5.unread x3)) (arg6.view.read (Elt Ideal) (harg6.unread x4))) i ⟨512 + n.val, by omega⟩ := by
    unfold kernelRun0_C.sl.v1163
    refine (readCols_at _ _ 512 _ i n ⟨512 + n.val, by omega⟩ (by first | rfl | (dsimp only; omega))).trans ?_
    unfold kernelRun0_C.sl.HS0_24
    have h1 : (⟨512 + n.val, by omega⟩ : Fin 1024).val = 512 + n.val := by first | rfl | (dsimp only; omega)
    generalize (⟨512 + n.val, by omega⟩ : Fin 1024) = n' at h1 ⊢
    refine tile_step _ 5 3 _ _ ?_ _ i n' fun a53 => ?_
    swap
    replace a53 : ¬(n'.val / 128 = 5 ∧ i.val / 128 = 3) := a53
    refine tile_step _ 5 2 _ _ ?_ _ i n' fun a52 => ?_
    swap
    replace a52 : ¬(n'.val / 128 = 5 ∧ i.val / 128 = 2) := a52
    refine tile_step _ 5 1 _ _ ?_ _ i n' fun a51 => ?_
    swap
    replace a51 : ¬(n'.val / 128 = 5 ∧ i.val / 128 = 1) := a51
    refine tile_step _ 5 0 _ _ ?_ _ i n' fun a50 => ?_
    swap
    replace a50 : ¬(n'.val / 128 = 5 ∧ i.val / 128 = 0) := a50
    refine tile_step _ 4 3 _ _ ?_ _ i n' fun a43 => ?_
    swap
    replace a43 : ¬(n'.val / 128 = 4 ∧ i.val / 128 = 3) := a43
    refine tile_step _ 4 2 _ _ ?_ _ i n' fun a42 => ?_
    swap
    replace a42 : ¬(n'.val / 128 = 4 ∧ i.val / 128 = 2) := a42
    refine tile_step _ 4 1 _ _ ?_ _ i n' fun a41 => ?_
    swap
    replace a41 : ¬(n'.val / 128 = 4 ∧ i.val / 128 = 1) := a41
    refine tile_step _ 4 0 _ _ ?_ _ i n' fun a40 => ?_
    swap
    replace a40 : ¬(n'.val / 128 = 4 ∧ i.val / 128 = 0) := a40
    · exact absurd i.isLt (by omega)
    all_goals rfl
  rw [harg2.read_unread x0, harg3.read_unread x1, harg4.read_unread x2, harg5.read_unread x3, harg6.read_unread x4] at key
  exact key

/-- What the body reads back of two heads' columns. -/
theorem read3_C (i : Fin 512) (n : Fin 256) :
    kernelRun0_C.sl.v1545 c arg2 harg2 arg3 harg3 arg4 harg4 arg5 harg5 arg6 harg6 arg12 x0 x1 x2 x3 x4 (ix2 i n)
      = tiled (blockT x0 x1 x2 x3 x4) i ⟨768 + n.val, by omega⟩ := by
  have key : kernelRun0_C.sl.v1545 c arg2 harg2 arg3 harg3 arg4 harg4 arg5 harg5 arg6 harg6 arg12 x0 x1 x2 x3 x4 (ix2 i n)
      = tiled (blockT (arg2.view.read (Elt Ideal) (harg2.unread x0)) (arg3.view.read (Elt Ideal) (harg3.unread x1)) (arg4.view.read (Elt Ideal) (harg4.unread x2))
        (arg5.view.read (Elt Ideal) (harg5.unread x3)) (arg6.view.read (Elt Ideal) (harg6.unread x4))) i ⟨768 + n.val, by omega⟩ := by
    unfold kernelRun0_C.sl.v1545
    refine (readCols_at _ _ 768 _ i n ⟨768 + n.val, by omega⟩ (by first | rfl | (dsimp only; omega))).trans ?_
    unfold kernelRun0_C.sl.HS0_32
    have h1 : (⟨768 + n.val, by omega⟩ : Fin 1024).val = 768 + n.val := by first | rfl | (dsimp only; omega)
    generalize (⟨768 + n.val, by omega⟩ : Fin 1024) = n' at h1 ⊢
    refine tile_step _ 7 3 _ _ ?_ _ i n' fun a73 => ?_
    swap
    replace a73 : ¬(n'.val / 128 = 7 ∧ i.val / 128 = 3) := a73
    refine tile_step _ 7 2 _ _ ?_ _ i n' fun a72 => ?_
    swap
    replace a72 : ¬(n'.val / 128 = 7 ∧ i.val / 128 = 2) := a72
    refine tile_step _ 7 1 _ _ ?_ _ i n' fun a71 => ?_
    swap
    replace a71 : ¬(n'.val / 128 = 7 ∧ i.val / 128 = 1) := a71
    refine tile_step _ 7 0 _ _ ?_ _ i n' fun a70 => ?_
    swap
    replace a70 : ¬(n'.val / 128 = 7 ∧ i.val / 128 = 0) := a70
    refine tile_step _ 6 3 _ _ ?_ _ i n' fun a63 => ?_
    swap
    replace a63 : ¬(n'.val / 128 = 6 ∧ i.val / 128 = 3) := a63
    refine tile_step _ 6 2 _ _ ?_ _ i n' fun a62 => ?_
    swap
    replace a62 : ¬(n'.val / 128 = 6 ∧ i.val / 128 = 2) := a62
    refine tile_step _ 6 1 _ _ ?_ _ i n' fun a61 => ?_
    swap
    replace a61 : ¬(n'.val / 128 = 6 ∧ i.val / 128 = 1) := a61
    refine tile_step _ 6 0 _ _ ?_ _ i n' fun a60 => ?_
    swap
    replace a60 : ¬(n'.val / 128 = 6 ∧ i.val / 128 = 0) := a60
    · exact absurd i.isLt (by omega)
    all_goals rfl
  rw [harg2.read_unread x0, harg3.read_unread x1, harg4.read_unread x2, harg5.read_unread x3, harg6.read_unread x4] at key
  exact key

end Cert.SgIdeal.Val

end
-- ==== Proof.SgOut.lean ====
module

public import proofs.«01_k».proof.Proof.SgA
public import proofs.«01_k».proof.Proof.SgB
public import proofs.«01_k».proof.Proof.SgC

@[expose] public section

set_option maxRecDepth 16384
set_option maxHeartbeats 2000000

noncomputable section

namespace Cert.SgIdeal.Val

open Cert.SgIdeal Cert.SgIdeal.Gen Cert.Emb Cert.Spg
open Idealize.ShloMosaic Idealize.ShloMosaic.TcCoe Idealize.SL.Sem
open scoped BigOperators

variable (c : Dev nD) (t : Fin cfg0.N) (arg2 : Memref sig .tc .vmem S512x1024 .f32) (harg2 : arg2.IsWhole)
  (arg3 : Memref sig .tc .vmem S512x1024 .f32) (harg3 : arg3.IsWhole) (arg4 : Memref sig .tc .vmem S1x1x1024 .f32) (harg4 : arg4.IsWhole)
  (arg5 : Memref sig .tc .vmem S1x8x128x128 .f32) (harg5 : arg5.IsWhole) (arg6 : Memref sig .tc .vmem S1x8x128x1 .f32) (harg6 : arg6.IsWhole)
  (arg7 : Memref sig .tc .vmem S512x1024 .bf16) (harg7 : arg7.IsWhole) (arg8 : Memref sig .tc .vmem S2048x2048 .bf16) (harg8 : arg8.IsWhole)
  (arg9 : Memref sig .tc .vmem S1x1x2048 .f32) (harg9 : arg9.IsWhole) (arg10 : Memref sig .tc .vmem S512x2048 .f32) (harg10 : arg10.IsWhole)
  (arg11 : Memref sig .tc .vmem S512x2048 .bf16) (harg11 : arg11.IsWhole) (arg12 : Memref sig .tc .vmem S512x1024 .bf16) (harg12 : arg12.IsWhole)
  (x0 x1 : Vec Ideal S512x1024 .f32) (x2 : Vec Ideal S1x1x1024 .f32) (x3 : Vec Ideal S1x8x128x128 .f32) (x4 : Vec Ideal S1x8x128x1 .f32)
  (x5 : Vec Ideal S512x1024 .bf16) (x6 : Vec Ideal S2048x2048 .bf16) (x7 : Vec Ideal S1x1x2048 .f32) (fh0 : HbBuf0 (F := Ideal) c hbM0_0)

/-- What the point's slot holds: its block of rows. -/
theorem slot_A (i : Fin 512) (k : Fin 2048) : kernelRun0_A.sl.v1550 c t fh0 (ix3 0 i k : S1x512x2048.Idx)
    = fh0 (ix2 ⟨512 * t.val + i.val, by have := t.isLt; have : cfg0.N = 16 := N_0; omega⟩ k : S8192x2048.Idx) := by
  refine (cast3_at (kernelRun0_A.sl.v1550 c t fh0) i k).symm.trans ?_
  exact slot_at c t fh0 _ _ i k

/-- What a point of this kind leaves in the first result's block, as a term of what it reads. -/
def sum_A : FVec Ideal S512x2048 .f32 :=
  outOf x5 x6 (kernelRun0_A.sl.v399 c arg2 harg2 arg3 harg3 arg4 harg4 arg5 harg5 arg6 harg6 arg12 x0 x1 x2 x3 x4)
    (kernelRun0_A.sl.v781 c arg2 harg2 arg3 harg3 arg4 harg4 arg5 harg5 arg6 harg6 arg12 x0 x1 x2 x3 x4)
    (kernelRun0_A.sl.v1163 c arg2 harg2 arg3 harg3 arg4 harg4 arg5 harg5 arg6 harg6 arg12 x0 x1 x2 x3 x4)
    (kernelRun0_A.sl.v1545 c arg2 harg2 arg3 harg3 arg4 harg4 arg5 harg5 arg6 harg6 arg12 x0 x1 x2 x3 x4)
    (kernelRun0_A.sl.v1550 c t fh0)

/-- What a point of this kind leaves in the first result's block. -/
theorem out_A (hc0 : cond0_0 (grid0.coords t)) (hc1 : cond0_1 (grid0.coords t)) :
    out0_A_8 c t arg2 harg2 arg3 harg3 arg4 harg4 arg5 harg5 arg6 harg6 arg7 harg7 arg8 harg8 arg9 harg9 arg10 harg10 arg11 harg11 arg12 harg12 hc0 hc1 x0 x1 x2 x3 x4 x5 x6 x7 fh0
      = sum_A c t arg2 harg2 arg3 harg3 arg4 harg4 arg5 harg5 arg6 harg6 arg12 x0 x1 x2 x3 x4 x5 x6 fh0 := by
  unfold out0_A_8 kernelRun0_A
  dsimp only
  refine (View.read_writes_full (s := S512x2048) VO0_8 _ (by decide) _ _).trans ?_
  have e5 : View.readAt (Elt Ideal) arg7.view (Rect.unit ![0, 0] ![512, 1024] inb_S512x1024_S512x1024_0_0).toLoadRect (harg7.unread x5) = x5 :=
    (View.readAt_full (s := S512x1024) arg7.view _ _).trans (harg7.read_unread x5)
  have key := congr (congrArg (fun a b => sum_A c t arg2 harg2 arg3 harg3 arg4 harg4 arg5 harg5 arg6 harg6 arg12 x0 x1 x2 x3 x4 a b fh0) e5) (harg8.read_unread x6)
  exact key

/-- What a point of this kind leaves in the second result's block. -/
theorem outn_A (hc0 : cond0_0 (grid0.coords t)) (hc1 : cond0_1 (grid0.coords t)) :
    out0_A_9 c t arg2 harg2 arg3 harg3 arg4 harg4 arg5 harg5 arg6 harg6 arg7 harg7 arg8 harg8 arg9 harg9 arg10 harg10 arg11 harg11 arg12 harg12 hc0 hc1 x0 x1 x2 x3 x4 x5 x6 x7 fh0
      = k0_pay1 (sum_A c t arg2 harg2 arg3 harg3 arg4 harg4 arg5 harg5 arg6 harg6 arg12 x0 x1 x2 x3 x4 x5 x6 fh0) x7 := by
  unfold out0_A_9 kernelRun0_A
  dsimp only
  refine (View.read_writes_full (s := S512x2048) VO0_9 _ (by decide) _ _).trans ?_
  have e5 : View.readAt (Elt Ideal) arg7.view (Rect.unit ![0, 0] ![512, 1024] inb_S512x1024_S512x1024_0_0).toLoadRect (harg7.unread x5) = x5 :=
    (View.readAt_full (s := S512x1024) arg7.view _ _).trans (harg7.read_unread x5)
  have e7 : View.readAt (Elt Ideal) arg9.view (Rect.unit ![0, 0, 0] ![1, 1, 2048] inb_S1x1x2048_S1x1x2048_0_0_0).toLoadRect (harg9.unread x7) = x7 :=
    (View.readAt_full (s := S1x1x2048) arg9.view _ _).trans (harg9.read_unread x7)
  have key := congr (congr (congrArg (fun a b d => k0_pay1 (sum_A c t arg2 harg2 arg3 harg3 arg4 harg4 arg5 harg5 arg6 harg6 arg12 x0 x1 x2 x3 x4 a b fh0) d) e5)
    (harg8.read_unread x6)) e7
  exact key

/-- The first result's block of such a point, at an entry. -/
theorem sum_A_at (i : Fin 512) (k : Fin 2048) :
    sum_A c t arg2 harg2 arg3 harg3 arg4 harg4 arg5 harg5 arg6 harg6 arg12 x0 x1 x2 x3 x4 x5 x6 fh0 (ix2 i k)
      = HAdd.hAdd (α := EReal) (β := EReal) (γ := EReal) (fh0 (ix2 ⟨512 * t.val + i.val, by have := t.isLt; have : cfg0.N = 16 := N_0; omega⟩ k : S8192x2048.Idx))
        (HAdd.hAdd (α := EReal) (β := EReal) (γ := EReal)
          (∑ n : Fin 1024, HMul.hMul (α := EReal) (β := EReal) (γ := EReal) (tiled (blockT x0 x1 x2 x3 x4) i n) (x6 (ix2 ⟨n.val, by omega⟩ k)))
          (∑ n : Fin 1024, HMul.hMul (α := EReal) (β := EReal) (γ := EReal) (x5 (ix2 i n)) (x6 (ix2 ⟨1024 + n.val, by omega⟩ k)))) := by
  have h0 := read0_A c arg2 harg2 arg3 harg3 arg4 harg4 arg5 harg5 arg6 harg6 arg12 x0 x1 x2 x3 x4
  have h1 := read1_A c arg2 harg2 arg3 harg3 arg4 harg4 arg5 harg5 arg6 harg6 arg12 x0 x1 x2 x3 x4
  have h2 := read2_A c arg2 harg2 arg3 harg3 arg4 harg4 arg5 harg5 arg6 harg6 arg12 x0 x1 x2 x3 x4
  have h3 := read3_A c arg2 harg2 arg3 harg3 arg4 harg4 arg5 harg5 arg6 harg6 arg12 x0 x1 x2 x3 x4
  have hs := slot_A c t fh0 i k
  unfold sum_A
  generalize tiled (blockT x0 x1 x2 x3 x4) = Y at h0 h1 h2 h3 ⊢
  generalize kernelRun0_A.sl.v399 c arg2 harg2 arg3 harg3 arg4 harg4 arg5 harg5 arg6 harg6 arg12 x0 x1 x2 x3 x4 = r0 at h0 ⊢
  generalize kernelRun0_A.sl.v781 c arg2 harg2 arg3 harg3 arg4 harg4 arg5 harg5 arg6 harg6 arg12 x0 x1 x2 x3 x4 = r1 at h1 ⊢
  generalize kernelRun0_A.sl.v1163 c arg2 harg2 arg3 harg3 arg4 harg4 arg5 harg5 arg6 harg6 arg12 x0 x1 x2 x3 x4 = r2 at h2 ⊢
  generalize kernelRun0_A.sl.v1545 c arg2 harg2 arg3 harg3 arg4 harg4 arg5 harg5 arg6 harg6 arg12 x0 x1 x2 x3 x4 = r3 at h3 ⊢
  generalize kernelRun0_A.sl.v1550 c t fh0 = s at hs ⊢
  refine (outOf_val x5 x6 r0 r1 r2 r3 s Y h0 h1 h2 h3 i k).trans ?_
  exact congrArg (fun z => HAdd.hAdd (α := EReal) (β := EReal) (γ := EReal) z _) hs

/-- What the point's slot holds: its block of rows. -/
theorem slot_B (i : Fin 512) (k : Fin 2048) : kernelRun0_B.sl.v1550 c t fh0 (ix3 0 i k : S1x512x2048.Idx)
    = fh0 (ix2 ⟨512 * t.val + i.val, by have := t.isLt; have : cfg0.N = 16 := N_0; omega⟩ k : S8192x2048.Idx) := by
  refine (cast3_at (kernelRun0_B.sl.v1550 c t fh0) i k).symm.trans ?_
  exact slot_at c t fh0 _ _ i k

/-- What a point of this kind leaves in the first result's block, as a term of what it reads. -/
def sum_B : FVec Ideal S512x2048 .f32 :=
  outOf x5 x6 (kernelRun0_B.sl.v399 c arg2 harg2 arg3 harg3 arg4 harg4 arg5 harg5 arg6 harg6 arg12 x0 x1 x2 x3 x4)
    (kernelRun0_B.sl.v781 c arg2 harg2 arg3 harg3 arg4 harg4 arg5 harg5 arg6 harg6 arg12 x0 x1 x2 x3 x4)
    (kernelRun0_B.sl.v1163 c arg2 harg2 arg3 harg3 arg4 harg4 arg5 harg5 arg6 harg6 arg12 x0 x1 x2 x3 x4)
    (kernelRun0_B.sl.v1545 c arg2 harg2 arg3 harg3 arg4 harg4 arg5 harg5 arg6 harg6 arg12 x0 x1 x2 x3 x4)
    (kernelRun0_B.sl.v1550 c t fh0)

/-- What a point of this kind leaves in the first result's block. -/
theorem out_B (hc0 : ¬cond0_0 (grid0.coords t)) (hc1 : cond0_1 (grid0.coords t)) :
    out0_B_8 c t arg2 harg2 arg3 harg3 arg4 harg4 arg5 harg5 arg6 harg6 arg7 harg7 arg8 harg8 arg9 harg9 arg10 harg10 arg11 harg11 arg12 harg12 hc0 hc1 x0 x1 x2 x3 x4 x5 x6 x7 fh0
      = sum_B c t arg2 harg2 arg3 harg3 arg4 harg4 arg5 harg5 arg6 harg6 arg12 x0 x1 x2 x3 x4 x5 x6 fh0 := by
  unfold out0_B_8 kernelRun0_B
  dsimp only
  refine (View.read_writes_full (s := S512x2048) VO0_8 _ (by decide) _ _).trans ?_
  have e5 : View.readAt (Elt Ideal) arg7.view (Rect.unit ![0, 0] ![512, 1024] inb_S512x1024_S512x1024_0_0).toLoadRect (harg7.unread x5) = x5 :=
    (View.readAt_full (s := S512x1024) arg7.view _ _).trans (harg7.read_unread x5)
  have key := congr (congrArg (fun a b => sum_B c t arg2 harg2 arg3 harg3 arg4 harg4 arg5 harg5 arg6 harg6 arg12 x0 x1 x2 x3 x4 a b fh0) e5) (harg8.read_unread x6)
  exact key

/-- What a point of this kind leaves in the second result's block. -/
theorem outn_B (hc0 : ¬cond0_0 (grid0.coords t)) (hc1 : cond0_1 (grid0.coords t)) :
    out0_B_9 c t arg2 harg2 arg3 harg3 arg4 harg4 arg5 harg5 arg6 harg6 arg7 harg7 arg8 harg8 arg9 harg9 arg10 harg10 arg11 harg11 arg12 harg12 hc0 hc1 x0 x1 x2 x3 x4 x5 x6 x7 fh0
      = k0_pay1 (sum_B c t arg2 harg2 arg3 harg3 arg4 harg4 arg5 harg5 arg6 harg6 arg12 x0 x1 x2 x3 x4 x5 x6 fh0) x7 := by
  unfold out0_B_9 kernelRun0_B
  dsimp only
  refine (View.read_writes_full (s := S512x2048) VO0_9 _ (by decide) _ _).trans ?_
  have e5 : View.readAt (Elt Ideal) arg7.view (Rect.unit ![0, 0] ![512, 1024] inb_S512x1024_S512x1024_0_0).toLoadRect (harg7.unread x5) = x5 :=
    (View.readAt_full (s := S512x1024) arg7.view _ _).trans (harg7.read_unread x5)
  have e7 : View.readAt (Elt Ideal) arg9.view (Rect.unit ![0, 0, 0] ![1, 1, 2048] inb_S1x1x2048_S1x1x2048_0_0_0).toLoadRect (harg9.unread x7) = x7 :=
    (View.readAt_full (s := S1x1x2048) arg9.view _ _).trans (harg9.read_unread x7)
  have key := congr (congr (congrArg (fun a b d => k0_pay1 (sum_B c t arg2 harg2 arg3 harg3 arg4 harg4 arg5 harg5 arg6 harg6 arg12 x0 x1 x2 x3 x4 a b fh0) d) e5)
    (harg8.read_unread x6)) e7
  exact key

/-- The first result's block of such a point, at an entry. -/
theorem sum_B_at (i : Fin 512) (k : Fin 2048) :
    sum_B c t arg2 harg2 arg3 harg3 arg4 harg4 arg5 harg5 arg6 harg6 arg12 x0 x1 x2 x3 x4 x5 x6 fh0 (ix2 i k)
      = HAdd.hAdd (α := EReal) (β := EReal) (γ := EReal) (fh0 (ix2 ⟨512 * t.val + i.val, by have := t.isLt; have : cfg0.N = 16 := N_0; omega⟩ k : S8192x2048.Idx))
        (HAdd.hAdd (α := EReal) (β := EReal) (γ := EReal)
          (∑ n : Fin 1024, HMul.hMul (α := EReal) (β := EReal) (γ := EReal) (tiled (blockT x0 x1 x2 x3 x4) i n) (x6 (ix2 ⟨n.val, by omega⟩ k)))
          (∑ n : Fin 1024, HMul.hMul (α := EReal) (β := EReal) (γ := EReal) (x5 (ix2 i n)) (x6 (ix2 ⟨1024 + n.val, by omega⟩ k)))) := by
  have h0 := read0_B c arg2 harg2 arg3 harg3 arg4 harg4 arg5 harg5 arg6 harg6 arg12 x0 x1 x2 x3 x4
  have h1 := read1_B c arg2 harg2 arg3 harg3 arg4 harg4 arg5 harg5 arg6 harg6 arg12 x0 x1 x2 x3 x4
  have h2 := read2_B c arg2 harg2 arg3 harg3 arg4 harg4 arg5 harg5 arg6 harg6 arg12 x0 x1 x2 x3 x4
  have h3 := read3_B c arg2 harg2 arg3 harg3 arg4 harg4 arg5 harg5 arg6 harg6 arg12 x0 x1 x2 x3 x4
  have hs := slot_B c t fh0 i k
  unfold sum_B
  generalize tiled (blockT x0 x1 x2 x3 x4) = Y at h0 h1 h2 h3 ⊢
  generalize kernelRun0_B.sl.v399 c arg2 harg2 arg3 harg3 arg4 harg4 arg5 harg5 arg6 harg6 arg12 x0 x1 x2 x3 x4 = r0 at h0 ⊢
  generalize kernelRun0_B.sl.v781 c arg2 harg2 arg3 harg3 arg4 harg4 arg5 harg5 arg6 harg6 arg12 x0 x1 x2 x3 x4 = r1 at h1 ⊢
  generalize kernelRun0_B.sl.v1163 c arg2 harg2 arg3 harg3 arg4 harg4 arg5 harg5 arg6 harg6 arg12 x0 x1 x2 x3 x4 = r2 at h2 ⊢
  generalize kernelRun0_B.sl.v1545 c arg2 harg2 arg3 harg3 arg4 harg4 arg5 harg5 arg6 harg6 arg12 x0 x1 x2 x3 x4 = r3 at h3 ⊢
  generalize kernelRun0_B.sl.v1550 c t fh0 = s at hs ⊢
  refine (outOf_val x5 x6 r0 r1 r2 r3 s Y h0 h1 h2 h3 i k).trans ?_
  exact congrArg (fun z => HAdd.hAdd (α := EReal) (β := EReal) (γ := EReal) z _) hs

/-- What the point's slot holds: its block of rows. -/
theorem slot_C (i : Fin 512) (k : Fin 2048) : kernelRun0_C.sl.v1550 c t fh0 (ix3 0 i k : S1x512x2048.Idx)
    = fh0 (ix2 ⟨512 * t.val + i.val, by have := t.isLt; have : cfg0.N = 16 := N_0; omega⟩ k : S8192x2048.Idx) := by
  refine (cast3_at (kernelRun0_C.sl.v1550 c t fh0) i k).symm.trans ?_
  exact slot_at c t fh0 _ _ i k

/-- What a point of this kind leaves in the first result's block, as a term of what it reads. -/
def sum_C : FVec Ideal S512x2048 .f32 :=
  outOf x5 x6 (kernelRun0_C.sl.v399 c arg2 harg2 arg3 harg3 arg4 harg4 arg5 harg5 arg6 harg6 arg12 x0 x1 x2 x3 x4)
    (kernelRun0_C.sl.v781 c arg2 harg2 arg3 harg3 arg4 harg4 arg5 harg5 arg6 harg6 arg12 x0 x1 x2 x3 x4)
    (kernelRun0_C.sl.v1163 c arg2 harg2 arg3 harg3 arg4 harg4 arg5 harg5 arg6 harg6 arg12 x0 x1 x2 x3 x4)
    (kernelRun0_C.sl.v1545 c arg2 harg2 arg3 harg3 arg4 harg4 arg5 harg5 arg6 harg6 arg12 x0 x1 x2 x3 x4)
    (kernelRun0_C.sl.v1550 c t fh0)

/-- What a point of this kind leaves in the first result's block. -/
theorem out_C (hc0 : ¬cond0_0 (grid0.coords t)) (hc1 : ¬cond0_1 (grid0.coords t)) :
    out0_C_8 c t arg2 harg2 arg3 harg3 arg4 harg4 arg5 harg5 arg6 harg6 arg7 harg7 arg8 harg8 arg9 harg9 arg10 harg10 arg11 harg11 arg12 harg12 hc0 hc1 x0 x1 x2 x3 x4 x5 x6 x7 fh0
      = sum_C c t arg2 harg2 arg3 harg3 arg4 harg4 arg5 harg5 arg6 harg6 arg12 x0 x1 x2 x3 x4 x5 x6 fh0 := by
  unfold out0_C_8 kernelRun0_C
  dsimp only
  refine (View.read_writes_full (s := S512x2048) VO0_8 _ (by decide) _ _).trans ?_
  have e5 : View.readAt (Elt Ideal) arg7.view (Rect.unit ![0, 0] ![512, 1024] inb_S512x1024_S512x1024_0_0).toLoadRect (harg7.unread x5) = x5 :=
    (View.readAt_full (s := S512x1024) arg7.view _ _).trans (harg7.read_unread x5)
  have key := congr (congrArg (fun a b => sum_C c t arg2 harg2 arg3 harg3 arg4 harg4 arg5 harg5 arg6 harg6 arg12 x0 x1 x2 x3 x4 a b fh0) e5) (harg8.read_unread x6)
  exact key

/-- What a point of this kind leaves in the second result's block. -/
theorem outn_C (hc0 : ¬cond0_0 (grid0.coords t)) (hc1 : ¬cond0_1 (grid0.coords t)) :
    out0_C_9 c t arg2 harg2 arg3 harg3 arg4 harg4 arg5 harg5 arg6 harg6 arg7 harg7 arg8 harg8 arg9 harg9 arg10 harg10 arg11 harg11 arg12 harg12 hc0 hc1 x0 x1 x2 x3 x4 x5 x6 x7 fh0
      = k0_pay1 (sum_C c t arg2 harg2 arg3 harg3 arg4 harg4 arg5 harg5 arg6 harg6 arg12 x0 x1 x2 x3 x4 x5 x6 fh0) x7 := by
  unfold out0_C_9 kernelRun0_C
  dsimp only
  refine (View.read_writes_full (s := S512x2048) VO0_9 _ (by decide) _ _).trans ?_
  have e5 : View.readAt (Elt Ideal) arg7.view (Rect.unit ![0, 0] ![512, 1024] inb_S512x1024_S512x1024_0_0).toLoadRect (harg7.unread x5) = x5 :=
    (View.readAt_full (s := S512x1024) arg7.view _ _).trans (harg7.read_unread x5)
  have e7 : View.readAt (Elt Ideal) arg9.view (Rect.unit ![0, 0, 0] ![1, 1, 2048] inb_S1x1x2048_S1x1x2048_0_0_0).toLoadRect (harg9.unread x7) = x7 :=
    (View.readAt_full (s := S1x1x2048) arg9.view _ _).trans (harg9.read_unread x7)
  have key := congr (congr (congrArg (fun a b d => k0_pay1 (sum_C c t arg2 harg2 arg3 harg3 arg4 harg4 arg5 harg5 arg6 harg6 arg12 x0 x1 x2 x3 x4 a b fh0) d) e5)
    (harg8.read_unread x6)) e7
  exact key

/-- The first result's block of such a point, at an entry. -/
theorem sum_C_at (i : Fin 512) (k : Fin 2048) :
    sum_C c t arg2 harg2 arg3 harg3 arg4 harg4 arg5 harg5 arg6 harg6 arg12 x0 x1 x2 x3 x4 x5 x6 fh0 (ix2 i k)
      = HAdd.hAdd (α := EReal) (β := EReal) (γ := EReal) (fh0 (ix2 ⟨512 * t.val + i.val, by have := t.isLt; have : cfg0.N = 16 := N_0; omega⟩ k : S8192x2048.Idx))
        (HAdd.hAdd (α := EReal) (β := EReal) (γ := EReal)
          (∑ n : Fin 1024, HMul.hMul (α := EReal) (β := EReal) (γ := EReal) (tiled (blockT x0 x1 x2 x3 x4) i n) (x6 (ix2 ⟨n.val, by omega⟩ k)))
          (∑ n : Fin 1024, HMul.hMul (α := EReal) (β := EReal) (γ := EReal) (x5 (ix2 i n)) (x6 (ix2 ⟨1024 + n.val, by omega⟩ k)))) := by
  have h0 := read0_C c arg2 harg2 arg3 harg3 arg4 harg4 arg5 harg5 arg6 harg6 arg12 x0 x1 x2 x3 x4
  have h1 := read1_C c arg2 harg2 arg3 harg3 arg4 harg4 arg5 harg5 arg6 harg6 arg12 x0 x1 x2 x3 x4
  have h2 := read2_C c arg2 harg2 arg3 harg3 arg4 harg4 arg5 harg5 arg6 harg6 arg12 x0 x1 x2 x3 x4
  have h3 := read3_C c arg2 harg2 arg3 harg3 arg4 harg4 arg5 harg5 arg6 harg6 arg12 x0 x1 x2 x3 x4
  have hs := slot_C c t fh0 i k
  unfold sum_C
  generalize tiled (blockT x0 x1 x2 x3 x4) = Y at h0 h1 h2 h3 ⊢
  generalize kernelRun0_C.sl.v399 c arg2 harg2 arg3 harg3 arg4 harg4 arg5 harg5 arg6 harg6 arg12 x0 x1 x2 x3 x4 = r0 at h0 ⊢
  generalize kernelRun0_C.sl.v781 c arg2 harg2 arg3 harg3 arg4 harg4 arg5 harg5 arg6 harg6 arg12 x0 x1 x2 x3 x4 = r1 at h1 ⊢
  generalize kernelRun0_C.sl.v1163 c arg2 harg2 arg3 harg3 arg4 harg4 arg5 harg5 arg6 harg6 arg12 x0 x1 x2 x3 x4 = r2 at h2 ⊢
  generalize kernelRun0_C.sl.v1545 c arg2 harg2 arg3 harg3 arg4 harg4 arg5 harg5 arg6 harg6 arg12 x0 x1 x2 x3 x4 = r3 at h3 ⊢
  generalize kernelRun0_C.sl.v1550 c t fh0 = s at hs ⊢
  refine (outOf_val x5 x6 r0 r1 r2 r3 s Y h0 h1 h2 h3 i k).trans ?_
  exact congrArg (fun z => HAdd.hAdd (α := EReal) (β := EReal) (γ := EReal) z _) hs

end Cert.SgIdeal.Val

end
-- ==== Proof.SgBlk.lean ====
module

public import proofs.«01_k».proof.Proof.SgTile

@[expose] public section

set_option maxRecDepth 16384

noncomputable section

namespace Cert.SgIdeal.Val

open Cert.SgIdeal Cert.SgIdeal.Gen Cert.Emb
open Idealize.ShloMosaic Idealize.ShloMosaic.TcCoe Idealize.ShloMosaic.StableHlo Idealize.SL.Sem
open scoped BigOperators

variable (m : (ℓ : Loc nD τ sig) → Buf (Elt Ideal) ℓ)

/-- The kernel's arrays as the call's arguments. -/
def argsE (c : Dev nD) : Cert.Spg.Args where
  h r k := m ((c : Thread nD τ).loc main_arg0) (ix2 r k)
  u r n := m ((c : Thread nD τ).loc main_arg1) (ix2 r ⟨n.val, by omega⟩)
  v r n := m ((c : Thread nD τ).loc main_arg1) (ix2 r ⟨1024 + n.val, by omega⟩)
  gv n := m ((c : Thread nD τ).loc main_arg2) (ix2 0 n)
  ws e t s := m ((c : Thread nD τ).loc main_arg3) (ix4 0 e t s)
  bs e t := m ((c : Thread nD τ).loc main_arg4) (ix3 0 e t)
  yb r n := m ((c : Thread nD τ).loc main_arg5) (ix2 r n)
  w j k := m ((c : Thread nD τ).loc main_arg6) (ix2 j k)
  fn k := m ((c : Thread nD τ).loc main_arg7) (ix2 0 k)

/-- Where each window's block lies at a point. -/
theorem idxE : ∀ t : Fin cfg0.N, win0_0.index t = ![t.val, 0] ∧ win0_1.index t = ![t.val, 1] ∧ win0_2.index t = ![0, 0, 0]
    ∧ win0_3.index t = ![0, 0, 0, 0] ∧ win0_4.index t = ![0, 0, 0, 0] ∧ win0_5.index t = ![t.val, 0] ∧ win0_6.index t = ![0, 0]
    ∧ win0_7.index t = ![0, 0, 0] ∧ win0_8.index t = ![t.val, 0] ∧ win0_9.index t = ![t.val, 0] := by
  decide +kernel

/-- The reshaped arrays when the grid starts. -/
theorem V0_at (c : Dev nD) (n : Fin 1024) : V m c main_v0 (ix3 0 0 n) = (argsE m c).gv n := by
  unfold V
  after_reads_at
  rfl

@[inherit_doc V0_at] theorem V1_at (c : Dev nD) (e : Fin 8) (t : Fin 128) : V m c main_v1 (ix4 0 e t 0) = (argsE m c).bs e t := by
  unfold V
  after_reads_at
  rfl

@[inherit_doc V0_at] theorem V2_at (c : Dev nD) (k : Fin 2048) : V m c main_v2 (ix3 0 0 k) = (argsE m c).fn k := by
  unfold V
  after_reads_at
  rfl

/-- The result's row of a block's row. -/
def rowE (t : Fin cfg0.N) (i : Fin 512) : Fin 8192 := ⟨512 * t.val + i.val, by have := t.isLt; have : cfg0.N = 16 := N_0; omega⟩

theorem blk0_at (c : Dev nD) (t : Fin cfg0.N) (i : Fin 512) (n : Fin 1024) : iblk m c 0 t (ix2 i n) = (argsE m c).u (rowE t i) n := by
  unfold argsE rowE
  blk_ext [iblk, V, idxE t]
  all_goals try omega

theorem blk1_at (c : Dev nD) (t : Fin cfg0.N) (i : Fin 512) (n : Fin 1024) : iblk m c 1 t (ix2 i n) = (argsE m c).v (rowE t i) n := by
  unfold argsE rowE
  blk_ext [iblk, V, idxE t]
  all_goals try omega

theorem blk2_at (c : Dev nD) (t : Fin cfg0.N) (n : Fin 1024) : iblk m c 2 t (ix3 0 0 n) = (argsE m c).gv n := by
  rw [← V0_at]
  blk_ext [iblk, idxE t]

theorem blk3_at (c : Dev nD) (t : Fin cfg0.N) (e : Fin 8) (j s : Fin 128) : iblk m c 3 t (ix4 0 e j s) = (argsE m c).ws e j s := by
  unfold argsE
  blk_ext [iblk, V, idxE t]

theorem blk4_at (c : Dev nD) (t : Fin cfg0.N) (e : Fin 8) (j : Fin 128) : iblk m c 4 t (ix4 0 e j 0) = (argsE m c).bs e j := by
  rw [← V1_at]
  blk_ext [iblk, idxE t]

theorem blk5_at (c : Dev nD) (t : Fin cfg0.N) (i : Fin 512) (n : Fin 1024) : iblk m c 5 t (ix2 i n) = (argsE m c).yb (rowE t i) n := by
  unfold argsE rowE
  blk_ext [iblk, V, idxE t]
  all_goals try omega

theorem blk6_at (c : Dev nD) (t : Fin cfg0.N) (j k : Fin 2048) : iblk m c 6 t (ix2 j k) = (argsE m c).w j k := by
  unfold argsE
  blk_ext [iblk, V, idxE t]

theorem blk7_at (c : Dev nD) (t : Fin cfg0.N) (k : Fin 2048) : iblk m c 7 t (ix3 0 0 k) = (argsE m c).fn k := by
  rw [← V2_at]
  blk_ext [iblk, idxE t]

/-- The gated columns of a point's block. -/
theorem tiled_at (c : Dev nD) (t : Fin cfg0.N) (i : Fin 512) (n : Fin 1024) :
    tiled (blockT (iblk m c 0 t) (iblk m c 1 t) (iblk m c 2 t) (iblk m c 3 t) (iblk m c 4 t)) i n = (argsE m c).ya (rowE t i) n := by
  unfold tiled
  refine (blockT_at (iblk m c 0 t) (iblk m c 1 t) (iblk m c 2 t) (iblk m c 3 t) (iblk m c 4 t) _ _ _ _).trans ?_
  unfold Cert.Spg.Args.ya Cert.Spg.Args.tile
  have hd : (⟨(rowE t i).val % 128, by omega⟩ : Fin 128) = ⟨i.val % 128, by omega⟩ := Fin.ext (by show (512 * t.val + i.val) % 128 = i.val % 128; omega)
  rw [hd]
  have hr : ∀ j : Fin 128, rowE t ⟨128 * (i.val / 128) + j.val, by omega⟩ = Cert.Spg.Args.row ⟨(rowE t i).val / 128, by omega⟩ j := fun j =>
    Fin.ext (by show 512 * t.val + (128 * (i.val / 128) + j.val) = 128 * ((512 * t.val + i.val) / 128) + j.val; omega)
  have e3 : (fun j s : Fin 128 => iblk m c 3 t (ix4 0 ⟨n.val / 128, by omega⟩ j s)) = (argsE m c).ws ⟨n.val / 128, by omega⟩ :=
    funext fun j => funext fun s => blk3_at m c t _ j s
  have e4 : (fun j : Fin 128 => iblk m c 4 t (ix4 0 ⟨n.val / 128, by omega⟩ j 0)) = (argsE m c).bs ⟨n.val / 128, by omega⟩ :=
    funext fun j => blk4_at m c t _ j
  have e2 : (fun d : Fin 128 => iblk m c 2 t (ix3 0 0 (Cert.Spg.Args.col ⟨n.val / 128, by omega⟩ d))) = fun d => (argsE m c).gv (Cert.Spg.Args.col ⟨n.val / 128, by omega⟩ d) :=
    funext fun d => blk2_at m c t _
  have e0 : (fun j d : Fin 128 => iblk m c 0 t (ix2 ⟨128 * (i.val / 128) + j.val, by omega⟩ (Cert.Spg.Args.col ⟨n.val / 128, by omega⟩ d)))
      = fun j d => (argsE m c).u (Cert.Spg.Args.row ⟨(rowE t i).val / 128, by omega⟩ j) (Cert.Spg.Args.col ⟨n.val / 128, by omega⟩ d) :=
    funext fun j => funext fun d => (blk0_at m c t _ _).trans (congrArg (fun r => (argsE m c).u r _) (hr j))
  have e1 : (fun j d : Fin 128 => iblk m c 1 t (ix2 ⟨128 * (i.val / 128) + j.val, by omega⟩ (Cert.Spg.Args.col ⟨n.val / 128, by omega⟩ d)))
      = fun j d => (argsE m c).v (Cert.Spg.Args.row ⟨(rowE t i).val / 128, by omega⟩ j) (Cert.Spg.Args.col ⟨n.val / 128, by omega⟩ d) :=
    funext fun j => funext fun d => (blk1_at m c t _ _).trans (congrArg (fun r => (argsE m c).v r _) (hr j))
  exact congr (congr (congr (congr (congr (congr (congrArg Cert.Spg.gated e3) e4) e2) e0) e1) rfl) rfl

/-- The first result of a point's block at an entry, given its residual. -/
theorem y_of (c : Dev nD) (t : Fin cfg0.N) (i : Fin 512) (k : Fin 2048) :
    HAdd.hAdd (α := EReal) (β := EReal) (γ := EReal) (V m c main_arg0 (ix2 ⟨512 * t.val + i.val, by have := t.isLt; have : cfg0.N = 16 := N_0; omega⟩ k : S8192x2048.Idx))
        (HAdd.hAdd (α := EReal) (β := EReal) (γ := EReal)
          (∑ n : Fin 1024, HMul.hMul (α := EReal) (β := EReal) (γ := EReal)
            (tiled (blockT (iblk m c 0 t) (iblk m c 1 t) (iblk m c 2 t) (iblk m c 3 t) (iblk m c 4 t)) i n) (iblk m c 6 t (ix2 ⟨n.val, by omega⟩ k)))
          (∑ n : Fin 1024, HMul.hMul (α := EReal) (β := EReal) (γ := EReal) (iblk m c 5 t (ix2 i n)) (iblk m c 6 t (ix2 ⟨1024 + n.val, by omega⟩ k))))
      = (argsE m c).y (rowE t i) k := by
  unfold Cert.Spg.Args.y
  refine congrArg₂ (HAdd.hAdd (α := EReal) (β := EReal) (γ := EReal)) rfl (congrArg₂ (HAdd.hAdd (α := EReal) (β := EReal) (γ := EReal))
    (Finset.sum_congr rfl fun n _ => ?_) (Finset.sum_congr rfl fun n _ => ?_))
  · exact congrArg₂ (HMul.hMul (α := EReal) (β := EReal) (γ := EReal)) (tiled_at m c t i n) (blk6_at m c t _ k)
  · exact congrArg₂ (HMul.hMul (α := EReal) (β := EReal) (γ := EReal)) (blk5_at m c t i n) (blk6_at m c t _ k)

/-- Every index of two coordinates is an `ix2`. -/
theorem ix2_eta {a b : ℕ} (y : (⟨2, ![a, b]⟩ : Shape).Idx) : y = ix2 (y 0) (y 1) := by
  funext i
  match i with
  | ⟨0, _⟩ => rfl
  | ⟨1, _⟩ => rfl

end Cert.SgIdeal.Val

end
-- ==== Proof.SgArr.lean ====
module

public import proofs.«01_k».proof.Proof.SgOut
public import proofs.«01_k».proof.Proof.SgBlk

@[expose] public section

set_option maxRecDepth 16384

noncomputable section

namespace Cert.SgIdeal.Val

open Cert.SgIdeal Cert.SgIdeal.Gen Cert.Emb
open Idealize.ShloMosaic Idealize.ShloMosaic.TcCoe Idealize.ShloMosaic.StableHlo Idealize.SL.Sem
open scoped BigOperators

variable (m : (ℓ : Loc nD τ sig) → Buf (Elt Ideal) ℓ)

/-- What every point leaves in the first result's block. -/
theorem outsE (c : Dev nD) (t : Fin cfg0.N) (i : Fin 512) (k : Fin 2048) : (outsAt0 m c t.val t.isLt).1 (ix2 i k) = (argsE m c).y (rowE t i) k := by
  by_cases h0 : t.val % 16 = 0
  · have hN : t.val < 16 := lt_of_lt_of_eq t.isLt (show cfg0.N = 16 from N_0)
    have h1 : t.val < 14 := by omega
    refine (congrFun (congrArg Prod.fst (outsAt0_A m c t h0 h1)) (ix2 i k)).trans ?_
    dsimp only
    rw [out_A]
    exact (sum_A_at c t _ _ _ _ _ _ _ _ _ _ _ (iblk m c 0 t) (iblk m c 1 t) (iblk m c 2 t) (iblk m c 3 t) (iblk m c 4 t) (iblk m c 5 t) (iblk m c 6 t) _ i k).trans (y_of m c t i k)
  · by_cases h1 : t.val < 14
    · refine (congrFun (congrArg Prod.fst (outsAt0_B m c t h0 h1)) (ix2 i k)).trans ?_
      dsimp only
      rw [out_B]
      exact (sum_B_at c t _ _ _ _ _ _ _ _ _ _ _ (iblk m c 0 t) (iblk m c 1 t) (iblk m c 2 t) (iblk m c 3 t) (iblk m c 4 t) (iblk m c 5 t) (iblk m c 6 t) _ i k).trans (y_of m c t i k)
    · refine (congrFun (congrArg Prod.fst (outsAt0_C m c t h0 h1)) (ix2 i k)).trans ?_
      dsimp only
      rw [out_C]
      exact (sum_C_at c t _ _ _ _ _ _ _ _ _ _ _ (iblk m c 0 t) (iblk m c 1 t) (iblk m c 2 t) (iblk m c 3 t) (iblk m c 4 t) (iblk m c 5 t) (iblk m c 6 t) _ i k).trans (y_of m c t i k)

/-- What every point leaves in the second result's block. -/
theorem outnE (c : Dev nD) (t : Fin cfg0.N) (i : Fin 512) (k : Fin 2048) : (outsAt0 m c t.val t.isLt).2 (ix2 i k) = (argsE m c).res (rowE t i) k := by
  by_cases h0 : t.val % 16 = 0
  · have hN : t.val < 16 := lt_of_lt_of_eq t.isLt (show cfg0.N = 16 from N_0)
    have h1 : t.val < 14 := by omega
    refine (congrFun (congrArg Prod.snd (outsAt0_A m c t h0 h1)) (ix2 i k)).trans ?_
    dsimp only
    rw [outn_A]
    refine (pay1_at _ _ i k).trans ?_
    exact congrArg₂ (fun f g => rms f g k) (funext fun j => (sum_A_at c t _ _ _ _ _ _ _ _ _ _ _ (iblk m c 0 t) (iblk m c 1 t) (iblk m c 2 t) (iblk m c 3 t) (iblk m c 4 t) (iblk m c 5 t) (iblk m c 6 t) _ i j).trans (y_of m c t i j)) (funext fun l => blk7_at m c t l)
  · by_cases h1 : t.val < 14
    · refine (congrFun (congrArg Prod.snd (outsAt0_B m c t h0 h1)) (ix2 i k)).trans ?_
      dsimp only
      rw [outn_B]
      refine (pay1_at _ _ i k).trans ?_
      exact congrArg₂ (fun f g => rms f g k) (funext fun j => (sum_B_at c t _ _ _ _ _ _ _ _ _ _ _ (iblk m c 0 t) (iblk m c 1 t) (iblk m c 2 t) (iblk m c 3 t) (iblk m c 4 t) (iblk m c 5 t) (iblk m c 6 t) _ i j).trans (y_of m c t i j)) (funext fun l => blk7_at m c t l)
    · refine (congrFun (congrArg Prod.snd (outsAt0_C m c t h0 h1)) (ix2 i k)).trans ?_
      dsimp only
      rw [outn_C]
      refine (pay1_at _ _ i k).trans ?_
      exact congrArg₂ (fun f g => rms f g k) (funext fun j => (sum_C_at c t _ _ _ _ _ _ _ _ _ _ _ (iblk m c 0 t) (iblk m c 1 t) (iblk m c 2 t) (iblk m c 3 t) (iblk m c 4 t) (iblk m c 5 t) (iblk m c 6 t) _ i j).trans (y_of m c t i j)) (funext fun l => blk7_at m c t l)

/-- The kernel's first result after the run. -/
theorem arrE (c : Dev nD) : (dats m 0 c).arrAt 8 cfg0.N = fun j : S8192x2048.Idx => (argsE m c).y (j 0) (j 1) := by
  refine (dats m 0 c).arrAt_eq_of_covers 8 _ (by decide +kernel) fun t hf y => ?_
  rw [after0_8]
  blk_simp
  obtain ⟨i, k, rfl⟩ : ∃ (i : Fin 512) (k : Fin 2048), y = ix2 i k := ⟨y 0, y 1, ix2_eta y⟩
  refine (outsE m c t i k).trans (congrArg₂ (argsE m c).y (Fin.ext ?_) (Fin.ext ?_))
  · unfold rowE; blk_simp [idxE t]; dsimp only; omega
  · blk_simp [idxE t]

/-- The kernel's second result after the run. -/
theorem arrN (c : Dev nD) : (dats m 0 c).arrAt 9 cfg0.N = fun j : S8192x2048.Idx => (argsE m c).res (j 0) (j 1) := by
  refine (dats m 0 c).arrAt_eq_of_covers 9 _ (by decide +kernel) fun t hf y => ?_
  rw [after0_9]
  blk_simp
  obtain ⟨i, k, rfl⟩ : ∃ (i : Fin 512) (k : Fin 2048), y = ix2 i k := ⟨y 0, y 1, ix2_eta y⟩
  refine (outnE m c t i k).trans (congrArg₂ (argsE m c).res (Fin.ext ?_) (Fin.ext ?_))
  · unfold rowE; blk_simp [idxE t]; dsimp only; omega
  · blk_simp [idxE t]

end Cert.SgIdeal.Val

end
-- ==== Proof.SgRef.lean ====
module

public import proofs.«01_k».proof.Proof.Gen.SgReferenceIdeal.Run
public import proofs.«01_k».proof.Proof.SgModel
public import Idealize.ShloMosaic.Lib.StableHlo.ReadAt

@[expose] public section

set_option maxRecDepth 8192

noncomputable section

namespace Cert.SgReferenceIdeal.Ref

open Cert.SgReferenceIdeal Cert.SgReferenceIdeal.Gen Cert.Emb Cert.Spg
open Idealize.ShloMosaic Idealize.ShloMosaic.TcCoe Idealize.ShloMosaic.StableHlo Idealize.SL.Sem
open scoped BigOperators

section
variable {F : FTy → Type} [FloatOps F]

/-- The reference's root mean square norm. -/
def norm (x : (⟨S8192x2048, .f32⟩ : BufTy).Contents (Elt F)) (g : (⟨S2048, .f32⟩ : BufTy).Contents (Elt F)) :
    (⟨S8192x2048, .f32⟩ : BufTy).Contents (Elt F) :=
  mulf (mulf x (broadcastInDim S8192x2048 ![0, 1] bcast_S8192x1_S8192x2048_0_1 (Host.rsqrt (addf
      (Host.divf (broadcastInDim S8192x1 ![0] bcast_S8192_S8192x1_0
        (Host.reduceAdd (mulf x x) (constant S_ .f32 0x00000000#32) reducesTo_S8192x2048_S8192_d1 h_S_))
        (broadcastInDim S8192x1 ![] bcast_S_S8192x1 (constant S_ .f32 0x45000000#32)))
      (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

/-- The reference's unit, of a half of the projection. -/
def gel (x : (⟨S8192x1024, .f32⟩ : BufTy).Contents (Elt F)) : (⟨S8192x1024, .f32⟩ : BufTy).Contents (Elt F) :=
  mulf (mulf (broadcastInDim S8192x1024 ![] bcast_S_S8192x1024 (constant S_ .f32 0x3F000000#32)) x)
    (Host.erfc (mulf (Host.negf x) (broadcastInDim S8192x1024 ![] bcast_S_S8192x1024 (constant S_ .f32 0x3F3504F3#32))))

/-- The mean over a head's columns. -/
def mean5 (x : (⟨S2x32x128x8x128, .f32⟩ : BufTy).Contents (Elt F)) : (⟨S2x32x128x8x1, .f32⟩ : BufTy).Contents (Elt F) :=
  Host.divf (broadcastInDim S2x32x128x8x1 ![0, 1, 2, 3] bcast_S2x32x128x8_S2x32x128x8x1_0_1_2_3
    (Host.reduceAdd x (constant S_ .f32 0x00000000#32) reducesTo_S2x32x128x8x128_S2x32x128x8_d4 h_S_))
    (broadcastInDim S2x32x128x8x1 ![] bcast_S_S2x32x128x8x1 (constant S_ .f32 0x43000000#32))

/-- What is left of the mean. -/
def cen (x : (⟨S2x32x128x8x128, .f32⟩ : BufTy).Contents (Elt F)) : (⟨S2x32x128x8x128, .f32⟩ : BufTy).Contents (Elt F) :=
  subf x (broadcastInDim S2x32x128x8x128 ![0, 1, 2, 3, 4] bcast_S2x32x128x8x1_S2x32x128x8x128_0_1_2_3_4 (mean5 x))

/-- The head's norm. -/
def ln (x : (⟨S2x32x128x8x128, .f32⟩ : BufTy).Contents (Elt F)) (g : (⟨S2x1024, .f32⟩ : BufTy).Contents (Elt F)) :
    (⟨S2x32x128x8x128, .f32⟩ : BufTy).Contents (Elt F) :=
  mulf (mulf (cen x) (broadcastInDim S2x32x128x8x128 ![0, 1, 2, 3, 4] bcast_S2x32x128x8x1_S2x32x128x8x128_0_1_2_3_4
      (Host.rsqrt (addf (mean5 (mulf (cen x) (cen x))) (broadcastInDim S2x32x128x8x1 ![] bcast_S_S2x32x128x8x1 (constant S_ .f32 0x358637BD#32))))))
    (broadcastInDim S2x32x128x8x128 ![0, 1, 2, 3, 4] bcast_S1x1x1x8x128_S2x32x128x8x128_0_1_2_3_4
      (broadcastInDim S1x1x1x8x128 ![3, 4] bcast_S8x128_S1x1x1x8x128_3_4
        (shapeCast S8x128 (shapeCast S1024 (extractStridedSlice S1x1024 ![0, 0] g slices_S2x1024_S1x1024_0_0) shapeCasts_S1x1024_S1024) shapeCasts_S1024_S8x128)))

/-- The causal weights. -/
def wc (ws : (⟨S2x8x128x128, .f32⟩ : BufTy).Contents (Elt F)) : (⟨S8x128x128, .f32⟩ : BufTy).Contents (Elt F) :=
  select (broadcastInDim S8x128x128 ![1, 2] bcast_S128x128_S8x128x128_1_2
      (select (cmpi .sge (addi (iotaInDim S128x128 32 0) (broadcastInDim S128x128 ![] bcast_S_S128x128 (constantI S_ 32 0#32))) (iotaInDim S128x128 32 1))
        (broadcastInDim S128x128 ![] bcast_S_S128x128 (constantI S_ 1 1#1)) (broadcastInDim S128x128 ![] bcast_S_S128x128 (constantI S_ 1 0#1))))
    (shapeCast S8x128x128 (extractStridedSlice S1x8x128x128 ![0, 0, 0, 0] ws slices_S2x8x128x128_S1x8x128x128_0_0_0_0) shapeCasts_S1x8x128x128_S8x128x128)
    (broadcastInDim S8x128x128 ![] bcast_S_S8x128x128 (constant S_ .f32 0x00000000#32))

/-- The mix of a chunk's tokens. -/
def mix (x : (⟨S2x32x128x8x128, .f32⟩ : BufTy).Contents (Elt F)) (w : (⟨S8x128x128, .f32⟩ : BufTy).Contents (Elt F)) :
    (⟨S2x32x128x8x128, .f32⟩ : BufTy).Contents (Elt F) :=
  transpose S2x32x128x8x128 [1, 2, 4, 0, 3] (Host.dotGeneral dot_S2x32x128x8x128_S8x128x128_S8x2x32x128x128_2_2_014_1_3_0 none x w)
    transposes_S8x2x32x128x128_S2x32x128x8x128_1_2_4_0_3

/-- The bias of the mix. -/
def bia (bs : (⟨S2x8x128, .f32⟩ : BufTy).Contents (Elt F)) : (⟨S2x32x128x8x128, .f32⟩ : BufTy).Contents (Elt F) :=
  broadcastInDim S2x32x128x8x128 ![0, 1, 2, 3, 4] bcast_S1x1x128x8x1_S2x32x128x8x128_0_1_2_3_4 (broadcastInDim S1x1x128x8x1 ![2, 3] bcast_S128x8_S1x1x128x8x1_2_3
    (transpose S128x8 [1, 0] (shapeCast S8x128 (extractStridedSlice S1x8x128 ![0, 0, 0] bs slices_S2x8x128_S1x8x128_0_0_0) shapeCasts_S1x8x128_S8x128)
      transposes_S8x128_S128x8_1_0))

/-- A half of the projection, by chunks and heads, after its unit. -/
def gu (a : (⟨S8192x2048, .f32⟩ : BufTy).Contents (Elt F)) : (⟨S2x32x128x8x128, .f32⟩ : BufTy).Contents (Elt F) :=
  shapeCast S2x32x128x8x128 (gel (extractStridedSlice S8192x1024 ![0, 0] a slices_S8192x2048_S8192x1024_0_0)) shapeCasts_S8192x1024_S2x32x128x8x128

@[inherit_doc gu] def gv (a : (⟨S8192x2048, .f32⟩ : BufTy).Contents (Elt F)) : (⟨S2x32x128x8x128, .f32⟩ : BufTy).Contents (Elt F) :=
  shapeCast S2x32x128x8x128 (gel (extractStridedSlice S8192x1024 ![0, 1024] a slices_S8192x2048_S8192x1024_0_1024)) shapeCasts_S8192x1024_S2x32x128x8x128

/-- The gating branch, by chunks and heads. -/
def ya5 (a : (⟨S8192x2048, .f32⟩ : BufTy).Contents (Elt F)) (g : (⟨S2x1024, .f32⟩ : BufTy).Contents (Elt F))
    (ws : (⟨S2x8x128x128, .f32⟩ : BufTy).Contents (Elt F)) (bs : (⟨S2x8x128, .f32⟩ : BufTy).Contents (Elt F)) :
    (⟨S2x32x128x8x128, .f32⟩ : BufTy).Contents (Elt F) :=
  mulf (gu a) (addf (mix (ln (gv a) g) (wc ws)) (bia bs))

/-- The residual with the projection of the two branches. -/
def proj (h : (⟨S8192x2048, .f32⟩ : BufTy).Contents (Elt F)) (x : (⟨S8192x1024, .f32⟩ : BufTy).Contents (Elt F))
    (yb : (⟨S8192x1024, .bf16⟩ : BufTy).Contents (Elt F)) (w : (⟨S2048x2048, .bf16⟩ : BufTy).Contents (Elt F)) :
    (⟨S8192x2048, .f32⟩ : BufTy).Contents (Elt F) :=
  addf h (Host.dotGeneral dot_S8192x2048_S2048x2048_S8192x2048_1_0_0_1_n_n none
    (concatenate S8192x2048 1 [⟨S8192x1024, x⟩, ⟨S8192x1024, extf .f32 yb bitsLt_bf16_f32⟩] concatenates_S8192x1024_S8192x1024_S8192x2048_d1)
    (extf .f32 w bitsLt_bf16_f32))

/-- The reference's first result as a term of its arguments. -/
def out (h a : (⟨S8192x2048, .f32⟩ : BufTy).Contents (Elt F)) (g : (⟨S2x1024, .f32⟩ : BufTy).Contents (Elt F))
    (ws : (⟨S2x8x128x128, .f32⟩ : BufTy).Contents (Elt F)) (bs : (⟨S2x8x128, .f32⟩ : BufTy).Contents (Elt F))
    (yb : (⟨S8192x1024, .bf16⟩ : BufTy).Contents (Elt F)) (w : (⟨S2048x2048, .bf16⟩ : BufTy).Contents (Elt F)) :
    (⟨S8192x2048, .f32⟩ : BufTy).Contents (Elt F) :=
  proj h (shapeCast S8192x1024 (ya5 a g ws bs) shapeCasts_S2x32x128x8x128_S8192x1024) yb w

/-- The second result: the norm of the first. -/
def outn (h a : (⟨S8192x2048, .f32⟩ : BufTy).Contents (Elt F)) (g : (⟨S2x1024, .f32⟩ : BufTy).Contents (Elt F))
    (ws : (⟨S2x8x128x128, .f32⟩ : BufTy).Contents (Elt F)) (bs : (⟨S2x8x128, .f32⟩ : BufTy).Contents (Elt F))
    (yb : (⟨S8192x1024, .bf16⟩ : BufTy).Contents (Elt F)) (w : (⟨S2048x2048, .bf16⟩ : BufTy).Contents (Elt F))
    (fn : (⟨S2x2048, .f32⟩ : BufTy).Contents (Elt F)) : (⟨S8192x2048, .bf16⟩ : BufTy).Contents (Elt F) :=
  truncf .bf16 (norm (out h a g ws bs yb w)
    (shapeCast S2048 (extractStridedSlice S1x2048 ![0, 0] fn slices_S2x2048_S1x2048_0_0) shapeCasts_S1x2048_S2048)) bitsLt_bf16_f32

/-- The reference's run: its results are those terms and its arguments are as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v82) = outn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Cert.SgReferenceIdeal.Value.run m ρ

end

/-- The reference's norm at an entry. -/
theorem norm_at (x : (⟨S8192x2048, .f32⟩ : BufTy).Contents (Elt Ideal)) (g : (⟨S2048, .f32⟩ : BufTy).Contents (Elt Ideal))
    (r : Fin 8192) (k : Fin 2048) : norm x g (ix2 r k) = rms (fun j => x (ix2 r j)) (fun j => g (ix1 j)) k := by
  unfold norm rms
  pointwise

/-- The unit at an entry. -/
theorem gel_at (x : (⟨S8192x1024, .f32⟩ : BufTy).Contents (Elt Ideal)) (r : Fin 8192) (n : Fin 1024) : gel x (ix2 r n) = gelu (x (ix2 r n)) := by
  unfold gel gelu
  rw [← Ideal.erfc_neg, ← EReal.neg_mul]
  pointwise

/-- The mean at an entry. -/
theorem mean5_at (x : (⟨S2x32x128x8x128, .f32⟩ : BufTy).Contents (Elt Ideal)) (b : Fin 2) (q : Fin 32) (t : Fin 128) (e : Fin 8) :
    mean5 x (ix5 b q t e 0) = mean (fun j => x (ix5 b q t e j)) := by
  unfold mean5 mean
  pointwise

/-- The rest at an entry. -/
theorem cen_at (x : (⟨S2x32x128x8x128, .f32⟩ : BufTy).Contents (Elt Ideal)) (b : Fin 2) (q : Fin 32) (t : Fin 128) (e : Fin 8) (d : Fin 128) :
    cen x (ix5 b q t e d) = HSub.hSub (α := EReal) (β := EReal) (γ := EReal) (x (ix5 b q t e d)) (mean (fun j => x (ix5 b q t e j))) := by
  rw [← mean5_at]
  unfold cen
  generalize mean5 x = y
  pointwise

/-- The head's norm at an entry. -/
theorem ln_at (x : (⟨S2x32x128x8x128, .f32⟩ : BufTy).Contents (Elt Ideal)) (g : (⟨S2x1024, .f32⟩ : BufTy).Contents (Elt Ideal))
    (b : Fin 2) (q : Fin 32) (t : Fin 128) (e : Fin 8) (d : Fin 128) :
    ln x g (ix5 b q t e d) = lnorm (fun j => x (ix5 b q t e j)) (g (ix2 0 (Args.col e d))) d := by
  unfold lnorm
  have hc : ∀ j : Fin 128, HSub.hSub (α := EReal) (β := EReal) (γ := EReal) (x (ix5 b q t e j)) (mean (fun j => x (ix5 b q t e j))) = cen x (ix5 b q t e j) :=
    fun j => (cen_at x b q t e j).symm
  beta_reduce
  rw [hc d, show (fun j : Fin 128 => HMul.hMul (α := EReal) (β := EReal) (γ := EReal)
      (HSub.hSub (α := EReal) (β := EReal) (γ := EReal) (x (ix5 b q t e j)) (mean (fun j => x (ix5 b q t e j))))
      (HSub.hSub (α := EReal) (β := EReal) (γ := EReal) (x (ix5 b q t e j)) (mean (fun j => x (ix5 b q t e j)))))
    = fun j => mulf (cen x) (cen x) (ix5 b q t e j) from funext fun j => congrArg₂ (HMul.hMul (α := EReal) (β := EReal) (γ := EReal)) (hc j) (hc j),
    ← mean5_at]
  unfold ln Args.col Cert.Gla.eps
  generalize mean5 (mulf (cen x) (cen x)) = y
  generalize cen x = z
  pointwise
  exact congrArg (fun j => HMul.hMul (α := EReal) (β := EReal) (γ := EReal) _ (g (ix2 0 j))) (Fin.ext (by dsimp only; omega))

/-- A causal weight at an entry. -/
theorem wc_at (ws : (⟨S2x8x128x128, .f32⟩ : BufTy).Contents (Elt Ideal)) (e : Fin 8) (t s : Fin 128) :
    wc ws (ix3 e t s) = tri (fun t s => ws (ix4 0 e t s)) t s := by
  have hm : ∀ t s : Fin 128, Scalar.select (IntOp.cmpi CmpIPredicate.sge (IntOp.addi (BitVec.ofNat 32 t.val) 0#32) (BitVec.ofNat 32 s.val)) 1#1 0#1
      = if s.val ≤ t.val then 1#1 else 0#1 := by decide +kernel
  unfold wc tri
  pointwise
  rw [hm t s]
  split <;> rfl

/-- The mix at an entry. -/
theorem mix_at (x : (⟨S2x32x128x8x128, .f32⟩ : BufTy).Contents (Elt Ideal)) (w : (⟨S8x128x128, .f32⟩ : BufTy).Contents (Elt Ideal))
    (b : Fin 2) (q : Fin 32) (t : Fin 128) (e : Fin 8) (d : Fin 128) :
    mix x w (ix5 b q t e d) = ∑ s : Fin 128, HMul.hMul (α := EReal) (β := EReal) (γ := EReal) (x (ix5 b q s e d)) (w (ix3 e t s)) := by
  unfold mix
  pointwise

/-- The bias at an entry. -/
theorem bia_at (bs : (⟨S2x8x128, .f32⟩ : BufTy).Contents (Elt Ideal)) (b : Fin 2) (q : Fin 32) (t : Fin 128) (e : Fin 8) (d : Fin 128) :
    bia bs (ix5 b q t e d) = bs (ix3 0 e t) := by
  unfold bia
  pointwise

/-- The chunk of 128 rows, over both sequences. -/
def chunk (b : Fin 2) (q : Fin 32) : Fin 64 := ⟨32 * b.val + q.val, by omega⟩

/-- The first half after its unit, at an entry. -/
theorem gu_at (a : (⟨S8192x2048, .f32⟩ : BufTy).Contents (Elt Ideal)) (b : Fin 2) (q : Fin 32) (t : Fin 128) (e : Fin 8) (d : Fin 128) :
    gu a (ix5 b q t e d) = gelu (a (ix2 (Args.row (chunk b q) t) ⟨(Args.col e d).val, by omega⟩)) := by
  have h : gu a (ix5 b q t e d) = gel (extractStridedSlice S8192x1024 ![0, 0] a slices_S8192x2048_S8192x1024_0_0) (ix2 (Args.row (chunk b q) t) (Args.col e d)) := by
    unfold gu Args.row Args.col chunk
    generalize gel (F := Ideal) _ = y
    pointwise
    refine congrArg₂ (fun i j => y (ix2 i j)) (Fin.ext ?_) (Fin.ext ?_) <;> dsimp only <;> omega
  refine (h.trans (gel_at _ _ _)).trans (congrArg gelu ?_)
  pointwise

@[inherit_doc gu_at] theorem gv_at (a : (⟨S8192x2048, .f32⟩ : BufTy).Contents (Elt Ideal)) (b : Fin 2) (q : Fin 32) (t : Fin 128) (e : Fin 8) (d : Fin 128) :
    gv a (ix5 b q t e d) = gelu (a (ix2 (Args.row (chunk b q) t) ⟨1024 + (Args.col e d).val, by omega⟩)) := by
  have h : gv a (ix5 b q t e d) = gel (extractStridedSlice S8192x1024 ![0, 1024] a slices_S8192x2048_S8192x1024_0_1024) (ix2 (Args.row (chunk b q) t) (Args.col e d)) := by
    unfold gv Args.row Args.col chunk
    generalize gel (F := Ideal) _ = y
    pointwise
    refine congrArg₂ (fun i j => y (ix2 i j)) (Fin.ext ?_) (Fin.ext ?_) <;> dsimp only <;> omega
  refine (h.trans (gel_at _ _ _)).trans (congrArg gelu ?_)
  pointwise

/-- The arrays as the call's arguments. -/
def argsOf (h a : (⟨S8192x2048, .f32⟩ : BufTy).Contents (Elt Ideal)) (g : (⟨S2x1024, .f32⟩ : BufTy).Contents (Elt Ideal))
    (ws : (⟨S2x8x128x128, .f32⟩ : BufTy).Contents (Elt Ideal)) (bs : (⟨S2x8x128, .f32⟩ : BufTy).Contents (Elt Ideal))
    (yb : (⟨S8192x1024, .bf16⟩ : BufTy).Contents (Elt Ideal)) (w : (⟨S2048x2048, .bf16⟩ : BufTy).Contents (Elt Ideal))
    (fn : (⟨S2x2048, .f32⟩ : BufTy).Contents (Elt Ideal)) : Cert.Spg.Args where
  h r k := h (ix2 r k)
  u r n := a (ix2 r ⟨n.val, by omega⟩)
  v r n := a (ix2 r ⟨1024 + n.val, by omega⟩)
  gv n := g (ix2 0 n)
  ws e t s := ws (ix4 0 e t s)
  bs e t := bs (ix3 0 e t)
  yb r n := yb (ix2 r n)
  w j k := w (ix2 j k)
  fn k := fn (ix2 0 k)

/-- The gain's slice at an entry. -/
theorem gain_at (pn : (⟨S2x2048, .f32⟩ : BufTy).Contents (Elt Ideal)) (k : Fin 2048) :
    shapeCast S2048 (extractStridedSlice S1x2048 ![0, 0] pn slices_S2x2048_S1x2048_0_0) shapeCasts_S1x2048_S2048 (ix1 k) = pn (ix2 0 k) := by
  pointwise

section
variable (h a : (⟨S8192x2048, .f32⟩ : BufTy).Contents (Elt Ideal)) (g : (⟨S2x1024, .f32⟩ : BufTy).Contents (Elt Ideal))
    (ws : (⟨S2x8x128x128, .f32⟩ : BufTy).Contents (Elt Ideal)) (bs : (⟨S2x8x128, .f32⟩ : BufTy).Contents (Elt Ideal))
    (yb : (⟨S8192x1024, .bf16⟩ : BufTy).Contents (Elt Ideal)) (w : (⟨S2048x2048, .bf16⟩ : BufTy).Contents (Elt Ideal))
    (fn : (⟨S2x2048, .f32⟩ : BufTy).Contents (Elt Ideal))

/-- The gating branch at an entry, by chunks and heads. -/
theorem ya5_at (b : Fin 2) (q : Fin 32) (t : Fin 128) (e : Fin 8) (d : Fin 128) :
    ya5 a g ws bs (ix5 b q t e d) = (argsOf h a g ws bs yb w fn).tile (chunk b q) e t d := by
  unfold ya5 Args.tile gated
  refine congrArg₂ (HMul.hMul (α := EReal) (β := EReal) (γ := EReal)) (gu_at a b q t e d)
    (congrArg₂ (HAdd.hAdd (α := EReal) (β := EReal) (γ := EReal)) ((mix_at _ _ b q t e d).trans (Finset.sum_congr rfl fun s _ => ?_)) (bia_at bs b q t e d))
  refine (mul_comm (G := EReal) _ _).trans (congrArg₂ (HMul.hMul (α := EReal) (β := EReal) (γ := EReal)) (wc_at ws e t s) ((ln_at _ g b q s e d).trans ?_))
  exact congrArg (fun f => lnorm f (g (ix2 0 (Args.col e d))) d) (funext fun j => gv_at a b q s e j)

/-- The gating branch at an entry. -/
theorem ya_at (r : Fin 8192) (n : Fin 1024) :
    shapeCast S8192x1024 (ya5 a g ws bs) shapeCasts_S2x32x128x8x128_S8192x1024 (ix2 r n) = (argsOf h a g ws bs yb w fn).ya r n := by
  have e1 : shapeCast S8192x1024 (ya5 a g ws bs) shapeCasts_S2x32x128x8x128_S8192x1024 (ix2 r n)
      = ya5 a g ws bs (ix5 ⟨r.val / 4096, by omega⟩ ⟨r.val / 128 % 32, by omega⟩ ⟨r.val % 128, by omega⟩ ⟨n.val / 128, by omega⟩ ⟨n.val % 128, by omega⟩) := by
    generalize ya5 a g ws bs = y
    pointwise
  refine (e1.trans (ya5_at h a g ws bs yb w fn _ _ _ _ _)).trans ?_
  unfold Args.ya
  refine congrArg (fun q => (argsOf h a g ws bs yb w fn).tile q _ _ _) (Fin.ext ?_)
  show 32 * (r.val / 4096) + r.val / 128 % 32 = r.val / 128
  omega

/-- The projection at an entry. -/
theorem proj_at (x : (⟨S8192x1024, .f32⟩ : BufTy).Contents (Elt Ideal)) (r : Fin 8192) (k : Fin 2048) :
    proj h x yb w (ix2 r k) = HAdd.hAdd (α := EReal) (β := EReal) (γ := EReal) (h (ix2 r k))
      (HAdd.hAdd (α := EReal) (β := EReal) (γ := EReal)
        (∑ n : Fin 1024, HMul.hMul (α := EReal) (β := EReal) (γ := EReal) (x (ix2 r n)) (w (ix2 ⟨n.val, by omega⟩ k)))
        (∑ n : Fin 1024, HMul.hMul (α := EReal) (β := EReal) (γ := EReal) (yb (ix2 r n)) (w (ix2 ⟨1024 + n.val, by omega⟩ k)))) := by
  have e1 : ∀ j : Fin 2048, concatenate (α := EReal) S8192x2048 1 [⟨S8192x1024, x⟩, ⟨S8192x1024, extf (F := Ideal) .f32 yb bitsLt_bf16_f32⟩] concatenates_S8192x1024_S8192x1024_S8192x2048_d1 (ix2 r j)
      = if hj : j.val < 1024 then x (ix2 r ⟨j.val, hj⟩) else yb (ix2 r ⟨j.val - 1024, by omega⟩) := by
    intro j
    pointwise
  have e2 : proj h x yb w (ix2 r k) = HAdd.hAdd (α := EReal) (β := EReal) (γ := EReal) (h (ix2 r k))
      (∑ j : Fin (1024 + 1024), HMul.hMul (α := EReal) (β := EReal) (γ := EReal)
        (if hj : j.val < 1024 then x (ix2 r ⟨j.val, hj⟩) else yb (ix2 r ⟨j.val - 1024, by omega⟩)) (w (ix2 j k))) := by
    rw [show (fun j : Fin (1024 + 1024) => HMul.hMul (α := EReal) (β := EReal) (γ := EReal)
        (if hj : j.val < 1024 then x (ix2 r ⟨j.val, hj⟩) else yb (ix2 r ⟨j.val - 1024, by omega⟩)) (w (ix2 j k)))
      = fun j : Fin 2048 => HMul.hMul (α := EReal) (β := EReal) (γ := EReal) (concatenate (α := EReal) S8192x2048 1 [⟨S8192x1024, x⟩, ⟨S8192x1024, extf (F := Ideal) .f32 yb bitsLt_bf16_f32⟩] concatenates_S8192x1024_S8192x1024_S8192x2048_d1 (ix2 r j)) (w (ix2 j k))
      from funext fun j => congrArg (fun z => HMul.hMul (α := EReal) (β := EReal) (γ := EReal) z (w (ix2 j k))) (e1 j).symm]
    unfold proj
    generalize concatenate S8192x2048 1 [⟨S8192x1024, x⟩, ⟨S8192x1024, extf (F := Ideal) .f32 yb bitsLt_bf16_f32⟩] concatenates_S8192x1024_S8192x1024_S8192x2048_d1 = z
    pointwise
  refine e2.trans (congrArg (HAdd.hAdd (α := EReal) (β := EReal) (γ := EReal) (h (ix2 r k))) ?_)
  rw [Fin.sum_univ_add]
  refine congrArg₂ (HAdd.hAdd (α := EReal) (β := EReal) (γ := EReal)) (Finset.sum_congr rfl fun n _ => ?_) (Finset.sum_congr rfl fun n _ => ?_)
  · refine congrArg₂ (HMul.hMul (α := EReal) (β := EReal) (γ := EReal)) ?_ rfl
    exact dif_pos n.isLt
  · refine congrArg₂ (HMul.hMul (α := EReal) (β := EReal) (γ := EReal)) ?_ rfl
    refine (dif_neg (show ¬ (1024 + n.val < 1024) by omega)).trans (congrArg (fun q => yb (ix2 r q)) (Fin.ext ?_))
    show 1024 + n.val - 1024 = n.val
    omega

/-- The reference's first result, element by element. -/
theorem out_at (r : Fin 8192) (k : Fin 2048) : out h a g ws bs yb w (ix2 r k) = (argsOf h a g ws bs yb w fn).y r k := by
  refine (proj_at h yb w _ r k).trans ?_
  unfold Cert.Spg.Args.y
  refine congrArg (HAdd.hAdd (α := EReal) (β := EReal) (γ := EReal) (h (ix2 r k)))
    (congrArg (fun z => HAdd.hAdd (α := EReal) (β := EReal) (γ := EReal) z _) (Finset.sum_congr rfl fun n _ => ?_))
  exact congrArg (fun z => HMul.hMul (α := EReal) (β := EReal) (γ := EReal) z _) (ya_at h a g ws bs yb w fn r n)

/-- The reference's second result, element by element. -/
theorem outn_at (r : Fin 8192) (k : Fin 2048) : outn h a g ws bs yb w fn (ix2 r k) = (argsOf h a g ws bs yb w fn).res r k := by
  refine (norm_at (out h a g ws bs yb w) _ r k).trans ?_
  exact congrArg₂ (fun f g => rms f g k) (funext fun j => out_at h a g ws bs yb w fn r j) (funext fun i => gain_at fn i)

end

end Cert.SgReferenceIdeal.Ref

end
-- ==== Proof.lean ====
module

public import proofs.«01_k».proof.Defs
public import proofs.«01_k».proof.Proof.Gen.Kernel
public import proofs.«01_k».proof.Proof.Gen.Kernel.Frame
public import proofs.«01_k».proof.Proof.KerArr
public import proofs.«01_k».proof.Proof.RefFin
public import proofs.«01_k».proof.Proof.Gen.Ffn
public import proofs.«01_k».proof.Proof.FfnArr
public import proofs.«01_k».proof.Proof.FfnRef
public import proofs.«01_k».proof.Proof.Gen.Ple
public import proofs.«01_k».proof.Proof.PleArr
public import proofs.«01_k».proof.Proof.PleRef
public import proofs.«01_k».proof.Proof.Gen.PleFirst
public import proofs.«01_k».proof.Proof.PlfArr
public import proofs.«01_k».proof.Proof.PlfRef
public import proofs.«01_k».proof.Proof.Gen.Sg
public import proofs.«01_k».proof.Proof.SgArr
public import proofs.«01_k».proof.Proof.SgRef

@[expose] public section

set_option maxRecDepth 16384

noncomputable section

namespace Cert.Proof

open Idealize.ShloMosaic Idealize.ShloMosaic.TcCoe Idealize.SL.Sem Cert.Gla

/-- Every argument of the reference ends as it was launched. -/
theorem ref_arg (m : (ℓ : Loc Cert.ReferenceIdeal.nD Cert.ReferenceIdeal.τ Cert.ReferenceIdeal.sig) → Buf (Elt Ideal) ℓ)
    (c : Dev Cert.ReferenceIdeal.nD) (r : Ref Cert.ReferenceIdeal.sig .tc)
    (hr : r ∈ ([Cert.ReferenceIdeal.main_arg0, Cert.ReferenceIdeal.main_arg1, Cert.ReferenceIdeal.main_arg2,
      Cert.ReferenceIdeal.main_arg3, Cert.ReferenceIdeal.main_arg4, Cert.ReferenceIdeal.main_arg5, Cert.ReferenceIdeal.main_arg6,
      Cert.ReferenceIdeal.main_arg7, Cert.ReferenceIdeal.main_arg8] : List (Ref Cert.ReferenceIdeal.sig .tc))) :
    Cert.ReferenceIdeal.Ref.fin m c (Proc.devRef .tc r) = m ((c : Thread Cert.ReferenceIdeal.nD Cert.ReferenceIdeal.τ).loc r) := by
  apply Cert.ReferenceIdeal.Ref.fin_arg <;> · revert r; decide +kernel

/-- The reference's run: every argument as it was launched. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)) := by
  refine (θ_run _ _ _).mono (fun r h c => ?_) (Cert.ReferenceIdeal.Value.run_fold m ρ)
  exact ⟨(h c _ rfl).trans (ref_arg m c _ (by decide)), (h c _ rfl).trans (ref_arg m c _ (by decide)), (h c _ rfl).trans (ref_arg m c _ (by decide)), (h c _ rfl).trans (ref_arg m c _ (by decide)), (h c _ rfl).trans (ref_arg m c _ (by decide)), (h c _ rfl).trans (ref_arg m c _ (by decide)), (h c _ rfl).trans (ref_arg m c _ (by decide)), (h c _ rfl).trans (ref_arg m c _ (by decide)), (h c _ rfl).trans (ref_arg m c _ (by decide))⟩

/-- The frame of the reference: its arguments are kept; it declares no semaphore. -/
theorem frame_r : Cert.quiescent_ReferenceIdeal := fun m ρ _ =>
  (θ_run _ _ _).mono (fun r h => ⟨h, sem_eq_zero_of_no_sems (by decide) r.2⟩) (ref_run m ρ)

/-- Where the two programs are launched on the same arrays, the call's arguments are the same functions. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Ref.argsR m' c = Cert.KernelIdeal.Ker.argsK m c := by
  unfold Cert.ReferenceIdeal.Ref.argsR Cert.ReferenceIdeal.Ref.argsOf Cert.KernelIdeal.Ker.argsK
  congr 1
  · funext r k; exact congrFun h0 _
  · funext r k; exact congrFun h1 _
  · funext k; exact congrFun h2 _
  · funext j k; exact congrFun h3 _
  · funext z k; exact congrFun h4 _
  · funext k; exact congrFun h5 _
  · funext k; exact congrFun h6 _

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The residual sum is the reference's. -/
theorem res9 (hA : Cert.ReferenceIdeal.Ref.argsR m' c = Cert.KernelIdeal.Ker.argsK m c) :
    Cert.ReferenceIdeal.Ref.fin m' c (Proc.devRef .tc Cert.ReferenceIdeal.main_v83) = (Cert.KernelIdeal.Gen.dats m 0 c).arrAt 9 Cert.KernelIdeal.cfg0.N := by
  refine Eq.trans (funext fun (j : Cert.KernelIdeal.S8192x2048.Idx) => ?_) (Cert.KernelIdeal.Ker.arr9 m c).symm
  refine (congrArg (Cert.ReferenceIdeal.Ref.fin m' c (Proc.devRef .tc Cert.ReferenceIdeal.main_v83)) (Cert.KernelIdeal.Ker.ix2_eta j)).trans ?_
  exact (Cert.ReferenceIdeal.Ref.fin_v83 m' c (j 0) (j 1)).trans (congrArg (fun A : Args => A.h1 (j 0) (j 1)) hA)

/-- The passed-on columns are the reference's. -/
theorem res10 (hA : Cert.ReferenceIdeal.Ref.argsR m' c = Cert.KernelIdeal.Ker.argsK m c) :
    Cert.ReferenceIdeal.Ref.fin m' c (Proc.devRef .tc Cert.ReferenceIdeal.main_v84) = (Cert.KernelIdeal.Gen.dats m 0 c).arrAt 10 Cert.KernelIdeal.cfg0.N := by
  refine Eq.trans (funext fun (j : Cert.KernelIdeal.S8192x2048.Idx) => ?_) (Cert.KernelIdeal.Ker.arr10 m c).symm
  refine (congrArg (Cert.ReferenceIdeal.Ref.fin m' c (Proc.devRef .tc Cert.ReferenceIdeal.main_v84)) (Cert.KernelIdeal.Ker.ix2_eta j)).trans ?_
  exact (Cert.ReferenceIdeal.Ref.fin_v84 m' c (j 0) (j 1)).trans (congrArg (fun A : Args => A.proj (j 0) ⟨(j 1).val, lt_trans (j 1).isLt (by decide)⟩) hA)

/-- The branch's result is the reference's. -/
theorem res11 (hA : Cert.ReferenceIdeal.Ref.argsR m' c = Cert.KernelIdeal.Ker.argsK m c) :
    Cert.ReferenceIdeal.Ref.fin m' c (Proc.devRef .tc Cert.ReferenceIdeal.main_v86) = (Cert.KernelIdeal.Gen.dats m 0 c).arrAt 11 Cert.KernelIdeal.cfg0.N := by
  refine Eq.trans (funext fun (j : Cert.KernelIdeal.S8192x1024.Idx) => ?_) (Cert.KernelIdeal.Ker.arr11 m c).symm
  refine (congrArg (Cert.ReferenceIdeal.Ref.fin m' c (Proc.devRef .tc Cert.ReferenceIdeal.main_v86)) (Cert.KernelIdeal.Ker.ix2_eta j)).trans ?_
  exact (Cert.ReferenceIdeal.Ref.fin_v86 m' c (j 0) (j 1)).trans (congrArg (fun A : Args => Cert.KernelIdeal.Ker.yArr A (j 0) (j 1)) hA)

/-- The first weight's slice is the reference's. -/
theorem res12 (h : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Ref.fin m' c (Proc.devRef .tc Cert.ReferenceIdeal.main_v89) = (Cert.KernelIdeal.Gen.dats m 0 c).arrAt 12 Cert.KernelIdeal.cfg0.N := by
  refine Eq.trans (funext fun (j : Cert.KernelIdeal.S2048x2048.Idx) => ?_) (Cert.KernelIdeal.Ker.arr12 m c).symm
  refine (congrArg (Cert.ReferenceIdeal.Ref.fin m' c (Proc.devRef .tc Cert.ReferenceIdeal.main_v89)) (Cert.KernelIdeal.Ker.ix2_eta j)).trans ?_
  exact (Cert.ReferenceIdeal.Ref.fin_v89 m' c (j 0) (j 1)).trans (congrFun h _)

/-- The second weight's slice is the reference's. -/
theorem res13 (h : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Ref.fin m' c (Proc.devRef .tc Cert.ReferenceIdeal.main_v92) = (Cert.KernelIdeal.Gen.dats m 0 c).arrAt 13 Cert.KernelIdeal.cfg0.N := by
  refine Eq.trans (funext fun (j : Cert.KernelIdeal.S2048x2048.Idx) => ?_) (Cert.KernelIdeal.Ker.arr13 m c).symm
  refine (congrArg (Cert.ReferenceIdeal.Ref.fin m' c (Proc.devRef .tc Cert.ReferenceIdeal.main_v92)) (Cert.KernelIdeal.Ker.ix2_eta j)).trans ?_
  exact (Cert.ReferenceIdeal.Ref.fin_v92 m' c (j 0) (j 1)).trans (congrFun h _)

/-- The kernel's five results are the reference's. -/
theorem algebraic : Cert.algebraic_KernelIdeal_ReferenceIdeal := by
  intro m g m' g' _ hagree
  refine ⟨fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    fun c => (Cert.KernelIdeal.Gen.dats m 0 c).arrAt 12 Cert.KernelIdeal.cfg0.N,
    fun c => (Cert.KernelIdeal.Gen.dats m 0 c).arrAt 13 Cert.KernelIdeal.cfg0.N,
    Cert.KernelIdeal.Value.run_blocks m g, ?_⟩
  refine (θ_run _ _ _).mono (fun r h c => ?_) (Cert.ReferenceIdeal.Value.run_fold m' g')
  obtain ⟨h0, h1, h2, h3, h4, h5, h6, h7, h8⟩ := hagree c
  have hA := args_eq m m' c h0 h1 h2 h3 h4 h5 h6
  refine ⟨(h c _ rfl).trans ?_, (h c _ rfl).trans ?_, (h c _ rfl).trans ?_, (h c _ rfl).trans ?_, (h c _ rfl).trans ?_, (h c _ rfl).trans (ref_arg m' c _ (by decide)), (h c _ rfl).trans (ref_arg m' c _ (by decide)), (h c _ rfl).trans (ref_arg m' c _ (by decide)), (h c _ rfl).trans (ref_arg m' c _ (by decide)), (h c _ rfl).trans (ref_arg m' c _ (by decide)), (h c _ rfl).trans (ref_arg m' c _ (by decide)), (h c _ rfl).trans (ref_arg m' c _ (by decide)), (h c _ rfl).trans (ref_arg m' c _ (by decide)), (h c _ rfl).trans (ref_arg m' c _ (by decide))⟩
  · exact res9 m m' c hA
  · exact res10 m m' c hA
  · exact res11 m m' c hA
  · exact res12 m m' c h7
  · exact res13 m m' c h8

/-! ### The feed-forward call -/

/-- The printed feed-forward program and the idealized one have the same body. -/
theorem defs₀_f : Cert.Ffn.defs₀ (F := Bits) = Cert.FfnIdeal.defs₀ (F := Bits) := by
  unfold Cert.Ffn.defs₀ Cert.FfnIdeal.defs₀
  refine congrArg (Defs.onTc (τ := Cert.FfnIdeal.τ) (Val := Elt Bits) (Λ := Cert.FfnIdeal.Λ₀)) (funext fun l => funext fun a => ?_)
  match l, a with
  | ⟨0, _⟩, (t, s) => rfl
  | ⟨n + 1, h⟩, _ => exact absurd h (Nat.not_lt.2 (Nat.le_add_left _ _))

/-- So they have the same pipeline. -/
theorem defs_f : Cert.Ffn.defs (F := Bits) = Cert.FfnIdeal.defs (F := Bits) :=
  congrArg (Pipeline.defs (Cert.FfnIdeal.pcfgs (F := Bits))) defs₀_f

/-- The feed-forward kernel's frame: the one run, which holds over any float values, at the machine's words. -/
theorem frame_f : Cert.quiescent_Ffn := fun m ρ _ => by
  rw [defs_f]
  exact Cert.FfnIdeal.Run.frame (F := Bits) m ρ

/-- The frame of the feed-forward reference: its arguments are kept; it declares no semaphore. -/
theorem frame_fr : Cert.quiescent_FfnReferenceIdeal := fun m ρ _ =>
  (θ_run _ _ _).mono (fun r h => ⟨fun c => (h c).2, sem_eq_zero_of_no_sems (by decide) r.2⟩) (Cert.FfnReferenceIdeal.Ref.run m ρ)

/-- The feed-forward kernel's result is the reference's. -/
theorem algebraic_f : Cert.algebraic_FfnIdeal_FfnReferenceIdeal := by
  intro m g m' g' _ hagree
  refine ⟨fun c => (Cert.FfnIdeal.Run.dats m 0 c).arrAt 2 Cert.FfnIdeal.cfg0.N, Cert.FfnIdeal.Run.run_blocks m g, ?_⟩
  refine (θ_run _ _ _).mono (fun r h c => ⟨(h c).1.trans ?_, (h c).2⟩) (Cert.FfnReferenceIdeal.Ref.run m' g')
  obtain ⟨h0, h1, h2⟩ := hagree c
  rw [h0, h1, h2]
  refine Eq.trans (funext fun (j : Cert.FfnIdeal.S8192x2048.Idx) => ?_) (Cert.FfnIdeal.Run.arrF m c).symm
  refine (congrArg (Cert.FfnReferenceIdeal.Ref.out _ _ _) (Cert.FfnIdeal.Run.ix2_eta j)).trans ?_
  exact Cert.FfnReferenceIdeal.Ref.out_at _ _ _ (j 0) (j 1)

/-! ### The per-layer embedding's call -/

/-- The printed program and the idealized one have the same body. -/
theorem defs₀_e : Cert.Ple.defs₀ (F := Bits) = Cert.PleIdeal.defs₀ (F := Bits) := by
  unfold Cert.Ple.defs₀ Cert.PleIdeal.defs₀
  refine congrArg (Defs.onTc (τ := Cert.PleIdeal.τ) (Val := Elt Bits) (Λ := Cert.PleIdeal.Λ₀)) (funext fun l => funext fun a => ?_)
  match l, a with
  | ⟨0, _⟩, (t, s) => rfl
  | ⟨n + 1, h⟩, _ => exact absurd h (Nat.not_lt.2 (Nat.le_add_left _ _))

/-- So they have the same pipeline. -/
theorem defs_e : Cert.Ple.defs (F := Bits) = Cert.PleIdeal.defs (F := Bits) :=
  congrArg (Pipeline.defs (Cert.PleIdeal.pcfgs (F := Bits))) defs₀_e

/-- The embedding kernel's frame: the one run, which holds over any float values, at the machine's words. -/
theorem frame_e : Cert.quiescent_Ple := fun m ρ _ => by
  rw [defs_e]
  exact Cert.PleIdeal.Gen.frame (F := Bits) m ρ

/-- The frame of the embedding's reference: its arguments are kept; it declares no semaphore. -/
theorem frame_er : Cert.quiescent_PleReferenceIdeal := fun m ρ _ =>
  (θ_run _ _ _).mono (fun r h => ⟨fun c => (h c).2, sem_eq_zero_of_no_sems (by decide) r.2⟩) (Cert.PleReferenceIdeal.Ref.run m ρ)

/-- The embedding kernel's result is the reference's. -/
theorem algebraic_e : Cert.algebraic_PleIdeal_PleReferenceIdeal := by
  intro m g m' g' _ hagree
  refine ⟨fun c => (Cert.PleIdeal.Gen.dats m 0 c).arrAt 6 Cert.PleIdeal.cfg0.N, Cert.PleIdeal.Value.run_blocks m g, ?_⟩
  refine (θ_run _ _ _).mono (fun r h c => ⟨(h c).1.trans ?_, (h c).2⟩) (Cert.PleReferenceIdeal.Ref.run m' g')
  obtain ⟨h0, h1, h2, h3, h4, h5, h6⟩ := hagree c
  rw [h0, h1, h2, h3, h4, h5, h6]
  refine Eq.trans (funext fun (j : Cert.PleIdeal.S8192x2048.Idx) => ?_) (Cert.PleIdeal.Val.arrE m c).symm
  refine (congrArg (Cert.PleReferenceIdeal.Ref.out _ _ _ _ _ _ _) (Cert.PleIdeal.Val.ix2_eta j)).trans ?_
  exact Cert.PleReferenceIdeal.Ref.out_at _ _ _ _ _ _ _ (j 0) (j 1)

/-! ### The same call at layer 0, with the sum and its next norm as results -/

/-- The printed program and the idealized one have the same body. -/
theorem defs₀_p : Cert.PleFirst.defs₀ (F := Bits) = Cert.PleFirstIdeal.defs₀ (F := Bits) := by
  unfold Cert.PleFirst.defs₀ Cert.PleFirstIdeal.defs₀
  refine congrArg (Defs.onTc (τ := Cert.PleFirstIdeal.τ) (Val := Elt Bits) (Λ := Cert.PleFirstIdeal.Λ₀)) (funext fun l => funext fun a => ?_)
  match l, a with
  | ⟨0, _⟩, (t, s) => rfl
  | ⟨n + 1, h⟩, _ => exact absurd h (Nat.not_lt.2 (Nat.le_add_left _ _))

/-- So they have the same pipeline. -/
theorem defs_p : Cert.PleFirst.defs (F := Bits) = Cert.PleFirstIdeal.defs (F := Bits) :=
  congrArg (Pipeline.defs (Cert.PleFirstIdeal.pcfgs (F := Bits))) defs₀_p

/-- This kernel's frame: the one run, which holds over any float values, at the machine's words. -/
theorem frame_p : Cert.quiescent_PleFirst := fun m ρ _ => by
  rw [defs_p]
  exact Cert.PleFirstIdeal.Gen.frame (F := Bits) m ρ

/-- The frame of its reference: its arguments are kept; it declares no semaphore. -/
theorem frame_pr : Cert.quiescent_PleFirstReferenceIdeal := fun m ρ _ =>
  (θ_run _ _ _).mono (fun r h => ⟨fun c => (h c).2.2, sem_eq_zero_of_no_sems (by decide) r.2⟩) (Cert.PleFirstReferenceIdeal.Ref.run m ρ)

/-- This kernel's two results are the reference's. -/
theorem algebraic_p : Cert.algebraic_PleFirstIdeal_PleFirstReferenceIdeal := by
  intro m g m' g' _ hagree
  refine ⟨fun c => (Cert.PleFirstIdeal.Gen.dats m 0 c).arrAt 6 Cert.PleFirstIdeal.cfg0.N,
    fun c => (Cert.PleFirstIdeal.Gen.dats m 0 c).arrAt 7 Cert.PleFirstIdeal.cfg0.N, Cert.PleFirstIdeal.Value.run_blocks m g, ?_⟩
  refine (θ_run _ _ _).mono (fun r h c => ⟨(h c).1.trans ?_, (h c).2.1.trans ?_, (h c).2.2⟩) (Cert.PleFirstReferenceIdeal.Ref.run m' g')
  · obtain ⟨h0, h1, h2, h3, h4, h5, h6⟩ := hagree c
    rw [h0, h1, h2, h3, h4, h5]
    refine Eq.trans (funext fun (j : Cert.PleFirstIdeal.S8192x2048.Idx) => ?_) (Cert.PleFirstIdeal.Val.arrE m c).symm
    refine (congrArg (Cert.PleFirstReferenceIdeal.Ref.out _ _ _ _ _ _) (Cert.PleFirstIdeal.Val.ix2_eta j)).trans ?_
    exact Cert.PleFirstReferenceIdeal.Ref.out_at _ _ _ _ _ _ (m ((c.tc : Thread Cert.PleFirstIdeal.nD Cert.PleFirstIdeal.τ).loc Cert.PleFirstIdeal.main_arg6)) (j 0) (j 1)
  · obtain ⟨h0, h1, h2, h3, h4, h5, h6⟩ := hagree c
    rw [h0, h1, h2, h3, h4, h5, h6]
    refine Eq.trans (funext fun (j : Cert.PleFirstIdeal.S8192x2048.Idx) => ?_) (Cert.PleFirstIdeal.Val.arrN m c).symm
    refine (congrArg (Cert.PleFirstReferenceIdeal.Ref.outn _ _ _ _ _ _ _) (Cert.PleFirstIdeal.Val.ix2_eta j)).trans ?_
    exact Cert.PleFirstReferenceIdeal.Ref.outn_at _ _ _ _ _ _ _ (j 0) (j 1)

/-- The printed program and the idealized one have the same body. -/
theorem defs₀_s : Cert.Sg.defs₀ (F := Bits) = Cert.SgIdeal.defs₀ (F := Bits) := by
  unfold Cert.Sg.defs₀ Cert.SgIdeal.defs₀
  refine congrArg (Defs.onTc (τ := Cert.SgIdeal.τ) (Val := Elt Bits) (Λ := Cert.SgIdeal.Λ₀)) (funext fun l => funext fun a => ?_)
  match l, a with
  | ⟨0, _⟩, (t, s) => rfl
  | ⟨n + 1, h⟩, _ => exact absurd h (Nat.not_lt.2 (Nat.le_add_left _ _))

/-- So they have the same pipeline. -/
theorem defs_s : Cert.Sg.defs (F := Bits) = Cert.SgIdeal.defs (F := Bits) :=
  congrArg (Pipeline.defs (Cert.SgIdeal.pcfgs (F := Bits))) defs₀_s

/-- This kernel's frame: the one run, which holds over any float values, at the machine's words. -/
theorem frame_s : Cert.quiescent_Sg := fun m ρ _ => by
  rw [defs_s]
  exact Cert.SgIdeal.Gen.frame (F := Bits) m ρ

/-- The frame of its reference: its arguments are kept; it declares no semaphore. -/
theorem frame_sr : Cert.quiescent_SgReferenceIdeal := fun m ρ _ =>
  (θ_run _ _ _).mono (fun r h => ⟨fun c => (h c).2.2, sem_eq_zero_of_no_sems (by decide) r.2⟩) (Cert.SgReferenceIdeal.Ref.run m ρ)

/-- This kernel's two results are the reference's. -/
theorem algebraic_s : Cert.algebraic_SgIdeal_SgReferenceIdeal := by
  intro m g m' g' _ hagree
  refine ⟨fun c => (Cert.SgIdeal.Gen.dats m 0 c).arrAt 8 Cert.SgIdeal.cfg0.N,
    fun c => (Cert.SgIdeal.Gen.dats m 0 c).arrAt 9 Cert.SgIdeal.cfg0.N, Cert.SgIdeal.Value.run_blocks m g, ?_⟩
  refine (θ_run _ _ _).mono (fun r h c => ⟨(h c).1.trans ?_, (h c).2.1.trans ?_, (h c).2.2⟩) (Cert.SgReferenceIdeal.Ref.run m' g')
  · obtain ⟨h0, h1, h2, h3, h4, h5, h6, h7⟩ := hagree c
    rw [h0, h1, h2, h3, h4, h5, h6]
    refine Eq.trans (funext fun (j : Cert.SgIdeal.S8192x2048.Idx) => ?_) (Cert.SgIdeal.Val.arrE m c).symm
    refine (congrArg (Cert.SgReferenceIdeal.Ref.out _ _ _ _ _ _ _) (Cert.SgIdeal.Val.ix2_eta j)).trans ?_
    exact Cert.SgReferenceIdeal.Ref.out_at _ _ _ _ _ _ _ (m ((c.tc : Thread Cert.SgIdeal.nD Cert.SgIdeal.τ).loc Cert.SgIdeal.main_arg7)) (j 0) (j 1)
  · obtain ⟨h0, h1, h2, h3, h4, h5, h6, h7⟩ := hagree c
    rw [h0, h1, h2, h3, h4, h5, h6, h7]
    refine Eq.trans (funext fun (j : Cert.SgIdeal.S8192x2048.Idx) => ?_) (Cert.SgIdeal.Val.arrN m c).symm
    refine (congrArg (Cert.SgReferenceIdeal.Ref.outn _ _ _ _ _ _ _ _) (Cert.SgIdeal.Val.ix2_eta j)).trans ?_
    exact Cert.SgReferenceIdeal.Ref.outn_at _ _ _ _ _ _ _ _ (j 0) (j 1)

theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.Ple.Gen.facts, Cert.PleIdeal.Gen.facts, Cert.PleReferenceIdeal.Gen.facts,
    Cert.PleFirst.Gen.facts, Cert.PleFirstIdeal.Gen.facts, Cert.PleFirstReferenceIdeal.Gen.facts,
    Cert.Sg.Gen.facts, Cert.SgIdeal.Gen.facts, Cert.SgReferenceIdeal.Gen.facts,
    fun m ρ _ => Cert.Kernel.Gen.frame m ρ, fun m ρ _ => Cert.KernelIdeal.Gen.frame m ρ, frame_r,
    frame_f, fun m ρ _ => Cert.FfnIdeal.Run.frame m ρ, frame_fr,
    frame_e, fun m ρ _ => Cert.PleIdeal.Gen.frame m ρ, frame_er,
    frame_p, fun m ρ _ => Cert.PleFirstIdeal.Gen.frame m ρ, frame_pr,
    frame_s, fun m ρ _ => Cert.SgIdeal.Gen.frame m ρ, frame_sr,
    IdealRules.named_const.statement Cert.KernelIdeal.κ "log2e_over_tau" .f32 0x3DB8AA3B#32 (((Real.log 2)⁻¹ * 16⁻¹ : ℝ) : EReal) rfl,
    algebraic, trivial, algebraic_f, trivial, algebraic_e, trivial, algebraic_p, trivial, algebraic_s⟩

end Cert.Proof

end
